-- ==== Defs.lean ====
def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_RwIdeal (m : (ℓ : Loc Cert.RwIdeal.nD Cert.RwIdeal.τ Cert.RwIdeal.sig) → Buf (Elt Ideal) ℓ) : Prop :=
  True

def Pre_Da (m : (ℓ : Loc Cert.Da.nD Cert.Da.τ Cert.Da.sig) → Buf (Elt Bits) ℓ) : Prop :=
  True

def Pre_DaIdeal (m : (ℓ : Loc Cert.DaIdeal.nD Cert.DaIdeal.τ Cert.DaIdeal.sig) → Buf (Elt Ideal) ℓ) : Prop :=
  True

def Pre_DaIdeal_finite_a [hPre_finite_a : Cert.Pre_finite_a.Facts] (m : (ℓ : Loc Cert.DaIdeal.nD Cert.DaIdeal.τ Cert.DaIdeal.sig) → Buf (Elt Ideal) ℓ) : Prop :=
  ∀ c : Dev Cert.DaIdeal.nD,
    (Cert.Pre_finite_a.fn (F := Ideal) (m ((c.tc : Thread Cert.DaIdeal.nD Cert.DaIdeal.τ).loc Cert.DaIdeal.main_arg0)) (m ((c.tc : Thread Cert.DaIdeal.nD Cert.DaIdeal.τ).loc Cert.DaIdeal.main_arg1)) (m ((c.tc : Thread Cert.DaIdeal.nD Cert.DaIdeal.τ).loc Cert.DaIdeal.main_arg2)) (m ((c.tc : Thread Cert.DaIdeal.nD Cert.DaIdeal.τ).loc Cert.DaIdeal.main_arg3)) (m ((c.tc : Thread Cert.DaIdeal.nD Cert.DaIdeal.τ).loc Cert.DaIdeal.main_arg4)) (m ((c.tc : Thread Cert.DaIdeal.nD Cert.DaIdeal.τ).loc Cert.DaIdeal.main_arg5))).1 = (fun _ => 1#1)
    ∧ (Cert.Pre_finite_a.fn (F := Ideal) (m ((c.tc : Thread Cert.DaIdeal.nD Cert.DaIdeal.τ).loc Cert.DaIdeal.main_arg0)) (m ((c.tc : Thread Cert.DaIdeal.nD Cert.DaIdeal.τ).loc Cert.DaIdeal.main_arg1)) (m ((c.tc : Thread Cert.DaIdeal.nD Cert.DaIdeal.τ).loc Cert.DaIdeal.main_arg2)) (m ((c.tc : Thread Cert.DaIdeal.nD Cert.DaIdeal.τ).loc Cert.DaIdeal.main_arg3)) (m ((c.tc : Thread Cert.DaIdeal.nD Cert.DaIdeal.τ).loc Cert.DaIdeal.main_arg4)) (m ((c.tc : Thread Cert.DaIdeal.nD Cert.DaIdeal.τ).loc Cert.DaIdeal.main_arg5))).2.1 = (fun _ => 1#1)
    ∧ (Cert.Pre_finite_a.fn (F := Ideal) (m ((c.tc : Thread Cert.DaIdeal.nD Cert.DaIdeal.τ).loc Cert.DaIdeal.main_arg0)) (m ((c.tc : Thread Cert.DaIdeal.nD Cert.DaIdeal.τ).loc Cert.DaIdeal.main_arg1)) (m ((c.tc : Thread Cert.DaIdeal.nD Cert.DaIdeal.τ).loc Cert.DaIdeal.main_arg2)) (m ((c.tc : Thread Cert.DaIdeal.nD Cert.DaIdeal.τ).loc Cert.DaIdeal.main_arg3)) (m ((c.tc : Thread Cert.DaIdeal.nD Cert.DaIdeal.τ).loc Cert.DaIdeal.main_arg4)) (m ((c.tc : Thread Cert.DaIdeal.nD Cert.DaIdeal.τ).loc Cert.DaIdeal.main_arg5))).2.2.1 = (fun _ => 1#1)
    ∧ (Cert.Pre_finite_a.fn (F := Ideal) (m ((c.tc : Thread Cert.DaIdeal.nD Cert.DaIdeal.τ).loc Cert.DaIdeal.main_arg0)) (m ((c.tc : Thread Cert.DaIdeal.nD Cert.DaIdeal.τ).loc Cert.DaIdeal.main_arg1)) (m ((c.tc : Thread Cert.DaIdeal.nD Cert.DaIdeal.τ).loc Cert.DaIdeal.main_arg2)) (m ((c.tc : Thread Cert.DaIdeal.nD Cert.DaIdeal.τ).loc Cert.DaIdeal.main_arg3)) (m ((c.tc : Thread Cert.DaIdeal.nD Cert.DaIdeal.τ).loc Cert.DaIdeal.main_arg4)) (m ((c.tc : Thread Cert.DaIdeal.nD Cert.DaIdeal.τ).loc Cert.DaIdeal.main_arg5))).2.2.2.1 = (fun _ => 1#1)
    ∧ (Cert.Pre_finite_a.fn (F := Ideal) (m ((c.tc : Thread Cert.DaIdeal.nD Cert.DaIdeal.τ).loc Cert.DaIdeal.main_arg0)) (m ((c.tc : Thread Cert.DaIdeal.nD Cert.DaIdeal.τ).loc Cert.DaIdeal.main_arg1)) (m ((c.tc : Thread Cert.DaIdeal.nD Cert.DaIdeal.τ).loc Cert.DaIdeal.main_arg2)) (m ((c.tc : Thread Cert.DaIdeal.nD Cert.DaIdeal.τ).loc Cert.DaIdeal.main_arg3)) (m ((c.tc : Thread Cert.DaIdeal.nD Cert.DaIdeal.τ).loc Cert.DaIdeal.main_arg4)) (m ((c.tc : Thread Cert.DaIdeal.nD Cert.DaIdeal.τ).loc Cert.DaIdeal.main_arg5))).2.2.2.2 = (fun _ => 1#1)

def Pre_RaIdeal (m : (ℓ : Loc Cert.RaIdeal.nD Cert.RaIdeal.τ Cert.RaIdeal.sig) → Buf (Elt Ideal) ℓ) : Prop :=
  True

def Pre_RaIdeal_finite_a [hPre_finite_a : Cert.Pre_finite_a.Facts] (m : (ℓ : Loc Cert.RaIdeal.nD Cert.RaIdeal.τ Cert.RaIdeal.sig) → Buf (Elt Ideal) ℓ) : Prop :=
  ∀ c : Dev Cert.RaIdeal.nD,
    (Cert.Pre_finite_a.fn (F := Ideal) (m ((c.tc : Thread Cert.RaIdeal.nD Cert.RaIdeal.τ).loc Cert.RaIdeal.main_arg0)) (m ((c.tc : Thread Cert.RaIdeal.nD Cert.RaIdeal.τ).loc Cert.RaIdeal.main_arg1)) (m ((c.tc : Thread Cert.RaIdeal.nD Cert.RaIdeal.τ).loc Cert.RaIdeal.main_arg2)) (m ((c.tc : Thread Cert.RaIdeal.nD Cert.RaIdeal.τ).loc Cert.RaIdeal.main_arg3)) (m ((c.tc : Thread Cert.RaIdeal.nD Cert.RaIdeal.τ).loc Cert.RaIdeal.main_arg4)) (m ((c.tc : Thread Cert.RaIdeal.nD Cert.RaIdeal.τ).loc Cert.RaIdeal.main_arg5))).1 = (fun _ => 1#1)
    ∧ (Cert.Pre_finite_a.fn (F := Ideal) (m ((c.tc : Thread Cert.RaIdeal.nD Cert.RaIdeal.τ).loc Cert.RaIdeal.main_arg0)) (m ((c.tc : Thread Cert.RaIdeal.nD Cert.RaIdeal.τ).loc Cert.RaIdeal.main_arg1)) (m ((c.tc : Thread Cert.RaIdeal.nD Cert.RaIdeal.τ).loc Cert.RaIdeal.main_arg2)) (m ((c.tc : Thread Cert.RaIdeal.nD Cert.RaIdeal.τ).loc Cert.RaIdeal.main_arg3)) (m ((c.tc : Thread Cert.RaIdeal.nD Cert.RaIdeal.τ).loc Cert.RaIdeal.main_arg4)) (m ((c.tc : Thread Cert.RaIdeal.nD Cert.RaIdeal.τ).loc Cert.RaIdeal.main_arg5))).2.1 = (fun _ => 1#1)
    ∧ (Cert.Pre_finite_a.fn (F := Ideal) (m ((c.tc : Thread Cert.RaIdeal.nD Cert.RaIdeal.τ).loc Cert.RaIdeal.main_arg0)) (m ((c.tc : Thread Cert.RaIdeal.nD Cert.RaIdeal.τ).loc Cert.RaIdeal.main_arg1)) (m ((c.tc : Thread Cert.RaIdeal.nD Cert.RaIdeal.τ).loc Cert.RaIdeal.main_arg2)) (m ((c.tc : Thread Cert.RaIdeal.nD Cert.RaIdeal.τ).loc Cert.RaIdeal.main_arg3)) (m ((c.tc : Thread Cert.RaIdeal.nD Cert.RaIdeal.τ).loc Cert.RaIdeal.main_arg4)) (m ((c.tc : Thread Cert.RaIdeal.nD Cert.RaIdeal.τ).loc Cert.RaIdeal.main_arg5))).2.2.1 = (fun _ => 1#1)
    ∧ (Cert.Pre_finite_a.fn (F := Ideal) (m ((c.tc : Thread Cert.RaIdeal.nD Cert.RaIdeal.τ).loc Cert.RaIdeal.main_arg0)) (m ((c.tc : Thread Cert.RaIdeal.nD Cert.RaIdeal.τ).loc Cert.RaIdeal.main_arg1)) (m ((c.tc : Thread Cert.RaIdeal.nD Cert.RaIdeal.τ).loc Cert.RaIdeal.main_arg2)) (m ((c.tc : Thread Cert.RaIdeal.nD Cert.RaIdeal.τ).loc Cert.RaIdeal.main_arg3)) (m ((c.tc : Thread Cert.RaIdeal.nD Cert.RaIdeal.τ).loc Cert.RaIdeal.main_arg4)) (m ((c.tc : Thread Cert.RaIdeal.nD Cert.RaIdeal.τ).loc Cert.RaIdeal.main_arg5))).2.2.2.1 = (fun _ => 1#1)
    ∧ (Cert.Pre_finite_a.fn (F := Ideal) (m ((c.tc : Thread Cert.RaIdeal.nD Cert.RaIdeal.τ).loc Cert.RaIdeal.main_arg0)) (m ((c.tc : Thread Cert.RaIdeal.nD Cert.RaIdeal.τ).loc Cert.RaIdeal.main_arg1)) (m ((c.tc : Thread Cert.RaIdeal.nD Cert.RaIdeal.τ).loc Cert.RaIdeal.main_arg2)) (m ((c.tc : Thread Cert.RaIdeal.nD Cert.RaIdeal.τ).loc Cert.RaIdeal.main_arg3)) (m ((c.tc : Thread Cert.RaIdeal.nD Cert.RaIdeal.τ).loc Cert.RaIdeal.main_arg4)) (m ((c.tc : Thread Cert.RaIdeal.nD Cert.RaIdeal.τ).loc Cert.RaIdeal.main_arg5))).2.2.2.2 = (fun _ => 1#1)

def Pre_Db (m : (ℓ : Loc Cert.Db.nD Cert.Db.τ Cert.Db.sig) → Buf (Elt Bits) ℓ) : Prop :=
  True

def Pre_DbIdeal (m : (ℓ : Loc Cert.DbIdeal.nD Cert.DbIdeal.τ Cert.DbIdeal.sig) → Buf (Elt Ideal) ℓ) : Prop :=
  True

def Pre_DbIdeal_finite_b [hPre_finite_b : Cert.Pre_finite_b.Facts] (m : (ℓ : Loc Cert.DbIdeal.nD Cert.DbIdeal.τ Cert.DbIdeal.sig) → Buf (Elt Ideal) ℓ) : Prop :=
  ∀ c : Dev Cert.DbIdeal.nD,
    (Cert.Pre_finite_b.fn (F := Ideal) (m ((c.tc : Thread Cert.DbIdeal.nD Cert.DbIdeal.τ).loc Cert.DbIdeal.main_arg0)) (m ((c.tc : Thread Cert.DbIdeal.nD Cert.DbIdeal.τ).loc Cert.DbIdeal.main_arg1)) (m ((c.tc : Thread Cert.DbIdeal.nD Cert.DbIdeal.τ).loc Cert.DbIdeal.main_arg2)) (m ((c.tc : Thread Cert.DbIdeal.nD Cert.DbIdeal.τ).loc Cert.DbIdeal.main_arg3)) (m ((c.tc : Thread Cert.DbIdeal.nD Cert.DbIdeal.τ).loc Cert.DbIdeal.main_arg4)) (m ((c.tc : Thread Cert.DbIdeal.nD Cert.DbIdeal.τ).loc Cert.DbIdeal.main_arg5)) (m ((c.tc : Thread Cert.DbIdeal.nD Cert.DbIdeal.τ).loc Cert.DbIdeal.main_arg6)) (m ((c.tc : Thread Cert.DbIdeal.nD Cert.DbIdeal.τ).loc Cert.DbIdeal.main_arg7)) (m ((c.tc : Thread Cert.DbIdeal.nD Cert.DbIdeal.τ).loc Cert.DbIdeal.main_arg8)) (m ((c.tc : Thread Cert.DbIdeal.nD Cert.DbIdeal.τ).loc Cert.DbIdeal.main_arg9))).1 = (fun _ => 1#1)
    ∧ (Cert.Pre_finite_b.fn (F := Ideal) (m ((c.tc : Thread Cert.DbIdeal.nD Cert.DbIdeal.τ).loc Cert.DbIdeal.main_arg0)) (m ((c.tc : Thread Cert.DbIdeal.nD Cert.DbIdeal.τ).loc Cert.DbIdeal.main_arg1)) (m ((c.tc : Thread Cert.DbIdeal.nD Cert.DbIdeal.τ).loc Cert.DbIdeal.main_arg2)) (m ((c.tc : Thread Cert.DbIdeal.nD Cert.DbIdeal.τ).loc Cert.DbIdeal.main_arg3)) (m ((c.tc : Thread Cert.DbIdeal.nD Cert.DbIdeal.τ).loc Cert.DbIdeal.main_arg4)) (m ((c.tc : Thread Cert.DbIdeal.nD Cert.DbIdeal.τ).loc Cert.DbIdeal.main_arg5)) (m ((c.tc : Thread Cert.DbIdeal.nD Cert.DbIdeal.τ).loc Cert.DbIdeal.main_arg6)) (m ((c.tc : Thread Cert.DbIdeal.nD Cert.DbIdeal.τ).loc Cert.DbIdeal.main_arg7)) (m ((c.tc : Thread Cert.DbIdeal.nD Cert.DbIdeal.τ).loc Cert.DbIdeal.main_arg8)) (m ((c.tc : Thread Cert.DbIdeal.nD Cert.DbIdeal.τ).loc Cert.DbIdeal.main_arg9))).2.1 = (fun _ => 1#1)
    ∧ (Cert.Pre_finite_b.fn (F := Ideal) (m ((c.tc : Thread Cert.DbIdeal.nD Cert.DbIdeal.τ).loc Cert.DbIdeal.main_arg0)) (m ((c.tc : Thread Cert.DbIdeal.nD Cert.DbIdeal.τ).loc Cert.DbIdeal.main_arg1)) (m ((c.tc : Thread Cert.DbIdeal.nD Cert.DbIdeal.τ).loc Cert.DbIdeal.main_arg2)) (m ((c.tc : Thread Cert.DbIdeal.nD Cert.DbIdeal.τ).loc Cert.DbIdeal.main_arg3)) (m ((c.tc : Thread Cert.DbIdeal.nD Cert.DbIdeal.τ).loc Cert.DbIdeal.main_arg4)) (m ((c.tc : Thread Cert.DbIdeal.nD Cert.DbIdeal.τ).loc Cert.DbIdeal.main_arg5)) (m ((c.tc : Thread Cert.DbIdeal.nD Cert.DbIdeal.τ).loc Cert.DbIdeal.main_arg6)) (m ((c.tc : Thread Cert.DbIdeal.nD Cert.DbIdeal.τ).loc Cert.DbIdeal.main_arg7)) (m ((c.tc : Thread Cert.DbIdeal.nD Cert.DbIdeal.τ).loc Cert.DbIdeal.main_arg8)) (m ((c.tc : Thread Cert.DbIdeal.nD Cert.DbIdeal.τ).loc Cert.DbIdeal.main_arg9))).2.2.1 = (fun _ => 1#1)
    ∧ (Cert.Pre_finite_b.fn (F := Ideal) (m ((c.tc : Thread Cert.DbIdeal.nD Cert.DbIdeal.τ).loc Cert.DbIdeal.main_arg0)) (m ((c.tc : Thread Cert.DbIdeal.nD Cert.DbIdeal.τ).loc Cert.DbIdeal.main_arg1)) (m ((c.tc : Thread Cert.DbIdeal.nD Cert.DbIdeal.τ).loc Cert.DbIdeal.main_arg2)) (m ((c.tc : Thread Cert.DbIdeal.nD Cert.DbIdeal.τ).loc Cert.DbIdeal.main_arg3)) (m ((c.tc : Thread Cert.DbIdeal.nD Cert.DbIdeal.τ).loc Cert.DbIdeal.main_arg4)) (m ((c.tc : Thread Cert.DbIdeal.nD Cert.DbIdeal.τ).loc Cert.DbIdeal.main_arg5)) (m ((c.tc : Thread Cert.DbIdeal.nD Cert.DbIdeal.τ).loc Cert.DbIdeal.main_arg6)) (m ((c.tc : Thread Cert.DbIdeal.nD Cert.DbIdeal.τ).loc Cert.DbIdeal.main_arg7)) (m ((c.tc : Thread Cert.DbIdeal.nD Cert.DbIdeal.τ).loc Cert.DbIdeal.main_arg8)) (m ((c.tc : Thread Cert.DbIdeal.nD Cert.DbIdeal.τ).loc Cert.DbIdeal.main_arg9))).2.2.2.1 = (fun _ => 1#1)
    ∧ (Cert.Pre_finite_b.fn (F := Ideal) (m ((c.tc : Thread Cert.DbIdeal.nD Cert.DbIdeal.τ).loc Cert.DbIdeal.main_arg0)) (m ((c.tc : Thread Cert.DbIdeal.nD Cert.DbIdeal.τ).loc Cert.DbIdeal.main_arg1)) (m ((c.tc : Thread Cert.DbIdeal.nD Cert.DbIdeal.τ).loc Cert.DbIdeal.main_arg2)) (m ((c.tc : Thread Cert.DbIdeal.nD Cert.DbIdeal.τ).loc Cert.DbIdeal.main_arg3)) (m ((c.tc : Thread Cert.DbIdeal.nD Cert.DbIdeal.τ).loc Cert.DbIdeal.main_arg4)) (m ((c.tc : Thread Cert.DbIdeal.nD Cert.DbIdeal.τ).loc Cert.DbIdeal.main_arg5)) (m ((c.tc : Thread Cert.DbIdeal.nD Cert.DbIdeal.τ).loc Cert.DbIdeal.main_arg6)) (m ((c.tc : Thread Cert.DbIdeal.nD Cert.DbIdeal.τ).loc Cert.DbIdeal.main_arg7)) (m ((c.tc : Thread Cert.DbIdeal.nD Cert.DbIdeal.τ).loc Cert.DbIdeal.main_arg8)) (m ((c.tc : Thread Cert.DbIdeal.nD Cert.DbIdeal.τ).loc Cert.DbIdeal.main_arg9))).2.2.2.2.1 = (fun _ => 1#1)
    ∧ (Cert.Pre_finite_b.fn (F := Ideal) (m ((c.tc : Thread Cert.DbIdeal.nD Cert.DbIdeal.τ).loc Cert.DbIdeal.main_arg0)) (m ((c.tc : Thread Cert.DbIdeal.nD Cert.DbIdeal.τ).loc Cert.DbIdeal.main_arg1)) (m ((c.tc : Thread Cert.DbIdeal.nD Cert.DbIdeal.τ).loc Cert.DbIdeal.main_arg2)) (m ((c.tc : Thread Cert.DbIdeal.nD Cert.DbIdeal.τ).loc Cert.DbIdeal.main_arg3)) (m ((c.tc : Thread Cert.DbIdeal.nD Cert.DbIdeal.τ).loc Cert.DbIdeal.main_arg4)) (m ((c.tc : Thread Cert.DbIdeal.nD Cert.DbIdeal.τ).loc Cert.DbIdeal.main_arg5)) (m ((c.tc : Thread Cert.DbIdeal.nD Cert.DbIdeal.τ).loc Cert.DbIdeal.main_arg6)) (m ((c.tc : Thread Cert.DbIdeal.nD Cert.DbIdeal.τ).loc Cert.DbIdeal.main_arg7)) (m ((c.tc : Thread Cert.DbIdeal.nD Cert.DbIdeal.τ).loc Cert.DbIdeal.main_arg8)) (m ((c.tc : Thread Cert.DbIdeal.nD Cert.DbIdeal.τ).loc Cert.DbIdeal.main_arg9))).2.2.2.2.2.1 = (fun _ => 1#1)
    ∧ (Cert.Pre_finite_b.fn (F := Ideal) (m ((c.tc : Thread Cert.DbIdeal.nD Cert.DbIdeal.τ).loc Cert.DbIdeal.main_arg0)) (m ((c.tc : Thread Cert.DbIdeal.nD Cert.DbIdeal.τ).loc Cert.DbIdeal.main_arg1)) (m ((c.tc : Thread Cert.DbIdeal.nD Cert.DbIdeal.τ).loc Cert.DbIdeal.main_arg2)) (m ((c.tc : Thread Cert.DbIdeal.nD Cert.DbIdeal.τ).loc Cert.DbIdeal.main_arg3)) (m ((c.tc : Thread Cert.DbIdeal.nD Cert.DbIdeal.τ).loc Cert.DbIdeal.main_arg4)) (m ((c.tc : Thread Cert.DbIdeal.nD Cert.DbIdeal.τ).loc Cert.DbIdeal.main_arg5)) (m ((c.tc : Thread Cert.DbIdeal.nD Cert.DbIdeal.τ).loc Cert.DbIdeal.main_arg6)) (m ((c.tc : Thread Cert.DbIdeal.nD Cert.DbIdeal.τ).loc Cert.DbIdeal.main_arg7)) (m ((c.tc : Thread Cert.DbIdeal.nD Cert.DbIdeal.τ).loc Cert.DbIdeal.main_arg8)) (m ((c.tc : Thread Cert.DbIdeal.nD Cert.DbIdeal.τ).loc Cert.DbIdeal.main_arg9))).2.2.2.2.2.2 = (fun _ => 1#1)

def Pre_RbIdeal (m : (ℓ : Loc Cert.RbIdeal.nD Cert.RbIdeal.τ Cert.RbIdeal.sig) → Buf (Elt Ideal) ℓ) : Prop :=
  True

def Pre_RbIdeal_finite_b [hPre_finite_b : Cert.Pre_finite_b.Facts] (m : (ℓ : Loc Cert.RbIdeal.nD Cert.RbIdeal.τ Cert.RbIdeal.sig) → Buf (Elt Ideal) ℓ) : Prop :=
  ∀ c : Dev Cert.RbIdeal.nD,
    (Cert.Pre_finite_b.fn (F := Ideal) (m ((c.tc : Thread Cert.RbIdeal.nD Cert.RbIdeal.τ).loc Cert.RbIdeal.main_arg0)) (m ((c.tc : Thread Cert.RbIdeal.nD Cert.RbIdeal.τ).loc Cert.RbIdeal.main_arg1)) (m ((c.tc : Thread Cert.RbIdeal.nD Cert.RbIdeal.τ).loc Cert.RbIdeal.main_arg2)) (m ((c.tc : Thread Cert.RbIdeal.nD Cert.RbIdeal.τ).loc Cert.RbIdeal.main_arg3)) (m ((c.tc : Thread Cert.RbIdeal.nD Cert.RbIdeal.τ).loc Cert.RbIdeal.main_arg4)) (m ((c.tc : Thread Cert.RbIdeal.nD Cert.RbIdeal.τ).loc Cert.RbIdeal.main_arg5)) (m ((c.tc : Thread Cert.RbIdeal.nD Cert.RbIdeal.τ).loc Cert.RbIdeal.main_arg6)) (m ((c.tc : Thread Cert.RbIdeal.nD Cert.RbIdeal.τ).loc Cert.RbIdeal.main_arg7)) (m ((c.tc : Thread Cert.RbIdeal.nD Cert.RbIdeal.τ).loc Cert.RbIdeal.main_arg8)) (m ((c.tc : Thread Cert.RbIdeal.nD Cert.RbIdeal.τ).loc Cert.RbIdeal.main_arg9))).1 = (fun _ => 1#1)
    ∧ (Cert.Pre_finite_b.fn (F := Ideal) (m ((c.tc : Thread Cert.RbIdeal.nD Cert.RbIdeal.τ).loc Cert.RbIdeal.main_arg0)) (m ((c.tc : Thread Cert.RbIdeal.nD Cert.RbIdeal.τ).loc Cert.RbIdeal.main_arg1)) (m ((c.tc : Thread Cert.RbIdeal.nD Cert.RbIdeal.τ).loc Cert.RbIdeal.main_arg2)) (m ((c.tc : Thread Cert.RbIdeal.nD Cert.RbIdeal.τ).loc Cert.RbIdeal.main_arg3)) (m ((c.tc : Thread Cert.RbIdeal.nD Cert.RbIdeal.τ).loc Cert.RbIdeal.main_arg4)) (m ((c.tc : Thread Cert.RbIdeal.nD Cert.RbIdeal.τ).loc Cert.RbIdeal.main_arg5)) (m ((c.tc : Thread Cert.RbIdeal.nD Cert.RbIdeal.τ).loc Cert.RbIdeal.main_arg6)) (m ((c.tc : Thread Cert.RbIdeal.nD Cert.RbIdeal.τ).loc Cert.RbIdeal.main_arg7)) (m ((c.tc : Thread Cert.RbIdeal.nD Cert.RbIdeal.τ).loc Cert.RbIdeal.main_arg8)) (m ((c.tc : Thread Cert.RbIdeal.nD Cert.RbIdeal.τ).loc Cert.RbIdeal.main_arg9))).2.1 = (fun _ => 1#1)
    ∧ (Cert.Pre_finite_b.fn (F := Ideal) (m ((c.tc : Thread Cert.RbIdeal.nD Cert.RbIdeal.τ).loc Cert.RbIdeal.main_arg0)) (m ((c.tc : Thread Cert.RbIdeal.nD Cert.RbIdeal.τ).loc Cert.RbIdeal.main_arg1)) (m ((c.tc : Thread Cert.RbIdeal.nD Cert.RbIdeal.τ).loc Cert.RbIdeal.main_arg2)) (m ((c.tc : Thread Cert.RbIdeal.nD Cert.RbIdeal.τ).loc Cert.RbIdeal.main_arg3)) (m ((c.tc : Thread Cert.RbIdeal.nD Cert.RbIdeal.τ).loc Cert.RbIdeal.main_arg4)) (m ((c.tc : Thread Cert.RbIdeal.nD Cert.RbIdeal.τ).loc Cert.RbIdeal.main_arg5)) (m ((c.tc : Thread Cert.RbIdeal.nD Cert.RbIdeal.τ).loc Cert.RbIdeal.main_arg6)) (m ((c.tc : Thread Cert.RbIdeal.nD Cert.RbIdeal.τ).loc Cert.RbIdeal.main_arg7)) (m ((c.tc : Thread Cert.RbIdeal.nD Cert.RbIdeal.τ).loc Cert.RbIdeal.main_arg8)) (m ((c.tc : Thread Cert.RbIdeal.nD Cert.RbIdeal.τ).loc Cert.RbIdeal.main_arg9))).2.2.1 = (fun _ => 1#1)
    ∧ (Cert.Pre_finite_b.fn (F := Ideal) (m ((c.tc : Thread Cert.RbIdeal.nD Cert.RbIdeal.τ).loc Cert.RbIdeal.main_arg0)) (m ((c.tc : Thread Cert.RbIdeal.nD Cert.RbIdeal.τ).loc Cert.RbIdeal.main_arg1)) (m ((c.tc : Thread Cert.RbIdeal.nD Cert.RbIdeal.τ).loc Cert.RbIdeal.main_arg2)) (m ((c.tc : Thread Cert.RbIdeal.nD Cert.RbIdeal.τ).loc Cert.RbIdeal.main_arg3)) (m ((c.tc : Thread Cert.RbIdeal.nD Cert.RbIdeal.τ).loc Cert.RbIdeal.main_arg4)) (m ((c.tc : Thread Cert.RbIdeal.nD Cert.RbIdeal.τ).loc Cert.RbIdeal.main_arg5)) (m ((c.tc : Thread Cert.RbIdeal.nD Cert.RbIdeal.τ).loc Cert.RbIdeal.main_arg6)) (m ((c.tc : Thread Cert.RbIdeal.nD Cert.RbIdeal.τ).loc Cert.RbIdeal.main_arg7)) (m ((c.tc : Thread Cert.RbIdeal.nD Cert.RbIdeal.τ).loc Cert.RbIdeal.main_arg8)) (m ((c.tc : Thread Cert.RbIdeal.nD Cert.RbIdeal.τ).loc Cert.RbIdeal.main_arg9))).2.2.2.1 = (fun _ => 1#1)
    ∧ (Cert.Pre_finite_b.fn (F := Ideal) (m ((c.tc : Thread Cert.RbIdeal.nD Cert.RbIdeal.τ).loc Cert.RbIdeal.main_arg0)) (m ((c.tc : Thread Cert.RbIdeal.nD Cert.RbIdeal.τ).loc Cert.RbIdeal.main_arg1)) (m ((c.tc : Thread Cert.RbIdeal.nD Cert.RbIdeal.τ).loc Cert.RbIdeal.main_arg2)) (m ((c.tc : Thread Cert.RbIdeal.nD Cert.RbIdeal.τ).loc Cert.RbIdeal.main_arg3)) (m ((c.tc : Thread Cert.RbIdeal.nD Cert.RbIdeal.τ).loc Cert.RbIdeal.main_arg4)) (m ((c.tc : Thread Cert.RbIdeal.nD Cert.RbIdeal.τ).loc Cert.RbIdeal.main_arg5)) (m ((c.tc : Thread Cert.RbIdeal.nD Cert.RbIdeal.τ).loc Cert.RbIdeal.main_arg6)) (m ((c.tc : Thread Cert.RbIdeal.nD Cert.RbIdeal.τ).loc Cert.RbIdeal.main_arg7)) (m ((c.tc : Thread Cert.RbIdeal.nD Cert.RbIdeal.τ).loc Cert.RbIdeal.main_arg8)) (m ((c.tc : Thread Cert.RbIdeal.nD Cert.RbIdeal.τ).loc Cert.RbIdeal.main_arg9))).2.2.2.2.1 = (fun _ => 1#1)
    ∧ (Cert.Pre_finite_b.fn (F := Ideal) (m ((c.tc : Thread Cert.RbIdeal.nD Cert.RbIdeal.τ).loc Cert.RbIdeal.main_arg0)) (m ((c.tc : Thread Cert.RbIdeal.nD Cert.RbIdeal.τ).loc Cert.RbIdeal.main_arg1)) (m ((c.tc : Thread Cert.RbIdeal.nD Cert.RbIdeal.τ).loc Cert.RbIdeal.main_arg2)) (m ((c.tc : Thread Cert.RbIdeal.nD Cert.RbIdeal.τ).loc Cert.RbIdeal.main_arg3)) (m ((c.tc : Thread Cert.RbIdeal.nD Cert.RbIdeal.τ).loc Cert.RbIdeal.main_arg4)) (m ((c.tc : Thread Cert.RbIdeal.nD Cert.RbIdeal.τ).loc Cert.RbIdeal.main_arg5)) (m ((c.tc : Thread Cert.RbIdeal.nD Cert.RbIdeal.τ).loc Cert.RbIdeal.main_arg6)) (m ((c.tc : Thread Cert.RbIdeal.nD Cert.RbIdeal.τ).loc Cert.RbIdeal.main_arg7)) (m ((c.tc : Thread Cert.RbIdeal.nD Cert.RbIdeal.τ).loc Cert.RbIdeal.main_arg8)) (m ((c.tc : Thread Cert.RbIdeal.nD Cert.RbIdeal.τ).loc Cert.RbIdeal.main_arg9))).2.2.2.2.2.1 = (fun _ => 1#1)
    ∧ (Cert.Pre_finite_b.fn (F := Ideal) (m ((c.tc : Thread Cert.RbIdeal.nD Cert.RbIdeal.τ).loc Cert.RbIdeal.main_arg0)) (m ((c.tc : Thread Cert.RbIdeal.nD Cert.RbIdeal.τ).loc Cert.RbIdeal.main_arg1)) (m ((c.tc : Thread Cert.RbIdeal.nD Cert.RbIdeal.τ).loc Cert.RbIdeal.main_arg2)) (m ((c.tc : Thread Cert.RbIdeal.nD Cert.RbIdeal.τ).loc Cert.RbIdeal.main_arg3)) (m ((c.tc : Thread Cert.RbIdeal.nD Cert.RbIdeal.τ).loc Cert.RbIdeal.main_arg4)) (m ((c.tc : Thread Cert.RbIdeal.nD Cert.RbIdeal.τ).loc Cert.RbIdeal.main_arg5)) (m ((c.tc : Thread Cert.RbIdeal.nD Cert.RbIdeal.τ).loc Cert.RbIdeal.main_arg6)) (m ((c.tc : Thread Cert.RbIdeal.nD Cert.RbIdeal.τ).loc Cert.RbIdeal.main_arg7)) (m ((c.tc : Thread Cert.RbIdeal.nD Cert.RbIdeal.τ).loc Cert.RbIdeal.main_arg8)) (m ((c.tc : Thread Cert.RbIdeal.nD Cert.RbIdeal.τ).loc Cert.RbIdeal.main_arg9))).2.2.2.2.2.2 = (fun _ => 1#1)

def Pre_Df (m : (ℓ : Loc Cert.Df.nD Cert.Df.τ Cert.Df.sig) → Buf (Elt Bits) ℓ) : Prop :=
  True

def Pre_DfIdeal (m : (ℓ : Loc Cert.DfIdeal.nD Cert.DfIdeal.τ Cert.DfIdeal.sig) → Buf (Elt Ideal) ℓ) : Prop :=
  True

def Pre_DfIdeal_finite_f [hPre_finite_f : Cert.Pre_finite_f.Facts] (m : (ℓ : Loc Cert.DfIdeal.nD Cert.DfIdeal.τ Cert.DfIdeal.sig) → Buf (Elt Ideal) ℓ) : Prop :=
  ∀ c : Dev Cert.DfIdeal.nD,
    (Cert.Pre_finite_f.fn (F := Ideal) (m ((c.tc : Thread Cert.DfIdeal.nD Cert.DfIdeal.τ).loc Cert.DfIdeal.main_arg0)) (m ((c.tc : Thread Cert.DfIdeal.nD Cert.DfIdeal.τ).loc Cert.DfIdeal.main_arg1)) (m ((c.tc : Thread Cert.DfIdeal.nD Cert.DfIdeal.τ).loc Cert.DfIdeal.main_arg2)) (m ((c.tc : Thread Cert.DfIdeal.nD Cert.DfIdeal.τ).loc Cert.DfIdeal.main_arg3)) (m ((c.tc : Thread Cert.DfIdeal.nD Cert.DfIdeal.τ).loc Cert.DfIdeal.main_arg4)) (m ((c.tc : Thread Cert.DfIdeal.nD Cert.DfIdeal.τ).loc Cert.DfIdeal.main_arg5)) (m ((c.tc : Thread Cert.DfIdeal.nD Cert.DfIdeal.τ).loc Cert.DfIdeal.main_arg6)) (m ((c.tc : Thread Cert.DfIdeal.nD Cert.DfIdeal.τ).loc Cert.DfIdeal.main_arg7)) (m ((c.tc : Thread Cert.DfIdeal.nD Cert.DfIdeal.τ).loc Cert.DfIdeal.main_arg8)) (m ((c.tc : Thread Cert.DfIdeal.nD Cert.DfIdeal.τ).loc Cert.DfIdeal.main_arg9))).1 = (fun _ => 1#1)
    ∧ (Cert.Pre_finite_f.fn (F := Ideal) (m ((c.tc : Thread Cert.DfIdeal.nD Cert.DfIdeal.τ).loc Cert.DfIdeal.main_arg0)) (m ((c.tc : Thread Cert.DfIdeal.nD Cert.DfIdeal.τ).loc Cert.DfIdeal.main_arg1)) (m ((c.tc : Thread Cert.DfIdeal.nD Cert.DfIdeal.τ).loc Cert.DfIdeal.main_arg2)) (m ((c.tc : Thread Cert.DfIdeal.nD Cert.DfIdeal.τ).loc Cert.DfIdeal.main_arg3)) (m ((c.tc : Thread Cert.DfIdeal.nD Cert.DfIdeal.τ).loc Cert.DfIdeal.main_arg4)) (m ((c.tc : Thread Cert.DfIdeal.nD Cert.DfIdeal.τ).loc Cert.DfIdeal.main_arg5)) (m ((c.tc : Thread Cert.DfIdeal.nD Cert.DfIdeal.τ).loc Cert.DfIdeal.main_arg6)) (m ((c.tc : Thread Cert.DfIdeal.nD Cert.DfIdeal.τ).loc Cert.DfIdeal.main_arg7)) (m ((c.tc : Thread Cert.DfIdeal.nD Cert.DfIdeal.τ).loc Cert.DfIdeal.main_arg8)) (m ((c.tc : Thread Cert.DfIdeal.nD Cert.DfIdeal.τ).loc Cert.DfIdeal.main_arg9))).2.1 = (fun _ => 1#1)
    ∧ (Cert.Pre_finite_f.fn (F := Ideal) (m ((c.tc : Thread Cert.DfIdeal.nD Cert.DfIdeal.τ).loc Cert.DfIdeal.main_arg0)) (m ((c.tc : Thread Cert.DfIdeal.nD Cert.DfIdeal.τ).loc Cert.DfIdeal.main_arg1)) (m ((c.tc : Thread Cert.DfIdeal.nD Cert.DfIdeal.τ).loc Cert.DfIdeal.main_arg2)) (m ((c.tc : Thread Cert.DfIdeal.nD Cert.DfIdeal.τ).loc Cert.DfIdeal.main_arg3)) (m ((c.tc : Thread Cert.DfIdeal.nD Cert.DfIdeal.τ).loc Cert.DfIdeal.main_arg4)) (m ((c.tc : Thread Cert.DfIdeal.nD Cert.DfIdeal.τ).loc Cert.DfIdeal.main_arg5)) (m ((c.tc : Thread Cert.DfIdeal.nD Cert.DfIdeal.τ).loc Cert.DfIdeal.main_arg6)) (m ((c.tc : Thread Cert.DfIdeal.nD Cert.DfIdeal.τ).loc Cert.DfIdeal.main_arg7)) (m ((c.tc : Thread Cert.DfIdeal.nD Cert.DfIdeal.τ).loc Cert.DfIdeal.main_arg8)) (m ((c.tc : Thread Cert.DfIdeal.nD Cert.DfIdeal.τ).loc Cert.DfIdeal.main_arg9))).2.2.1 = (fun _ => 1#1)
    ∧ (Cert.Pre_finite_f.fn (F := Ideal) (m ((c.tc : Thread Cert.DfIdeal.nD Cert.DfIdeal.τ).loc Cert.DfIdeal.main_arg0)) (m ((c.tc : Thread Cert.DfIdeal.nD Cert.DfIdeal.τ).loc Cert.DfIdeal.main_arg1)) (m ((c.tc : Thread Cert.DfIdeal.nD Cert.DfIdeal.τ).loc Cert.DfIdeal.main_arg2)) (m ((c.tc : Thread Cert.DfIdeal.nD Cert.DfIdeal.τ).loc Cert.DfIdeal.main_arg3)) (m ((c.tc : Thread Cert.DfIdeal.nD Cert.DfIdeal.τ).loc Cert.DfIdeal.main_arg4)) (m ((c.tc : Thread Cert.DfIdeal.nD Cert.DfIdeal.τ).loc Cert.DfIdeal.main_arg5)) (m ((c.tc : Thread Cert.DfIdeal.nD Cert.DfIdeal.τ).loc Cert.DfIdeal.main_arg6)) (m ((c.tc : Thread Cert.DfIdeal.nD Cert.DfIdeal.τ).loc Cert.DfIdeal.main_arg7)) (m ((c.tc : Thread Cert.DfIdeal.nD Cert.DfIdeal.τ).loc Cert.DfIdeal.main_arg8)) (m ((c.tc : Thread Cert.DfIdeal.nD Cert.DfIdeal.τ).loc Cert.DfIdeal.main_arg9))).2.2.2.1 = (fun _ => 1#1)
    ∧ (Cert.Pre_finite_f.fn (F := Ideal) (m ((c.tc : Thread Cert.DfIdeal.nD Cert.DfIdeal.τ).loc Cert.DfIdeal.main_arg0)) (m ((c.tc : Thread Cert.DfIdeal.nD Cert.DfIdeal.τ).loc Cert.DfIdeal.main_arg1)) (m ((c.tc : Thread Cert.DfIdeal.nD Cert.DfIdeal.τ).loc Cert.DfIdeal.main_arg2)) (m ((c.tc : Thread Cert.DfIdeal.nD Cert.DfIdeal.τ).loc Cert.DfIdeal.main_arg3)) (m ((c.tc : Thread Cert.DfIdeal.nD Cert.DfIdeal.τ).loc Cert.DfIdeal.main_arg4)) (m ((c.tc : Thread Cert.DfIdeal.nD Cert.DfIdeal.τ).loc Cert.DfIdeal.main_arg5)) (m ((c.tc : Thread Cert.DfIdeal.nD Cert.DfIdeal.τ).loc Cert.DfIdeal.main_arg6)) (m ((c.tc : Thread Cert.DfIdeal.nD Cert.DfIdeal.τ).loc Cert.DfIdeal.main_arg7)) (m ((c.tc : Thread Cert.DfIdeal.nD Cert.DfIdeal.τ).loc Cert.DfIdeal.main_arg8)) (m ((c.tc : Thread Cert.DfIdeal.nD Cert.DfIdeal.τ).loc Cert.DfIdeal.main_arg9))).2.2.2.2.1 = (fun _ => 1#1)
    ∧ (Cert.Pre_finite_f.fn (F := Ideal) (m ((c.tc : Thread Cert.DfIdeal.nD Cert.DfIdeal.τ).loc Cert.DfIdeal.main_arg0)) (m ((c.tc : Thread Cert.DfIdeal.nD Cert.DfIdeal.τ).loc Cert.DfIdeal.main_arg1)) (m ((c.tc : Thread Cert.DfIdeal.nD Cert.DfIdeal.τ).loc Cert.DfIdeal.main_arg2)) (m ((c.tc : Thread Cert.DfIdeal.nD Cert.DfIdeal.τ).loc Cert.DfIdeal.main_arg3)) (m ((c.tc : Thread Cert.DfIdeal.nD Cert.DfIdeal.τ).loc Cert.DfIdeal.main_arg4)) (m ((c.tc : Thread Cert.DfIdeal.nD Cert.DfIdeal.τ).loc Cert.DfIdeal.main_arg5)) (m ((c.tc : Thread Cert.DfIdeal.nD Cert.DfIdeal.τ).loc Cert.DfIdeal.main_arg6)) (m ((c.tc : Thread Cert.DfIdeal.nD Cert.DfIdeal.τ).loc Cert.DfIdeal.main_arg7)) (m ((c.tc : Thread Cert.DfIdeal.nD Cert.DfIdeal.τ).loc Cert.DfIdeal.main_arg8)) (m ((c.tc : Thread Cert.DfIdeal.nD Cert.DfIdeal.τ).loc Cert.DfIdeal.main_arg9))).2.2.2.2.2.1 = (fun _ => 1#1)
    ∧ (Cert.Pre_finite_f.fn (F := Ideal) (m ((c.tc : Thread Cert.DfIdeal.nD Cert.DfIdeal.τ).loc Cert.DfIdeal.main_arg0)) (m ((c.tc : Thread Cert.DfIdeal.nD Cert.DfIdeal.τ).loc Cert.DfIdeal.main_arg1)) (m ((c.tc : Thread Cert.DfIdeal.nD Cert.DfIdeal.τ).loc Cert.DfIdeal.main_arg2)) (m ((c.tc : Thread Cert.DfIdeal.nD Cert.DfIdeal.τ).loc Cert.DfIdeal.main_arg3)) (m ((c.tc : Thread Cert.DfIdeal.nD Cert.DfIdeal.τ).loc Cert.DfIdeal.main_arg4)) (m ((c.tc : Thread Cert.DfIdeal.nD Cert.DfIdeal.τ).loc Cert.DfIdeal.main_arg5)) (m ((c.tc : Thread Cert.DfIdeal.nD Cert.DfIdeal.τ).loc Cert.DfIdeal.main_arg6)) (m ((c.tc : Thread Cert.DfIdeal.nD Cert.DfIdeal.τ).loc Cert.DfIdeal.main_arg7)) (m ((c.tc : Thread Cert.DfIdeal.nD Cert.DfIdeal.τ).loc Cert.DfIdeal.main_arg8)) (m ((c.tc : Thread Cert.DfIdeal.nD Cert.DfIdeal.τ).loc Cert.DfIdeal.main_arg9))).2.2.2.2.2.2.1 = (fun _ => 1#1)
    ∧ (Cert.Pre_finite_f.fn (F := Ideal) (m ((c.tc : Thread Cert.DfIdeal.nD Cert.DfIdeal.τ).loc Cert.DfIdeal.main_arg0)) (m ((c.tc : Thread Cert.DfIdeal.nD Cert.DfIdeal.τ).loc Cert.DfIdeal.main_arg1)) (m ((c.tc : Thread Cert.DfIdeal.nD Cert.DfIdeal.τ).loc Cert.DfIdeal.main_arg2)) (m ((c.tc : Thread Cert.DfIdeal.nD Cert.DfIdeal.τ).loc Cert.DfIdeal.main_arg3)) (m ((c.tc : Thread Cert.DfIdeal.nD Cert.DfIdeal.τ).loc Cert.DfIdeal.main_arg4)) (m ((c.tc : Thread Cert.DfIdeal.nD Cert.DfIdeal.τ).loc Cert.DfIdeal.main_arg5)) (m ((c.tc : Thread Cert.DfIdeal.nD Cert.DfIdeal.τ).loc Cert.DfIdeal.main_arg6)) (m ((c.tc : Thread Cert.DfIdeal.nD Cert.DfIdeal.τ).loc Cert.DfIdeal.main_arg7)) (m ((c.tc : Thread Cert.DfIdeal.nD Cert.DfIdeal.τ).loc Cert.DfIdeal.main_arg8)) (m ((c.tc : Thread Cert.DfIdeal.nD Cert.DfIdeal.τ).loc Cert.DfIdeal.main_arg9))).2.2.2.2.2.2.2.1 = (fun _ => 1#1)
    ∧ (Cert.Pre_finite_f.fn (F := Ideal) (m ((c.tc : Thread Cert.DfIdeal.nD Cert.DfIdeal.τ).loc Cert.DfIdeal.main_arg0)) (m ((c.tc : Thread Cert.DfIdeal.nD Cert.DfIdeal.τ).loc Cert.DfIdeal.main_arg1)) (m ((c.tc : Thread Cert.DfIdeal.nD Cert.DfIdeal.τ).loc Cert.DfIdeal.main_arg2)) (m ((c.tc : Thread Cert.DfIdeal.nD Cert.DfIdeal.τ).loc Cert.DfIdeal.main_arg3)) (m ((c.tc : Thread Cert.DfIdeal.nD Cert.DfIdeal.τ).loc Cert.DfIdeal.main_arg4)) (m ((c.tc : Thread Cert.DfIdeal.nD Cert.DfIdeal.τ).loc Cert.DfIdeal.main_arg5)) (m ((c.tc : Thread Cert.DfIdeal.nD Cert.DfIdeal.τ).loc Cert.DfIdeal.main_arg6)) (m ((c.tc : Thread Cert.DfIdeal.nD Cert.DfIdeal.τ).loc Cert.DfIdeal.main_arg7)) (m ((c.tc : Thread Cert.DfIdeal.nD Cert.DfIdeal.τ).loc Cert.DfIdeal.main_arg8)) (m ((c.tc : Thread Cert.DfIdeal.nD Cert.DfIdeal.τ).loc Cert.DfIdeal.main_arg9))).2.2.2.2.2.2.2.2.1 = (fun _ => 1#1)
    ∧ (Cert.Pre_finite_f.fn (F := Ideal) (m ((c.tc : Thread Cert.DfIdeal.nD Cert.DfIdeal.τ).loc Cert.DfIdeal.main_arg0)) (m ((c.tc : Thread Cert.DfIdeal.nD Cert.DfIdeal.τ).loc Cert.DfIdeal.main_arg1)) (m ((c.tc : Thread Cert.DfIdeal.nD Cert.DfIdeal.τ).loc Cert.DfIdeal.main_arg2)) (m ((c.tc : Thread Cert.DfIdeal.nD Cert.DfIdeal.τ).loc Cert.DfIdeal.main_arg3)) (m ((c.tc : Thread Cert.DfIdeal.nD Cert.DfIdeal.τ).loc Cert.DfIdeal.main_arg4)) (m ((c.tc : Thread Cert.DfIdeal.nD Cert.DfIdeal.τ).loc Cert.DfIdeal.main_arg5)) (m ((c.tc : Thread Cert.DfIdeal.nD Cert.DfIdeal.τ).loc Cert.DfIdeal.main_arg6)) (m ((c.tc : Thread Cert.DfIdeal.nD Cert.DfIdeal.τ).loc Cert.DfIdeal.main_arg7)) (m ((c.tc : Thread Cert.DfIdeal.nD Cert.DfIdeal.τ).loc Cert.DfIdeal.main_arg8)) (m ((c.tc : Thread Cert.DfIdeal.nD Cert.DfIdeal.τ).loc Cert.DfIdeal.main_arg9))).2.2.2.2.2.2.2.2.2 = (fun _ => 1#1)

def Pre_RfIdeal (m : (ℓ : Loc Cert.RfIdeal.nD Cert.RfIdeal.τ Cert.RfIdeal.sig) → Buf (Elt Ideal) ℓ) : Prop :=
  True

def Pre_RfIdeal_finite_f [hPre_finite_f : Cert.Pre_finite_f.Facts] (m : (ℓ : Loc Cert.RfIdeal.nD Cert.RfIdeal.τ Cert.RfIdeal.sig) → Buf (Elt Ideal) ℓ) : Prop :=
  ∀ c : Dev Cert.RfIdeal.nD,
    (Cert.Pre_finite_f.fn (F := Ideal) (m ((c.tc : Thread Cert.RfIdeal.nD Cert.RfIdeal.τ).loc Cert.RfIdeal.main_arg0)) (m ((c.tc : Thread Cert.RfIdeal.nD Cert.RfIdeal.τ).loc Cert.RfIdeal.main_arg1)) (m ((c.tc : Thread Cert.RfIdeal.nD Cert.RfIdeal.τ).loc Cert.RfIdeal.main_arg2)) (m ((c.tc : Thread Cert.RfIdeal.nD Cert.RfIdeal.τ).loc Cert.RfIdeal.main_arg3)) (m ((c.tc : Thread Cert.RfIdeal.nD Cert.RfIdeal.τ).loc Cert.RfIdeal.main_arg4)) (m ((c.tc : Thread Cert.RfIdeal.nD Cert.RfIdeal.τ).loc Cert.RfIdeal.main_arg5)) (m ((c.tc : Thread Cert.RfIdeal.nD Cert.RfIdeal.τ).loc Cert.RfIdeal.main_arg6)) (m ((c.tc : Thread Cert.RfIdeal.nD Cert.RfIdeal.τ).loc Cert.RfIdeal.main_arg7)) (m ((c.tc : Thread Cert.RfIdeal.nD Cert.RfIdeal.τ).loc Cert.RfIdeal.main_arg8)) (m ((c.tc : Thread Cert.RfIdeal.nD Cert.RfIdeal.τ).loc Cert.RfIdeal.main_arg9))).1 = (fun _ => 1#1)
    ∧ (Cert.Pre_finite_f.fn (F := Ideal) (m ((c.tc : Thread Cert.RfIdeal.nD Cert.RfIdeal.τ).loc Cert.RfIdeal.main_arg0)) (m ((c.tc : Thread Cert.RfIdeal.nD Cert.RfIdeal.τ).loc Cert.RfIdeal.main_arg1)) (m ((c.tc : Thread Cert.RfIdeal.nD Cert.RfIdeal.τ).loc Cert.RfIdeal.main_arg2)) (m ((c.tc : Thread Cert.RfIdeal.nD Cert.RfIdeal.τ).loc Cert.RfIdeal.main_arg3)) (m ((c.tc : Thread Cert.RfIdeal.nD Cert.RfIdeal.τ).loc Cert.RfIdeal.main_arg4)) (m ((c.tc : Thread Cert.RfIdeal.nD Cert.RfIdeal.τ).loc Cert.RfIdeal.main_arg5)) (m ((c.tc : Thread Cert.RfIdeal.nD Cert.RfIdeal.τ).loc Cert.RfIdeal.main_arg6)) (m ((c.tc : Thread Cert.RfIdeal.nD Cert.RfIdeal.τ).loc Cert.RfIdeal.main_arg7)) (m ((c.tc : Thread Cert.RfIdeal.nD Cert.RfIdeal.τ).loc Cert.RfIdeal.main_arg8)) (m ((c.tc : Thread Cert.RfIdeal.nD Cert.RfIdeal.τ).loc Cert.RfIdeal.main_arg9))).2.1 = (fun _ => 1#1)
    ∧ (Cert.Pre_finite_f.fn (F := Ideal) (m ((c.tc : Thread Cert.RfIdeal.nD Cert.RfIdeal.τ).loc Cert.RfIdeal.main_arg0)) (m ((c.tc : Thread Cert.RfIdeal.nD Cert.RfIdeal.τ).loc Cert.RfIdeal.main_arg1)) (m ((c.tc : Thread Cert.RfIdeal.nD Cert.RfIdeal.τ).loc Cert.RfIdeal.main_arg2)) (m ((c.tc : Thread Cert.RfIdeal.nD Cert.RfIdeal.τ).loc Cert.RfIdeal.main_arg3)) (m ((c.tc : Thread Cert.RfIdeal.nD Cert.RfIdeal.τ).loc Cert.RfIdeal.main_arg4)) (m ((c.tc : Thread Cert.RfIdeal.nD Cert.RfIdeal.τ).loc Cert.RfIdeal.main_arg5)) (m ((c.tc : Thread Cert.RfIdeal.nD Cert.RfIdeal.τ).loc Cert.RfIdeal.main_arg6)) (m ((c.tc : Thread Cert.RfIdeal.nD Cert.RfIdeal.τ).loc Cert.RfIdeal.main_arg7)) (m ((c.tc : Thread Cert.RfIdeal.nD Cert.RfIdeal.τ).loc Cert.RfIdeal.main_arg8)) (m ((c.tc : Thread Cert.RfIdeal.nD Cert.RfIdeal.τ).loc Cert.RfIdeal.main_arg9))).2.2.1 = (fun _ => 1#1)
    ∧ (Cert.Pre_finite_f.fn (F := Ideal) (m ((c.tc : Thread Cert.RfIdeal.nD Cert.RfIdeal.τ).loc Cert.RfIdeal.main_arg0)) (m ((c.tc : Thread Cert.RfIdeal.nD Cert.RfIdeal.τ).loc Cert.RfIdeal.main_arg1)) (m ((c.tc : Thread Cert.RfIdeal.nD Cert.RfIdeal.τ).loc Cert.RfIdeal.main_arg2)) (m ((c.tc : Thread Cert.RfIdeal.nD Cert.RfIdeal.τ).loc Cert.RfIdeal.main_arg3)) (m ((c.tc : Thread Cert.RfIdeal.nD Cert.RfIdeal.τ).loc Cert.RfIdeal.main_arg4)) (m ((c.tc : Thread Cert.RfIdeal.nD Cert.RfIdeal.τ).loc Cert.RfIdeal.main_arg5)) (m ((c.tc : Thread Cert.RfIdeal.nD Cert.RfIdeal.τ).loc Cert.RfIdeal.main_arg6)) (m ((c.tc : Thread Cert.RfIdeal.nD Cert.RfIdeal.τ).loc Cert.RfIdeal.main_arg7)) (m ((c.tc : Thread Cert.RfIdeal.nD Cert.RfIdeal.τ).loc Cert.RfIdeal.main_arg8)) (m ((c.tc : Thread Cert.RfIdeal.nD Cert.RfIdeal.τ).loc Cert.RfIdeal.main_arg9))).2.2.2.1 = (fun _ => 1#1)
    ∧ (Cert.Pre_finite_f.fn (F := Ideal) (m ((c.tc : Thread Cert.RfIdeal.nD Cert.RfIdeal.τ).loc Cert.RfIdeal.main_arg0)) (m ((c.tc : Thread Cert.RfIdeal.nD Cert.RfIdeal.τ).loc Cert.RfIdeal.main_arg1)) (m ((c.tc : Thread Cert.RfIdeal.nD Cert.RfIdeal.τ).loc Cert.RfIdeal.main_arg2)) (m ((c.tc : Thread Cert.RfIdeal.nD Cert.RfIdeal.τ).loc Cert.RfIdeal.main_arg3)) (m ((c.tc : Thread Cert.RfIdeal.nD Cert.RfIdeal.τ).loc Cert.RfIdeal.main_arg4)) (m ((c.tc : Thread Cert.RfIdeal.nD Cert.RfIdeal.τ).loc Cert.RfIdeal.main_arg5)) (m ((c.tc : Thread Cert.RfIdeal.nD Cert.RfIdeal.τ).loc Cert.RfIdeal.main_arg6)) (m ((c.tc : Thread Cert.RfIdeal.nD Cert.RfIdeal.τ).loc Cert.RfIdeal.main_arg7)) (m ((c.tc : Thread Cert.RfIdeal.nD Cert.RfIdeal.τ).loc Cert.RfIdeal.main_arg8)) (m ((c.tc : Thread Cert.RfIdeal.nD Cert.RfIdeal.τ).loc Cert.RfIdeal.main_arg9))).2.2.2.2.1 = (fun _ => 1#1)
    ∧ (Cert.Pre_finite_f.fn (F := Ideal) (m ((c.tc : Thread Cert.RfIdeal.nD Cert.RfIdeal.τ).loc Cert.RfIdeal.main_arg0)) (m ((c.tc : Thread Cert.RfIdeal.nD Cert.RfIdeal.τ).loc Cert.RfIdeal.main_arg1)) (m ((c.tc : Thread Cert.RfIdeal.nD Cert.RfIdeal.τ).loc Cert.RfIdeal.main_arg2)) (m ((c.tc : Thread Cert.RfIdeal.nD Cert.RfIdeal.τ).loc Cert.RfIdeal.main_arg3)) (m ((c.tc : Thread Cert.RfIdeal.nD Cert.RfIdeal.τ).loc Cert.RfIdeal.main_arg4)) (m ((c.tc : Thread Cert.RfIdeal.nD Cert.RfIdeal.τ).loc Cert.RfIdeal.main_arg5)) (m ((c.tc : Thread Cert.RfIdeal.nD Cert.RfIdeal.τ).loc Cert.RfIdeal.main_arg6)) (m ((c.tc : Thread Cert.RfIdeal.nD Cert.RfIdeal.τ).loc Cert.RfIdeal.main_arg7)) (m ((c.tc : Thread Cert.RfIdeal.nD Cert.RfIdeal.τ).loc Cert.RfIdeal.main_arg8)) (m ((c.tc : Thread Cert.RfIdeal.nD Cert.RfIdeal.τ).loc Cert.RfIdeal.main_arg9))).2.2.2.2.2.1 = (fun _ => 1#1)
    ∧ (Cert.Pre_finite_f.fn (F := Ideal) (m ((c.tc : Thread Cert.RfIdeal.nD Cert.RfIdeal.τ).loc Cert.RfIdeal.main_arg0)) (m ((c.tc : Thread Cert.RfIdeal.nD Cert.RfIdeal.τ).loc Cert.RfIdeal.main_arg1)) (m ((c.tc : Thread Cert.RfIdeal.nD Cert.RfIdeal.τ).loc Cert.RfIdeal.main_arg2)) (m ((c.tc : Thread Cert.RfIdeal.nD Cert.RfIdeal.τ).loc Cert.RfIdeal.main_arg3)) (m ((c.tc : Thread Cert.RfIdeal.nD Cert.RfIdeal.τ).loc Cert.RfIdeal.main_arg4)) (m ((c.tc : Thread Cert.RfIdeal.nD Cert.RfIdeal.τ).loc Cert.RfIdeal.main_arg5)) (m ((c.tc : Thread Cert.RfIdeal.nD Cert.RfIdeal.τ).loc Cert.RfIdeal.main_arg6)) (m ((c.tc : Thread Cert.RfIdeal.nD Cert.RfIdeal.τ).loc Cert.RfIdeal.main_arg7)) (m ((c.tc : Thread Cert.RfIdeal.nD Cert.RfIdeal.τ).loc Cert.RfIdeal.main_arg8)) (m ((c.tc : Thread Cert.RfIdeal.nD Cert.RfIdeal.τ).loc Cert.RfIdeal.main_arg9))).2.2.2.2.2.2.1 = (fun _ => 1#1)
    ∧ (Cert.Pre_finite_f.fn (F := Ideal) (m ((c.tc : Thread Cert.RfIdeal.nD Cert.RfIdeal.τ).loc Cert.RfIdeal.main_arg0)) (m ((c.tc : Thread Cert.RfIdeal.nD Cert.RfIdeal.τ).loc Cert.RfIdeal.main_arg1)) (m ((c.tc : Thread Cert.RfIdeal.nD Cert.RfIdeal.τ).loc Cert.RfIdeal.main_arg2)) (m ((c.tc : Thread Cert.RfIdeal.nD Cert.RfIdeal.τ).loc Cert.RfIdeal.main_arg3)) (m ((c.tc : Thread Cert.RfIdeal.nD Cert.RfIdeal.τ).loc Cert.RfIdeal.main_arg4)) (m ((c.tc : Thread Cert.RfIdeal.nD Cert.RfIdeal.τ).loc Cert.RfIdeal.main_arg5)) (m ((c.tc : Thread Cert.RfIdeal.nD Cert.RfIdeal.τ).loc Cert.RfIdeal.main_arg6)) (m ((c.tc : Thread Cert.RfIdeal.nD Cert.RfIdeal.τ).loc Cert.RfIdeal.main_arg7)) (m ((c.tc : Thread Cert.RfIdeal.nD Cert.RfIdeal.τ).loc Cert.RfIdeal.main_arg8)) (m ((c.tc : Thread Cert.RfIdeal.nD Cert.RfIdeal.τ).loc Cert.RfIdeal.main_arg9))).2.2.2.2.2.2.2.1 = (fun _ => 1#1)
    ∧ (Cert.Pre_finite_f.fn (F := Ideal) (m ((c.tc : Thread Cert.RfIdeal.nD Cert.RfIdeal.τ).loc Cert.RfIdeal.main_arg0)) (m ((c.tc : Thread Cert.RfIdeal.nD Cert.RfIdeal.τ).loc Cert.RfIdeal.main_arg1)) (m ((c.tc : Thread Cert.RfIdeal.nD Cert.RfIdeal.τ).loc Cert.RfIdeal.main_arg2)) (m ((c.tc : Thread Cert.RfIdeal.nD Cert.RfIdeal.τ).loc Cert.RfIdeal.main_arg3)) (m ((c.tc : Thread Cert.RfIdeal.nD Cert.RfIdeal.τ).loc Cert.RfIdeal.main_arg4)) (m ((c.tc : Thread Cert.RfIdeal.nD Cert.RfIdeal.τ).loc Cert.RfIdeal.main_arg5)) (m ((c.tc : Thread Cert.RfIdeal.nD Cert.RfIdeal.τ).loc Cert.RfIdeal.main_arg6)) (m ((c.tc : Thread Cert.RfIdeal.nD Cert.RfIdeal.τ).loc Cert.RfIdeal.main_arg7)) (m ((c.tc : Thread Cert.RfIdeal.nD Cert.RfIdeal.τ).loc Cert.RfIdeal.main_arg8)) (m ((c.tc : Thread Cert.RfIdeal.nD Cert.RfIdeal.τ).loc Cert.RfIdeal.main_arg9))).2.2.2.2.2.2.2.2.1 = (fun _ => 1#1)
    ∧ (Cert.Pre_finite_f.fn (F := Ideal) (m ((c.tc : Thread Cert.RfIdeal.nD Cert.RfIdeal.τ).loc Cert.RfIdeal.main_arg0)) (m ((c.tc : Thread Cert.RfIdeal.nD Cert.RfIdeal.τ).loc Cert.RfIdeal.main_arg1)) (m ((c.tc : Thread Cert.RfIdeal.nD Cert.RfIdeal.τ).loc Cert.RfIdeal.main_arg2)) (m ((c.tc : Thread Cert.RfIdeal.nD Cert.RfIdeal.τ).loc Cert.RfIdeal.main_arg3)) (m ((c.tc : Thread Cert.RfIdeal.nD Cert.RfIdeal.τ).loc Cert.RfIdeal.main_arg4)) (m ((c.tc : Thread Cert.RfIdeal.nD Cert.RfIdeal.τ).loc Cert.RfIdeal.main_arg5)) (m ((c.tc : Thread Cert.RfIdeal.nD Cert.RfIdeal.τ).loc Cert.RfIdeal.main_arg6)) (m ((c.tc : Thread Cert.RfIdeal.nD Cert.RfIdeal.τ).loc Cert.RfIdeal.main_arg7)) (m ((c.tc : Thread Cert.RfIdeal.nD Cert.RfIdeal.τ).loc Cert.RfIdeal.main_arg8)) (m ((c.tc : Thread Cert.RfIdeal.nD Cert.RfIdeal.τ).loc Cert.RfIdeal.main_arg9))).2.2.2.2.2.2.2.2.2 = (fun _ => 1#1)

def Pre_Dg (m : (ℓ : Loc Cert.Dg.nD Cert.Dg.τ Cert.Dg.sig) → Buf (Elt Bits) ℓ) : Prop :=
  True

def Pre_DgIdeal (m : (ℓ : Loc Cert.DgIdeal.nD Cert.DgIdeal.τ Cert.DgIdeal.sig) → Buf (Elt Ideal) ℓ) : Prop :=
  True

def Pre_DgIdeal_finite_g [hPre_finite_g : Cert.Pre_finite_g.Facts] (m : (ℓ : Loc Cert.DgIdeal.nD Cert.DgIdeal.τ Cert.DgIdeal.sig) → Buf (Elt Ideal) ℓ) : Prop :=
  ∀ c : Dev Cert.DgIdeal.nD,
    (Cert.Pre_finite_g.fn (F := Ideal) (m ((c.tc : Thread Cert.DgIdeal.nD Cert.DgIdeal.τ).loc Cert.DgIdeal.main_arg0)) (m ((c.tc : Thread Cert.DgIdeal.nD Cert.DgIdeal.τ).loc Cert.DgIdeal.main_arg1)) (m ((c.tc : Thread Cert.DgIdeal.nD Cert.DgIdeal.τ).loc Cert.DgIdeal.main_arg2)) (m ((c.tc : Thread Cert.DgIdeal.nD Cert.DgIdeal.τ).loc Cert.DgIdeal.main_arg3)) (m ((c.tc : Thread Cert.DgIdeal.nD Cert.DgIdeal.τ).loc Cert.DgIdeal.main_arg4)) (m ((c.tc : Thread Cert.DgIdeal.nD Cert.DgIdeal.τ).loc Cert.DgIdeal.main_arg5)) (m ((c.tc : Thread Cert.DgIdeal.nD Cert.DgIdeal.τ).loc Cert.DgIdeal.main_arg6)) (m ((c.tc : Thread Cert.DgIdeal.nD Cert.DgIdeal.τ).loc Cert.DgIdeal.main_arg7))).1 = (fun _ => 1#1)
    ∧ (Cert.Pre_finite_g.fn (F := Ideal) (m ((c.tc : Thread Cert.DgIdeal.nD Cert.DgIdeal.τ).loc Cert.DgIdeal.main_arg0)) (m ((c.tc : Thread Cert.DgIdeal.nD Cert.DgIdeal.τ).loc Cert.DgIdeal.main_arg1)) (m ((c.tc : Thread Cert.DgIdeal.nD Cert.DgIdeal.τ).loc Cert.DgIdeal.main_arg2)) (m ((c.tc : Thread Cert.DgIdeal.nD Cert.DgIdeal.τ).loc Cert.DgIdeal.main_arg3)) (m ((c.tc : Thread Cert.DgIdeal.nD Cert.DgIdeal.τ).loc Cert.DgIdeal.main_arg4)) (m ((c.tc : Thread Cert.DgIdeal.nD Cert.DgIdeal.τ).loc Cert.DgIdeal.main_arg5)) (m ((c.tc : Thread Cert.DgIdeal.nD Cert.DgIdeal.τ).loc Cert.DgIdeal.main_arg6)) (m ((c.tc : Thread Cert.DgIdeal.nD Cert.DgIdeal.τ).loc Cert.DgIdeal.main_arg7))).2.1 = (fun _ => 1#1)
    ∧ (Cert.Pre_finite_g.fn (F := Ideal) (m ((c.tc : Thread Cert.DgIdeal.nD Cert.DgIdeal.τ).loc Cert.DgIdeal.main_arg0)) (m ((c.tc : Thread Cert.DgIdeal.nD Cert.DgIdeal.τ).loc Cert.DgIdeal.main_arg1)) (m ((c.tc : Thread Cert.DgIdeal.nD Cert.DgIdeal.τ).loc Cert.DgIdeal.main_arg2)) (m ((c.tc : Thread Cert.DgIdeal.nD Cert.DgIdeal.τ).loc Cert.DgIdeal.main_arg3)) (m ((c.tc : Thread Cert.DgIdeal.nD Cert.DgIdeal.τ).loc Cert.DgIdeal.main_arg4)) (m ((c.tc : Thread Cert.DgIdeal.nD Cert.DgIdeal.τ).loc Cert.DgIdeal.main_arg5)) (m ((c.tc : Thread Cert.DgIdeal.nD Cert.DgIdeal.τ).loc Cert.DgIdeal.main_arg6)) (m ((c.tc : Thread Cert.DgIdeal.nD Cert.DgIdeal.τ).loc Cert.DgIdeal.main_arg7))).2.2.1 = (fun _ => 1#1)
    ∧ (Cert.Pre_finite_g.fn (F := Ideal) (m ((c.tc : Thread Cert.DgIdeal.nD Cert.DgIdeal.τ).loc Cert.DgIdeal.main_arg0)) (m ((c.tc : Thread Cert.DgIdeal.nD Cert.DgIdeal.τ).loc Cert.DgIdeal.main_arg1)) (m ((c.tc : Thread Cert.DgIdeal.nD Cert.DgIdeal.τ).loc Cert.DgIdeal.main_arg2)) (m ((c.tc : Thread Cert.DgIdeal.nD Cert.DgIdeal.τ).loc Cert.DgIdeal.main_arg3)) (m ((c.tc : Thread Cert.DgIdeal.nD Cert.DgIdeal.τ).loc Cert.DgIdeal.main_arg4)) (m ((c.tc : Thread Cert.DgIdeal.nD Cert.DgIdeal.τ).loc Cert.DgIdeal.main_arg5)) (m ((c.tc : Thread Cert.DgIdeal.nD Cert.DgIdeal.τ).loc Cert.DgIdeal.main_arg6)) (m ((c.tc : Thread Cert.DgIdeal.nD Cert.DgIdeal.τ).loc Cert.DgIdeal.main_arg7))).2.2.2.1 = (fun _ => 1#1)
    ∧ (Cert.Pre_finite_g.fn (F := Ideal) (m ((c.tc : Thread Cert.DgIdeal.nD Cert.DgIdeal.τ).loc Cert.DgIdeal.main_arg0)) (m ((c.tc : Thread Cert.DgIdeal.nD Cert.DgIdeal.τ).loc Cert.DgIdeal.main_arg1)) (m ((c.tc : Thread Cert.DgIdeal.nD Cert.DgIdeal.τ).loc Cert.DgIdeal.main_arg2)) (m ((c.tc : Thread Cert.DgIdeal.nD Cert.DgIdeal.τ).loc Cert.DgIdeal.main_arg3)) (m ((c.tc : Thread Cert.DgIdeal.nD Cert.DgIdeal.τ).loc Cert.DgIdeal.main_arg4)) (m ((c.tc : Thread Cert.DgIdeal.nD Cert.DgIdeal.τ).loc Cert.DgIdeal.main_arg5)) (m ((c.tc : Thread Cert.DgIdeal.nD Cert.DgIdeal.τ).loc Cert.DgIdeal.main_arg6)) (m ((c.tc : Thread Cert.DgIdeal.nD Cert.DgIdeal.τ).loc Cert.DgIdeal.main_arg7))).2.2.2.2 = (fun _ => 1#1)

def Pre_RgIdeal (m : (ℓ : Loc Cert.RgIdeal.nD Cert.RgIdeal.τ Cert.RgIdeal.sig) → Buf (Elt Ideal) ℓ) : Prop :=
  True

def Pre_RgIdeal_finite_g [hPre_finite_g : Cert.Pre_finite_g.Facts] (m : (ℓ : Loc Cert.RgIdeal.nD Cert.RgIdeal.τ Cert.RgIdeal.sig) → Buf (Elt Ideal) ℓ) : Prop :=
  ∀ c : Dev Cert.RgIdeal.nD,
    (Cert.Pre_finite_g.fn (F := Ideal) (m ((c.tc : Thread Cert.RgIdeal.nD Cert.RgIdeal.τ).loc Cert.RgIdeal.main_arg0)) (m ((c.tc : Thread Cert.RgIdeal.nD Cert.RgIdeal.τ).loc Cert.RgIdeal.main_arg1)) (m ((c.tc : Thread Cert.RgIdeal.nD Cert.RgIdeal.τ).loc Cert.RgIdeal.main_arg2)) (m ((c.tc : Thread Cert.RgIdeal.nD Cert.RgIdeal.τ).loc Cert.RgIdeal.main_arg3)) (m ((c.tc : Thread Cert.RgIdeal.nD Cert.RgIdeal.τ).loc Cert.RgIdeal.main_arg4)) (m ((c.tc : Thread Cert.RgIdeal.nD Cert.RgIdeal.τ).loc Cert.RgIdeal.main_arg5)) (m ((c.tc : Thread Cert.RgIdeal.nD Cert.RgIdeal.τ).loc Cert.RgIdeal.main_arg6)) (m ((c.tc : Thread Cert.RgIdeal.nD Cert.RgIdeal.τ).loc Cert.RgIdeal.main_arg7))).1 = (fun _ => 1#1)
    ∧ (Cert.Pre_finite_g.fn (F := Ideal) (m ((c.tc : Thread Cert.RgIdeal.nD Cert.RgIdeal.τ).loc Cert.RgIdeal.main_arg0)) (m ((c.tc : Thread Cert.RgIdeal.nD Cert.RgIdeal.τ).loc Cert.RgIdeal.main_arg1)) (m ((c.tc : Thread Cert.RgIdeal.nD Cert.RgIdeal.τ).loc Cert.RgIdeal.main_arg2)) (m ((c.tc : Thread Cert.RgIdeal.nD Cert.RgIdeal.τ).loc Cert.RgIdeal.main_arg3)) (m ((c.tc : Thread Cert.RgIdeal.nD Cert.RgIdeal.τ).loc Cert.RgIdeal.main_arg4)) (m ((c.tc : Thread Cert.RgIdeal.nD Cert.RgIdeal.τ).loc Cert.RgIdeal.main_arg5)) (m ((c.tc : Thread Cert.RgIdeal.nD Cert.RgIdeal.τ).loc Cert.RgIdeal.main_arg6)) (m ((c.tc : Thread Cert.RgIdeal.nD Cert.RgIdeal.τ).loc Cert.RgIdeal.main_arg7))).2.1 = (fun _ => 1#1)
    ∧ (Cert.Pre_finite_g.fn (F := Ideal) (m ((c.tc : Thread Cert.RgIdeal.nD Cert.RgIdeal.τ).loc Cert.RgIdeal.main_arg0)) (m ((c.tc : Thread Cert.RgIdeal.nD Cert.RgIdeal.τ).loc Cert.RgIdeal.main_arg1)) (m ((c.tc : Thread Cert.RgIdeal.nD Cert.RgIdeal.τ).loc Cert.RgIdeal.main_arg2)) (m ((c.tc : Thread Cert.RgIdeal.nD Cert.RgIdeal.τ).loc Cert.RgIdeal.main_arg3)) (m ((c.tc : Thread Cert.RgIdeal.nD Cert.RgIdeal.τ).loc Cert.RgIdeal.main_arg4)) (m ((c.tc : Thread Cert.RgIdeal.nD Cert.RgIdeal.τ).loc Cert.RgIdeal.main_arg5)) (m ((c.tc : Thread Cert.RgIdeal.nD Cert.RgIdeal.τ).loc Cert.RgIdeal.main_arg6)) (m ((c.tc : Thread Cert.RgIdeal.nD Cert.RgIdeal.τ).loc Cert.RgIdeal.main_arg7))).2.2.1 = (fun _ => 1#1)
    ∧ (Cert.Pre_finite_g.fn (F := Ideal) (m ((c.tc : Thread Cert.RgIdeal.nD Cert.RgIdeal.τ).loc Cert.RgIdeal.main_arg0)) (m ((c.tc : Thread Cert.RgIdeal.nD Cert.RgIdeal.τ).loc Cert.RgIdeal.main_arg1)) (m ((c.tc : Thread Cert.RgIdeal.nD Cert.RgIdeal.τ).loc Cert.RgIdeal.main_arg2)) (m ((c.tc : Thread Cert.RgIdeal.nD Cert.RgIdeal.τ).loc Cert.RgIdeal.main_arg3)) (m ((c.tc : Thread Cert.RgIdeal.nD Cert.RgIdeal.τ).loc Cert.RgIdeal.main_arg4)) (m ((c.tc : Thread Cert.RgIdeal.nD Cert.RgIdeal.τ).loc Cert.RgIdeal.main_arg5)) (m ((c.tc : Thread Cert.RgIdeal.nD Cert.RgIdeal.τ).loc Cert.RgIdeal.main_arg6)) (m ((c.tc : Thread Cert.RgIdeal.nD Cert.RgIdeal.τ).loc Cert.RgIdeal.main_arg7))).2.2.2.1 = (fun _ => 1#1)
    ∧ (Cert.Pre_finite_g.fn (F := Ideal) (m ((c.tc : Thread Cert.RgIdeal.nD Cert.RgIdeal.τ).loc Cert.RgIdeal.main_arg0)) (m ((c.tc : Thread Cert.RgIdeal.nD Cert.RgIdeal.τ).loc Cert.RgIdeal.main_arg1)) (m ((c.tc : Thread Cert.RgIdeal.nD Cert.RgIdeal.τ).loc Cert.RgIdeal.main_arg2)) (m ((c.tc : Thread Cert.RgIdeal.nD Cert.RgIdeal.τ).loc Cert.RgIdeal.main_arg3)) (m ((c.tc : Thread Cert.RgIdeal.nD Cert.RgIdeal.τ).loc Cert.RgIdeal.main_arg4)) (m ((c.tc : Thread Cert.RgIdeal.nD Cert.RgIdeal.τ).loc Cert.RgIdeal.main_arg5)) (m ((c.tc : Thread Cert.RgIdeal.nD Cert.RgIdeal.τ).loc Cert.RgIdeal.main_arg6)) (m ((c.tc : Thread Cert.RgIdeal.nD Cert.RgIdeal.τ).loc Cert.RgIdeal.main_arg7))).2.2.2.2 = (fun _ => 1#1)

def Pre_Dm (m : (ℓ : Loc Cert.Dm.nD Cert.Dm.τ Cert.Dm.sig) → Buf (Elt Bits) ℓ) : Prop :=
  True

def Pre_DmIdeal (m : (ℓ : Loc Cert.DmIdeal.nD Cert.DmIdeal.τ Cert.DmIdeal.sig) → Buf (Elt Ideal) ℓ) : Prop :=
  True

def Pre_RmIdeal (m : (ℓ : Loc Cert.RmIdeal.nD Cert.RmIdeal.τ Cert.RmIdeal.sig) → Buf (Elt Ideal) ℓ) : Prop :=
  True

def Pre_Og (m : (ℓ : Loc Cert.Og.nD Cert.Og.τ Cert.Og.sig) → Buf (Elt Bits) ℓ) : Prop :=
  True

def Pre_OgIdeal (m : (ℓ : Loc Cert.OgIdeal.nD Cert.OgIdeal.τ Cert.OgIdeal.sig) → Buf (Elt Ideal) ℓ) : Prop :=
  True

def Pre_QgIdeal (m : (ℓ : Loc Cert.QgIdeal.nD Cert.QgIdeal.τ Cert.QgIdeal.sig) → Buf (Elt Ideal) ℓ) : Prop :=
  True

def Pre_Oi (m : (ℓ : Loc Cert.Oi.nD Cert.Oi.τ Cert.Oi.sig) → Buf (Elt Bits) ℓ) : Prop :=
  True

def Pre_OiIdeal (m : (ℓ : Loc Cert.OiIdeal.nD Cert.OiIdeal.τ Cert.OiIdeal.sig) → Buf (Elt Ideal) ℓ) : Prop :=
  True

def Pre_QiIdeal (m : (ℓ : Loc Cert.QiIdeal.nD Cert.QiIdeal.τ Cert.QiIdeal.sig) → Buf (Elt Ideal) ℓ) : Prop :=
  True

def Pre_Od (m : (ℓ : Loc Cert.Od.nD Cert.Od.τ Cert.Od.sig) → Buf (Elt Bits) ℓ) : Prop :=
  True

def Pre_OdIdeal (m : (ℓ : Loc Cert.OdIdeal.nD Cert.OdIdeal.τ Cert.OdIdeal.sig) → Buf (Elt Ideal) ℓ) : Prop :=
  True

def Pre_QdIdeal (m : (ℓ : Loc Cert.QdIdeal.nD Cert.QdIdeal.τ Cert.QdIdeal.sig) → Buf (Elt Ideal) ℓ) : Prop :=
  True

def Pre_Oo (m : (ℓ : Loc Cert.Oo.nD Cert.Oo.τ Cert.Oo.sig) → Buf (Elt Bits) ℓ) : Prop :=
  True

def Pre_OoIdeal (m : (ℓ : Loc Cert.OoIdeal.nD Cert.OoIdeal.τ Cert.OoIdeal.sig) → Buf (Elt Ideal) ℓ) : Prop :=
  True

def Pre_QoIdeal (m : (ℓ : Loc Cert.QoIdeal.nD Cert.QoIdeal.τ Cert.QoIdeal.sig) → Buf (Elt Ideal) ℓ) : Prop :=
  True

def Pre_Oc (m : (ℓ : Loc Cert.Oc.nD Cert.Oc.τ Cert.Oc.sig) → Buf (Elt Bits) ℓ) : Prop :=
  True

def Pre_OcIdeal (m : (ℓ : Loc Cert.OcIdeal.nD Cert.OcIdeal.τ Cert.OcIdeal.sig) → Buf (Elt Ideal) ℓ) : Prop :=
  True

def Pre_QcIdeal (m : (ℓ : Loc Cert.QcIdeal.nD Cert.QcIdeal.τ Cert.QcIdeal.sig) → Buf (Elt Ideal) ℓ) : Prop :=
  True

def Pre_Oh (m : (ℓ : Loc Cert.Oh.nD Cert.Oh.τ Cert.Oh.sig) → Buf (Elt Bits) ℓ) : Prop :=
  True

def Pre_OhIdeal (m : (ℓ : Loc Cert.OhIdeal.nD Cert.OhIdeal.τ Cert.OhIdeal.sig) → Buf (Elt Ideal) ℓ) : Prop :=
  True

def Pre_QhIdeal (m : (ℓ : Loc Cert.QhIdeal.nD Cert.QhIdeal.τ Cert.QhIdeal.sig) → Buf (Elt Ideal) ℓ) : Prop :=
  True

def Pre_Ok (m : (ℓ : Loc Cert.Ok.nD Cert.Ok.τ Cert.Ok.sig) → Buf (Elt Bits) ℓ) : Prop :=
  True

def Pre_OkIdeal (m : (ℓ : Loc Cert.OkIdeal.nD Cert.OkIdeal.τ Cert.OkIdeal.sig) → Buf (Elt Ideal) ℓ) : Prop :=
  True

def Pre_QkIdeal (m : (ℓ : Loc Cert.QkIdeal.nD Cert.QkIdeal.τ Cert.QkIdeal.sig) → Buf (Elt Ideal) ℓ) : Prop :=
  True

def Pre_Oa (m : (ℓ : Loc Cert.Oa.nD Cert.Oa.τ Cert.Oa.sig) → Buf (Elt Bits) ℓ) : Prop :=
  True

def Pre_OaIdeal (m : (ℓ : Loc Cert.OaIdeal.nD Cert.OaIdeal.τ Cert.OaIdeal.sig) → Buf (Elt Ideal) ℓ) : Prop :=
  True

def Pre_QaIdeal (m : (ℓ : Loc Cert.QaIdeal.nD Cert.QaIdeal.τ Cert.QaIdeal.sig) → Buf (Elt Ideal) ℓ) : Prop :=
  True

def Pre_Os (m : (ℓ : Loc Cert.Os.nD Cert.Os.τ Cert.Os.sig) → Buf (Elt Bits) ℓ) : Prop :=
  True

def Pre_OsIdeal (m : (ℓ : Loc Cert.OsIdeal.nD Cert.OsIdeal.τ Cert.OsIdeal.sig) → Buf (Elt Ideal) ℓ) : Prop :=
  True

def Pre_QsIdeal (m : (ℓ : Loc Cert.QsIdeal.nD Cert.QsIdeal.τ Cert.QsIdeal.sig) → Buf (Elt Ideal) ℓ) : Prop :=
  True

def Pre_Op (m : (ℓ : Loc Cert.Op.nD Cert.Op.τ Cert.Op.sig) → Buf (Elt Bits) ℓ) : Prop :=
  True

def Pre_OpIdeal (m : (ℓ : Loc Cert.OpIdeal.nD Cert.OpIdeal.τ Cert.OpIdeal.sig) → Buf (Elt Ideal) ℓ) : Prop :=
  True

def Pre_QpIdeal (m : (ℓ : Loc Cert.QpIdeal.nD Cert.QpIdeal.τ Cert.QpIdeal.sig) → Buf (Elt Ideal) ℓ) : Prop :=
  True

def Pre_Sl (m : (ℓ : Loc Cert.Sl.nD Cert.Sl.τ Cert.Sl.sig) → Buf (Elt Bits) ℓ) : Prop :=
  True

def Pre_SlIdeal (m : (ℓ : Loc Cert.SlIdeal.nD Cert.SlIdeal.τ Cert.SlIdeal.sig) → Buf (Elt Ideal) ℓ) : Prop :=
  True

def Pre_TlIdeal (m : (ℓ : Loc Cert.TlIdeal.nD Cert.TlIdeal.τ Cert.TlIdeal.sig) → Buf (Elt Ideal) ℓ) : Prop :=
  True

def Pre_Sk (m : (ℓ : Loc Cert.Sk.nD Cert.Sk.τ Cert.Sk.sig) → Buf (Elt Bits) ℓ) : Prop :=
  True

def Pre_SkIdeal (m : (ℓ : Loc Cert.SkIdeal.nD Cert.SkIdeal.τ Cert.SkIdeal.sig) → Buf (Elt Ideal) ℓ) : Prop :=
  True

def Pre_TkIdeal (m : (ℓ : Loc Cert.TkIdeal.nD Cert.TkIdeal.τ Cert.TkIdeal.sig) → Buf (Elt Ideal) ℓ) : Prop :=
  True

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2)
      ∧ r.2.mem ((c.tc : Thread Cert.Dw.nD Cert.Dw.τ).loc Cert.Dw.main_arg3) = m ((c.tc : Thread Cert.Dw.nD Cert.Dw.τ).loc Cert.Dw.main_arg3)
      ∧ r.2.mem ((c.tc : Thread Cert.Dw.nD Cert.Dw.τ).loc Cert.Dw.main_arg4) = m ((c.tc : Thread Cert.Dw.nD Cert.Dw.τ).loc Cert.Dw.main_arg4)
      ∧ r.2.mem ((c.tc : Thread Cert.Dw.nD Cert.Dw.τ).loc Cert.Dw.main_arg5) = m ((c.tc : Thread Cert.Dw.nD Cert.Dw.τ).loc Cert.Dw.main_arg5))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
      ∧ r.2.mem ((c.tc : Thread Cert.DwIdeal.nD Cert.DwIdeal.τ).loc Cert.DwIdeal.main_arg3) = m ((c.tc : Thread Cert.DwIdeal.nD Cert.DwIdeal.τ).loc Cert.DwIdeal.main_arg3)
      ∧ r.2.mem ((c.tc : Thread Cert.DwIdeal.nD Cert.DwIdeal.τ).loc Cert.DwIdeal.main_arg4) = m ((c.tc : Thread Cert.DwIdeal.nD Cert.DwIdeal.τ).loc Cert.DwIdeal.main_arg4)
      ∧ r.2.mem ((c.tc : Thread Cert.DwIdeal.nD Cert.DwIdeal.τ).loc Cert.DwIdeal.main_arg5) = m ((c.tc : Thread Cert.DwIdeal.nD Cert.DwIdeal.τ).loc Cert.DwIdeal.main_arg5))
      ∧ r.2.sem = fun _ => 0)

def quiescent_RwIdeal [hRwIdeal : Cert.RwIdeal.Facts] : Prop :=
  ∀ (m : (ℓ : Loc Cert.RwIdeal.nD Cert.RwIdeal.τ Cert.RwIdeal.sig) → Buf (Elt Ideal) ℓ) (g : Dev Cert.RwIdeal.nD → PrngReg), Pre_RwIdeal m →
    θ_run (Cert.RwIdeal.defs (F := Ideal)) (onTc (τ := Cert.RwIdeal.τ) (Cert.RwIdeal.main (F := Ideal))) ⟨m, fun _ => 0, g⟩ (fun r => (∀ c : Dev Cert.RwIdeal.nD,
      r.2.mem ((c.tc : Thread Cert.RwIdeal.nD Cert.RwIdeal.τ).loc Cert.RwIdeal.main_arg0) = m ((c.tc : Thread Cert.RwIdeal.nD Cert.RwIdeal.τ).loc Cert.RwIdeal.main_arg0)
      ∧ r.2.mem ((c.tc : Thread Cert.RwIdeal.nD Cert.RwIdeal.τ).loc Cert.RwIdeal.main_arg1) = m ((c.tc : Thread Cert.RwIdeal.nD Cert.RwIdeal.τ).loc Cert.RwIdeal.main_arg1)
      ∧ r.2.mem ((c.tc : Thread Cert.RwIdeal.nD Cert.RwIdeal.τ).loc Cert.RwIdeal.main_arg2) = m ((c.tc : Thread Cert.RwIdeal.nD Cert.RwIdeal.τ).loc Cert.RwIdeal.main_arg2)
      ∧ r.2.mem ((c.tc : Thread Cert.RwIdeal.nD Cert.RwIdeal.τ).loc Cert.RwIdeal.main_arg3) = m ((c.tc : Thread Cert.RwIdeal.nD Cert.RwIdeal.τ).loc Cert.RwIdeal.main_arg3)
      ∧ r.2.mem ((c.tc : Thread Cert.RwIdeal.nD Cert.RwIdeal.τ).loc Cert.RwIdeal.main_arg4) = m ((c.tc : Thread Cert.RwIdeal.nD Cert.RwIdeal.τ).loc Cert.RwIdeal.main_arg4)
      ∧ r.2.mem ((c.tc : Thread Cert.RwIdeal.nD Cert.RwIdeal.τ).loc Cert.RwIdeal.main_arg5) = m ((c.tc : Thread Cert.RwIdeal.nD Cert.RwIdeal.τ).loc Cert.RwIdeal.main_arg5))
      ∧ r.2.sem = fun _ => 0)

def quiescent_Da [hDa : Cert.Da.Facts] : Prop :=
  ∀ (m : (ℓ : Loc Cert.Da.nD Cert.Da.τ Cert.Da.sig) → Buf (Elt Bits) ℓ) (g : Dev Cert.Da.nD → PrngReg), Pre_Da m →
    θ_run (Cert.Da.defs (F := Bits)) (onTc (τ := Cert.Da.τ) (Cert.Da.main (F := Bits))) ⟨m, fun _ => 0, g⟩ (fun r => (∀ c : Dev Cert.Da.nD,
      r.2.mem ((c.tc : Thread Cert.Da.nD Cert.Da.τ).loc Cert.Da.main_arg0) = m ((c.tc : Thread Cert.Da.nD Cert.Da.τ).loc Cert.Da.main_arg0)
      ∧ r.2.mem ((c.tc : Thread Cert.Da.nD Cert.Da.τ).loc Cert.Da.main_arg1) = m ((c.tc : Thread Cert.Da.nD Cert.Da.τ).loc Cert.Da.main_arg1)
      ∧ r.2.mem ((c.tc : Thread Cert.Da.nD Cert.Da.τ).loc Cert.Da.main_arg2) = m ((c.tc : Thread Cert.Da.nD Cert.Da.τ).loc Cert.Da.main_arg2)
      ∧ r.2.mem ((c.tc : Thread Cert.Da.nD Cert.Da.τ).loc Cert.Da.main_arg3) = m ((c.tc : Thread Cert.Da.nD Cert.Da.τ).loc Cert.Da.main_arg3)
      ∧ r.2.mem ((c.tc : Thread Cert.Da.nD Cert.Da.τ).loc Cert.Da.main_arg4) = m ((c.tc : Thread Cert.Da.nD Cert.Da.τ).loc Cert.Da.main_arg4)
      ∧ r.2.mem ((c.tc : Thread Cert.Da.nD Cert.Da.τ).loc Cert.Da.main_arg5) = m ((c.tc : Thread Cert.Da.nD Cert.Da.τ).loc Cert.Da.main_arg5))
      ∧ r.2.sem = fun _ => 0)

def quiescent_DaIdeal [hDaIdeal : Cert.DaIdeal.Facts] : Prop :=
  ∀ (m : (ℓ : Loc Cert.DaIdeal.nD Cert.DaIdeal.τ Cert.DaIdeal.sig) → Buf (Elt Ideal) ℓ) (g : Dev Cert.DaIdeal.nD → PrngReg), Pre_DaIdeal m →
    θ_run (Cert.DaIdeal.defs (F := Ideal)) (onTc (τ := Cert.DaIdeal.τ) (Cert.DaIdeal.main (F := Ideal))) ⟨m, fun _ => 0, g⟩ (fun r => (∀ c : Dev Cert.DaIdeal.nD,
      r.2.mem ((c.tc : Thread Cert.DaIdeal.nD Cert.DaIdeal.τ).loc Cert.DaIdeal.main_arg0) = m ((c.tc : Thread Cert.DaIdeal.nD Cert.DaIdeal.τ).loc Cert.DaIdeal.main_arg0)
      ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
      ∧ r.2.mem ((c.tc : Thread Cert.DaIdeal.nD Cert.DaIdeal.τ).loc Cert.DaIdeal.main_arg2) = m ((c.tc : Thread Cert.DaIdeal.nD Cert.DaIdeal.τ).loc Cert.DaIdeal.main_arg2)
      ∧ r.2.mem ((c.tc : Thread Cert.DaIdeal.nD Cert.DaIdeal.τ).loc Cert.DaIdeal.main_arg3) = m ((c.tc : Thread Cert.DaIdeal.nD Cert.DaIdeal.τ).loc Cert.DaIdeal.main_arg3)
      ∧ r.2.mem ((c.tc : Thread Cert.DaIdeal.nD Cert.DaIdeal.τ).loc Cert.DaIdeal.main_arg4) = m ((c.tc : Thread Cert.DaIdeal.nD Cert.DaIdeal.τ).loc Cert.DaIdeal.main_arg4)
      ∧ r.2.mem ((c.tc : Thread Cert.DaIdeal.nD Cert.DaIdeal.τ).loc Cert.DaIdeal.main_arg5) = m ((c.tc : Thread Cert.DaIdeal.nD Cert.DaIdeal.τ).loc Cert.DaIdeal.main_arg5))
      ∧ r.2.sem = fun _ => 0)

def quiescent_DaIdeal_pre_finite_a [hDaIdeal : Cert.DaIdeal.Facts] [hPre_finite_a : Cert.Pre_finite_a.Facts] : Prop :=
  ∀ (m : (ℓ : Loc Cert.DaIdeal.nD Cert.DaIdeal.τ Cert.DaIdeal.sig) → Buf (Elt Ideal) ℓ) (g : Dev Cert.DaIdeal.nD → PrngReg), Pre_DaIdeal_finite_a m →
    θ_run (Cert.DaIdeal.defs (F := Ideal)) (onTc (τ := Cert.DaIdeal.τ) (Cert.DaIdeal.main (F := Ideal))) ⟨m, fun _ => 0, g⟩ (fun r => (∀ c : Dev Cert.DaIdeal.nD,
      r.2.mem ((c.tc : Thread Cert.DaIdeal.nD Cert.DaIdeal.τ).loc Cert.DaIdeal.main_arg0) = m ((c.tc : Thread Cert.DaIdeal.nD Cert.DaIdeal.τ).loc Cert.DaIdeal.main_arg0)
      ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
      ∧ r.2.mem ((c.tc : Thread Cert.DaIdeal.nD Cert.DaIdeal.τ).loc Cert.DaIdeal.main_arg2) = m ((c.tc : Thread Cert.DaIdeal.nD Cert.DaIdeal.τ).loc Cert.DaIdeal.main_arg2)
      ∧ r.2.mem ((c.tc : Thread Cert.DaIdeal.nD Cert.DaIdeal.τ).loc Cert.DaIdeal.main_arg3) = m ((c.tc : Thread Cert.DaIdeal.nD Cert.DaIdeal.τ).loc Cert.DaIdeal.main_arg3)
      ∧ r.2.mem ((c.tc : Thread Cert.DaIdeal.nD Cert.DaIdeal.τ).loc Cert.DaIdeal.main_arg4) = m ((c.tc : Thread Cert.DaIdeal.nD Cert.DaIdeal.τ).loc Cert.DaIdeal.main_arg4)
      ∧ r.2.mem ((c.tc : Thread Cert.DaIdeal.nD Cert.DaIdeal.τ).loc Cert.DaIdeal.main_arg5) = m ((c.tc : Thread Cert.DaIdeal.nD Cert.DaIdeal.τ).loc Cert.DaIdeal.main_arg5))
      ∧ r.2.sem = fun _ => 0)

def quiescent_RaIdeal [hRaIdeal : Cert.RaIdeal.Facts] : Prop :=
  ∀ (m : (ℓ : Loc Cert.RaIdeal.nD Cert.RaIdeal.τ Cert.RaIdeal.sig) → Buf (Elt Ideal) ℓ) (g : Dev Cert.RaIdeal.nD → PrngReg), Pre_RaIdeal m →
    θ_run (Cert.RaIdeal.defs (F := Ideal)) (onTc (τ := Cert.RaIdeal.τ) (Cert.RaIdeal.main (F := Ideal))) ⟨m, fun _ => 0, g⟩ (fun r => (∀ c : Dev Cert.RaIdeal.nD,
      r.2.mem ((c.tc : Thread Cert.RaIdeal.nD Cert.RaIdeal.τ).loc Cert.RaIdeal.main_arg0) = m ((c.tc : Thread Cert.RaIdeal.nD Cert.RaIdeal.τ).loc Cert.RaIdeal.main_arg0)
      ∧ r.2.mem ((c.tc : Thread Cert.RaIdeal.nD Cert.RaIdeal.τ).loc Cert.RaIdeal.main_arg1) = m ((c.tc : Thread Cert.RaIdeal.nD Cert.RaIdeal.τ).loc Cert.RaIdeal.main_arg1)
      ∧ r.2.mem ((c.tc : Thread Cert.RaIdeal.nD Cert.RaIdeal.τ).loc Cert.RaIdeal.main_arg2) = m ((c.tc : Thread Cert.RaIdeal.nD Cert.RaIdeal.τ).loc Cert.RaIdeal.main_arg2)
      ∧ r.2.mem ((c.tc : Thread Cert.RaIdeal.nD Cert.RaIdeal.τ).loc Cert.RaIdeal.main_arg3) = m ((c.tc : Thread Cert.RaIdeal.nD Cert.RaIdeal.τ).loc Cert.RaIdeal.main_arg3)
      ∧ r.2.mem ((c.tc : Thread Cert.RaIdeal.nD Cert.RaIdeal.τ).loc Cert.RaIdeal.main_arg4) = m ((c.tc : Thread Cert.RaIdeal.nD Cert.RaIdeal.τ).loc Cert.RaIdeal.main_arg4)
      ∧ r.2.mem ((c.tc : Thread Cert.RaIdeal.nD Cert.RaIdeal.τ).loc Cert.RaIdeal.main_arg5) = m ((c.tc : Thread Cert.RaIdeal.nD Cert.RaIdeal.τ).loc Cert.RaIdeal.main_arg5))
      ∧ r.2.sem = fun _ => 0)

def quiescent_RaIdeal_pre_finite_a [hRaIdeal : Cert.RaIdeal.Facts] [hPre_finite_a : Cert.Pre_finite_a.Facts] : Prop :=
  ∀ (m : (ℓ : Loc Cert.RaIdeal.nD Cert.RaIdeal.τ Cert.RaIdeal.sig) → Buf (Elt Ideal) ℓ) (g : Dev Cert.RaIdeal.nD → PrngReg), Pre_RaIdeal_finite_a m →
    θ_run (Cert.RaIdeal.defs (F := Ideal)) (onTc (τ := Cert.RaIdeal.τ) (Cert.RaIdeal.main (F := Ideal))) ⟨m, fun _ => 0, g⟩ (fun r => (∀ c : Dev Cert.RaIdeal.nD,
      r.2.mem ((c.tc : Thread Cert.RaIdeal.nD Cert.RaIdeal.τ).loc Cert.RaIdeal.main_arg0) = m ((c.tc : Thread Cert.RaIdeal.nD Cert.RaIdeal.τ).loc Cert.RaIdeal.main_arg0)
      ∧ r.2.mem ((c.tc : Thread Cert.RaIdeal.nD Cert.RaIdeal.τ).loc Cert.RaIdeal.main_arg1) = m ((c.tc : Thread Cert.RaIdeal.nD Cert.RaIdeal.τ).loc Cert.RaIdeal.main_arg1)
      ∧ r.2.mem ((c.tc : Thread Cert.RaIdeal.nD Cert.RaIdeal.τ).loc Cert.RaIdeal.main_arg2) = m ((c.tc : Thread Cert.RaIdeal.nD Cert.RaIdeal.τ).loc Cert.RaIdeal.main_arg2)
      ∧ r.2.mem ((c.tc : Thread Cert.RaIdeal.nD Cert.RaIdeal.τ).loc Cert.RaIdeal.main_arg3) = m ((c.tc : Thread Cert.RaIdeal.nD Cert.RaIdeal.τ).loc Cert.RaIdeal.main_arg3)
      ∧ r.2.mem ((c.tc : Thread Cert.RaIdeal.nD Cert.RaIdeal.τ).loc Cert.RaIdeal.main_arg4) = m ((c.tc : Thread Cert.RaIdeal.nD Cert.RaIdeal.τ).loc Cert.RaIdeal.main_arg4)
      ∧ r.2.mem ((c.tc : Thread Cert.RaIdeal.nD Cert.RaIdeal.τ).loc Cert.RaIdeal.main_arg5) = m ((c.tc : Thread Cert.RaIdeal.nD Cert.RaIdeal.τ).loc Cert.RaIdeal.main_arg5))
      ∧ r.2.sem = fun _ => 0)

def quiescent_Db [hDb : Cert.Db.Facts] : Prop :=
  ∀ (m : (ℓ : Loc Cert.Db.nD Cert.Db.τ Cert.Db.sig) → Buf (Elt Bits) ℓ) (g : Dev Cert.Db.nD → PrngReg), Pre_Db m →
    θ_run (Cert.Db.defs (F := Bits)) (onTc (τ := Cert.Db.τ) (Cert.Db.main (F := Bits))) ⟨m, fun _ => 0, g⟩ (fun r => (∀ c : Dev Cert.Db.nD,
      r.2.mem ((c.tc : Thread Cert.Db.nD Cert.Db.τ).loc Cert.Db.main_arg0) = m ((c.tc : Thread Cert.Db.nD Cert.Db.τ).loc Cert.Db.main_arg0)
      ∧ r.2.mem ((c.tc : Thread Cert.Db.nD Cert.Db.τ).loc Cert.Db.main_arg1) = m ((c.tc : Thread Cert.Db.nD Cert.Db.τ).loc Cert.Db.main_arg1)
      ∧ r.2.mem ((c.tc : Thread Cert.Db.nD Cert.Db.τ).loc Cert.Db.main_arg2) = m ((c.tc : Thread Cert.Db.nD Cert.Db.τ).loc Cert.Db.main_arg2)
      ∧ r.2.mem ((c.tc : Thread Cert.Db.nD Cert.Db.τ).loc Cert.Db.main_arg3) = m ((c.tc : Thread Cert.Db.nD Cert.Db.τ).loc Cert.Db.main_arg3)
      ∧ r.2.mem ((c.tc : Thread Cert.Db.nD Cert.Db.τ).loc Cert.Db.main_arg4) = m ((c.tc : Thread Cert.Db.nD Cert.Db.τ).loc Cert.Db.main_arg4)
      ∧ r.2.mem ((c.tc : Thread Cert.Db.nD Cert.Db.τ).loc Cert.Db.main_arg5) = m ((c.tc : Thread Cert.Db.nD Cert.Db.τ).loc Cert.Db.main_arg5)
      ∧ r.2.mem ((c.tc : Thread Cert.Db.nD Cert.Db.τ).loc Cert.Db.main_arg6) = m ((c.tc : Thread Cert.Db.nD Cert.Db.τ).loc Cert.Db.main_arg6)
      ∧ r.2.mem ((c.tc : Thread Cert.Db.nD Cert.Db.τ).loc Cert.Db.main_arg7) = m ((c.tc : Thread Cert.Db.nD Cert.Db.τ).loc Cert.Db.main_arg7)
      ∧ r.2.mem ((c.tc : Thread Cert.Db.nD Cert.Db.τ).loc Cert.Db.main_arg8) = m ((c.tc : Thread Cert.Db.nD Cert.Db.τ).loc Cert.Db.main_arg8)
      ∧ r.2.mem ((c.tc : Thread Cert.Db.nD Cert.Db.τ).loc Cert.Db.main_arg9) = m ((c.tc : Thread Cert.Db.nD Cert.Db.τ).loc Cert.Db.main_arg9))
      ∧ r.2.sem = fun _ => 0)

def quiescent_DbIdeal [hDbIdeal : Cert.DbIdeal.Facts] : Prop :=
  ∀ (m : (ℓ : Loc Cert.DbIdeal.nD Cert.DbIdeal.τ Cert.DbIdeal.sig) → Buf (Elt Ideal) ℓ) (g : Dev Cert.DbIdeal.nD → PrngReg), Pre_DbIdeal m →
    θ_run (Cert.DbIdeal.defs (F := Ideal)) (onTc (τ := Cert.DbIdeal.τ) (Cert.DbIdeal.main (F := Ideal))) ⟨m, fun _ => 0, g⟩ (fun r => (∀ c : Dev Cert.DbIdeal.nD,
      r.2.mem ((c.tc : Thread Cert.DbIdeal.nD Cert.DbIdeal.τ).loc Cert.DbIdeal.main_arg0) = m ((c.tc : Thread Cert.DbIdeal.nD Cert.DbIdeal.τ).loc Cert.DbIdeal.main_arg0)
      ∧ r.2.mem ((c.tc : Thread Cert.DbIdeal.nD Cert.DbIdeal.τ).loc Cert.DbIdeal.main_arg1) = m ((c.tc : Thread Cert.DbIdeal.nD Cert.DbIdeal.τ).loc Cert.DbIdeal.main_arg1)
      ∧ r.2.mem ((c.tc : Thread Cert.DbIdeal.nD Cert.DbIdeal.τ).loc Cert.DbIdeal.main_arg2) = m ((c.tc : Thread Cert.DbIdeal.nD Cert.DbIdeal.τ).loc Cert.DbIdeal.main_arg2)
      ∧ r.2.mem ((c.tc : Thread Cert.DbIdeal.nD Cert.DbIdeal.τ).loc Cert.DbIdeal.main_arg3) = m ((c.tc : Thread Cert.DbIdeal.nD Cert.DbIdeal.τ).loc Cert.DbIdeal.main_arg3)
      ∧ r.2.mem ((c.tc : Thread Cert.DbIdeal.nD Cert.DbIdeal.τ).loc Cert.DbIdeal.main_arg4) = m ((c.tc : Thread Cert.DbIdeal.nD Cert.DbIdeal.τ).loc Cert.DbIdeal.main_arg4)
      ∧ r.2.mem ((c.tc : Thread Cert.DbIdeal.nD Cert.DbIdeal.τ).loc Cert.DbIdeal.main_arg5) = m ((c.tc : Thread Cert.DbIdeal.nD Cert.DbIdeal.τ).loc Cert.DbIdeal.main_arg5)
      ∧ r.2.mem ((c.tc : Thread Cert.DbIdeal.nD Cert.DbIdeal.τ).loc Cert.DbIdeal.main_arg6) = m ((c.tc : Thread Cert.DbIdeal.nD Cert.DbIdeal.τ).loc Cert.DbIdeal.main_arg6)
      ∧ r.2.mem ((c.tc : Thread Cert.DbIdeal.nD Cert.DbIdeal.τ).loc Cert.DbIdeal.main_arg7) = m ((c.tc : Thread Cert.DbIdeal.nD Cert.DbIdeal.τ).loc Cert.DbIdeal.main_arg7)
      ∧ r.2.mem ((c.tc : Thread Cert.DbIdeal.nD Cert.DbIdeal.τ).loc Cert.DbIdeal.main_arg8) = m ((c.tc : Thread Cert.DbIdeal.nD Cert.DbIdeal.τ).loc Cert.DbIdeal.main_arg8)
      ∧ r.2.mem ((c.tc : Thread Cert.DbIdeal.nD Cert.DbIdeal.τ).loc Cert.DbIdeal.main_arg9) = m ((c.tc : Thread Cert.DbIdeal.nD Cert.DbIdeal.τ).loc Cert.DbIdeal.main_arg9))
      ∧ r.2.sem = fun _ => 0)

def quiescent_DbIdeal_pre_finite_b [hDbIdeal : Cert.DbIdeal.Facts] [hPre_finite_b : Cert.Pre_finite_b.Facts] : Prop :=
  ∀ (m : (ℓ : Loc Cert.DbIdeal.nD Cert.DbIdeal.τ Cert.DbIdeal.sig) → Buf (Elt Ideal) ℓ) (g : Dev Cert.DbIdeal.nD → PrngReg), Pre_DbIdeal_finite_b m →
    θ_run (Cert.DbIdeal.defs (F := Ideal)) (onTc (τ := Cert.DbIdeal.τ) (Cert.DbIdeal.main (F := Ideal))) ⟨m, fun _ => 0, g⟩ (fun r => (∀ c : Dev Cert.DbIdeal.nD,
      r.2.mem ((c.tc : Thread Cert.DbIdeal.nD Cert.DbIdeal.τ).loc Cert.DbIdeal.main_arg0) = m ((c.tc : Thread Cert.DbIdeal.nD Cert.DbIdeal.τ).loc Cert.DbIdeal.main_arg0)
      ∧ r.2.mem ((c.tc : Thread Cert.DbIdeal.nD Cert.DbIdeal.τ).loc Cert.DbIdeal.main_arg1) = m ((c.tc : Thread Cert.DbIdeal.nD Cert.DbIdeal.τ).loc Cert.DbIdeal.main_arg1)
      ∧ r.2.mem ((c.tc : Thread Cert.DbIdeal.nD Cert.DbIdeal.τ).loc Cert.DbIdeal.main_arg2) = m ((c.tc : Thread Cert.DbIdeal.nD Cert.DbIdeal.τ).loc Cert.DbIdeal.main_arg2)
      ∧ r.2.mem ((c.tc : Thread Cert.DbIdeal.nD Cert.DbIdeal.τ).loc Cert.DbIdeal.main_arg3) = m ((c.tc : Thread Cert.DbIdeal.nD Cert.DbIdeal.τ).loc Cert.DbIdeal.main_arg3)
      ∧ r.2.mem ((c.tc : Thread Cert.DbIdeal.nD Cert.DbIdeal.τ).loc Cert.DbIdeal.main_arg4) = m ((c.tc : Thread Cert.DbIdeal.nD Cert.DbIdeal.τ).loc Cert.DbIdeal.main_arg4)
      ∧ r.2.mem ((c.tc : Thread Cert.DbIdeal.nD Cert.DbIdeal.τ).loc Cert.DbIdeal.main_arg5) = m ((c.tc : Thread Cert.DbIdeal.nD Cert.DbIdeal.τ).loc Cert.DbIdeal.main_arg5)
      ∧ r.2.mem ((c.tc : Thread Cert.DbIdeal.nD Cert.DbIdeal.τ).loc Cert.DbIdeal.main_arg6) = m ((c.tc : Thread Cert.DbIdeal.nD Cert.DbIdeal.τ).loc Cert.DbIdeal.main_arg6)
      ∧ r.2.mem ((c.tc : Thread Cert.DbIdeal.nD Cert.DbIdeal.τ).loc Cert.DbIdeal.main_arg7) = m ((c.tc : Thread Cert.DbIdeal.nD Cert.DbIdeal.τ).loc Cert.DbIdeal.main_arg7)
      ∧ r.2.mem ((c.tc : Thread Cert.DbIdeal.nD Cert.DbIdeal.τ).loc Cert.DbIdeal.main_arg8) = m ((c.tc : Thread Cert.DbIdeal.nD Cert.DbIdeal.τ).loc Cert.DbIdeal.main_arg8)
      ∧ r.2.mem ((c.tc : Thread Cert.DbIdeal.nD Cert.DbIdeal.τ).loc Cert.DbIdeal.main_arg9) = m ((c.tc : Thread Cert.DbIdeal.nD Cert.DbIdeal.τ).loc Cert.DbIdeal.main_arg9))
      ∧ r.2.sem = fun _ => 0)

def quiescent_RbIdeal [hRbIdeal : Cert.RbIdeal.Facts] : Prop :=
  ∀ (m : (ℓ : Loc Cert.RbIdeal.nD Cert.RbIdeal.τ Cert.RbIdeal.sig) → Buf (Elt Ideal) ℓ) (g : Dev Cert.RbIdeal.nD → PrngReg), Pre_RbIdeal m →
    θ_run (Cert.RbIdeal.defs (F := Ideal)) (onTc (τ := Cert.RbIdeal.τ) (Cert.RbIdeal.main (F := Ideal))) ⟨m, fun _ => 0, g⟩ (fun r => (∀ c : Dev Cert.RbIdeal.nD,
      r.2.mem ((c.tc : Thread Cert.RbIdeal.nD Cert.RbIdeal.τ).loc Cert.RbIdeal.main_arg0) = m ((c.tc : Thread Cert.RbIdeal.nD Cert.RbIdeal.τ).loc Cert.RbIdeal.main_arg0)
      ∧ r.2.mem ((c.tc : Thread Cert.RbIdeal.nD Cert.RbIdeal.τ).loc Cert.RbIdeal.main_arg1) = m ((c.tc : Thread Cert.RbIdeal.nD Cert.RbIdeal.τ).loc Cert.RbIdeal.main_arg1)
      ∧ r.2.mem ((c.tc : Thread Cert.RbIdeal.nD Cert.RbIdeal.τ).loc Cert.RbIdeal.main_arg2) = m ((c.tc : Thread Cert.RbIdeal.nD Cert.RbIdeal.τ).loc Cert.RbIdeal.main_arg2)
      ∧ r.2.mem ((c.tc : Thread Cert.RbIdeal.nD Cert.RbIdeal.τ).loc Cert.RbIdeal.main_arg3) = m ((c.tc : Thread Cert.RbIdeal.nD Cert.RbIdeal.τ).loc Cert.RbIdeal.main_arg3)
      ∧ r.2.mem ((c.tc : Thread Cert.RbIdeal.nD Cert.RbIdeal.τ).loc Cert.RbIdeal.main_arg4) = m ((c.tc : Thread Cert.RbIdeal.nD Cert.RbIdeal.τ).loc Cert.RbIdeal.main_arg4)
      ∧ r.2.mem ((c.tc : Thread Cert.RbIdeal.nD Cert.RbIdeal.τ).loc Cert.RbIdeal.main_arg5) = m ((c.tc : Thread Cert.RbIdeal.nD Cert.RbIdeal.τ).loc Cert.RbIdeal.main_arg5)
      ∧ r.2.mem ((c.tc : Thread Cert.RbIdeal.nD Cert.RbIdeal.τ).loc Cert.RbIdeal.main_arg6) = m ((c.tc : Thread Cert.RbIdeal.nD Cert.RbIdeal.τ).loc Cert.RbIdeal.main_arg6)
      ∧ r.2.mem ((c.tc : Thread Cert.RbIdeal.nD Cert.RbIdeal.τ).loc Cert.RbIdeal.main_arg7) = m ((c.tc : Thread Cert.RbIdeal.nD Cert.RbIdeal.τ).loc Cert.RbIdeal.main_arg7)
      ∧ r.2.mem ((c.tc : Thread Cert.RbIdeal.nD Cert.RbIdeal.τ).loc Cert.RbIdeal.main_arg8) = m ((c.tc : Thread Cert.RbIdeal.nD Cert.RbIdeal.τ).loc Cert.RbIdeal.main_arg8)
      ∧ r.2.mem ((c.tc : Thread Cert.RbIdeal.nD Cert.RbIdeal.τ).loc Cert.RbIdeal.main_arg9) = m ((c.tc : Thread Cert.RbIdeal.nD Cert.RbIdeal.τ).loc Cert.RbIdeal.main_arg9))
      ∧ r.2.sem = fun _ => 0)

def quiescent_RbIdeal_pre_finite_b [hRbIdeal : Cert.RbIdeal.Facts] [hPre_finite_b : Cert.Pre_finite_b.Facts] : Prop :=
  ∀ (m : (ℓ : Loc Cert.RbIdeal.nD Cert.RbIdeal.τ Cert.RbIdeal.sig) → Buf (Elt Ideal) ℓ) (g : Dev Cert.RbIdeal.nD → PrngReg), Pre_RbIdeal_finite_b m →
    θ_run (Cert.RbIdeal.defs (F := Ideal)) (onTc (τ := Cert.RbIdeal.τ) (Cert.RbIdeal.main (F := Ideal))) ⟨m, fun _ => 0, g⟩ (fun r => (∀ c : Dev Cert.RbIdeal.nD,
      r.2.mem ((c.tc : Thread Cert.RbIdeal.nD Cert.RbIdeal.τ).loc Cert.RbIdeal.main_arg0) = m ((c.tc : Thread Cert.RbIdeal.nD Cert.RbIdeal.τ).loc Cert.RbIdeal.main_arg0)
      ∧ r.2.mem ((c.tc : Thread Cert.RbIdeal.nD Cert.RbIdeal.τ).loc Cert.RbIdeal.main_arg1) = m ((c.tc : Thread Cert.RbIdeal.nD Cert.RbIdeal.τ).loc Cert.RbIdeal.main_arg1)
      ∧ r.2.mem ((c.tc : Thread Cert.RbIdeal.nD Cert.RbIdeal.τ).loc Cert.RbIdeal.main_arg2) = m ((c.tc : Thread Cert.RbIdeal.nD Cert.RbIdeal.τ).loc Cert.RbIdeal.main_arg2)
      ∧ r.2.mem ((c.tc : Thread Cert.RbIdeal.nD Cert.RbIdeal.τ).loc Cert.RbIdeal.main_arg3) = m ((c.tc : Thread Cert.RbIdeal.nD Cert.RbIdeal.τ).loc Cert.RbIdeal.main_arg3)
      ∧ r.2.mem ((c.tc : Thread Cert.RbIdeal.nD Cert.RbIdeal.τ).loc Cert.RbIdeal.main_arg4) = m ((c.tc : Thread Cert.RbIdeal.nD Cert.RbIdeal.τ).loc Cert.RbIdeal.main_arg4)
      ∧ r.2.mem ((c.tc : Thread Cert.RbIdeal.nD Cert.RbIdeal.τ).loc Cert.RbIdeal.main_arg5) = m ((c.tc : Thread Cert.RbIdeal.nD Cert.RbIdeal.τ).loc Cert.RbIdeal.main_arg5)
      ∧ r.2.mem ((c.tc : Thread Cert.RbIdeal.nD Cert.RbIdeal.τ).loc Cert.RbIdeal.main_arg6) = m ((c.tc : Thread Cert.RbIdeal.nD Cert.RbIdeal.τ).loc Cert.RbIdeal.main_arg6)
      ∧ r.2.mem ((c.tc : Thread Cert.RbIdeal.nD Cert.RbIdeal.τ).loc Cert.RbIdeal.main_arg7) = m ((c.tc : Thread Cert.RbIdeal.nD Cert.RbIdeal.τ).loc Cert.RbIdeal.main_arg7)
      ∧ r.2.mem ((c.tc : Thread Cert.RbIdeal.nD Cert.RbIdeal.τ).loc Cert.RbIdeal.main_arg8) = m ((c.tc : Thread Cert.RbIdeal.nD Cert.RbIdeal.τ).loc Cert.RbIdeal.main_arg8)
      ∧ r.2.mem ((c.tc : Thread Cert.RbIdeal.nD Cert.RbIdeal.τ).loc Cert.RbIdeal.main_arg9) = m ((c.tc : Thread Cert.RbIdeal.nD Cert.RbIdeal.τ).loc Cert.RbIdeal.main_arg9))
      ∧ r.2.sem = fun _ => 0)

def quiescent_Df [hDf : Cert.Df.Facts] : Prop :=
  ∀ (m : (ℓ : Loc Cert.Df.nD Cert.Df.τ Cert.Df.sig) → Buf (Elt Bits) ℓ) (g : Dev Cert.Df.nD → PrngReg), Pre_Df m →
    θ_run (Cert.Df.defs (F := Bits)) (onTc (τ := Cert.Df.τ) (Cert.Df.main (F := Bits))) ⟨m, fun _ => 0, g⟩ (fun r => (∀ c : Dev Cert.Df.nD,
      r.2.mem ((c.tc : Thread Cert.Df.nD Cert.Df.τ).loc Cert.Df.main_arg0) = m ((c.tc : Thread Cert.Df.nD Cert.Df.τ).loc Cert.Df.main_arg0)
      ∧ r.2.mem ((c.tc : Thread Cert.Df.nD Cert.Df.τ).loc Cert.Df.main_arg1) = m ((c.tc : Thread Cert.Df.nD Cert.Df.τ).loc Cert.Df.main_arg1)
      ∧ r.2.mem ((c.tc : Thread Cert.Df.nD Cert.Df.τ).loc Cert.Df.main_arg2) = m ((c.tc : Thread Cert.Df.nD Cert.Df.τ).loc Cert.Df.main_arg2)
      ∧ r.2.mem ((c.tc : Thread Cert.Df.nD Cert.Df.τ).loc Cert.Df.main_arg3) = m ((c.tc : Thread Cert.Df.nD Cert.Df.τ).loc Cert.Df.main_arg3)
      ∧ r.2.mem ((c.tc : Thread Cert.Df.nD Cert.Df.τ).loc Cert.Df.main_arg4) = m ((c.tc : Thread Cert.Df.nD Cert.Df.τ).loc Cert.Df.main_arg4)
      ∧ r.2.mem ((c.tc : Thread Cert.Df.nD Cert.Df.τ).loc Cert.Df.main_arg5) = m ((c.tc : Thread Cert.Df.nD Cert.Df.τ).loc Cert.Df.main_arg5)
      ∧ r.2.mem ((c.tc : Thread Cert.Df.nD Cert.Df.τ).loc Cert.Df.main_arg6) = m ((c.tc : Thread Cert.Df.nD Cert.Df.τ).loc Cert.Df.main_arg6)
      ∧ r.2.mem ((c.tc : Thread Cert.Df.nD Cert.Df.τ).loc Cert.Df.main_arg7) = m ((c.tc : Thread Cert.Df.nD Cert.Df.τ).loc Cert.Df.main_arg7)
      ∧ r.2.mem ((c.tc : Thread Cert.Df.nD Cert.Df.τ).loc Cert.Df.main_arg8) = m ((c.tc : Thread Cert.Df.nD Cert.Df.τ).loc Cert.Df.main_arg8)
      ∧ r.2.mem ((c.tc : Thread Cert.Df.nD Cert.Df.τ).loc Cert.Df.main_arg9) = m ((c.tc : Thread Cert.Df.nD Cert.Df.τ).loc Cert.Df.main_arg9))
      ∧ r.2.sem = fun _ => 0)

def quiescent_DfIdeal [hDfIdeal : Cert.DfIdeal.Facts] : Prop :=
  ∀ (m : (ℓ : Loc Cert.DfIdeal.nD Cert.DfIdeal.τ Cert.DfIdeal.sig) → Buf (Elt Ideal) ℓ) (g : Dev Cert.DfIdeal.nD → PrngReg), Pre_DfIdeal m →
    θ_run (Cert.DfIdeal.defs (F := Ideal)) (onTc (τ := Cert.DfIdeal.τ) (Cert.DfIdeal.main (F := Ideal))) ⟨m, fun _ => 0, g⟩ (fun r => (∀ c : Dev Cert.DfIdeal.nD,
      r.2.mem ((c.tc : Thread Cert.DfIdeal.nD Cert.DfIdeal.τ).loc Cert.DfIdeal.main_arg0) = m ((c.tc : Thread Cert.DfIdeal.nD Cert.DfIdeal.τ).loc Cert.DfIdeal.main_arg0)
      ∧ r.2.mem ((c.tc : Thread Cert.DfIdeal.nD Cert.DfIdeal.τ).loc Cert.DfIdeal.main_arg1) = m ((c.tc : Thread Cert.DfIdeal.nD Cert.DfIdeal.τ).loc Cert.DfIdeal.main_arg1)
      ∧ r.2.mem ((c.tc : Thread Cert.DfIdeal.nD Cert.DfIdeal.τ).loc Cert.DfIdeal.main_arg2) = m ((c.tc : Thread Cert.DfIdeal.nD Cert.DfIdeal.τ).loc Cert.DfIdeal.main_arg2)
      ∧ r.2.mem ((c.tc : Thread Cert.DfIdeal.nD Cert.DfIdeal.τ).loc Cert.DfIdeal.main_arg3) = m ((c.tc : Thread Cert.DfIdeal.nD Cert.DfIdeal.τ).loc Cert.DfIdeal.main_arg3)
      ∧ r.2.mem ((c.tc : Thread Cert.DfIdeal.nD Cert.DfIdeal.τ).loc Cert.DfIdeal.main_arg4) = m ((c.tc : Thread Cert.DfIdeal.nD Cert.DfIdeal.τ).loc Cert.DfIdeal.main_arg4)
      ∧ r.2.mem ((c.tc : Thread Cert.DfIdeal.nD Cert.DfIdeal.τ).loc Cert.DfIdeal.main_arg5) = m ((c.tc : Thread Cert.DfIdeal.nD Cert.DfIdeal.τ).loc Cert.DfIdeal.main_arg5)
      ∧ r.2.mem ((c.tc : Thread Cert.DfIdeal.nD Cert.DfIdeal.τ).loc Cert.DfIdeal.main_arg6) = m ((c.tc : Thread Cert.DfIdeal.nD Cert.DfIdeal.τ).loc Cert.DfIdeal.main_arg6)
      ∧ r.2.mem ((c.tc : Thread Cert.DfIdeal.nD Cert.DfIdeal.τ).loc Cert.DfIdeal.main_arg7) = m ((c.tc : Thread Cert.DfIdeal.nD Cert.DfIdeal.τ).loc Cert.DfIdeal.main_arg7)
      ∧ r.2.mem ((c.tc : Thread Cert.DfIdeal.nD Cert.DfIdeal.τ).loc Cert.DfIdeal.main_arg8) = m ((c.tc : Thread Cert.DfIdeal.nD Cert.DfIdeal.τ).loc Cert.DfIdeal.main_arg8)
      ∧ r.2.mem ((c.tc : Thread Cert.DfIdeal.nD Cert.DfIdeal.τ).loc Cert.DfIdeal.main_arg9) = m ((c.tc : Thread Cert.DfIdeal.nD Cert.DfIdeal.τ).loc Cert.DfIdeal.main_arg9))
      ∧ r.2.sem = fun _ => 0)

def quiescent_DfIdeal_pre_finite_f [hDfIdeal : Cert.DfIdeal.Facts] [hPre_finite_f : Cert.Pre_finite_f.Facts] : Prop :=
  ∀ (m : (ℓ : Loc Cert.DfIdeal.nD Cert.DfIdeal.τ Cert.DfIdeal.sig) → Buf (Elt Ideal) ℓ) (g : Dev Cert.DfIdeal.nD → PrngReg), Pre_DfIdeal_finite_f m →
    θ_run (Cert.DfIdeal.defs (F := Ideal)) (onTc (τ := Cert.DfIdeal.τ) (Cert.DfIdeal.main (F := Ideal))) ⟨m, fun _ => 0, g⟩ (fun r => (∀ c : Dev Cert.DfIdeal.nD,
      r.2.mem ((c.tc : Thread Cert.DfIdeal.nD Cert.DfIdeal.τ).loc Cert.DfIdeal.main_arg0) = m ((c.tc : Thread Cert.DfIdeal.nD Cert.DfIdeal.τ).loc Cert.DfIdeal.main_arg0)
      ∧ r.2.mem ((c.tc : Thread Cert.DfIdeal.nD Cert.DfIdeal.τ).loc Cert.DfIdeal.main_arg1) = m ((c.tc : Thread Cert.DfIdeal.nD Cert.DfIdeal.τ).loc Cert.DfIdeal.main_arg1)
      ∧ r.2.mem ((c.tc : Thread Cert.DfIdeal.nD Cert.DfIdeal.τ).loc Cert.DfIdeal.main_arg2) = m ((c.tc : Thread Cert.DfIdeal.nD Cert.DfIdeal.τ).loc Cert.DfIdeal.main_arg2)
      ∧ r.2.mem ((c.tc : Thread Cert.DfIdeal.nD Cert.DfIdeal.τ).loc Cert.DfIdeal.main_arg3) = m ((c.tc : Thread Cert.DfIdeal.nD Cert.DfIdeal.τ).loc Cert.DfIdeal.main_arg3)
      ∧ r.2.mem ((c.tc : Thread Cert.DfIdeal.nD Cert.DfIdeal.τ).loc Cert.DfIdeal.main_arg4) = m ((c.tc : Thread Cert.DfIdeal.nD Cert.DfIdeal.τ).loc Cert.DfIdeal.main_arg4)
      ∧ r.2.mem ((c.tc : Thread Cert.DfIdeal.nD Cert.DfIdeal.τ).loc Cert.DfIdeal.main_arg5) = m ((c.tc : Thread Cert.DfIdeal.nD Cert.DfIdeal.τ).loc Cert.DfIdeal.main_arg5)
      ∧ r.2.mem ((c.tc : Thread Cert.DfIdeal.nD Cert.DfIdeal.τ).loc Cert.DfIdeal.main_arg6) = m ((c.tc : Thread Cert.DfIdeal.nD Cert.DfIdeal.τ).loc Cert.DfIdeal.main_arg6)
      ∧ r.2.mem ((c.tc : Thread Cert.DfIdeal.nD Cert.DfIdeal.τ).loc Cert.DfIdeal.main_arg7) = m ((c.tc : Thread Cert.DfIdeal.nD Cert.DfIdeal.τ).loc Cert.DfIdeal.main_arg7)
      ∧ r.2.mem ((c.tc : Thread Cert.DfIdeal.nD Cert.DfIdeal.τ).loc Cert.DfIdeal.main_arg8) = m ((c.tc : Thread Cert.DfIdeal.nD Cert.DfIdeal.τ).loc Cert.DfIdeal.main_arg8)
      ∧ r.2.mem ((c.tc : Thread Cert.DfIdeal.nD Cert.DfIdeal.τ).loc Cert.DfIdeal.main_arg9) = m ((c.tc : Thread Cert.DfIdeal.nD Cert.DfIdeal.τ).loc Cert.DfIdeal.main_arg9))
      ∧ r.2.sem = fun _ => 0)

def quiescent_RfIdeal [hRfIdeal : Cert.RfIdeal.Facts] : Prop :=
  ∀ (m : (ℓ : Loc Cert.RfIdeal.nD Cert.RfIdeal.τ Cert.RfIdeal.sig) → Buf (Elt Ideal) ℓ) (g : Dev Cert.RfIdeal.nD → PrngReg), Pre_RfIdeal m →
    θ_run (Cert.RfIdeal.defs (F := Ideal)) (onTc (τ := Cert.RfIdeal.τ) (Cert.RfIdeal.main (F := Ideal))) ⟨m, fun _ => 0, g⟩ (fun r => (∀ c : Dev Cert.RfIdeal.nD,
      r.2.mem ((c.tc : Thread Cert.RfIdeal.nD Cert.RfIdeal.τ).loc Cert.RfIdeal.main_arg0) = m ((c.tc : Thread Cert.RfIdeal.nD Cert.RfIdeal.τ).loc Cert.RfIdeal.main_arg0)
      ∧ r.2.mem ((c.tc : Thread Cert.RfIdeal.nD Cert.RfIdeal.τ).loc Cert.RfIdeal.main_arg1) = m ((c.tc : Thread Cert.RfIdeal.nD Cert.RfIdeal.τ).loc Cert.RfIdeal.main_arg1)
      ∧ r.2.mem ((c.tc : Thread Cert.RfIdeal.nD Cert.RfIdeal.τ).loc Cert.RfIdeal.main_arg2) = m ((c.tc : Thread Cert.RfIdeal.nD Cert.RfIdeal.τ).loc Cert.RfIdeal.main_arg2)
      ∧ r.2.mem ((c.tc : Thread Cert.RfIdeal.nD Cert.RfIdeal.τ).loc Cert.RfIdeal.main_arg3) = m ((c.tc : Thread Cert.RfIdeal.nD Cert.RfIdeal.τ).loc Cert.RfIdeal.main_arg3)
      ∧ r.2.mem ((c.tc : Thread Cert.RfIdeal.nD Cert.RfIdeal.τ).loc Cert.RfIdeal.main_arg4) = m ((c.tc : Thread Cert.RfIdeal.nD Cert.RfIdeal.τ).loc Cert.RfIdeal.main_arg4)
      ∧ r.2.mem ((c.tc : Thread Cert.RfIdeal.nD Cert.RfIdeal.τ).loc Cert.RfIdeal.main_arg5) = m ((c.tc : Thread Cert.RfIdeal.nD Cert.RfIdeal.τ).loc Cert.RfIdeal.main_arg5)
      ∧ r.2.mem ((c.tc : Thread Cert.RfIdeal.nD Cert.RfIdeal.τ).loc Cert.RfIdeal.main_arg6) = m ((c.tc : Thread Cert.RfIdeal.nD Cert.RfIdeal.τ).loc Cert.RfIdeal.main_arg6)
      ∧ r.2.mem ((c.tc : Thread Cert.RfIdeal.nD Cert.RfIdeal.τ).loc Cert.RfIdeal.main_arg7) = m ((c.tc : Thread Cert.RfIdeal.nD Cert.RfIdeal.τ).loc Cert.RfIdeal.main_arg7)
      ∧ r.2.mem ((c.tc : Thread Cert.RfIdeal.nD Cert.RfIdeal.τ).loc Cert.RfIdeal.main_arg8) = m ((c.tc : Thread Cert.RfIdeal.nD Cert.RfIdeal.τ).loc Cert.RfIdeal.main_arg8)
      ∧ r.2.mem ((c.tc : Thread Cert.RfIdeal.nD Cert.RfIdeal.τ).loc Cert.RfIdeal.main_arg9) = m ((c.tc : Thread Cert.RfIdeal.nD Cert.RfIdeal.τ).loc Cert.RfIdeal.main_arg9))
      ∧ r.2.sem = fun _ => 0)

def quiescent_RfIdeal_pre_finite_f [hRfIdeal : Cert.RfIdeal.Facts] [hPre_finite_f : Cert.Pre_finite_f.Facts] : Prop :=
  ∀ (m : (ℓ : Loc Cert.RfIdeal.nD Cert.RfIdeal.τ Cert.RfIdeal.sig) → Buf (Elt Ideal) ℓ) (g : Dev Cert.RfIdeal.nD → PrngReg), Pre_RfIdeal_finite_f m →
    θ_run (Cert.RfIdeal.defs (F := Ideal)) (onTc (τ := Cert.RfIdeal.τ) (Cert.RfIdeal.main (F := Ideal))) ⟨m, fun _ => 0, g⟩ (fun r => (∀ c : Dev Cert.RfIdeal.nD,
      r.2.mem ((c.tc : Thread Cert.RfIdeal.nD Cert.RfIdeal.τ).loc Cert.RfIdeal.main_arg0) = m ((c.tc : Thread Cert.RfIdeal.nD Cert.RfIdeal.τ).loc Cert.RfIdeal.main_arg0)
      ∧ r.2.mem ((c.tc : Thread Cert.RfIdeal.nD Cert.RfIdeal.τ).loc Cert.RfIdeal.main_arg1) = m ((c.tc : Thread Cert.RfIdeal.nD Cert.RfIdeal.τ).loc Cert.RfIdeal.main_arg1)
      ∧ r.2.mem ((c.tc : Thread Cert.RfIdeal.nD Cert.RfIdeal.τ).loc Cert.RfIdeal.main_arg2) = m ((c.tc : Thread Cert.RfIdeal.nD Cert.RfIdeal.τ).loc Cert.RfIdeal.main_arg2)
      ∧ r.2.mem ((c.tc : Thread Cert.RfIdeal.nD Cert.RfIdeal.τ).loc Cert.RfIdeal.main_arg3) = m ((c.tc : Thread Cert.RfIdeal.nD Cert.RfIdeal.τ).loc Cert.RfIdeal.main_arg3)
      ∧ r.2.mem ((c.tc : Thread Cert.RfIdeal.nD Cert.RfIdeal.τ).loc Cert.RfIdeal.main_arg4) = m ((c.tc : Thread Cert.RfIdeal.nD Cert.RfIdeal.τ).loc Cert.RfIdeal.main_arg4)
      ∧ r.2.mem ((c.tc : Thread Cert.RfIdeal.nD Cert.RfIdeal.τ).loc Cert.RfIdeal.main_arg5) = m ((c.tc : Thread Cert.RfIdeal.nD Cert.RfIdeal.τ).loc Cert.RfIdeal.main_arg5)
      ∧ r.2.mem ((c.tc : Thread Cert.RfIdeal.nD Cert.RfIdeal.τ).loc Cert.RfIdeal.main_arg6) = m ((c.tc : Thread Cert.RfIdeal.nD Cert.RfIdeal.τ).loc Cert.RfIdeal.main_arg6)
      ∧ r.2.mem ((c.tc : Thread Cert.RfIdeal.nD Cert.RfIdeal.τ).loc Cert.RfIdeal.main_arg7) = m ((c.tc : Thread Cert.RfIdeal.nD Cert.RfIdeal.τ).loc Cert.RfIdeal.main_arg7)
      ∧ r.2.mem ((c.tc : Thread Cert.RfIdeal.nD Cert.RfIdeal.τ).loc Cert.RfIdeal.main_arg8) = m ((c.tc : Thread Cert.RfIdeal.nD Cert.RfIdeal.τ).loc Cert.RfIdeal.main_arg8)
      ∧ r.2.mem ((c.tc : Thread Cert.RfIdeal.nD Cert.RfIdeal.τ).loc Cert.RfIdeal.main_arg9) = m ((c.tc : Thread Cert.RfIdeal.nD Cert.RfIdeal.τ).loc Cert.RfIdeal.main_arg9))
      ∧ r.2.sem = fun _ => 0)

def quiescent_Dg [hDg : Cert.Dg.Facts] : Prop :=
  ∀ (m : (ℓ : Loc Cert.Dg.nD Cert.Dg.τ Cert.Dg.sig) → Buf (Elt Bits) ℓ) (g : Dev Cert.Dg.nD → PrngReg), Pre_Dg m →
    θ_run (Cert.Dg.defs (F := Bits)) (onTc (τ := Cert.Dg.τ) (Cert.Dg.main (F := Bits))) ⟨m, fun _ => 0, g⟩ (fun r => (∀ c : Dev Cert.Dg.nD,
      r.2.mem ((c.tc : Thread Cert.Dg.nD Cert.Dg.τ).loc Cert.Dg.main_arg0) = m ((c.tc : Thread Cert.Dg.nD Cert.Dg.τ).loc Cert.Dg.main_arg0)
      ∧ r.2.mem ((c.tc : Thread Cert.Dg.nD Cert.Dg.τ).loc Cert.Dg.main_arg1) = m ((c.tc : Thread Cert.Dg.nD Cert.Dg.τ).loc Cert.Dg.main_arg1)
      ∧ r.2.mem ((c.tc : Thread Cert.Dg.nD Cert.Dg.τ).loc Cert.Dg.main_arg2) = m ((c.tc : Thread Cert.Dg.nD Cert.Dg.τ).loc Cert.Dg.main_arg2)
      ∧ r.2.mem ((c.tc : Thread Cert.Dg.nD Cert.Dg.τ).loc Cert.Dg.main_arg3) = m ((c.tc : Thread Cert.Dg.nD Cert.Dg.τ).loc Cert.Dg.main_arg3)
      ∧ r.2.mem ((c.tc : Thread Cert.Dg.nD Cert.Dg.τ).loc Cert.Dg.main_arg4) = m ((c.tc : Thread Cert.Dg.nD Cert.Dg.τ).loc Cert.Dg.main_arg4)
      ∧ r.2.mem ((c.tc : Thread Cert.Dg.nD Cert.Dg.τ).loc Cert.Dg.main_arg5) = m ((c.tc : Thread Cert.Dg.nD Cert.Dg.τ).loc Cert.Dg.main_arg5)
      ∧ r.2.mem ((c.tc : Thread Cert.Dg.nD Cert.Dg.τ).loc Cert.Dg.main_arg6) = m ((c.tc : Thread Cert.Dg.nD Cert.Dg.τ).loc Cert.Dg.main_arg6)
      ∧ r.2.mem ((c.tc : Thread Cert.Dg.nD Cert.Dg.τ).loc Cert.Dg.main_arg7) = m ((c.tc : Thread Cert.Dg.nD Cert.Dg.τ).loc Cert.Dg.main_arg7))
      ∧ r.2.sem = fun _ => 0)

def quiescent_DgIdeal [hDgIdeal : Cert.DgIdeal.Facts] : Prop :=
  ∀ (m : (ℓ : Loc Cert.DgIdeal.nD Cert.DgIdeal.τ Cert.DgIdeal.sig) → Buf (Elt Ideal) ℓ) (g : Dev Cert.DgIdeal.nD → PrngReg), Pre_DgIdeal m →
    θ_run (Cert.DgIdeal.defs (F := Ideal)) (onTc (τ := Cert.DgIdeal.τ) (Cert.DgIdeal.main (F := Ideal))) ⟨m, fun _ => 0, g⟩ (fun r => (∀ c : Dev Cert.DgIdeal.nD,
      r.2.mem ((c.tc : Thread Cert.DgIdeal.nD Cert.DgIdeal.τ).loc Cert.DgIdeal.main_arg0) = m ((c.tc : Thread Cert.DgIdeal.nD Cert.DgIdeal.τ).loc Cert.DgIdeal.main_arg0)
      ∧ r.2.mem ((c.tc : Thread Cert.DgIdeal.nD Cert.DgIdeal.τ).loc Cert.DgIdeal.main_arg1) = m ((c.tc : Thread Cert.DgIdeal.nD Cert.DgIdeal.τ).loc Cert.DgIdeal.main_arg1)
      ∧ r.2.mem ((c.tc : Thread Cert.DgIdeal.nD Cert.DgIdeal.τ).loc Cert.DgIdeal.main_arg2) = m ((c.tc : Thread Cert.DgIdeal.nD Cert.DgIdeal.τ).loc Cert.DgIdeal.main_arg2)
      ∧ r.2.mem ((c.tc : Thread Cert.DgIdeal.nD Cert.DgIdeal.τ).loc Cert.DgIdeal.main_arg3) = m ((c.tc : Thread Cert.DgIdeal.nD Cert.DgIdeal.τ).loc Cert.DgIdeal.main_arg3)
      ∧ r.2.mem ((c.tc : Thread Cert.DgIdeal.nD Cert.DgIdeal.τ).loc Cert.DgIdeal.main_arg4) = m ((c.tc : Thread Cert.DgIdeal.nD Cert.DgIdeal.τ).loc Cert.DgIdeal.main_arg4)
      ∧ r.2.mem ((c.tc : Thread Cert.DgIdeal.nD Cert.DgIdeal.τ).loc Cert.DgIdeal.main_arg5) = m ((c.tc : Thread Cert.DgIdeal.nD Cert.DgIdeal.τ).loc Cert.DgIdeal.main_arg5)
      ∧ r.2.mem ((c.tc : Thread Cert.DgIdeal.nD Cert.DgIdeal.τ).loc Cert.DgIdeal.main_arg6) = m ((c.tc : Thread Cert.DgIdeal.nD Cert.DgIdeal.τ).loc Cert.DgIdeal.main_arg6)
      ∧ r.2.mem ((c.tc : Thread Cert.DgIdeal.nD Cert.DgIdeal.τ).loc Cert.DgIdeal.main_arg7) = m ((c.tc : Thread Cert.DgIdeal.nD Cert.DgIdeal.τ).loc Cert.DgIdeal.main_arg7))
      ∧ r.2.sem = fun _ => 0)

def quiescent_DgIdeal_pre_finite_g [hDgIdeal : Cert.DgIdeal.Facts] [hPre_finite_g : Cert.Pre_finite_g.Facts] : Prop :=
  ∀ (m : (ℓ : Loc Cert.DgIdeal.nD Cert.DgIdeal.τ Cert.DgIdeal.sig) → Buf (Elt Ideal) ℓ) (g : Dev Cert.DgIdeal.nD → PrngReg), Pre_DgIdeal_finite_g m →
    θ_run (Cert.DgIdeal.defs (F := Ideal)) (onTc (τ := Cert.DgIdeal.τ) (Cert.DgIdeal.main (F := Ideal))) ⟨m, fun _ => 0, g⟩ (fun r => (∀ c : Dev Cert.DgIdeal.nD,
      r.2.mem ((c.tc : Thread Cert.DgIdeal.nD Cert.DgIdeal.τ).loc Cert.DgIdeal.main_arg0) = m ((c.tc : Thread Cert.DgIdeal.nD Cert.DgIdeal.τ).loc Cert.DgIdeal.main_arg0)
      ∧ r.2.mem ((c.tc : Thread Cert.DgIdeal.nD Cert.DgIdeal.τ).loc Cert.DgIdeal.main_arg1) = m ((c.tc : Thread Cert.DgIdeal.nD Cert.DgIdeal.τ).loc Cert.DgIdeal.main_arg1)
      ∧ r.2.mem ((c.tc : Thread Cert.DgIdeal.nD Cert.DgIdeal.τ).loc Cert.DgIdeal.main_arg2) = m ((c.tc : Thread Cert.DgIdeal.nD Cert.DgIdeal.τ).loc Cert.DgIdeal.main_arg2)
      ∧ r.2.mem ((c.tc : Thread Cert.DgIdeal.nD Cert.DgIdeal.τ).loc Cert.DgIdeal.main_arg3) = m ((c.tc : Thread Cert.DgIdeal.nD Cert.DgIdeal.τ).loc Cert.DgIdeal.main_arg3)
      ∧ r.2.mem ((c.tc : Thread Cert.DgIdeal.nD Cert.DgIdeal.τ).loc Cert.DgIdeal.main_arg4) = m ((c.tc : Thread Cert.DgIdeal.nD Cert.DgIdeal.τ).loc Cert.DgIdeal.main_arg4)
      ∧ r.2.mem ((c.tc : Thread Cert.DgIdeal.nD Cert.DgIdeal.τ).loc Cert.DgIdeal.main_arg5) = m ((c.tc : Thread Cert.DgIdeal.nD Cert.DgIdeal.τ).loc Cert.DgIdeal.main_arg5)
      ∧ r.2.mem ((c.tc : Thread Cert.DgIdeal.nD Cert.DgIdeal.τ).loc Cert.DgIdeal.main_arg6) = m ((c.tc : Thread Cert.DgIdeal.nD Cert.DgIdeal.τ).loc Cert.DgIdeal.main_arg6)
      ∧ r.2.mem ((c.tc : Thread Cert.DgIdeal.nD Cert.DgIdeal.τ).loc Cert.DgIdeal.main_arg7) = m ((c.tc : Thread Cert.DgIdeal.nD Cert.DgIdeal.τ).loc Cert.DgIdeal.main_arg7))
      ∧ r.2.sem = fun _ => 0)

def quiescent_RgIdeal [hRgIdeal : Cert.RgIdeal.Facts] : Prop :=
  ∀ (m : (ℓ : Loc Cert.RgIdeal.nD Cert.RgIdeal.τ Cert.RgIdeal.sig) → Buf (Elt Ideal) ℓ) (g : Dev Cert.RgIdeal.nD → PrngReg), Pre_RgIdeal m →
    θ_run (Cert.RgIdeal.defs (F := Ideal)) (onTc (τ := Cert.RgIdeal.τ) (Cert.RgIdeal.main (F := Ideal))) ⟨m, fun _ => 0, g⟩ (fun r => (∀ c : Dev Cert.RgIdeal.nD,
      r.2.mem ((c.tc : Thread Cert.RgIdeal.nD Cert.RgIdeal.τ).loc Cert.RgIdeal.main_arg0) = m ((c.tc : Thread Cert.RgIdeal.nD Cert.RgIdeal.τ).loc Cert.RgIdeal.main_arg0)
      ∧ r.2.mem ((c.tc : Thread Cert.RgIdeal.nD Cert.RgIdeal.τ).loc Cert.RgIdeal.main_arg1) = m ((c.tc : Thread Cert.RgIdeal.nD Cert.RgIdeal.τ).loc Cert.RgIdeal.main_arg1)
      ∧ r.2.mem ((c.tc : Thread Cert.RgIdeal.nD Cert.RgIdeal.τ).loc Cert.RgIdeal.main_arg2) = m ((c.tc : Thread Cert.RgIdeal.nD Cert.RgIdeal.τ).loc Cert.RgIdeal.main_arg2)
      ∧ r.2.mem ((c.tc : Thread Cert.RgIdeal.nD Cert.RgIdeal.τ).loc Cert.RgIdeal.main_arg3) = m ((c.tc : Thread Cert.RgIdeal.nD Cert.RgIdeal.τ).loc Cert.RgIdeal.main_arg3)
      ∧ r.2.mem ((c.tc : Thread Cert.RgIdeal.nD Cert.RgIdeal.τ).loc Cert.RgIdeal.main_arg4) = m ((c.tc : Thread Cert.RgIdeal.nD Cert.RgIdeal.τ).loc Cert.RgIdeal.main_arg4)
      ∧ r.2.mem ((c.tc : Thread Cert.RgIdeal.nD Cert.RgIdeal.τ).loc Cert.RgIdeal.main_arg5) = m ((c.tc : Thread Cert.RgIdeal.nD Cert.RgIdeal.τ).loc Cert.RgIdeal.main_arg5)
      ∧ r.2.mem ((c.tc : Thread Cert.RgIdeal.nD Cert.RgIdeal.τ).loc Cert.RgIdeal.main_arg6) = m ((c.tc : Thread Cert.RgIdeal.nD Cert.RgIdeal.τ).loc Cert.RgIdeal.main_arg6)
      ∧ r.2.mem ((c.tc : Thread Cert.RgIdeal.nD Cert.RgIdeal.τ).loc Cert.RgIdeal.main_arg7) = m ((c.tc : Thread Cert.RgIdeal.nD Cert.RgIdeal.τ).loc Cert.RgIdeal.main_arg7))
      ∧ r.2.sem = fun _ => 0)

def quiescent_RgIdeal_pre_finite_g [hRgIdeal : Cert.RgIdeal.Facts] [hPre_finite_g : Cert.Pre_finite_g.Facts] : Prop :=
  ∀ (m : (ℓ : Loc Cert.RgIdeal.nD Cert.RgIdeal.τ Cert.RgIdeal.sig) → Buf (Elt Ideal) ℓ) (g : Dev Cert.RgIdeal.nD → PrngReg), Pre_RgIdeal_finite_g m →
    θ_run (Cert.RgIdeal.defs (F := Ideal)) (onTc (τ := Cert.RgIdeal.τ) (Cert.RgIdeal.main (F := Ideal))) ⟨m, fun _ => 0, g⟩ (fun r => (∀ c : Dev Cert.RgIdeal.nD,
      r.2.mem ((c.tc : Thread Cert.RgIdeal.nD Cert.RgIdeal.τ).loc Cert.RgIdeal.main_arg0) = m ((c.tc : Thread Cert.RgIdeal.nD Cert.RgIdeal.τ).loc Cert.RgIdeal.main_arg0)
      ∧ r.2.mem ((c.tc : Thread Cert.RgIdeal.nD Cert.RgIdeal.τ).loc Cert.RgIdeal.main_arg1) = m ((c.tc : Thread Cert.RgIdeal.nD Cert.RgIdeal.τ).loc Cert.RgIdeal.main_arg1)
      ∧ r.2.mem ((c.tc : Thread Cert.RgIdeal.nD Cert.RgIdeal.τ).loc Cert.RgIdeal.main_arg2) = m ((c.tc : Thread Cert.RgIdeal.nD Cert.RgIdeal.τ).loc Cert.RgIdeal.main_arg2)
      ∧ r.2.mem ((c.tc : Thread Cert.RgIdeal.nD Cert.RgIdeal.τ).loc Cert.RgIdeal.main_arg3) = m ((c.tc : Thread Cert.RgIdeal.nD Cert.RgIdeal.τ).loc Cert.RgIdeal.main_arg3)
      ∧ r.2.mem ((c.tc : Thread Cert.RgIdeal.nD Cert.RgIdeal.τ).loc Cert.RgIdeal.main_arg4) = m ((c.tc : Thread Cert.RgIdeal.nD Cert.RgIdeal.τ).loc Cert.RgIdeal.main_arg4)
      ∧ r.2.mem ((c.tc : Thread Cert.RgIdeal.nD Cert.RgIdeal.τ).loc Cert.RgIdeal.main_arg5) = m ((c.tc : Thread Cert.RgIdeal.nD Cert.RgIdeal.τ).loc Cert.RgIdeal.main_arg5)
      ∧ r.2.mem ((c.tc : Thread Cert.RgIdeal.nD Cert.RgIdeal.τ).loc Cert.RgIdeal.main_arg6) = m ((c.tc : Thread Cert.RgIdeal.nD Cert.RgIdeal.τ).loc Cert.RgIdeal.main_arg6)
      ∧ r.2.mem ((c.tc : Thread Cert.RgIdeal.nD Cert.RgIdeal.τ).loc Cert.RgIdeal.main_arg7) = m ((c.tc : Thread Cert.RgIdeal.nD Cert.RgIdeal.τ).loc Cert.RgIdeal.main_arg7))
      ∧ r.2.sem = fun _ => 0)

def quiescent_Dm [hDm : Cert.Dm.Facts] : Prop :=
  ∀ (m : (ℓ : Loc Cert.Dm.nD Cert.Dm.τ Cert.Dm.sig) → Buf (Elt Bits) ℓ) (g : Dev Cert.Dm.nD → PrngReg), Pre_Dm m →
    θ_run (Cert.Dm.defs (F := Bits)) (onTc (τ := Cert.Dm.τ) (Cert.Dm.main (F := Bits))) ⟨m, fun _ => 0, g⟩ (fun r => (∀ c : Dev Cert.Dm.nD,
      r.2.mem ((c.tc : Thread Cert.Dm.nD Cert.Dm.τ).loc Cert.Dm.main_arg0) = m ((c.tc : Thread Cert.Dm.nD Cert.Dm.τ).loc Cert.Dm.main_arg0)
      ∧ r.2.mem ((c.tc : Thread Cert.Dm.nD Cert.Dm.τ).loc Cert.Dm.main_arg1) = m ((c.tc : Thread Cert.Dm.nD Cert.Dm.τ).loc Cert.Dm.main_arg1)
      ∧ r.2.mem ((c.tc : Thread Cert.Dm.nD Cert.Dm.τ).loc Cert.Dm.main_arg2) = m ((c.tc : Thread Cert.Dm.nD Cert.Dm.τ).loc Cert.Dm.main_arg2)
      ∧ r.2.mem ((c.tc : Thread Cert.Dm.nD Cert.Dm.τ).loc Cert.Dm.main_arg3) = m ((c.tc : Thread Cert.Dm.nD Cert.Dm.τ).loc Cert.Dm.main_arg3)
      ∧ r.2.mem ((c.tc : Thread Cert.Dm.nD Cert.Dm.τ).loc Cert.Dm.main_arg4) = m ((c.tc : Thread Cert.Dm.nD Cert.Dm.τ).loc Cert.Dm.main_arg4)
      ∧ r.2.mem ((c.tc : Thread Cert.Dm.nD Cert.Dm.τ).loc Cert.Dm.main_arg5) = m ((c.tc : Thread Cert.Dm.nD Cert.Dm.τ).loc Cert.Dm.main_arg5)
      ∧ r.2.mem ((c.tc : Thread Cert.Dm.nD Cert.Dm.τ).loc Cert.Dm.main_arg6) = m ((c.tc : Thread Cert.Dm.nD Cert.Dm.τ).loc Cert.Dm.main_arg6)
      ∧ r.2.mem ((c.tc : Thread Cert.Dm.nD Cert.Dm.τ).loc Cert.Dm.main_arg7) = m ((c.tc : Thread Cert.Dm.nD Cert.Dm.τ).loc Cert.Dm.main_arg7))
      ∧ r.2.sem = fun _ => 0)

def quiescent_DmIdeal [hDmIdeal : Cert.DmIdeal.Facts] : Prop :=
  ∀ (m : (ℓ : Loc Cert.DmIdeal.nD Cert.DmIdeal.τ Cert.DmIdeal.sig) → Buf (Elt Ideal) ℓ) (g : Dev Cert.DmIdeal.nD → PrngReg), Pre_DmIdeal m →
    θ_run (Cert.DmIdeal.defs (F := Ideal)) (onTc (τ := Cert.DmIdeal.τ) (Cert.DmIdeal.main (F := Ideal))) ⟨m, fun _ => 0, g⟩ (fun r => (∀ c : Dev Cert.DmIdeal.nD,
      r.2.mem ((c.tc : Thread Cert.DmIdeal.nD Cert.DmIdeal.τ).loc Cert.DmIdeal.main_arg0) = m ((c.tc : Thread Cert.DmIdeal.nD Cert.DmIdeal.τ).loc Cert.DmIdeal.main_arg0)
      ∧ r.2.mem ((c.tc : Thread Cert.DmIdeal.nD Cert.DmIdeal.τ).loc Cert.DmIdeal.main_arg1) = m ((c.tc : Thread Cert.DmIdeal.nD Cert.DmIdeal.τ).loc Cert.DmIdeal.main_arg1)
      ∧ r.2.mem ((c.tc : Thread Cert.DmIdeal.nD Cert.DmIdeal.τ).loc Cert.DmIdeal.main_arg2) = m ((c.tc : Thread Cert.DmIdeal.nD Cert.DmIdeal.τ).loc Cert.DmIdeal.main_arg2)
      ∧ r.2.mem ((c.tc : Thread Cert.DmIdeal.nD Cert.DmIdeal.τ).loc Cert.DmIdeal.main_arg3) = m ((c.tc : Thread Cert.DmIdeal.nD Cert.DmIdeal.τ).loc Cert.DmIdeal.main_arg3)
      ∧ r.2.mem ((c.tc : Thread Cert.DmIdeal.nD Cert.DmIdeal.τ).loc Cert.DmIdeal.main_arg4) = m ((c.tc : Thread Cert.DmIdeal.nD Cert.DmIdeal.τ).loc Cert.DmIdeal.main_arg4)
      ∧ r.2.mem ((c.tc : Thread Cert.DmIdeal.nD Cert.DmIdeal.τ).loc Cert.DmIdeal.main_arg5) = m ((c.tc : Thread Cert.DmIdeal.nD Cert.DmIdeal.τ).loc Cert.DmIdeal.main_arg5)
      ∧ r.2.mem ((c.tc : Thread Cert.DmIdeal.nD Cert.DmIdeal.τ).loc Cert.DmIdeal.main_arg6) = m ((c.tc : Thread Cert.DmIdeal.nD Cert.DmIdeal.τ).loc Cert.DmIdeal.main_arg6)
      ∧ r.2.mem ((c.tc : Thread Cert.DmIdeal.nD Cert.DmIdeal.τ).loc Cert.DmIdeal.main_arg7) = m ((c.tc : Thread Cert.DmIdeal.nD Cert.DmIdeal.τ).loc Cert.DmIdeal.main_arg7))
      ∧ r.2.sem = fun _ => 0)

def quiescent_RmIdeal [hRmIdeal : Cert.RmIdeal.Facts] : Prop :=
  ∀ (m : (ℓ : Loc Cert.RmIdeal.nD Cert.RmIdeal.τ Cert.RmIdeal.sig) → Buf (Elt Ideal) ℓ) (g : Dev Cert.RmIdeal.nD → PrngReg), Pre_RmIdeal m →
    θ_run (Cert.RmIdeal.defs (F := Ideal)) (onTc (τ := Cert.RmIdeal.τ) (Cert.RmIdeal.main (F := Ideal))) ⟨m, fun _ => 0, g⟩ (fun r => (∀ c : Dev Cert.RmIdeal.nD,
      r.2.mem ((c.tc : Thread Cert.RmIdeal.nD Cert.RmIdeal.τ).loc Cert.RmIdeal.main_arg0) = m ((c.tc : Thread Cert.RmIdeal.nD Cert.RmIdeal.τ).loc Cert.RmIdeal.main_arg0)
      ∧ r.2.mem ((c.tc : Thread Cert.RmIdeal.nD Cert.RmIdeal.τ).loc Cert.RmIdeal.main_arg1) = m ((c.tc : Thread Cert.RmIdeal.nD Cert.RmIdeal.τ).loc Cert.RmIdeal.main_arg1)
      ∧ r.2.mem ((c.tc : Thread Cert.RmIdeal.nD Cert.RmIdeal.τ).loc Cert.RmIdeal.main_arg2) = m ((c.tc : Thread Cert.RmIdeal.nD Cert.RmIdeal.τ).loc Cert.RmIdeal.main_arg2)
      ∧ r.2.mem ((c.tc : Thread Cert.RmIdeal.nD Cert.RmIdeal.τ).loc Cert.RmIdeal.main_arg3) = m ((c.tc : Thread Cert.RmIdeal.nD Cert.RmIdeal.τ).loc Cert.RmIdeal.main_arg3)
      ∧ r.2.mem ((c.tc : Thread Cert.RmIdeal.nD Cert.RmIdeal.τ).loc Cert.RmIdeal.main_arg4) = m ((c.tc : Thread Cert.RmIdeal.nD Cert.RmIdeal.τ).loc Cert.RmIdeal.main_arg4)
      ∧ r.2.mem ((c.tc : Thread Cert.RmIdeal.nD Cert.RmIdeal.τ).loc Cert.RmIdeal.main_arg5) = m ((c.tc : Thread Cert.RmIdeal.nD Cert.RmIdeal.τ).loc Cert.RmIdeal.main_arg5)
      ∧ r.2.mem ((c.tc : Thread Cert.RmIdeal.nD Cert.RmIdeal.τ).loc Cert.RmIdeal.main_arg6) = m ((c.tc : Thread Cert.RmIdeal.nD Cert.RmIdeal.τ).loc Cert.RmIdeal.main_arg6)
      ∧ r.2.mem ((c.tc : Thread Cert.RmIdeal.nD Cert.RmIdeal.τ).loc Cert.RmIdeal.main_arg7) = m ((c.tc : Thread Cert.RmIdeal.nD Cert.RmIdeal.τ).loc Cert.RmIdeal.main_arg7))
      ∧ r.2.sem = fun _ => 0)

def quiescent_Og [hOg : Cert.Og.Facts] : Prop :=
  ∀ (m : (ℓ : Loc Cert.Og.nD Cert.Og.τ Cert.Og.sig) → Buf (Elt Bits) ℓ) (g : Dev Cert.Og.nD → PrngReg), Pre_Og m →
    θ_run (Cert.Og.defs (F := Bits)) (onTc (τ := Cert.Og.τ) (Cert.Og.main (F := Bits))) ⟨m, fun _ => 0, g⟩ (fun r => (∀ c : Dev Cert.Og.nD,
      r.2.mem ((c.tc : Thread Cert.Og.nD Cert.Og.τ).loc Cert.Og.main_arg0) = m ((c.tc : Thread Cert.Og.nD Cert.Og.τ).loc Cert.Og.main_arg0)
      ∧ r.2.mem ((c.tc : Thread Cert.Og.nD Cert.Og.τ).loc Cert.Og.main_arg1) = m ((c.tc : Thread Cert.Og.nD Cert.Og.τ).loc Cert.Og.main_arg1)
      ∧ r.2.mem ((c.tc : Thread Cert.Og.nD Cert.Og.τ).loc Cert.Og.main_arg2) = m ((c.tc : Thread Cert.Og.nD Cert.Og.τ).loc Cert.Og.main_arg2)
      ∧ r.2.mem ((c.tc : Thread Cert.Og.nD Cert.Og.τ).loc Cert.Og.main_arg3) = m ((c.tc : Thread Cert.Og.nD Cert.Og.τ).loc Cert.Og.main_arg3)
      ∧ r.2.mem ((c.tc : Thread Cert.Og.nD Cert.Og.τ).loc Cert.Og.main_arg4) = m ((c.tc : Thread Cert.Og.nD Cert.Og.τ).loc Cert.Og.main_arg4))
      ∧ r.2.sem = fun _ => 0)

def quiescent_OgIdeal [hOgIdeal : Cert.OgIdeal.Facts] : Prop :=
  ∀ (m : (ℓ : Loc Cert.OgIdeal.nD Cert.OgIdeal.τ Cert.OgIdeal.sig) → Buf (Elt Ideal) ℓ) (g : Dev Cert.OgIdeal.nD → PrngReg), Pre_OgIdeal m →
    θ_run (Cert.OgIdeal.defs (F := Ideal)) (onTc (τ := Cert.OgIdeal.τ) (Cert.OgIdeal.main (F := Ideal))) ⟨m, fun _ => 0, g⟩ (fun r => (∀ c : Dev Cert.OgIdeal.nD,
      r.2.mem ((c.tc : Thread Cert.OgIdeal.nD Cert.OgIdeal.τ).loc Cert.OgIdeal.main_arg0) = m ((c.tc : Thread Cert.OgIdeal.nD Cert.OgIdeal.τ).loc Cert.OgIdeal.main_arg0)
      ∧ r.2.mem ((c.tc : Thread Cert.OgIdeal.nD Cert.OgIdeal.τ).loc Cert.OgIdeal.main_arg1) = m ((c.tc : Thread Cert.OgIdeal.nD Cert.OgIdeal.τ).loc Cert.OgIdeal.main_arg1)
      ∧ r.2.mem ((c.tc : Thread Cert.OgIdeal.nD Cert.OgIdeal.τ).loc Cert.OgIdeal.main_arg2) = m ((c.tc : Thread Cert.OgIdeal.nD Cert.OgIdeal.τ).loc Cert.OgIdeal.main_arg2)
      ∧ r.2.mem ((c.tc : Thread Cert.OgIdeal.nD Cert.OgIdeal.τ).loc Cert.OgIdeal.main_arg3) = m ((c.tc : Thread Cert.OgIdeal.nD Cert.OgIdeal.τ).loc Cert.OgIdeal.main_arg3)
      ∧ r.2.mem ((c.tc : Thread Cert.OgIdeal.nD Cert.OgIdeal.τ).loc Cert.OgIdeal.main_arg4) = m ((c.tc : Thread Cert.OgIdeal.nD Cert.OgIdeal.τ).loc Cert.OgIdeal.main_arg4))
      ∧ r.2.sem = fun _ => 0)

def quiescent_QgIdeal [hQgIdeal : Cert.QgIdeal.Facts] : Prop :=
  ∀ (m : (ℓ : Loc Cert.QgIdeal.nD Cert.QgIdeal.τ Cert.QgIdeal.sig) → Buf (Elt Ideal) ℓ) (g : Dev Cert.QgIdeal.nD → PrngReg), Pre_QgIdeal m →
    θ_run (Cert.QgIdeal.defs (F := Ideal)) (onTc (τ := Cert.QgIdeal.τ) (Cert.QgIdeal.main (F := Ideal))) ⟨m, fun _ => 0, g⟩ (fun r => (∀ c : Dev Cert.QgIdeal.nD,
      r.2.mem ((c.tc : Thread Cert.QgIdeal.nD Cert.QgIdeal.τ).loc Cert.QgIdeal.main_arg0) = m ((c.tc : Thread Cert.QgIdeal.nD Cert.QgIdeal.τ).loc Cert.QgIdeal.main_arg0)
      ∧ r.2.mem ((c.tc : Thread Cert.QgIdeal.nD Cert.QgIdeal.τ).loc Cert.QgIdeal.main_arg1) = m ((c.tc : Thread Cert.QgIdeal.nD Cert.QgIdeal.τ).loc Cert.QgIdeal.main_arg1)
      ∧ r.2.mem ((c.tc : Thread Cert.QgIdeal.nD Cert.QgIdeal.τ).loc Cert.QgIdeal.main_arg2) = m ((c.tc : Thread Cert.QgIdeal.nD Cert.QgIdeal.τ).loc Cert.QgIdeal.main_arg2)
      ∧ r.2.mem ((c.tc : Thread Cert.QgIdeal.nD Cert.QgIdeal.τ).loc Cert.QgIdeal.main_arg3) = m ((c.tc : Thread Cert.QgIdeal.nD Cert.QgIdeal.τ).loc Cert.QgIdeal.main_arg3)
      ∧ r.2.mem ((c.tc : Thread Cert.QgIdeal.nD Cert.QgIdeal.τ).loc Cert.QgIdeal.main_arg4) = m ((c.tc : Thread Cert.QgIdeal.nD Cert.QgIdeal.τ).loc Cert.QgIdeal.main_arg4))
      ∧ r.2.sem = fun _ => 0)

def quiescent_Oi [hOi : Cert.Oi.Facts] : Prop :=
  ∀ (m : (ℓ : Loc Cert.Oi.nD Cert.Oi.τ Cert.Oi.sig) → Buf (Elt Bits) ℓ) (g : Dev Cert.Oi.nD → PrngReg), Pre_Oi m →
    θ_run (Cert.Oi.defs (F := Bits)) (onTc (τ := Cert.Oi.τ) (Cert.Oi.main (F := Bits))) ⟨m, fun _ => 0, g⟩ (fun r => (∀ c : Dev Cert.Oi.nD,
      r.2.mem ((c.tc : Thread Cert.Oi.nD Cert.Oi.τ).loc Cert.Oi.main_arg0) = m ((c.tc : Thread Cert.Oi.nD Cert.Oi.τ).loc Cert.Oi.main_arg0)
      ∧ r.2.mem ((c.tc : Thread Cert.Oi.nD Cert.Oi.τ).loc Cert.Oi.main_arg1) = m ((c.tc : Thread Cert.Oi.nD Cert.Oi.τ).loc Cert.Oi.main_arg1)
      ∧ r.2.mem ((c.tc : Thread Cert.Oi.nD Cert.Oi.τ).loc Cert.Oi.main_arg2) = m ((c.tc : Thread Cert.Oi.nD Cert.Oi.τ).loc Cert.Oi.main_arg2)
      ∧ r.2.mem ((c.tc : Thread Cert.Oi.nD Cert.Oi.τ).loc Cert.Oi.main_arg3) = m ((c.tc : Thread Cert.Oi.nD Cert.Oi.τ).loc Cert.Oi.main_arg3)
      ∧ r.2.mem ((c.tc : Thread Cert.Oi.nD Cert.Oi.τ).loc Cert.Oi.main_arg4) = m ((c.tc : Thread Cert.Oi.nD Cert.Oi.τ).loc Cert.Oi.main_arg4))
      ∧ r.2.sem = fun _ => 0)

def quiescent_OiIdeal [hOiIdeal : Cert.OiIdeal.Facts] : Prop :=
  ∀ (m : (ℓ : Loc Cert.OiIdeal.nD Cert.OiIdeal.τ Cert.OiIdeal.sig) → Buf (Elt Ideal) ℓ) (g : Dev Cert.OiIdeal.nD → PrngReg), Pre_OiIdeal m →
    θ_run (Cert.OiIdeal.defs (F := Ideal)) (onTc (τ := Cert.OiIdeal.τ) (Cert.OiIdeal.main (F := Ideal))) ⟨m, fun _ => 0, g⟩ (fun r => (∀ c : Dev Cert.OiIdeal.nD,
      r.2.mem ((c.tc : Thread Cert.OiIdeal.nD Cert.OiIdeal.τ).loc Cert.OiIdeal.main_arg0) = m ((c.tc : Thread Cert.OiIdeal.nD Cert.OiIdeal.τ).loc Cert.OiIdeal.main_arg0)
      ∧ r.2.mem ((c.tc : Thread Cert.OiIdeal.nD Cert.OiIdeal.τ).loc Cert.OiIdeal.main_arg1) = m ((c.tc : Thread Cert.OiIdeal.nD Cert.OiIdeal.τ).loc Cert.OiIdeal.main_arg1)
      ∧ r.2.mem ((c.tc : Thread Cert.OiIdeal.nD Cert.OiIdeal.τ).loc Cert.OiIdeal.main_arg2) = m ((c.tc : Thread Cert.OiIdeal.nD Cert.OiIdeal.τ).loc Cert.OiIdeal.main_arg2)
      ∧ r.2.mem ((c.tc : Thread Cert.OiIdeal.nD Cert.OiIdeal.τ).loc Cert.OiIdeal.main_arg3) = m ((c.tc : Thread Cert.OiIdeal.nD Cert.OiIdeal.τ).loc Cert.OiIdeal.main_arg3)
      ∧ r.2.mem ((c.tc : Thread Cert.OiIdeal.nD Cert.OiIdeal.τ).loc Cert.OiIdeal.main_arg4) = m ((c.tc : Thread Cert.OiIdeal.nD Cert.OiIdeal.τ).loc Cert.OiIdeal.main_arg4))
      ∧ r.2.sem = fun _ => 0)

def quiescent_QiIdeal [hQiIdeal : Cert.QiIdeal.Facts] : Prop :=
  ∀ (m : (ℓ : Loc Cert.QiIdeal.nD Cert.QiIdeal.τ Cert.QiIdeal.sig) → Buf (Elt Ideal) ℓ) (g : Dev Cert.QiIdeal.nD → PrngReg), Pre_QiIdeal m →
    θ_run (Cert.QiIdeal.defs (F := Ideal)) (onTc (τ := Cert.QiIdeal.τ) (Cert.QiIdeal.main (F := Ideal))) ⟨m, fun _ => 0, g⟩ (fun r => (∀ c : Dev Cert.QiIdeal.nD,
      r.2.mem ((c.tc : Thread Cert.QiIdeal.nD Cert.QiIdeal.τ).loc Cert.QiIdeal.main_arg0) = m ((c.tc : Thread Cert.QiIdeal.nD Cert.QiIdeal.τ).loc Cert.QiIdeal.main_arg0)
      ∧ r.2.mem ((c.tc : Thread Cert.QiIdeal.nD Cert.QiIdeal.τ).loc Cert.QiIdeal.main_arg1) = m ((c.tc : Thread Cert.QiIdeal.nD Cert.QiIdeal.τ).loc Cert.QiIdeal.main_arg1)
      ∧ r.2.mem ((c.tc : Thread Cert.QiIdeal.nD Cert.QiIdeal.τ).loc Cert.QiIdeal.main_arg2) = m ((c.tc : Thread Cert.QiIdeal.nD Cert.QiIdeal.τ).loc Cert.QiIdeal.main_arg2)
      ∧ r.2.mem ((c.tc : Thread Cert.QiIdeal.nD Cert.QiIdeal.τ).loc Cert.QiIdeal.main_arg3) = m ((c.tc : Thread Cert.QiIdeal.nD Cert.QiIdeal.τ).loc Cert.QiIdeal.main_arg3)
      ∧ r.2.mem ((c.tc : Thread Cert.QiIdeal.nD Cert.QiIdeal.τ).loc Cert.QiIdeal.main_arg4) = m ((c.tc : Thread Cert.QiIdeal.nD Cert.QiIdeal.τ).loc Cert.QiIdeal.main_arg4))
      ∧ r.2.sem = fun _ => 0)

def quiescent_Od [hOd : Cert.Od.Facts] : Prop :=
  ∀ (m : (ℓ : Loc Cert.Od.nD Cert.Od.τ Cert.Od.sig) → Buf (Elt Bits) ℓ) (g : Dev Cert.Od.nD → PrngReg), Pre_Od m →
    θ_run (Cert.Od.defs (F := Bits)) (onTc (τ := Cert.Od.τ) (Cert.Od.main (F := Bits))) ⟨m, fun _ => 0, g⟩ (fun r => (∀ c : Dev Cert.Od.nD,
      r.2.mem ((c.tc : Thread Cert.Od.nD Cert.Od.τ).loc Cert.Od.main_arg0) = m ((c.tc : Thread Cert.Od.nD Cert.Od.τ).loc Cert.Od.main_arg0)
      ∧ r.2.mem ((c.tc : Thread Cert.Od.nD Cert.Od.τ).loc Cert.Od.main_arg1) = m ((c.tc : Thread Cert.Od.nD Cert.Od.τ).loc Cert.Od.main_arg1)
      ∧ r.2.mem ((c.tc : Thread Cert.Od.nD Cert.Od.τ).loc Cert.Od.main_arg2) = m ((c.tc : Thread Cert.Od.nD Cert.Od.τ).loc Cert.Od.main_arg2)
      ∧ r.2.mem ((c.tc : Thread Cert.Od.nD Cert.Od.τ).loc Cert.Od.main_arg3) = m ((c.tc : Thread Cert.Od.nD Cert.Od.τ).loc Cert.Od.main_arg3)
      ∧ r.2.mem ((c.tc : Thread Cert.Od.nD Cert.Od.τ).loc Cert.Od.main_arg4) = m ((c.tc : Thread Cert.Od.nD Cert.Od.τ).loc Cert.Od.main_arg4))
      ∧ r.2.sem = fun _ => 0)

def quiescent_OdIdeal [hOdIdeal : Cert.OdIdeal.Facts] : Prop :=
  ∀ (m : (ℓ : Loc Cert.OdIdeal.nD Cert.OdIdeal.τ Cert.OdIdeal.sig) → Buf (Elt Ideal) ℓ) (g : Dev Cert.OdIdeal.nD → PrngReg), Pre_OdIdeal m →
    θ_run (Cert.OdIdeal.defs (F := Ideal)) (onTc (τ := Cert.OdIdeal.τ) (Cert.OdIdeal.main (F := Ideal))) ⟨m, fun _ => 0, g⟩ (fun r => (∀ c : Dev Cert.OdIdeal.nD,
      r.2.mem ((c.tc : Thread Cert.OdIdeal.nD Cert.OdIdeal.τ).loc Cert.OdIdeal.main_arg0) = m ((c.tc : Thread Cert.OdIdeal.nD Cert.OdIdeal.τ).loc Cert.OdIdeal.main_arg0)
      ∧ r.2.mem ((c.tc : Thread Cert.OdIdeal.nD Cert.OdIdeal.τ).loc Cert.OdIdeal.main_arg1) = m ((c.tc : Thread Cert.OdIdeal.nD Cert.OdIdeal.τ).loc Cert.OdIdeal.main_arg1)
      ∧ r.2.mem ((c.tc : Thread Cert.OdIdeal.nD Cert.OdIdeal.τ).loc Cert.OdIdeal.main_arg2) = m ((c.tc : Thread Cert.OdIdeal.nD Cert.OdIdeal.τ).loc Cert.OdIdeal.main_arg2)
      ∧ r.2.mem ((c.tc : Thread Cert.OdIdeal.nD Cert.OdIdeal.τ).loc Cert.OdIdeal.main_arg3) = m ((c.tc : Thread Cert.OdIdeal.nD Cert.OdIdeal.τ).loc Cert.OdIdeal.main_arg3)
      ∧ r.2.mem ((c.tc : Thread Cert.OdIdeal.nD Cert.OdIdeal.τ).loc Cert.OdIdeal.main_arg4) = m ((c.tc : Thread Cert.OdIdeal.nD Cert.OdIdeal.τ).loc Cert.OdIdeal.main_arg4))
      ∧ r.2.sem = fun _ => 0)

def quiescent_QdIdeal [hQdIdeal : Cert.QdIdeal.Facts] : Prop :=
  ∀ (m : (ℓ : Loc Cert.QdIdeal.nD Cert.QdIdeal.τ Cert.QdIdeal.sig) → Buf (Elt Ideal) ℓ) (g : Dev Cert.QdIdeal.nD → PrngReg), Pre_QdIdeal m →
    θ_run (Cert.QdIdeal.defs (F := Ideal)) (onTc (τ := Cert.QdIdeal.τ) (Cert.QdIdeal.main (F := Ideal))) ⟨m, fun _ => 0, g⟩ (fun r => (∀ c : Dev Cert.QdIdeal.nD,
      r.2.mem ((c.tc : Thread Cert.QdIdeal.nD Cert.QdIdeal.τ).loc Cert.QdIdeal.main_arg0) = m ((c.tc : Thread Cert.QdIdeal.nD Cert.QdIdeal.τ).loc Cert.QdIdeal.main_arg0)
      ∧ r.2.mem ((c.tc : Thread Cert.QdIdeal.nD Cert.QdIdeal.τ).loc Cert.QdIdeal.main_arg1) = m ((c.tc : Thread Cert.QdIdeal.nD Cert.QdIdeal.τ).loc Cert.QdIdeal.main_arg1)
      ∧ r.2.mem ((c.tc : Thread Cert.QdIdeal.nD Cert.QdIdeal.τ).loc Cert.QdIdeal.main_arg2) = m ((c.tc : Thread Cert.QdIdeal.nD Cert.QdIdeal.τ).loc Cert.QdIdeal.main_arg2)
      ∧ r.2.mem ((c.tc : Thread Cert.QdIdeal.nD Cert.QdIdeal.τ).loc Cert.QdIdeal.main_arg3) = m ((c.tc : Thread Cert.QdIdeal.nD Cert.QdIdeal.τ).loc Cert.QdIdeal.main_arg3)
      ∧ r.2.mem ((c.tc : Thread Cert.QdIdeal.nD Cert.QdIdeal.τ).loc Cert.QdIdeal.main_arg4) = m ((c.tc : Thread Cert.QdIdeal.nD Cert.QdIdeal.τ).loc Cert.QdIdeal.main_arg4))
      ∧ r.2.sem = fun _ => 0)

def quiescent_Oo [hOo : Cert.Oo.Facts] : Prop :=
  ∀ (m : (ℓ : Loc Cert.Oo.nD Cert.Oo.τ Cert.Oo.sig) → Buf (Elt Bits) ℓ) (g : Dev Cert.Oo.nD → PrngReg), Pre_Oo m →
    θ_run (Cert.Oo.defs (F := Bits)) (onTc (τ := Cert.Oo.τ) (Cert.Oo.main (F := Bits))) ⟨m, fun _ => 0, g⟩ (fun r => (∀ c : Dev Cert.Oo.nD,
      r.2.mem ((c.tc : Thread Cert.Oo.nD Cert.Oo.τ).loc Cert.Oo.main_arg0) = m ((c.tc : Thread Cert.Oo.nD Cert.Oo.τ).loc Cert.Oo.main_arg0)
      ∧ r.2.mem ((c.tc : Thread Cert.Oo.nD Cert.Oo.τ).loc Cert.Oo.main_arg1) = m ((c.tc : Thread Cert.Oo.nD Cert.Oo.τ).loc Cert.Oo.main_arg1)
      ∧ r.2.mem ((c.tc : Thread Cert.Oo.nD Cert.Oo.τ).loc Cert.Oo.main_arg2) = m ((c.tc : Thread Cert.Oo.nD Cert.Oo.τ).loc Cert.Oo.main_arg2)
      ∧ r.2.mem ((c.tc : Thread Cert.Oo.nD Cert.Oo.τ).loc Cert.Oo.main_arg3) = m ((c.tc : Thread Cert.Oo.nD Cert.Oo.τ).loc Cert.Oo.main_arg3)
      ∧ r.2.mem ((c.tc : Thread Cert.Oo.nD Cert.Oo.τ).loc Cert.Oo.main_arg4) = m ((c.tc : Thread Cert.Oo.nD Cert.Oo.τ).loc Cert.Oo.main_arg4))
      ∧ r.2.sem = fun _ => 0)

def quiescent_OoIdeal [hOoIdeal : Cert.OoIdeal.Facts] : Prop :=
  ∀ (m : (ℓ : Loc Cert.OoIdeal.nD Cert.OoIdeal.τ Cert.OoIdeal.sig) → Buf (Elt Ideal) ℓ) (g : Dev Cert.OoIdeal.nD → PrngReg), Pre_OoIdeal m →
    θ_run (Cert.OoIdeal.defs (F := Ideal)) (onTc (τ := Cert.OoIdeal.τ) (Cert.OoIdeal.main (F := Ideal))) ⟨m, fun _ => 0, g⟩ (fun r => (∀ c : Dev Cert.OoIdeal.nD,
      r.2.mem ((c.tc : Thread Cert.OoIdeal.nD Cert.OoIdeal.τ).loc Cert.OoIdeal.main_arg0) = m ((c.tc : Thread Cert.OoIdeal.nD Cert.OoIdeal.τ).loc Cert.OoIdeal.main_arg0)
      ∧ r.2.mem ((c.tc : Thread Cert.OoIdeal.nD Cert.OoIdeal.τ).loc Cert.OoIdeal.main_arg1) = m ((c.tc : Thread Cert.OoIdeal.nD Cert.OoIdeal.τ).loc Cert.OoIdeal.main_arg1)
      ∧ r.2.mem ((c.tc : Thread Cert.OoIdeal.nD Cert.OoIdeal.τ).loc Cert.OoIdeal.main_arg2) = m ((c.tc : Thread Cert.OoIdeal.nD Cert.OoIdeal.τ).loc Cert.OoIdeal.main_arg2)
      ∧ r.2.mem ((c.tc : Thread Cert.OoIdeal.nD Cert.OoIdeal.τ).loc Cert.OoIdeal.main_arg3) = m ((c.tc : Thread Cert.OoIdeal.nD Cert.OoIdeal.τ).loc Cert.OoIdeal.main_arg3)
      ∧ r.2.mem ((c.tc : Thread Cert.OoIdeal.nD Cert.OoIdeal.τ).loc Cert.OoIdeal.main_arg4) = m ((c.tc : Thread Cert.OoIdeal.nD Cert.OoIdeal.τ).loc Cert.OoIdeal.main_arg4))
      ∧ r.2.sem = fun _ => 0)

def quiescent_QoIdeal [hQoIdeal : Cert.QoIdeal.Facts] : Prop :=
  ∀ (m : (ℓ : Loc Cert.QoIdeal.nD Cert.QoIdeal.τ Cert.QoIdeal.sig) → Buf (Elt Ideal) ℓ) (g : Dev Cert.QoIdeal.nD → PrngReg), Pre_QoIdeal m →
    θ_run (Cert.QoIdeal.defs (F := Ideal)) (onTc (τ := Cert.QoIdeal.τ) (Cert.QoIdeal.main (F := Ideal))) ⟨m, fun _ => 0, g⟩ (fun r => (∀ c : Dev Cert.QoIdeal.nD,
      r.2.mem ((c.tc : Thread Cert.QoIdeal.nD Cert.QoIdeal.τ).loc Cert.QoIdeal.main_arg0) = m ((c.tc : Thread Cert.QoIdeal.nD Cert.QoIdeal.τ).loc Cert.QoIdeal.main_arg0)
      ∧ r.2.mem ((c.tc : Thread Cert.QoIdeal.nD Cert.QoIdeal.τ).loc Cert.QoIdeal.main_arg1) = m ((c.tc : Thread Cert.QoIdeal.nD Cert.QoIdeal.τ).loc Cert.QoIdeal.main_arg1)
      ∧ r.2.mem ((c.tc : Thread Cert.QoIdeal.nD Cert.QoIdeal.τ).loc Cert.QoIdeal.main_arg2) = m ((c.tc : Thread Cert.QoIdeal.nD Cert.QoIdeal.τ).loc Cert.QoIdeal.main_arg2)
      ∧ r.2.mem ((c.tc : Thread Cert.QoIdeal.nD Cert.QoIdeal.τ).loc Cert.QoIdeal.main_arg3) = m ((c.tc : Thread Cert.QoIdeal.nD Cert.QoIdeal.τ).loc Cert.QoIdeal.main_arg3)
      ∧ r.2.mem ((c.tc : Thread Cert.QoIdeal.nD Cert.QoIdeal.τ).loc Cert.QoIdeal.main_arg4) = m ((c.tc : Thread Cert.QoIdeal.nD Cert.QoIdeal.τ).loc Cert.QoIdeal.main_arg4))
      ∧ r.2.sem = fun _ => 0)

def quiescent_Oc [hOc : Cert.Oc.Facts] : Prop :=
  ∀ (m : (ℓ : Loc Cert.Oc.nD Cert.Oc.τ Cert.Oc.sig) → Buf (Elt Bits) ℓ) (g : Dev Cert.Oc.nD → PrngReg), Pre_Oc m →
    θ_run (Cert.Oc.defs (F := Bits)) (onTc (τ := Cert.Oc.τ) (Cert.Oc.main (F := Bits))) ⟨m, fun _ => 0, g⟩ (fun r => (∀ c : Dev Cert.Oc.nD,
      r.2.mem ((c.tc : Thread Cert.Oc.nD Cert.Oc.τ).loc Cert.Oc.main_arg0) = m ((c.tc : Thread Cert.Oc.nD Cert.Oc.τ).loc Cert.Oc.main_arg0)
      ∧ r.2.mem ((c.tc : Thread Cert.Oc.nD Cert.Oc.τ).loc Cert.Oc.main_arg1) = m ((c.tc : Thread Cert.Oc.nD Cert.Oc.τ).loc Cert.Oc.main_arg1)
      ∧ r.2.mem ((c.tc : Thread Cert.Oc.nD Cert.Oc.τ).loc Cert.Oc.main_arg2) = m ((c.tc : Thread Cert.Oc.nD Cert.Oc.τ).loc Cert.Oc.main_arg2)
      ∧ r.2.mem ((c.tc : Thread Cert.Oc.nD Cert.Oc.τ).loc Cert.Oc.main_arg3) = m ((c.tc : Thread Cert.Oc.nD Cert.Oc.τ).loc Cert.Oc.main_arg3))
      ∧ r.2.sem = fun _ => 0)

def quiescent_OcIdeal [hOcIdeal : Cert.OcIdeal.Facts] : Prop :=
  ∀ (m : (ℓ : Loc Cert.OcIdeal.nD Cert.OcIdeal.τ Cert.OcIdeal.sig) → Buf (Elt Ideal) ℓ) (g : Dev Cert.OcIdeal.nD → PrngReg), Pre_OcIdeal m →
    θ_run (Cert.OcIdeal.defs (F := Ideal)) (onTc (τ := Cert.OcIdeal.τ) (Cert.OcIdeal.main (F := Ideal))) ⟨m, fun _ => 0, g⟩ (fun r => (∀ c : Dev Cert.OcIdeal.nD,
      r.2.mem ((c.tc : Thread Cert.OcIdeal.nD Cert.OcIdeal.τ).loc Cert.OcIdeal.main_arg0) = m ((c.tc : Thread Cert.OcIdeal.nD Cert.OcIdeal.τ).loc Cert.OcIdeal.main_arg0)
      ∧ r.2.mem ((c.tc : Thread Cert.OcIdeal.nD Cert.OcIdeal.τ).loc Cert.OcIdeal.main_arg1) = m ((c.tc : Thread Cert.OcIdeal.nD Cert.OcIdeal.τ).loc Cert.OcIdeal.main_arg1)
      ∧ r.2.mem ((c.tc : Thread Cert.OcIdeal.nD Cert.OcIdeal.τ).loc Cert.OcIdeal.main_arg2) = m ((c.tc : Thread Cert.OcIdeal.nD Cert.OcIdeal.τ).loc Cert.OcIdeal.main_arg2)
      ∧ r.2.mem ((c.tc : Thread Cert.OcIdeal.nD Cert.OcIdeal.τ).loc Cert.OcIdeal.main_arg3) = m ((c.tc : Thread Cert.OcIdeal.nD Cert.OcIdeal.τ).loc Cert.OcIdeal.main_arg3))
      ∧ r.2.sem = fun _ => 0)

def quiescent_QcIdeal [hQcIdeal : Cert.QcIdeal.Facts] : Prop :=
  ∀ (m : (ℓ : Loc Cert.QcIdeal.nD Cert.QcIdeal.τ Cert.QcIdeal.sig) → Buf (Elt Ideal) ℓ) (g : Dev Cert.QcIdeal.nD → PrngReg), Pre_QcIdeal m →
    θ_run (Cert.QcIdeal.defs (F := Ideal)) (onTc (τ := Cert.QcIdeal.τ) (Cert.QcIdeal.main (F := Ideal))) ⟨m, fun _ => 0, g⟩ (fun r => (∀ c : Dev Cert.QcIdeal.nD,
      r.2.mem ((c.tc : Thread Cert.QcIdeal.nD Cert.QcIdeal.τ).loc Cert.QcIdeal.main_arg0) = m ((c.tc : Thread Cert.QcIdeal.nD Cert.QcIdeal.τ).loc Cert.QcIdeal.main_arg0)
      ∧ r.2.mem ((c.tc : Thread Cert.QcIdeal.nD Cert.QcIdeal.τ).loc Cert.QcIdeal.main_arg1) = m ((c.tc : Thread Cert.QcIdeal.nD Cert.QcIdeal.τ).loc Cert.QcIdeal.main_arg1)
      ∧ r.2.mem ((c.tc : Thread Cert.QcIdeal.nD Cert.QcIdeal.τ).loc Cert.QcIdeal.main_arg2) = m ((c.tc : Thread Cert.QcIdeal.nD Cert.QcIdeal.τ).loc Cert.QcIdeal.main_arg2)
      ∧ r.2.mem ((c.tc : Thread Cert.QcIdeal.nD Cert.QcIdeal.τ).loc Cert.QcIdeal.main_arg3) = m ((c.tc : Thread Cert.QcIdeal.nD Cert.QcIdeal.τ).loc Cert.QcIdeal.main_arg3))
      ∧ r.2.sem = fun _ => 0)

def quiescent_Oh [hOh : Cert.Oh.Facts] : Prop :=
  ∀ (m : (ℓ : Loc Cert.Oh.nD Cert.Oh.τ Cert.Oh.sig) → Buf (Elt Bits) ℓ) (g : Dev Cert.Oh.nD → PrngReg), Pre_Oh m →
    θ_run (Cert.Oh.defs (F := Bits)) (onTc (τ := Cert.Oh.τ) (Cert.Oh.main (F := Bits))) ⟨m, fun _ => 0, g⟩ (fun r => (∀ c : Dev Cert.Oh.nD,
      r.2.mem ((c.tc : Thread Cert.Oh.nD Cert.Oh.τ).loc Cert.Oh.main_arg0) = m ((c.tc : Thread Cert.Oh.nD Cert.Oh.τ).loc Cert.Oh.main_arg0)
      ∧ r.2.mem ((c.tc : Thread Cert.Oh.nD Cert.Oh.τ).loc Cert.Oh.main_arg1) = m ((c.tc : Thread Cert.Oh.nD Cert.Oh.τ).loc Cert.Oh.main_arg1)
      ∧ r.2.mem ((c.tc : Thread Cert.Oh.nD Cert.Oh.τ).loc Cert.Oh.main_arg2) = m ((c.tc : Thread Cert.Oh.nD Cert.Oh.τ).loc Cert.Oh.main_arg2)
      ∧ r.2.mem ((c.tc : Thread Cert.Oh.nD Cert.Oh.τ).loc Cert.Oh.main_arg3) = m ((c.tc : Thread Cert.Oh.nD Cert.Oh.τ).loc Cert.Oh.main_arg3)
      ∧ r.2.mem ((c.tc : Thread Cert.Oh.nD Cert.Oh.τ).loc Cert.Oh.main_arg4) = m ((c.tc : Thread Cert.Oh.nD Cert.Oh.τ).loc Cert.Oh.main_arg4))
      ∧ r.2.sem = fun _ => 0)

def quiescent_OhIdeal [hOhIdeal : Cert.OhIdeal.Facts] : Prop :=
  ∀ (m : (ℓ : Loc Cert.OhIdeal.nD Cert.OhIdeal.τ Cert.OhIdeal.sig) → Buf (Elt Ideal) ℓ) (g : Dev Cert.OhIdeal.nD → PrngReg), Pre_OhIdeal m →
    θ_run (Cert.OhIdeal.defs (F := Ideal)) (onTc (τ := Cert.OhIdeal.τ) (Cert.OhIdeal.main (F := Ideal))) ⟨m, fun _ => 0, g⟩ (fun r => (∀ c : Dev Cert.OhIdeal.nD,
      r.2.mem ((c.tc : Thread Cert.OhIdeal.nD Cert.OhIdeal.τ).loc Cert.OhIdeal.main_arg0) = m ((c.tc : Thread Cert.OhIdeal.nD Cert.OhIdeal.τ).loc Cert.OhIdeal.main_arg0)
      ∧ r.2.mem ((c.tc : Thread Cert.OhIdeal.nD Cert.OhIdeal.τ).loc Cert.OhIdeal.main_arg1) = m ((c.tc : Thread Cert.OhIdeal.nD Cert.OhIdeal.τ).loc Cert.OhIdeal.main_arg1)
      ∧ r.2.mem ((c.tc : Thread Cert.OhIdeal.nD Cert.OhIdeal.τ).loc Cert.OhIdeal.main_arg2) = m ((c.tc : Thread Cert.OhIdeal.nD Cert.OhIdeal.τ).loc Cert.OhIdeal.main_arg2)
      ∧ r.2.mem ((c.tc : Thread Cert.OhIdeal.nD Cert.OhIdeal.τ).loc Cert.OhIdeal.main_arg3) = m ((c.tc : Thread Cert.OhIdeal.nD Cert.OhIdeal.τ).loc Cert.OhIdeal.main_arg3)
      ∧ r.2.mem ((c.tc : Thread Cert.OhIdeal.nD Cert.OhIdeal.τ).loc Cert.OhIdeal.main_arg4) = m ((c.tc : Thread Cert.OhIdeal.nD Cert.OhIdeal.τ).loc Cert.OhIdeal.main_arg4))
      ∧ r.2.sem = fun _ => 0)

def quiescent_QhIdeal [hQhIdeal : Cert.QhIdeal.Facts] : Prop :=
  ∀ (m : (ℓ : Loc Cert.QhIdeal.nD Cert.QhIdeal.τ Cert.QhIdeal.sig) → Buf (Elt Ideal) ℓ) (g : Dev Cert.QhIdeal.nD → PrngReg), Pre_QhIdeal m →
    θ_run (Cert.QhIdeal.defs (F := Ideal)) (onTc (τ := Cert.QhIdeal.τ) (Cert.QhIdeal.main (F := Ideal))) ⟨m, fun _ => 0, g⟩ (fun r => (∀ c : Dev Cert.QhIdeal.nD,
      r.2.mem ((c.tc : Thread Cert.QhIdeal.nD Cert.QhIdeal.τ).loc Cert.QhIdeal.main_arg0) = m ((c.tc : Thread Cert.QhIdeal.nD Cert.QhIdeal.τ).loc Cert.QhIdeal.main_arg0)
      ∧ r.2.mem ((c.tc : Thread Cert.QhIdeal.nD Cert.QhIdeal.τ).loc Cert.QhIdeal.main_arg1) = m ((c.tc : Thread Cert.QhIdeal.nD Cert.QhIdeal.τ).loc Cert.QhIdeal.main_arg1)
      ∧ r.2.mem ((c.tc : Thread Cert.QhIdeal.nD Cert.QhIdeal.τ).loc Cert.QhIdeal.main_arg2) = m ((c.tc : Thread Cert.QhIdeal.nD Cert.QhIdeal.τ).loc Cert.QhIdeal.main_arg2)
      ∧ r.2.mem ((c.tc : Thread Cert.QhIdeal.nD Cert.QhIdeal.τ).loc Cert.QhIdeal.main_arg3) = m ((c.tc : Thread Cert.QhIdeal.nD Cert.QhIdeal.τ).loc Cert.QhIdeal.main_arg3)
      ∧ r.2.mem ((c.tc : Thread Cert.QhIdeal.nD Cert.QhIdeal.τ).loc Cert.QhIdeal.main_arg4) = m ((c.tc : Thread Cert.QhIdeal.nD Cert.QhIdeal.τ).loc Cert.QhIdeal.main_arg4))
      ∧ r.2.sem = fun _ => 0)

def quiescent_Ok [hOk : Cert.Ok.Facts] : Prop :=
  ∀ (m : (ℓ : Loc Cert.Ok.nD Cert.Ok.τ Cert.Ok.sig) → Buf (Elt Bits) ℓ) (g : Dev Cert.Ok.nD → PrngReg), Pre_Ok m →
    θ_run (Cert.Ok.defs (F := Bits)) (onTc (τ := Cert.Ok.τ) (Cert.Ok.main (F := Bits))) ⟨m, fun _ => 0, g⟩ (fun r => (∀ c : Dev Cert.Ok.nD,
      r.2.mem ((c.tc : Thread Cert.Ok.nD Cert.Ok.τ).loc Cert.Ok.main_arg0) = m ((c.tc : Thread Cert.Ok.nD Cert.Ok.τ).loc Cert.Ok.main_arg0)
      ∧ r.2.mem ((c.tc : Thread Cert.Ok.nD Cert.Ok.τ).loc Cert.Ok.main_arg1) = m ((c.tc : Thread Cert.Ok.nD Cert.Ok.τ).loc Cert.Ok.main_arg1)
      ∧ r.2.mem ((c.tc : Thread Cert.Ok.nD Cert.Ok.τ).loc Cert.Ok.main_arg2) = m ((c.tc : Thread Cert.Ok.nD Cert.Ok.τ).loc Cert.Ok.main_arg2)
      ∧ r.2.mem ((c.tc : Thread Cert.Ok.nD Cert.Ok.τ).loc Cert.Ok.main_arg3) = m ((c.tc : Thread Cert.Ok.nD Cert.Ok.τ).loc Cert.Ok.main_arg3)
      ∧ r.2.mem ((c.tc : Thread Cert.Ok.nD Cert.Ok.τ).loc Cert.Ok.main_arg4) = m ((c.tc : Thread Cert.Ok.nD Cert.Ok.τ).loc Cert.Ok.main_arg4))
      ∧ r.2.sem = fun _ => 0)

def quiescent_OkIdeal [hOkIdeal : Cert.OkIdeal.Facts] : Prop :=
  ∀ (m : (ℓ : Loc Cert.OkIdeal.nD Cert.OkIdeal.τ Cert.OkIdeal.sig) → Buf (Elt Ideal) ℓ) (g : Dev Cert.OkIdeal.nD → PrngReg), Pre_OkIdeal m →
    θ_run (Cert.OkIdeal.defs (F := Ideal)) (onTc (τ := Cert.OkIdeal.τ) (Cert.OkIdeal.main (F := Ideal))) ⟨m, fun _ => 0, g⟩ (fun r => (∀ c : Dev Cert.OkIdeal.nD,
      r.2.mem ((c.tc : Thread Cert.OkIdeal.nD Cert.OkIdeal.τ).loc Cert.OkIdeal.main_arg0) = m ((c.tc : Thread Cert.OkIdeal.nD Cert.OkIdeal.τ).loc Cert.OkIdeal.main_arg0)
      ∧ r.2.mem ((c.tc : Thread Cert.OkIdeal.nD Cert.OkIdeal.τ).loc Cert.OkIdeal.main_arg1) = m ((c.tc : Thread Cert.OkIdeal.nD Cert.OkIdeal.τ).loc Cert.OkIdeal.main_arg1)
      ∧ r.2.mem ((c.tc : Thread Cert.OkIdeal.nD Cert.OkIdeal.τ).loc Cert.OkIdeal.main_arg2) = m ((c.tc : Thread Cert.OkIdeal.nD Cert.OkIdeal.τ).loc Cert.OkIdeal.main_arg2)
      ∧ r.2.mem ((c.tc : Thread Cert.OkIdeal.nD Cert.OkIdeal.τ).loc Cert.OkIdeal.main_arg3) = m ((c.tc : Thread Cert.OkIdeal.nD Cert.OkIdeal.τ).loc Cert.OkIdeal.main_arg3)
      ∧ r.2.mem ((c.tc : Thread Cert.OkIdeal.nD Cert.OkIdeal.τ).loc Cert.OkIdeal.main_arg4) = m ((c.tc : Thread Cert.OkIdeal.nD Cert.OkIdeal.τ).loc Cert.OkIdeal.main_arg4))
      ∧ r.2.sem = fun _ => 0)

def quiescent_QkIdeal [hQkIdeal : Cert.QkIdeal.Facts] : Prop :=
  ∀ (m : (ℓ : Loc Cert.QkIdeal.nD Cert.QkIdeal.τ Cert.QkIdeal.sig) → Buf (Elt Ideal) ℓ) (g : Dev Cert.QkIdeal.nD → PrngReg), Pre_QkIdeal m →
    θ_run (Cert.QkIdeal.defs (F := Ideal)) (onTc (τ := Cert.QkIdeal.τ) (Cert.QkIdeal.main (F := Ideal))) ⟨m, fun _ => 0, g⟩ (fun r => (∀ c : Dev Cert.QkIdeal.nD,
      r.2.mem ((c.tc : Thread Cert.QkIdeal.nD Cert.QkIdeal.τ).loc Cert.QkIdeal.main_arg0) = m ((c.tc : Thread Cert.QkIdeal.nD Cert.QkIdeal.τ).loc Cert.QkIdeal.main_arg0)
      ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
      ∧ r.2.mem ((c.tc : Thread Cert.QkIdeal.nD Cert.QkIdeal.τ).loc Cert.QkIdeal.main_arg2) = m ((c.tc : Thread Cert.QkIdeal.nD Cert.QkIdeal.τ).loc Cert.QkIdeal.main_arg2)
      ∧ r.2.mem ((c.tc : Thread Cert.QkIdeal.nD Cert.QkIdeal.τ).loc Cert.QkIdeal.main_arg3) = m ((c.tc : Thread Cert.QkIdeal.nD Cert.QkIdeal.τ).loc Cert.QkIdeal.main_arg3)
      ∧ r.2.mem ((c.tc : Thread Cert.QkIdeal.nD Cert.QkIdeal.τ).loc Cert.QkIdeal.main_arg4) = m ((c.tc : Thread Cert.QkIdeal.nD Cert.QkIdeal.τ).loc Cert.QkIdeal.main_arg4))
      ∧ r.2.sem = fun _ => 0)

def quiescent_Oa [hOa : Cert.Oa.Facts] : Prop :=
  ∀ (m : (ℓ : Loc Cert.Oa.nD Cert.Oa.τ Cert.Oa.sig) → Buf (Elt Bits) ℓ) (g : Dev Cert.Oa.nD → PrngReg), Pre_Oa m →
    θ_run (Cert.Oa.defs (F := Bits)) (onTc (τ := Cert.Oa.τ) (Cert.Oa.main (F := Bits))) ⟨m, fun _ => 0, g⟩ (fun r => (∀ c : Dev Cert.Oa.nD,
      r.2.mem ((c.tc : Thread Cert.Oa.nD Cert.Oa.τ).loc Cert.Oa.main_arg0) = m ((c.tc : Thread Cert.Oa.nD Cert.Oa.τ).loc Cert.Oa.main_arg0)
      ∧ r.2.mem ((c.tc : Thread Cert.Oa.nD Cert.Oa.τ).loc Cert.Oa.main_arg1) = m ((c.tc : Thread Cert.Oa.nD Cert.Oa.τ).loc Cert.Oa.main_arg1)
      ∧ r.2.mem ((c.tc : Thread Cert.Oa.nD Cert.Oa.τ).loc Cert.Oa.main_arg2) = m ((c.tc : Thread Cert.Oa.nD Cert.Oa.τ).loc Cert.Oa.main_arg2)
      ∧ r.2.mem ((c.tc : Thread Cert.Oa.nD Cert.Oa.τ).loc Cert.Oa.main_arg3) = m ((c.tc : Thread Cert.Oa.nD Cert.Oa.τ).loc Cert.Oa.main_arg3)
      ∧ r.2.mem ((c.tc : Thread Cert.Oa.nD Cert.Oa.τ).loc Cert.Oa.main_arg4) = m ((c.tc : Thread Cert.Oa.nD Cert.Oa.τ).loc Cert.Oa.main_arg4))
      ∧ r.2.sem = fun _ => 0)

def quiescent_OaIdeal [hOaIdeal : Cert.OaIdeal.Facts] : Prop :=
  ∀ (m : (ℓ : Loc Cert.OaIdeal.nD Cert.OaIdeal.τ Cert.OaIdeal.sig) → Buf (Elt Ideal) ℓ) (g : Dev Cert.OaIdeal.nD → PrngReg), Pre_OaIdeal m →
    θ_run (Cert.OaIdeal.defs (F := Ideal)) (onTc (τ := Cert.OaIdeal.τ) (Cert.OaIdeal.main (F := Ideal))) ⟨m, fun _ => 0, g⟩ (fun r => (∀ c : Dev Cert.OaIdeal.nD,
      r.2.mem ((c.tc : Thread Cert.OaIdeal.nD Cert.OaIdeal.τ).loc Cert.OaIdeal.main_arg0) = m ((c.tc : Thread Cert.OaIdeal.nD Cert.OaIdeal.τ).loc Cert.OaIdeal.main_arg0)
      ∧ r.2.mem ((c.tc : Thread Cert.OaIdeal.nD Cert.OaIdeal.τ).loc Cert.OaIdeal.main_arg1) = m ((c.tc : Thread Cert.OaIdeal.nD Cert.OaIdeal.τ).loc Cert.OaIdeal.main_arg1)
      ∧ r.2.mem ((c.tc : Thread Cert.OaIdeal.nD Cert.OaIdeal.τ).loc Cert.OaIdeal.main_arg2) = m ((c.tc : Thread Cert.OaIdeal.nD Cert.OaIdeal.τ).loc Cert.OaIdeal.main_arg2)
      ∧ r.2.mem ((c.tc : Thread Cert.OaIdeal.nD Cert.OaIdeal.τ).loc Cert.OaIdeal.main_arg3) = m ((c.tc : Thread Cert.OaIdeal.nD Cert.OaIdeal.τ).loc Cert.OaIdeal.main_arg3)
      ∧ r.2.mem ((c.tc : Thread Cert.OaIdeal.nD Cert.OaIdeal.τ).loc Cert.OaIdeal.main_arg4) = m ((c.tc : Thread Cert.OaIdeal.nD Cert.OaIdeal.τ).loc Cert.OaIdeal.main_arg4))
      ∧ r.2.sem = fun _ => 0)

def quiescent_QaIdeal [hQaIdeal : Cert.QaIdeal.Facts] : Prop :=
  ∀ (m : (ℓ : Loc Cert.QaIdeal.nD Cert.QaIdeal.τ Cert.QaIdeal.sig) → Buf (Elt Ideal) ℓ) (g : Dev Cert.QaIdeal.nD → PrngReg), Pre_QaIdeal m →
    θ_run (Cert.QaIdeal.defs (F := Ideal)) (onTc (τ := Cert.QaIdeal.τ) (Cert.QaIdeal.main (F := Ideal))) ⟨m, fun _ => 0, g⟩ (fun r => (∀ c : Dev Cert.QaIdeal.nD,
      r.2.mem ((c.tc : Thread Cert.QaIdeal.nD Cert.QaIdeal.τ).loc Cert.QaIdeal.main_arg0) = m ((c.tc : Thread Cert.QaIdeal.nD Cert.QaIdeal.τ).loc Cert.QaIdeal.main_arg0)
      ∧ r.2.mem ((c.tc : Thread Cert.QaIdeal.nD Cert.QaIdeal.τ).loc Cert.QaIdeal.main_arg1) = m ((c.tc : Thread Cert.QaIdeal.nD Cert.QaIdeal.τ).loc Cert.QaIdeal.main_arg1)
      ∧ r.2.mem ((c.tc : Thread Cert.QaIdeal.nD Cert.QaIdeal.τ).loc Cert.QaIdeal.main_arg2) = m ((c.tc : Thread Cert.QaIdeal.nD Cert.QaIdeal.τ).loc Cert.QaIdeal.main_arg2)
      ∧ r.2.mem ((c.tc : Thread Cert.QaIdeal.nD Cert.QaIdeal.τ).loc Cert.QaIdeal.main_arg3) = m ((c.tc : Thread Cert.QaIdeal.nD Cert.QaIdeal.τ).loc Cert.QaIdeal.main_arg3)
      ∧ r.2.mem ((c.tc : Thread Cert.QaIdeal.nD Cert.QaIdeal.τ).loc Cert.QaIdeal.main_arg4) = m ((c.tc : Thread Cert.QaIdeal.nD Cert.QaIdeal.τ).loc Cert.QaIdeal.main_arg4))
      ∧ r.2.sem = fun _ => 0)

def quiescent_Os [hOs : Cert.Os.Facts] : Prop :=
  ∀ (m : (ℓ : Loc Cert.Os.nD Cert.Os.τ Cert.Os.sig) → Buf (Elt Bits) ℓ) (g : Dev Cert.Os.nD → PrngReg), Pre_Os m →
    θ_run (Cert.Os.defs (F := Bits)) (onTc (τ := Cert.Os.τ) (Cert.Os.main (F := Bits))) ⟨m, fun _ => 0, g⟩ (fun r => (∀ c : Dev Cert.Os.nD,
      r.2.mem ((c.tc : Thread Cert.Os.nD Cert.Os.τ).loc Cert.Os.main_arg0) = m ((c.tc : Thread Cert.Os.nD Cert.Os.τ).loc Cert.Os.main_arg0)
      ∧ r.2.mem ((c.tc : Thread Cert.Os.nD Cert.Os.τ).loc Cert.Os.main_arg1) = m ((c.tc : Thread Cert.Os.nD Cert.Os.τ).loc Cert.Os.main_arg1)
      ∧ r.2.mem ((c.tc : Thread Cert.Os.nD Cert.Os.τ).loc Cert.Os.main_arg2) = m ((c.tc : Thread Cert.Os.nD Cert.Os.τ).loc Cert.Os.main_arg2)
      ∧ r.2.mem ((c.tc : Thread Cert.Os.nD Cert.Os.τ).loc Cert.Os.main_arg3) = m ((c.tc : Thread Cert.Os.nD Cert.Os.τ).loc Cert.Os.main_arg3))
      ∧ r.2.sem = fun _ => 0)

def quiescent_OsIdeal [hOsIdeal : Cert.OsIdeal.Facts] : Prop :=
  ∀ (m : (ℓ : Loc Cert.OsIdeal.nD Cert.OsIdeal.τ Cert.OsIdeal.sig) → Buf (Elt Ideal) ℓ) (g : Dev Cert.OsIdeal.nD → PrngReg), Pre_OsIdeal m →
    θ_run (Cert.OsIdeal.defs (F := Ideal)) (onTc (τ := Cert.OsIdeal.τ) (Cert.OsIdeal.main (F := Ideal))) ⟨m, fun _ => 0, g⟩ (fun r => (∀ c : Dev Cert.OsIdeal.nD,
      r.2.mem ((c.tc : Thread Cert.OsIdeal.nD Cert.OsIdeal.τ).loc Cert.OsIdeal.main_arg0) = m ((c.tc : Thread Cert.OsIdeal.nD Cert.OsIdeal.τ).loc Cert.OsIdeal.main_arg0)
      ∧ r.2.mem ((c.tc : Thread Cert.OsIdeal.nD Cert.OsIdeal.τ).loc Cert.OsIdeal.main_arg1) = m ((c.tc : Thread Cert.OsIdeal.nD Cert.OsIdeal.τ).loc Cert.OsIdeal.main_arg1)
      ∧ r.2.mem ((c.tc : Thread Cert.OsIdeal.nD Cert.OsIdeal.τ).loc Cert.OsIdeal.main_arg2) = m ((c.tc : Thread Cert.OsIdeal.nD Cert.OsIdeal.τ).loc Cert.OsIdeal.main_arg2)
      ∧ r.2.mem ((c.tc : Thread Cert.OsIdeal.nD Cert.OsIdeal.τ).loc Cert.OsIdeal.main_arg3) = m ((c.tc : Thread Cert.OsIdeal.nD Cert.OsIdeal.τ).loc Cert.OsIdeal.main_arg3))
      ∧ r.2.sem = fun _ => 0)

def quiescent_QsIdeal [hQsIdeal : Cert.QsIdeal.Facts] : Prop :=
  ∀ (m : (ℓ : Loc Cert.QsIdeal.nD Cert.QsIdeal.τ Cert.QsIdeal.sig) → Buf (Elt Ideal) ℓ) (g : Dev Cert.QsIdeal.nD → PrngReg), Pre_QsIdeal m →
    θ_run (Cert.QsIdeal.defs (F := Ideal)) (onTc (τ := Cert.QsIdeal.τ) (Cert.QsIdeal.main (F := Ideal))) ⟨m, fun _ => 0, g⟩ (fun r => (∀ c : Dev Cert.QsIdeal.nD,
      r.2.mem ((c.tc : Thread Cert.QsIdeal.nD Cert.QsIdeal.τ).loc Cert.QsIdeal.main_arg0) = m ((c.tc : Thread Cert.QsIdeal.nD Cert.QsIdeal.τ).loc Cert.QsIdeal.main_arg0)
      ∧ r.2.mem ((c.tc : Thread Cert.QsIdeal.nD Cert.QsIdeal.τ).loc Cert.QsIdeal.main_arg1) = m ((c.tc : Thread Cert.QsIdeal.nD Cert.QsIdeal.τ).loc Cert.QsIdeal.main_arg1)
      ∧ r.2.mem ((c.tc : Thread Cert.QsIdeal.nD Cert.QsIdeal.τ).loc Cert.QsIdeal.main_arg2) = m ((c.tc : Thread Cert.QsIdeal.nD Cert.QsIdeal.τ).loc Cert.QsIdeal.main_arg2)
      ∧ r.2.mem ((c.tc : Thread Cert.QsIdeal.nD Cert.QsIdeal.τ).loc Cert.QsIdeal.main_arg3) = m ((c.tc : Thread Cert.QsIdeal.nD Cert.QsIdeal.τ).loc Cert.QsIdeal.main_arg3))
      ∧ r.2.sem = fun _ => 0)

def quiescent_Op [hOp : Cert.Op.Facts] : Prop :=
  ∀ (m : (ℓ : Loc Cert.Op.nD Cert.Op.τ Cert.Op.sig) → Buf (Elt Bits) ℓ) (g : Dev Cert.Op.nD → PrngReg), Pre_Op m →
    θ_run (Cert.Op.defs (F := Bits)) (onTc (τ := Cert.Op.τ) (Cert.Op.main (F := Bits))) ⟨m, fun _ => 0, g⟩ (fun r => (∀ c : Dev Cert.Op.nD,
      r.2.mem ((c.tc : Thread Cert.Op.nD Cert.Op.τ).loc Cert.Op.main_arg0) = m ((c.tc : Thread Cert.Op.nD Cert.Op.τ).loc Cert.Op.main_arg0)
      ∧ r.2.mem ((c.tc : Thread Cert.Op.nD Cert.Op.τ).loc Cert.Op.main_arg1) = m ((c.tc : Thread Cert.Op.nD Cert.Op.τ).loc Cert.Op.main_arg1)
      ∧ r.2.mem ((c.tc : Thread Cert.Op.nD Cert.Op.τ).loc Cert.Op.main_arg2) = m ((c.tc : Thread Cert.Op.nD Cert.Op.τ).loc Cert.Op.main_arg2)
      ∧ r.2.mem ((c.tc : Thread Cert.Op.nD Cert.Op.τ).loc Cert.Op.main_arg3) = m ((c.tc : Thread Cert.Op.nD Cert.Op.τ).loc Cert.Op.main_arg3))
      ∧ r.2.sem = fun _ => 0)

def quiescent_OpIdeal [hOpIdeal : Cert.OpIdeal.Facts] : Prop :=
  ∀ (m : (ℓ : Loc Cert.OpIdeal.nD Cert.OpIdeal.τ Cert.OpIdeal.sig) → Buf (Elt Ideal) ℓ) (g : Dev Cert.OpIdeal.nD → PrngReg), Pre_OpIdeal m →
    θ_run (Cert.OpIdeal.defs (F := Ideal)) (onTc (τ := Cert.OpIdeal.τ) (Cert.OpIdeal.main (F := Ideal))) ⟨m, fun _ => 0, g⟩ (fun r => (∀ c : Dev Cert.OpIdeal.nD,
      r.2.mem ((c.tc : Thread Cert.OpIdeal.nD Cert.OpIdeal.τ).loc Cert.OpIdeal.main_arg0) = m ((c.tc : Thread Cert.OpIdeal.nD Cert.OpIdeal.τ).loc Cert.OpIdeal.main_arg0)
      ∧ r.2.mem ((c.tc : Thread Cert.OpIdeal.nD Cert.OpIdeal.τ).loc Cert.OpIdeal.main_arg1) = m ((c.tc : Thread Cert.OpIdeal.nD Cert.OpIdeal.τ).loc Cert.OpIdeal.main_arg1)
      ∧ r.2.mem ((c.tc : Thread Cert.OpIdeal.nD Cert.OpIdeal.τ).loc Cert.OpIdeal.main_arg2) = m ((c.tc : Thread Cert.OpIdeal.nD Cert.OpIdeal.τ).loc Cert.OpIdeal.main_arg2)
      ∧ r.2.mem ((c.tc : Thread Cert.OpIdeal.nD Cert.OpIdeal.τ).loc Cert.OpIdeal.main_arg3) = m ((c.tc : Thread Cert.OpIdeal.nD Cert.OpIdeal.τ).loc Cert.OpIdeal.main_arg3))
      ∧ r.2.sem = fun _ => 0)

def quiescent_QpIdeal [hQpIdeal : Cert.QpIdeal.Facts] : Prop :=
  ∀ (m : (ℓ : Loc Cert.QpIdeal.nD Cert.QpIdeal.τ Cert.QpIdeal.sig) → Buf (Elt Ideal) ℓ) (g : Dev Cert.QpIdeal.nD → PrngReg), Pre_QpIdeal m →
    θ_run (Cert.QpIdeal.defs (F := Ideal)) (onTc (τ := Cert.QpIdeal.τ) (Cert.QpIdeal.main (F := Ideal))) ⟨m, fun _ => 0, g⟩ (fun r => (∀ c : Dev Cert.QpIdeal.nD,
      r.2.mem ((c.tc : Thread Cert.QpIdeal.nD Cert.QpIdeal.τ).loc Cert.QpIdeal.main_arg0) = m ((c.tc : Thread Cert.QpIdeal.nD Cert.QpIdeal.τ).loc Cert.QpIdeal.main_arg0)
      ∧ r.2.mem ((c.tc : Thread Cert.QpIdeal.nD Cert.QpIdeal.τ).loc Cert.QpIdeal.main_arg1) = m ((c.tc : Thread Cert.QpIdeal.nD Cert.QpIdeal.τ).loc Cert.QpIdeal.main_arg1)
      ∧ r.2.mem ((c.tc : Thread Cert.QpIdeal.nD Cert.QpIdeal.τ).loc Cert.QpIdeal.main_arg2) = m ((c.tc : Thread Cert.QpIdeal.nD Cert.QpIdeal.τ).loc Cert.QpIdeal.main_arg2)
      ∧ r.2.mem ((c.tc : Thread Cert.QpIdeal.nD Cert.QpIdeal.τ).loc Cert.QpIdeal.main_arg3) = m ((c.tc : Thread Cert.QpIdeal.nD Cert.QpIdeal.τ).loc Cert.QpIdeal.main_arg3))
      ∧ r.2.sem = fun _ => 0)

def quiescent_Sl [hSl : Cert.Sl.Facts] : Prop :=
  ∀ (m : (ℓ : Loc Cert.Sl.nD Cert.Sl.τ Cert.Sl.sig) → Buf (Elt Bits) ℓ) (g : Dev Cert.Sl.nD → PrngReg), Pre_Sl m →
    θ_run (Cert.Sl.defs (F := Bits)) (onTc (τ := Cert.Sl.τ) (Cert.Sl.main (F := Bits))) ⟨m, fun _ => 0, g⟩ (fun r => (∀ c : Dev Cert.Sl.nD,
      r.2.mem ((c.tc : Thread Cert.Sl.nD Cert.Sl.τ).loc Cert.Sl.main_arg0) = m ((c.tc : Thread Cert.Sl.nD Cert.Sl.τ).loc Cert.Sl.main_arg0))
      ∧ r.2.sem = fun _ => 0)

def quiescent_SlIdeal [hSlIdeal : Cert.SlIdeal.Facts] : Prop :=
  ∀ (m : (ℓ : Loc Cert.SlIdeal.nD Cert.SlIdeal.τ Cert.SlIdeal.sig) → Buf (Elt Ideal) ℓ) (g : Dev Cert.SlIdeal.nD → PrngReg), Pre_SlIdeal m →
    θ_run (Cert.SlIdeal.defs (F := Ideal)) (onTc (τ := Cert.SlIdeal.τ) (Cert.SlIdeal.main (F := Ideal))) ⟨m, fun _ => 0, g⟩ (fun r => (∀ c : Dev Cert.SlIdeal.nD,
      r.2.mem ((c.tc : Thread Cert.SlIdeal.nD Cert.SlIdeal.τ).loc Cert.SlIdeal.main_arg0) = m ((c.tc : Thread Cert.SlIdeal.nD Cert.SlIdeal.τ).loc Cert.SlIdeal.main_arg0))
      ∧ r.2.sem = fun _ => 0)

def quiescent_TlIdeal [hTlIdeal : Cert.TlIdeal.Facts] : Prop :=
  ∀ (m : (ℓ : Loc Cert.TlIdeal.nD Cert.TlIdeal.τ Cert.TlIdeal.sig) → Buf (Elt Ideal) ℓ) (g : Dev Cert.TlIdeal.nD → PrngReg), Pre_TlIdeal m →
    θ_run (Cert.TlIdeal.defs (F := Ideal)) (onTc (τ := Cert.TlIdeal.τ) (Cert.TlIdeal.main (F := Ideal))) ⟨m, fun _ => 0, g⟩ (fun r => (∀ c : Dev Cert.TlIdeal.nD,
      r.2.mem ((c.tc : Thread Cert.TlIdeal.nD Cert.TlIdeal.τ).loc Cert.TlIdeal.main_arg0) = m ((c.tc : Thread Cert.TlIdeal.nD Cert.TlIdeal.τ).loc Cert.TlIdeal.main_arg0))
      ∧ r.2.sem = fun _ => 0)

def quiescent_Sk [hSk : Cert.Sk.Facts] : Prop :=
  ∀ (m : (ℓ : Loc Cert.Sk.nD Cert.Sk.τ Cert.Sk.sig) → Buf (Elt Bits) ℓ) (g : Dev Cert.Sk.nD → PrngReg), Pre_Sk m →
    θ_run (Cert.Sk.defs (F := Bits)) (onTc (τ := Cert.Sk.τ) (Cert.Sk.main (F := Bits))) ⟨m, fun _ => 0, g⟩ (fun r => (∀ c : Dev Cert.Sk.nD,
      r.2.mem ((c.tc : Thread Cert.Sk.nD Cert.Sk.τ).loc Cert.Sk.main_arg0) = m ((c.tc : Thread Cert.Sk.nD Cert.Sk.τ).loc Cert.Sk.main_arg0)
      ∧ r.2.mem ((c.tc : Thread Cert.Sk.nD Cert.Sk.τ).loc Cert.Sk.main_arg1) = m ((c.tc : Thread Cert.Sk.nD Cert.Sk.τ).loc Cert.Sk.main_arg1))
      ∧ r.2.sem = fun _ => 0)

def quiescent_SkIdeal [hSkIdeal : Cert.SkIdeal.Facts] : Prop :=
  ∀ (m : (ℓ : Loc Cert.SkIdeal.nD Cert.SkIdeal.τ Cert.SkIdeal.sig) → Buf (Elt Ideal) ℓ) (g : Dev Cert.SkIdeal.nD → PrngReg), Pre_SkIdeal m →
    θ_run (Cert.SkIdeal.defs (F := Ideal)) (onTc (τ := Cert.SkIdeal.τ) (Cert.SkIdeal.main (F := Ideal))) ⟨m, fun _ => 0, g⟩ (fun r => (∀ c : Dev Cert.SkIdeal.nD,
      r.2.mem ((c.tc : Thread Cert.SkIdeal.nD Cert.SkIdeal.τ).loc Cert.SkIdeal.main_arg0) = m ((c.tc : Thread Cert.SkIdeal.nD Cert.SkIdeal.τ).loc Cert.SkIdeal.main_arg0)
      ∧ r.2.mem ((c.tc : Thread Cert.SkIdeal.nD Cert.SkIdeal.τ).loc Cert.SkIdeal.main_arg1) = m ((c.tc : Thread Cert.SkIdeal.nD Cert.SkIdeal.τ).loc Cert.SkIdeal.main_arg1))
      ∧ r.2.sem = fun _ => 0)

def quiescent_TkIdeal [hTkIdeal : Cert.TkIdeal.Facts] : Prop :=
  ∀ (m : (ℓ : Loc Cert.TkIdeal.nD Cert.TkIdeal.τ Cert.TkIdeal.sig) → Buf (Elt Ideal) ℓ) (g : Dev Cert.TkIdeal.nD → PrngReg), Pre_TkIdeal m →
    θ_run (Cert.TkIdeal.defs (F := Ideal)) (onTc (τ := Cert.TkIdeal.τ) (Cert.TkIdeal.main (F := Ideal))) ⟨m, fun _ => 0, g⟩ (fun r => (∀ c : Dev Cert.TkIdeal.nD,
      r.2.mem ((c.tc : Thread Cert.TkIdeal.nD Cert.TkIdeal.τ).loc Cert.TkIdeal.main_arg0) = m ((c.tc : Thread Cert.TkIdeal.nD Cert.TkIdeal.τ).loc Cert.TkIdeal.main_arg0)
      ∧ r.2.mem ((c.tc : Thread Cert.TkIdeal.nD Cert.TkIdeal.τ).loc Cert.TkIdeal.main_arg1) = m ((c.tc : Thread Cert.TkIdeal.nD Cert.TkIdeal.τ).loc Cert.TkIdeal.main_arg1))
      ∧ r.2.sem = fun _ => 0)

def preserves_Dw_DwIdeal : Prop :=
  True

def algebraic_DwIdeal_RwIdeal [hDwIdeal : Cert.DwIdeal.Facts] [hRwIdeal : Cert.RwIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.RwIdeal.nD Cert.RwIdeal.τ Cert.RwIdeal.sig) → Buf (Elt Ideal) ℓ) (g' : Dev Cert.RwIdeal.nD → PrngReg), Pre_DwIdeal m →
    (∀ c : Dev Cert.DwIdeal.nD,
      m' ((c.tc : Thread Cert.RwIdeal.nD Cert.RwIdeal.τ).loc Cert.RwIdeal.main_arg0) = m ((c.tc : Thread Cert.DwIdeal.nD Cert.DwIdeal.τ).loc Cert.DwIdeal.main_arg0)
      ∧ m' ((c.tc : Thread Cert.RwIdeal.nD Cert.RwIdeal.τ).loc Cert.RwIdeal.main_arg1) = m ((c.tc : Thread Cert.DwIdeal.nD Cert.DwIdeal.τ).loc Cert.DwIdeal.main_arg1)
      ∧ m' ((c.tc : Thread Cert.RwIdeal.nD Cert.RwIdeal.τ).loc Cert.RwIdeal.main_arg2) = m ((c.tc : Thread Cert.DwIdeal.nD Cert.DwIdeal.τ).loc Cert.DwIdeal.main_arg2)
      ∧ m' ((c.tc : Thread Cert.RwIdeal.nD Cert.RwIdeal.τ).loc Cert.RwIdeal.main_arg3) = m ((c.tc : Thread Cert.DwIdeal.nD Cert.DwIdeal.τ).loc Cert.DwIdeal.main_arg3)
      ∧ m' ((c.tc : Thread Cert.RwIdeal.nD Cert.RwIdeal.τ).loc Cert.RwIdeal.main_arg4) = m ((c.tc : Thread Cert.DwIdeal.nD Cert.DwIdeal.τ).loc Cert.DwIdeal.main_arg4)
      ∧ m' ((c.tc : Thread Cert.RwIdeal.nD Cert.RwIdeal.τ).loc Cert.RwIdeal.main_arg5) = m ((c.tc : Thread Cert.DwIdeal.nD Cert.DwIdeal.τ).loc Cert.DwIdeal.main_arg5)) →
    ∃ (v0 : (c : Dev Cert.DwIdeal.nD) → Buf (Elt Ideal) ((c.tc : Thread Cert.DwIdeal.nD Cert.DwIdeal.τ).loc Cert.DwIdeal.main_v7_0)) (v1 : (c : Dev Cert.DwIdeal.nD) → Buf (Elt Ideal) ((c.tc : Thread Cert.DwIdeal.nD Cert.DwIdeal.τ).loc Cert.DwIdeal.main_v7_1)) (v2 : (c : Dev Cert.DwIdeal.nD) → Buf (Elt Ideal) ((c.tc : Thread Cert.DwIdeal.nD Cert.DwIdeal.τ).loc Cert.DwIdeal.main_v7_2)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v7_0) = v0 c
          ∧ r.2.mem ((c.tc : Thread Cert.DwIdeal.nD Cert.DwIdeal.τ).loc Cert.DwIdeal.main_v7_1) = v1 c
          ∧ r.2.mem ((c.tc : Thread Cert.DwIdeal.nD Cert.DwIdeal.τ).loc Cert.DwIdeal.main_v7_2) = v2 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
          ∧ r.2.mem ((c.tc : Thread Cert.DwIdeal.nD Cert.DwIdeal.τ).loc Cert.DwIdeal.main_arg3) = m ((c.tc : Thread Cert.DwIdeal.nD Cert.DwIdeal.τ).loc Cert.DwIdeal.main_arg3)
          ∧ r.2.mem ((c.tc : Thread Cert.DwIdeal.nD Cert.DwIdeal.τ).loc Cert.DwIdeal.main_arg4) = m ((c.tc : Thread Cert.DwIdeal.nD Cert.DwIdeal.τ).loc Cert.DwIdeal.main_arg4)
          ∧ r.2.mem ((c.tc : Thread Cert.DwIdeal.nD Cert.DwIdeal.τ).loc Cert.DwIdeal.main_arg5) = m ((c.tc : Thread Cert.DwIdeal.nD Cert.DwIdeal.τ).loc Cert.DwIdeal.main_arg5))
      ∧ θ_run (Cert.RwIdeal.defs (F := Ideal)) (onTc (τ := Cert.RwIdeal.τ) (Cert.RwIdeal.main (F := Ideal))) ⟨m', fun _ => 0, g'⟩ (fun r => ∀ c : Dev Cert.RwIdeal.nD,
          r.2.mem ((c.tc : Thread Cert.RwIdeal.nD Cert.RwIdeal.τ).loc Cert.RwIdeal.main_v9) = v0 c
          ∧ r.2.mem ((c.tc : Thread Cert.RwIdeal.nD Cert.RwIdeal.τ).loc Cert.RwIdeal.main_v11) = v1 c
          ∧ r.2.mem ((c.tc : Thread Cert.RwIdeal.nD Cert.RwIdeal.τ).loc Cert.RwIdeal.main_v12) = v2 c
          ∧ r.2.mem ((c.tc : Thread Cert.RwIdeal.nD Cert.RwIdeal.τ).loc Cert.RwIdeal.main_arg0) = m' ((c.tc : Thread Cert.RwIdeal.nD Cert.RwIdeal.τ).loc Cert.RwIdeal.main_arg0)
          ∧ r.2.mem ((c.tc : Thread Cert.RwIdeal.nD Cert.RwIdeal.τ).loc Cert.RwIdeal.main_arg1) = m' ((c.tc : Thread Cert.RwIdeal.nD Cert.RwIdeal.τ).loc Cert.RwIdeal.main_arg1)
          ∧ r.2.mem ((c.tc : Thread Cert.RwIdeal.nD Cert.RwIdeal.τ).loc Cert.RwIdeal.main_arg2) = m' ((c.tc : Thread Cert.RwIdeal.nD Cert.RwIdeal.τ).loc Cert.RwIdeal.main_arg2)
          ∧ r.2.mem ((c.tc : Thread Cert.RwIdeal.nD Cert.RwIdeal.τ).loc Cert.RwIdeal.main_arg3) = m' ((c.tc : Thread Cert.RwIdeal.nD Cert.RwIdeal.τ).loc Cert.RwIdeal.main_arg3)
          ∧ r.2.mem ((c.tc : Thread Cert.RwIdeal.nD Cert.RwIdeal.τ).loc Cert.RwIdeal.main_arg4) = m' ((c.tc : Thread Cert.RwIdeal.nD Cert.RwIdeal.τ).loc Cert.RwIdeal.main_arg4)
          ∧ r.2.mem ((c.tc : Thread Cert.RwIdeal.nD Cert.RwIdeal.τ).loc Cert.RwIdeal.main_arg5) = m' ((c.tc : Thread Cert.RwIdeal.nD Cert.RwIdeal.τ).loc Cert.RwIdeal.main_arg5))

def preserves_Da_DaIdeal : Prop :=
  True

def algebraic_DaIdeal_RaIdeal_pre_finite_a [hDaIdeal : Cert.DaIdeal.Facts] [hRaIdeal : Cert.RaIdeal.Facts] [hPre_finite_a : Cert.Pre_finite_a.Facts] : Prop :=
  ∀ (m : (ℓ : Loc Cert.DaIdeal.nD Cert.DaIdeal.τ Cert.DaIdeal.sig) → Buf (Elt Ideal) ℓ) (g : Dev Cert.DaIdeal.nD → PrngReg)
    (m' : (ℓ : Loc Cert.RaIdeal.nD Cert.RaIdeal.τ Cert.RaIdeal.sig) → Buf (Elt Ideal) ℓ) (g' : Dev Cert.RaIdeal.nD → PrngReg), Pre_DaIdeal_finite_a m →
    (∀ c : Dev Cert.DaIdeal.nD,
      m' ((c.tc : Thread Cert.RaIdeal.nD Cert.RaIdeal.τ).loc Cert.RaIdeal.main_arg0) = m ((c.tc : Thread Cert.DaIdeal.nD Cert.DaIdeal.τ).loc Cert.DaIdeal.main_arg0)
      ∧ m' ((c.tc : Thread Cert.RaIdeal.nD Cert.RaIdeal.τ).loc Cert.RaIdeal.main_arg1) = m ((c.tc : Thread Cert.DaIdeal.nD Cert.DaIdeal.τ).loc Cert.DaIdeal.main_arg1)
      ∧ m' ((c.tc : Thread Cert.RaIdeal.nD Cert.RaIdeal.τ).loc Cert.RaIdeal.main_arg2) = m ((c.tc : Thread Cert.DaIdeal.nD Cert.DaIdeal.τ).loc Cert.DaIdeal.main_arg2)
      ∧ m' ((c.tc : Thread Cert.RaIdeal.nD Cert.RaIdeal.τ).loc Cert.RaIdeal.main_arg3) = m ((c.tc : Thread Cert.DaIdeal.nD Cert.DaIdeal.τ).loc Cert.DaIdeal.main_arg3)
      ∧ m' ((c.tc : Thread Cert.RaIdeal.nD Cert.RaIdeal.τ).loc Cert.RaIdeal.main_arg4) = m ((c.tc : Thread Cert.DaIdeal.nD Cert.DaIdeal.τ).loc Cert.DaIdeal.main_arg4)
      ∧ m' ((c.tc : Thread Cert.RaIdeal.nD Cert.RaIdeal.τ).loc Cert.RaIdeal.main_arg5) = m ((c.tc : Thread Cert.DaIdeal.nD Cert.DaIdeal.τ).loc Cert.DaIdeal.main_arg5)) →
    ∃ (v0 : (c : Dev Cert.DaIdeal.nD) → Buf (Elt Ideal) ((c.tc : Thread Cert.DaIdeal.nD Cert.DaIdeal.τ).loc Cert.DaIdeal.main_v18_0)) (v1 : (c : Dev Cert.DaIdeal.nD) → Buf (Elt Ideal) ((c.tc : Thread Cert.DaIdeal.nD Cert.DaIdeal.τ).loc Cert.DaIdeal.main_v18_1)) (v2 : (c : Dev Cert.DaIdeal.nD) → Buf (Elt Ideal) ((c.tc : Thread Cert.DaIdeal.nD Cert.DaIdeal.τ).loc Cert.DaIdeal.main_v18_2)) (v3 : (c : Dev Cert.DaIdeal.nD) → Buf (Elt Ideal) ((c.tc : Thread Cert.DaIdeal.nD Cert.DaIdeal.τ).loc Cert.DaIdeal.main_v18_3)),
      θ_run (Cert.DaIdeal.defs (F := Ideal)) (onTc (τ := Cert.DaIdeal.τ) (Cert.DaIdeal.main (F := Ideal))) ⟨m, fun _ => 0, g⟩ (fun r => ∀ c : Dev Cert.DaIdeal.nD,
          r.2.mem ((c.tc : Thread Cert.DaIdeal.nD Cert.DaIdeal.τ).loc Cert.DaIdeal.main_v18_0) = v0 c
          ∧ r.2.mem ((c.tc : Thread Cert.DaIdeal.nD Cert.DaIdeal.τ).loc Cert.DaIdeal.main_v18_1) = v1 c
          ∧ r.2.mem ((c.tc : Thread Cert.DaIdeal.nD Cert.DaIdeal.τ).loc Cert.DaIdeal.main_v18_2) = v2 c
          ∧ r.2.mem ((c.tc : Thread Cert.DaIdeal.nD Cert.DaIdeal.τ).loc Cert.DaIdeal.main_v18_3) = v3 c
          ∧ r.2.mem ((c.tc : Thread Cert.DaIdeal.nD Cert.DaIdeal.τ).loc Cert.DaIdeal.main_arg0) = m ((c.tc : Thread Cert.DaIdeal.nD Cert.DaIdeal.τ).loc Cert.DaIdeal.main_arg0)
          ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
          ∧ r.2.mem ((c.tc : Thread Cert.DaIdeal.nD Cert.DaIdeal.τ).loc Cert.DaIdeal.main_arg2) = m ((c.tc : Thread Cert.DaIdeal.nD Cert.DaIdeal.τ).loc Cert.DaIdeal.main_arg2)
          ∧ r.2.mem ((c.tc : Thread Cert.DaIdeal.nD Cert.DaIdeal.τ).loc Cert.DaIdeal.main_arg3) = m ((c.tc : Thread Cert.DaIdeal.nD Cert.DaIdeal.τ).loc Cert.DaIdeal.main_arg3)
          ∧ r.2.mem ((c.tc : Thread Cert.DaIdeal.nD Cert.DaIdeal.τ).loc Cert.DaIdeal.main_arg4) = m ((c.tc : Thread Cert.DaIdeal.nD Cert.DaIdeal.τ).loc Cert.DaIdeal.main_arg4)
          ∧ r.2.mem ((c.tc : Thread Cert.DaIdeal.nD Cert.DaIdeal.τ).loc Cert.DaIdeal.main_arg5) = m ((c.tc : Thread Cert.DaIdeal.nD Cert.DaIdeal.τ).loc Cert.DaIdeal.main_arg5))
      ∧ θ_run (Cert.RaIdeal.defs (F := Ideal)) (onTc (τ := Cert.RaIdeal.τ) (Cert.RaIdeal.main (F := Ideal))) ⟨m', fun _ => 0, g'⟩ (fun r => ∀ c : Dev Cert.RaIdeal.nD,
          r.2.mem ((c.tc : Thread Cert.RaIdeal.nD Cert.RaIdeal.τ).loc Cert.RaIdeal.main_v17) = v0 c
          ∧ r.2.mem ((c.tc : Thread Cert.RaIdeal.nD Cert.RaIdeal.τ).loc Cert.RaIdeal.main_v18) = v1 c
          ∧ r.2.mem ((c.tc : Thread Cert.RaIdeal.nD Cert.RaIdeal.τ).loc Cert.RaIdeal.main_v19) = v2 c
          ∧ r.2.mem ((c.tc : Thread Cert.RaIdeal.nD Cert.RaIdeal.τ).loc Cert.RaIdeal.main_v21) = v3 c
          ∧ r.2.mem ((c.tc : Thread Cert.RaIdeal.nD Cert.RaIdeal.τ).loc Cert.RaIdeal.main_arg0) = m' ((c.tc : Thread Cert.RaIdeal.nD Cert.RaIdeal.τ).loc Cert.RaIdeal.main_arg0)
          ∧ r.2.mem ((c.tc : Thread Cert.RaIdeal.nD Cert.RaIdeal.τ).loc Cert.RaIdeal.main_arg1) = m' ((c.tc : Thread Cert.RaIdeal.nD Cert.RaIdeal.τ).loc Cert.RaIdeal.main_arg1)
          ∧ r.2.mem ((c.tc : Thread Cert.RaIdeal.nD Cert.RaIdeal.τ).loc Cert.RaIdeal.main_arg2) = m' ((c.tc : Thread Cert.RaIdeal.nD Cert.RaIdeal.τ).loc Cert.RaIdeal.main_arg2)
          ∧ r.2.mem ((c.tc : Thread Cert.RaIdeal.nD Cert.RaIdeal.τ).loc Cert.RaIdeal.main_arg3) = m' ((c.tc : Thread Cert.RaIdeal.nD Cert.RaIdeal.τ).loc Cert.RaIdeal.main_arg3)
          ∧ r.2.mem ((c.tc : Thread Cert.RaIdeal.nD Cert.RaIdeal.τ).loc Cert.RaIdeal.main_arg4) = m' ((c.tc : Thread Cert.RaIdeal.nD Cert.RaIdeal.τ).loc Cert.RaIdeal.main_arg4)
          ∧ r.2.mem ((c.tc : Thread Cert.RaIdeal.nD Cert.RaIdeal.τ).loc Cert.RaIdeal.main_arg5) = m' ((c.tc : Thread Cert.RaIdeal.nD Cert.RaIdeal.τ).loc Cert.RaIdeal.main_arg5))

def preserves_Db_DbIdeal : Prop :=
  True

def algebraic_DbIdeal_RbIdeal_pre_finite_b [hDbIdeal : Cert.DbIdeal.Facts] [hRbIdeal : Cert.RbIdeal.Facts] [hPre_finite_b : Cert.Pre_finite_b.Facts] : Prop :=
  ∀ (m : (ℓ : Loc Cert.DbIdeal.nD Cert.DbIdeal.τ Cert.DbIdeal.sig) → Buf (Elt Ideal) ℓ) (g : Dev Cert.DbIdeal.nD → PrngReg)
    (m' : (ℓ : Loc Cert.RbIdeal.nD Cert.RbIdeal.τ Cert.RbIdeal.sig) → Buf (Elt Ideal) ℓ) (g' : Dev Cert.RbIdeal.nD → PrngReg), Pre_DbIdeal_finite_b m →
    (∀ c : Dev Cert.DbIdeal.nD,
      m' ((c.tc : Thread Cert.RbIdeal.nD Cert.RbIdeal.τ).loc Cert.RbIdeal.main_arg0) = m ((c.tc : Thread Cert.DbIdeal.nD Cert.DbIdeal.τ).loc Cert.DbIdeal.main_arg0)
      ∧ m' ((c.tc : Thread Cert.RbIdeal.nD Cert.RbIdeal.τ).loc Cert.RbIdeal.main_arg1) = m ((c.tc : Thread Cert.DbIdeal.nD Cert.DbIdeal.τ).loc Cert.DbIdeal.main_arg1)
      ∧ m' ((c.tc : Thread Cert.RbIdeal.nD Cert.RbIdeal.τ).loc Cert.RbIdeal.main_arg2) = m ((c.tc : Thread Cert.DbIdeal.nD Cert.DbIdeal.τ).loc Cert.DbIdeal.main_arg2)
      ∧ m' ((c.tc : Thread Cert.RbIdeal.nD Cert.RbIdeal.τ).loc Cert.RbIdeal.main_arg3) = m ((c.tc : Thread Cert.DbIdeal.nD Cert.DbIdeal.τ).loc Cert.DbIdeal.main_arg3)
      ∧ m' ((c.tc : Thread Cert.RbIdeal.nD Cert.RbIdeal.τ).loc Cert.RbIdeal.main_arg4) = m ((c.tc : Thread Cert.DbIdeal.nD Cert.DbIdeal.τ).loc Cert.DbIdeal.main_arg4)
      ∧ m' ((c.tc : Thread Cert.RbIdeal.nD Cert.RbIdeal.τ).loc Cert.RbIdeal.main_arg5) = m ((c.tc : Thread Cert.DbIdeal.nD Cert.DbIdeal.τ).loc Cert.DbIdeal.main_arg5)
      ∧ m' ((c.tc : Thread Cert.RbIdeal.nD Cert.RbIdeal.τ).loc Cert.RbIdeal.main_arg6) = m ((c.tc : Thread Cert.DbIdeal.nD Cert.DbIdeal.τ).loc Cert.DbIdeal.main_arg6)
      ∧ m' ((c.tc : Thread Cert.RbIdeal.nD Cert.RbIdeal.τ).loc Cert.RbIdeal.main_arg7) = m ((c.tc : Thread Cert.DbIdeal.nD Cert.DbIdeal.τ).loc Cert.DbIdeal.main_arg7)
      ∧ m' ((c.tc : Thread Cert.RbIdeal.nD Cert.RbIdeal.τ).loc Cert.RbIdeal.main_arg8) = m ((c.tc : Thread Cert.DbIdeal.nD Cert.DbIdeal.τ).loc Cert.DbIdeal.main_arg8)
      ∧ m' ((c.tc : Thread Cert.RbIdeal.nD Cert.RbIdeal.τ).loc Cert.RbIdeal.main_arg9) = m ((c.tc : Thread Cert.DbIdeal.nD Cert.DbIdeal.τ).loc Cert.DbIdeal.main_arg9)) →
    ∃ (v0 : (c : Dev Cert.DbIdeal.nD) → Buf (Elt Ideal) ((c.tc : Thread Cert.DbIdeal.nD Cert.DbIdeal.τ).loc Cert.DbIdeal.main_v9_0)) (v1 : (c : Dev Cert.DbIdeal.nD) → Buf (Elt Ideal) ((c.tc : Thread Cert.DbIdeal.nD Cert.DbIdeal.τ).loc Cert.DbIdeal.main_v9_1)) (v2 : (c : Dev Cert.DbIdeal.nD) → Buf (Elt Ideal) ((c.tc : Thread Cert.DbIdeal.nD Cert.DbIdeal.τ).loc Cert.DbIdeal.main_v9_2)) (v3 : (c : Dev Cert.DbIdeal.nD) → Buf (Elt Ideal) ((c.tc : Thread Cert.DbIdeal.nD Cert.DbIdeal.τ).loc Cert.DbIdeal.main_v9_3)) (v4 : (c : Dev Cert.DbIdeal.nD) → Buf (Elt Ideal) ((c.tc : Thread Cert.DbIdeal.nD Cert.DbIdeal.τ).loc Cert.DbIdeal.main_v9_4)),
      θ_run (Cert.DbIdeal.defs (F := Ideal)) (onTc (τ := Cert.DbIdeal.τ) (Cert.DbIdeal.main (F := Ideal))) ⟨m, fun _ => 0, g⟩ (fun r => ∀ c : Dev Cert.DbIdeal.nD,
          r.2.mem ((c.tc : Thread Cert.DbIdeal.nD Cert.DbIdeal.τ).loc Cert.DbIdeal.main_v9_0) = v0 c
          ∧ r.2.mem ((c.tc : Thread Cert.DbIdeal.nD Cert.DbIdeal.τ).loc Cert.DbIdeal.main_v9_1) = v1 c
          ∧ r.2.mem ((c.tc : Thread Cert.DbIdeal.nD Cert.DbIdeal.τ).loc Cert.DbIdeal.main_v9_2) = v2 c
          ∧ r.2.mem ((c.tc : Thread Cert.DbIdeal.nD Cert.DbIdeal.τ).loc Cert.DbIdeal.main_v9_3) = v3 c
          ∧ r.2.mem ((c.tc : Thread Cert.DbIdeal.nD Cert.DbIdeal.τ).loc Cert.DbIdeal.main_v9_4) = v4 c
          ∧ r.2.mem ((c.tc : Thread Cert.DbIdeal.nD Cert.DbIdeal.τ).loc Cert.DbIdeal.main_arg0) = m ((c.tc : Thread Cert.DbIdeal.nD Cert.DbIdeal.τ).loc Cert.DbIdeal.main_arg0)
          ∧ r.2.mem ((c.tc : Thread Cert.DbIdeal.nD Cert.DbIdeal.τ).loc Cert.DbIdeal.main_arg1) = m ((c.tc : Thread Cert.DbIdeal.nD Cert.DbIdeal.τ).loc Cert.DbIdeal.main_arg1)
          ∧ r.2.mem ((c.tc : Thread Cert.DbIdeal.nD Cert.DbIdeal.τ).loc Cert.DbIdeal.main_arg2) = m ((c.tc : Thread Cert.DbIdeal.nD Cert.DbIdeal.τ).loc Cert.DbIdeal.main_arg2)
          ∧ r.2.mem ((c.tc : Thread Cert.DbIdeal.nD Cert.DbIdeal.τ).loc Cert.DbIdeal.main_arg3) = m ((c.tc : Thread Cert.DbIdeal.nD Cert.DbIdeal.τ).loc Cert.DbIdeal.main_arg3)
          ∧ r.2.mem ((c.tc : Thread Cert.DbIdeal.nD Cert.DbIdeal.τ).loc Cert.DbIdeal.main_arg4) = m ((c.tc : Thread Cert.DbIdeal.nD Cert.DbIdeal.τ).loc Cert.DbIdeal.main_arg4)
          ∧ r.2.mem ((c.tc : Thread Cert.DbIdeal.nD Cert.DbIdeal.τ).loc Cert.DbIdeal.main_arg5) = m ((c.tc : Thread Cert.DbIdeal.nD Cert.DbIdeal.τ).loc Cert.DbIdeal.main_arg5)
          ∧ r.2.mem ((c.tc : Thread Cert.DbIdeal.nD Cert.DbIdeal.τ).loc Cert.DbIdeal.main_arg6) = m ((c.tc : Thread Cert.DbIdeal.nD Cert.DbIdeal.τ).loc Cert.DbIdeal.main_arg6)
          ∧ r.2.mem ((c.tc : Thread Cert.DbIdeal.nD Cert.DbIdeal.τ).loc Cert.DbIdeal.main_arg7) = m ((c.tc : Thread Cert.DbIdeal.nD Cert.DbIdeal.τ).loc Cert.DbIdeal.main_arg7)
          ∧ r.2.mem ((c.tc : Thread Cert.DbIdeal.nD Cert.DbIdeal.τ).loc Cert.DbIdeal.main_arg8) = m ((c.tc : Thread Cert.DbIdeal.nD Cert.DbIdeal.τ).loc Cert.DbIdeal.main_arg8)
          ∧ r.2.mem ((c.tc : Thread Cert.DbIdeal.nD Cert.DbIdeal.τ).loc Cert.DbIdeal.main_arg9) = m ((c.tc : Thread Cert.DbIdeal.nD Cert.DbIdeal.τ).loc Cert.DbIdeal.main_arg9))
      ∧ θ_run (Cert.RbIdeal.defs (F := Ideal)) (onTc (τ := Cert.RbIdeal.τ) (Cert.RbIdeal.main (F := Ideal))) ⟨m', fun _ => 0, g'⟩ (fun r => ∀ c : Dev Cert.RbIdeal.nD,
          r.2.mem ((c.tc : Thread Cert.RbIdeal.nD Cert.RbIdeal.τ).loc Cert.RbIdeal.main_v46) = v0 c
          ∧ r.2.mem ((c.tc : Thread Cert.RbIdeal.nD Cert.RbIdeal.τ).loc Cert.RbIdeal.main_v47) = v1 c
          ∧ r.2.mem ((c.tc : Thread Cert.RbIdeal.nD Cert.RbIdeal.τ).loc Cert.RbIdeal.main_v49) = v2 c
          ∧ r.2.mem ((c.tc : Thread Cert.RbIdeal.nD Cert.RbIdeal.τ).loc Cert.RbIdeal.main_v51) = v3 c
          ∧ r.2.mem ((c.tc : Thread Cert.RbIdeal.nD Cert.RbIdeal.τ).loc Cert.RbIdeal.main_v53) = v4 c
          ∧ r.2.mem ((c.tc : Thread Cert.RbIdeal.nD Cert.RbIdeal.τ).loc Cert.RbIdeal.main_arg0) = m' ((c.tc : Thread Cert.RbIdeal.nD Cert.RbIdeal.τ).loc Cert.RbIdeal.main_arg0)
          ∧ r.2.mem ((c.tc : Thread Cert.RbIdeal.nD Cert.RbIdeal.τ).loc Cert.RbIdeal.main_arg1) = m' ((c.tc : Thread Cert.RbIdeal.nD Cert.RbIdeal.τ).loc Cert.RbIdeal.main_arg1)
          ∧ r.2.mem ((c.tc : Thread Cert.RbIdeal.nD Cert.RbIdeal.τ).loc Cert.RbIdeal.main_arg2) = m' ((c.tc : Thread Cert.RbIdeal.nD Cert.RbIdeal.τ).loc Cert.RbIdeal.main_arg2)
          ∧ r.2.mem ((c.tc : Thread Cert.RbIdeal.nD Cert.RbIdeal.τ).loc Cert.RbIdeal.main_arg3) = m' ((c.tc : Thread Cert.RbIdeal.nD Cert.RbIdeal.τ).loc Cert.RbIdeal.main_arg3)
          ∧ r.2.mem ((c.tc : Thread Cert.RbIdeal.nD Cert.RbIdeal.τ).loc Cert.RbIdeal.main_arg4) = m' ((c.tc : Thread Cert.RbIdeal.nD Cert.RbIdeal.τ).loc Cert.RbIdeal.main_arg4)
          ∧ r.2.mem ((c.tc : Thread Cert.RbIdeal.nD Cert.RbIdeal.τ).loc Cert.RbIdeal.main_arg5) = m' ((c.tc : Thread Cert.RbIdeal.nD Cert.RbIdeal.τ).loc Cert.RbIdeal.main_arg5)
          ∧ r.2.mem ((c.tc : Thread Cert.RbIdeal.nD Cert.RbIdeal.τ).loc Cert.RbIdeal.main_arg6) = m' ((c.tc : Thread Cert.RbIdeal.nD Cert.RbIdeal.τ).loc Cert.RbIdeal.main_arg6)
          ∧ r.2.mem ((c.tc : Thread Cert.RbIdeal.nD Cert.RbIdeal.τ).loc Cert.RbIdeal.main_arg7) = m' ((c.tc : Thread Cert.RbIdeal.nD Cert.RbIdeal.τ).loc Cert.RbIdeal.main_arg7)
          ∧ r.2.mem ((c.tc : Thread Cert.RbIdeal.nD Cert.RbIdeal.τ).loc Cert.RbIdeal.main_arg8) = m' ((c.tc : Thread Cert.RbIdeal.nD Cert.RbIdeal.τ).loc Cert.RbIdeal.main_arg8)
          ∧ r.2.mem ((c.tc : Thread Cert.RbIdeal.nD Cert.RbIdeal.τ).loc Cert.RbIdeal.main_arg9) = m' ((c.tc : Thread Cert.RbIdeal.nD Cert.RbIdeal.τ).loc Cert.RbIdeal.main_arg9))

def preserves_Df_DfIdeal : Prop :=
  True

def algebraic_DfIdeal_RfIdeal_pre_finite_f [hDfIdeal : Cert.DfIdeal.Facts] [hRfIdeal : Cert.RfIdeal.Facts] [hPre_finite_f : Cert.Pre_finite_f.Facts] : Prop :=
  ∀ (m : (ℓ : Loc Cert.DfIdeal.nD Cert.DfIdeal.τ Cert.DfIdeal.sig) → Buf (Elt Ideal) ℓ) (g : Dev Cert.DfIdeal.nD → PrngReg)
    (m' : (ℓ : Loc Cert.RfIdeal.nD Cert.RfIdeal.τ Cert.RfIdeal.sig) → Buf (Elt Ideal) ℓ) (g' : Dev Cert.RfIdeal.nD → PrngReg), Pre_DfIdeal_finite_f m →
    (∀ c : Dev Cert.DfIdeal.nD,
      m' ((c.tc : Thread Cert.RfIdeal.nD Cert.RfIdeal.τ).loc Cert.RfIdeal.main_arg0) = m ((c.tc : Thread Cert.DfIdeal.nD Cert.DfIdeal.τ).loc Cert.DfIdeal.main_arg0)
      ∧ m' ((c.tc : Thread Cert.RfIdeal.nD Cert.RfIdeal.τ).loc Cert.RfIdeal.main_arg1) = m ((c.tc : Thread Cert.DfIdeal.nD Cert.DfIdeal.τ).loc Cert.DfIdeal.main_arg1)
      ∧ m' ((c.tc : Thread Cert.RfIdeal.nD Cert.RfIdeal.τ).loc Cert.RfIdeal.main_arg2) = m ((c.tc : Thread Cert.DfIdeal.nD Cert.DfIdeal.τ).loc Cert.DfIdeal.main_arg2)
      ∧ m' ((c.tc : Thread Cert.RfIdeal.nD Cert.RfIdeal.τ).loc Cert.RfIdeal.main_arg3) = m ((c.tc : Thread Cert.DfIdeal.nD Cert.DfIdeal.τ).loc Cert.DfIdeal.main_arg3)
      ∧ m' ((c.tc : Thread Cert.RfIdeal.nD Cert.RfIdeal.τ).loc Cert.RfIdeal.main_arg4) = m ((c.tc : Thread Cert.DfIdeal.nD Cert.DfIdeal.τ).loc Cert.DfIdeal.main_arg4)
      ∧ m' ((c.tc : Thread Cert.RfIdeal.nD Cert.RfIdeal.τ).loc Cert.RfIdeal.main_arg5) = m ((c.tc : Thread Cert.DfIdeal.nD Cert.DfIdeal.τ).loc Cert.DfIdeal.main_arg5)
      ∧ m' ((c.tc : Thread Cert.RfIdeal.nD Cert.RfIdeal.τ).loc Cert.RfIdeal.main_arg6) = m ((c.tc : Thread Cert.DfIdeal.nD Cert.DfIdeal.τ).loc Cert.DfIdeal.main_arg6)
      ∧ m' ((c.tc : Thread Cert.RfIdeal.nD Cert.RfIdeal.τ).loc Cert.RfIdeal.main_arg7) = m ((c.tc : Thread Cert.DfIdeal.nD Cert.DfIdeal.τ).loc Cert.DfIdeal.main_arg7)
      ∧ m' ((c.tc : Thread Cert.RfIdeal.nD Cert.RfIdeal.τ).loc Cert.RfIdeal.main_arg8) = m ((c.tc : Thread Cert.DfIdeal.nD Cert.DfIdeal.τ).loc Cert.DfIdeal.main_arg8)
      ∧ m' ((c.tc : Thread Cert.RfIdeal.nD Cert.RfIdeal.τ).loc Cert.RfIdeal.main_arg9) = m ((c.tc : Thread Cert.DfIdeal.nD Cert.DfIdeal.τ).loc Cert.DfIdeal.main_arg9)) →
    ∃ (v0 : (c : Dev Cert.DfIdeal.nD) → Buf (Elt Ideal) ((c.tc : Thread Cert.DfIdeal.nD Cert.DfIdeal.τ).loc Cert.DfIdeal.main_v7_0)) (v1 : (c : Dev Cert.DfIdeal.nD) → Buf (Elt Ideal) ((c.tc : Thread Cert.DfIdeal.nD Cert.DfIdeal.τ).loc Cert.DfIdeal.main_v7_1)) (v2 : (c : Dev Cert.DfIdeal.nD) → Buf (Elt Ideal) ((c.tc : Thread Cert.DfIdeal.nD Cert.DfIdeal.τ).loc Cert.DfIdeal.main_v7_2)) (v3 : (c : Dev Cert.DfIdeal.nD) → Buf (Elt Ideal) ((c.tc : Thread Cert.DfIdeal.nD Cert.DfIdeal.τ).loc Cert.DfIdeal.main_v7_3)) (v4 : (c : Dev Cert.DfIdeal.nD) → Buf (Elt Ideal) ((c.tc : Thread Cert.DfIdeal.nD Cert.DfIdeal.τ).loc Cert.DfIdeal.main_v7_4)) (v5 : (c : Dev Cert.DfIdeal.nD) → Buf (Elt Ideal) ((c.tc : Thread Cert.DfIdeal.nD Cert.DfIdeal.τ).loc Cert.DfIdeal.main_v7_5)) (v6 : (c : Dev Cert.DfIdeal.nD) → Buf (Elt Ideal) ((c.tc : Thread Cert.DfIdeal.nD Cert.DfIdeal.τ).loc Cert.DfIdeal.main_v7_6)),
      θ_run (Cert.DfIdeal.defs (F := Ideal)) (onTc (τ := Cert.DfIdeal.τ) (Cert.DfIdeal.main (F := Ideal))) ⟨m, fun _ => 0, g⟩ (fun r => ∀ c : Dev Cert.DfIdeal.nD,
          r.2.mem ((c.tc : Thread Cert.DfIdeal.nD Cert.DfIdeal.τ).loc Cert.DfIdeal.main_v7_0) = v0 c
          ∧ r.2.mem ((c.tc : Thread Cert.DfIdeal.nD Cert.DfIdeal.τ).loc Cert.DfIdeal.main_v7_1) = v1 c
          ∧ r.2.mem ((c.tc : Thread Cert.DfIdeal.nD Cert.DfIdeal.τ).loc Cert.DfIdeal.main_v7_2) = v2 c
          ∧ r.2.mem ((c.tc : Thread Cert.DfIdeal.nD Cert.DfIdeal.τ).loc Cert.DfIdeal.main_v7_3) = v3 c
          ∧ r.2.mem ((c.tc : Thread Cert.DfIdeal.nD Cert.DfIdeal.τ).loc Cert.DfIdeal.main_v7_4) = v4 c
          ∧ r.2.mem ((c.tc : Thread Cert.DfIdeal.nD Cert.DfIdeal.τ).loc Cert.DfIdeal.main_v7_5) = v5 c
          ∧ r.2.mem ((c.tc : Thread Cert.DfIdeal.nD Cert.DfIdeal.τ).loc Cert.DfIdeal.main_v7_6) = v6 c
          ∧ r.2.mem ((c.tc : Thread Cert.DfIdeal.nD Cert.DfIdeal.τ).loc Cert.DfIdeal.main_arg0) = m ((c.tc : Thread Cert.DfIdeal.nD Cert.DfIdeal.τ).loc Cert.DfIdeal.main_arg0)
          ∧ r.2.mem ((c.tc : Thread Cert.DfIdeal.nD Cert.DfIdeal.τ).loc Cert.DfIdeal.main_arg1) = m ((c.tc : Thread Cert.DfIdeal.nD Cert.DfIdeal.τ).loc Cert.DfIdeal.main_arg1)
          ∧ r.2.mem ((c.tc : Thread Cert.DfIdeal.nD Cert.DfIdeal.τ).loc Cert.DfIdeal.main_arg2) = m ((c.tc : Thread Cert.DfIdeal.nD Cert.DfIdeal.τ).loc Cert.DfIdeal.main_arg2)
          ∧ r.2.mem ((c.tc : Thread Cert.DfIdeal.nD Cert.DfIdeal.τ).loc Cert.DfIdeal.main_arg3) = m ((c.tc : Thread Cert.DfIdeal.nD Cert.DfIdeal.τ).loc Cert.DfIdeal.main_arg3)
          ∧ r.2.mem ((c.tc : Thread Cert.DfIdeal.nD Cert.DfIdeal.τ).loc Cert.DfIdeal.main_arg4) = m ((c.tc : Thread Cert.DfIdeal.nD Cert.DfIdeal.τ).loc Cert.DfIdeal.main_arg4)
          ∧ r.2.mem ((c.tc : Thread Cert.DfIdeal.nD Cert.DfIdeal.τ).loc Cert.DfIdeal.main_arg5) = m ((c.tc : Thread Cert.DfIdeal.nD Cert.DfIdeal.τ).loc Cert.DfIdeal.main_arg5)
          ∧ r.2.mem ((c.tc : Thread Cert.DfIdeal.nD Cert.DfIdeal.τ).loc Cert.DfIdeal.main_arg6) = m ((c.tc : Thread Cert.DfIdeal.nD Cert.DfIdeal.τ).loc Cert.DfIdeal.main_arg6)
          ∧ r.2.mem ((c.tc : Thread Cert.DfIdeal.nD Cert.DfIdeal.τ).loc Cert.DfIdeal.main_arg7) = m ((c.tc : Thread Cert.DfIdeal.nD Cert.DfIdeal.τ).loc Cert.DfIdeal.main_arg7)
          ∧ r.2.mem ((c.tc : Thread Cert.DfIdeal.nD Cert.DfIdeal.τ).loc Cert.DfIdeal.main_arg8) = m ((c.tc : Thread Cert.DfIdeal.nD Cert.DfIdeal.τ).loc Cert.DfIdeal.main_arg8)
          ∧ r.2.mem ((c.tc : Thread Cert.DfIdeal.nD Cert.DfIdeal.τ).loc Cert.DfIdeal.main_arg9) = m ((c.tc : Thread Cert.DfIdeal.nD Cert.DfIdeal.τ).loc Cert.DfIdeal.main_arg9))
      ∧ θ_run (Cert.RfIdeal.defs (F := Ideal)) (onTc (τ := Cert.RfIdeal.τ) (Cert.RfIdeal.main (F := Ideal))) ⟨m', fun _ => 0, g'⟩ (fun r => ∀ c : Dev Cert.RfIdeal.nD,
          r.2.mem ((c.tc : Thread Cert.RfIdeal.nD Cert.RfIdeal.τ).loc Cert.RfIdeal.main_v99) = v0 c
          ∧ r.2.mem ((c.tc : Thread Cert.RfIdeal.nD Cert.RfIdeal.τ).loc Cert.RfIdeal.main_v96) = v1 c
          ∧ r.2.mem ((c.tc : Thread Cert.RfIdeal.nD Cert.RfIdeal.τ).loc Cert.RfIdeal.main_v101) = v2 c
          ∧ r.2.mem ((c.tc : Thread Cert.RfIdeal.nD Cert.RfIdeal.τ).loc Cert.RfIdeal.main_v26) = v3 c
          ∧ r.2.mem ((c.tc : Thread Cert.RfIdeal.nD Cert.RfIdeal.τ).loc Cert.RfIdeal.main_v102) = v4 c
          ∧ r.2.mem ((c.tc : Thread Cert.RfIdeal.nD Cert.RfIdeal.τ).loc Cert.RfIdeal.main_v103) = v5 c
          ∧ r.2.mem ((c.tc : Thread Cert.RfIdeal.nD Cert.RfIdeal.τ).loc Cert.RfIdeal.main_v104) = v6 c
          ∧ r.2.mem ((c.tc : Thread Cert.RfIdeal.nD Cert.RfIdeal.τ).loc Cert.RfIdeal.main_arg0) = m' ((c.tc : Thread Cert.RfIdeal.nD Cert.RfIdeal.τ).loc Cert.RfIdeal.main_arg0)
          ∧ r.2.mem ((c.tc : Thread Cert.RfIdeal.nD Cert.RfIdeal.τ).loc Cert.RfIdeal.main_arg1) = m' ((c.tc : Thread Cert.RfIdeal.nD Cert.RfIdeal.τ).loc Cert.RfIdeal.main_arg1)
          ∧ r.2.mem ((c.tc : Thread Cert.RfIdeal.nD Cert.RfIdeal.τ).loc Cert.RfIdeal.main_arg2) = m' ((c.tc : Thread Cert.RfIdeal.nD Cert.RfIdeal.τ).loc Cert.RfIdeal.main_arg2)
          ∧ r.2.mem ((c.tc : Thread Cert.RfIdeal.nD Cert.RfIdeal.τ).loc Cert.RfIdeal.main_arg3) = m' ((c.tc : Thread Cert.RfIdeal.nD Cert.RfIdeal.τ).loc Cert.RfIdeal.main_arg3)
          ∧ r.2.mem ((c.tc : Thread Cert.RfIdeal.nD Cert.RfIdeal.τ).loc Cert.RfIdeal.main_arg4) = m' ((c.tc : Thread Cert.RfIdeal.nD Cert.RfIdeal.τ).loc Cert.RfIdeal.main_arg4)
          ∧ r.2.mem ((c.tc : Thread Cert.RfIdeal.nD Cert.RfIdeal.τ).loc Cert.RfIdeal.main_arg5) = m' ((c.tc : Thread Cert.RfIdeal.nD Cert.RfIdeal.τ).loc Cert.RfIdeal.main_arg5)
          ∧ r.2.mem ((c.tc : Thread Cert.RfIdeal.nD Cert.RfIdeal.τ).loc Cert.RfIdeal.main_arg6) = m' ((c.tc : Thread Cert.RfIdeal.nD Cert.RfIdeal.τ).loc Cert.RfIdeal.main_arg6)
          ∧ r.2.mem ((c.tc : Thread Cert.RfIdeal.nD Cert.RfIdeal.τ).loc Cert.RfIdeal.main_arg7) = m' ((c.tc : Thread Cert.RfIdeal.nD Cert.RfIdeal.τ).loc Cert.RfIdeal.main_arg7)
          ∧ r.2.mem ((c.tc : Thread Cert.RfIdeal.nD Cert.RfIdeal.τ).loc Cert.RfIdeal.main_arg8) = m' ((c.tc : Thread Cert.RfIdeal.nD Cert.RfIdeal.τ).loc Cert.RfIdeal.main_arg8)
          ∧ r.2.mem ((c.tc : Thread Cert.RfIdeal.nD Cert.RfIdeal.τ).loc Cert.RfIdeal.main_arg9) = m' ((c.tc : Thread Cert.RfIdeal.nD Cert.RfIdeal.τ).loc Cert.RfIdeal.main_arg9))

def preserves_Dg_DgIdeal : Prop :=
  True

def algebraic_DgIdeal_RgIdeal_pre_finite_g [hDgIdeal : Cert.DgIdeal.Facts] [hRgIdeal : Cert.RgIdeal.Facts] [hPre_finite_g : Cert.Pre_finite_g.Facts] : Prop :=
  ∀ (m : (ℓ : Loc Cert.DgIdeal.nD Cert.DgIdeal.τ Cert.DgIdeal.sig) → Buf (Elt Ideal) ℓ) (g : Dev Cert.DgIdeal.nD → PrngReg)
    (m' : (ℓ : Loc Cert.RgIdeal.nD Cert.RgIdeal.τ Cert.RgIdeal.sig) → Buf (Elt Ideal) ℓ) (g' : Dev Cert.RgIdeal.nD → PrngReg), Pre_DgIdeal_finite_g m →
    (∀ c : Dev Cert.DgIdeal.nD,
      m' ((c.tc : Thread Cert.RgIdeal.nD Cert.RgIdeal.τ).loc Cert.RgIdeal.main_arg0) = m ((c.tc : Thread Cert.DgIdeal.nD Cert.DgIdeal.τ).loc Cert.DgIdeal.main_arg0)
      ∧ m' ((c.tc : Thread Cert.RgIdeal.nD Cert.RgIdeal.τ).loc Cert.RgIdeal.main_arg1) = m ((c.tc : Thread Cert.DgIdeal.nD Cert.DgIdeal.τ).loc Cert.DgIdeal.main_arg1)
      ∧ m' ((c.tc : Thread Cert.RgIdeal.nD Cert.RgIdeal.τ).loc Cert.RgIdeal.main_arg2) = m ((c.tc : Thread Cert.DgIdeal.nD Cert.DgIdeal.τ).loc Cert.DgIdeal.main_arg2)
      ∧ m' ((c.tc : Thread Cert.RgIdeal.nD Cert.RgIdeal.τ).loc Cert.RgIdeal.main_arg3) = m ((c.tc : Thread Cert.DgIdeal.nD Cert.DgIdeal.τ).loc Cert.DgIdeal.main_arg3)
      ∧ m' ((c.tc : Thread Cert.RgIdeal.nD Cert.RgIdeal.τ).loc Cert.RgIdeal.main_arg4) = m ((c.tc : Thread Cert.DgIdeal.nD Cert.DgIdeal.τ).loc Cert.DgIdeal.main_arg4)
      ∧ m' ((c.tc : Thread Cert.RgIdeal.nD Cert.RgIdeal.τ).loc Cert.RgIdeal.main_arg5) = m ((c.tc : Thread Cert.DgIdeal.nD Cert.DgIdeal.τ).loc Cert.DgIdeal.main_arg5)
      ∧ m' ((c.tc : Thread Cert.RgIdeal.nD Cert.RgIdeal.τ).loc Cert.RgIdeal.main_arg6) = m ((c.tc : Thread Cert.DgIdeal.nD Cert.DgIdeal.τ).loc Cert.DgIdeal.main_arg6)
      ∧ m' ((c.tc : Thread Cert.RgIdeal.nD Cert.RgIdeal.τ).loc Cert.RgIdeal.main_arg7) = m ((c.tc : Thread Cert.DgIdeal.nD Cert.DgIdeal.τ).loc Cert.DgIdeal.main_arg7)) →
    ∃ (v0 : (c : Dev Cert.DgIdeal.nD) → Buf (Elt Ideal) ((c.tc : Thread Cert.DgIdeal.nD Cert.DgIdeal.τ).loc Cert.DgIdeal.main_v7_0)) (v1 : (c : Dev Cert.DgIdeal.nD) → Buf (Elt Ideal) ((c.tc : Thread Cert.DgIdeal.nD Cert.DgIdeal.τ).loc Cert.DgIdeal.main_v7_1)) (v2 : (c : Dev Cert.DgIdeal.nD) → Buf (Elt Ideal) ((c.tc : Thread Cert.DgIdeal.nD Cert.DgIdeal.τ).loc Cert.DgIdeal.main_v7_2)) (v3 : (c : Dev Cert.DgIdeal.nD) → Buf (Elt Ideal) ((c.tc : Thread Cert.DgIdeal.nD Cert.DgIdeal.τ).loc Cert.DgIdeal.main_v7_3)) (v4 : (c : Dev Cert.DgIdeal.nD) → Buf (Elt Ideal) ((c.tc : Thread Cert.DgIdeal.nD Cert.DgIdeal.τ).loc Cert.DgIdeal.main_v7_4)),
      θ_run (Cert.DgIdeal.defs (F := Ideal)) (onTc (τ := Cert.DgIdeal.τ) (Cert.DgIdeal.main (F := Ideal))) ⟨m, fun _ => 0, g⟩ (fun r => ∀ c : Dev Cert.DgIdeal.nD,
          r.2.mem ((c.tc : Thread Cert.DgIdeal.nD Cert.DgIdeal.τ).loc Cert.DgIdeal.main_v7_0) = v0 c
          ∧ r.2.mem ((c.tc : Thread Cert.DgIdeal.nD Cert.DgIdeal.τ).loc Cert.DgIdeal.main_v7_1) = v1 c
          ∧ r.2.mem ((c.tc : Thread Cert.DgIdeal.nD Cert.DgIdeal.τ).loc Cert.DgIdeal.main_v7_2) = v2 c
          ∧ r.2.mem ((c.tc : Thread Cert.DgIdeal.nD Cert.DgIdeal.τ).loc Cert.DgIdeal.main_v7_3) = v3 c
          ∧ r.2.mem ((c.tc : Thread Cert.DgIdeal.nD Cert.DgIdeal.τ).loc Cert.DgIdeal.main_v7_4) = v4 c
          ∧ r.2.mem ((c.tc : Thread Cert.DgIdeal.nD Cert.DgIdeal.τ).loc Cert.DgIdeal.main_arg0) = m ((c.tc : Thread Cert.DgIdeal.nD Cert.DgIdeal.τ).loc Cert.DgIdeal.main_arg0)
          ∧ r.2.mem ((c.tc : Thread Cert.DgIdeal.nD Cert.DgIdeal.τ).loc Cert.DgIdeal.main_arg1) = m ((c.tc : Thread Cert.DgIdeal.nD Cert.DgIdeal.τ).loc Cert.DgIdeal.main_arg1)
          ∧ r.2.mem ((c.tc : Thread Cert.DgIdeal.nD Cert.DgIdeal.τ).loc Cert.DgIdeal.main_arg2) = m ((c.tc : Thread Cert.DgIdeal.nD Cert.DgIdeal.τ).loc Cert.DgIdeal.main_arg2)
          ∧ r.2.mem ((c.tc : Thread Cert.DgIdeal.nD Cert.DgIdeal.τ).loc Cert.DgIdeal.main_arg3) = m ((c.tc : Thread Cert.DgIdeal.nD Cert.DgIdeal.τ).loc Cert.DgIdeal.main_arg3)
          ∧ r.2.mem ((c.tc : Thread Cert.DgIdeal.nD Cert.DgIdeal.τ).loc Cert.DgIdeal.main_arg4) = m ((c.tc : Thread Cert.DgIdeal.nD Cert.DgIdeal.τ).loc Cert.DgIdeal.main_arg4)
          ∧ r.2.mem ((c.tc : Thread Cert.DgIdeal.nD Cert.DgIdeal.τ).loc Cert.DgIdeal.main_arg5) = m ((c.tc : Thread Cert.DgIdeal.nD Cert.DgIdeal.τ).loc Cert.DgIdeal.main_arg5)
          ∧ r.2.mem ((c.tc : Thread Cert.DgIdeal.nD Cert.DgIdeal.τ).loc Cert.DgIdeal.main_arg6) = m ((c.tc : Thread Cert.DgIdeal.nD Cert.DgIdeal.τ).loc Cert.DgIdeal.main_arg6)
          ∧ r.2.mem ((c.tc : Thread Cert.DgIdeal.nD Cert.DgIdeal.τ).loc Cert.DgIdeal.main_arg7) = m ((c.tc : Thread Cert.DgIdeal.nD Cert.DgIdeal.τ).loc Cert.DgIdeal.main_arg7))
      ∧ θ_run (Cert.RgIdeal.defs (F := Ideal)) (onTc (τ := Cert.RgIdeal.τ) (Cert.RgIdeal.main (F := Ideal))) ⟨m', fun _ => 0, g'⟩ (fun r => ∀ c : Dev Cert.RgIdeal.nD,
          r.2.mem ((c.tc : Thread Cert.RgIdeal.nD Cert.RgIdeal.τ).loc Cert.RgIdeal.main_v31) = v0 c
          ∧ r.2.mem ((c.tc : Thread Cert.RgIdeal.nD Cert.RgIdeal.τ).loc Cert.RgIdeal.main_v26) = v1 c
          ∧ r.2.mem ((c.tc : Thread Cert.RgIdeal.nD Cert.RgIdeal.τ).loc Cert.RgIdeal.main_v32) = v2 c
          ∧ r.2.mem ((c.tc : Thread Cert.RgIdeal.nD Cert.RgIdeal.τ).loc Cert.RgIdeal.main_v33) = v3 c
          ∧ r.2.mem ((c.tc : Thread Cert.RgIdeal.nD Cert.RgIdeal.τ).loc Cert.RgIdeal.main_v34) = v4 c
          ∧ r.2.mem ((c.tc : Thread Cert.RgIdeal.nD Cert.RgIdeal.τ).loc Cert.RgIdeal.main_arg0) = m' ((c.tc : Thread Cert.RgIdeal.nD Cert.RgIdeal.τ).loc Cert.RgIdeal.main_arg0)
          ∧ r.2.mem ((c.tc : Thread Cert.RgIdeal.nD Cert.RgIdeal.τ).loc Cert.RgIdeal.main_arg1) = m' ((c.tc : Thread Cert.RgIdeal.nD Cert.RgIdeal.τ).loc Cert.RgIdeal.main_arg1)
          ∧ r.2.mem ((c.tc : Thread Cert.RgIdeal.nD Cert.RgIdeal.τ).loc Cert.RgIdeal.main_arg2) = m' ((c.tc : Thread Cert.RgIdeal.nD Cert.RgIdeal.τ).loc Cert.RgIdeal.main_arg2)
          ∧ r.2.mem ((c.tc : Thread Cert.RgIdeal.nD Cert.RgIdeal.τ).loc Cert.RgIdeal.main_arg3) = m' ((c.tc : Thread Cert.RgIdeal.nD Cert.RgIdeal.τ).loc Cert.RgIdeal.main_arg3)
          ∧ r.2.mem ((c.tc : Thread Cert.RgIdeal.nD Cert.RgIdeal.τ).loc Cert.RgIdeal.main_arg4) = m' ((c.tc : Thread Cert.RgIdeal.nD Cert.RgIdeal.τ).loc Cert.RgIdeal.main_arg4)
          ∧ r.2.mem ((c.tc : Thread Cert.RgIdeal.nD Cert.RgIdeal.τ).loc Cert.RgIdeal.main_arg5) = m' ((c.tc : Thread Cert.RgIdeal.nD Cert.RgIdeal.τ).loc Cert.RgIdeal.main_arg5)
          ∧ r.2.mem ((c.tc : Thread Cert.RgIdeal.nD Cert.RgIdeal.τ).loc Cert.RgIdeal.main_arg6) = m' ((c.tc : Thread Cert.RgIdeal.nD Cert.RgIdeal.τ).loc Cert.RgIdeal.main_arg6)
          ∧ r.2.mem ((c.tc : Thread Cert.RgIdeal.nD Cert.RgIdeal.τ).loc Cert.RgIdeal.main_arg7) = m' ((c.tc : Thread Cert.RgIdeal.nD Cert.RgIdeal.τ).loc Cert.RgIdeal.main_arg7))

def preserves_Dm_DmIdeal : Prop :=
  True

def algebraic_DmIdeal_RmIdeal [hDmIdeal : Cert.DmIdeal.Facts] [hRmIdeal : Cert.RmIdeal.Facts] : Prop :=
  ∀ (m : (ℓ : Loc Cert.DmIdeal.nD Cert.DmIdeal.τ Cert.DmIdeal.sig) → Buf (Elt Ideal) ℓ) (g : Dev Cert.DmIdeal.nD → PrngReg)
    (m' : (ℓ : Loc Cert.RmIdeal.nD Cert.RmIdeal.τ Cert.RmIdeal.sig) → Buf (Elt Ideal) ℓ) (g' : Dev Cert.RmIdeal.nD → PrngReg), Pre_DmIdeal m →
    (∀ c : Dev Cert.DmIdeal.nD,
      m' ((c.tc : Thread Cert.RmIdeal.nD Cert.RmIdeal.τ).loc Cert.RmIdeal.main_arg0) = m ((c.tc : Thread Cert.DmIdeal.nD Cert.DmIdeal.τ).loc Cert.DmIdeal.main_arg0)
      ∧ m' ((c.tc : Thread Cert.RmIdeal.nD Cert.RmIdeal.τ).loc Cert.RmIdeal.main_arg1) = m ((c.tc : Thread Cert.DmIdeal.nD Cert.DmIdeal.τ).loc Cert.DmIdeal.main_arg1)
      ∧ m' ((c.tc : Thread Cert.RmIdeal.nD Cert.RmIdeal.τ).loc Cert.RmIdeal.main_arg2) = m ((c.tc : Thread Cert.DmIdeal.nD Cert.DmIdeal.τ).loc Cert.DmIdeal.main_arg2)
      ∧ m' ((c.tc : Thread Cert.RmIdeal.nD Cert.RmIdeal.τ).loc Cert.RmIdeal.main_arg3) = m ((c.tc : Thread Cert.DmIdeal.nD Cert.DmIdeal.τ).loc Cert.DmIdeal.main_arg3)
      ∧ m' ((c.tc : Thread Cert.RmIdeal.nD Cert.RmIdeal.τ).loc Cert.RmIdeal.main_arg4) = m ((c.tc : Thread Cert.DmIdeal.nD Cert.DmIdeal.τ).loc Cert.DmIdeal.main_arg4)
      ∧ m' ((c.tc : Thread Cert.RmIdeal.nD Cert.RmIdeal.τ).loc Cert.RmIdeal.main_arg5) = m ((c.tc : Thread Cert.DmIdeal.nD Cert.DmIdeal.τ).loc Cert.DmIdeal.main_arg5)
      ∧ m' ((c.tc : Thread Cert.RmIdeal.nD Cert.RmIdeal.τ).loc Cert.RmIdeal.main_arg6) = m ((c.tc : Thread Cert.DmIdeal.nD Cert.DmIdeal.τ).loc Cert.DmIdeal.main_arg6)
      ∧ m' ((c.tc : Thread Cert.RmIdeal.nD Cert.RmIdeal.τ).loc Cert.RmIdeal.main_arg7) = m ((c.tc : Thread Cert.DmIdeal.nD Cert.DmIdeal.τ).loc Cert.DmIdeal.main_arg7)) →
    ∃ (v0 : (c : Dev Cert.DmIdeal.nD) → Buf (Elt Ideal) ((c.tc : Thread Cert.DmIdeal.nD Cert.DmIdeal.τ).loc Cert.DmIdeal.main_v19_0)) (v1 : (c : Dev Cert.DmIdeal.nD) → Buf (Elt Ideal) ((c.tc : Thread Cert.DmIdeal.nD Cert.DmIdeal.τ).loc Cert.DmIdeal.main_v19_1)) (v2 : (c : Dev Cert.DmIdeal.nD) → Buf (Elt Ideal) ((c.tc : Thread Cert.DmIdeal.nD Cert.DmIdeal.τ).loc Cert.DmIdeal.main_v19_2)) (v3 : (c : Dev Cert.DmIdeal.nD) → Buf (Elt Ideal) ((c.tc : Thread Cert.DmIdeal.nD Cert.DmIdeal.τ).loc Cert.DmIdeal.main_v19_3)) (v4 : (c : Dev Cert.DmIdeal.nD) → Buf (Elt Ideal) ((c.tc : Thread Cert.DmIdeal.nD Cert.DmIdeal.τ).loc Cert.DmIdeal.main_v19_4)) (v5 : (c : Dev Cert.DmIdeal.nD) → Buf (Elt Ideal) ((c.tc : Thread Cert.DmIdeal.nD Cert.DmIdeal.τ).loc Cert.DmIdeal.main_v19_5)) (v6 : (c : Dev Cert.DmIdeal.nD) → Buf (Elt Ideal) ((c.tc : Thread Cert.DmIdeal.nD Cert.DmIdeal.τ).loc Cert.DmIdeal.main_v19_6)) (v7 : (c : Dev Cert.DmIdeal.nD) → Buf (Elt Ideal) ((c.tc : Thread Cert.DmIdeal.nD Cert.DmIdeal.τ).loc Cert.DmIdeal.main_v19_7)) (v8 : (c : Dev Cert.DmIdeal.nD) → Buf (Elt Ideal) ((c.tc : Thread Cert.DmIdeal.nD Cert.DmIdeal.τ).loc Cert.DmIdeal.main_v19_8)),
      θ_run (Cert.DmIdeal.defs (F := Ideal)) (onTc (τ := Cert.DmIdeal.τ) (Cert.DmIdeal.main (F := Ideal))) ⟨m, fun _ => 0, g⟩ (fun r => ∀ c : Dev Cert.DmIdeal.nD,
          r.2.mem ((c.tc : Thread Cert.DmIdeal.nD Cert.DmIdeal.τ).loc Cert.DmIdeal.main_v19_0) = v0 c
          ∧ r.2.mem ((c.tc : Thread Cert.DmIdeal.nD Cert.DmIdeal.τ).loc Cert.DmIdeal.main_v19_1) = v1 c
          ∧ r.2.mem ((c.tc : Thread Cert.DmIdeal.nD Cert.DmIdeal.τ).loc Cert.DmIdeal.main_v19_2) = v2 c
          ∧ r.2.mem ((c.tc : Thread Cert.DmIdeal.nD Cert.DmIdeal.τ).loc Cert.DmIdeal.main_v19_3) = v3 c
          ∧ r.2.mem ((c.tc : Thread Cert.DmIdeal.nD Cert.DmIdeal.τ).loc Cert.DmIdeal.main_v19_4) = v4 c
          ∧ r.2.mem ((c.tc : Thread Cert.DmIdeal.nD Cert.DmIdeal.τ).loc Cert.DmIdeal.main_v19_5) = v5 c
          ∧ r.2.mem ((c.tc : Thread Cert.DmIdeal.nD Cert.DmIdeal.τ).loc Cert.DmIdeal.main_v19_6) = v6 c
          ∧ r.2.mem ((c.tc : Thread Cert.DmIdeal.nD Cert.DmIdeal.τ).loc Cert.DmIdeal.main_v19_7) = v7 c
          ∧ r.2.mem ((c.tc : Thread Cert.DmIdeal.nD Cert.DmIdeal.τ).loc Cert.DmIdeal.main_v19_8) = v8 c
          ∧ r.2.mem ((c.tc : Thread Cert.DmIdeal.nD Cert.DmIdeal.τ).loc Cert.DmIdeal.main_arg0) = m ((c.tc : Thread Cert.DmIdeal.nD Cert.DmIdeal.τ).loc Cert.DmIdeal.main_arg0)
          ∧ r.2.mem ((c.tc : Thread Cert.DmIdeal.nD Cert.DmIdeal.τ).loc Cert.DmIdeal.main_arg1) = m ((c.tc : Thread Cert.DmIdeal.nD Cert.DmIdeal.τ).loc Cert.DmIdeal.main_arg1)
          ∧ r.2.mem ((c.tc : Thread Cert.DmIdeal.nD Cert.DmIdeal.τ).loc Cert.DmIdeal.main_arg2) = m ((c.tc : Thread Cert.DmIdeal.nD Cert.DmIdeal.τ).loc Cert.DmIdeal.main_arg2)
          ∧ r.2.mem ((c.tc : Thread Cert.DmIdeal.nD Cert.DmIdeal.τ).loc Cert.DmIdeal.main_arg3) = m ((c.tc : Thread Cert.DmIdeal.nD Cert.DmIdeal.τ).loc Cert.DmIdeal.main_arg3)
          ∧ r.2.mem ((c.tc : Thread Cert.DmIdeal.nD Cert.DmIdeal.τ).loc Cert.DmIdeal.main_arg4) = m ((c.tc : Thread Cert.DmIdeal.nD Cert.DmIdeal.τ).loc Cert.DmIdeal.main_arg4)
          ∧ r.2.mem ((c.tc : Thread Cert.DmIdeal.nD Cert.DmIdeal.τ).loc Cert.DmIdeal.main_arg5) = m ((c.tc : Thread Cert.DmIdeal.nD Cert.DmIdeal.τ).loc Cert.DmIdeal.main_arg5)
          ∧ r.2.mem ((c.tc : Thread Cert.DmIdeal.nD Cert.DmIdeal.τ).loc Cert.DmIdeal.main_arg6) = m ((c.tc : Thread Cert.DmIdeal.nD Cert.DmIdeal.τ).loc Cert.DmIdeal.main_arg6)
          ∧ r.2.mem ((c.tc : Thread Cert.DmIdeal.nD Cert.DmIdeal.τ).loc Cert.DmIdeal.main_arg7) = m ((c.tc : Thread Cert.DmIdeal.nD Cert.DmIdeal.τ).loc Cert.DmIdeal.main_arg7))
      ∧ θ_run (Cert.RmIdeal.defs (F := Ideal)) (onTc (τ := Cert.RmIdeal.τ) (Cert.RmIdeal.main (F := Ideal))) ⟨m', fun _ => 0, g'⟩ (fun r => ∀ c : Dev Cert.RmIdeal.nD,
          r.2.mem ((c.tc : Thread Cert.RmIdeal.nD Cert.RmIdeal.τ).loc Cert.RmIdeal.main_v19) = v0 c
          ∧ r.2.mem ((c.tc : Thread Cert.RmIdeal.nD Cert.RmIdeal.τ).loc Cert.RmIdeal.main_v99) = v1 c
          ∧ r.2.mem ((c.tc : Thread Cert.RmIdeal.nD Cert.RmIdeal.τ).loc Cert.RmIdeal.main_v100) = v2 c
          ∧ r.2.mem ((c.tc : Thread Cert.RmIdeal.nD Cert.RmIdeal.τ).loc Cert.RmIdeal.main_v101) = v3 c
          ∧ r.2.mem ((c.tc : Thread Cert.RmIdeal.nD Cert.RmIdeal.τ).loc Cert.RmIdeal.main_v57) = v4 c
          ∧ r.2.mem ((c.tc : Thread Cert.RmIdeal.nD Cert.RmIdeal.τ).loc Cert.RmIdeal.main_v20) = v5 c
          ∧ r.2.mem ((c.tc : Thread Cert.RmIdeal.nD Cert.RmIdeal.τ).loc Cert.RmIdeal.main_v23) = v6 c
          ∧ r.2.mem ((c.tc : Thread Cert.RmIdeal.nD Cert.RmIdeal.τ).loc Cert.RmIdeal.main_v103) = v7 c
          ∧ r.2.mem ((c.tc : Thread Cert.RmIdeal.nD Cert.RmIdeal.τ).loc Cert.RmIdeal.main_v106) = v8 c
          ∧ r.2.mem ((c.tc : Thread Cert.RmIdeal.nD Cert.RmIdeal.τ).loc Cert.RmIdeal.main_arg0) = m' ((c.tc : Thread Cert.RmIdeal.nD Cert.RmIdeal.τ).loc Cert.RmIdeal.main_arg0)
          ∧ r.2.mem ((c.tc : Thread Cert.RmIdeal.nD Cert.RmIdeal.τ).loc Cert.RmIdeal.main_arg1) = m' ((c.tc : Thread Cert.RmIdeal.nD Cert.RmIdeal.τ).loc Cert.RmIdeal.main_arg1)
          ∧ r.2.mem ((c.tc : Thread Cert.RmIdeal.nD Cert.RmIdeal.τ).loc Cert.RmIdeal.main_arg2) = m' ((c.tc : Thread Cert.RmIdeal.nD Cert.RmIdeal.τ).loc Cert.RmIdeal.main_arg2)
          ∧ r.2.mem ((c.tc : Thread Cert.RmIdeal.nD Cert.RmIdeal.τ).loc Cert.RmIdeal.main_arg3) = m' ((c.tc : Thread Cert.RmIdeal.nD Cert.RmIdeal.τ).loc Cert.RmIdeal.main_arg3)
          ∧ r.2.mem ((c.tc : Thread Cert.RmIdeal.nD Cert.RmIdeal.τ).loc Cert.RmIdeal.main_arg4) = m' ((c.tc : Thread Cert.RmIdeal.nD Cert.RmIdeal.τ).loc Cert.RmIdeal.main_arg4)
          ∧ r.2.mem ((c.tc : Thread Cert.RmIdeal.nD Cert.RmIdeal.τ).loc Cert.RmIdeal.main_arg5) = m' ((c.tc : Thread Cert.RmIdeal.nD Cert.RmIdeal.τ).loc Cert.RmIdeal.main_arg5)
          ∧ r.2.mem ((c.tc : Thread Cert.RmIdeal.nD Cert.RmIdeal.τ).loc Cert.RmIdeal.main_arg6) = m' ((c.tc : Thread Cert.RmIdeal.nD Cert.RmIdeal.τ).loc Cert.RmIdeal.main_arg6)
          ∧ r.2.mem ((c.tc : Thread Cert.RmIdeal.nD Cert.RmIdeal.τ).loc Cert.RmIdeal.main_arg7) = m' ((c.tc : Thread Cert.RmIdeal.nD Cert.RmIdeal.τ).loc Cert.RmIdeal.main_arg7))

def preserves_Og_OgIdeal : Prop :=
  True

def algebraic_OgIdeal_QgIdeal [hOgIdeal : Cert.OgIdeal.Facts] [hQgIdeal : Cert.QgIdeal.Facts] : Prop :=
  ∀ (m : (ℓ : Loc Cert.OgIdeal.nD Cert.OgIdeal.τ Cert.OgIdeal.sig) → Buf (Elt Ideal) ℓ) (g : Dev Cert.OgIdeal.nD → PrngReg)
    (m' : (ℓ : Loc Cert.QgIdeal.nD Cert.QgIdeal.τ Cert.QgIdeal.sig) → Buf (Elt Ideal) ℓ) (g' : Dev Cert.QgIdeal.nD → PrngReg), Pre_OgIdeal m →
    (∀ c : Dev Cert.OgIdeal.nD,
      m' ((c.tc : Thread Cert.QgIdeal.nD Cert.QgIdeal.τ).loc Cert.QgIdeal.main_arg0) = m ((c.tc : Thread Cert.OgIdeal.nD Cert.OgIdeal.τ).loc Cert.OgIdeal.main_arg0)
      ∧ m' ((c.tc : Thread Cert.QgIdeal.nD Cert.QgIdeal.τ).loc Cert.QgIdeal.main_arg1) = m ((c.tc : Thread Cert.OgIdeal.nD Cert.OgIdeal.τ).loc Cert.OgIdeal.main_arg1)
      ∧ m' ((c.tc : Thread Cert.QgIdeal.nD Cert.QgIdeal.τ).loc Cert.QgIdeal.main_arg2) = m ((c.tc : Thread Cert.OgIdeal.nD Cert.OgIdeal.τ).loc Cert.OgIdeal.main_arg2)
      ∧ m' ((c.tc : Thread Cert.QgIdeal.nD Cert.QgIdeal.τ).loc Cert.QgIdeal.main_arg3) = m ((c.tc : Thread Cert.OgIdeal.nD Cert.OgIdeal.τ).loc Cert.OgIdeal.main_arg3)
      ∧ m' ((c.tc : Thread Cert.QgIdeal.nD Cert.QgIdeal.τ).loc Cert.QgIdeal.main_arg4) = m ((c.tc : Thread Cert.OgIdeal.nD Cert.OgIdeal.τ).loc Cert.OgIdeal.main_arg4)) →
    ∃ (v0 : (c : Dev Cert.OgIdeal.nD) → Buf (Elt Ideal) ((c.tc : Thread Cert.OgIdeal.nD Cert.OgIdeal.τ).loc Cert.OgIdeal.main_v6_0)) (v1 : (c : Dev Cert.OgIdeal.nD) → Buf (Elt Ideal) ((c.tc : Thread Cert.OgIdeal.nD Cert.OgIdeal.τ).loc Cert.OgIdeal.main_v6_1)) (v2 : (c : Dev Cert.OgIdeal.nD) → Buf (Elt Ideal) ((c.tc : Thread Cert.OgIdeal.nD Cert.OgIdeal.τ).loc Cert.OgIdeal.main_v6_2)) (v3 : (c : Dev Cert.OgIdeal.nD) → Buf (Elt Ideal) ((c.tc : Thread Cert.OgIdeal.nD Cert.OgIdeal.τ).loc Cert.OgIdeal.main_v6_3)),
      θ_run (Cert.OgIdeal.defs (F := Ideal)) (onTc (τ := Cert.OgIdeal.τ) (Cert.OgIdeal.main (F := Ideal))) ⟨m, fun _ => 0, g⟩ (fun r => ∀ c : Dev Cert.OgIdeal.nD,
          r.2.mem ((c.tc : Thread Cert.OgIdeal.nD Cert.OgIdeal.τ).loc Cert.OgIdeal.main_v6_0) = v0 c
          ∧ r.2.mem ((c.tc : Thread Cert.OgIdeal.nD Cert.OgIdeal.τ).loc Cert.OgIdeal.main_v6_1) = v1 c
          ∧ r.2.mem ((c.tc : Thread Cert.OgIdeal.nD Cert.OgIdeal.τ).loc Cert.OgIdeal.main_v6_2) = v2 c
          ∧ r.2.mem ((c.tc : Thread Cert.OgIdeal.nD Cert.OgIdeal.τ).loc Cert.OgIdeal.main_v6_3) = v3 c
          ∧ r.2.mem ((c.tc : Thread Cert.OgIdeal.nD Cert.OgIdeal.τ).loc Cert.OgIdeal.main_arg0) = m ((c.tc : Thread Cert.OgIdeal.nD Cert.OgIdeal.τ).loc Cert.OgIdeal.main_arg0)
          ∧ r.2.mem ((c.tc : Thread Cert.OgIdeal.nD Cert.OgIdeal.τ).loc Cert.OgIdeal.main_arg1) = m ((c.tc : Thread Cert.OgIdeal.nD Cert.OgIdeal.τ).loc Cert.OgIdeal.main_arg1)
          ∧ r.2.mem ((c.tc : Thread Cert.OgIdeal.nD Cert.OgIdeal.τ).loc Cert.OgIdeal.main_arg2) = m ((c.tc : Thread Cert.OgIdeal.nD Cert.OgIdeal.τ).loc Cert.OgIdeal.main_arg2)
          ∧ r.2.mem ((c.tc : Thread Cert.OgIdeal.nD Cert.OgIdeal.τ).loc Cert.OgIdeal.main_arg3) = m ((c.tc : Thread Cert.OgIdeal.nD Cert.OgIdeal.τ).loc Cert.OgIdeal.main_arg3)
          ∧ r.2.mem ((c.tc : Thread Cert.OgIdeal.nD Cert.OgIdeal.τ).loc Cert.OgIdeal.main_arg4) = m ((c.tc : Thread Cert.OgIdeal.nD Cert.OgIdeal.τ).loc Cert.OgIdeal.main_arg4))
      ∧ θ_run (Cert.QgIdeal.defs (F := Ideal)) (onTc (τ := Cert.QgIdeal.τ) (Cert.QgIdeal.main (F := Ideal))) ⟨m', fun _ => 0, g'⟩ (fun r => ∀ c : Dev Cert.QgIdeal.nD,
          r.2.mem ((c.tc : Thread Cert.QgIdeal.nD Cert.QgIdeal.τ).loc Cert.QgIdeal.main_v28) = v0 c
          ∧ r.2.mem ((c.tc : Thread Cert.QgIdeal.nD Cert.QgIdeal.τ).loc Cert.QgIdeal.main_v30) = v1 c
          ∧ r.2.mem ((c.tc : Thread Cert.QgIdeal.nD Cert.QgIdeal.τ).loc Cert.QgIdeal.main_v32) = v2 c
          ∧ r.2.mem ((c.tc : Thread Cert.QgIdeal.nD Cert.QgIdeal.τ).loc Cert.QgIdeal.main_v34) = v3 c
          ∧ r.2.mem ((c.tc : Thread Cert.QgIdeal.nD Cert.QgIdeal.τ).loc Cert.QgIdeal.main_arg0) = m' ((c.tc : Thread Cert.QgIdeal.nD Cert.QgIdeal.τ).loc Cert.QgIdeal.main_arg0)
          ∧ r.2.mem ((c.tc : Thread Cert.QgIdeal.nD Cert.QgIdeal.τ).loc Cert.QgIdeal.main_arg1) = m' ((c.tc : Thread Cert.QgIdeal.nD Cert.QgIdeal.τ).loc Cert.QgIdeal.main_arg1)
          ∧ r.2.mem ((c.tc : Thread Cert.QgIdeal.nD Cert.QgIdeal.τ).loc Cert.QgIdeal.main_arg2) = m' ((c.tc : Thread Cert.QgIdeal.nD Cert.QgIdeal.τ).loc Cert.QgIdeal.main_arg2)
          ∧ r.2.mem ((c.tc : Thread Cert.QgIdeal.nD Cert.QgIdeal.τ).loc Cert.QgIdeal.main_arg3) = m' ((c.tc : Thread Cert.QgIdeal.nD Cert.QgIdeal.τ).loc Cert.QgIdeal.main_arg3)
          ∧ r.2.mem ((c.tc : Thread Cert.QgIdeal.nD Cert.QgIdeal.τ).loc Cert.QgIdeal.main_arg4) = m' ((c.tc : Thread Cert.QgIdeal.nD Cert.QgIdeal.τ).loc Cert.QgIdeal.main_arg4))

def preserves_Oi_OiIdeal : Prop :=
  True

def algebraic_OiIdeal_QiIdeal [hOiIdeal : Cert.OiIdeal.Facts] [hQiIdeal : Cert.QiIdeal.Facts] : Prop :=
  ∀ (m : (ℓ : Loc Cert.OiIdeal.nD Cert.OiIdeal.τ Cert.OiIdeal.sig) → Buf (Elt Ideal) ℓ) (g : Dev Cert.OiIdeal.nD → PrngReg)
    (m' : (ℓ : Loc Cert.QiIdeal.nD Cert.QiIdeal.τ Cert.QiIdeal.sig) → Buf (Elt Ideal) ℓ) (g' : Dev Cert.QiIdeal.nD → PrngReg), Pre_OiIdeal m →
    (∀ c : Dev Cert.OiIdeal.nD,
      m' ((c.tc : Thread Cert.QiIdeal.nD Cert.QiIdeal.τ).loc Cert.QiIdeal.main_arg0) = m ((c.tc : Thread Cert.OiIdeal.nD Cert.OiIdeal.τ).loc Cert.OiIdeal.main_arg0)
      ∧ m' ((c.tc : Thread Cert.QiIdeal.nD Cert.QiIdeal.τ).loc Cert.QiIdeal.main_arg1) = m ((c.tc : Thread Cert.OiIdeal.nD Cert.OiIdeal.τ).loc Cert.OiIdeal.main_arg1)
      ∧ m' ((c.tc : Thread Cert.QiIdeal.nD Cert.QiIdeal.τ).loc Cert.QiIdeal.main_arg2) = m ((c.tc : Thread Cert.OiIdeal.nD Cert.OiIdeal.τ).loc Cert.OiIdeal.main_arg2)
      ∧ m' ((c.tc : Thread Cert.QiIdeal.nD Cert.QiIdeal.τ).loc Cert.QiIdeal.main_arg3) = m ((c.tc : Thread Cert.OiIdeal.nD Cert.OiIdeal.τ).loc Cert.OiIdeal.main_arg3)
      ∧ m' ((c.tc : Thread Cert.QiIdeal.nD Cert.QiIdeal.τ).loc Cert.QiIdeal.main_arg4) = m ((c.tc : Thread Cert.OiIdeal.nD Cert.OiIdeal.τ).loc Cert.OiIdeal.main_arg4)) →
    ∃ (v0 : (c : Dev Cert.OiIdeal.nD) → Buf (Elt Ideal) ((c.tc : Thread Cert.OiIdeal.nD Cert.OiIdeal.τ).loc Cert.OiIdeal.main_v8_0)) (v1 : (c : Dev Cert.OiIdeal.nD) → Buf (Elt Ideal) ((c.tc : Thread Cert.OiIdeal.nD Cert.OiIdeal.τ).loc Cert.OiIdeal.main_v8_1)) (v2 : (c : Dev Cert.OiIdeal.nD) → Buf (Elt Ideal) ((c.tc : Thread Cert.OiIdeal.nD Cert.OiIdeal.τ).loc Cert.OiIdeal.main_v8_2)) (v3 : (c : Dev Cert.OiIdeal.nD) → Buf (Elt Ideal) ((c.tc : Thread Cert.OiIdeal.nD Cert.OiIdeal.τ).loc Cert.OiIdeal.main_v8_3)),
      θ_run (Cert.OiIdeal.defs (F := Ideal)) (onTc (τ := Cert.OiIdeal.τ) (Cert.OiIdeal.main (F := Ideal))) ⟨m, fun _ => 0, g⟩ (fun r => ∀ c : Dev Cert.OiIdeal.nD,
          r.2.mem ((c.tc : Thread Cert.OiIdeal.nD Cert.OiIdeal.τ).loc Cert.OiIdeal.main_v8_0) = v0 c
          ∧ r.2.mem ((c.tc : Thread Cert.OiIdeal.nD Cert.OiIdeal.τ).loc Cert.OiIdeal.main_v8_1) = v1 c
          ∧ r.2.mem ((c.tc : Thread Cert.OiIdeal.nD Cert.OiIdeal.τ).loc Cert.OiIdeal.main_v8_2) = v2 c
          ∧ r.2.mem ((c.tc : Thread Cert.OiIdeal.nD Cert.OiIdeal.τ).loc Cert.OiIdeal.main_v8_3) = v3 c
          ∧ r.2.mem ((c.tc : Thread Cert.OiIdeal.nD Cert.OiIdeal.τ).loc Cert.OiIdeal.main_arg0) = m ((c.tc : Thread Cert.OiIdeal.nD Cert.OiIdeal.τ).loc Cert.OiIdeal.main_arg0)
          ∧ r.2.mem ((c.tc : Thread Cert.OiIdeal.nD Cert.OiIdeal.τ).loc Cert.OiIdeal.main_arg1) = m ((c.tc : Thread Cert.OiIdeal.nD Cert.OiIdeal.τ).loc Cert.OiIdeal.main_arg1)
          ∧ r.2.mem ((c.tc : Thread Cert.OiIdeal.nD Cert.OiIdeal.τ).loc Cert.OiIdeal.main_arg2) = m ((c.tc : Thread Cert.OiIdeal.nD Cert.OiIdeal.τ).loc Cert.OiIdeal.main_arg2)
          ∧ r.2.mem ((c.tc : Thread Cert.OiIdeal.nD Cert.OiIdeal.τ).loc Cert.OiIdeal.main_arg3) = m ((c.tc : Thread Cert.OiIdeal.nD Cert.OiIdeal.τ).loc Cert.OiIdeal.main_arg3)
          ∧ r.2.mem ((c.tc : Thread Cert.OiIdeal.nD Cert.OiIdeal.τ).loc Cert.OiIdeal.main_arg4) = m ((c.tc : Thread Cert.OiIdeal.nD Cert.OiIdeal.τ).loc Cert.OiIdeal.main_arg4))
      ∧ θ_run (Cert.QiIdeal.defs (F := Ideal)) (onTc (τ := Cert.QiIdeal.τ) (Cert.QiIdeal.main (F := Ideal))) ⟨m', fun _ => 0, g'⟩ (fun r => ∀ c : Dev Cert.QiIdeal.nD,
          r.2.mem ((c.tc : Thread Cert.QiIdeal.nD Cert.QiIdeal.τ).loc Cert.QiIdeal.main_v29) = v0 c
          ∧ r.2.mem ((c.tc : Thread Cert.QiIdeal.nD Cert.QiIdeal.τ).loc Cert.QiIdeal.main_v31) = v1 c
          ∧ r.2.mem ((c.tc : Thread Cert.QiIdeal.nD Cert.QiIdeal.τ).loc Cert.QiIdeal.main_v33) = v2 c
          ∧ r.2.mem ((c.tc : Thread Cert.QiIdeal.nD Cert.QiIdeal.τ).loc Cert.QiIdeal.main_v35) = v3 c
          ∧ r.2.mem ((c.tc : Thread Cert.QiIdeal.nD Cert.QiIdeal.τ).loc Cert.QiIdeal.main_arg0) = m' ((c.tc : Thread Cert.QiIdeal.nD Cert.QiIdeal.τ).loc Cert.QiIdeal.main_arg0)
          ∧ r.2.mem ((c.tc : Thread Cert.QiIdeal.nD Cert.QiIdeal.τ).loc Cert.QiIdeal.main_arg1) = m' ((c.tc : Thread Cert.QiIdeal.nD Cert.QiIdeal.τ).loc Cert.QiIdeal.main_arg1)
          ∧ r.2.mem ((c.tc : Thread Cert.QiIdeal.nD Cert.QiIdeal.τ).loc Cert.QiIdeal.main_arg2) = m' ((c.tc : Thread Cert.QiIdeal.nD Cert.QiIdeal.τ).loc Cert.QiIdeal.main_arg2)
          ∧ r.2.mem ((c.tc : Thread Cert.QiIdeal.nD Cert.QiIdeal.τ).loc Cert.QiIdeal.main_arg3) = m' ((c.tc : Thread Cert.QiIdeal.nD Cert.QiIdeal.τ).loc Cert.QiIdeal.main_arg3)
          ∧ r.2.mem ((c.tc : Thread Cert.QiIdeal.nD Cert.QiIdeal.τ).loc Cert.QiIdeal.main_arg4) = m' ((c.tc : Thread Cert.QiIdeal.nD Cert.QiIdeal.τ).loc Cert.QiIdeal.main_arg4))

def preserves_Od_OdIdeal : Prop :=
  True

def algebraic_OdIdeal_QdIdeal [hOdIdeal : Cert.OdIdeal.Facts] [hQdIdeal : Cert.QdIdeal.Facts] : Prop :=
  ∀ (m : (ℓ : Loc Cert.OdIdeal.nD Cert.OdIdeal.τ Cert.OdIdeal.sig) → Buf (Elt Ideal) ℓ) (g : Dev Cert.OdIdeal.nD → PrngReg)
    (m' : (ℓ : Loc Cert.QdIdeal.nD Cert.QdIdeal.τ Cert.QdIdeal.sig) → Buf (Elt Ideal) ℓ) (g' : Dev Cert.QdIdeal.nD → PrngReg), Pre_OdIdeal m →
    (∀ c : Dev Cert.OdIdeal.nD,
      m' ((c.tc : Thread Cert.QdIdeal.nD Cert.QdIdeal.τ).loc Cert.QdIdeal.main_arg0) = m ((c.tc : Thread Cert.OdIdeal.nD Cert.OdIdeal.τ).loc Cert.OdIdeal.main_arg0)
      ∧ m' ((c.tc : Thread Cert.QdIdeal.nD Cert.QdIdeal.τ).loc Cert.QdIdeal.main_arg1) = m ((c.tc : Thread Cert.OdIdeal.nD Cert.OdIdeal.τ).loc Cert.OdIdeal.main_arg1)
      ∧ m' ((c.tc : Thread Cert.QdIdeal.nD Cert.QdIdeal.τ).loc Cert.QdIdeal.main_arg2) = m ((c.tc : Thread Cert.OdIdeal.nD Cert.OdIdeal.τ).loc Cert.OdIdeal.main_arg2)
      ∧ m' ((c.tc : Thread Cert.QdIdeal.nD Cert.QdIdeal.τ).loc Cert.QdIdeal.main_arg3) = m ((c.tc : Thread Cert.OdIdeal.nD Cert.OdIdeal.τ).loc Cert.OdIdeal.main_arg3)
      ∧ m' ((c.tc : Thread Cert.QdIdeal.nD Cert.QdIdeal.τ).loc Cert.QdIdeal.main_arg4) = m ((c.tc : Thread Cert.OdIdeal.nD Cert.OdIdeal.τ).loc Cert.OdIdeal.main_arg4)) →
    ∃ (v0 : (c : Dev Cert.OdIdeal.nD) → Buf (Elt Ideal) ((c.tc : Thread Cert.OdIdeal.nD Cert.OdIdeal.τ).loc Cert.OdIdeal.main_v3_0)) (v1 : (c : Dev Cert.OdIdeal.nD) → Buf (Elt Ideal) ((c.tc : Thread Cert.OdIdeal.nD Cert.OdIdeal.τ).loc Cert.OdIdeal.main_v3_1)) (v2 : (c : Dev Cert.OdIdeal.nD) → Buf (Elt Ideal) ((c.tc : Thread Cert.OdIdeal.nD Cert.OdIdeal.τ).loc Cert.OdIdeal.main_v3_2)) (v3 : (c : Dev Cert.OdIdeal.nD) → Buf (Elt Ideal) ((c.tc : Thread Cert.OdIdeal.nD Cert.OdIdeal.τ).loc Cert.OdIdeal.main_v3_3)),
      θ_run (Cert.OdIdeal.defs (F := Ideal)) (onTc (τ := Cert.OdIdeal.τ) (Cert.OdIdeal.main (F := Ideal))) ⟨m, fun _ => 0, g⟩ (fun r => ∀ c : Dev Cert.OdIdeal.nD,
          r.2.mem ((c.tc : Thread Cert.OdIdeal.nD Cert.OdIdeal.τ).loc Cert.OdIdeal.main_v3_0) = v0 c
          ∧ r.2.mem ((c.tc : Thread Cert.OdIdeal.nD Cert.OdIdeal.τ).loc Cert.OdIdeal.main_v3_1) = v1 c
          ∧ r.2.mem ((c.tc : Thread Cert.OdIdeal.nD Cert.OdIdeal.τ).loc Cert.OdIdeal.main_v3_2) = v2 c
          ∧ r.2.mem ((c.tc : Thread Cert.OdIdeal.nD Cert.OdIdeal.τ).loc Cert.OdIdeal.main_v3_3) = v3 c
          ∧ r.2.mem ((c.tc : Thread Cert.OdIdeal.nD Cert.OdIdeal.τ).loc Cert.OdIdeal.main_arg0) = m ((c.tc : Thread Cert.OdIdeal.nD Cert.OdIdeal.τ).loc Cert.OdIdeal.main_arg0)
          ∧ r.2.mem ((c.tc : Thread Cert.OdIdeal.nD Cert.OdIdeal.τ).loc Cert.OdIdeal.main_arg1) = m ((c.tc : Thread Cert.OdIdeal.nD Cert.OdIdeal.τ).loc Cert.OdIdeal.main_arg1)
          ∧ r.2.mem ((c.tc : Thread Cert.OdIdeal.nD Cert.OdIdeal.τ).loc Cert.OdIdeal.main_arg2) = m ((c.tc : Thread Cert.OdIdeal.nD Cert.OdIdeal.τ).loc Cert.OdIdeal.main_arg2)
          ∧ r.2.mem ((c.tc : Thread Cert.OdIdeal.nD Cert.OdIdeal.τ).loc Cert.OdIdeal.main_arg3) = m ((c.tc : Thread Cert.OdIdeal.nD Cert.OdIdeal.τ).loc Cert.OdIdeal.main_arg3)
          ∧ r.2.mem ((c.tc : Thread Cert.OdIdeal.nD Cert.OdIdeal.τ).loc Cert.OdIdeal.main_arg4) = m ((c.tc : Thread Cert.OdIdeal.nD Cert.OdIdeal.τ).loc Cert.OdIdeal.main_arg4))
      ∧ θ_run (Cert.QdIdeal.defs (F := Ideal)) (onTc (τ := Cert.QdIdeal.τ) (Cert.QdIdeal.main (F := Ideal))) ⟨m', fun _ => 0, g'⟩ (fun r => ∀ c : Dev Cert.QdIdeal.nD,
          r.2.mem ((c.tc : Thread Cert.QdIdeal.nD Cert.QdIdeal.τ).loc Cert.QdIdeal.main_v26) = v0 c
          ∧ r.2.mem ((c.tc : Thread Cert.QdIdeal.nD Cert.QdIdeal.τ).loc Cert.QdIdeal.main_v27) = v1 c
          ∧ r.2.mem ((c.tc : Thread Cert.QdIdeal.nD Cert.QdIdeal.τ).loc Cert.QdIdeal.main_v28) = v2 c
          ∧ r.2.mem ((c.tc : Thread Cert.QdIdeal.nD Cert.QdIdeal.τ).loc Cert.QdIdeal.main_v29) = v3 c
          ∧ r.2.mem ((c.tc : Thread Cert.QdIdeal.nD Cert.QdIdeal.τ).loc Cert.QdIdeal.main_arg0) = m' ((c.tc : Thread Cert.QdIdeal.nD Cert.QdIdeal.τ).loc Cert.QdIdeal.main_arg0)
          ∧ r.2.mem ((c.tc : Thread Cert.QdIdeal.nD Cert.QdIdeal.τ).loc Cert.QdIdeal.main_arg1) = m' ((c.tc : Thread Cert.QdIdeal.nD Cert.QdIdeal.τ).loc Cert.QdIdeal.main_arg1)
          ∧ r.2.mem ((c.tc : Thread Cert.QdIdeal.nD Cert.QdIdeal.τ).loc Cert.QdIdeal.main_arg2) = m' ((c.tc : Thread Cert.QdIdeal.nD Cert.QdIdeal.τ).loc Cert.QdIdeal.main_arg2)
          ∧ r.2.mem ((c.tc : Thread Cert.QdIdeal.nD Cert.QdIdeal.τ).loc Cert.QdIdeal.main_arg3) = m' ((c.tc : Thread Cert.QdIdeal.nD Cert.QdIdeal.τ).loc Cert.QdIdeal.main_arg3)
          ∧ r.2.mem ((c.tc : Thread Cert.QdIdeal.nD Cert.QdIdeal.τ).loc Cert.QdIdeal.main_arg4) = m' ((c.tc : Thread Cert.QdIdeal.nD Cert.QdIdeal.τ).loc Cert.QdIdeal.main_arg4))

def preserves_Oo_OoIdeal : Prop :=
  True

def algebraic_OoIdeal_QoIdeal [hOoIdeal : Cert.OoIdeal.Facts] [hQoIdeal : Cert.QoIdeal.Facts] : Prop :=
  ∀ (m : (ℓ : Loc Cert.OoIdeal.nD Cert.OoIdeal.τ Cert.OoIdeal.sig) → Buf (Elt Ideal) ℓ) (g : Dev Cert.OoIdeal.nD → PrngReg)
    (m' : (ℓ : Loc Cert.QoIdeal.nD Cert.QoIdeal.τ Cert.QoIdeal.sig) → Buf (Elt Ideal) ℓ) (g' : Dev Cert.QoIdeal.nD → PrngReg), Pre_OoIdeal m →
    (∀ c : Dev Cert.OoIdeal.nD,
      m' ((c.tc : Thread Cert.QoIdeal.nD Cert.QoIdeal.τ).loc Cert.QoIdeal.main_arg0) = m ((c.tc : Thread Cert.OoIdeal.nD Cert.OoIdeal.τ).loc Cert.OoIdeal.main_arg0)
      ∧ m' ((c.tc : Thread Cert.QoIdeal.nD Cert.QoIdeal.τ).loc Cert.QoIdeal.main_arg1) = m ((c.tc : Thread Cert.OoIdeal.nD Cert.OoIdeal.τ).loc Cert.OoIdeal.main_arg1)
      ∧ m' ((c.tc : Thread Cert.QoIdeal.nD Cert.QoIdeal.τ).loc Cert.QoIdeal.main_arg2) = m ((c.tc : Thread Cert.OoIdeal.nD Cert.OoIdeal.τ).loc Cert.OoIdeal.main_arg2)
      ∧ m' ((c.tc : Thread Cert.QoIdeal.nD Cert.QoIdeal.τ).loc Cert.QoIdeal.main_arg3) = m ((c.tc : Thread Cert.OoIdeal.nD Cert.OoIdeal.τ).loc Cert.OoIdeal.main_arg3)
      ∧ m' ((c.tc : Thread Cert.QoIdeal.nD Cert.QoIdeal.τ).loc Cert.QoIdeal.main_arg4) = m ((c.tc : Thread Cert.OoIdeal.nD Cert.OoIdeal.τ).loc Cert.OoIdeal.main_arg4)) →
    ∃ (v0 : (c : Dev Cert.OoIdeal.nD) → Buf (Elt Ideal) ((c.tc : Thread Cert.OoIdeal.nD Cert.OoIdeal.τ).loc Cert.OoIdeal.main_v3_0)) (v1 : (c : Dev Cert.OoIdeal.nD) → Buf (Elt Ideal) ((c.tc : Thread Cert.OoIdeal.nD Cert.OoIdeal.τ).loc Cert.OoIdeal.main_v3_1)) (v2 : (c : Dev Cert.OoIdeal.nD) → Buf (Elt Ideal) ((c.tc : Thread Cert.OoIdeal.nD Cert.OoIdeal.τ).loc Cert.OoIdeal.main_v3_2)) (v3 : (c : Dev Cert.OoIdeal.nD) → Buf (Elt Ideal) ((c.tc : Thread Cert.OoIdeal.nD Cert.OoIdeal.τ).loc Cert.OoIdeal.main_v3_3)),
      θ_run (Cert.OoIdeal.defs (F := Ideal)) (onTc (τ := Cert.OoIdeal.τ) (Cert.OoIdeal.main (F := Ideal))) ⟨m, fun _ => 0, g⟩ (fun r => ∀ c : Dev Cert.OoIdeal.nD,
          r.2.mem ((c.tc : Thread Cert.OoIdeal.nD Cert.OoIdeal.τ).loc Cert.OoIdeal.main_v3_0) = v0 c
          ∧ r.2.mem ((c.tc : Thread Cert.OoIdeal.nD Cert.OoIdeal.τ).loc Cert.OoIdeal.main_v3_1) = v1 c
          ∧ r.2.mem ((c.tc : Thread Cert.OoIdeal.nD Cert.OoIdeal.τ).loc Cert.OoIdeal.main_v3_2) = v2 c
          ∧ r.2.mem ((c.tc : Thread Cert.OoIdeal.nD Cert.OoIdeal.τ).loc Cert.OoIdeal.main_v3_3) = v3 c
          ∧ r.2.mem ((c.tc : Thread Cert.OoIdeal.nD Cert.OoIdeal.τ).loc Cert.OoIdeal.main_arg0) = m ((c.tc : Thread Cert.OoIdeal.nD Cert.OoIdeal.τ).loc Cert.OoIdeal.main_arg0)
          ∧ r.2.mem ((c.tc : Thread Cert.OoIdeal.nD Cert.OoIdeal.τ).loc Cert.OoIdeal.main_arg1) = m ((c.tc : Thread Cert.OoIdeal.nD Cert.OoIdeal.τ).loc Cert.OoIdeal.main_arg1)
          ∧ r.2.mem ((c.tc : Thread Cert.OoIdeal.nD Cert.OoIdeal.τ).loc Cert.OoIdeal.main_arg2) = m ((c.tc : Thread Cert.OoIdeal.nD Cert.OoIdeal.τ).loc Cert.OoIdeal.main_arg2)
          ∧ r.2.mem ((c.tc : Thread Cert.OoIdeal.nD Cert.OoIdeal.τ).loc Cert.OoIdeal.main_arg3) = m ((c.tc : Thread Cert.OoIdeal.nD Cert.OoIdeal.τ).loc Cert.OoIdeal.main_arg3)
          ∧ r.2.mem ((c.tc : Thread Cert.OoIdeal.nD Cert.OoIdeal.τ).loc Cert.OoIdeal.main_arg4) = m ((c.tc : Thread Cert.OoIdeal.nD Cert.OoIdeal.τ).loc Cert.OoIdeal.main_arg4))
      ∧ θ_run (Cert.QoIdeal.defs (F := Ideal)) (onTc (τ := Cert.QoIdeal.τ) (Cert.QoIdeal.main (F := Ideal))) ⟨m', fun _ => 0, g'⟩ (fun r => ∀ c : Dev Cert.QoIdeal.nD,
          r.2.mem ((c.tc : Thread Cert.QoIdeal.nD Cert.QoIdeal.τ).loc Cert.QoIdeal.main_v26) = v0 c
          ∧ r.2.mem ((c.tc : Thread Cert.QoIdeal.nD Cert.QoIdeal.τ).loc Cert.QoIdeal.main_v27) = v1 c
          ∧ r.2.mem ((c.tc : Thread Cert.QoIdeal.nD Cert.QoIdeal.τ).loc Cert.QoIdeal.main_v28) = v2 c
          ∧ r.2.mem ((c.tc : Thread Cert.QoIdeal.nD Cert.QoIdeal.τ).loc Cert.QoIdeal.main_v29) = v3 c
          ∧ r.2.mem ((c.tc : Thread Cert.QoIdeal.nD Cert.QoIdeal.τ).loc Cert.QoIdeal.main_arg0) = m' ((c.tc : Thread Cert.QoIdeal.nD Cert.QoIdeal.τ).loc Cert.QoIdeal.main_arg0)
          ∧ r.2.mem ((c.tc : Thread Cert.QoIdeal.nD Cert.QoIdeal.τ).loc Cert.QoIdeal.main_arg1) = m' ((c.tc : Thread Cert.QoIdeal.nD Cert.QoIdeal.τ).loc Cert.QoIdeal.main_arg1)
          ∧ r.2.mem ((c.tc : Thread Cert.QoIdeal.nD Cert.QoIdeal.τ).loc Cert.QoIdeal.main_arg2) = m' ((c.tc : Thread Cert.QoIdeal.nD Cert.QoIdeal.τ).loc Cert.QoIdeal.main_arg2)
          ∧ r.2.mem ((c.tc : Thread Cert.QoIdeal.nD Cert.QoIdeal.τ).loc Cert.QoIdeal.main_arg3) = m' ((c.tc : Thread Cert.QoIdeal.nD Cert.QoIdeal.τ).loc Cert.QoIdeal.main_arg3)
          ∧ r.2.mem ((c.tc : Thread Cert.QoIdeal.nD Cert.QoIdeal.τ).loc Cert.QoIdeal.main_arg4) = m' ((c.tc : Thread Cert.QoIdeal.nD Cert.QoIdeal.τ).loc Cert.QoIdeal.main_arg4))

def preserves_Oc_OcIdeal : Prop :=
  True

def algebraic_OcIdeal_QcIdeal [hOcIdeal : Cert.OcIdeal.Facts] [hQcIdeal : Cert.QcIdeal.Facts] : Prop :=
  ∀ (m : (ℓ : Loc Cert.OcIdeal.nD Cert.OcIdeal.τ Cert.OcIdeal.sig) → Buf (Elt Ideal) ℓ) (g : Dev Cert.OcIdeal.nD → PrngReg)
    (m' : (ℓ : Loc Cert.QcIdeal.nD Cert.QcIdeal.τ Cert.QcIdeal.sig) → Buf (Elt Ideal) ℓ) (g' : Dev Cert.QcIdeal.nD → PrngReg), Pre_OcIdeal m →
    (∀ c : Dev Cert.OcIdeal.nD,
      m' ((c.tc : Thread Cert.QcIdeal.nD Cert.QcIdeal.τ).loc Cert.QcIdeal.main_arg0) = m ((c.tc : Thread Cert.OcIdeal.nD Cert.OcIdeal.τ).loc Cert.OcIdeal.main_arg0)
      ∧ m' ((c.tc : Thread Cert.QcIdeal.nD Cert.QcIdeal.τ).loc Cert.QcIdeal.main_arg1) = m ((c.tc : Thread Cert.OcIdeal.nD Cert.OcIdeal.τ).loc Cert.OcIdeal.main_arg1)
      ∧ m' ((c.tc : Thread Cert.QcIdeal.nD Cert.QcIdeal.τ).loc Cert.QcIdeal.main_arg2) = m ((c.tc : Thread Cert.OcIdeal.nD Cert.OcIdeal.τ).loc Cert.OcIdeal.main_arg2)
      ∧ m' ((c.tc : Thread Cert.QcIdeal.nD Cert.QcIdeal.τ).loc Cert.QcIdeal.main_arg3) = m ((c.tc : Thread Cert.OcIdeal.nD Cert.OcIdeal.τ).loc Cert.OcIdeal.main_arg3)) →
    ∃ (v0 : (c : Dev Cert.OcIdeal.nD) → Buf (Elt Ideal) ((c.tc : Thread Cert.OcIdeal.nD Cert.OcIdeal.τ).loc Cert.OcIdeal.main_v3_0)) (v1 : (c : Dev Cert.OcIdeal.nD) → Buf (Elt Ideal) ((c.tc : Thread Cert.OcIdeal.nD Cert.OcIdeal.τ).loc Cert.OcIdeal.main_v3_1)) (v2 : (c : Dev Cert.OcIdeal.nD) → Buf (Elt Ideal) ((c.tc : Thread Cert.OcIdeal.nD Cert.OcIdeal.τ).loc Cert.OcIdeal.main_v3_2)) (v3 : (c : Dev Cert.OcIdeal.nD) → Buf (Elt Ideal) ((c.tc : Thread Cert.OcIdeal.nD Cert.OcIdeal.τ).loc Cert.OcIdeal.main_v3_3)),
      θ_run (Cert.OcIdeal.defs (F := Ideal)) (onTc (τ := Cert.OcIdeal.τ) (Cert.OcIdeal.main (F := Ideal))) ⟨m, fun _ => 0, g⟩ (fun r => ∀ c : Dev Cert.OcIdeal.nD,
          r.2.mem ((c.tc : Thread Cert.OcIdeal.nD Cert.OcIdeal.τ).loc Cert.OcIdeal.main_v3_0) = v0 c
          ∧ r.2.mem ((c.tc : Thread Cert.OcIdeal.nD Cert.OcIdeal.τ).loc Cert.OcIdeal.main_v3_1) = v1 c
          ∧ r.2.mem ((c.tc : Thread Cert.OcIdeal.nD Cert.OcIdeal.τ).loc Cert.OcIdeal.main_v3_2) = v2 c
          ∧ r.2.mem ((c.tc : Thread Cert.OcIdeal.nD Cert.OcIdeal.τ).loc Cert.OcIdeal.main_v3_3) = v3 c
          ∧ r.2.mem ((c.tc : Thread Cert.OcIdeal.nD Cert.OcIdeal.τ).loc Cert.OcIdeal.main_arg0) = m ((c.tc : Thread Cert.OcIdeal.nD Cert.OcIdeal.τ).loc Cert.OcIdeal.main_arg0)
          ∧ r.2.mem ((c.tc : Thread Cert.OcIdeal.nD Cert.OcIdeal.τ).loc Cert.OcIdeal.main_arg1) = m ((c.tc : Thread Cert.OcIdeal.nD Cert.OcIdeal.τ).loc Cert.OcIdeal.main_arg1)
          ∧ r.2.mem ((c.tc : Thread Cert.OcIdeal.nD Cert.OcIdeal.τ).loc Cert.OcIdeal.main_arg2) = m ((c.tc : Thread Cert.OcIdeal.nD Cert.OcIdeal.τ).loc Cert.OcIdeal.main_arg2)
          ∧ r.2.mem ((c.tc : Thread Cert.OcIdeal.nD Cert.OcIdeal.τ).loc Cert.OcIdeal.main_arg3) = m ((c.tc : Thread Cert.OcIdeal.nD Cert.OcIdeal.τ).loc Cert.OcIdeal.main_arg3))
      ∧ θ_run (Cert.QcIdeal.defs (F := Ideal)) (onTc (τ := Cert.QcIdeal.τ) (Cert.QcIdeal.main (F := Ideal))) ⟨m', fun _ => 0, g'⟩ (fun r => ∀ c : Dev Cert.QcIdeal.nD,
          r.2.mem ((c.tc : Thread Cert.QcIdeal.nD Cert.QcIdeal.τ).loc Cert.QcIdeal.main_v25) = v0 c
          ∧ r.2.mem ((c.tc : Thread Cert.QcIdeal.nD Cert.QcIdeal.τ).loc Cert.QcIdeal.main_v26) = v1 c
          ∧ r.2.mem ((c.tc : Thread Cert.QcIdeal.nD Cert.QcIdeal.τ).loc Cert.QcIdeal.main_v27) = v2 c
          ∧ r.2.mem ((c.tc : Thread Cert.QcIdeal.nD Cert.QcIdeal.τ).loc Cert.QcIdeal.main_v28) = v3 c
          ∧ r.2.mem ((c.tc : Thread Cert.QcIdeal.nD Cert.QcIdeal.τ).loc Cert.QcIdeal.main_arg0) = m' ((c.tc : Thread Cert.QcIdeal.nD Cert.QcIdeal.τ).loc Cert.QcIdeal.main_arg0)
          ∧ r.2.mem ((c.tc : Thread Cert.QcIdeal.nD Cert.QcIdeal.τ).loc Cert.QcIdeal.main_arg1) = m' ((c.tc : Thread Cert.QcIdeal.nD Cert.QcIdeal.τ).loc Cert.QcIdeal.main_arg1)
          ∧ r.2.mem ((c.tc : Thread Cert.QcIdeal.nD Cert.QcIdeal.τ).loc Cert.QcIdeal.main_arg2) = m' ((c.tc : Thread Cert.QcIdeal.nD Cert.QcIdeal.τ).loc Cert.QcIdeal.main_arg2)
          ∧ r.2.mem ((c.tc : Thread Cert.QcIdeal.nD Cert.QcIdeal.τ).loc Cert.QcIdeal.main_arg3) = m' ((c.tc : Thread Cert.QcIdeal.nD Cert.QcIdeal.τ).loc Cert.QcIdeal.main_arg3))

def preserves_Oh_OhIdeal : Prop :=
  True

def algebraic_OhIdeal_QhIdeal [hOhIdeal : Cert.OhIdeal.Facts] [hQhIdeal : Cert.QhIdeal.Facts] : Prop :=
  ∀ (m : (ℓ : Loc Cert.OhIdeal.nD Cert.OhIdeal.τ Cert.OhIdeal.sig) → Buf (Elt Ideal) ℓ) (g : Dev Cert.OhIdeal.nD → PrngReg)
    (m' : (ℓ : Loc Cert.QhIdeal.nD Cert.QhIdeal.τ Cert.QhIdeal.sig) → Buf (Elt Ideal) ℓ) (g' : Dev Cert.QhIdeal.nD → PrngReg), Pre_OhIdeal m →
    (∀ c : Dev Cert.OhIdeal.nD,
      m' ((c.tc : Thread Cert.QhIdeal.nD Cert.QhIdeal.τ).loc Cert.QhIdeal.main_arg0) = m ((c.tc : Thread Cert.OhIdeal.nD Cert.OhIdeal.τ).loc Cert.OhIdeal.main_arg0)
      ∧ m' ((c.tc : Thread Cert.QhIdeal.nD Cert.QhIdeal.τ).loc Cert.QhIdeal.main_arg1) = m ((c.tc : Thread Cert.OhIdeal.nD Cert.OhIdeal.τ).loc Cert.OhIdeal.main_arg1)
      ∧ m' ((c.tc : Thread Cert.QhIdeal.nD Cert.QhIdeal.τ).loc Cert.QhIdeal.main_arg2) = m ((c.tc : Thread Cert.OhIdeal.nD Cert.OhIdeal.τ).loc Cert.OhIdeal.main_arg2)
      ∧ m' ((c.tc : Thread Cert.QhIdeal.nD Cert.QhIdeal.τ).loc Cert.QhIdeal.main_arg3) = m ((c.tc : Thread Cert.OhIdeal.nD Cert.OhIdeal.τ).loc Cert.OhIdeal.main_arg3)
      ∧ m' ((c.tc : Thread Cert.QhIdeal.nD Cert.QhIdeal.τ).loc Cert.QhIdeal.main_arg4) = m ((c.tc : Thread Cert.OhIdeal.nD Cert.OhIdeal.τ).loc Cert.OhIdeal.main_arg4)) →
    ∃ (v0 : (c : Dev Cert.OhIdeal.nD) → Buf (Elt Ideal) ((c.tc : Thread Cert.OhIdeal.nD Cert.OhIdeal.τ).loc Cert.OhIdeal.main_v7_0)) (v1 : (c : Dev Cert.OhIdeal.nD) → Buf (Elt Ideal) ((c.tc : Thread Cert.OhIdeal.nD Cert.OhIdeal.τ).loc Cert.OhIdeal.main_v7_1)) (v2 : (c : Dev Cert.OhIdeal.nD) → Buf (Elt Ideal) ((c.tc : Thread Cert.OhIdeal.nD Cert.OhIdeal.τ).loc Cert.OhIdeal.main_v7_2)) (v3 : (c : Dev Cert.OhIdeal.nD) → Buf (Elt Ideal) ((c.tc : Thread Cert.OhIdeal.nD Cert.OhIdeal.τ).loc Cert.OhIdeal.main_v7_3)),
      θ_run (Cert.OhIdeal.defs (F := Ideal)) (onTc (τ := Cert.OhIdeal.τ) (Cert.OhIdeal.main (F := Ideal))) ⟨m, fun _ => 0, g⟩ (fun r => ∀ c : Dev Cert.OhIdeal.nD,
          r.2.mem ((c.tc : Thread Cert.OhIdeal.nD Cert.OhIdeal.τ).loc Cert.OhIdeal.main_v7_0) = v0 c
          ∧ r.2.mem ((c.tc : Thread Cert.OhIdeal.nD Cert.OhIdeal.τ).loc Cert.OhIdeal.main_v7_1) = v1 c
          ∧ r.2.mem ((c.tc : Thread Cert.OhIdeal.nD Cert.OhIdeal.τ).loc Cert.OhIdeal.main_v7_2) = v2 c
          ∧ r.2.mem ((c.tc : Thread Cert.OhIdeal.nD Cert.OhIdeal.τ).loc Cert.OhIdeal.main_v7_3) = v3 c
          ∧ r.2.mem ((c.tc : Thread Cert.OhIdeal.nD Cert.OhIdeal.τ).loc Cert.OhIdeal.main_arg0) = m ((c.tc : Thread Cert.OhIdeal.nD Cert.OhIdeal.τ).loc Cert.OhIdeal.main_arg0)
          ∧ r.2.mem ((c.tc : Thread Cert.OhIdeal.nD Cert.OhIdeal.τ).loc Cert.OhIdeal.main_arg1) = m ((c.tc : Thread Cert.OhIdeal.nD Cert.OhIdeal.τ).loc Cert.OhIdeal.main_arg1)
          ∧ r.2.mem ((c.tc : Thread Cert.OhIdeal.nD Cert.OhIdeal.τ).loc Cert.OhIdeal.main_arg2) = m ((c.tc : Thread Cert.OhIdeal.nD Cert.OhIdeal.τ).loc Cert.OhIdeal.main_arg2)
          ∧ r.2.mem ((c.tc : Thread Cert.OhIdeal.nD Cert.OhIdeal.τ).loc Cert.OhIdeal.main_arg3) = m ((c.tc : Thread Cert.OhIdeal.nD Cert.OhIdeal.τ).loc Cert.OhIdeal.main_arg3)
          ∧ r.2.mem ((c.tc : Thread Cert.OhIdeal.nD Cert.OhIdeal.τ).loc Cert.OhIdeal.main_arg4) = m ((c.tc : Thread Cert.OhIdeal.nD Cert.OhIdeal.τ).loc Cert.OhIdeal.main_arg4))
      ∧ θ_run (Cert.QhIdeal.defs (F := Ideal)) (onTc (τ := Cert.QhIdeal.τ) (Cert.QhIdeal.main (F := Ideal))) ⟨m', fun _ => 0, g'⟩ (fun r => ∀ c : Dev Cert.QhIdeal.nD,
          r.2.mem ((c.tc : Thread Cert.QhIdeal.nD Cert.QhIdeal.τ).loc Cert.QhIdeal.main_v36) = v0 c
          ∧ r.2.mem ((c.tc : Thread Cert.QhIdeal.nD Cert.QhIdeal.τ).loc Cert.QhIdeal.main_v38) = v1 c
          ∧ r.2.mem ((c.tc : Thread Cert.QhIdeal.nD Cert.QhIdeal.τ).loc Cert.QhIdeal.main_v40) = v2 c
          ∧ r.2.mem ((c.tc : Thread Cert.QhIdeal.nD Cert.QhIdeal.τ).loc Cert.QhIdeal.main_v42) = v3 c
          ∧ r.2.mem ((c.tc : Thread Cert.QhIdeal.nD Cert.QhIdeal.τ).loc Cert.QhIdeal.main_arg0) = m' ((c.tc : Thread Cert.QhIdeal.nD Cert.QhIdeal.τ).loc Cert.QhIdeal.main_arg0)
          ∧ r.2.mem ((c.tc : Thread Cert.QhIdeal.nD Cert.QhIdeal.τ).loc Cert.QhIdeal.main_arg1) = m' ((c.tc : Thread Cert.QhIdeal.nD Cert.QhIdeal.τ).loc Cert.QhIdeal.main_arg1)
          ∧ r.2.mem ((c.tc : Thread Cert.QhIdeal.nD Cert.QhIdeal.τ).loc Cert.QhIdeal.main_arg2) = m' ((c.tc : Thread Cert.QhIdeal.nD Cert.QhIdeal.τ).loc Cert.QhIdeal.main_arg2)
          ∧ r.2.mem ((c.tc : Thread Cert.QhIdeal.nD Cert.QhIdeal.τ).loc Cert.QhIdeal.main_arg3) = m' ((c.tc : Thread Cert.QhIdeal.nD Cert.QhIdeal.τ).loc Cert.QhIdeal.main_arg3)
          ∧ r.2.mem ((c.tc : Thread Cert.QhIdeal.nD Cert.QhIdeal.τ).loc Cert.QhIdeal.main_arg4) = m' ((c.tc : Thread Cert.QhIdeal.nD Cert.QhIdeal.τ).loc Cert.QhIdeal.main_arg4))

def preserves_Ok_OkIdeal : Prop :=
  True

def algebraic_OkIdeal_QkIdeal [hOkIdeal : Cert.OkIdeal.Facts] [hQkIdeal : Cert.QkIdeal.Facts] : Prop :=
  ∀ (m : (ℓ : Loc Cert.OkIdeal.nD Cert.OkIdeal.τ Cert.OkIdeal.sig) → Buf (Elt Ideal) ℓ) (g : Dev Cert.OkIdeal.nD → PrngReg)
    (m' : (ℓ : Loc Cert.QkIdeal.nD Cert.QkIdeal.τ Cert.QkIdeal.sig) → Buf (Elt Ideal) ℓ) (g' : Dev Cert.QkIdeal.nD → PrngReg), Pre_OkIdeal m →
    (∀ c : Dev Cert.OkIdeal.nD,
      m' ((c.tc : Thread Cert.QkIdeal.nD Cert.QkIdeal.τ).loc Cert.QkIdeal.main_arg0) = m ((c.tc : Thread Cert.OkIdeal.nD Cert.OkIdeal.τ).loc Cert.OkIdeal.main_arg0)
      ∧ m' ((c.tc : Thread Cert.QkIdeal.nD Cert.QkIdeal.τ).loc Cert.QkIdeal.main_arg1) = m ((c.tc : Thread Cert.OkIdeal.nD Cert.OkIdeal.τ).loc Cert.OkIdeal.main_arg1)
      ∧ m' ((c.tc : Thread Cert.QkIdeal.nD Cert.QkIdeal.τ).loc Cert.QkIdeal.main_arg2) = m ((c.tc : Thread Cert.OkIdeal.nD Cert.OkIdeal.τ).loc Cert.OkIdeal.main_arg2)
      ∧ m' ((c.tc : Thread Cert.QkIdeal.nD Cert.QkIdeal.τ).loc Cert.QkIdeal.main_arg3) = m ((c.tc : Thread Cert.OkIdeal.nD Cert.OkIdeal.τ).loc Cert.OkIdeal.main_arg3)
      ∧ m' ((c.tc : Thread Cert.QkIdeal.nD Cert.QkIdeal.τ).loc Cert.QkIdeal.main_arg4) = m ((c.tc : Thread Cert.OkIdeal.nD Cert.OkIdeal.τ).loc Cert.OkIdeal.main_arg4)) →
    ∃ (v0 : (c : Dev Cert.OkIdeal.nD) → Buf (Elt Ideal) ((c.tc : Thread Cert.OkIdeal.nD Cert.OkIdeal.τ).loc Cert.OkIdeal.main_v4_0)) (v1 : (c : Dev Cert.OkIdeal.nD) → Buf (Elt Ideal) ((c.tc : Thread Cert.OkIdeal.nD Cert.OkIdeal.τ).loc Cert.OkIdeal.main_v4_1)) (v2 : (c : Dev Cert.OkIdeal.nD) → Buf (Elt Ideal) ((c.tc : Thread Cert.OkIdeal.nD Cert.OkIdeal.τ).loc Cert.OkIdeal.main_v4_2)) (v3 : (c : Dev Cert.OkIdeal.nD) → Buf (Elt Ideal) ((c.tc : Thread Cert.OkIdeal.nD Cert.OkIdeal.τ).loc Cert.OkIdeal.main_v4_3)),
      θ_run (Cert.OkIdeal.defs (F := Ideal)) (onTc (τ := Cert.OkIdeal.τ) (Cert.OkIdeal.main (F := Ideal))) ⟨m, fun _ => 0, g⟩ (fun r => ∀ c : Dev Cert.OkIdeal.nD,
          r.2.mem ((c.tc : Thread Cert.OkIdeal.nD Cert.OkIdeal.τ).loc Cert.OkIdeal.main_v4_0) = v0 c
          ∧ r.2.mem ((c.tc : Thread Cert.OkIdeal.nD Cert.OkIdeal.τ).loc Cert.OkIdeal.main_v4_1) = v1 c
          ∧ r.2.mem ((c.tc : Thread Cert.OkIdeal.nD Cert.OkIdeal.τ).loc Cert.OkIdeal.main_v4_2) = v2 c
          ∧ r.2.mem ((c.tc : Thread Cert.OkIdeal.nD Cert.OkIdeal.τ).loc Cert.OkIdeal.main_v4_3) = v3 c
          ∧ r.2.mem ((c.tc : Thread Cert.OkIdeal.nD Cert.OkIdeal.τ).loc Cert.OkIdeal.main_arg0) = m ((c.tc : Thread Cert.OkIdeal.nD Cert.OkIdeal.τ).loc Cert.OkIdeal.main_arg0)
          ∧ r.2.mem ((c.tc : Thread Cert.OkIdeal.nD Cert.OkIdeal.τ).loc Cert.OkIdeal.main_arg1) = m ((c.tc : Thread Cert.OkIdeal.nD Cert.OkIdeal.τ).loc Cert.OkIdeal.main_arg1)
          ∧ r.2.mem ((c.tc : Thread Cert.OkIdeal.nD Cert.OkIdeal.τ).loc Cert.OkIdeal.main_arg2) = m ((c.tc : Thread Cert.OkIdeal.nD Cert.OkIdeal.τ).loc Cert.OkIdeal.main_arg2)
          ∧ r.2.mem ((c.tc : Thread Cert.OkIdeal.nD Cert.OkIdeal.τ).loc Cert.OkIdeal.main_arg3) = m ((c.tc : Thread Cert.OkIdeal.nD Cert.OkIdeal.τ).loc Cert.OkIdeal.main_arg3)
          ∧ r.2.mem ((c.tc : Thread Cert.OkIdeal.nD Cert.OkIdeal.τ).loc Cert.OkIdeal.main_arg4) = m ((c.tc : Thread Cert.OkIdeal.nD Cert.OkIdeal.τ).loc Cert.OkIdeal.main_arg4))
      ∧ θ_run (Cert.QkIdeal.defs (F := Ideal)) (onTc (τ := Cert.QkIdeal.τ) (Cert.QkIdeal.main (F := Ideal))) ⟨m', fun _ => 0, g'⟩ (fun r => ∀ c : Dev Cert.QkIdeal.nD,
          r.2.mem ((c.tc : Thread Cert.QkIdeal.nD Cert.QkIdeal.τ).loc Cert.QkIdeal.main_v34) = v0 c
          ∧ r.2.mem ((c.tc : Thread Cert.QkIdeal.nD Cert.QkIdeal.τ).loc Cert.QkIdeal.main_v35) = v1 c
          ∧ r.2.mem ((c.tc : Thread Cert.QkIdeal.nD Cert.QkIdeal.τ).loc Cert.QkIdeal.main_v36) = v2 c
          ∧ r.2.mem ((c.tc : Thread Cert.QkIdeal.nD Cert.QkIdeal.τ).loc Cert.QkIdeal.main_v37) = v3 c
          ∧ r.2.mem ((c.tc : Thread Cert.QkIdeal.nD Cert.QkIdeal.τ).loc Cert.QkIdeal.main_arg0) = m' ((c.tc : Thread Cert.QkIdeal.nD Cert.QkIdeal.τ).loc Cert.QkIdeal.main_arg0)
          ∧ r.2.mem ((c.tc : Thread Cert.QkIdeal.nD Cert.QkIdeal.τ).loc Cert.QkIdeal.main_arg1) = m' ((c.tc : Thread Cert.QkIdeal.nD Cert.QkIdeal.τ).loc Cert.QkIdeal.main_arg1)
          ∧ r.2.mem ((c.tc : Thread Cert.QkIdeal.nD Cert.QkIdeal.τ).loc Cert.QkIdeal.main_arg2) = m' ((c.tc : Thread Cert.QkIdeal.nD Cert.QkIdeal.τ).loc Cert.QkIdeal.main_arg2)
          ∧ r.2.mem ((c.tc : Thread Cert.QkIdeal.nD Cert.QkIdeal.τ).loc Cert.QkIdeal.main_arg3) = m' ((c.tc : Thread Cert.QkIdeal.nD Cert.QkIdeal.τ).loc Cert.QkIdeal.main_arg3)
          ∧ r.2.mem ((c.tc : Thread Cert.QkIdeal.nD Cert.QkIdeal.τ).loc Cert.QkIdeal.main_arg4) = m' ((c.tc : Thread Cert.QkIdeal.nD Cert.QkIdeal.τ).loc Cert.QkIdeal.main_arg4))

def preserves_Oa_OaIdeal : Prop :=
  True

def algebraic_OaIdeal_QaIdeal [hOaIdeal : Cert.OaIdeal.Facts] [hQaIdeal : Cert.QaIdeal.Facts] : Prop :=
  ∀ (m : (ℓ : Loc Cert.OaIdeal.nD Cert.OaIdeal.τ Cert.OaIdeal.sig) → Buf (Elt Ideal) ℓ) (g : Dev Cert.OaIdeal.nD → PrngReg)
    (m' : (ℓ : Loc Cert.QaIdeal.nD Cert.QaIdeal.τ Cert.QaIdeal.sig) → Buf (Elt Ideal) ℓ) (g' : Dev Cert.QaIdeal.nD → PrngReg), Pre_OaIdeal m →
    (∀ c : Dev Cert.OaIdeal.nD,
      m' ((c.tc : Thread Cert.QaIdeal.nD Cert.QaIdeal.τ).loc Cert.QaIdeal.main_arg0) = m ((c.tc : Thread Cert.OaIdeal.nD Cert.OaIdeal.τ).loc Cert.OaIdeal.main_arg0)
      ∧ m' ((c.tc : Thread Cert.QaIdeal.nD Cert.QaIdeal.τ).loc Cert.QaIdeal.main_arg1) = m ((c.tc : Thread Cert.OaIdeal.nD Cert.OaIdeal.τ).loc Cert.OaIdeal.main_arg1)
      ∧ m' ((c.tc : Thread Cert.QaIdeal.nD Cert.QaIdeal.τ).loc Cert.QaIdeal.main_arg2) = m ((c.tc : Thread Cert.OaIdeal.nD Cert.OaIdeal.τ).loc Cert.OaIdeal.main_arg2)
      ∧ m' ((c.tc : Thread Cert.QaIdeal.nD Cert.QaIdeal.τ).loc Cert.QaIdeal.main_arg3) = m ((c.tc : Thread Cert.OaIdeal.nD Cert.OaIdeal.τ).loc Cert.OaIdeal.main_arg3)
      ∧ m' ((c.tc : Thread Cert.QaIdeal.nD Cert.QaIdeal.τ).loc Cert.QaIdeal.main_arg4) = m ((c.tc : Thread Cert.OaIdeal.nD Cert.OaIdeal.τ).loc Cert.OaIdeal.main_arg4)) →
    ∃ (v0 : (c : Dev Cert.OaIdeal.nD) → Buf (Elt Ideal) ((c.tc : Thread Cert.OaIdeal.nD Cert.OaIdeal.τ).loc Cert.OaIdeal.main_v3_0)) (v1 : (c : Dev Cert.OaIdeal.nD) → Buf (Elt Ideal) ((c.tc : Thread Cert.OaIdeal.nD Cert.OaIdeal.τ).loc Cert.OaIdeal.main_v3_1)) (v2 : (c : Dev Cert.OaIdeal.nD) → Buf (Elt Ideal) ((c.tc : Thread Cert.OaIdeal.nD Cert.OaIdeal.τ).loc Cert.OaIdeal.main_v3_2)) (v3 : (c : Dev Cert.OaIdeal.nD) → Buf (Elt Ideal) ((c.tc : Thread Cert.OaIdeal.nD Cert.OaIdeal.τ).loc Cert.OaIdeal.main_v3_3)),
      θ_run (Cert.OaIdeal.defs (F := Ideal)) (onTc (τ := Cert.OaIdeal.τ) (Cert.OaIdeal.main (F := Ideal))) ⟨m, fun _ => 0, g⟩ (fun r => ∀ c : Dev Cert.OaIdeal.nD,
          r.2.mem ((c.tc : Thread Cert.OaIdeal.nD Cert.OaIdeal.τ).loc Cert.OaIdeal.main_v3_0) = v0 c
          ∧ r.2.mem ((c.tc : Thread Cert.OaIdeal.nD Cert.OaIdeal.τ).loc Cert.OaIdeal.main_v3_1) = v1 c
          ∧ r.2.mem ((c.tc : Thread Cert.OaIdeal.nD Cert.OaIdeal.τ).loc Cert.OaIdeal.main_v3_2) = v2 c
          ∧ r.2.mem ((c.tc : Thread Cert.OaIdeal.nD Cert.OaIdeal.τ).loc Cert.OaIdeal.main_v3_3) = v3 c
          ∧ r.2.mem ((c.tc : Thread Cert.OaIdeal.nD Cert.OaIdeal.τ).loc Cert.OaIdeal.main_arg0) = m ((c.tc : Thread Cert.OaIdeal.nD Cert.OaIdeal.τ).loc Cert.OaIdeal.main_arg0)
          ∧ r.2.mem ((c.tc : Thread Cert.OaIdeal.nD Cert.OaIdeal.τ).loc Cert.OaIdeal.main_arg1) = m ((c.tc : Thread Cert.OaIdeal.nD Cert.OaIdeal.τ).loc Cert.OaIdeal.main_arg1)
          ∧ r.2.mem ((c.tc : Thread Cert.OaIdeal.nD Cert.OaIdeal.τ).loc Cert.OaIdeal.main_arg2) = m ((c.tc : Thread Cert.OaIdeal.nD Cert.OaIdeal.τ).loc Cert.OaIdeal.main_arg2)
          ∧ r.2.mem ((c.tc : Thread Cert.OaIdeal.nD Cert.OaIdeal.τ).loc Cert.OaIdeal.main_arg3) = m ((c.tc : Thread Cert.OaIdeal.nD Cert.OaIdeal.τ).loc Cert.OaIdeal.main_arg3)
          ∧ r.2.mem ((c.tc : Thread Cert.OaIdeal.nD Cert.OaIdeal.τ).loc Cert.OaIdeal.main_arg4) = m ((c.tc : Thread Cert.OaIdeal.nD Cert.OaIdeal.τ).loc Cert.OaIdeal.main_arg4))
      ∧ θ_run (Cert.QaIdeal.defs (F := Ideal)) (onTc (τ := Cert.QaIdeal.τ) (Cert.QaIdeal.main (F := Ideal))) ⟨m', fun _ => 0, g'⟩ (fun r => ∀ c : Dev Cert.QaIdeal.nD,
          r.2.mem ((c.tc : Thread Cert.QaIdeal.nD Cert.QaIdeal.τ).loc Cert.QaIdeal.main_v32) = v0 c
          ∧ r.2.mem ((c.tc : Thread Cert.QaIdeal.nD Cert.QaIdeal.τ).loc Cert.QaIdeal.main_v33) = v1 c
          ∧ r.2.mem ((c.tc : Thread Cert.QaIdeal.nD Cert.QaIdeal.τ).loc Cert.QaIdeal.main_v34) = v2 c
          ∧ r.2.mem ((c.tc : Thread Cert.QaIdeal.nD Cert.QaIdeal.τ).loc Cert.QaIdeal.main_v35) = v3 c
          ∧ r.2.mem ((c.tc : Thread Cert.QaIdeal.nD Cert.QaIdeal.τ).loc Cert.QaIdeal.main_arg0) = m' ((c.tc : Thread Cert.QaIdeal.nD Cert.QaIdeal.τ).loc Cert.QaIdeal.main_arg0)
          ∧ r.2.mem ((c.tc : Thread Cert.QaIdeal.nD Cert.QaIdeal.τ).loc Cert.QaIdeal.main_arg1) = m' ((c.tc : Thread Cert.QaIdeal.nD Cert.QaIdeal.τ).loc Cert.QaIdeal.main_arg1)
          ∧ r.2.mem ((c.tc : Thread Cert.QaIdeal.nD Cert.QaIdeal.τ).loc Cert.QaIdeal.main_arg2) = m' ((c.tc : Thread Cert.QaIdeal.nD Cert.QaIdeal.τ).loc Cert.QaIdeal.main_arg2)
          ∧ r.2.mem ((c.tc : Thread Cert.QaIdeal.nD Cert.QaIdeal.τ).loc Cert.QaIdeal.main_arg3) = m' ((c.tc : Thread Cert.QaIdeal.nD Cert.QaIdeal.τ).loc Cert.QaIdeal.main_arg3)
          ∧ r.2.mem ((c.tc : Thread Cert.QaIdeal.nD Cert.QaIdeal.τ).loc Cert.QaIdeal.main_arg4) = m' ((c.tc : Thread Cert.QaIdeal.nD Cert.QaIdeal.τ).loc Cert.QaIdeal.main_arg4))

def preserves_Os_OsIdeal : Prop :=
  True

def algebraic_OsIdeal_QsIdeal [hOsIdeal : Cert.OsIdeal.Facts] [hQsIdeal : Cert.QsIdeal.Facts] : Prop :=
  ∀ (m : (ℓ : Loc Cert.OsIdeal.nD Cert.OsIdeal.τ Cert.OsIdeal.sig) → Buf (Elt Ideal) ℓ) (g : Dev Cert.OsIdeal.nD → PrngReg)
    (m' : (ℓ : Loc Cert.QsIdeal.nD Cert.QsIdeal.τ Cert.QsIdeal.sig) → Buf (Elt Ideal) ℓ) (g' : Dev Cert.QsIdeal.nD → PrngReg), Pre_OsIdeal m →
    (∀ c : Dev Cert.OsIdeal.nD,
      m' ((c.tc : Thread Cert.QsIdeal.nD Cert.QsIdeal.τ).loc Cert.QsIdeal.main_arg0) = m ((c.tc : Thread Cert.OsIdeal.nD Cert.OsIdeal.τ).loc Cert.OsIdeal.main_arg0)
      ∧ m' ((c.tc : Thread Cert.QsIdeal.nD Cert.QsIdeal.τ).loc Cert.QsIdeal.main_arg1) = m ((c.tc : Thread Cert.OsIdeal.nD Cert.OsIdeal.τ).loc Cert.OsIdeal.main_arg1)
      ∧ m' ((c.tc : Thread Cert.QsIdeal.nD Cert.QsIdeal.τ).loc Cert.QsIdeal.main_arg2) = m ((c.tc : Thread Cert.OsIdeal.nD Cert.OsIdeal.τ).loc Cert.OsIdeal.main_arg2)
      ∧ m' ((c.tc : Thread Cert.QsIdeal.nD Cert.QsIdeal.τ).loc Cert.QsIdeal.main_arg3) = m ((c.tc : Thread Cert.OsIdeal.nD Cert.OsIdeal.τ).loc Cert.OsIdeal.main_arg3)) →
    ∃ (v0 : (c : Dev Cert.OsIdeal.nD) → Buf (Elt Ideal) ((c.tc : Thread Cert.OsIdeal.nD Cert.OsIdeal.τ).loc Cert.OsIdeal.main_v0_0)) (v1 : (c : Dev Cert.OsIdeal.nD) → Buf (Elt Ideal) ((c.tc : Thread Cert.OsIdeal.nD Cert.OsIdeal.τ).loc Cert.OsIdeal.main_v0_1)) (v2 : (c : Dev Cert.OsIdeal.nD) → Buf (Elt Ideal) ((c.tc : Thread Cert.OsIdeal.nD Cert.OsIdeal.τ).loc Cert.OsIdeal.main_v0_2)) (v3 : (c : Dev Cert.OsIdeal.nD) → Buf (Elt Ideal) ((c.tc : Thread Cert.OsIdeal.nD Cert.OsIdeal.τ).loc Cert.OsIdeal.main_v0_3)),
      θ_run (Cert.OsIdeal.defs (F := Ideal)) (onTc (τ := Cert.OsIdeal.τ) (Cert.OsIdeal.main (F := Ideal))) ⟨m, fun _ => 0, g⟩ (fun r => ∀ c : Dev Cert.OsIdeal.nD,
          r.2.mem ((c.tc : Thread Cert.OsIdeal.nD Cert.OsIdeal.τ).loc Cert.OsIdeal.main_v0_0) = v0 c
          ∧ r.2.mem ((c.tc : Thread Cert.OsIdeal.nD Cert.OsIdeal.τ).loc Cert.OsIdeal.main_v0_1) = v1 c
          ∧ r.2.mem ((c.tc : Thread Cert.OsIdeal.nD Cert.OsIdeal.τ).loc Cert.OsIdeal.main_v0_2) = v2 c
          ∧ r.2.mem ((c.tc : Thread Cert.OsIdeal.nD Cert.OsIdeal.τ).loc Cert.OsIdeal.main_v0_3) = v3 c
          ∧ r.2.mem ((c.tc : Thread Cert.OsIdeal.nD Cert.OsIdeal.τ).loc Cert.OsIdeal.main_arg0) = m ((c.tc : Thread Cert.OsIdeal.nD Cert.OsIdeal.τ).loc Cert.OsIdeal.main_arg0)
          ∧ r.2.mem ((c.tc : Thread Cert.OsIdeal.nD Cert.OsIdeal.τ).loc Cert.OsIdeal.main_arg1) = m ((c.tc : Thread Cert.OsIdeal.nD Cert.OsIdeal.τ).loc Cert.OsIdeal.main_arg1)
          ∧ r.2.mem ((c.tc : Thread Cert.OsIdeal.nD Cert.OsIdeal.τ).loc Cert.OsIdeal.main_arg2) = m ((c.tc : Thread Cert.OsIdeal.nD Cert.OsIdeal.τ).loc Cert.OsIdeal.main_arg2)
          ∧ r.2.mem ((c.tc : Thread Cert.OsIdeal.nD Cert.OsIdeal.τ).loc Cert.OsIdeal.main_arg3) = m ((c.tc : Thread Cert.OsIdeal.nD Cert.OsIdeal.τ).loc Cert.OsIdeal.main_arg3))
      ∧ θ_run (Cert.QsIdeal.defs (F := Ideal)) (onTc (τ := Cert.QsIdeal.τ) (Cert.QsIdeal.main (F := Ideal))) ⟨m', fun _ => 0, g'⟩ (fun r => ∀ c : Dev Cert.QsIdeal.nD,
          r.2.mem ((c.tc : Thread Cert.QsIdeal.nD Cert.QsIdeal.τ).loc Cert.QsIdeal.main_v0) = v0 c
          ∧ r.2.mem ((c.tc : Thread Cert.QsIdeal.nD Cert.QsIdeal.τ).loc Cert.QsIdeal.main_v24) = v1 c
          ∧ r.2.mem ((c.tc : Thread Cert.QsIdeal.nD Cert.QsIdeal.τ).loc Cert.QsIdeal.main_v5) = v2 c
          ∧ r.2.mem ((c.tc : Thread Cert.QsIdeal.nD Cert.QsIdeal.τ).loc Cert.QsIdeal.main_v11) = v3 c
          ∧ r.2.mem ((c.tc : Thread Cert.QsIdeal.nD Cert.QsIdeal.τ).loc Cert.QsIdeal.main_arg0) = m' ((c.tc : Thread Cert.QsIdeal.nD Cert.QsIdeal.τ).loc Cert.QsIdeal.main_arg0)
          ∧ r.2.mem ((c.tc : Thread Cert.QsIdeal.nD Cert.QsIdeal.τ).loc Cert.QsIdeal.main_arg1) = m' ((c.tc : Thread Cert.QsIdeal.nD Cert.QsIdeal.τ).loc Cert.QsIdeal.main_arg1)
          ∧ r.2.mem ((c.tc : Thread Cert.QsIdeal.nD Cert.QsIdeal.τ).loc Cert.QsIdeal.main_arg2) = m' ((c.tc : Thread Cert.QsIdeal.nD Cert.QsIdeal.τ).loc Cert.QsIdeal.main_arg2)
          ∧ r.2.mem ((c.tc : Thread Cert.QsIdeal.nD Cert.QsIdeal.τ).loc Cert.QsIdeal.main_arg3) = m' ((c.tc : Thread Cert.QsIdeal.nD Cert.QsIdeal.τ).loc Cert.QsIdeal.main_arg3))

def preserves_Op_OpIdeal : Prop :=
  True

def algebraic_OpIdeal_QpIdeal [hOpIdeal : Cert.OpIdeal.Facts] [hQpIdeal : Cert.QpIdeal.Facts] : Prop :=
  ∀ (m : (ℓ : Loc Cert.OpIdeal.nD Cert.OpIdeal.τ Cert.OpIdeal.sig) → Buf (Elt Ideal) ℓ) (g : Dev Cert.OpIdeal.nD → PrngReg)
    (m' : (ℓ : Loc Cert.QpIdeal.nD Cert.QpIdeal.τ Cert.QpIdeal.sig) → Buf (Elt Ideal) ℓ) (g' : Dev Cert.QpIdeal.nD → PrngReg), Pre_OpIdeal m →
    (∀ c : Dev Cert.OpIdeal.nD,
      m' ((c.tc : Thread Cert.QpIdeal.nD Cert.QpIdeal.τ).loc Cert.QpIdeal.main_arg0) = m ((c.tc : Thread Cert.OpIdeal.nD Cert.OpIdeal.τ).loc Cert.OpIdeal.main_arg0)
      ∧ m' ((c.tc : Thread Cert.QpIdeal.nD Cert.QpIdeal.τ).loc Cert.QpIdeal.main_arg1) = m ((c.tc : Thread Cert.OpIdeal.nD Cert.OpIdeal.τ).loc Cert.OpIdeal.main_arg1)
      ∧ m' ((c.tc : Thread Cert.QpIdeal.nD Cert.QpIdeal.τ).loc Cert.QpIdeal.main_arg2) = m ((c.tc : Thread Cert.OpIdeal.nD Cert.OpIdeal.τ).loc Cert.OpIdeal.main_arg2)
      ∧ m' ((c.tc : Thread Cert.QpIdeal.nD Cert.QpIdeal.τ).loc Cert.QpIdeal.main_arg3) = m ((c.tc : Thread Cert.OpIdeal.nD Cert.OpIdeal.τ).loc Cert.OpIdeal.main_arg3)) →
    ∃ (v0 : (c : Dev Cert.OpIdeal.nD) → Buf (Elt Ideal) ((c.tc : Thread Cert.OpIdeal.nD Cert.OpIdeal.τ).loc Cert.OpIdeal.main_v3_0)) (v1 : (c : Dev Cert.OpIdeal.nD) → Buf (Elt Ideal) ((c.tc : Thread Cert.OpIdeal.nD Cert.OpIdeal.τ).loc Cert.OpIdeal.main_v3_1)) (v2 : (c : Dev Cert.OpIdeal.nD) → Buf (Elt Ideal) ((c.tc : Thread Cert.OpIdeal.nD Cert.OpIdeal.τ).loc Cert.OpIdeal.main_v3_2)) (v3 : (c : Dev Cert.OpIdeal.nD) → Buf (Elt Ideal) ((c.tc : Thread Cert.OpIdeal.nD Cert.OpIdeal.τ).loc Cert.OpIdeal.main_v3_3)),
      θ_run (Cert.OpIdeal.defs (F := Ideal)) (onTc (τ := Cert.OpIdeal.τ) (Cert.OpIdeal.main (F := Ideal))) ⟨m, fun _ => 0, g⟩ (fun r => ∀ c : Dev Cert.OpIdeal.nD,
          r.2.mem ((c.tc : Thread Cert.OpIdeal.nD Cert.OpIdeal.τ).loc Cert.OpIdeal.main_v3_0) = v0 c
          ∧ r.2.mem ((c.tc : Thread Cert.OpIdeal.nD Cert.OpIdeal.τ).loc Cert.OpIdeal.main_v3_1) = v1 c
          ∧ r.2.mem ((c.tc : Thread Cert.OpIdeal.nD Cert.OpIdeal.τ).loc Cert.OpIdeal.main_v3_2) = v2 c
          ∧ r.2.mem ((c.tc : Thread Cert.OpIdeal.nD Cert.OpIdeal.τ).loc Cert.OpIdeal.main_v3_3) = v3 c
          ∧ r.2.mem ((c.tc : Thread Cert.OpIdeal.nD Cert.OpIdeal.τ).loc Cert.OpIdeal.main_arg0) = m ((c.tc : Thread Cert.OpIdeal.nD Cert.OpIdeal.τ).loc Cert.OpIdeal.main_arg0)
          ∧ r.2.mem ((c.tc : Thread Cert.OpIdeal.nD Cert.OpIdeal.τ).loc Cert.OpIdeal.main_arg1) = m ((c.tc : Thread Cert.OpIdeal.nD Cert.OpIdeal.τ).loc Cert.OpIdeal.main_arg1)
          ∧ r.2.mem ((c.tc : Thread Cert.OpIdeal.nD Cert.OpIdeal.τ).loc Cert.OpIdeal.main_arg2) = m ((c.tc : Thread Cert.OpIdeal.nD Cert.OpIdeal.τ).loc Cert.OpIdeal.main_arg2)
          ∧ r.2.mem ((c.tc : Thread Cert.OpIdeal.nD Cert.OpIdeal.τ).loc Cert.OpIdeal.main_arg3) = m ((c.tc : Thread Cert.OpIdeal.nD Cert.OpIdeal.τ).loc Cert.OpIdeal.main_arg3))
      ∧ θ_run (Cert.QpIdeal.defs (F := Ideal)) (onTc (τ := Cert.QpIdeal.τ) (Cert.QpIdeal.main (F := Ideal))) ⟨m', fun _ => 0, g'⟩ (fun r => ∀ c : Dev Cert.QpIdeal.nD,
          r.2.mem ((c.tc : Thread Cert.QpIdeal.nD Cert.QpIdeal.τ).loc Cert.QpIdeal.main_v26) = v0 c
          ∧ r.2.mem ((c.tc : Thread Cert.QpIdeal.nD Cert.QpIdeal.τ).loc Cert.QpIdeal.main_v27) = v1 c
          ∧ r.2.mem ((c.tc : Thread Cert.QpIdeal.nD Cert.QpIdeal.τ).loc Cert.QpIdeal.main_v28) = v2 c
          ∧ r.2.mem ((c.tc : Thread Cert.QpIdeal.nD Cert.QpIdeal.τ).loc Cert.QpIdeal.main_v29) = v3 c
          ∧ r.2.mem ((c.tc : Thread Cert.QpIdeal.nD Cert.QpIdeal.τ).loc Cert.QpIdeal.main_arg0) = m' ((c.tc : Thread Cert.QpIdeal.nD Cert.QpIdeal.τ).loc Cert.QpIdeal.main_arg0)
          ∧ r.2.mem ((c.tc : Thread Cert.QpIdeal.nD Cert.QpIdeal.τ).loc Cert.QpIdeal.main_arg1) = m' ((c.tc : Thread Cert.QpIdeal.nD Cert.QpIdeal.τ).loc Cert.QpIdeal.main_arg1)
          ∧ r.2.mem ((c.tc : Thread Cert.QpIdeal.nD Cert.QpIdeal.τ).loc Cert.QpIdeal.main_arg2) = m' ((c.tc : Thread Cert.QpIdeal.nD Cert.QpIdeal.τ).loc Cert.QpIdeal.main_arg2)
          ∧ r.2.mem ((c.tc : Thread Cert.QpIdeal.nD Cert.QpIdeal.τ).loc Cert.QpIdeal.main_arg3) = m' ((c.tc : Thread Cert.QpIdeal.nD Cert.QpIdeal.τ).loc Cert.QpIdeal.main_arg3))

def preserves_Sl_SlIdeal : Prop :=
  True

def algebraic_SlIdeal_TlIdeal [hSlIdeal : Cert.SlIdeal.Facts] [hTlIdeal : Cert.TlIdeal.Facts] : Prop :=
  ∀ (m : (ℓ : Loc Cert.SlIdeal.nD Cert.SlIdeal.τ Cert.SlIdeal.sig) → Buf (Elt Ideal) ℓ) (g : Dev Cert.SlIdeal.nD → PrngReg)
    (m' : (ℓ : Loc Cert.TlIdeal.nD Cert.TlIdeal.τ Cert.TlIdeal.sig) → Buf (Elt Ideal) ℓ) (g' : Dev Cert.TlIdeal.nD → PrngReg), Pre_SlIdeal m →
    (∀ c : Dev Cert.SlIdeal.nD,
      m' ((c.tc : Thread Cert.TlIdeal.nD Cert.TlIdeal.τ).loc Cert.TlIdeal.main_arg0) = m ((c.tc : Thread Cert.SlIdeal.nD Cert.SlIdeal.τ).loc Cert.SlIdeal.main_arg0)) →
    ∃ (v0 : (c : Dev Cert.SlIdeal.nD) → Buf (Elt Ideal) ((c.tc : Thread Cert.SlIdeal.nD Cert.SlIdeal.τ).loc Cert.SlIdeal.main_v0)),
      θ_run (Cert.SlIdeal.defs (F := Ideal)) (onTc (τ := Cert.SlIdeal.τ) (Cert.SlIdeal.main (F := Ideal))) ⟨m, fun _ => 0, g⟩ (fun r => ∀ c : Dev Cert.SlIdeal.nD,
          r.2.mem ((c.tc : Thread Cert.SlIdeal.nD Cert.SlIdeal.τ).loc Cert.SlIdeal.main_v0) = v0 c
          ∧ r.2.mem ((c.tc : Thread Cert.SlIdeal.nD Cert.SlIdeal.τ).loc Cert.SlIdeal.main_arg0) = m ((c.tc : Thread Cert.SlIdeal.nD Cert.SlIdeal.τ).loc Cert.SlIdeal.main_arg0))
      ∧ θ_run (Cert.TlIdeal.defs (F := Ideal)) (onTc (τ := Cert.TlIdeal.τ) (Cert.TlIdeal.main (F := Ideal))) ⟨m', fun _ => 0, g'⟩ (fun r => ∀ c : Dev Cert.TlIdeal.nD,
          r.2.mem ((c.tc : Thread Cert.TlIdeal.nD Cert.TlIdeal.τ).loc Cert.TlIdeal.main_v1) = v0 c
          ∧ r.2.mem ((c.tc : Thread Cert.TlIdeal.nD Cert.TlIdeal.τ).loc Cert.TlIdeal.main_arg0) = m' ((c.tc : Thread Cert.TlIdeal.nD Cert.TlIdeal.τ).loc Cert.TlIdeal.main_arg0))

def preserves_Sk_SkIdeal : Prop :=
  True

def algebraic_SkIdeal_TkIdeal [hSkIdeal : Cert.SkIdeal.Facts] [hTkIdeal : Cert.TkIdeal.Facts] : Prop :=
  ∀ (m : (ℓ : Loc Cert.SkIdeal.nD Cert.SkIdeal.τ Cert.SkIdeal.sig) → Buf (Elt Ideal) ℓ) (g : Dev Cert.SkIdeal.nD → PrngReg)
    (m' : (ℓ : Loc Cert.TkIdeal.nD Cert.TkIdeal.τ Cert.TkIdeal.sig) → Buf (Elt Ideal) ℓ) (g' : Dev Cert.TkIdeal.nD → PrngReg), Pre_SkIdeal m →
    (∀ c : Dev Cert.SkIdeal.nD,
      m' ((c.tc : Thread Cert.TkIdeal.nD Cert.TkIdeal.τ).loc Cert.TkIdeal.main_arg0) = m ((c.tc : Thread Cert.SkIdeal.nD Cert.SkIdeal.τ).loc Cert.SkIdeal.main_arg0)
      ∧ m' ((c.tc : Thread Cert.TkIdeal.nD Cert.TkIdeal.τ).loc Cert.TkIdeal.main_arg1) = m ((c.tc : Thread Cert.SkIdeal.nD Cert.SkIdeal.τ).loc Cert.SkIdeal.main_arg1)) →
    ∃ (v0 : (c : Dev Cert.SkIdeal.nD) → Buf (Elt Ideal) ((c.tc : Thread Cert.SkIdeal.nD Cert.SkIdeal.τ).loc Cert.SkIdeal.main_v1)),
      θ_run (Cert.SkIdeal.defs (F := Ideal)) (onTc (τ := Cert.SkIdeal.τ) (Cert.SkIdeal.main (F := Ideal))) ⟨m, fun _ => 0, g⟩ (fun r => ∀ c : Dev Cert.SkIdeal.nD,
          r.2.mem ((c.tc : Thread Cert.SkIdeal.nD Cert.SkIdeal.τ).loc Cert.SkIdeal.main_v1) = v0 c
          ∧ r.2.mem ((c.tc : Thread Cert.SkIdeal.nD Cert.SkIdeal.τ).loc Cert.SkIdeal.main_arg0) = m ((c.tc : Thread Cert.SkIdeal.nD Cert.SkIdeal.τ).loc Cert.SkIdeal.main_arg0)
          ∧ r.2.mem ((c.tc : Thread Cert.SkIdeal.nD Cert.SkIdeal.τ).loc Cert.SkIdeal.main_arg1) = m ((c.tc : Thread Cert.SkIdeal.nD Cert.SkIdeal.τ).loc Cert.SkIdeal.main_arg1))
      ∧ θ_run (Cert.TkIdeal.defs (F := Ideal)) (onTc (τ := Cert.TkIdeal.τ) (Cert.TkIdeal.main (F := Ideal))) ⟨m', fun _ => 0, g'⟩ (fun r => ∀ c : Dev Cert.TkIdeal.nD,
          r.2.mem ((c.tc : Thread Cert.TkIdeal.nD Cert.TkIdeal.τ).loc Cert.TkIdeal.main_v12) = v0 c
          ∧ r.2.mem ((c.tc : Thread Cert.TkIdeal.nD Cert.TkIdeal.τ).loc Cert.TkIdeal.main_arg0) = m' ((c.tc : Thread Cert.TkIdeal.nD Cert.TkIdeal.τ).loc Cert.TkIdeal.main_arg0)
          ∧ r.2.mem ((c.tc : Thread Cert.TkIdeal.nD Cert.TkIdeal.τ).loc Cert.TkIdeal.main_arg1) = m' ((c.tc : Thread Cert.TkIdeal.nD Cert.TkIdeal.τ).loc Cert.TkIdeal.main_arg1))

def Claim : Prop :=
  ∃ (hDw : Cert.Dw.Facts) (hDwIdeal : Cert.DwIdeal.Facts) (hRwIdeal : Cert.RwIdeal.Facts) (hDa : Cert.Da.Facts) (hDaIdeal : Cert.DaIdeal.Facts) (hRaIdeal : Cert.RaIdeal.Facts) (hDb : Cert.Db.Facts) (hDbIdeal : Cert.DbIdeal.Facts) (hRbIdeal : Cert.RbIdeal.Facts) (hDf : Cert.Df.Facts) (hDfIdeal : Cert.DfIdeal.Facts) (hRfIdeal : Cert.RfIdeal.Facts) (hDg : Cert.Dg.Facts) (hDgIdeal : Cert.DgIdeal.Facts) (hRgIdeal : Cert.RgIdeal.Facts) (hDm : Cert.Dm.Facts) (hDmIdeal : Cert.DmIdeal.Facts) (hRmIdeal : Cert.RmIdeal.Facts) (hOg : Cert.Og.Facts) (hOgIdeal : Cert.OgIdeal.Facts) (hQgIdeal : Cert.QgIdeal.Facts) (hOi : Cert.Oi.Facts) (hOiIdeal : Cert.OiIdeal.Facts) (hQiIdeal : Cert.QiIdeal.Facts) (hOd : Cert.Od.Facts) (hOdIdeal : Cert.OdIdeal.Facts) (hQdIdeal : Cert.QdIdeal.Facts) (hOo : Cert.Oo.Facts) (hOoIdeal : Cert.OoIdeal.Facts) (hQoIdeal : Cert.QoIdeal.Facts) (hOc : Cert.Oc.Facts) (hOcIdeal : Cert.OcIdeal.Facts) (hQcIdeal : Cert.QcIdeal.Facts) (hOh : Cert.Oh.Facts) (hOhIdeal : Cert.OhIdeal.Facts) (hQhIdeal : Cert.QhIdeal.Facts) (hOk : Cert.Ok.Facts) (hOkIdeal : Cert.OkIdeal.Facts) (hQkIdeal : Cert.QkIdeal.Facts) (hOa : Cert.Oa.Facts) (hOaIdeal : Cert.OaIdeal.Facts) (hQaIdeal : Cert.QaIdeal.Facts) (hOs : Cert.Os.Facts) (hOsIdeal : Cert.OsIdeal.Facts) (hQsIdeal : Cert.QsIdeal.Facts) (hOp : Cert.Op.Facts) (hOpIdeal : Cert.OpIdeal.Facts) (hQpIdeal : Cert.QpIdeal.Facts) (hSl : Cert.Sl.Facts) (hSlIdeal : Cert.SlIdeal.Facts) (hTlIdeal : Cert.TlIdeal.Facts) (hSk : Cert.Sk.Facts) (hSkIdeal : Cert.SkIdeal.Facts) (hTkIdeal : Cert.TkIdeal.Facts) (hPre_finite_a : Cert.Pre_finite_a.Facts) (hPre_finite_b : Cert.Pre_finite_b.Facts) (hPre_finite_f : Cert.Pre_finite_f.Facts) (hPre_finite_g : Cert.Pre_finite_g.Facts),
    quiescent_Dw (hDw := hDw)
    ∧ quiescent_DwIdeal (hDwIdeal := hDwIdeal)
    ∧ quiescent_RwIdeal (hRwIdeal := hRwIdeal)
    ∧ quiescent_Da (hDa := hDa)
    ∧ quiescent_DaIdeal (hDaIdeal := hDaIdeal)
    ∧ quiescent_DaIdeal_pre_finite_a (hDaIdeal := hDaIdeal) (hPre_finite_a := hPre_finite_a)
    ∧ quiescent_RaIdeal (hRaIdeal := hRaIdeal)
    ∧ quiescent_RaIdeal_pre_finite_a (hRaIdeal := hRaIdeal) (hPre_finite_a := hPre_finite_a)
    ∧ quiescent_Db (hDb := hDb)
    ∧ quiescent_DbIdeal (hDbIdeal := hDbIdeal)
    ∧ quiescent_DbIdeal_pre_finite_b (hDbIdeal := hDbIdeal) (hPre_finite_b := hPre_finite_b)
    ∧ quiescent_RbIdeal (hRbIdeal := hRbIdeal)
    ∧ quiescent_RbIdeal_pre_finite_b (hRbIdeal := hRbIdeal) (hPre_finite_b := hPre_finite_b)
    ∧ quiescent_Df (hDf := hDf)
    ∧ quiescent_DfIdeal (hDfIdeal := hDfIdeal)
    ∧ quiescent_DfIdeal_pre_finite_f (hDfIdeal := hDfIdeal) (hPre_finite_f := hPre_finite_f)
    ∧ quiescent_RfIdeal (hRfIdeal := hRfIdeal)
    ∧ quiescent_RfIdeal_pre_finite_f (hRfIdeal := hRfIdeal) (hPre_finite_f := hPre_finite_f)
    ∧ quiescent_Dg (hDg := hDg)
    ∧ quiescent_DgIdeal (hDgIdeal := hDgIdeal)
    ∧ quiescent_DgIdeal_pre_finite_g (hDgIdeal := hDgIdeal) (hPre_finite_g := hPre_finite_g)
    ∧ quiescent_RgIdeal (hRgIdeal := hRgIdeal)
    ∧ quiescent_RgIdeal_pre_finite_g (hRgIdeal := hRgIdeal) (hPre_finite_g := hPre_finite_g)
    ∧ quiescent_Dm (hDm := hDm)
    ∧ quiescent_DmIdeal (hDmIdeal := hDmIdeal)
    ∧ quiescent_RmIdeal (hRmIdeal := hRmIdeal)
    ∧ quiescent_Og (hOg := hOg)
    ∧ quiescent_OgIdeal (hOgIdeal := hOgIdeal)
    ∧ quiescent_QgIdeal (hQgIdeal := hQgIdeal)
    ∧ quiescent_Oi (hOi := hOi)
    ∧ quiescent_OiIdeal (hOiIdeal := hOiIdeal)
    ∧ quiescent_QiIdeal (hQiIdeal := hQiIdeal)
    ∧ quiescent_Od (hOd := hOd)
    ∧ quiescent_OdIdeal (hOdIdeal := hOdIdeal)
    ∧ quiescent_QdIdeal (hQdIdeal := hQdIdeal)
    ∧ quiescent_Oo (hOo := hOo)
    ∧ quiescent_OoIdeal (hOoIdeal := hOoIdeal)
    ∧ quiescent_QoIdeal (hQoIdeal := hQoIdeal)
    ∧ quiescent_Oc (hOc := hOc)
    ∧ quiescent_OcIdeal (hOcIdeal := hOcIdeal)
    ∧ quiescent_QcIdeal (hQcIdeal := hQcIdeal)
    ∧ quiescent_Oh (hOh := hOh)
    ∧ quiescent_OhIdeal (hOhIdeal := hOhIdeal)
    ∧ quiescent_QhIdeal (hQhIdeal := hQhIdeal)
    ∧ quiescent_Ok (hOk := hOk)
    ∧ quiescent_OkIdeal (hOkIdeal := hOkIdeal)
    ∧ quiescent_QkIdeal (hQkIdeal := hQkIdeal)
    ∧ quiescent_Oa (hOa := hOa)
    ∧ quiescent_OaIdeal (hOaIdeal := hOaIdeal)
    ∧ quiescent_QaIdeal (hQaIdeal := hQaIdeal)
    ∧ quiescent_Os (hOs := hOs)
    ∧ quiescent_OsIdeal (hOsIdeal := hOsIdeal)
    ∧ quiescent_QsIdeal (hQsIdeal := hQsIdeal)
    ∧ quiescent_Op (hOp := hOp)
    ∧ quiescent_OpIdeal (hOpIdeal := hOpIdeal)
    ∧ quiescent_QpIdeal (hQpIdeal := hQpIdeal)
    ∧ quiescent_Sl (hSl := hSl)
    ∧ quiescent_SlIdeal (hSlIdeal := hSlIdeal)
    ∧ quiescent_TlIdeal (hTlIdeal := hTlIdeal)
    ∧ quiescent_Sk (hSk := hSk)
    ∧ quiescent_SkIdeal (hSkIdeal := hSkIdeal)
    ∧ quiescent_TkIdeal (hTkIdeal := hTkIdeal)
    ∧ preserves_Dw_DwIdeal
    ∧ algebraic_DwIdeal_RwIdeal (hDwIdeal := hDwIdeal) (hRwIdeal := hRwIdeal)
    ∧ preserves_Da_DaIdeal
    ∧ algebraic_DaIdeal_RaIdeal_pre_finite_a (hDaIdeal := hDaIdeal) (hRaIdeal := hRaIdeal) (hPre_finite_a := hPre_finite_a)
    ∧ preserves_Db_DbIdeal
    ∧ algebraic_DbIdeal_RbIdeal_pre_finite_b (hDbIdeal := hDbIdeal) (hRbIdeal := hRbIdeal) (hPre_finite_b := hPre_finite_b)
    ∧ preserves_Df_DfIdeal
    ∧ algebraic_DfIdeal_RfIdeal_pre_finite_f (hDfIdeal := hDfIdeal) (hRfIdeal := hRfIdeal) (hPre_finite_f := hPre_finite_f)
    ∧ preserves_Dg_DgIdeal
    ∧ algebraic_DgIdeal_RgIdeal_pre_finite_g (hDgIdeal := hDgIdeal) (hRgIdeal := hRgIdeal) (hPre_finite_g := hPre_finite_g)
    ∧ preserves_Dm_DmIdeal
    ∧ algebraic_DmIdeal_RmIdeal (hDmIdeal := hDmIdeal) (hRmIdeal := hRmIdeal)
    ∧ preserves_Og_OgIdeal
    ∧ algebraic_OgIdeal_QgIdeal (hOgIdeal := hOgIdeal) (hQgIdeal := hQgIdeal)
    ∧ preserves_Oi_OiIdeal
    ∧ algebraic_OiIdeal_QiIdeal (hOiIdeal := hOiIdeal) (hQiIdeal := hQiIdeal)
    ∧ preserves_Od_OdIdeal
    ∧ algebraic_OdIdeal_QdIdeal (hOdIdeal := hOdIdeal) (hQdIdeal := hQdIdeal)
    ∧ preserves_Oo_OoIdeal
    ∧ algebraic_OoIdeal_QoIdeal (hOoIdeal := hOoIdeal) (hQoIdeal := hQoIdeal)
    ∧ preserves_Oc_OcIdeal
    ∧ algebraic_OcIdeal_QcIdeal (hOcIdeal := hOcIdeal) (hQcIdeal := hQcIdeal)
    ∧ preserves_Oh_OhIdeal
    ∧ algebraic_OhIdeal_QhIdeal (hOhIdeal := hOhIdeal) (hQhIdeal := hQhIdeal)
    ∧ preserves_Ok_OkIdeal
    ∧ algebraic_OkIdeal_QkIdeal (hOkIdeal := hOkIdeal) (hQkIdeal := hQkIdeal)
    ∧ preserves_Oa_OaIdeal
    ∧ algebraic_OaIdeal_QaIdeal (hOaIdeal := hOaIdeal) (hQaIdeal := hQaIdeal)
    ∧ preserves_Os_OsIdeal
    ∧ algebraic_OsIdeal_QsIdeal (hOsIdeal := hOsIdeal) (hQsIdeal := hQsIdeal)
    ∧ preserves_Op_OpIdeal
    ∧ algebraic_OpIdeal_QpIdeal (hOpIdeal := hOpIdeal) (hQpIdeal := hQpIdeal)
    ∧ preserves_Sl_SlIdeal
    ∧ algebraic_SlIdeal_TlIdeal (hSlIdeal := hSlIdeal) (hTlIdeal := hTlIdeal)
    ∧ preserves_Sk_SkIdeal
    ∧ algebraic_SkIdeal_TkIdeal (hSkIdeal := hSkIdeal) (hTkIdeal := hTkIdeal)
-- ==== Pre_finite_a.lean ====
abbrev S8192x1024 : Shape := ⟨2, ![8192, 1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)
  bcast_S_S1x1024 : S_.BroadcastsInDim S1x1024 (![] : Fin 0 → Fin S1x1024.rank)

variable [Facts]

def fn {F : FTy → Type} [FloatOps F] (main_arg0 : FVec F S8192x1024 .f32) (main_arg1 : FVec F S1024x2816 .f32) (main_arg2 : FVec F S1024x2816 .f32) (main_arg3 : FVec F S2816x1024 .f32) (main_arg4 : FVec F S1x1024 .f32) (main_arg5 : FVec F S8192x1024 .f32) : IVec S8192x1024 1 × IVec S1024x2816 1 × IVec S2816x1024 1 × IVec S1x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024x2816 .f32 := Host.absf main_arg2
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S2816x1024 .f32 := Host.absf main_arg3
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S1x1024 .f32 := Host.absf main_arg4
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S8192x1024 .f32 := Host.absf main_arg5
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_finite_b.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S8192x2816 : S_.BroadcastsInDim S8192x2816 (![] : Fin 0 → Fin S8192x2816.rank)

variable [Facts]

def fn_part1 {F : FTy → Type} [FloatOps F] (main_arg9 : FVec F S8192x2816 .f32) (main_v2 : IVec S8192x1024 1) (main_v5 : IVec S1x1024 1) (main_v8 : IVec S1x1024 1) (main_v11 : IVec S1024x2816 1) (main_v14 : IVec S1024x2816 1) (main_v17 : IVec S8192x2816 1) : IVec S8192x1024 1 × IVec S1x1024 1 × IVec S1x1024 1 × IVec S1024x2816 1 × IVec S1024x2816 1 × IVec S8192x2816 1 × IVec S8192x2816 1 :=
  let main_v18 : FVec F S8192x2816 .f32 := Host.absf main_arg9
  let main_cst_5 : FVec F S_ .f32 := constant S_ .f32 0x7F800000#32
  let main_v19 : FVec F S8192x2816 .f32 := broadcastInDim S8192x2816 ![] bcast_S_S8192x2816 main_cst_5
  let main_v20 : IVec S8192x2816 1 := cmpf .olt main_v18 main_v19
  (main_v2, main_v5, main_v8, main_v11, main_v14, main_v17, main_v20)

def fn {F : FTy → Type} [FloatOps F] (main_arg0 : FVec F S8192x1024 .f32) (main_arg1 : FVec F S1x1024 .f32) (main_arg2 : FVec F S1x1024 .f32) (main_arg3 : FVec F S1x1024 .f32) (main_arg4 : FVec F S1024x2816 .f32) (main_arg5 : FVec F S1024x2816 .f32) (main_arg6 : FVec F S2816x1024 .f32) (main_arg7 : FVec F S8192x1024 .f32) (main_arg8 : FVec F S8192x2816 .f32) (main_arg9 : FVec F S8192x2816 .f32) : IVec S8192x1024 1 × IVec S1x1024 1 × IVec S1x1024 1 × IVec S1024x2816 1 × IVec S1024x2816 1 × IVec S8192x2816 1 × IVec S8192x2816 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg3
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x2816 .f32 := Host.absf main_arg4
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S1024x2816 .f32 := Host.absf main_arg5
  let main_cst_3 : FVec F S_ .f32 := constant S_ .f32 0x7F800000#32
  let main_v13 : FVec F S1024x2816 .f32 := broadcastInDim S1024x2816 ![] bcast_S_S1024x2816 main_cst_3
  let main_v14 : IVec S1024x2816 1 := cmpf .olt main_v12 main_v13
  let main_v15 : FVec F S8192x2816 .f32 := Host.absf main_arg8
  let main_cst_4 : FVec F S_ .f32 := constant S_ .f32 0x7F800000#32
  let main_v16 : FVec F S8192x2816 .f32 := broadcastInDim S8192x2816 ![] bcast_S_S8192x2816 main_cst_4
  let main_v17 : IVec S8192x2816 1 := cmpf .olt main_v15 main_v16
  fn_part1 (F := F) main_arg9 main_v2 main_v5 main_v8 main_v11 main_v14 main_v17
-- ==== Pre_finite_f.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn_part1 {F : FTy → Type} [FloatOps F] (main_arg6 : FVec F S1024x2816 .f32) (main_arg7 : FVec F S2816x1024 .f32) (main_arg8 : FVec F S8192x1024 .f32) (main_arg9 : FVec F S1x1024 .f32) (main_v2 : IVec S8192x1024 1) (main_v5 : IVec S1x1024 1) (main_v8 : IVec S1x1024 1) (main_v11 : IVec S1x1024 1) (main_v14 : IVec S1x1024 1) (main_v17 : IVec S1024x2816 1) : IVec S8192x1024 1 × IVec S1x1024 1 × IVec S1x1024 1 × IVec S1x1024 1 × IVec S1x1024 1 × IVec S1024x2816 1 × IVec S1024x2816 1 × IVec S2816x1024 1 × IVec S8192x1024 1 × IVec S1x1024 1 :=
  let main_v18 : FVec F S1024x2816 .f32 := Host.absf main_arg6
  let main_cst_5 : FVec F S_ .f32 := constant S_ .f32 0x7F800000#32
  let main_v19 : FVec F S1024x2816 .f32 := broadcastInDim S1024x2816 ![] bcast_S_S1024x2816 main_cst_5
  let main_v20 : IVec S1024x2816 1 := cmpf .olt main_v18 main_v19
  let main_v21 : FVec F S2816x1024 .f32 := Host.absf main_arg7
  let main_cst_6 : FVec F S_ .f32 := constant S_ .f32 0x7F800000#32
  let main_v22 : FVec F S2816x1024 .f32 := broadcastInDim S2816x1024 ![] bcast_S_S2816x1024 main_cst_6
  let main_v23 : IVec S2816x1024 1 := cmpf .olt main_v21 main_v22
  let main_v24 : FVec F S8192x1024 .f32 := Host.absf main_arg8
  let main_cst_7 : FVec F S_ .f32 := constant S_ .f32 0x7F800000#32
  let main_v25 : FVec F S8192x1024 .f32 := broadcastInDim S8192x1024 ![] bcast_S_S8192x1024 main_cst_7
  let main_v26 : IVec S8192x1024 1 := cmpf .olt main_v24 main_v25
  let main_v27 : FVec F S1x1024 .f32 := Host.absf main_arg9
  let main_cst_8 : FVec F S_ .f32 := constant S_ .f32 0x7F800000#32
  let main_v28 : FVec F S1x1024 .f32 := broadcastInDim S1x1024 ![] bcast_S_S1x1024 main_cst_8
  let main_v29 : IVec S1x1024 1 := cmpf .olt main_v27 main_v28
  (main_v2, main_v5, main_v8, main_v11, main_v14, main_v17, main_v20, main_v23, main_v26, main_v29)

def fn {F : FTy → Type} [FloatOps F] (main_arg0 : FVec F S8192x1024 .f32) (main_arg1 : FVec F S1x1024 .f32) (main_arg2 : FVec F S1x1024 .f32) (main_arg3 : FVec F S1x1024 .f32) (main_arg4 : FVec F S1x1024 .f32) (main_arg5 : FVec F S1024x2816 .f32) (main_arg6 : FVec F S1024x2816 .f32) (main_arg7 : FVec F S2816x1024 .f32) (main_arg8 : FVec F S8192x1024 .f32) (main_arg9 : FVec F S1x1024 .f32) : IVec S8192x1024 1 × IVec S1x1024 1 × IVec S1x1024 1 × IVec S1x1024 1 × IVec S1x1024 1 × IVec S1024x2816 1 × IVec S1024x2816 1 × IVec S2816x1024 1 × IVec S8192x1024 1 × IVec S1x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1024x2816 .f32 := Host.absf main_arg5
  let main_cst_4 : FVec F S_ .f32 := constant S_ .f32 0x7F800000#32
  let main_v16 : FVec F S1024x2816 .f32 := broadcastInDim S1024x2816 ![] bcast_S_S1024x2816 main_cst_4
  let main_v17 : IVec S1024x2816 1 := cmpf .olt main_v15 main_v16
  fn_part1 (F := F) main_arg6 main_arg7 main_arg8 main_arg9 main_v2 main_v5 main_v8 main_v11 main_v14 main_v17
-- ==== Pre_finite_g.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x2816 : S_.BroadcastsInDim S1024x2816 (![] : Fin 0 → Fin S1024x2816.rank)

variable [Facts]

def fn {F : FTy → Type} [FloatOps F] (main_arg0 : FVec F S8192x1024 .f32) (main_arg1 : FVec F S1x1024 .f32) (main_arg2 : FVec F S1x1024 .f32) (main_arg3 : FVec F S1x1024 .f32) (main_arg4 : FVec F S1x1024 .f32) (main_arg5 : FVec F S1024x2816 .f32) (main_arg6 : FVec F S1024x2816 .f32) (main_arg7 : FVec F S2816x1024 .f32) : IVec S8192x1024 1 × IVec S1x1024 1 × IVec S1x1024 1 × IVec S1x1024 1 × IVec S1024x2816 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg4
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1024x2816 .f32 := Host.absf main_arg6
  let main_cst_3 : FVec F S_ .f32 := constant S_ .f32 0x7F800000#32
  let main_v13 : FVec F S1024x2816 .f32 := broadcastInDim S1024x2816 ![] bcast_S_S1024x2816 main_cst_3
  let main_v14 : IVec S1024x2816 1 := cmpf .olt main_v12 main_v13
  (main_v2, main_v5, main_v8, main_v11, main_v14)
-- ==== Dw.lean ====
abbrev S8192x1024 : Shape := ⟨2, ![8192, 1024]⟩
abbrev S8192x2816 : Shape := ⟨2, ![8192, 2816]⟩
abbrev S_ : Shape := ⟨0, ![]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 24
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .bf16⟩
  | .hbm, ⟨17, _⟩ => ⟨S8192x2816, .bf16⟩
  | .hbm, ⟨18, _⟩ => ⟨S8192x2816, .bf16⟩
  | .hbm, ⟨19, _⟩ => ⟨S8192x1024, .bf16⟩
  | .hbm, ⟨20, _⟩ => ⟨S8192x1024, .bf16⟩
  | .hbm, ⟨21, _⟩ => ⟨S2816x1024, .bf16⟩
  | .hbm, ⟨22, _⟩ => ⟨S2816x1024, .bf16⟩
  | .hbm, ⟨23, _⟩ => ⟨S2816x1024, .bf16⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1408x1024, .bf16⟩
  | .local _ .vmem, ⟨11, _⟩ => ⟨S1408x1024, .bf16⟩
  | .local _ .vmem, ⟨12, _⟩ => ⟨S1408x1024, .bf16⟩
  | .local _ .vmem, ⟨13, _⟩ => ⟨S1408x1024, .bf16⟩
  | .local _ .vmem, ⟨14, _⟩ => ⟨S1408x1024, .bf16⟩
  | .local _ .vmem, ⟨15, _⟩ => ⟨S1408x1024, .bf16⟩
  | .local _ .vmem, ⟨16, _⟩ => ⟨S1408x1024, .f32⟩
  | .local _ .vmem, ⟨17, _⟩ => ⟨S1408x1024, .f32⟩
  | .local _ .vmem, ⟨18, _⟩ => ⟨S1408x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7_0 : Ref sig .tc := ⟨.hbm, 21, rfl⟩
abbrev main_v7_1 : Ref sig .tc := ⟨.hbm, 22, rfl⟩
abbrev main_v7_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v33 : BitVec 1 := Scalar.cmpi .eq arg1 c15_i32
  let v34 : BitVec 32 := Scalar.extui v33
  let c0_i32_26 : BitVec 32 := 0#32
  let v35 : BitVec 1 := Scalar.cmpi .ne v34 c0_i32_26
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== RwIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S1024x2816, .f32⟩
  | .hbm, ⟨17, _⟩ => ⟨S2816x1024, .f32⟩
  | .hbm, ⟨18, _⟩ => ⟨S2816x1024, .f32⟩
  | .hbm, ⟨19, _⟩ => ⟨S1024x2816, .f32⟩
  | .hbm, ⟨20, _⟩ => ⟨S2816x1024, .f32⟩
  | .hbm, ⟨21, _⟩ => ⟨S1024x2816, .f32⟩
  | .hbm, ⟨22, _⟩ => ⟨S2816x1024, .f32⟩
  | .hbm, ⟨23, _⟩ => ⟨S2816x1024, .bf16⟩
  | .hbm, ⟨24, _⟩ => ⟨S2816x1024, .f32⟩
  | .hbm, ⟨25, _⟩ => ⟨S2816x1024, .bf16⟩
  | .hbm, ⟨26, _⟩ => ⟨S2816x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩

abbrev nD : Nat := 1
abbrev τ : Topo := Topo.v7x

variable {F : FTy → Type} [FloatOps F]
-- ==== Da.lean ====
abbrev S8192x1024 : Shape := ⟨2, ![8192, 1024]⟩
abbrev S1024x2816 : Shape := ⟨2, ![1024, 2816]⟩
abbrev S2816x1024 : Shape := ⟨2, ![2816, 1024]⟩
abbrev S1x1024 : Shape := ⟨2, ![1, 1024]⟩
abbrev S8192x2816 : Shape := ⟨2, ![8192, 2816]⟩
abbrev S_ : Shape := ⟨0, ![]⟩
abbrev S4x704x1024 : Shape := ⟨3, ![4, 704, 1024]⟩
abbrev S4x2112x1024 : Shape := ⟨3, ![4, 2112, 1024]⟩
abbrev S8x1024 : Shape := ⟨2, ![8, 1024]⟩
abbrev S512x1024 : Shape := ⟨2, ![512, 1024]⟩
abbrev S512x2816 : Shape := ⟨2, ![512, 2816]⟩
abbrev S64x8x1024 : Shape := ⟨3, ![64, 8, 1024]⟩
abbrev S2x704x1024 : Shape := ⟨3, ![2, 704, 1024]⟩
abbrev S1408x1024 : Shape := ⟨2, ![1408, 1024]⟩
abbrev S512x1408 : Shape := ⟨2, ![512, 1408]⟩

abbrev nBuf : Space → Nat
  | .hbm => 44
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x1024, .f32⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S_, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x1024, .f32⟩
  | .hbm, ⟨31, _⟩ => ⟨S8192x2816, .bf16⟩
  | .hbm, ⟨32, _⟩ => ⟨S8192x2816, .bf16⟩
  | .hbm, ⟨33, _⟩ => ⟨S2816x1024, .f32⟩
  | .hbm, ⟨34, _⟩ => ⟨S4x704x1024, .f32⟩
  | .hbm, ⟨35, _⟩ => ⟨S2816x1024, .f32⟩
  | .hbm, ⟨36, _⟩ => ⟨S4x704x1024, .f32⟩
  | .hbm, ⟨37, _⟩ => ⟨S4x704x1024, .f32⟩
  | .hbm, ⟨38, _⟩ => ⟨S4x2112x1024, .f32⟩
  | .hbm, ⟨39, _⟩ => ⟨S4x2112x1024, .bf16⟩
  | .hbm, ⟨40, _⟩ => ⟨S8192x2816, .bf16⟩
  | .hbm, ⟨41, _⟩ => ⟨S8192x2816, .bf16⟩
  | .hbm, ⟨42, _⟩ => ⟨S8192x1024, .bf16⟩
  | .hbm, ⟨43, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S1x1024, .f32⟩
  | .local _ .vmem, ⟨9, _⟩ => ⟨S4x704x1024, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x1024, .bf16⟩
  | .local _ .vmem, ⟨15, _⟩ => ⟨S512x1024, .bf16⟩
  | .local _ .vmem, ⟨16, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v2_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v2_1 : Ref sig .tc := ⟨.hbm, 19, rfl⟩
abbrev main_v2_0 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18_0 : Ref sig .tc := ⟨.hbm, 40, rfl⟩
abbrev main_v18_1 : Ref sig .tc := ⟨.hbm, 41, rfl⟩
abbrev main_v18_2 : Ref sig .tc := ⟨.hbm, 42, rfl⟩
abbrev main_v18_3 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v47 : BitVec 1 := Scalar.cmpi .eq arg0 c0_i32
  let v48 : BitVec 32 := Scalar.extui v47
  let c0_i32_31 : BitVec 32 := 0#32
  let v49 : BitVec 1 := Scalar.cmpi .ne v48 c0_i32_31
  v49

def k0_cond2 (i : grid0.Coords) : BitVec 1 :=
  let arg0 : BitVec 32 := BitVec.ofNat 32 (i 0).val
  let c0_i32_32 : BitVec 32 := 0#32
  let v50 : BitVec 1 := Scalar.cmpi .sgt arg0 c0_i32_32
  let v51 : BitVec 32 := Scalar.extui v50
  let c0_i32_33 : BitVec 32 := 0#32
  let v52 : BitVec 1 := Scalar.cmpi .ne v51 c0_i32_33
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RaIdeal.lean ====
abbrev S8192x1024 : Shape := ⟨2, ![8192, 1024]⟩
abbrev S1024x2816 : Shape := ⟨2, ![1024, 2816]⟩
abbrev S2816x1024 : Shape := ⟨2, ![2816, 1024]⟩
abbrev S1x1024 : Shape := ⟨2, ![1, 1024]⟩
abbrev S8192x2816 : Shape := ⟨2, ![8192, 2816]⟩
abbrev S_ : Shape := ⟨0, ![]⟩
abbrev S1024x8x1024 : Shape := ⟨3, ![1024, 8, 1024]⟩
abbrev S8x1024 : Shape := ⟨2, ![8, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x1024, .f32⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .bf16⟩
  | .hbm, ⟨41, _⟩ => ⟨S8192x2816, .bf16⟩
  | .hbm, ⟨42, _⟩ => ⟨S8192x1024, .bf16⟩
  | .hbm, ⟨43, _⟩ => ⟨S1024x8x1024, .f32⟩
  | .hbm, ⟨44, _⟩ => ⟨S_, .f32⟩
  | .hbm, ⟨45, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v2_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v2_1 : Ref sig .tc := ⟨.hbm, 19, rfl⟩
abbrev main_v2_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_1 : Ref sig .tc := ⟨.hbm, 44, rfl⟩
abbrev main_v21 : Ref sig .tc := ⟨.hbm, 45, rfl⟩

abbrev nD : Nat := 1
abbrev τ : Topo := Topo.v7x

variable {F : FTy → Type} [FloatOps F]
-- ==== Db.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S8192x2816 : Shape := ⟨2, ![8192, 2816]⟩
abbrev S4x704x1024 : Shape := ⟨3, ![4, 704, 1024]⟩
abbrev S4x2112x1024 : Shape := ⟨3, ![4, 2112, 1024]⟩
abbrev S8x1024 : Shape := ⟨2, ![8, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S64x8x1024 : Shape := ⟨3, ![64, 8, 1024]⟩

abbrev nBuf : Space → Nat
  | .hbm => 24
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S8192x1024, .f32⟩
  | .hbm, ⟨8, _⟩ => ⟨S8192x2816, .f32⟩
  | .hbm, ⟨9, _⟩ => ⟨S8192x2816, .f32⟩
  | .hbm, ⟨10, _⟩ => ⟨S8192x2816, .bf16⟩
  | .hbm, ⟨11, _⟩ => ⟨S8192x2816, .bf16⟩
  | .hbm, ⟨12, _⟩ => ⟨S2816x1024, .f32⟩
  | .hbm, ⟨13, _⟩ => ⟨S4x704x1024, .f32⟩
  | .hbm, ⟨14, _⟩ => ⟨S2816x1024, .f32⟩
  | .hbm, ⟨15, _⟩ => ⟨S4x704x1024, .f32⟩
  | .hbm, ⟨16, _⟩ => ⟨S4x704x1024, .f32⟩
  | .hbm, ⟨17, _⟩ => ⟨S4x2112x1024, .f32⟩
  | .hbm, ⟨18, _⟩ => ⟨S4x2112x1024, .bf16⟩
  | .hbm, ⟨19, _⟩ => ⟨S8192x1024, .f32⟩
  | .hbm, ⟨20, _⟩ => ⟨S8192x1024, .bf16⟩
  | .hbm, ⟨21, _⟩ => ⟨S8x1024, .f32⟩
  | .hbm, ⟨22, _⟩ => ⟨S8x1024, .f32⟩
  | .hbm, ⟨23, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S4x704x1024, .bf16⟩
  | .local _ .vmem, ⟨12, _⟩ => ⟨S4x704x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S8x1024, .f32⟩
  | .local _ .vmem, ⟨18, _⟩ => ⟨S8x1024, .f32⟩
  | .local _ .vmem, ⟨19, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev main_v9_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v64 : BitVec 1 := Scalar.cmpi .eq arg0 c0_i32
  let v65 : BitVec 32 := Scalar.extui v64
  let c0_i32_34 : BitVec 32 := 0#32
  let v66 : BitVec 1 := Scalar.cmpi .ne v65 c0_i32_34
  v66

def k0_cond2 (i : grid0.Coords) : BitVec 1 :=
  let arg0 : BitVec 32 := BitVec.ofNat 32 (i 0).val
  let c0_i32_35 : BitVec 32 := 0#32
  let v67 : BitVec 1 := Scalar.cmpi .sgt arg0 c0_i32_35
  let v68 : BitVec 32 := Scalar.extui v67
  let c0_i32_36 : BitVec 32 := 0#32
  let v69 : BitVec 1 := Scalar.cmpi .ne v68 c0_i32_36
  v69

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x704x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== RbIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1024x8x1024 : Shape := ⟨3, ![1024, 8, 1024]⟩
abbrev S8x1024 : Shape := ⟨2, ![8, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S8192x1024, .f32⟩
  | .hbm, ⟨8, _⟩ => ⟨S8192x2816, .f32⟩
  | .hbm, ⟨9, _⟩ => ⟨S8192x2816, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .bf16⟩
  | .hbm, ⟨67, _⟩ => ⟨S1024x8x1024, .f32⟩
  | .hbm, ⟨68, _⟩ => ⟨S_, .f32⟩
  | .hbm, ⟨69, _⟩ => ⟨S8x1024, .f32⟩
  | .hbm, ⟨70, _⟩ => ⟨S1024x8x1024, .f32⟩
  | .hbm, ⟨71, _⟩ => ⟨S_, .f32⟩
  | .hbm, ⟨72, _⟩ => ⟨S8x1024, .f32⟩
  | .hbm, ⟨73, _⟩ => ⟨S1024x8x1024, .f32⟩
  | .hbm, ⟨74, _⟩ => ⟨S_, .f32⟩
  | .hbm, ⟨75, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩

abbrev nD : Nat := 1
abbrev τ : Topo := Topo.v7x

variable {F : FTy → Type} [FloatOps F]
-- ==== Df.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S4x704x1024 : Shape := ⟨3, ![4, 704, 1024]⟩
abbrev S4x2112x1024 : Shape := ⟨3, ![4, 2112, 1024]⟩
abbrev S8x128 : Shape := ⟨2, ![8, 128]⟩
abbrev S8x1024 : Shape := ⟨2, ![8, 1024]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S2x704x1024 : Shape := ⟨3, ![2, 704, 1024]⟩
abbrev S1408x1024 : Shape := ⟨2, ![1408, 1024]⟩
abbrev S512x1408 : Shape := ⟨2, ![512, 1408]⟩
abbrev S512x128 : Shape := ⟨2, ![512, 128]⟩
abbrev S64x8x128 : Shape := ⟨3, ![64, 8, 128]⟩
abbrev S64x8x1024 : Shape := ⟨3, ![64, 8, 1024]⟩

abbrev nBuf : Space → Nat
  | .hbm => 24
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S8192x1024, .f32⟩
  | .hbm, ⟨9, _⟩ => ⟨S1x1024, .f32⟩
  | .hbm, ⟨10, _⟩ => ⟨S2816x1024, .f32⟩
  | .hbm, ⟨11, _⟩ => ⟨S4x704x1024, .f32⟩
  | .hbm, ⟨12, _⟩ => ⟨S2816x1024, .f32⟩
  | .hbm, ⟨13, _⟩ => ⟨S4x704x1024, .f32⟩
  | .hbm, ⟨14, _⟩ => ⟨S4x704x1024, .f32⟩
  | .hbm, ⟨15, _⟩ => ⟨S4x2112x1024, .f32⟩
  | .hbm, ⟨16, _⟩ => ⟨S4x2112x1024, .bf16⟩
  | .hbm, ⟨17, _⟩ => ⟨S8x128, .f32⟩
  | .hbm, ⟨18, _⟩ => ⟨S8192x1024, .f32⟩
  | .hbm, ⟨19, _⟩ => ⟨S8x1024, .f32⟩
  | .hbm, ⟨20, _⟩ => ⟨S8192x1024, .f32⟩
  | .hbm, ⟨21, _⟩ => ⟨S8192x2816, .bf16⟩
  | .hbm, ⟨22, _⟩ => ⟨S8192x2816, .bf16⟩
  | .hbm, ⟨23, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S4x704x1024, .bf16⟩
  | .local _ .vmem, ⟨7, _⟩ => ⟨S4x704x1024, .bf16⟩
  | .local _ .vmem, ⟨8, _⟩ => ⟨S4x704x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S8x128, .f32⟩
  | .local _ .vmem, ⟨13, _⟩ => ⟨S512x1024, .f32⟩
  | .local _ .vmem, ⟨14, _⟩ => ⟨S512x1024, .f32⟩
  | .local _ .vmem, ⟨15, _⟩ => ⟨S8x1024, .f32⟩
  | .local _ .vmem, ⟨16, _⟩ => ⟨S512x1024, .f32⟩
  | .local _ .vmem, ⟨17, _⟩ => ⟨S512x1024, .f32⟩
  | .local _ .vmem, ⟨18, _⟩ => ⟨S512x2816, .bf16⟩
  | .local _ .vmem, ⟨19, _⟩ => ⟨S512x2816, .bf16⟩
  | .local _ .vmem, ⟨20, _⟩ => ⟨S512x2816, .bf16⟩
  | .local _ .vmem, ⟨21, _⟩ => ⟨S512x2816, .bf16⟩
  | .local _ .vmem, ⟨22, _⟩ => ⟨S512x2816, .bf16⟩
  | .local _ .vmem, ⟨23, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v7_4 : Ref sig .tc := ⟨.hbm, 21, rfl⟩
abbrev main_v7_5 : Ref sig .tc := ⟨.hbm, 22, rfl⟩
abbrev main_v7_6 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v154 : BitVec 1 := Scalar.cmpi .eq arg0 c0_i32
  let v155 : BitVec 32 := Scalar.extui v154
  let c0_i32_75 : BitVec 32 := 0#32
  let v156 : BitVec 1 := Scalar.cmpi .ne v155 c0_i32_75
  v156

def k0_cond2 (i : grid0.Coords) : BitVec 1 :=
  let arg0 : BitVec 32 := BitVec.ofNat 32 (i 0).val
  let c0_i32_76 : BitVec 32 := 0#32
  let v157 : BitVec 1 := Scalar.cmpi .sgt arg0 c0_i32_76
  let v158 : BitVec 32 := Scalar.extui v157
  let c0_i32_77 : BitVec 32 := 0#32
  let v159 : BitVec 1 := Scalar.cmpi .ne v158 c0_i32_77
  v159

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_7 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2816 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x2816 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== RfIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S1024x8x8x128 : Shape := ⟨4, ![1024, 8, 8, 128]⟩
abbrev S1024x8x128 : Shape := ⟨3, ![1024, 8, 128]⟩
abbrev S8x128 : Shape := ⟨2, ![8, 128]⟩
abbrev S1024x8x1024 : Shape := ⟨3, ![1024, 8, 1024]⟩
abbrev S8x1024 : Shape := ⟨2, ![8, 1024]⟩

abbrev nBuf : Space → Nat
  | .hbm => 158
  | .vmem => 0
  | .smem => 0
  | _ => 0

abbrev hbmTy0_0 (i : Nat) : BufTy := match i % 128 with
  | 0 => ⟨S8192x1024, .f32⟩
  | 1 => ⟨S1x1024, .f32⟩
  | 2 => ⟨S1x1024, .f32⟩
  | 3 => ⟨S1x1024, .f32⟩
  | 4 => ⟨S1x1024, .f32⟩
  | 5 => ⟨S1024x2816, .f32⟩
  | 6 => ⟨S1024x2816, .f32⟩
  | 7 => ⟨S2816x1024, .f32⟩
  | 8 => ⟨S8192x1024, .f32⟩
  | 9 => ⟨S1x1024, .f32⟩
  | 10 => ⟨S8192x1024, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x1, .f32⟩
  | 21 => ⟨S8192x1024, .f32⟩
  | 22 => ⟨S8192x1024, .f32⟩
  | 23 => ⟨S8192x1024, .f32⟩
  | 24 => ⟨S8192x1024, .f32⟩
  | 25 => ⟨S_, .f32⟩
  | 26 => ⟨S1x1024, .f32⟩
  | 27 => ⟨S1x1024, .f32⟩
  | 28 => ⟨S8192x1024, .f32⟩
  | 29 => ⟨S8192x1024, .f32⟩
  | 30 => ⟨S8192x1024, .f32⟩
  | 31 => ⟨S8192x1024, .f32⟩
  | 32 => ⟨S8192x2816, .f32⟩
  | 33 => ⟨S8192x2816, .f32⟩
  | 34 => ⟨S8192x2816, .f32⟩
  | 35 => ⟨S8192x2816, .f32⟩
  | 36 => ⟨S_, .f32⟩
  | 37 => ⟨S8192x2816, .f32⟩
  | 38 => ⟨S8192x2816, .f32⟩
  | 39 => ⟨S_, .f32⟩
  | 40 => ⟨S8192x2816, .f32⟩
  | 41 => ⟨S8192x2816, .f32⟩
  | 42 => ⟨S_, .f32⟩
  | 43 => ⟨S8192x2816, .f32⟩
  | 44 => ⟨S8192x2816, .f32⟩
  | 45 => ⟨S8192x2816, .f32⟩
  | 46 => ⟨S8192x2816, .f32⟩
  | 47 => ⟨S8192x2816, .f32⟩
  | 48 => ⟨S_, .f32⟩
  | 49 => ⟨S8192x2816, .f32⟩
  | 50 => ⟨S8192x2816, .f32⟩
  | 51 => ⟨S8192x2816, .f32⟩
  | 52 => ⟨S8192x2816, .f32⟩
  | 53 => ⟨S8192x2816, .f32⟩
  | 54 => ⟨S8192x2816, .f32⟩
  | 55 => ⟨S8192x2816, .f32⟩
  | 56 => ⟨S8192x1024, .f32⟩
  | 57 => ⟨S_, .f32⟩
  | 58 => ⟨S1x1024, .f32⟩
  | 59 => ⟨S1x1024, .f32⟩
  | 60 => ⟨S8192x1024, .f32⟩
  | 61 => ⟨S8192x1024, .f32⟩
  | 62 => ⟨S8192x1024, .f32⟩
  | 63 => ⟨S8192x1024, .f32⟩
  | 64 => ⟨S_, .f32⟩
  | 65 => ⟨S8192, .f32⟩
  | 66 => ⟨S8192x1, .f32⟩
  | 67 => ⟨S_, .f32⟩
  | 68 => ⟨S8192x1, .f32⟩
  | 69 => ⟨S8192x1, .f32⟩
  | 70 => ⟨S_, .f32⟩
  | 71 => ⟨S8192x1, .f32⟩
  | 72 => ⟨S8192x1, .f32⟩
  | 73 => ⟨S8192x1, .f32⟩
  | 74 => ⟨S8192x1024, .f32⟩
  | 75 => ⟨S8192x1024, .f32⟩
  | 76 => ⟨S8192x1024, .f32⟩
  | 77 => ⟨S8192x1024, .f32⟩
  | 78 => ⟨S8192x1024, .f32⟩
  | 79 => ⟨S8192x1024, .f32⟩
  | 80 => ⟨S_, .f32⟩
  | 81 => ⟨S8192x1024, .f32⟩
  | 82 => ⟨S8192x1024, .f32⟩
  | 83 => ⟨S_, .f32⟩
  | 84 => ⟨S8192x1024, .f32⟩
  | 85 => ⟨S8192x1024, .f32⟩
  | 86 => ⟨S8192x1024, .f32⟩
  | 87 => ⟨S8192x1024, .f32⟩
  | 88 => ⟨S_, .f32⟩
  | 89 => ⟨S8192, .f32⟩
  | 90 => ⟨S8192x1, .f32⟩
  | 91 => ⟨S_, .f32⟩
  | 92 => ⟨S8192x1, .f32⟩
  | 93 => ⟨S8192x1, .f32⟩
  | 94 => ⟨S_, .f32⟩
  | 95 => ⟨S8192x1, .f32⟩
  | 96 => ⟨S8192x1, .f32⟩
  | 97 => ⟨S8192x1, .f32⟩
  | 98 => ⟨S8192x1, .f32⟩
  | 99 => ⟨S_, .f32⟩
  | 100 => ⟨S8192x1, .f32⟩
  | 101 => ⟨S8192x1, .f32⟩
  | 102 => ⟨S8192x1024, .f32⟩
  | 103 => ⟨S8192x1024, .f32⟩
  | 104 => ⟨S8192x1024, .f32⟩
  | 105 => ⟨S8192x1024, .f32⟩
  | 106 => ⟨S8192x1024, .f32⟩
  | 107 => ⟨S_, .f32⟩
  | 108 => ⟨S8192x1024, .f32⟩
  | 109 => ⟨S8192x1024, .f32⟩
  | 110 => ⟨S_, .f32⟩
  | 111 => ⟨S8192, .f32⟩
  | 112 => ⟨S_, .f32⟩
  | 113 => ⟨S8192, .f32⟩
  | 114 => ⟨S8192, .f32⟩
  | 115 => ⟨S_, .f32⟩
  | 116 => ⟨S8192, .f32⟩
  | 117 => ⟨S8192, .f32⟩
  | 118 => ⟨S_, .f32⟩
  | 119 => ⟨S8192, .f32⟩
  | 120 => ⟨S_, .f32⟩
  | 121 => ⟨S8192, .f32⟩
  | 122 => ⟨S8192, .f32⟩
  | 123 => ⟨S_, .f32⟩
  | 124 => ⟨S8192, .f32⟩
  | 125 => ⟨S8192, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S_, .f32⟩
  | 4 => ⟨S8192, .f32⟩
  | 5 => ⟨S8192x1, .f32⟩
  | 6 => ⟨S8192x1024, .f32⟩
  | 7 => ⟨S8192x1024, .f32⟩
  | 8 => ⟨S8192x1, .f32⟩
  | 9 => ⟨S_, .f32⟩
  | 10 => ⟨S8192x1, .f32⟩
  | 11 => ⟨S8192x1, .f32⟩
  | 12 => ⟨S_, .f32⟩
  | 13 => ⟨S8192, .f32⟩
  | 14 => ⟨S8192x1024, .f32⟩
  | 15 => ⟨S8192x1024, .f32⟩
  | 16 => ⟨S8192x1024, .f32⟩
  | 17 => ⟨S8192x1024, .f32⟩
  | 18 => ⟨S8192x1024, .f32⟩
  | 19 => ⟨S1024x8x8x128, .f32⟩
  | 20 => ⟨S_, .f32⟩
  | 21 => ⟨S1024x8x128, .f32⟩
  | 22 => ⟨S_, .f32⟩
  | 23 => ⟨S8x128, .f32⟩
  | 24 => ⟨S1024x8x1024, .f32⟩
  | 25 => ⟨S_, .f32⟩
  | 26 => ⟨S8x1024, .f32⟩
  | 27 => ⟨S8192x2816, .bf16⟩
  | 28 => ⟨S8192x2816, .bf16⟩
  | 29 => ⟨S8192x2816, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v20_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v20_1 : Ref sig .tc := ⟨.hbm, 45, rfl⟩
abbrev main_v20_0 : Ref sig .tc := ⟨.hbm, 46, rfl⟩
abbrev main_v21 : Ref sig .tc := ⟨.hbm, 47, rfl⟩
abbrev main_cst_3 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v25 : Ref sig .tc := ⟨.hbm, 55, rfl⟩
abbrev main_v26 : Ref sig .tc := ⟨.hbm, 56, rfl⟩
abbrev main_cst_4 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_5 : Ref sig .tc := ⟨.hbm, 64, rfl⟩
abbrev main_v33 : Ref sig .tc := ⟨.hbm, 65, rfl⟩
abbrev main_v34 : Ref sig .tc := ⟨.hbm, 66, rfl⟩
abbrev main_cst_6 : Ref sig .tc := ⟨.hbm, 67, rfl⟩
abbrev main_v35 : Ref sig .tc := ⟨.hbm, 68, rfl⟩
abbrev main_v36 : Ref sig .tc := ⟨.hbm, 69, rfl⟩
abbrev main_cst_7 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_8 : Ref sig .tc := ⟨.hbm, 80, rfl⟩
abbrev main_v46 : Ref sig .tc := ⟨.hbm, 81, rfl⟩
abbrev main_v47 : Ref sig .tc := ⟨.hbm, 82, rfl⟩
abbrev main_cst_9 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_10 : Ref sig .tc := ⟨.hbm, 88, rfl⟩
abbrev main_v52 : Ref sig .tc := ⟨.hbm, 89, rfl⟩
abbrev main_v53 : Ref sig .tc := ⟨.hbm, 90, rfl⟩
abbrev main_cst_11 : Ref sig .tc := ⟨.hbm, 91, rfl⟩
abbrev main_v54 : Ref sig .tc := ⟨.hbm, 92, rfl⟩
abbrev main_v55 : Ref sig .tc := ⟨.hbm, 93, rfl⟩
abbrev main_cst_12 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_13 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_cst_14 : Ref sig .tc := ⟨.hbm, 107, rfl⟩
abbrev main_v67 : Ref sig .tc := ⟨.hbm, 108, rfl⟩
abbrev main_v68 : Ref sig .tc := ⟨.hbm, 109, rfl⟩
abbrev main_cst_15 : Ref sig .tc := ⟨.hbm, 110, rfl⟩
abbrev main_v69 : Ref sig .tc := ⟨.hbm, 111, rfl⟩
abbrev main_cst_16 : Ref sig .tc := ⟨.hbm, 112, rfl⟩
abbrev main_v70 : Ref sig .tc := ⟨.hbm, 113, rfl⟩
abbrev main_v71 : Ref sig .tc := ⟨.hbm, 114, rfl⟩
abbrev main_cst_17 : Ref sig .tc := ⟨.hbm, 115, rfl⟩
abbrev main_v72 : Ref sig .tc := ⟨.hbm, 116, rfl⟩
abbrev main_v73 : Ref sig .tc := ⟨.hbm, 117, rfl⟩
abbrev main_cst_18 : Ref sig .tc := ⟨.hbm, 118, rfl⟩
abbrev main_v74 : Ref sig .tc := ⟨.hbm, 119, rfl⟩
abbrev main_cst_19 : Ref sig .tc := ⟨.hbm, 120, rfl⟩
abbrev main_v75 : Ref sig .tc := ⟨.hbm, 121, rfl⟩
abbrev main_v76 : Ref sig .tc := ⟨.hbm, 122, rfl⟩
abbrev main_cst_20 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_cst_21 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_cst_22 : Ref sig .tc := ⟨.hbm, 137, rfl⟩
abbrev main_v89 : Ref sig .tc := ⟨.hbm, 138, rfl⟩
abbrev main_v90 : Ref sig .tc := ⟨.hbm, 139, rfl⟩
abbrev main_cst_23 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_cst_24 : Ref sig .tc := ⟨.hbm, 148, rfl⟩
abbrev main_v98 : Ref sig .tc := ⟨.hbm, 149, rfl⟩
abbrev main_cst_25 : Ref sig .tc := ⟨.hbm, 150, rfl⟩
abbrev main_v99 : Ref sig .tc := ⟨.hbm, 151, rfl⟩
abbrev main_v100 : Ref sig .tc := ⟨.hbm, 152, rfl⟩
abbrev main_cst_26 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩

abbrev nD : Nat := 1
abbrev τ : Topo := Topo.v7x

variable {F : FTy → Type} [FloatOps F]
-- ==== Dg.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S4x704x1024 : Shape := ⟨3, ![4, 704, 1024]⟩
abbrev S4x2112x1024 : Shape := ⟨3, ![4, 2112, 1024]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S2x704x1024 : Shape := ⟨3, ![2, 704, 1024]⟩
abbrev S1408x1024 : Shape := ⟨2, ![1408, 1024]⟩
abbrev S512x1408 : Shape := ⟨2, ![512, 1408]⟩

abbrev nBuf : Space → Nat
  | .hbm => 20
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S2816x1024, .f32⟩
  | .hbm, ⟨9, _⟩ => ⟨S4x704x1024, .f32⟩
  | .hbm, ⟨10, _⟩ => ⟨S2816x1024, .f32⟩
  | .hbm, ⟨11, _⟩ => ⟨S4x704x1024, .f32⟩
  | .hbm, ⟨12, _⟩ => ⟨S4x704x1024, .f32⟩
  | .hbm, ⟨13, _⟩ => ⟨S4x2112x1024, .f32⟩
  | .hbm, ⟨14, _⟩ => ⟨S4x2112x1024, .bf16⟩
  | .hbm, ⟨15, _⟩ => ⟨S8192x1024, .f32⟩
  | .hbm, ⟨16, _⟩ => ⟨S8192x1024, .f32⟩
  | .hbm, ⟨17, _⟩ => ⟨S8192x2816, .bf16⟩
  | .hbm, ⟨18, _⟩ => ⟨S8192x2816, .bf16⟩
  | .hbm, ⟨19, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S4x704x1024, .bf16⟩
  | .local _ .vmem, ⟨7, _⟩ => ⟨S4x704x1024, .bf16⟩
  | .local _ .vmem, ⟨8, _⟩ => ⟨S4x704x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x2816, .bf16⟩
  | .local _ .vmem, ⟨17, _⟩ => ⟨S512x2816, .bf16⟩
  | .local _ .vmem, ⟨18, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_7 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== RgIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S_, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x1024, .f32⟩
  | .hbm, ⟨55, _⟩ => ⟨S_, .f32⟩
  | .hbm, ⟨56, _⟩ => ⟨S1x1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x2816, .bf16⟩
  | .hbm, ⟨62, _⟩ => ⟨S8192x2816, .bf16⟩
  | .hbm, ⟨63, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v20_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v20_1 : Ref sig .tc := ⟨.hbm, 43, rfl⟩
abbrev main_v20_0 : Ref sig .tc := ⟨.hbm, 44, rfl⟩
abbrev main_v21 : Ref sig .tc := ⟨.hbm, 45, rfl⟩
abbrev main_cst_3 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v25 : Ref sig .tc := ⟨.hbm, 53, rfl⟩
abbrev main_v26 : Ref sig .tc := ⟨.hbm, 54, rfl⟩
abbrev main_cst_4 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩

abbrev nD : Nat := 1
abbrev τ : Topo := Topo.v7x

variable {F : FTy → Type} [FloatOps F]
-- ==== Dm.lean ====
abbrev S8192x1024 : Shape := ⟨2, ![8192, 1024]⟩
abbrev S1x1024 : Shape := ⟨2, ![1, 1024]⟩
abbrev S1024x2568 : Shape := ⟨2, ![1024, 2568]⟩
abbrev S4x1536 : Shape := ⟨2, ![4, 1536]⟩
abbrev S1x4 : Shape := ⟨2, ![1, 4]⟩
abbrev S2568x1024 : Shape := ⟨2, ![2568, 1024]⟩
abbrev S2048x1024 : Shape := ⟨2, ![2048, 1024]⟩
abbrev S512x1024 : Shape := ⟨2, ![512, 1024]⟩
abbrev S8x1024 : Shape := ⟨2, ![8, 1024]⟩
abbrev S_ : Shape := ⟨0, ![]⟩
abbrev S120x1024 : Shape := ⟨2, ![120, 1024]⟩
abbrev S2688x1024 : Shape := ⟨2, ![2688, 1024]⟩
abbrev S1x128 : Shape := ⟨2, ![1, 128]⟩
abbrev S4 : Shape := ⟨1, ![4]⟩
abbrev S1 : Shape := ⟨1, ![1]⟩
abbrev S2 : Shape := ⟨1, ![2]⟩
abbrev S8192x1536 : Shape := ⟨2, ![8192, 1536]⟩
abbrev S8192x128 : Shape := ⟨2, ![8192, 128]⟩
abbrev S8192x512 : Shape := ⟨2, ![8192, 512]⟩
abbrev S512x1536 : Shape := ⟨2, ![512, 1536]⟩
abbrev S512x128 : Shape := ⟨2, ![512, 128]⟩
abbrev S512x512 : Shape := ⟨2, ![512, 512]⟩
abbrev S520x1536 : Shape := ⟨2, ![520, 1536]⟩
abbrev S512 : Shape := ⟨1, ![512]⟩
abbrev S512x1 : Shape := ⟨2, ![512, 1]⟩
abbrev S8x1536 : Shape := ⟨2, ![8, 1536]⟩
abbrev S1536x1024 : Shape := ⟨2, ![1536, 1024]⟩
abbrev S128x1024 : Shape := ⟨2, ![128, 1024]⟩
abbrev S1x1536 : Shape := ⟨2, ![1, 1536]⟩

abbrev nBuf : Space → Nat
  | .hbm => 43
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2568, .f32⟩
  | .hbm, ⟨5, _⟩ => ⟨S4x1536, .f32⟩
  | .hbm, ⟨6, _⟩ => ⟨S1x4, .f32⟩
  | .hbm, ⟨7, _⟩ => ⟨S1x4, .f32⟩
  | .hbm, ⟨8, _⟩ => ⟨S2568x1024, .f32⟩
  | .hbm, ⟨9, _⟩ => ⟨S2568x1024, .bf16⟩
  | .hbm, ⟨10, _⟩ => ⟨S2048x1024, .bf16⟩
  | .hbm, ⟨11, _⟩ => ⟨S512x1024, .bf16⟩
  | .hbm, ⟨12, _⟩ => ⟨S8x1024, .bf16⟩
  | .hbm, ⟨13, _⟩ => ⟨S_, .bf16⟩
  | .hbm, ⟨14, _⟩ => ⟨S120x1024, .bf16⟩
  | .hbm, ⟨15, _⟩ => ⟨S2688x1024, .bf16⟩
  | .hbm, ⟨16, _⟩ => ⟨S_, .f32⟩
  | .hbm, ⟨17, _⟩ => ⟨S1x128, .f32⟩
  | .hbm, ⟨18, _⟩ => ⟨S4, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S1x128, .f32⟩
  | .hbm, ⟨25, _⟩ => ⟨S_, .f32⟩
  | .hbm, ⟨26, _⟩ => ⟨S1x128, .f32⟩
  | .hbm, ⟨27, _⟩ => ⟨S4, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S1x128, .f32⟩
  | .hbm, ⟨34, _⟩ => ⟨S8192x1536, .f32⟩
  | .hbm, ⟨35, _⟩ => ⟨S8192x128, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x128, .f32⟩
  | .hbm, ⟨42, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S2688x1024, .bf16⟩
  | .local _ .vmem, ⟨6, _⟩ => ⟨S4x1536, .f32⟩
  | .local _ .vmem, ⟨7, _⟩ => ⟨S1x128, .f32⟩
  | .local _ .vmem, ⟨8, _⟩ => ⟨S1x128, .f32⟩
  | .local _ .vmem, ⟨9, _⟩ => ⟨S512x1536, .f32⟩
  | .local _ .vmem, ⟨10, _⟩ => ⟨S512x1536, .f32⟩
  | .local _ .vmem, ⟨11, _⟩ => ⟨S512x128, .f32⟩
  | .local _ .vmem, ⟨12, _⟩ => ⟨S512x128, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S520x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19_0 : Ref sig .tc := ⟨.hbm, 34, rfl⟩
abbrev main_v19_1 : Ref sig .tc := ⟨.hbm, 35, rfl⟩
abbrev main_v19_2 : Ref sig .tc := ⟨.hbm, 36, rfl⟩
abbrev main_v19_3 : Ref sig .tc := ⟨.hbm, 37, rfl⟩
abbrev main_v19_4 : Ref sig .tc := ⟨.hbm, 38, rfl⟩
abbrev main_v19_5 : Ref sig .tc := ⟨.hbm, 39, rfl⟩
abbrev main_v19_6 : Ref sig .tc := ⟨.hbm, 40, rfl⟩
abbrev main_v19_7 : Ref sig .tc := ⟨.hbm, 41, rfl⟩
abbrev main_v19_8 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2688x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== RmIdeal.lean ====
abbrev S8192x1024 : Shape := ⟨2, ![8192, 1024]⟩
abbrev S1x1024 : Shape := ⟨2, ![1, 1024]⟩
abbrev S1024x2568 : Shape := ⟨2, ![1024, 2568]⟩
abbrev S4x1536 : Shape := ⟨2, ![4, 1536]⟩
abbrev S1x4 : Shape := ⟨2, ![1, 4]⟩
abbrev S_ : Shape := ⟨0, ![]⟩
abbrev S8192 : Shape := ⟨1, ![8192]⟩
abbrev S8192x1 : Shape := ⟨2, ![8192, 1]⟩
abbrev S8192x2568 : Shape := ⟨2, ![8192, 2568]⟩
abbrev S8192x1536 : Shape := ⟨2, ![8192, 1536]⟩
abbrev S8192x512 : Shape := ⟨2, ![8192, 512]⟩
abbrev S8192x4 : Shape := ⟨2, ![8192, 4]⟩
abbrev S8195x1536 : Shape := ⟨2, ![8195, 1536]⟩
abbrev S1x1536 : Shape := ⟨2, ![1, 1536]⟩
abbrev S1536 : Shape := ⟨1, ![1536]⟩
abbrev S8192x4x128 : Shape := ⟨3, ![8192, 4, 128]⟩
abbrev S8192x4x1 : Shape := ⟨3, ![8192, 4, 1]⟩
abbrev S4 : Shape := ⟨1, ![4]⟩
abbrev S128x64x4 : Shape := ⟨3, ![128, 64, 4]⟩
abbrev S8192x120 : Shape := ⟨2, ![8192, 120]⟩
abbrev S8192x128 : Shape := ⟨2, ![8192, 128]⟩

abbrev nBuf : Space → Nat
  | .hbm => 156
  | .vmem => 0
  | .smem => 0
  | _ => 0

abbrev hbmTy0_0 (i : Nat) : BufTy := match i % 128 with
  | 0 => ⟨S8192x1024, .f32⟩
  | 1 => ⟨S1x1024, .f32⟩
  | 2 => ⟨S1x1024, .f32⟩
  | 3 => ⟨S1x1024, .f32⟩
  | 4 => ⟨S1024x2568, .f32⟩
  | 5 => ⟨S4x1536, .f32⟩
  | 6 => ⟨S1x4, .f32⟩
  | 7 => ⟨S1x4, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1024, .f32⟩
  | 20 => ⟨S8192x1024, .f32⟩
  | 21 => ⟨S8192x1024, .f32⟩
  | 22 => ⟨S8192x1024, .f32⟩
  | 23 => ⟨S_, .f32⟩
  | 24 => ⟨S1x1024, .f32⟩
  | 25 => ⟨S1x1024, .f32⟩
  | 26 => ⟨S8192x1024, .f32⟩
  | 27 => ⟨S8192x1024, .f32⟩
  | 28 => ⟨S8192x1024, .f32⟩
  | 29 => ⟨S8192x1024, .f32⟩
  | 30 => ⟨S8192x2568, .f32⟩
  | 31 => ⟨S8192x1536, .f32⟩
  | 32 => ⟨S8192x512, .f32⟩
  | 33 => ⟨S8192x4, .f32⟩
  | 34 => ⟨S8192x4, .f32⟩
  | 35 => ⟨S8192x512, .f32⟩
  | 36 => ⟨S_, .i32⟩
  | 37 => ⟨S_, .f32⟩
  | 38 => ⟨S8195x1536, .f32⟩
  | 39 => ⟨S1x1536, .f32⟩
  | 40 => ⟨S1536, .f32⟩
  | 41 => ⟨S8192x1536, .f32⟩
  | 42 => ⟨S1x1536, .f32⟩
  | 43 => ⟨S8192x1536, .f32⟩
  | 44 => ⟨S8192x1536, .f32⟩
  | 45 => ⟨S_, .f32⟩
  | 46 => ⟨S8192x1536, .f32⟩
  | 47 => ⟨S8192x1536, .f32⟩
  | 48 => ⟨S1x1536, .f32⟩
  | 49 => ⟨S1536, .f32⟩
  | 50 => ⟨S8192x1536, .f32⟩
  | 51 => ⟨S1x1536, .f32⟩
  | 52 => ⟨S8192x1536, .f32⟩
  | 53 => ⟨S8192x1536, .f32⟩
  | 54 => ⟨S8192x1536, .f32⟩
  | 55 => ⟨S1x1536, .f32⟩
  | 56 => ⟨S1536, .f32⟩
  | 57 => ⟨S8192x1536, .f32⟩
  | 58 => ⟨S1x1536, .f32⟩
  | 59 => ⟨S8192x1536, .f32⟩
  | 60 => ⟨S8192x1536, .f32⟩
  | 61 => ⟨S8192x1536, .f32⟩
  | 62 => ⟨S1x1536, .f32⟩
  | 63 => ⟨S1536, .f32⟩
  | 64 => ⟨S8192x1536, .f32⟩
  | 65 => ⟨S1x1536, .f32⟩
  | 66 => ⟨S8192x1536, .f32⟩
  | 67 => ⟨S8192x1536, .f32⟩
  | 68 => ⟨S8192x1536, .f32⟩
  | 69 => ⟨S8192x1536, .f32⟩
  | 70 => ⟨S8192x1536, .f32⟩
  | 71 => ⟨S_, .f32⟩
  | 72 => ⟨S8192x1536, .f32⟩
  | 73 => ⟨S8192x1536, .f32⟩
  | 74 => ⟨S_, .f32⟩
  | 75 => ⟨S8192x1536, .f32⟩
  | 76 => ⟨S8192x1536, .f32⟩
  | 77 => ⟨S8192x1536, .f32⟩
  | 78 => ⟨S8192x512, .f32⟩
  | 79 => ⟨S8192x512, .f32⟩
  | 80 => ⟨S8192x512, .f32⟩
  | 81 => ⟨S8192x4x128, .f32⟩
  | 82 => ⟨S8192x4x128, .f32⟩
  | 83 => ⟨S_, .f32⟩
  | 84 => ⟨S8192x4, .f32⟩
  | 85 => ⟨S8192x4x1, .f32⟩
  | 86 => ⟨S_, .f32⟩
  | 87 => ⟨S8192x4x1, .f32⟩
  | 88 => ⟨S8192x4x1, .f32⟩
  | 89 => ⟨S8192x4x1, .f32⟩
  | 90 => ⟨S8192x4x128, .f32⟩
  | 91 => ⟨S8192x4x128, .f32⟩
  | 92 => ⟨S_, .f32⟩
  | 93 => ⟨S8192x4x128, .f32⟩
  | 94 => ⟨S8192x4x128, .f32⟩
  | 95 => ⟨S8192x4x128, .f32⟩
  | 96 => ⟨S8192x4x128, .f32⟩
  | 97 => ⟨S_, .f32⟩
  | 98 => ⟨S8192x4, .f32⟩
  | 99 => ⟨S8192x4x1, .f32⟩
  | 100 => ⟨S_, .f32⟩
  | 101 => ⟨S8192x4x1, .f32⟩
  | 102 => ⟨S8192x4x1, .f32⟩
  | 103 => ⟨S8192x4x1, .f32⟩
  | 104 => ⟨S8192x4x128, .f32⟩
  | 105 => ⟨S8192x4x128, .f32⟩
  | 106 => ⟨S8192x4, .f32⟩
  | 107 => ⟨S8192x4, .f32⟩
  | 108 => ⟨S_, .f32⟩
  | 109 => ⟨S8192x4, .f32⟩
  | 110 => ⟨S8192x4, .f32⟩
  | 111 => ⟨S_, .f32⟩
  | 112 => ⟨S8192x4, .f32⟩
  | 113 => ⟨S8192x4, .f32⟩
  | 114 => ⟨S4, .f32⟩
  | 115 => ⟨S4, .f32⟩
  | 116 => ⟨S4, .f32⟩
  | 117 => ⟨S4, .f32⟩
  | 118 => ⟨S1x4, .f32⟩
  | 119 => ⟨S8192x4, .f32⟩
  | 120 => ⟨S8192x4, .f32⟩
  | 121 => ⟨S_, .f32⟩
  | 122 => ⟨S8192x4, .f32⟩
  | 123 => ⟨S8192x4, .f32⟩
  | 124 => ⟨S8192x4, .f32⟩
  | 125 => ⟨S8192x4, .f32⟩
  | 126 => ⟨S8192x4, .i1⟩
  | 127 => ⟨S8192x4, .f32⟩
  | _ => ⟨S8192x1024, .f32⟩

abbrev hbmTy0_1 (i : Nat) : BufTy := match i % 128 with
  | 0 => ⟨S8192x4, .f32⟩
  | 1 => ⟨S8192x4, .f32⟩
  | 2 => ⟨S8192x4, .f32⟩
  | 3 => ⟨S8192x4, .f32⟩
  | 4 => ⟨S8192x4, .f32⟩
  | 5 => ⟨S8192x4, .f32⟩
  | 6 => ⟨S8192x4, .f32⟩
  | 7 => ⟨S1x4, .f32⟩
  | 8 => ⟨S8192x4, .f32⟩
  | 9 => ⟨S8192x4, .f32⟩
  | 10 => ⟨S128x64x4, .f32⟩
  | 11 => ⟨S_, .f32⟩
  | 12 => ⟨S_, .f32⟩
  | 13 => ⟨S128x64x4, .f32⟩
  | 14 => ⟨S8192x4, .f32⟩
  | 15 => ⟨S_, .f32⟩
  | 16 => ⟨S8192x120, .f32⟩
  | 17 => ⟨S8192x128, .f32⟩
  | 18 => ⟨S8192x512, .f32⟩
  | 19 => ⟨S8192x512, .f32⟩
  | 20 => ⟨S_, .f32⟩
  | 21 => ⟨S8192x120, .f32⟩
  | 22 => ⟨S8192x128, .f32⟩
  | 23 => ⟨S_, .f32⟩
  | 24 => ⟨S8192x4, .f32⟩
  | 25 => ⟨S_, .f32⟩
  | 26 => ⟨S8192x120, .f32⟩
  | 27 => ⟨S8192x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_call1_v5 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_4 : Ref sig .tc := ⟨.hbm, 83, rfl⟩
abbrev main_v60 : Ref sig .tc := ⟨.hbm, 84, rfl⟩
abbrev main_v61 : Ref sig .tc := ⟨.hbm, 85, rfl⟩
abbrev main_cst_5 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_6 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_7 : Ref sig .tc := ⟨.hbm, 97, rfl⟩
abbrev main_v71 : Ref sig .tc := ⟨.hbm, 98, rfl⟩
abbrev main_v72 : Ref sig .tc := ⟨.hbm, 99, rfl⟩
abbrev main_cst_8 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_9 : Ref sig .tc := ⟨.hbm, 108, rfl⟩
abbrev main_v80 : Ref sig .tc := ⟨.hbm, 109, rfl⟩
abbrev main_v81 : Ref sig .tc := ⟨.hbm, 110, rfl⟩
abbrev main_cst_10 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_call2_cst : Ref sig .tc := ⟨.hbm, 121, rfl⟩
abbrev main_call2_v0 : Ref sig .tc := ⟨.hbm, 122, rfl⟩
abbrev main_call2_v1 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_call2_v5 : Ref sig .tc := ⟨.hbm, 127, rfl⟩
abbrev main_call2_v6 : Ref sig .tc := ⟨.hbm, 128, rfl⟩
abbrev main_call2_v7 : Ref sig .tc := ⟨.hbm, 129, rfl⟩
abbrev main_call2_v8 : Ref sig .tc := ⟨.hbm, 130, rfl⟩
abbrev main_call2_v9 : Ref sig .tc := ⟨.hbm, 131, rfl⟩
abbrev main_call2_v10 : Ref sig .tc := ⟨.hbm, 132, rfl⟩
abbrev main_call2_v11 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_call3_call0_cst : Ref sig .tc := ⟨.hbm, 139, rfl⟩
abbrev main_call3_call0_v0 : Ref sig .tc := ⟨.hbm, 140, rfl⟩
abbrev main_v96 : Ref sig .tc := ⟨.hbm, 141, rfl⟩
abbrev main_v97 : Ref sig .tc := ⟨.hbm, 142, rfl⟩
abbrev main_cst_11 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_cst_12 : Ref sig .tc := ⟨.hbm, 148, rfl⟩
abbrev main_v102 : Ref sig .tc := ⟨.hbm, 149, rfl⟩
abbrev main_v103 : Ref sig .tc := ⟨.hbm, 150, rfl⟩
abbrev main_cst_13 : Ref sig .tc := ⟨.hbm, 151, rfl⟩
abbrev main_v104 : Ref sig .tc := ⟨.hbm, 152, rfl⟩
abbrev main_cst_14 : Ref sig .tc := ⟨.hbm, 153, rfl⟩
abbrev main_v105 : Ref sig .tc := ⟨.hbm, 154, rfl⟩
abbrev main_v106 : Ref sig .tc := ⟨.hbm, 155, rfl⟩

abbrev nD : Nat := 1
abbrev τ : Topo := Topo.v7x

variable {F : FTy → Type} [FloatOps F]
-- ==== Og.lean ====
abbrev S704x1024 : Shape := ⟨2, ![704, 1024]⟩
abbrev S1x1024x704 : Shape := ⟨3, ![1, 1024, 704]⟩
abbrev S1024x704 : Shape := ⟨2, ![1024, 704]⟩
abbrev S176x1024 : Shape := ⟨2, ![176, 1024]⟩

abbrev nBuf : Space → Nat
  | .hbm => 15
  | .vmem => 18
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S1x1024x704, .f32⟩
  | .hbm, ⟨3, _⟩ => ⟨S1x1024x704, .f32⟩
  | .hbm, ⟨4, _⟩ => ⟨S1x1024x704, .f32⟩
  | .hbm, ⟨5, _⟩ => ⟨S1024x704, .f32⟩
  | .hbm, ⟨6, _⟩ => ⟨S704x1024, .f32⟩
  | .hbm, ⟨7, _⟩ => ⟨S1024x704, .f32⟩
  | .hbm, ⟨8, _⟩ => ⟨S704x1024, .f32⟩
  | .hbm, ⟨9, _⟩ => ⟨S1024x704, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OgIdeal.lean ====
abbrev S704x1024 : Shape := ⟨2, ![704, 1024]⟩
abbrev S1x1024x704 : Shape := ⟨3, ![1, 1024, 704]⟩
abbrev S1024x704 : Shape := ⟨2, ![1024, 704]⟩
abbrev S176x1024 : Shape := ⟨2, ![176, 1024]⟩

abbrev nBuf : Space → Nat
  | .hbm => 15
  | .vmem => 18
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S1x1024x704, .f32⟩
  | .hbm, ⟨3, _⟩ => ⟨S1x1024x704, .f32⟩
  | .hbm, ⟨4, _⟩ => ⟨S1x1024x704, .f32⟩
  | .hbm, ⟨5, _⟩ => ⟨S1024x704, .f32⟩
  | .hbm, ⟨6, _⟩ => ⟨S704x1024, .f32⟩
  | .hbm, ⟨7, _⟩ => ⟨S1024x704, .f32⟩
  | .hbm, ⟨8, _⟩ => ⟨S704x1024, .f32⟩
  | .hbm, ⟨9, _⟩ => ⟨S1024x704, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== QgIdeal.lean ====
abbrev S704x1024 : Shape := ⟨2, ![704, 1024]⟩
abbrev S1x1024x704 : Shape := ⟨3, ![1, 1024, 704]⟩
abbrev S1024x704 : Shape := ⟨2, ![1024, 704]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S1x1024x704, .f32⟩
  | .hbm, ⟨3, _⟩ => ⟨S1x1024x704, .f32⟩
  | .hbm, ⟨4, _⟩ => ⟨S1x1024x704, .f32⟩
  | .hbm, ⟨5, _⟩ => ⟨S704x1024, .f32⟩
  | .hbm, ⟨6, _⟩ => ⟨S1024x704, .f32⟩
  | .hbm, ⟨7, _⟩ => ⟨S1x1024x704, .f32⟩
  | .hbm, ⟨8, _⟩ => ⟨S_, .f32⟩
  | .hbm, ⟨9, _⟩ => ⟨S1x1024x704, .f32⟩
  | .hbm, ⟨10, _⟩ => ⟨S1x1024x704, .f32⟩
  | .hbm, ⟨11, _⟩ => ⟨S_, .f32⟩
  | .hbm, ⟨12, _⟩ => ⟨S1x1024x704, .f32⟩
  | .hbm, ⟨13, _⟩ => ⟨S1x1024x704, .f32⟩
  | .hbm, ⟨14, _⟩ => ⟨S1x1024x704, .f32⟩
  | .hbm, ⟨15, _⟩ => ⟨S_, .f32⟩
  | .hbm, ⟨16, _⟩ => ⟨S1x1024x704, .f32⟩
  | .hbm, ⟨17, _⟩ => ⟨S1x1024x704, .f32⟩
  | .hbm, ⟨18, _⟩ => ⟨S1x1024x704, .f32⟩
  | .hbm, ⟨19, _⟩ => ⟨S_, .f32⟩
  | .hbm, ⟨20, _⟩ => ⟨S1x1024x704, .f32⟩
  | .hbm, ⟨21, _⟩ => ⟨S1x1024x704, .f32⟩
  | .hbm, ⟨22, _⟩ => ⟨S1x1024x704, .f32⟩
  | .hbm, ⟨23, _⟩ => ⟨S_, .f32⟩
  | .hbm, ⟨24, _⟩ => ⟨S1x1024x704, .f32⟩
  | .hbm, ⟨25, _⟩ => ⟨S1x1024x704, .f32⟩
  | .hbm, ⟨26, _⟩ => ⟨S_, .f32⟩
  | .hbm, ⟨27, _⟩ => ⟨S1x1024x704, .f32⟩
  | .hbm, ⟨28, _⟩ => ⟨S1x1024x704, .f32⟩
  | .hbm, ⟨29, _⟩ => ⟨S1x1024x704, .f32⟩
  | .hbm, ⟨30, _⟩ => ⟨S_, .f32⟩
  | .hbm, ⟨31, _⟩ => ⟨S1x1024x704, .f32⟩
  | .hbm, ⟨32, _⟩ => ⟨S1x1024x704, .f32⟩
  | .hbm, ⟨33, _⟩ => ⟨S1x1024x704, .f32⟩
  | .hbm, ⟨34, _⟩ => ⟨S_, .f32⟩
  | .hbm, ⟨35, _⟩ => ⟨S1x1024x704, .f32⟩
  | .hbm, ⟨36, _⟩ => ⟨S1x1024x704, .f32⟩
  | .hbm, ⟨37, _⟩ => ⟨S1x1024x704, .f32⟩
  | .hbm, ⟨38, _⟩ => ⟨S_, .f32⟩
  | .hbm, ⟨39, _⟩ => ⟨S1x1024x704, .f32⟩
  | .hbm, ⟨40, _⟩ => ⟨S1x1024x704, .f32⟩
  | .hbm, ⟨41, _⟩ => ⟨S1024x704, .f32⟩
  | .hbm, ⟨42, _⟩ => ⟨S704x1024, .f32⟩
  | .hbm, ⟨43, _⟩ => ⟨S1024x704, .f32⟩
  | .hbm, ⟨44, _⟩ => ⟨S704x1024, .f32⟩
  | .hbm, ⟨45, _⟩ => ⟨S1024x704, .f32⟩
  | .hbm, ⟨46, _⟩ => ⟨S704x1024, .f32⟩
  | .hbm, ⟨47, _⟩ => ⟨S1024x704, .f32⟩
  | .hbm, ⟨48, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Oi.lean ====
abbrev S672x1024 : Shape := ⟨2, ![672, 1024]⟩
abbrev S1x1024x642 : Shape := ⟨3, ![1, 1024, 642]⟩
abbrev S642x1024 : Shape := ⟨2, ![642, 1024]⟩
abbrev S1024x642 : Shape := ⟨2, ![1024, 642]⟩
abbrev S642x256 : Shape := ⟨2, ![642, 256]⟩

abbrev nBuf : Space → Nat
  | .hbm => 17
  | .vmem => 18
  | .smem => 0
  | _ => 0

abbrev bufTy : (tb : Table) → Fin (tcTables nBuf tb) → BufTy
  | .hbm, ⟨0, _⟩ => ⟨S672x1024, .f32⟩
  | .hbm, ⟨1, _⟩ => ⟨S672x1024, .f32⟩
  | .hbm, ⟨2, _⟩ => ⟨S1x1024x642, .f32⟩
  | .hbm, ⟨3, _⟩ => ⟨S1x1024x642, .f32⟩
  | .hbm, ⟨4, _⟩ => ⟨S1x1024x642, .f32⟩
  | .hbm, ⟨5, _⟩ => ⟨S642x1024, .f32⟩
  | .hbm, ⟨6, _⟩ => ⟨S642x1024, .f32⟩
  | .hbm, ⟨7, _⟩ => ⟨S1024x642, .f32⟩
  | .hbm, ⟨8, _⟩ => ⟨S642x1024, .f32⟩
  | .hbm, ⟨9, _⟩ => ⟨S1024x642, .f32⟩
  | .hbm, ⟨10, _⟩ => ⟨S642x1024, .f32⟩
  | .hbm, ⟨11, _⟩ => ⟨S1024x642, .f32⟩
  | .hbm, ⟨12, _⟩ => ⟨S642x1024, .f32⟩
  | .hbm, ⟨13, _⟩ => ⟨S642x1024, .f32⟩
  | .hbm, ⟨14, _⟩ => ⟨S642x1024, .f32⟩
  | .hbm, ⟨15, _⟩ => ⟨S642x1024, .f32⟩
  | .hbm, ⟨16, _⟩ => ⟨S642x1024, .f32⟩
  | .local _ .vmem, ⟨0, _⟩ => ⟨S642x256, .f32⟩
  | .local _ .vmem, ⟨1, _⟩ => ⟨S642x256, .f32⟩
  | .local _ .vmem, ⟨2, _⟩ => ⟨S642x256, .f32⟩
  | .local _ .vmem, ⟨3, _⟩ => ⟨S642x256, .f32⟩
  | .local _ .vmem, ⟨4, _⟩ => ⟨S642x256, .f32⟩
  | .local _ .vmem, ⟨5, _⟩ => ⟨S642x256, .f32⟩
  | .local _ .vmem, ⟨6, _⟩ => ⟨S642x256, .f32⟩
  | .local _ .vmem, ⟨7, _⟩ => ⟨S642x256, .f32⟩
  | .local _ .vmem, ⟨8, _⟩ => ⟨S642x256, .f32⟩
  | .local _ .vmem, ⟨9, _⟩ => ⟨S642x256, .f32⟩
  | .local _ .vmem, ⟨10, _⟩ => ⟨S642x256, .f32⟩
  | .local _ .vmem, ⟨11, _⟩ => ⟨S642x256, .f32⟩
  | .local _ .vmem, ⟨12, _⟩ => ⟨S642x256, .f32⟩
  | .local _ .vmem, ⟨13, _⟩ => ⟨S642x256, .f32⟩
  | .local _ .vmem, ⟨14, _⟩ => ⟨S642x256, .f32⟩
  | .local _ .vmem, ⟨15, _⟩ => ⟨S642x256, .f32⟩
  | .local _ .vmem, ⟨16, _⟩ => ⟨S642x256, .f32⟩
  | .local _ .vmem, ⟨17, _⟩ => ⟨S642x256, .f32⟩
  | _, _ => ⟨S672x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S642x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S642x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S642x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S642x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S642x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S642x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S642x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S642x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S642x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== QiIdeal.lean ====
abbrev S672x1024 : Shape := ⟨2, ![672, 1024]⟩
abbrev S1x1024x642 : Shape := ⟨3, ![1, 1024, 642]⟩
abbrev S642x1024 : Shape := ⟨2, ![642, 1024]⟩
abbrev S1024x642 : Shape := ⟨2, ![1024, 642]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S672x1024, .f32⟩
  | .hbm, ⟨1, _⟩ => ⟨S672x1024, .f32⟩
  | .hbm, ⟨2, _⟩ => ⟨S1x1024x642, .f32⟩
  | .hbm, ⟨3, _⟩ => ⟨S1x1024x642, .f32⟩
  | .hbm, ⟨4, _⟩ => ⟨S1x1024x642, .f32⟩
  | .hbm, ⟨5, _⟩ => ⟨S672x1024, .f32⟩
  | .hbm, ⟨6, _⟩ => ⟨S642x1024, .f32⟩
  | .hbm, ⟨7, _⟩ => ⟨S1024x642, .f32⟩
  | .hbm, ⟨8, _⟩ => ⟨S1x1024x642, .f32⟩
  | .hbm, ⟨9, _⟩ => ⟨S_, .f32⟩
  | .hbm, ⟨10, _⟩ => ⟨S1x1024x642, .f32⟩
  | .hbm, ⟨11, _⟩ => ⟨S1x1024x642, .f32⟩
  | .hbm, ⟨12, _⟩ => ⟨S_, .f32⟩
  | .hbm, ⟨13, _⟩ => ⟨S1x1024x642, .f32⟩
  | .hbm, ⟨14, _⟩ => ⟨S1x1024x642, .f32⟩
  | .hbm, ⟨15, _⟩ => ⟨S1x1024x642, .f32⟩
  | .hbm, ⟨16, _⟩ => ⟨S_, .f32⟩
  | .hbm, ⟨17, _⟩ => ⟨S1x1024x642, .f32⟩
  | .hbm, ⟨18, _⟩ => ⟨S1x1024x642, .f32⟩
  | .hbm, ⟨19, _⟩ => ⟨S1x1024x642, .f32⟩
  | .hbm, ⟨20, _⟩ => ⟨S_, .f32⟩
  | .hbm, ⟨21, _⟩ => ⟨S1x1024x642, .f32⟩
  | .hbm, ⟨22, _⟩ => ⟨S1x1024x642, .f32⟩
  | .hbm, ⟨23, _⟩ => ⟨S1x1024x642, .f32⟩
  | .hbm, ⟨24, _⟩ => ⟨S_, .f32⟩
  | .hbm, ⟨25, _⟩ => ⟨S1x1024x642, .f32⟩
  | .hbm, ⟨26, _⟩ => ⟨S1x1024x642, .f32⟩
  | .hbm, ⟨27, _⟩ => ⟨S_, .f32⟩
  | .hbm, ⟨28, _⟩ => ⟨S1x1024x642, .f32⟩
  | .hbm, ⟨29, _⟩ => ⟨S1x1024x642, .f32⟩
  | .hbm, ⟨30, _⟩ => ⟨S1x1024x642, .f32⟩
  | .hbm, ⟨31, _⟩ => ⟨S_, .f32⟩
  | .hbm, ⟨32, _⟩ => ⟨S1x1024x642, .f32⟩
  | .hbm, ⟨33, _⟩ => ⟨S1x1024x642, .f32⟩
  | .hbm, ⟨34, _⟩ => ⟨S1x1024x642, .f32⟩
  | .hbm, ⟨35, _⟩ => ⟨S_, .f32⟩
  | .hbm, ⟨36, _⟩ => ⟨S1x1024x642, .f32⟩
  | .hbm, ⟨37, _⟩ => ⟨S1x1024x642, .f32⟩
  | .hbm, ⟨38, _⟩ => ⟨S1x1024x642, .f32⟩
  | .hbm, ⟨39, _⟩ => ⟨S_, .f32⟩
  | .hbm, ⟨40, _⟩ => ⟨S1x1024x642, .f32⟩
  | .hbm, ⟨41, _⟩ => ⟨S1x1024x642, .f32⟩
  | .hbm, ⟨42, _⟩ => ⟨S1024x642, .f32⟩
  | .hbm, ⟨43, _⟩ => ⟨S642x1024, .f32⟩
  | .hbm, ⟨44, _⟩ => ⟨S1024x642, .f32⟩
  | .hbm, ⟨45, _⟩ => ⟨S642x1024, .f32⟩
  | .hbm, ⟨46, _⟩ => ⟨S1024x642, .f32⟩
  | .hbm, ⟨47, _⟩ => ⟨S642x1024, .f32⟩
  | .hbm, ⟨48, _⟩ => ⟨S1024x642, .f32⟩
  | .hbm, ⟨49, _⟩ => ⟨S642x1024, .f32⟩
  | _, _ => ⟨S672x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Od.lean ====
abbrev S704x1024 : Shape := ⟨2, ![704, 1024]⟩
abbrev S1x704x1024 : Shape := ⟨3, ![1, 704, 1024]⟩
abbrev S176x1024 : Shape := ⟨2, ![176, 1024]⟩

abbrev nBuf : Space → Nat
  | .hbm => 12
  | .vmem => 18
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OdIdeal.lean ====
abbrev S704x1024 : Shape := ⟨2, ![704, 1024]⟩
abbrev S1x704x1024 : Shape := ⟨3, ![1, 704, 1024]⟩
abbrev S176x1024 : Shape := ⟨2, ![176, 1024]⟩

abbrev nBuf : Space → Nat
  | .hbm => 12
  | .vmem => 18
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== QdIdeal.lean ====
abbrev S704x1024 : Shape := ⟨2, ![704, 1024]⟩
abbrev S1x704x1024 : Shape := ⟨3, ![1, 704, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S704x1024, .f32⟩
  | .hbm, ⟨6, _⟩ => ⟨S1x704x1024, .f32⟩
  | .hbm, ⟨7, _⟩ => ⟨S_, .f32⟩
  | .hbm, ⟨8, _⟩ => ⟨S1x704x1024, .f32⟩
  | .hbm, ⟨9, _⟩ => ⟨S1x704x1024, .f32⟩
  | .hbm, ⟨10, _⟩ => ⟨S_, .f32⟩
  | .hbm, ⟨11, _⟩ => ⟨S1x704x1024, .f32⟩
  | .hbm, ⟨12, _⟩ => ⟨S1x704x1024, .f32⟩
  | .hbm, ⟨13, _⟩ => ⟨S1x704x1024, .f32⟩
  | .hbm, ⟨14, _⟩ => ⟨S_, .f32⟩
  | .hbm, ⟨15, _⟩ => ⟨S1x704x1024, .f32⟩
  | .hbm, ⟨16, _⟩ => ⟨S1x704x1024, .f32⟩
  | .hbm, ⟨17, _⟩ => ⟨S1x704x1024, .f32⟩
  | .hbm, ⟨18, _⟩ => ⟨S_, .f32⟩
  | .hbm, ⟨19, _⟩ => ⟨S1x704x1024, .f32⟩
  | .hbm, ⟨20, _⟩ => ⟨S1x704x1024, .f32⟩
  | .hbm, ⟨21, _⟩ => ⟨S1x704x1024, .f32⟩
  | .hbm, ⟨22, _⟩ => ⟨S_, .f32⟩
  | .hbm, ⟨23, _⟩ => ⟨S1x704x1024, .f32⟩
  | .hbm, ⟨24, _⟩ => ⟨S1x704x1024, .f32⟩
  | .hbm, ⟨25, _⟩ => ⟨S_, .f32⟩
  | .hbm, ⟨26, _⟩ => ⟨S1x704x1024, .f32⟩
  | .hbm, ⟨27, _⟩ => ⟨S1x704x1024, .f32⟩
  | .hbm, ⟨28, _⟩ => ⟨S1x704x1024, .f32⟩
  | .hbm, ⟨29, _⟩ => ⟨S_, .f32⟩
  | .hbm, ⟨30, _⟩ => ⟨S1x704x1024, .f32⟩
  | .hbm, ⟨31, _⟩ => ⟨S1x704x1024, .f32⟩
  | .hbm, ⟨32, _⟩ => ⟨S1x704x1024, .f32⟩
  | .hbm, ⟨33, _⟩ => ⟨S_, .f32⟩
  | .hbm, ⟨34, _⟩ => ⟨S1x704x1024, .f32⟩
  | .hbm, ⟨35, _⟩ => ⟨S1x704x1024, .f32⟩
  | .hbm, ⟨36, _⟩ => ⟨S1x704x1024, .f32⟩
  | .hbm, ⟨37, _⟩ => ⟨S_, .f32⟩
  | .hbm, ⟨38, _⟩ => ⟨S1x704x1024, .f32⟩
  | .hbm, ⟨39, _⟩ => ⟨S1x704x1024, .f32⟩
  | .hbm, ⟨40, _⟩ => ⟨S704x1024, .f32⟩
  | .hbm, ⟨41, _⟩ => ⟨S704x1024, .f32⟩
  | .hbm, ⟨42, _⟩ => ⟨S704x1024, .f32⟩
  | .hbm, ⟨43, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Oo.lean ====
abbrev S256x1024 : Shape := ⟨2, ![256, 1024]⟩
abbrev S1x256x1024 : Shape := ⟨3, ![1, 256, 1024]⟩

abbrev nBuf : Space → Nat
  | .hbm => 12
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== QoIdeal.lean ====
abbrev S256x1024 : Shape := ⟨2, ![256, 1024]⟩
abbrev S1x256x1024 : Shape := ⟨3, ![1, 256, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S_, .f32⟩
  | .hbm, ⟨11, _⟩ => ⟨S1x256x1024, .f32⟩
  | .hbm, ⟨12, _⟩ => ⟨S1x256x1024, .f32⟩
  | .hbm, ⟨13, _⟩ => ⟨S1x256x1024, .f32⟩
  | .hbm, ⟨14, _⟩ => ⟨S_, .f32⟩
  | .hbm, ⟨15, _⟩ => ⟨S1x256x1024, .f32⟩
  | .hbm, ⟨16, _⟩ => ⟨S1x256x1024, .f32⟩
  | .hbm, ⟨17, _⟩ => ⟨S1x256x1024, .f32⟩
  | .hbm, ⟨18, _⟩ => ⟨S_, .f32⟩
  | .hbm, ⟨19, _⟩ => ⟨S1x256x1024, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S_, .f32⟩
  | .hbm, ⟨26, _⟩ => ⟨S1x256x1024, .f32⟩
  | .hbm, ⟨27, _⟩ => ⟨S1x256x1024, .f32⟩
  | .hbm, ⟨28, _⟩ => ⟨S1x256x1024, .f32⟩
  | .hbm, ⟨29, _⟩ => ⟨S_, .f32⟩
  | .hbm, ⟨30, _⟩ => ⟨S1x256x1024, .f32⟩
  | .hbm, ⟨31, _⟩ => ⟨S1x256x1024, .f32⟩
  | .hbm, ⟨32, _⟩ => ⟨S1x256x1024, .f32⟩
  | .hbm, ⟨33, _⟩ => ⟨S_, .f32⟩
  | .hbm, ⟨34, _⟩ => ⟨S1x256x1024, .f32⟩
  | .hbm, ⟨35, _⟩ => ⟨S1x256x1024, .f32⟩
  | .hbm, ⟨36, _⟩ => ⟨S1x256x1024, .f32⟩
  | .hbm, ⟨37, _⟩ => ⟨S_, .f32⟩
  | .hbm, ⟨38, _⟩ => ⟨S1x256x1024, .f32⟩
  | .hbm, ⟨39, _⟩ => ⟨S1x256x1024, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Oc.lean ====
abbrev S4x384 : Shape := ⟨2, ![4, 384]⟩
abbrev S1x4x384 : Shape := ⟨3, ![1, 4, 384]⟩

abbrev nBuf : Space → Nat
  | .hbm => 11
  | .vmem => 8
  | .smem => 0
  | _ => 0

abbrev bufTy : (tb : Table) → Fin (tcTables nBuf tb) → BufTy
  | .hbm, ⟨0, _⟩ => ⟨S4x384, .f32⟩
  | .hbm, ⟨1, _⟩ => ⟨S1x4x384, .f32⟩
  | .hbm, ⟨2, _⟩ => ⟨S1x4x384, .f32⟩
  | .hbm, ⟨3, _⟩ => ⟨S1x4x384, .f32⟩
  | .hbm, ⟨4, _⟩ => ⟨S4x384, .f32⟩
  | .hbm, ⟨5, _⟩ => ⟨S4x384, .f32⟩
  | .hbm, ⟨6, _⟩ => ⟨S4x384, .f32⟩
  | .hbm, ⟨7, _⟩ => ⟨S4x384, .f32⟩
  | .hbm, ⟨8, _⟩ => ⟨S4x384, .f32⟩
  | .hbm, ⟨9, _⟩ => ⟨S4x384, .f32⟩
  | .hbm, ⟨10, _⟩ => ⟨S4x384, .f32⟩
  | .local _ .vmem, ⟨0, _⟩ => ⟨S4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | .local _ .vmem, ⟨7, _⟩ => ⟨S4x384, .f32⟩
  | _, _ => ⟨S4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== QcIdeal.lean ====
abbrev S4x384 : Shape := ⟨2, ![4, 384]⟩
abbrev S1x4x384 : Shape := ⟨3, ![1, 4, 384]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S4x384, .f32⟩
  | .hbm, ⟨1, _⟩ => ⟨S1x4x384, .f32⟩
  | .hbm, ⟨2, _⟩ => ⟨S1x4x384, .f32⟩
  | .hbm, ⟨3, _⟩ => ⟨S1x4x384, .f32⟩
  | .hbm, ⟨4, _⟩ => ⟨S1x4x384, .f32⟩
  | .hbm, ⟨5, _⟩ => ⟨S_, .f32⟩
  | .hbm, ⟨6, _⟩ => ⟨S1x4x384, .f32⟩
  | .hbm, ⟨7, _⟩ => ⟨S1x4x384, .f32⟩
  | .hbm, ⟨8, _⟩ => ⟨S_, .f32⟩
  | .hbm, ⟨9, _⟩ => ⟨S1x4x384, .f32⟩
  | .hbm, ⟨10, _⟩ => ⟨S1x4x384, .f32⟩
  | .hbm, ⟨11, _⟩ => ⟨S1x4x384, .f32⟩
  | .hbm, ⟨12, _⟩ => ⟨S_, .f32⟩
  | .hbm, ⟨13, _⟩ => ⟨S1x4x384, .f32⟩
  | .hbm, ⟨14, _⟩ => ⟨S1x4x384, .f32⟩
  | .hbm, ⟨15, _⟩ => ⟨S1x4x384, .f32⟩
  | .hbm, ⟨16, _⟩ => ⟨S_, .f32⟩
  | .hbm, ⟨17, _⟩ => ⟨S1x4x384, .f32⟩
  | .hbm, ⟨18, _⟩ => ⟨S1x4x384, .f32⟩
  | .hbm, ⟨19, _⟩ => ⟨S1x4x384, .f32⟩
  | .hbm, ⟨20, _⟩ => ⟨S_, .f32⟩
  | .hbm, ⟨21, _⟩ => ⟨S1x4x384, .f32⟩
  | .hbm, ⟨22, _⟩ => ⟨S1x4x384, .f32⟩
  | .hbm, ⟨23, _⟩ => ⟨S_, .f32⟩
  | .hbm, ⟨24, _⟩ => ⟨S1x4x384, .f32⟩
  | .hbm, ⟨25, _⟩ => ⟨S1x4x384, .f32⟩
  | .hbm, ⟨26, _⟩ => ⟨S1x4x384, .f32⟩
  | .hbm, ⟨27, _⟩ => ⟨S_, .f32⟩
  | .hbm, ⟨28, _⟩ => ⟨S1x4x384, .f32⟩
  | .hbm, ⟨29, _⟩ => ⟨S1x4x384, .f32⟩
  | .hbm, ⟨30, _⟩ => ⟨S1x4x384, .f32⟩
  | .hbm, ⟨31, _⟩ => ⟨S_, .f32⟩
  | .hbm, ⟨32, _⟩ => ⟨S1x4x384, .f32⟩
  | .hbm, ⟨33, _⟩ => ⟨S1x4x384, .f32⟩
  | .hbm, ⟨34, _⟩ => ⟨S1x4x384, .f32⟩
  | .hbm, ⟨35, _⟩ => ⟨S_, .f32⟩
  | .hbm, ⟨36, _⟩ => ⟨S1x4x384, .f32⟩
  | .hbm, ⟨37, _⟩ => ⟨S1x4x384, .f32⟩
  | .hbm, ⟨38, _⟩ => ⟨S4x384, .f32⟩
  | .hbm, ⟨39, _⟩ => ⟨S4x384, .f32⟩
  | .hbm, ⟨40, _⟩ => ⟨S4x384, .f32⟩
  | .hbm, ⟨41, _⟩ => ⟨S4x384, .f32⟩
  | _, _ => ⟨S4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Oh.lean ====
abbrev S352x1024 : Shape := ⟨2, ![352, 1024]⟩
abbrev S1x1024x704 : Shape := ⟨3, ![1, 1024, 704]⟩
abbrev S1024x704 : Shape := ⟨2, ![1024, 704]⟩
abbrev S704x1024 : Shape := ⟨2, ![704, 1024]⟩

abbrev nBuf : Space → Nat
  | .hbm => 15
  | .vmem => 16
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S1x1024x704, .f32⟩
  | .hbm, ⟨3, _⟩ => ⟨S1x1024x704, .f32⟩
  | .hbm, ⟨4, _⟩ => ⟨S1x1024x704, .f32⟩
  | .hbm, ⟨5, _⟩ => ⟨S1024x704, .f32⟩
  | .hbm, ⟨6, _⟩ => ⟨S704x1024, .f32⟩
  | .hbm, ⟨7, _⟩ => ⟨S1024x704, .f32⟩
  | .hbm, ⟨8, _⟩ => ⟨S704x1024, .f32⟩
  | .hbm, ⟨9, _⟩ => ⟨S1024x704, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 2
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== QhIdeal.lean ====
abbrev S352x1024 : Shape := ⟨2, ![352, 1024]⟩
abbrev S1x1024x704 : Shape := ⟨3, ![1, 1024, 704]⟩
abbrev S_ : Shape := ⟨0, ![]⟩
abbrev S704x1024 : Shape := ⟨2, ![704, 1024]⟩
abbrev S1024x704 : Shape := ⟨2, ![1024, 704]⟩

abbrev nBuf : Space → Nat
  | .hbm => 59
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S1x1024x704, .f32⟩
  | .hbm, ⟨3, _⟩ => ⟨S1x1024x704, .f32⟩
  | .hbm, ⟨4, _⟩ => ⟨S1x1024x704, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S704x1024, .f32⟩
  | .hbm, ⟨14, _⟩ => ⟨S704x1024, .f32⟩
  | .hbm, ⟨15, _⟩ => ⟨S704x1024, .f32⟩
  | .hbm, ⟨16, _⟩ => ⟨S1024x704, .f32⟩
  | .hbm, ⟨17, _⟩ => ⟨S1x1024x704, .f32⟩
  | .hbm, ⟨18, _⟩ => ⟨S_, .f32⟩
  | .hbm, ⟨19, _⟩ => ⟨S1x1024x704, .f32⟩
  | .hbm, ⟨20, _⟩ => ⟨S1x1024x704, .f32⟩
  | .hbm, ⟨21, _⟩ => ⟨S_, .f32⟩
  | .hbm, ⟨22, _⟩ => ⟨S1x1024x704, .f32⟩
  | .hbm, ⟨23, _⟩ => ⟨S1x1024x704, .f32⟩
  | .hbm, ⟨24, _⟩ => ⟨S1x1024x704, .f32⟩
  | .hbm, ⟨25, _⟩ => ⟨S_, .f32⟩
  | .hbm, ⟨26, _⟩ => ⟨S1x1024x704, .f32⟩
  | .hbm, ⟨27, _⟩ => ⟨S1x1024x704, .f32⟩
  | .hbm, ⟨28, _⟩ => ⟨S1x1024x704, .f32⟩
  | .hbm, ⟨29, _⟩ => ⟨S_, .f32⟩
  | .hbm, ⟨30, _⟩ => ⟨S1x1024x704, .f32⟩
  | .hbm, ⟨31, _⟩ => ⟨S1x1024x704, .f32⟩
  | .hbm, ⟨32, _⟩ => ⟨S1x1024x704, .f32⟩
  | .hbm, ⟨33, _⟩ => ⟨S_, .f32⟩
  | .hbm, ⟨34, _⟩ => ⟨S1x1024x704, .f32⟩
  | .hbm, ⟨35, _⟩ => ⟨S1x1024x704, .f32⟩
  | .hbm, ⟨36, _⟩ => ⟨S_, .f32⟩
  | .hbm, ⟨37, _⟩ => ⟨S1x1024x704, .f32⟩
  | .hbm, ⟨38, _⟩ => ⟨S1x1024x704, .f32⟩
  | .hbm, ⟨39, _⟩ => ⟨S1x1024x704, .f32⟩
  | .hbm, ⟨40, _⟩ => ⟨S_, .f32⟩
  | .hbm, ⟨41, _⟩ => ⟨S1x1024x704, .f32⟩
  | .hbm, ⟨42, _⟩ => ⟨S1x1024x704, .f32⟩
  | .hbm, ⟨43, _⟩ => ⟨S1x1024x704, .f32⟩
  | .hbm, ⟨44, _⟩ => ⟨S_, .f32⟩
  | .hbm, ⟨45, _⟩ => ⟨S1x1024x704, .f32⟩
  | .hbm, ⟨46, _⟩ => ⟨S1x1024x704, .f32⟩
  | .hbm, ⟨47, _⟩ => ⟨S1x1024x704, .f32⟩
  | .hbm, ⟨48, _⟩ => ⟨S_, .f32⟩
  | .hbm, ⟨49, _⟩ => ⟨S1x1024x704, .f32⟩
  | .hbm, ⟨50, _⟩ => ⟨S1x1024x704, .f32⟩
  | .hbm, ⟨51, _⟩ => ⟨S1024x704, .f32⟩
  | .hbm, ⟨52, _⟩ => ⟨S704x1024, .f32⟩
  | .hbm, ⟨53, _⟩ => ⟨S1024x704, .f32⟩
  | .hbm, ⟨54, _⟩ => ⟨S704x1024, .f32⟩
  | .hbm, ⟨55, _⟩ => ⟨S1024x704, .f32⟩
  | .hbm, ⟨56, _⟩ => ⟨S704x1024, .f32⟩
  | .hbm, ⟨57, _⟩ => ⟨S1024x704, .f32⟩
  | .hbm, ⟨58, _⟩ => ⟨S704x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 2
abbrev τ : Topo := Topo.v7x

variable {F : FTy → Type} [FloatOps F]
-- ==== Ok.lean ====
abbrev S352x1024 : Shape := ⟨2, ![352, 1024]⟩
abbrev S1x704x1024 : Shape := ⟨3, ![1, 704, 1024]⟩
abbrev S704x1024 : Shape := ⟨2, ![704, 1024]⟩

abbrev nBuf : Space → Nat
  | .hbm => 12
  | .vmem => 16
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 2
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== QkIdeal.lean ====
abbrev S352x1024 : Shape := ⟨2, ![352, 1024]⟩
abbrev S1x704x1024 : Shape := ⟨3, ![1, 704, 1024]⟩
abbrev S_ : Shape := ⟨0, ![]⟩
abbrev S704x1024 : Shape := ⟨2, ![704, 1024]⟩

abbrev nBuf : Space → Nat
  | .hbm => 54
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S704x1024, .f32⟩
  | .hbm, ⟨14, _⟩ => ⟨S704x1024, .f32⟩
  | .hbm, ⟨15, _⟩ => ⟨S704x1024, .f32⟩
  | .hbm, ⟨16, _⟩ => ⟨S1x704x1024, .f32⟩
  | .hbm, ⟨17, _⟩ => ⟨S_, .f32⟩
  | .hbm, ⟨18, _⟩ => ⟨S1x704x1024, .f32⟩
  | .hbm, ⟨19, _⟩ => ⟨S1x704x1024, .f32⟩
  | .hbm, ⟨20, _⟩ => ⟨S_, .f32⟩
  | .hbm, ⟨21, _⟩ => ⟨S1x704x1024, .f32⟩
  | .hbm, ⟨22, _⟩ => ⟨S1x704x1024, .f32⟩
  | .hbm, ⟨23, _⟩ => ⟨S1x704x1024, .f32⟩
  | .hbm, ⟨24, _⟩ => ⟨S_, .f32⟩
  | .hbm, ⟨25, _⟩ => ⟨S1x704x1024, .f32⟩
  | .hbm, ⟨26, _⟩ => ⟨S1x704x1024, .f32⟩
  | .hbm, ⟨27, _⟩ => ⟨S1x704x1024, .f32⟩
  | .hbm, ⟨28, _⟩ => ⟨S_, .f32⟩
  | .hbm, ⟨29, _⟩ => ⟨S1x704x1024, .f32⟩
  | .hbm, ⟨30, _⟩ => ⟨S1x704x1024, .f32⟩
  | .hbm, ⟨31, _⟩ => ⟨S1x704x1024, .f32⟩
  | .hbm, ⟨32, _⟩ => ⟨S_, .f32⟩
  | .hbm, ⟨33, _⟩ => ⟨S1x704x1024, .f32⟩
  | .hbm, ⟨34, _⟩ => ⟨S1x704x1024, .f32⟩
  | .hbm, ⟨35, _⟩ => ⟨S_, .f32⟩
  | .hbm, ⟨36, _⟩ => ⟨S1x704x1024, .f32⟩
  | .hbm, ⟨37, _⟩ => ⟨S1x704x1024, .f32⟩
  | .hbm, ⟨38, _⟩ => ⟨S1x704x1024, .f32⟩
  | .hbm, ⟨39, _⟩ => ⟨S_, .f32⟩
  | .hbm, ⟨40, _⟩ => ⟨S1x704x1024, .f32⟩
  | .hbm, ⟨41, _⟩ => ⟨S1x704x1024, .f32⟩
  | .hbm, ⟨42, _⟩ => ⟨S1x704x1024, .f32⟩
  | .hbm, ⟨43, _⟩ => ⟨S_, .f32⟩
  | .hbm, ⟨44, _⟩ => ⟨S1x704x1024, .f32⟩
  | .hbm, ⟨45, _⟩ => ⟨S1x704x1024, .f32⟩
  | .hbm, ⟨46, _⟩ => ⟨S1x704x1024, .f32⟩
  | .hbm, ⟨47, _⟩ => ⟨S_, .f32⟩
  | .hbm, ⟨48, _⟩ => ⟨S1x704x1024, .f32⟩
  | .hbm, ⟨49, _⟩ => ⟨S1x704x1024, .f32⟩
  | .hbm, ⟨50, _⟩ => ⟨S704x1024, .f32⟩
  | .hbm, ⟨51, _⟩ => ⟨S704x1024, .f32⟩
  | .hbm, ⟨52, _⟩ => ⟨S704x1024, .f32⟩
  | .hbm, ⟨53, _⟩ => ⟨S704x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 2
abbrev τ : Topo := Topo.v7x

variable {F : FTy → Type} [FloatOps F]
-- ==== Oa.lean ====
abbrev S8x16x1024 : Shape := ⟨3, ![8, 16, 1024]⟩
abbrev S8x2304 : Shape := ⟨2, ![8, 2304]⟩
abbrev S1x1024x2304 : Shape := ⟨3, ![1, 1024, 2304]⟩
abbrev S1024x2304 : Shape := ⟨2, ![1024, 2304]⟩
abbrev S8x16x128 : Shape := ⟨3, ![8, 16, 128]⟩
abbrev S128x2304 : Shape := ⟨2, ![128, 2304]⟩
abbrev S1x1x128 : Shape := ⟨3, ![1, 1, 128]⟩
abbrev S1x128 : Shape := ⟨2, ![1, 128]⟩
abbrev S8x128 : Shape := ⟨2, ![8, 128]⟩

abbrev nBuf : Space → Nat
  | .hbm => 12
  | .vmem => 17
  | .smem => 0
  | _ => 0

abbrev bufTy : (tb : Table) → Fin (tcTables nBuf tb) → BufTy
  | .hbm, ⟨0, _⟩ => ⟨S8x16x1024, .f32⟩
  | .hbm, ⟨1, _⟩ => ⟨S8x2304, .f32⟩
  | .hbm, ⟨2, _⟩ => ⟨S1x1024x2304, .f32⟩
  | .hbm, ⟨3, _⟩ => ⟨S1x1024x2304, .f32⟩
  | .hbm, ⟨4, _⟩ => ⟨S1x1024x2304, .f32⟩
  | .hbm, ⟨5, _⟩ => ⟨S1024x2304, .f32⟩
  | .hbm, ⟨6, _⟩ => ⟨S1024x2304, .f32⟩
  | .hbm, ⟨7, _⟩ => ⟨S1024x2304, .f32⟩
  | .hbm, ⟨8, _⟩ => ⟨S1024x2304, .f32⟩
  | .hbm, ⟨9, _⟩ => ⟨S1024x2304, .f32⟩
  | .hbm, ⟨10, _⟩ => ⟨S1024x2304, .f32⟩
  | .hbm, ⟨11, _⟩ => ⟨S1024x2304, .f32⟩
  | .local _ .vmem, ⟨0, _⟩ => ⟨S8x16x128, .f32⟩
  | .local _ .vmem, ⟨1, _⟩ => ⟨S8x16x128, .f32⟩
  | .local _ .vmem, ⟨2, _⟩ => ⟨S8x2304, .f32⟩
  | .local _ .vmem, ⟨3, _⟩ => ⟨S128x2304, .f32⟩
  | .local _ .vmem, ⟨4, _⟩ => ⟨S128x2304, .f32⟩
  | .local _ .vmem, ⟨5, _⟩ => ⟨S128x2304, .f32⟩
  | .local _ .vmem, ⟨6, _⟩ => ⟨S128x2304, .f32⟩
  | .local _ .vmem, ⟨7, _⟩ => ⟨S128x2304, .f32⟩
  | .local _ .vmem, ⟨8, _⟩ => ⟨S128x2304, .f32⟩
  | .local _ .vmem, ⟨9, _⟩ => ⟨S128x2304, .f32⟩
  | .local _ .vmem, ⟨10, _⟩ => ⟨S128x2304, .f32⟩
  | .local _ .vmem, ⟨11, _⟩ => ⟨S128x2304, .f32⟩
  | .local _ .vmem, ⟨12, _⟩ => ⟨S128x2304, .f32⟩
  | .local _ .vmem, ⟨13, _⟩ => ⟨S128x2304, .f32⟩
  | .local _ .vmem, ⟨14, _⟩ => ⟨S128x2304, .f32⟩
  | .local _ .vmem, ⟨15, _⟩ => ⟨S128x2304, .f32⟩
  | .local _ .vmem, ⟨16, _⟩ => ⟨S128x2304, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2304 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2304 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== QaIdeal.lean ====
abbrev S8x16x1024 : Shape := ⟨3, ![8, 16, 1024]⟩
abbrev S8x2304 : Shape := ⟨2, ![8, 2304]⟩
abbrev S1x1024x2304 : Shape := ⟨3, ![1, 1024, 2304]⟩
abbrev S8x1x1024 : Shape := ⟨3, ![8, 1, 1024]⟩
abbrev S8x1024 : Shape := ⟨2, ![8, 1024]⟩
abbrev S1024x2304 : Shape := ⟨2, ![1024, 2304]⟩
abbrev S_ : Shape := ⟨0, ![]⟩
abbrev S2304x1024 : Shape := ⟨2, ![2304, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S8x2304, .f32⟩
  | .hbm, ⟨2, _⟩ => ⟨S1x1024x2304, .f32⟩
  | .hbm, ⟨3, _⟩ => ⟨S1x1024x2304, .f32⟩
  | .hbm, ⟨4, _⟩ => ⟨S1x1024x2304, .f32⟩
  | .hbm, ⟨5, _⟩ => ⟨S8x1x1024, .f32⟩
  | .hbm, ⟨6, _⟩ => ⟨S8x1024, .f32⟩
  | .hbm, ⟨7, _⟩ => ⟨S1024x2304, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x2304, .f32⟩
  | .hbm, ⟨18, _⟩ => ⟨S2304x1024, .f32⟩
  | .hbm, ⟨19, _⟩ => ⟨S1024x2304, .f32⟩
  | .hbm, ⟨20, _⟩ => ⟨S1x1024x2304, .f32⟩
  | .hbm, ⟨21, _⟩ => ⟨S_, .f32⟩
  | .hbm, ⟨22, _⟩ => ⟨S1x1024x2304, .f32⟩
  | .hbm, ⟨23, _⟩ => ⟨S1x1024x2304, .f32⟩
  | .hbm, ⟨24, _⟩ => ⟨S_, .f32⟩
  | .hbm, ⟨25, _⟩ => ⟨S1x1024x2304, .f32⟩
  | .hbm, ⟨26, _⟩ => ⟨S1x1024x2304, .f32⟩
  | .hbm, ⟨27, _⟩ => ⟨S1x1024x2304, .f32⟩
  | .hbm, ⟨28, _⟩ => ⟨S_, .f32⟩
  | .hbm, ⟨29, _⟩ => ⟨S1x1024x2304, .f32⟩
  | .hbm, ⟨30, _⟩ => ⟨S1x1024x2304, .f32⟩
  | .hbm, ⟨31, _⟩ => ⟨S1x1024x2304, .f32⟩
  | .hbm, ⟨32, _⟩ => ⟨S_, .f32⟩
  | .hbm, ⟨33, _⟩ => ⟨S1x1024x2304, .f32⟩
  | .hbm, ⟨34, _⟩ => ⟨S1x1024x2304, .f32⟩
  | .hbm, ⟨35, _⟩ => ⟨S1x1024x2304, .f32⟩
  | .hbm, ⟨36, _⟩ => ⟨S_, .f32⟩
  | .hbm, ⟨37, _⟩ => ⟨S1x1024x2304, .f32⟩
  | .hbm, ⟨38, _⟩ => ⟨S1x1024x2304, .f32⟩
  | .hbm, ⟨39, _⟩ => ⟨S_, .f32⟩
  | .hbm, ⟨40, _⟩ => ⟨S1x1024x2304, .f32⟩
  | .hbm, ⟨41, _⟩ => ⟨S1x1024x2304, .f32⟩
  | .hbm, ⟨42, _⟩ => ⟨S1x1024x2304, .f32⟩
  | .hbm, ⟨43, _⟩ => ⟨S_, .f32⟩
  | .hbm, ⟨44, _⟩ => ⟨S1x1024x2304, .f32⟩
  | .hbm, ⟨45, _⟩ => ⟨S1x1024x2304, .f32⟩
  | .hbm, ⟨46, _⟩ => ⟨S1x1024x2304, .f32⟩
  | .hbm, ⟨47, _⟩ => ⟨S_, .f32⟩
  | .hbm, ⟨48, _⟩ => ⟨S1x1024x2304, .f32⟩
  | .hbm, ⟨49, _⟩ => ⟨S1x1024x2304, .f32⟩
  | .hbm, ⟨50, _⟩ => ⟨S1x1024x2304, .f32⟩
  | .hbm, ⟨51, _⟩ => ⟨S_, .f32⟩
  | .hbm, ⟨52, _⟩ => ⟨S1x1024x2304, .f32⟩
  | .hbm, ⟨53, _⟩ => ⟨S1x1024x2304, .f32⟩
  | .hbm, ⟨54, _⟩ => ⟨S1024x2304, .f32⟩
  | .hbm, ⟨55, _⟩ => ⟨S1024x2304, .f32⟩
  | .hbm, ⟨56, _⟩ => ⟨S1024x2304, .f32⟩
  | .hbm, ⟨57, _⟩ => ⟨S1024x2304, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩

abbrev nD : Nat := 1
abbrev τ : Topo := Topo.v7x

variable {F : FTy → Type} [FloatOps F]
-- ==== Os.lean ====
abbrev S8x24x1024 : Shape := ⟨3, ![8, 24, 1024]⟩
abbrev S24x1024 : Shape := ⟨2, ![24, 1024]⟩
abbrev S1x24x1024 : Shape := ⟨3, ![1, 24, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S24x1024, .f32⟩
  | .hbm, ⟨5, _⟩ => ⟨S24x1024, .f32⟩
  | .hbm, ⟨6, _⟩ => ⟨S24x1024, .f32⟩
  | .hbm, ⟨7, _⟩ => ⟨S24x1024, .f32⟩
  | .local _ .vmem, ⟨0, _⟩ => ⟨S8x24x1024, .f32⟩
  | .local _ .vmem, ⟨1, _⟩ => ⟨S24x1024, .f32⟩
  | .local _ .vmem, ⟨2, _⟩ => ⟨S24x1024, .f32⟩
  | .local _ .vmem, ⟨3, _⟩ => ⟨S24x1024, .f32⟩
  | .local _ .vmem, ⟨4, _⟩ => ⟨S24x1024, .f32⟩
  | .local _ .vmem, ⟨5, _⟩ => ⟨S24x1024, .f32⟩
  | .local _ .vmem, ⟨6, _⟩ => ⟨S24x1024, .f32⟩
  | .local _ .vmem, ⟨7, _⟩ => ⟨S24x1024, .f32⟩
  | _, _ => ⟨S8x24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== QsIdeal.lean ====
abbrev S8x24x1024 : Shape := ⟨3, ![8, 24, 1024]⟩
abbrev S24x1024 : Shape := ⟨2, ![24, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S_, .f32⟩
  | .hbm, ⟨5, _⟩ => ⟨S24x1024, .f32⟩
  | .hbm, ⟨6, _⟩ => ⟨S_, .f32⟩
  | .hbm, ⟨7, _⟩ => ⟨S24x1024, .f32⟩
  | .hbm, ⟨8, _⟩ => ⟨S24x1024, .f32⟩
  | .hbm, ⟨9, _⟩ => ⟨S_, .f32⟩
  | .hbm, ⟨10, _⟩ => ⟨S24x1024, .f32⟩
  | .hbm, ⟨11, _⟩ => ⟨S24x1024, .f32⟩
  | .hbm, ⟨12, _⟩ => ⟨S24x1024, .f32⟩
  | .hbm, ⟨13, _⟩ => ⟨S_, .f32⟩
  | .hbm, ⟨14, _⟩ => ⟨S24x1024, .f32⟩
  | .hbm, ⟨15, _⟩ => ⟨S24x1024, .f32⟩
  | .hbm, ⟨16, _⟩ => ⟨S24x1024, .f32⟩
  | .hbm, ⟨17, _⟩ => ⟨S_, .f32⟩
  | .hbm, ⟨18, _⟩ => ⟨S24x1024, .f32⟩
  | .hbm, ⟨19, _⟩ => ⟨S24x1024, .f32⟩
  | .hbm, ⟨20, _⟩ => ⟨S24x1024, .f32⟩
  | .hbm, ⟨21, _⟩ => ⟨S_, .f32⟩
  | .hbm, ⟨22, _⟩ => ⟨S24x1024, .f32⟩
  | .hbm, ⟨23, _⟩ => ⟨S24x1024, .f32⟩
  | .hbm, ⟨24, _⟩ => ⟨S_, .f32⟩
  | .hbm, ⟨25, _⟩ => ⟨S24x1024, .f32⟩
  | .hbm, ⟨26, _⟩ => ⟨S24x1024, .f32⟩
  | .hbm, ⟨27, _⟩ => ⟨S24x1024, .f32⟩
  | .hbm, ⟨28, _⟩ => ⟨S_, .f32⟩
  | .hbm, ⟨29, _⟩ => ⟨S24x1024, .f32⟩
  | .hbm, ⟨30, _⟩ => ⟨S24x1024, .f32⟩
  | .hbm, ⟨31, _⟩ => ⟨S24x1024, .f32⟩
  | .hbm, ⟨32, _⟩ => ⟨S_, .f32⟩
  | .hbm, ⟨33, _⟩ => ⟨S24x1024, .f32⟩
  | .hbm, ⟨34, _⟩ => ⟨S24x1024, .f32⟩
  | .hbm, ⟨35, _⟩ => ⟨S24x1024, .f32⟩
  | .hbm, ⟨36, _⟩ => ⟨S_, .f32⟩
  | .hbm, ⟨37, _⟩ => ⟨S24x1024, .f32⟩
  | .hbm, ⟨38, _⟩ => ⟨S24x1024, .f32⟩
  | _, _ => ⟨S8x24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Op.lean ====
abbrev S8x512x128 : Shape := ⟨3, ![8, 512, 128]⟩
abbrev S1x4x128x128 : Shape := ⟨4, ![1, 4, 128, 128]⟩
abbrev S512x128 : Shape := ⟨2, ![512, 128]⟩
abbrev S1x512x128 : Shape := ⟨3, ![1, 512, 128]⟩

abbrev nBuf : Space → Nat
  | .hbm => 11
  | .vmem => 8
  | .smem => 0
  | _ => 0

abbrev bufTy : (tb : Table) → Fin (tcTables nBuf tb) → BufTy
  | .hbm, ⟨0, _⟩ => ⟨S8x512x128, .f32⟩
  | .hbm, ⟨1, _⟩ => ⟨S1x4x128x128, .f32⟩
  | .hbm, ⟨2, _⟩ => ⟨S1x4x128x128, .f32⟩
  | .hbm, ⟨3, _⟩ => ⟨S1x4x128x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .hbm, ⟨8, _⟩ => ⟨S512x128, .f32⟩
  | .hbm, ⟨9, _⟩ => ⟨S512x128, .f32⟩
  | .hbm, ⟨10, _⟩ => ⟨S512x128, .f32⟩
  | .local _ .vmem, ⟨0, _⟩ => ⟨S8x512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S8x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== QpIdeal.lean ====
abbrev S8x512x128 : Shape := ⟨3, ![8, 512, 128]⟩
abbrev S1x4x128x128 : Shape := ⟨4, ![1, 4, 128, 128]⟩
abbrev S_ : Shape := ⟨0, ![]⟩
abbrev S512x128 : Shape := ⟨2, ![512, 128]⟩

abbrev nBuf : Space → Nat
  | .hbm => 44
  | .vmem => 0
  | .smem => 0
  | _ => 0

abbrev bufTy : (tb : Table) → Fin (tcTables nBuf tb) → BufTy
  | .hbm, ⟨0, _⟩ => ⟨S8x512x128, .f32⟩
  | .hbm, ⟨1, _⟩ => ⟨S1x4x128x128, .f32⟩
  | .hbm, ⟨2, _⟩ => ⟨S1x4x128x128, .f32⟩
  | .hbm, ⟨3, _⟩ => ⟨S1x4x128x128, .f32⟩
  | .hbm, ⟨4, _⟩ => ⟨S_, .f32⟩
  | .hbm, ⟨5, _⟩ => ⟨S512x128, .f32⟩
  | .hbm, ⟨6, _⟩ => ⟨S1x4x128x128, .f32⟩
  | .hbm, ⟨7, _⟩ => ⟨S_, .f32⟩
  | .hbm, ⟨8, _⟩ => ⟨S1x4x128x128, .f32⟩
  | .hbm, ⟨9, _⟩ => ⟨S1x4x128x128, .f32⟩
  | .hbm, ⟨10, _⟩ => ⟨S_, .f32⟩
  | .hbm, ⟨11, _⟩ => ⟨S1x4x128x128, .f32⟩
  | .hbm, ⟨12, _⟩ => ⟨S1x4x128x128, .f32⟩
  | .hbm, ⟨13, _⟩ => ⟨S1x4x128x128, .f32⟩
  | .hbm, ⟨14, _⟩ => ⟨S_, .f32⟩
  | .hbm, ⟨15, _⟩ => ⟨S1x4x128x128, .f32⟩
  | .hbm, ⟨16, _⟩ => ⟨S1x4x128x128, .f32⟩
  | .hbm, ⟨17, _⟩ => ⟨S1x4x128x128, .f32⟩
  | .hbm, ⟨18, _⟩ => ⟨S_, .f32⟩
  | .hbm, ⟨19, _⟩ => ⟨S1x4x128x128, .f32⟩
  | .hbm, ⟨20, _⟩ => ⟨S1x4x128x128, .f32⟩
  | .hbm, ⟨21, _⟩ => ⟨S1x4x128x128, .f32⟩
  | .hbm, ⟨22, _⟩ => ⟨S_, .f32⟩
  | .hbm, ⟨23, _⟩ => ⟨S1x4x128x128, .f32⟩
  | .hbm, ⟨24, _⟩ => ⟨S1x4x128x128, .f32⟩
  | .hbm, ⟨25, _⟩ => ⟨S_, .f32⟩
  | .hbm, ⟨26, _⟩ => ⟨S1x4x128x128, .f32⟩
  | .hbm, ⟨27, _⟩ => ⟨S1x4x128x128, .f32⟩
  | .hbm, ⟨28, _⟩ => ⟨S1x4x128x128, .f32⟩
  | .hbm, ⟨29, _⟩ => ⟨S_, .f32⟩
  | .hbm, ⟨30, _⟩ => ⟨S1x4x128x128, .f32⟩
  | .hbm, ⟨31, _⟩ => ⟨S1x4x128x128, .f32⟩
  | .hbm, ⟨32, _⟩ => ⟨S1x4x128x128, .f32⟩
  | .hbm, ⟨33, _⟩ => ⟨S_, .f32⟩
  | .hbm, ⟨34, _⟩ => ⟨S1x4x128x128, .f32⟩
  | .hbm, ⟨35, _⟩ => ⟨S1x4x128x128, .f32⟩
  | .hbm, ⟨36, _⟩ => ⟨S1x4x128x128, .f32⟩
  | .hbm, ⟨37, _⟩ => ⟨S_, .f32⟩
  | .hbm, ⟨38, _⟩ => ⟨S1x4x128x128, .f32⟩
  | .hbm, ⟨39, _⟩ => ⟨S1x4x128x128, .f32⟩
  | .hbm, ⟨40, _⟩ => ⟨S512x128, .f32⟩
  | .hbm, ⟨41, _⟩ => ⟨S512x128, .f32⟩
  | .hbm, ⟨42, _⟩ => ⟨S512x128, .f32⟩
  | .hbm, ⟨43, _⟩ => ⟨S512x128, .f32⟩
  | _, _ => ⟨S8x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Sl.lean ====
abbrev S4x704x1024 : Shape := ⟨3, ![4, 704, 1024]⟩
abbrev S704x1024 : Shape := ⟨2, ![704, 1024]⟩
abbrev S4x352x1024 : Shape := ⟨3, ![4, 352, 1024]⟩
abbrev S352x1024 : Shape := ⟨2, ![352, 1024]⟩
abbrev S1x352x1024 : Shape := ⟨3, ![1, 352, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x704x1024, .bf16⟩
  | .hbm, ⟨1, _⟩ => ⟨S704x1024, .f32⟩
  | .local _ .vmem, ⟨0, _⟩ => ⟨S4x352x1024, .bf16⟩
  | .local _ .vmem, ⟨1, _⟩ => ⟨S4x352x1024, .bf16⟩
  | .local _ .vmem, ⟨2, _⟩ => ⟨S352x1024, .f32⟩
  | .local _ .vmem, ⟨3, _⟩ => ⟨S352x1024, .f32⟩
  | _, _ => ⟨S4x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== TlIdeal.lean ====
abbrev S4x704x1024 : Shape := ⟨3, ![4, 704, 1024]⟩
abbrev S_ : Shape := ⟨0, ![]⟩
abbrev S704x1024 : Shape := ⟨2, ![704, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x704x1024, .bf16⟩
  | .hbm, ⟨1, _⟩ => ⟨S4x704x1024, .f32⟩
  | .hbm, ⟨2, _⟩ => ⟨S_, .f32⟩
  | .hbm, ⟨3, _⟩ => ⟨S704x1024, .f32⟩
  | _, _ => ⟨S4x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Sk.lean ====
abbrev S4x704x1024 : Shape := ⟨3, ![4, 704, 1024]⟩
abbrev S4x352x1024 : Shape := ⟨3, ![4, 352, 1024]⟩
abbrev S1x704x1024 : Shape := ⟨3, ![1, 704, 1024]⟩
abbrev S1x352x1024 : Shape := ⟨3, ![1, 352, 1024]⟩
abbrev S352x1024 : Shape := ⟨2, ![352, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x704x1024, .bf16⟩
  | .hbm, ⟨1, _⟩ => ⟨S4x352x1024, .bf16⟩
  | .hbm, ⟨2, _⟩ => ⟨S4x352x1024, .bf16⟩
  | .local _ .vmem, ⟨0, _⟩ => ⟨S1x704x1024, .bf16⟩
  | .local _ .vmem, ⟨1, _⟩ => ⟨S1x704x1024, .bf16⟩
  | .local _ .vmem, ⟨2, _⟩ => ⟨S1x352x1024, .bf16⟩
  | .local _ .vmem, ⟨3, _⟩ => ⟨S1x352x1024, .bf16⟩
  | .local _ .vmem, ⟨4, _⟩ => ⟨S1x352x1024, .bf16⟩
  | .local _ .vmem, ⟨5, _⟩ => ⟨S1x352x1024, .bf16⟩
  | _, _ => ⟨S4x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 2
abbrev τ : Topo := Topo.v7x

variable {F : FTy → Type} [FloatOps F]

abbrev grid0 : Pipeline.Grid := ⟨1, ![4], ![false]⟩

def k0_mult1 (d0 : Dev nD) : BitVec 32 :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c352_i32 : BitVec 32 := 352#32
  let v3 : BitVec 32 := Scalar.muli v2 c352_i32
  v3
def k0_off1 (d0 : Dev nD) : Fin 3 → Nat :=
  let c0 : Index := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c352_i32 : BitVec 32 := 352#32
  let v3 : BitVec 32 := Scalar.muli v2 c352_i32
  let v4 : BitVec 32 := v3
  let v5 : Index := Scalar.indexCast v4
  let c0_0 : Index := 0#32
  ![0, v5.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x704x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== TkIdeal.lean ====
abbrev S4x704x1024 : Shape := ⟨3, ![4, 704, 1024]⟩
abbrev S4x352x1024 : Shape := ⟨3, ![4, 352, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4x704x1024, .bf16⟩
  | .hbm, ⟨1, _⟩ => ⟨S4x352x1024, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S4x352x1024, .bf16⟩
  | .hbm, ⟨11, _⟩ => ⟨S4x352x1024, .bf16⟩
  | .hbm, ⟨12, _⟩ => ⟨S4x352x1024, .bf16⟩
  | .hbm, ⟨13, _⟩ => ⟨S4x352x1024, .f32⟩
  | .hbm, ⟨14, _⟩ => ⟨S4x352x1024, .f32⟩
  | .hbm, ⟨15, _⟩ => ⟨S4x352x1024, .f32⟩
  | .hbm, ⟨16, _⟩ => ⟨S4x352x1024, .bf16⟩
  | _, _ => ⟨S4x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 2
abbrev τ : Topo := Topo.v7x

variable {F : FTy → Type} [FloatOps F]
-- ==== Proof.WgradPoint.lean ====
/-
  The weight gradients of the gated feed-forward layer, one grid point at a time.

  The kernel walks a grid of 2 column halves by 16 token blocks. A point multiplies 512 tokens of a left operand
  (da, db or the gated product) by the same 512 tokens of a right operand (the layer's input or the output's gradient)
  and adds the product to an accumulator that is cleared at the first token block; the last token block writes the
  accumulator out. This module says what the three accumulators hold when they are written: the sum over all 8192 tokens.
-/
module

public import proofs.«01_k».proof.Proof.Gen.DwIdeal.Value
public import Idealize.ShloMosaic.Lib.Pipeline.ValueKit.Acc
public import Idealize.ShloMosaic.Lib.Pipeline.ValueKit.Geometry
public import Idealize.ShloMosaic.Lib.Pointwise
public import Idealize.ShloMosaic.Lib.Claim
public import Idealize.ShloMosaic.Lib.Tactic
public import Idealize.ShloMosaic.Lib.StableHlo.ReadAt

@[expose] public section

noncomputable section

namespace Cert.DwIdeal.Grad

open Idealize.ShloMosaic Idealize.ShloMosaic.TcCoe Idealize.SL.Sem
open Cert.DwIdeal Cert.DwIdeal.Gen

variable (m : (ℓ : Loc nD τ sig) → Buf (Elt Ideal) ℓ)

/-- One point's product: 512 tokens of `x` against the same tokens of `y`. -/
def part (x : Vec Ideal S512x1408 .bf16) (y : Vec Ideal S512x1024 .bf16) (j : S1408x1024.Idx) : EReal :=
  ∑ k : Fin 512, x (ix2 k (j 0)) * y (ix2 k (j 1))

/-- The product over all tokens: what a weight gradient is. -/
def dotRows (X : S8192x2816.Idx → EReal) (Y : S8192x1024.Idx → EReal) (i : S2816x1024.Idx) : EReal :=
  ∑ k : Fin 8192, X (ix2 k (i 0)) * Y (ix2 k (i 1))

theorem mm_apply (x : FVec Ideal S512x1408 .bf16) (y : FVec Ideal S512x1024 .bf16) (j : S1408x1024.Idx) :
    matmul dot_S512x1408_S512x1024_S1408x1024_0_0_1_1_n_n none x y (constant S1408x1024 .f32 0x00000000#32) j = part x y j := by
  unfold part
  pointwise

/-! ## The stored values -/

theorem pay8 (acc : Vec Ideal S1408x1024 .f32) (x : Vec Ideal S512x1408 .bf16) (y : Vec Ideal S512x1024 .bf16) (j : S1408x1024.Idx) :
    k0_pay8 acc x y j = acc j + part x y j := by
  unfold k0_pay8
  simp only [shapeCast_self]
  show acc j + _ = _
  rw [← mm_apply]

theorem pay9 (acc : Vec Ideal S1408x1024 .f32) (x : Vec Ideal S512x1408 .bf16) (y : Vec Ideal S512x1024 .bf16) (j : S1408x1024.Idx) :
    k0_pay9 acc x y j = acc j + part x y j := by
  unfold k0_pay9
  simp only [shapeCast_self]
  show acc j + _ = _
  rw [← mm_apply]

theorem pay1 (acc : Vec Ideal S1408x1024 .f32) (x : Vec Ideal S512x1408 .bf16) (y : Vec Ideal S512x1024 .bf16) (j : S1408x1024.Idx) :
    k0_pay1 acc (k0_pay10 x) (k0_pay11 y) (constant S1408x1024 .f32 0x00000000#32) j = acc j + part x y j := by
  unfold k0_pay1 k0_pay10 k0_pay11
  simp only [shapeCast_self]
  show acc j + _ = _
  rw [← mm_apply]

theorem zero5 (j : S1408x1024.Idx) : k0_pay5 (F := Ideal) j = 0 := by unfold k0_pay5; pointwise
theorem zero6 (j : S1408x1024.Idx) : k0_pay6 (F := Ideal) j = 0 := by unfold k0_pay6; pointwise
theorem zero7 (j : S1408x1024.Idx) : k0_pay7 (F := Ideal) j = 0 := by unfold k0_pay7; pointwise

/-! ## The blocks, read off the arrays -/

theorem idx_0 : ∀ t : Fin cfg0.N, win0_0.index t (0 : Fin 2) = t.val % 16 ∧ win0_0.index t (1 : Fin 2) = t.val / 16 :=
  (by decide +kernel : ∀ t : Fin grid0.N, _)
theorem idx_1 : ∀ t : Fin cfg0.N, win0_1.index t (0 : Fin 2) = t.val % 16 ∧ win0_1.index t (1 : Fin 2) = t.val / 16 :=
  (by decide +kernel : ∀ t : Fin grid0.N, _)
theorem idx_2 : ∀ t : Fin cfg0.N, win0_2.index t (0 : Fin 2) = t.val % 16 ∧ win0_2.index t (1 : Fin 2) = t.val / 16 :=
  (by decide +kernel : ∀ t : Fin grid0.N, _)
theorem idx_3 : ∀ t : Fin cfg0.N, win0_3.index t (0 : Fin 2) = t.val % 16 ∧ win0_3.index t (1 : Fin 2) = 0 :=
  (by decide +kernel : ∀ t : Fin grid0.N, _)
theorem idx_4 : ∀ t : Fin cfg0.N, win0_4.index t (0 : Fin 2) = t.val % 16 ∧ win0_4.index t (1 : Fin 2) = 0 :=
  (by decide +kernel : ∀ t : Fin grid0.N, _)

/-- A block of a left operand at point `t`: token block `t % 16`, column half `t / 16`. -/
def LeftAt (X : S8192x2816.Idx → EReal) (x : (t : Fin cfg0.N) → Vec Ideal S512x1408 .bf16) : Prop :=
  ∀ (t : Fin cfg0.N) (k : Fin 512) (a : Fin 1408) (i : S8192x2816.Idx),
    (i 0).val = t.val % 16 * 512 + k.val → (i 1).val = t.val / 16 * 1408 + a.val → x t (ix2 k a) = X i

/-- A block of a right operand at point `t`: token block `t % 16`, all columns. -/
def RightAt (Y : S8192x1024.Idx → EReal) (y : (t : Fin cfg0.N) → Vec Ideal S512x1024 .bf16) : Prop :=
  ∀ (t : Fin cfg0.N) (k : Fin 512) (b : Fin 1024) (i : S8192x1024.Idx),
    (i 0).val = t.val % 16 * 512 + k.val → (i 1).val = b.val → y t (ix2 k b) = Y i

theorem left0 (c : Dev nD) : LeftAt (V m c main_v2) fun t => iblk m c 0 t := fun t k a i h0 h1 => by
  blk_ext [iblk, idx_0 t, h0, h1]
theorem left1 (c : Dev nD) : LeftAt (V m c main_v3) fun t => iblk m c 1 t := fun t k a i h0 h1 => by
  blk_ext [iblk, idx_1 t, h0, h1]
theorem left2 (c : Dev nD) : LeftAt (V m c main_v4) fun t => iblk m c 2 t := fun t k a i h0 h1 => by
  blk_ext [iblk, idx_2 t, h0, h1]
theorem right3 (c : Dev nD) : RightAt (V m c main_v5) fun t => iblk m c 3 t := fun t k a i h0 h1 => by
  blk_ext [iblk, idx_3 t, h0, h1]
theorem right4 (c : Dev nD) : RightAt (V m c main_v6) fun t => iblk m c 4 t := fun t k a i h0 h1 => by
  blk_ext [iblk, idx_4 t, h0, h1]

/-- The 16 token blocks of one column half are all 8192 tokens. -/
theorem sum_parts (X : S8192x2816.Idx → EReal) (Y : S8192x1024.Idx → EReal) (x : (t : Fin cfg0.N) → Vec Ideal S512x1408 .bf16)
    (y : (t : Fin cfg0.N) → Vec Ideal S512x1024 .bf16) (hx : LeftAt X x) (hy : RightAt Y y) (t : Fin cfg0.N)
    (j : S1408x1024.Idx) (i : S2816x1024.Idx) (hi0 : (i 0).val = t.val / 16 * 1408 + (j 0).val) (hi1 : (i 1).val = (j 1).val)
    (hb : ∀ s : Fin 16, 16 * (t.val / 16) + s.val < cfg0.N) :
    ∑ s : Fin 16, part (x ⟨16 * (t.val / 16) + s.val, hb s⟩) (y ⟨16 * (t.val / 16) + s.val, hb s⟩) j = dotRows X Y i := by
  unfold part dotRows
  refine Fin.sum_mul_add_congr fun s k hl => ?_
  have hd : (16 * (t.val / 16) + s.val) / 16 = t.val / 16 := by omega
  have hm : (16 * (t.val / 16) + s.val) % 16 = s.val := by omega
  rw [hx _ k (j 0) (ix2 ⟨s.val * 512 + k.val, hl⟩ (i 0)) (by show _ = _ % 16 * 512 + _; rw [hm]; rfl) (by show (i 0).val = _ / 16 * 1408 + _; rw [hd]; exact hi0),
    hy _ k (j 1) (ix2 ⟨s.val * 512 + k.val, hl⟩ (i 1)) (by show _ = _ % 16 * 512 + _; rw [hm]; rfl) hi1]

/-! ## The accumulators at the points that write them -/

section
variable (c : Dev nD) (t : Fin cfg0.N) (h : t.val % 16 = 15) (j : S1408x1024.Idx) (i : S2816x1024.Idx)
  (hi0 : (i 0).val = t.val / 16 * 1408 + (j 0).val) (hi1 : (i 1).val = (j 1).val)
include h hi0 hi1

theorem acc0_sum : (outsAt0 m c t.val t.isLt).2.2.2.1 j = dotRows (V m c main_v2) (V m c main_v5) i := by
  rw [Pipeline.eq_sum_fin_of_reset_step_apply_of_flush (fun n h => (outsAt0 m c n h).2.2.2.1) 16 (fun _ => 0) _
      (fun t h0 j => by rw [outsAt0_A m c t h0 (by omega)]; frame_out; rw [pay8, zero5])
      (fun t h0 j => by
        by_cases h1 : t.val % 16 = 15
        · rw [outsAt0_C m c t h0 h1]; frame_out; rw [pay8, (Memref.isWhole_whole _).read_unread]
        · rw [outsAt0_B m c t h0 h1]; frame_out; rw [pay8, (Memref.isWhole_whole _).read_unread]) t h j]
  exact (zero_add _).trans (sum_parts _ _ _ _ (left0 m c) (right3 m c) t j i hi0 hi1 _)

theorem acc1_sum : (outsAt0 m c t.val t.isLt).2.2.2.2.1 j = dotRows (V m c main_v3) (V m c main_v5) i := by
  rw [Pipeline.eq_sum_fin_of_reset_step_apply_of_flush (fun n h => (outsAt0 m c n h).2.2.2.2.1) 16 (fun _ => 0) _
      (fun t h0 j => by rw [outsAt0_A m c t h0 (by omega)]; frame_out; rw [pay9, zero6])
      (fun t h0 j => by
        by_cases h1 : t.val % 16 = 15
        · rw [outsAt0_C m c t h0 h1]; frame_out; rw [pay9, (Memref.isWhole_whole _).read_unread]
        · rw [outsAt0_B m c t h0 h1]; frame_out; rw [pay9, (Memref.isWhole_whole _).read_unread]) t h j]
  exact (zero_add _).trans (sum_parts _ _ _ _ (left1 m c) (right3 m c) t j i hi0 hi1 _)

theorem acc2_sum : (outsAt0 m c t.val t.isLt).2.2.2.2.2 j = dotRows (V m c main_v4) (V m c main_v6) i := by
  rw [Pipeline.eq_sum_fin_of_reset_step_apply_of_flush (fun n h => (outsAt0 m c n h).2.2.2.2.2) 16 (fun _ => 0) _
      (fun t h0 j => by rw [outsAt0_A m c t h0 (by omega)]; frame_out; rw [pay1, zero7])
      (fun t h0 j => by
        by_cases h1 : t.val % 16 = 15
        · rw [outsAt0_C m c t h0 h1]; frame_out; rw [pay1, (Memref.isWhole_whole _).read_unread]
        · rw [outsAt0_B m c t h0 h1]; frame_out; rw [pay1, (Memref.isWhole_whole _).read_unread]) t h j]
  exact (zero_add _).trans (sum_parts _ _ _ _ (left2 m c) (right4 m c) t j i hi0 hi1 _)

end

/-! ## What the last token block writes: the accumulators -/

theorem out5_eq (c : Dev nD) (t : Fin cfg0.N) (h : t.val % 16 = 15) (j : S1408x1024.Idx) :
    (outsAt0 m c t.val t.isLt).1 j = (outsAt0 m c t.val t.isLt).2.2.2.1 j := by
  rw [outsAt0_C m c t (by omega) h]; frame_out; rfl

theorem out6_eq (c : Dev nD) (t : Fin cfg0.N) (h : t.val % 16 = 15) (j : S1408x1024.Idx) :
    (outsAt0 m c t.val t.isLt).2.1 j = (outsAt0 m c t.val t.isLt).2.2.2.2.1 j := by
  rw [outsAt0_C m c t (by omega) h]; frame_out; rfl

theorem out7_eq (c : Dev nD) (t : Fin cfg0.N) (h : t.val % 16 = 15) (j : S1408x1024.Idx) :
    (outsAt0 m c t.val t.isLt).2.2.1 j = (outsAt0 m c t.val t.isLt).2.2.2.2.2 j := by
  rw [outsAt0_C m c t (by omega) h]; frame_out; rfl

/-! ## The result arrays -/

/-- The point that writes index `i`'s block back is the last token block of `i`'s column half. -/
theorem last_point (i : S2816x1024.Idx) : Value.pt5Of i < cfg0.N ∧ Value.pt5Of i % 16 = 15
    ∧ (i 0).val = Value.pt5Of i / 16 * 1408 + (Value.loc5Of i 0).val ∧ (i 1).val = (Value.loc5Of i 1).val := by
  have hi0 : (i 0).val < 2816 := (i 0).isLt
  have hi1 : (i 1).val < 1024 := (i 1).isLt
  refine ⟨?_, ?_, ?_, ?_⟩
  · show 16 * (1 * ((i 0).val / 1408 - 0) + 1 * ((i 1).val / 1024 - 0)) + 15 < 32
    omega
  · show (16 * _ + 15) % 16 = 15
    omega
  · show (i 0).val = (16 * (1 * ((i 0).val / 1408 - 0) + 1 * ((i 1).val / 1024 - 0)) + 15) / 16 * 1408 + (i 0).val % 1408
    omega
  · show (i 1).val = (i 1).val % 1024
    omega

/-- The three result arrays hold the products over all tokens. -/
theorem G5_eq (c : Dev nD) (i : S2816x1024.Idx) : Value.G5 m c i = dotRows (V m c main_v2) (V m c main_v5) i := by
  obtain ⟨hp, h15, h0, h1⟩ := last_point i
  unfold Value.G5
  rw [dif_pos hp, ← Value.outsAt0_sweep m c _ hp, out5_eq m c ⟨_, hp⟩ h15]
  exact acc0_sum m c ⟨_, hp⟩ h15 _ _ h0 h1

theorem G6_eq (c : Dev nD) (i : S2816x1024.Idx) : Value.G6 m c i = dotRows (V m c main_v3) (V m c main_v5) i := by
  obtain ⟨hp, h15, h0, h1⟩ := last_point i
  unfold Value.G6
  rw [dif_pos hp, ← Value.outsAt0_sweep m c _ hp, out6_eq m c ⟨_, hp⟩ h15]
  exact acc1_sum m c ⟨_, hp⟩ h15 _ _ h0 h1

theorem G7_eq (c : Dev nD) (i : S2816x1024.Idx) : Value.G7 m c i = dotRows (V m c main_v4) (V m c main_v6) i := by
  obtain ⟨hp, h15, h0, h1⟩ := last_point i
  unfold Value.G7
  rw [dif_pos hp, ← Value.outsAt0_sweep m c _ hp, out7_eq m c ⟨_, hp⟩ h15]
  exact acc2_sum m c ⟨_, hp⟩ h15 _ _ h0 h1

/-! ## The operands: the arguments, and the gated product -/

/-- `silu x · y`, as the host computes it. -/
def gated (x y : S8192x2816.Idx → EReal) (i : S8192x2816.Idx) : EReal := x i * Ideal.div 1 (1 + Ideal.exp (-x i)) * y i

theorem v2_at (c : Dev nD) (i : S8192x2816.Idx) : V m c main_v2 i = m ((c : Thread nD τ).loc main_arg3) i := by
  unfold V; after_reads_at
theorem v3_at (c : Dev nD) (i : S8192x2816.Idx) : V m c main_v3 i = m ((c : Thread nD τ).loc main_arg4) i := by
  unfold V; after_reads_at
theorem v5_at (c : Dev nD) (i : S8192x1024.Idx) : V m c main_v5 i = m ((c : Thread nD τ).loc main_arg0) i := by
  unfold V; after_reads_at
theorem v6_at (c : Dev nD) (i : S8192x1024.Idx) : V m c main_v6 i = m ((c : Thread nD τ).loc main_arg5) i := by
  unfold V; after_reads_at
theorem v4_at (c : Dev nD) (i : S8192x2816.Idx) :
    V m c main_v4 i = gated (m ((c : Thread nD τ).loc main_arg1)) (m ((c : Thread nD τ).loc main_arg2)) i := by
  unfold V gated; after_reads_at

end Cert.DwIdeal.Grad
-- ==== Proof.Wgrad.lean ====
/-
  The weight gradients of the gated feed-forward layer: the kernel's three arrays against the gradients of the three
  products, taken by differentiation. Each side is one sum over the 8192 tokens of a product of two factors.
-/
module

public import proofs.«01_k».proof.Defs
public import proofs.«01_k».proof.Proof.WgradPoint
public import proofs.«01_k».proof.Proof.Gen.RwIdeal.Run
public import proofs.«01_k».proof.Proof.Gen.RwIdeal.Read

@[expose] public section

noncomputable section

namespace Cert.Proof.Wgrad

open Idealize.ShloMosaic Idealize.ShloMosaic.TcCoe Idealize.SL.Sem
open Cert.RwIdeal Cert.RwIdeal.Read Cert.DwIdeal.Grad

/-! ## The reference's gradients, read at an index -/

theorem ref_gate (h : S8192x1024.Idx → EReal) (da : S8192x2816.Idx → EReal) (i : S2816x1024.Idx) :
    val_main_v9 (F := Ideal) h da i = dotRows da h i := by
  rw [val_main_v9_apply, val_main_v8_apply, val_main_v7_apply, val_main_v6_apply]
  refine Finset.sum_congr rfl fun k _ => ?_
  congr 2 <;> funext a <;> match a with
    | ⟨0, _⟩ => rfl
    | ⟨1, _⟩ => rfl

theorem ref_up (h : S8192x1024.Idx → EReal) (db : S8192x2816.Idx → EReal) (i : S2816x1024.Idx) :
    val_main_v11 (F := Ideal) h db i = dotRows db h i := by
  rw [val_main_v11_apply, val_main_v10_apply, val_main_v5_apply, val_main_v4_apply]
  refine Finset.sum_congr rfl fun k _ => ?_
  congr 2 <;> funext a <;> match a with
    | ⟨0, _⟩ => rfl
    | ⟨1, _⟩ => rfl

/-- The reference's gated product. -/
theorem ref_gated (x y : S8192x2816.Idx → EReal) (i : S8192x2816.Idx) : val_main_v1 (F := Ideal) x y i = gated x y i := by
  rw [val_main_v1_apply, val_main_v0_apply, val_main_call0_v5_apply, val_main_call0_v4_apply, val_main_call0_v3_apply,
    val_main_call0_v2_apply, val_main_call0_v1_apply, val_main_call0_v0_apply, val_main_call0_cst_apply, val_main_call0_cst_0_apply]
  unfold gated
  pointwise

theorem ref_down (x y : S8192x2816.Idx → EReal) (df : S8192x1024.Idx → EReal) (i : S2816x1024.Idx) :
    val_main_v12 (F := Ideal) x y df i = dotRows (gated x y) df i := by
  rw [val_main_v12_apply, val_main_v3_apply, val_main_v2_apply]
  refine Finset.sum_congr rfl fun k _ => ?_
  rw [ref_gated, mul_comm]
  congr 2 <;> funext a <;> match a with
    | ⟨0, _⟩ => rfl
    | ⟨1, _⟩ => rfl

theorem dotRows_congr {X X' : S8192x2816.Idx → EReal} {Y Y' : S8192x1024.Idx → EReal} (hX : ∀ i, X i = X' i) (hY : ∀ i, Y i = Y' i)
    (i : S2816x1024.Idx) : dotRows X Y i = dotRows X' Y' i := by
  rw [funext hX, funext hY]

/-! ## The claims -/

/-- The kernel's three weight gradients are the reference's, over the extended reals. -/
theorem algebraic : Cert.algebraic_DwIdeal_RwIdeal := by
  intro m ρ m' ρ' _ hagree
  refine ⟨fun c => Cert.DwIdeal.Value.G5 m c, fun c => Cert.DwIdeal.Value.G6 m c, fun c => Cert.DwIdeal.Value.G7 m c,
    Cert.DwIdeal.Value.run (F := Ideal) m ρ, ?_⟩
  refine (θ_run Cert.RwIdeal.defs _ _).mono (fun _ h c => ?_) (Cert.RwIdeal.Value.run (F := Ideal) m' ρ')
  obtain ⟨h9, h11, h12, hk⟩ := h c
  obtain ⟨e0, e1, e2, e3, e4, e5⟩ := hagree c
  refine ⟨h9.trans ?_, h11.trans ?_, h12.trans ?_, hk⟩
  · rw [val_main_v9_eq, e0, e3]
    exact funext fun i => (ref_gate _ _ i).trans ((dotRows_congr (fun i => (v2_at m c i).symm) (fun i => (v5_at m c i).symm) i).trans (G5_eq m c i).symm)
  · rw [val_main_v11_eq, e0, e4]
    exact funext fun i => (ref_up _ _ i).trans ((dotRows_congr (fun i => (v3_at m c i).symm) (fun i => (v5_at m c i).symm) i).trans (G6_eq m c i).symm)
  · rw [val_main_v12_eq, e1, e2, e5]
    exact funext fun i => (ref_down _ _ _ i).trans ((dotRows_congr (fun i => (v4_at m c i).symm) (fun i => (v6_at m c i).symm) i).trans (G7_eq m c i).symm)

/-- The reference runs to its end. -/
theorem frame_reference : Cert.quiescent_RwIdeal := fun m ρ _ =>
  (θ_run Cert.RwIdeal.defs _ _).mono (fun r h => ⟨fun c => (h c).2.2.2, sem_eq_zero_of_no_sems (by decide) r.2⟩)
    (Cert.RwIdeal.Value.run (F := Ideal) m ρ)

end Cert.Proof.Wgrad
-- ==== Proof.DgradAPoint.lean ====
/-
  The gradient that a gated feed-forward half-step sends back through its down projection and its gate, at one grid point.

  The kernel walks 16 blocks of 512 tokens. A point scales the incoming gradient by half the gate's row (df), multiplies it
  by the down projection in two column halves (ds), and weighs ds by the two saved derivatives of the gated product (da, db).
  The gradient of the gate's rows is added up in an accumulator of 8 rows: token `8 r + s` goes to row `s`.
  This module says what the four result arrays hold after the last point.
-/
module

public import proofs.«01_k».proof.Proof.Gen.DaIdeal.Value
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pointwise
public import Idealize.ShloMosaic.Lib.Claim
public import Idealize.ShloMosaic.Lib.Tactic
public import Idealize.ShloMosaic.Lib.StableHlo.ReadAt

@[expose] public section

noncomputable section

namespace Cert.DaIdeal.Grad

open Idealize.ShloMosaic Idealize.ShloMosaic.TcCoe Idealize.SL.Sem
open Cert.DaIdeal Cert.DaIdeal.Gen

variable (m : (ℓ : Loc nD τ sig) → Buf (Elt Ideal) ℓ)

/-- The half-step's factor. -/
abbrev factor : EReal := Ideal.ofBits .f32 0x3F000000#32

/-! ## The results, as functions of the arrays that the call reads -/

/-- df: the incoming gradient times half the gate. -/
def dfAt (g : S1x1024.Idx → EReal) (x : S8192x1024.Idx → EReal) (i : S8192x1024.Idx) : EReal :=
  factor * g (ix2 0 (i 1)) * x i

/-- Row `n` of the down projection within the packed weights: piece `n / 704`, after the 1408 rows of the two others. -/
def packedAt (w : S4x2112x1024.Idx → EReal) (n : Fin 2816) (k : Fin 1024) : EReal :=
  w (ix3 ⟨n.val / 704, by omega⟩ ⟨1408 + n.val % 704, by omega⟩ k)

/-- ds: df times the down projection's transpose. -/
def dsAt (g : S1x1024.Idx → EReal) (x : S8192x1024.Idx → EReal) (w : S4x2112x1024.Idx → EReal) (i : S8192x2816.Idx) : EReal :=
  ∑ k : Fin 1024, dfAt g x (ix2 (i 0) k) * packedAt w (i 1) k

/-- One token's term of the gate's gradient: token `8 r + s` for row `s`. -/
def dgTerm (f x : S8192x1024.Idx → EReal) (j : S8x1024.Idx) (r : Fin 1024) : EReal :=
  factor * f (ix2 ⟨r.val * 8 + (j 0).val, by have : (j 0).val < 8 := (j 0).isLt; omega⟩ (j 1))
    * x (ix2 ⟨r.val * 8 + (j 0).val, by have : (j 0).val < 8 := (j 0).isLt; omega⟩ (j 1))

/-- The gate's gradient, summed over the tokens in 8 interleaved rows. -/
def dgAt (f x : S8192x1024.Idx → EReal) (j : S8x1024.Idx) : EReal := ∑ r : Fin 1024, dgTerm f x j r

/-! ## The stored values -/

/-- One column half of ds over one block of tokens. -/
def part (d : Vec Ideal S512x1024 .bf16) (w : Vec Ideal S2x704x1024 .bf16) (j : S512x1408.Idx) : EReal :=
  ∑ k : Fin 1024, d (ix2 (j 0) k) * w (ix3 ⟨(j 1).val / 704, by have : (j 1).val < 1408 := (j 1).isLt; omega⟩ ⟨(j 1).val % 704, Nat.mod_lt _ (by decide)⟩ k)

theorem pay1 (d : Vec Ideal S512x1024 .bf16) (w : Vec Ideal S2x704x1024 .bf16) (j : S512x1408.Idx) :
    k0_pay1 d w j = part d w j := by
  unfold k0_pay1 part
  pointwise

theorem pay7 (x : Vec Ideal S512x1024 .f32) (g : Vec Ideal S1x1024 .f32) (w : Vec Ideal S2x704x1024 .bf16) (j : S512x1408.Idx) :
    k0_pay7 x g w j = part (k0_pay6 x g) w j := by
  unfold k0_pay7 part
  pointwise

theorem pay6 (x : Vec Ideal S512x1024 .f32) (g : Vec Ideal S1x1024 .f32) (j : S512x1024.Idx) :
    k0_pay6 x g j = factor * g (ix2 0 (j 1)) * x j := by
  unfold k0_pay6
  pointwise

theorem pay2 (d : Vec Ideal S512x1024 .bf16) (w : Vec Ideal S2x704x1024 .bf16) (v : Vec Ideal S512x1408 .bf16) (j : S512x1408.Idx) :
    k0_pay2 d w v j = part d w j * v j := by
  rw [← pay1]; unfold k0_pay2; simp only [shapeCast_self]; rfl

theorem pay3 (d : Vec Ideal S512x1024 .bf16) (w : Vec Ideal S2x704x1024 .bf16) (v : Vec Ideal S512x1408 .bf16) (j : S512x1408.Idx) :
    k0_pay3 d w v j = part d w j * v j := by
  rw [← pay1]; unfold k0_pay3; simp only [shapeCast_self]; rfl

theorem pay8 (x : Vec Ideal S512x1024 .f32) (g : Vec Ideal S1x1024 .f32) (w : Vec Ideal S2x704x1024 .bf16) (v : Vec Ideal S512x1408 .bf16)
    (j : S512x1408.Idx) : k0_pay8 x g w v j = part (k0_pay6 x g) w j * v j := by
  rw [← pay7]; unfold k0_pay8; simp only [shapeCast_self]; rfl

theorem pay9 (x : Vec Ideal S512x1024 .f32) (g : Vec Ideal S1x1024 .f32) (w : Vec Ideal S2x704x1024 .bf16) (v : Vec Ideal S512x1408 .bf16)
    (j : S512x1408.Idx) : k0_pay9 x g w v j = part (k0_pay6 x g) w j * v j := by
  rw [← pay7]; unfold k0_pay9; simp only [shapeCast_self]; rfl

/-- The gate's gradient over one block of 512 tokens. -/
def rows8 (x f : Vec Ideal S512x1024 .f32) (j : S8x1024.Idx) : EReal :=
  ∑ r : Fin 64, factor * f (ix2 ⟨r.val * 8 + (j 0).val, by have : (j 0).val < 8 := (j 0).isLt; omega⟩ (j 1))
    * x (ix2 ⟨r.val * 8 + (j 0).val, by have : (j 0).val < 8 := (j 0).isLt; omega⟩ (j 1))

theorem pay5 (x f : Vec Ideal S512x1024 .f32) (j : S8x1024.Idx) : k0_pay5 x f j = rows8 x f j := by
  unfold k0_pay5 rows8
  pointwise

theorem pay4 (x f : Vec Ideal S512x1024 .f32) (acc : Vec Ideal S8x1024 .f32) (j : S8x1024.Idx) :
    k0_pay4 (k0_pay5 x f) acc j = acc j + rows8 x f j := by
  rw [← pay5]; unfold k0_pay4; simp only [shapeCast_self]; rfl

/-! ## The blocks, read off the arrays -/

theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_2 : ∀ t : Fin cfg0.N, win0_2.index t (0 : Fin 2) = t.val ∧ win0_2.index t (1 : Fin 2) = 0 :=
  (by decide +kernel : ∀ t : Fin grid0.N, _)
theorem idx_3 : ∀ t : Fin cfg0.N, win0_3.index t (0 : Fin 2) = t.val ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 3) = 0 ∧ win0_5.index t (1 : Fin 3) = 2 ∧ win0_5.index t (2 : Fin 3) = 0 :=
  (by decide +kernel : ∀ t : Fin grid0.N, _)
theorem idx_6 : ∀ t : Fin cfg0.N, win0_6.index t (0 : Fin 2) = t.val ∧ win0_6.index t (1 : Fin 2) = 0 :=
  (by decide +kernel : ∀ t : Fin grid0.N, _)
theorem idx_7 : ∀ t : Fin cfg0.N, win0_7.index t (0 : Fin 2) = t.val ∧ win0_7.index t (1 : Fin 2) = 0 :=
  (by decide +kernel : ∀ t : Fin grid0.N, _)
theorem idx_8 : ∀ t : Fin cfg0.N, win0_8.index t (0 : Fin 2) = t.val ∧ win0_8.index t (1 : Fin 2) = 0 :=
  (by decide +kernel : ∀ t : Fin grid0.N, _)

theorem xAt (c : Dev nD) (t : Fin cfg0.N) (j : S512x1024.Idx) (i : S8192x1024.Idx) (h0 : (i 0).val = t.val * 512 + (j 0).val)
    (h1 : (i 1).val = (j 1).val) : iblk m c 0 t j = V m c main_arg5 i := by
  blk_ext [iblk, idx_0 t, h0, h1]
theorem fAt (c : Dev nD) (t : Fin cfg0.N) (j : S512x1024.Idx) (i : S8192x1024.Idx) (h0 : (i 0).val = t.val * 512 + (j 0).val)
    (h1 : (i 1).val = (j 1).val) : iblk m c 1 t j = V m c main_v8 i := by
  blk_ext [iblk, idx_1 t, h0, h1]
theorem saAt (c : Dev nD) (t : Fin cfg0.N) (j : S512x2816.Idx) (i : S8192x2816.Idx) (h0 : (i 0).val = t.val * 512 + (j 0).val)
    (h1 : (i 1).val = (j 1).val) : iblk m c 2 t j = V m c main_v9 i := by
  blk_ext [iblk, idx_2 t, h0, h1]
theorem gaAt (c : Dev nD) (t : Fin cfg0.N) (j : S512x2816.Idx) (i : S8192x2816.Idx) (h0 : (i 0).val = t.val * 512 + (j 0).val)
    (h1 : (i 1).val = (j 1).val) : iblk m c 3 t j = V m c main_v10 i := by
  blk_ext [iblk, idx_3 t, h0, h1]
theorem gAt (c : Dev nD) (t : Fin cfg0.N) (j i : S1x1024.Idx) (h0 : (i 0).val = (j 0).val) (h1 : (i 1).val = (j 1).val) :
    iblk m c 4 t j = V m c main_arg4 i := by
  blk_ext [iblk, idx_4 t, h0, h1]
theorem wAt (c : Dev nD) (t : Fin cfg0.N) (j : S4x704x1024.Idx) (i : S4x2112x1024.Idx) (h0 : (i 0).val = (j 0).val)
    (h1 : (i 1).val = 1408 + (j 1).val) (h2 : (i 2).val = (j 2).val) : iblk m c 5 t j = V m c main_v17 i := by
  blk_ext [iblk, idx_5 t, h0, h1, h2]

/-- df over a block. -/
theorem df_blk (c : Dev nD) (t : Fin cfg0.N) (j : S512x1024.Idx) (i : S8192x1024.Idx) (h0 : (i 0).val = t.val * 512 + (j 0).val)
    (h1 : (i 1).val = (j 1).val) : k0_pay6 (iblk m c 0 t) (iblk m c 4 t) j = dfAt (V m c main_arg4) (V m c main_arg5) i := by
  rw [pay6, dfAt, xAt m c t j i h0 h1, gAt m c t (ix2 0 (j 1)) (ix2 0 (i 1)) rfl h1]

/-- A column half of ds over a block: `o` is the half's first piece of the down projection. -/
theorem ds_blk (c : Dev nD) (t : Fin cfg0.N) (o : Nat) (d : Vec Ideal S512x1024 .bf16)
    (hd : ∀ (j : S512x1024.Idx) (i : S8192x1024.Idx), (i 0).val = t.val * 512 + (j 0).val → (i 1).val = (j 1).val →
      d j = dfAt (V m c main_arg4) (V m c main_arg5) i)
    (w : Vec Ideal S2x704x1024 .bf16)
    (hw : ∀ (a : Fin 2) (b : Fin 704) (k : Fin 1024) (i : S4x2112x1024.Idx), (i 0).val = o + a.val → (i 1).val = 1408 + b.val →
      (i 2).val = k.val → w (ix3 a b k) = V m c main_v17 i)
    (x : S512x1408.Idx) (i : S8192x2816.Idx) (h0 : (i 0).val = t.val * 512 + (x 0).val) (h1 : (i 1).val = o * 704 + (x 1).val) :
    part d w x = dsAt (V m c main_arg4) (V m c main_arg5) (V m c main_v17) i := by
  unfold part dsAt packedAt
  refine Finset.sum_congr rfl fun k _ => ?_
  have hx : (x 1).val < 1408 := (x 1).isLt
  rw [hd (ix2 (x 0) k) (ix2 (i 0) k) h0 rfl, hw _ _ k (ix3 ⟨(i 1).val / 704, by have : (i 1).val < 2816 := (i 1).isLt; omega⟩ ⟨1408 + (i 1).val % 704, by omega⟩ k)
    (by show (i 1).val / 704 = o + (x 1).val / 704; omega) (by show 1408 + (i 1).val % 704 = 1408 + (x 1).val % 704; omega) rfl]

/-! ## The two blocks of 2816 columns that a point writes -/

theorem out6 (c : Dev nD) (t : Fin cfg0.N) (y : S512x2816.Idx) (i : S8192x2816.Idx) (h0 : (i 0).val = t.val * 512 + (y 0).val)
    (h1 : (i 1).val = (y 1).val) : (outsAt0 m c t.val t.isLt).1 y
      = dsAt (V m c main_arg4) (V m c main_arg5) (V m c main_v17) i * V m c main_v10 i := by
  have hN : t.val < 16 := lt_of_lt_of_eq t.isLt N_0
  by_cases ht : t.val % 16 = 0
  · rw [outsAt0_A m c t ht (by omega)]; frame_out
    canon_tiles x e
    · rw [pay2, ds_blk m c t 2 _ (fun j i => df_blk m c t j i) _ (fun a b k i e0 e1 e2 => by
        rw [View.ld_apply]; exact wAt m c t _ i (by simp [e0]) (by simp [e1]) (by simp [e2])) x i (by omega) (by omega), View.ld_apply,
        gaAt m c t _ i (by simp [h0, e0]) (by simp [h1, e1])]
    · rw [pay8, ds_blk m c t 0 _ (fun j i => df_blk m c t j i) _ (fun a b k i e0 e1 e2 => by
        rw [View.ld_apply]; exact wAt m c t _ i (by simp [e0]) (by simp [e1]) (by simp [e2])) x i (by omega) (by omega), View.ld_apply,
        gaAt m c t _ i (by simp [h0, e0]) (by simp [h1, e1])]
  · rw [outsAt0_B m c t ht (by omega)]; frame_out
    canon_tiles x e
    · rw [pay2, ds_blk m c t 2 _ (fun j i => df_blk m c t j i) _ (fun a b k i e0 e1 e2 => by
        rw [View.ld_apply]; exact wAt m c t _ i (by simp [e0]) (by simp [e1]) (by simp [e2])) x i (by omega) (by omega), View.ld_apply,
        gaAt m c t _ i (by simp [h0, e0]) (by simp [h1, e1])]
    · rw [pay8, ds_blk m c t 0 _ (fun j i => df_blk m c t j i) _ (fun a b k i e0 e1 e2 => by
        rw [View.ld_apply]; exact wAt m c t _ i (by simp [e0]) (by simp [e1]) (by simp [e2])) x i (by omega) (by omega), View.ld_apply,
        gaAt m c t _ i (by simp [h0, e0]) (by simp [h1, e1])]

theorem out7 (c : Dev nD) (t : Fin cfg0.N) (y : S512x2816.Idx) (i : S8192x2816.Idx) (h0 : (i 0).val = t.val * 512 + (y 0).val)
    (h1 : (i 1).val = (y 1).val) : (outsAt0 m c t.val t.isLt).2.1 y
      = dsAt (V m c main_arg4) (V m c main_arg5) (V m c main_v17) i * V m c main_v9 i := by
  have hN : t.val < 16 := lt_of_lt_of_eq t.isLt N_0
  by_cases ht : t.val % 16 = 0
  · rw [outsAt0_A m c t ht (by omega)]; frame_out
    canon_tiles x e
    · rw [pay3, ds_blk m c t 2 _ (fun j i => df_blk m c t j i) _ (fun a b k i e0 e1 e2 => by
        rw [View.ld_apply]; exact wAt m c t _ i (by simp [e0]) (by simp [e1]) (by simp [e2])) x i (by omega) (by omega), View.ld_apply,
        saAt m c t _ i (by simp [h0, e0]) (by simp [h1, e1])]
    · rw [pay9, ds_blk m c t 0 _ (fun j i => df_blk m c t j i) _ (fun a b k i e0 e1 e2 => by
        rw [View.ld_apply]; exact wAt m c t _ i (by simp [e0]) (by simp [e1]) (by simp [e2])) x i (by omega) (by omega), View.ld_apply,
        saAt m c t _ i (by simp [h0, e0]) (by simp [h1, e1])]
  · rw [outsAt0_B m c t ht (by omega)]; frame_out
    canon_tiles x e
    · rw [pay3, ds_blk m c t 2 _ (fun j i => df_blk m c t j i) _ (fun a b k i e0 e1 e2 => by
        rw [View.ld_apply]; exact wAt m c t _ i (by simp [e0]) (by simp [e1]) (by simp [e2])) x i (by omega) (by omega), View.ld_apply,
        saAt m c t _ i (by simp [h0, e0]) (by simp [h1, e1])]
    · rw [pay9, ds_blk m c t 0 _ (fun j i => df_blk m c t j i) _ (fun a b k i e0 e1 e2 => by
        rw [View.ld_apply]; exact wAt m c t _ i (by simp [e0]) (by simp [e1]) (by simp [e2])) x i (by omega) (by omega), View.ld_apply,
        saAt m c t _ i (by simp [h0, e0]) (by simp [h1, e1])]

/-- The block of df that a point writes. -/
theorem out8 (c : Dev nD) (t : Fin cfg0.N) (y : S512x1024.Idx) (i : S8192x1024.Idx) (h0 : (i 0).val = t.val * 512 + (y 0).val)
    (h1 : (i 1).val = (y 1).val) : (outsAt0 m c t.val t.isLt).2.2.1 y = dfAt (V m c main_arg4) (V m c main_arg5) i := by
  have hN : t.val < 16 := lt_of_lt_of_eq t.isLt N_0
  by_cases ht : t.val % 16 = 0
  · rw [outsAt0_A m c t ht (by omega)]; frame_out
    exact df_blk m c t y i h0 h1
  · rw [outsAt0_B m c t ht (by omega)]; frame_out
    exact df_blk m c t y i h0 h1

/-- The gate's gradient over the block of point `t`, off the arrays. -/
theorem rows_blk (c : Dev nD) (t : Fin cfg0.N) (j : S8x1024.Idx) : rows8 (iblk m c 0 t) (iblk m c 1 t) j
    = ∑ r : Fin 64, dgTerm (V m c main_v8) (V m c main_arg5) j ⟨t.val * 64 + r.val, by
        have : t.val < 16 := lt_of_lt_of_eq t.isLt N_0; omega⟩ := by
  unfold rows8 dgTerm
  refine Finset.sum_congr rfl fun r _ => ?_
  have hr : (t.val * 64 + r.val) * 8 + (j 0).val = t.val * 512 + (r.val * 8 + (j 0).val) := by omega
  have hj : (j 0).val < 8 := (j 0).isLt
  have hb : (t.val * 64 + r.val) * 8 + (j 0).val < 8192 := by have : t.val < 16 := lt_of_lt_of_eq t.isLt N_0; omega
  rw [fAt m c t (ix2 ⟨r.val * 8 + (j 0).val, by omega⟩ (j 1)) (ix2 ⟨(t.val * 64 + r.val) * 8 + (j 0).val, hb⟩ (j 1)) hr rfl,
    xAt m c t (ix2 ⟨r.val * 8 + (j 0).val, by omega⟩ (j 1)) (ix2 ⟨(t.val * 64 + r.val) * 8 + (j 0).val, hb⟩ (j 1)) hr rfl]

/-- The accumulator's first value. -/
theorem acc_first (c : Dev nD) (n : Nat) (hn : n < cfg0.N) (h : n % 16 = 0) (j : S8x1024.Idx) :
    (outsAt0 m c n hn).2.2.2 j = 0 + rows8 (iblk m c 0 ⟨n, hn⟩) (iblk m c 1 ⟨n, hn⟩) j := by
  have hN : n < 16 := lt_of_lt_of_eq hn N_0
  rw [outsAt0_A m c ⟨n, hn⟩ h (by show ¬ 1 ≤ n; omega)]; frame_out
  rw [pay5, zero_add]

theorem acc_step (c : Dev nD) (n : Nat) (hn : n < cfg0.N) (h : ¬ n % 16 = 0) (j : S8x1024.Idx) :
    (outsAt0 m c n hn).2.2.2 j = (outsAt0 m c (n - 1) (by omega)).2.2.2 j + rows8 (iblk m c 0 ⟨n, hn⟩) (iblk m c 1 ⟨n, hn⟩) j := by
  have hN : n < 16 := lt_of_lt_of_eq hn N_0
  rw [outsAt0_B m c ⟨n, hn⟩ h (by show 1 ≤ n; omega)]; frame_out
  exact pay4 _ _ _ j

/-! ## The arrays after the last point -/

theorem final6 (c : Dev nD) : (dats m 0 c).arrAt 6 cfg0.N
    = fun i => dsAt (V m c main_arg4) (V m c main_arg5) (V m c main_v17) i * V m c main_v10 i := by
  refine (dats m 0 c).arrAt_eq_of_covers 6 _ (by decide +kernel) fun t hf y => ?_
  blk_simp
  rw [after0_6]
  refine out6 m c t y _ ?_ ?_
  · simp [idx_6 t]
  · simp [idx_6 t]

theorem final7 (c : Dev nD) : (dats m 0 c).arrAt 7 cfg0.N
    = fun i => dsAt (V m c main_arg4) (V m c main_arg5) (V m c main_v17) i * V m c main_v9 i := by
  refine (dats m 0 c).arrAt_eq_of_covers 7 _ (by decide +kernel) fun t hf y => ?_
  blk_simp
  rw [after0_7]
  refine out7 m c t y _ ?_ ?_
  · simp [idx_7 t]
  · simp [idx_7 t]

theorem final8 (c : Dev nD) : (dats m 0 c).arrAt 8 cfg0.N
    = fun i => dfAt (V m c main_arg4) (V m c main_arg5) i := by
  refine (dats m 0 c).arrAt_eq_of_covers 8 _ (by decide +kernel) fun t hf y => ?_
  blk_simp
  rw [after0_8]
  refine out8 m c t y _ ?_ ?_
  · simp [idx_8 t]
  · simp [idx_8 t]

/-- The accumulator after the last point. -/
theorem acc_last (c : Dev nD) (t : Fin cfg0.N) (h : t.val % 16 = 16 - 1) (j : S8x1024.Idx) :
    (outsAt0 m c t.val t.isLt).2.2.2 j = dgAt (V m c main_v8) (V m c main_arg5) j := by
  rw [Pipeline.eq_sum_fin_of_reset_step_apply_of_flush (fun n h => (outsAt0 m c n h).2.2.2) 16 (fun _ => 0)
    (fun t j => rows8 (iblk m c 0 t) (iblk m c 1 t) j) (fun t h j => acc_first m c t.val t.isLt h j)
    (fun t h j => acc_step m c t.val t.isLt h j) t h j, zero_add]
  unfold dgAt
  refine (Finset.sum_congr rfl fun s _ => rows_blk m c _ j).trans ?_
  refine Fin.sum_mul_add_congr fun s k hl => ?_
  congr 1; apply Fin.ext
  show (16 * (t.val / 16) + s.val) * 64 + k.val = s.val * 64 + k.val
  have : t.val < 16 := lt_of_lt_of_eq t.isLt N_0
  omega

theorem final9 (c : Dev nD) : (dats m 0 c).arrAt 9 cfg0.N = fun j => dgAt (V m c main_v8) (V m c main_arg5) j := by
  refine (dats m 0 c).arrAt_eq_of_after_last 9 ⟨15, by decide⟩ (by decide +kernel) _ fun j => ?_
  rw [after0_9]
  exact acc_last m c ⟨15, by decide⟩ (by decide) j

/-! ## The arrays that the host prepares -/

/-- One projection of a token's row. -/
def proj (x : S8192x1024.Idx → EReal) (w : S1024x2816.Idx → EReal) (i : S8192x2816.Idx) : EReal :=
  ∑ k : Fin 1024, x (ix2 (i 0) k) * w (ix2 k (i 1))

/-- The gated product of a token's row. -/
def gatedAt (h : S8192x1024.Idx → EReal) (w1 w2 : S1024x2816.Idx → EReal) (i : S8192x2816.Idx) : EReal :=
  proj h w1 i * Ideal.logistic (proj h w1 i) * proj h w2 i

theorem V9_at (c : Dev nD) (i : S8192x2816.Idx) : V m c main_v9 i
    = proj (m (c, Proc.tc.devRef main_arg0)) (m (c, Proc.tc.devRef main_arg1)) i * Ideal.logistic (proj (m (c, Proc.tc.devRef main_arg0)) (m (c, Proc.tc.devRef main_arg1)) i) := by
  unfold V proj Ideal.logistic; after_reads_at

theorem V10_at (c : Dev nD) (i : S8192x2816.Idx) : V m c main_v10 i
    = proj (m (c, Proc.tc.devRef main_arg0)) (m (c, Proc.tc.devRef main_arg2)) i * Ideal.logistic (proj (m (c, Proc.tc.devRef main_arg0)) (m (c, Proc.tc.devRef main_arg1)) i)
      + proj (m (c, Proc.tc.devRef main_arg0)) (m (c, Proc.tc.devRef main_arg1)) i * proj (m (c, Proc.tc.devRef main_arg0)) (m (c, Proc.tc.devRef main_arg2)) i
        * (Ideal.logistic (proj (m (c, Proc.tc.devRef main_arg0)) (m (c, Proc.tc.devRef main_arg1)) i)
          * (1 - Ideal.logistic (proj (m (c, Proc.tc.devRef main_arg0)) (m (c, Proc.tc.devRef main_arg1)) i))) := by
  unfold V proj Ideal.logistic; after_reads_at

theorem V8_at (c : Dev nD) (i : S8192x1024.Idx) : V m c main_v8 i
    = (∑ n : Fin 2816, gatedAt (m (c, Proc.tc.devRef main_arg0)) (m (c, Proc.tc.devRef main_arg1)) (m (c, Proc.tc.devRef main_arg2)) (ix2 (i 0) n)
      * m (c, Proc.tc.devRef main_arg3) (ix2 n (i 1)) : EReal) := by
  unfold V gatedAt proj Ideal.logistic; after_reads_at

theorem V15_at (c : Dev nD) (i : S4x704x1024.Idx) (n : Fin 2816) (h : n.val = (i 0).val * 704 + (i 1).val) : V m c main_v15 i
    = m (c, Proc.tc.devRef main_arg3) (ix2 n (i 2)) := by
  unfold V; after_reads_at
  congr 2; exact Fin.ext h.symm

theorem V17_at (c : Dev nD) (n : Fin 2816) (k : Fin 1024) : packedAt (V m c main_v17) n k = m (c, Proc.tc.devRef main_arg3) (ix2 n k) := by
  unfold packedAt V; after_reads_at
  rw [dif_neg (by omega), dif_neg (by omega)]
  exact V15_at m c _ n (by show n.val = n.val / 704 * 704 + (1408 + n.val % 704 - 704 - 704); omega)

theorem V4_at (c : Dev nD) (i : S1x1024.Idx) : V m c main_arg4 i = m (c, Proc.tc.devRef main_arg4) i := by
  unfold V; after_reads_at
theorem V5_at (c : Dev nD) (i : S8192x1024.Idx) : V m c main_arg5 i = m (c, Proc.tc.devRef main_arg5) i := by
  unfold V; after_reads_at

end Cert.DaIdeal.Grad
-- ==== Proof.Reals.lean ====
/-
  Extended reals that are real numbers: the closure laws that the gradients need, the logistic function's values, and what
  the precondition `|x| < ∞` says of an array.
-/
module

public import Idealize.ShloMosaic.Lib.StableHlo
public import Idealize.ShloMosaic.Lib.Pointwise
public import Idealize.ShloMosaic.PureOps

@[expose] public section

noncomputable section

namespace Cert.Reals

open Idealize.ShloMosaic

/-- The extended real is a real number. -/
def IsReal (x : EReal) : Prop := ∃ r : ℝ, x = (r : EReal)

theorem IsReal.coe (r : ℝ) : IsReal (r : EReal) := ⟨r, rfl⟩
theorem IsReal.zero : IsReal (0 : EReal) := ⟨0, rfl⟩
theorem IsReal.one : IsReal (1 : EReal) := ⟨1, rfl⟩

theorem IsReal.add {x y : EReal} : IsReal x → IsReal y → IsReal (x + y) := by
  rintro ⟨a, rfl⟩ ⟨b, rfl⟩; exact ⟨a + b, rfl⟩
theorem IsReal.mul {x y : EReal} : IsReal x → IsReal y → IsReal (x * y) := by
  rintro ⟨a, rfl⟩ ⟨b, rfl⟩; exact ⟨a * b, rfl⟩
theorem IsReal.sum {ι : Type} (s : Finset ι) {f : ι → EReal} (h : ∀ i, IsReal (f i)) : IsReal (∑ i ∈ s, f i) := by
  classical
  induction s using Finset.induction_on with
  | empty => exact .zero
  | insert a s ha ih => rw [Finset.sum_insert ha]; exact (h a).add ih

theorem IsReal.half : IsReal (Ideal.ofBits .f32 0x3F000000#32) := ⟨1 / 2, by
  simp [Ideal.ofBits, Ideal.ieee, -EReal.coe_mul]; norm_num⟩

/-- The word of the precondition's bound. -/
theorem ofBits_inf : Ideal.ofBits .f32 0x7F800000#32 = ⊤ := by simp [Ideal.ofBits, Ideal.ieee]

theorem isReal_of_abs {x : EReal} (h : max x (-x) < ⊤) : IsReal x := by
  induction x using EReal.rec with
  | bot => simp at h
  | top => simp at h
  | coe r => exact .coe r

/-- What the precondition says of one entry. -/
theorem isReal_of_abs_lt {S : Shape} (b : (⟨0, ![]⟩ : Shape).BroadcastsInDim S (![] : Fin 0 → Fin S.rank)) (x : FVec Ideal S .f32)
    (h : cmpf .olt (Host.absf x) (broadcastInDim S ![] b (constant (F := Ideal) ⟨0, ![]⟩ .f32 0x7F800000#32)) = fun _ => 1#1) (i : S.Idx) :
    IsReal (x i) := by
  have h := congrFun h i
  pointwise at h
  rw [ofBits_inf] at h
  refine isReal_of_abs (x := x i) ?_
  by_contra hn
  rw [show decide (FloatOps.absf (F := Ideal) (φ := .f32) (x i) < (⊤ : EReal)) = false from decide_eq_false hn] at h
  exact absurd h (by decide)

theorem isReal_logistic (a : EReal) : IsReal (Ideal.logistic a) := by
  induction a using EReal.rec with
  | bot => rw [Ideal.logistic_bot]; exact .zero
  | top => rw [Ideal.logistic_top]; exact .one
  | coe r => rw [Ideal.logistic_coe]; exact .coe _

/-- The slope of the gated product in its gate, weighed by a real gradient, term by term or at once: at an infinite gate the
    logistic function's slope vanishes. -/
theorem slope_eq {s b : EReal} (hs : IsReal s) (hb : IsReal b) (a : EReal) :
    s * b * Ideal.logistic a + a * (s * b) * (Ideal.logistic a * (1 - Ideal.logistic a))
      = s * (b * Ideal.logistic a + a * b * (Ideal.logistic a * (1 - Ideal.logistic a))) := by
  obtain ⟨s, rfl⟩ := hs
  obtain ⟨b, rfl⟩ := hb
  have h1 : (1 : EReal) - 1 = 0 := by rw [← EReal.coe_one, ← EReal.coe_sub, sub_self, EReal.coe_zero]
  induction a using EReal.rec with
  | bot => simp
  | top => simp [h1]
  | coe r =>
    rw [Ideal.logistic_coe]
    generalize (1 + Real.exp (-r))⁻¹ = l
    rw [← EReal.coe_one]
    norm_cast
    ring

end Cert.Reals
-- ==== Proof.DgradA.lean ====
/-
  The gradient that a gated feed-forward half-step sends back through its gate and its down projection: the four arrays of
  the kernel against the derivative of the half-step, taken as two successive vector-Jacobian products.
-/
module

public import proofs.«01_k».proof.Defs
public import proofs.«01_k».proof.Proof.DgradAPoint
public import proofs.«01_k».proof.Proof.Gen.RaIdeal.Run
public import proofs.«01_k».proof.Proof.Gen.RaIdeal.Read
public import proofs.«01_k».proof.Proof.Reals

@[expose] public section
noncomputable section
namespace Cert.Proof.DgradA
open Idealize.ShloMosaic Idealize.ShloMosaic.TcCoe Idealize.SL.Sem
open Cert.Reals Cert.RaIdeal Cert.RaIdeal.Read Cert.DaIdeal.Grad

theorem ref_a (h : S8192x1024.Idx → EReal) (w : S1024x2816.Idx → EReal) (i : S8192x2816.Idx) : val_main_v0 (F := Ideal) h w i = proj h w i := by
  rw [val_main_v0_apply]; exact Finset.sum_congr rfl fun k _ => by congr 2 <;> funext a <;> match a with
    | ⟨0, _⟩ => rfl
    | ⟨1, _⟩ => rfl
theorem ref_b (h : S8192x1024.Idx → EReal) (w : S1024x2816.Idx → EReal) (i : S8192x2816.Idx) : val_main_v1 (F := Ideal) h w i = proj h w i := by
  rw [val_main_v1_apply]; exact Finset.sum_congr rfl fun k _ => by congr 2 <;> funext a <;> match a with
    | ⟨0, _⟩ => rfl
    | ⟨1, _⟩ => rfl
theorem ref_sig (h : S8192x1024.Idx → EReal) (w : S1024x2816.Idx → EReal) (i : S8192x2816.Idx) : val_main_v2_2 (F := Ideal) h w i = Ideal.logistic (proj h w i) := by
  rw [val_main_v2_2_apply, val_main_call0_v4_apply, val_main_call0_v3_apply, val_main_call0_v2_apply, val_main_call0_v1_apply, val_main_call0_v0_apply, val_main_call0_cst_apply, val_main_call0_cst_0_apply, ref_a]
  unfold Ideal.logistic
  pointwise
/-- The reference's slope of the logistic function. -/
theorem ref_slope (h : S8192x1024.Idx → EReal) (w : S1024x2816.Idx → EReal) (i : S8192x2816.Idx) :
    val_main_v2_1 (F := Ideal) h w i = Ideal.logistic (proj h w i) * (1 - Ideal.logistic (proj h w i)) := by
  rw [val_main_v2_1_apply, val_main_call0_v7_apply, val_main_call0_v6_apply, val_main_call0_cst_1_apply, ref_sig]
  pointwise

theorem ref_df (g : S1x1024.Idx → EReal) (x : S8192x1024.Idx → EReal) (i : S8192x1024.Idx) : val_main_v9 (F := Ideal) g x i = dfAt g x i := by
  rw [val_main_v9_apply, val_main_v7_apply, val_main_v6_apply, val_main_v5_apply, val_main_cst_apply]
  show factor * g _ * x i = _
  unfold dfAt; congr 3; funext a; match a with
    | ⟨0, _⟩ => rfl
    | ⟨1, _⟩ => rfl
/-- The gradient that reaches the gated product. -/
def dsOf (w : S2816x1024.Idx → EReal) (g : S1x1024.Idx → EReal) (x : S8192x1024.Idx → EReal) (i : S8192x2816.Idx) : EReal :=
  ∑ k : Fin 1024, dfAt g x (ix2 (i 0) k) * w (ix2 (i 1) k)

theorem ref_ds (w : S2816x1024.Idx → EReal) (g : S1x1024.Idx → EReal) (x : S8192x1024.Idx → EReal) (i : S8192x2816.Idx) : val_main_v13 (F := Ideal) w g x i =
    dsOf w g x i := by
  rw [val_main_v13_apply]
  refine Finset.sum_congr rfl fun k _ => ?_
  rw [ref_df]
  congr 2 <;> funext a <;> match a with
    | ⟨0, _⟩ => rfl
    | ⟨1, _⟩ => rfl

theorem ref_da (h : S8192x1024.Idx → EReal) (w1 w2 : S1024x2816.Idx → EReal) (w : S2816x1024.Idx → EReal) (g : S1x1024.Idx → EReal)
    (x : S8192x1024.Idx → EReal) (i : S8192x2816.Idx) : val_main_v17 (F := Ideal) h w1 w2 w g x i
      = dsOf w g x i * proj h w2 i * Ideal.logistic (proj h w1 i)
        + proj h w1 i * (dsOf w g x i * proj h w2 i) * (Ideal.logistic (proj h w1 i) * (1 - Ideal.logistic (proj h w1 i))) := by
  rw [val_main_v17_apply, val_main_v16_apply, val_main_call1_v2_apply, val_main_call1_v1_apply, val_main_call1_v0_apply,
    val_main_v15_apply, ref_slope, ref_sig, ref_ds, ref_a, ref_b]
  pointwise

theorem ref_db (h : S8192x1024.Idx → EReal) (w1 : S1024x2816.Idx → EReal) (w : S2816x1024.Idx → EReal) (g : S1x1024.Idx → EReal)
    (x : S8192x1024.Idx → EReal) (i : S8192x2816.Idx) : val_main_v18 (F := Ideal) h w1 w g x i
      = dsOf w g x i * (proj h w1 i * Ideal.logistic (proj h w1 i)) := by
  rw [val_main_v18_apply, val_main_v14_apply, val_main_v2_0_apply, ref_sig, ref_ds, ref_a]
  pointwise
  exact mul_comm _ _

theorem ref_f (h : S8192x1024.Idx → EReal) (w1 w2 : S1024x2816.Idx → EReal) (w : S2816x1024.Idx → EReal) (i : S8192x1024.Idx) :
   val_main_v4 (F := Ideal) h w1 w2 w i = ∑ n : Fin 2816, gatedAt h w1 w2 (ix2 (i 0) n) * w (ix2 n (i 1)) := by
  rw [val_main_v4_apply]
  refine Finset.sum_congr rfl fun k _ => ?_
  rw [val_main_v3_apply, val_main_v2_0_apply, ref_sig, ref_a, ref_b]
  unfold gatedAt
  congr 3 <;> try (funext a <;> match a with
    | ⟨0, _⟩ => rfl
    | ⟨1, _⟩ => rfl)
theorem ref_dg (h : S8192x1024.Idx → EReal) (w1 w2 : S1024x2816.Idx → EReal) (w : S2816x1024.Idx → EReal) (x : S8192x1024.Idx → EReal) (i : S8x1024.Idx) :
   val_main_v21 (F := Ideal) h w1 w2 w x i = dgAt (val_main_v4 (F := Ideal) h w1 w2 w) x i := by
  rw [val_main_v21_apply, val_main_cst_1_apply]
  unfold dgAt dgTerm
  rw [Ideal.ofBits_def, Ideal.ofBits_zero_f32, zero_add]
  refine Finset.sum_congr rfl fun k _ => ?_
  rw [val_main_v20_apply, val_main_v12_apply, val_main_v11_apply, val_main_v10_apply, val_main_cst_0_apply]
  show factor * (x _ * val_main_v4 (F := Ideal) h w1 w2 w _) = _
  rw [mul_comm (x _), ← mul_assoc]
  rw [show idx_main_v20 (idx_main_v21 i k) = ix2 ⟨k.val * 8 + (i 0).val, by have : (i 0).val < 8 := (i 0).isLt; omega⟩ (i 1) from by
    have h1 : (i 1).val < 1024 := (i 1).isLt
    funext a; match a with
    | ⟨0, _⟩ => exact Fin.ext (by show ((k.val * 8 + (i 0).val) * 1024 + (i 1).val) / 1024 = k.val * 8 + (i 0).val; omega)
    | ⟨1, _⟩ => exact Fin.ext (by show ((k.val * 8 + (i 0).val) * 1024 + (i 1).val) % 1024 = (i 1).val; omega)]
  rfl

/-! ## The two sides meet -/

variable (m : (ℓ : Loc Cert.DaIdeal.nD Cert.DaIdeal.τ Cert.DaIdeal.sig) → Buf (Elt Ideal) ℓ) (c : Dev Cert.DaIdeal.nD)

/-- ds, read off the packed weights or off the down projection. -/
theorem ds_eq (i : S8192x2816.Idx) :
    dsAt (Cert.DaIdeal.Gen.V m c Cert.DaIdeal.main_arg4) (Cert.DaIdeal.Gen.V m c Cert.DaIdeal.main_arg5)
      (Cert.DaIdeal.Gen.V m c Cert.DaIdeal.main_v17) i
    = dsOf (m ((c.tc : Thread Cert.DaIdeal.nD Cert.DaIdeal.τ).loc Cert.DaIdeal.main_arg3))
      (m ((c.tc : Thread Cert.DaIdeal.nD Cert.DaIdeal.τ).loc Cert.DaIdeal.main_arg4))
      (m ((c.tc : Thread Cert.DaIdeal.nD Cert.DaIdeal.τ).loc Cert.DaIdeal.main_arg5)) i := by
  unfold dsAt dsOf
  refine Finset.sum_congr rfl fun k _ => ?_
  refine congrArg₂ (· * ·) ?_ (V17_at m c (i 1) k)
  rw [funext (V4_at m c), funext (V5_at m c)]

theorem isReal_proj {h : S8192x1024.Idx → EReal} {w : S1024x2816.Idx → EReal} (hh : ∀ i, IsReal (h i)) (hw : ∀ i, IsReal (w i))
    (i : S8192x2816.Idx) : IsReal (proj h w i) := .sum _ fun _ => (hh _).mul (hw _)

theorem isReal_dsOf {w : S2816x1024.Idx → EReal} {g : S1x1024.Idx → EReal} {x : S8192x1024.Idx → EReal} (hw : ∀ i, IsReal (w i))
    (hg : ∀ i, IsReal (g i)) (hx : ∀ i, IsReal (x i)) (i : S8192x2816.Idx) : IsReal (dsOf w g x i) :=
  .sum _ fun _ => ((IsReal.half.mul (hg _)).mul (hx _)).mul (hw _)

/-! ## The claims -/

/-- The kernel's gradients of the gated product's two factors, of the half-step's inner value and of the gate are the
    reference's, over the extended reals. -/
theorem algebraic [Cert.Pre_finite_a.Facts] : Cert.algebraic_DaIdeal_RaIdeal_pre_finite_a := by
  intro m ρ m' ρ' hpre hagree
  refine ⟨fun c => (Cert.DaIdeal.Gen.dats m 0 c).arrAt 6 Cert.DaIdeal.cfg0.N, fun c => (Cert.DaIdeal.Gen.dats m 0 c).arrAt 7 Cert.DaIdeal.cfg0.N,
    fun c => (Cert.DaIdeal.Gen.dats m 0 c).arrAt 8 Cert.DaIdeal.cfg0.N, fun c => (Cert.DaIdeal.Gen.dats m 0 c).arrAt 9 Cert.DaIdeal.cfg0.N,
    Cert.DaIdeal.Value.run_blocks m ρ, ?_⟩
  refine (θ_run Cert.RaIdeal.defs _ _).mono (fun _ h c => ?_) (Cert.RaIdeal.Value.run (F := Ideal) m' ρ')
  obtain ⟨h17, h18, h19, h21, hk⟩ := h c
  obtain ⟨e0, e1, e2, e3, e4, e5⟩ := hagree c
  obtain ⟨p0, p2, p3, p4, p5⟩ := hpre c
  have p0 := isReal_of_abs_lt _ _ p0
  have p2 := isReal_of_abs_lt _ _ p2
  have p3 := isReal_of_abs_lt _ _ p3
  have p4 := isReal_of_abs_lt _ _ p4
  have p5 := isReal_of_abs_lt _ _ p5
  refine ⟨h17.trans ?_, h18.trans ?_, h19.trans ?_, h21.trans ?_, hk⟩ <;> clear h17 h18 h19 h21 hk
  · rw [val_main_v17_eq, e0, e1, e2, e3, e4, e5]
    show _ = (Cert.DaIdeal.Gen.dats m 0 c).arrAt 6 Cert.DaIdeal.cfg0.N
    rw [final6]
    funext i
    rw [ref_da, ds_eq, V10_at]
    exact slope_eq (isReal_dsOf p3 p4 p5 i) (isReal_proj p0 p2 i) _
  · rw [val_main_v18_eq, e0, e1, e3, e4, e5]
    show _ = (Cert.DaIdeal.Gen.dats m 0 c).arrAt 7 Cert.DaIdeal.cfg0.N
    rw [final7]
    funext i
    rw [ref_db, ds_eq, V9_at]
  · rw [val_main_v19_eq, e4, e5]
    show _ = (Cert.DaIdeal.Gen.dats m 0 c).arrAt 8 Cert.DaIdeal.cfg0.N
    rw [final8]
    funext i
    rw [val_main_v19_apply, ref_df, funext (V4_at m c), funext (V5_at m c)]
    rfl
  · rw [val_main_v21_eq, e0, e1, e2, e3, e5]
    show _ = (Cert.DaIdeal.Gen.dats m 0 c).arrAt 9 Cert.DaIdeal.cfg0.N
    rw [final9]
    funext i
    rw [ref_dg, funext (V5_at m c), funext (V8_at m c), funext (ref_f _ _ _ _)]

/-- The reference runs to its end. -/
theorem frame_reference : Cert.quiescent_RaIdeal := fun m ρ _ =>
  (θ_run Cert.RaIdeal.defs _ _).mono (fun r h => ⟨fun c => (h c).2.2.2.2, sem_eq_zero_of_no_sems (by decide) r.2⟩)
    (Cert.RaIdeal.Value.run (F := Ideal) m ρ)

end Cert.Proof.DgradA
-- ==== Proof.NormRow.lean ====
/-
  One token's row under the modulated root-mean-square norm `h = (x · rsqrt(mean x² + ε) · gain) · (1 + scale) + shift`, and
  the gradient that it sends back to the row. The two ways of writing that gradient agree on real numbers.
-/
module

public import proofs.«01_k».proof.Proof.Reals

@[expose] public section

noncomputable section

namespace Cert.NormRow

open Idealize.ShloMosaic Cert.Reals

/-- The row's length, as the float's word. -/
abbrev len : EReal := Ideal.ofBits .f32 0x44800000#32
/-- The norm's ε. -/
abbrev eps : EReal := Ideal.ofBits .f32 0x358637BD#32
/-- The derivative of a power −1/2 takes this factor. -/
abbrev negHalf : EReal := Ideal.ofBits .f32 0xBF000000#32

/-- The mean of the squares, with ε. -/
def ms (x : Fin 1024 → EReal) : EReal := Ideal.div (∑ c : Fin 1024, x c * x c) len + eps
/-- The row's factor. -/
def rinv (x : Fin 1024 → EReal) : EReal := Ideal.rsqrt (ms x)
/-- The row, normed. -/
def normed (x : Fin 1024 → EReal) (k : Fin 1024) : EReal := x k * rinv x
/-- The row, normed and weighed by the gain. -/
def gained (g x : Fin 1024 → EReal) (k : Fin 1024) : EReal := normed x k * g k
/-- The row, normed and modulated. -/
def modded (g sc sh x : Fin 1024 → EReal) (k : Fin 1024) : EReal := gained g x k * (1 + sc k) + sh k

/-- The gradient of the normed row: `d` weighed by the scale and the gain. -/
def dn (g sc d : Fin 1024 → EReal) (k : Fin 1024) : EReal := d k * (1 + sc k) * g k
/-- The gradient of the row, as the kernel writes it: the part along the row taken off, then the row's factor. -/
def back (x e : Fin 1024 → EReal) (k : Fin 1024) : EReal :=
  rinv x * (e k - normed x k * Ideal.div (∑ c : Fin 1024, e c * normed x c) len)
/-- The factor of the row in its own gradient, as differentiation writes it. -/
def along (x e : Fin 1024 → EReal) : EReal :=
  Ideal.div ((∑ c : Fin 1024, x c * e c) * (negHalf * Ideal.div (rinv x) (ms x))) len

theorem len_eq : len = ((1024 : ℝ) : EReal) := by
  simp [len, Ideal.ofBits, Ideal.ieee, -EReal.coe_mul]; norm_num
theorem negHalf_eq : negHalf = ((-(1 / 2) : ℝ) : EReal) := by
  simp [negHalf, Ideal.ofBits, Ideal.ieee, -EReal.coe_mul]; norm_num
theorem eps_eq : ∃ r : ℝ, 0 < r ∧ eps = (r : EReal) := by
  refine ⟨_, ?_, by simp [eps, Ideal.ofBits, Ideal.ieee, -EReal.coe_mul]; rfl⟩
  positivity

theorem div_coe (a b : ℝ) (h : b ≠ 0) : Ideal.div (a : EReal) (b : EReal) = ((a / b : ℝ) : EReal) := by
  unfold Ideal.div
  rw [if_neg (by exact_mod_cast h), div_eq_mul_inv, EReal.coe_mul, EReal.coe_inv]

theorem sum_coe (f : Fin 1024 → ℝ) : (∑ c, (f c : EReal)) = ((∑ c, f c : ℝ) : EReal) := by
  induction (Finset.univ : Finset (Fin 1024)) using Finset.induction_on with
  | empty => simp
  | insert a s ha ih => rw [Finset.sum_insert ha, Finset.sum_insert ha, ih, EReal.coe_add]

/-- On a real row the mean of the squares is a positive real number, and so is the row's factor. -/
theorem rinv_real {x : Fin 1024 → EReal} (hx : ∀ k, IsReal (x k)) :
    ∃ q r : ℝ, ms x = (q : EReal) ∧ rinv x = (r : EReal) ∧ q ≠ 0 ∧ r / q = r * r * r := by
  choose v hv using hx
  obtain rfl : x = fun k => (v k : EReal) := funext hv
  obtain ⟨e, he, heq⟩ := eps_eq
  have hq : ms (fun k => (v k : EReal)) = (((∑ c, v c * v c) / 1024 + e : ℝ) : EReal) := by
    unfold ms
    rw [heq, len_eq]
    simp only [← EReal.coe_mul]
    rw [sum_coe, div_coe _ _ (by norm_num), ← EReal.coe_add]
  have hp : 0 < (∑ c, v c * v c) / 1024 + e :=
    add_pos_of_nonneg_of_pos (div_nonneg (Finset.sum_nonneg fun i _ => mul_self_nonneg _) (by norm_num)) he
  refine ⟨_, _, hq, by unfold rinv; rw [hq, Ideal.rsqrt_coe, if_neg (not_lt.mpr hp.le), if_neg hp.ne'], hp.ne', ?_⟩
  have h2 := Real.sq_sqrt hp.le
  have h3 : Real.sqrt ((∑ c, v c * v c) / 1024 + e) ≠ 0 := (Real.sqrt_pos.mpr hp).ne'
  generalize Real.sqrt ((∑ c, v c * v c) / 1024 + e) = s at h2 h3 ⊢
  rw [← h2]
  field_simp

theorem isReal_rinv {x : Fin 1024 → EReal} (hx : ∀ k, IsReal (x k)) : IsReal (rinv x) := by
  obtain ⟨q, r, -, hr, -⟩ := rinv_real hx; exact ⟨r, hr⟩
theorem isReal_normed {x : Fin 1024 → EReal} (hx : ∀ k, IsReal (x k)) (k : Fin 1024) : IsReal (normed x k) := (hx k).mul (isReal_rinv hx)
theorem isReal_dn {g sc d : Fin 1024 → EReal} (hg : ∀ k, IsReal (g k)) (hs : ∀ k, IsReal (sc k)) (hd : ∀ k, IsReal (d k)) (k : Fin 1024) :
    IsReal (dn g sc d k) := ((hd k).mul (IsReal.one.add (hs k))).mul (hg k)

/-- The two ways of writing the row's gradient agree on real numbers. -/
theorem back_eq {x e : Fin 1024 → EReal} (hx : ∀ k, IsReal (x k)) (he : ∀ k, IsReal (e k)) (o : EReal) (k : Fin 1024) :
    o + back x e k = o + e k * rinv x + x k * along x e + along x e * x k := by
  obtain ⟨q, r, hq, hr, hq0, h3⟩ := rinv_real hx
  choose v hv using hx
  choose w hw using he
  unfold back along normed
  rw [hq, hr, len_eq, negHalf_eq]
  obtain rfl : x = fun k => (v k : EReal) := funext hv
  obtain rfl : e = fun k => (w k : EReal) := funext hw
  simp only [← EReal.coe_mul]
  rw [sum_coe, sum_coe, div_coe _ _ hq0, h3, div_coe _ _ (by norm_num)]
  simp only [← EReal.coe_mul]
  rw [div_coe _ _ (by norm_num)]
  rw [add_assoc, add_assoc]
  congr 1
  have hs : (∑ c, w c * (v c * r)) = r * ∑ c, v c * w c := by
    rw [Finset.mul_sum]; exact Finset.sum_congr rfl fun c _ => by ring
  rw [hs]
  norm_cast
  ring

end Cert.NormRow
-- ==== Proof.DgradBPoint.lean ====
/-
  The gradient that a gated feed-forward half-step sends back through its two up projections and its modulated norm, at one
  grid point, and what the five result arrays hold after the last point.

  The kernel walks 16 blocks of 512 tokens. A point multiplies the gradients of the gated product's two factors (da, db) by
  the transposes of the two projections and adds them (dh), forms the norm again from the token's row, and writes the row's
  gradient and the normed row. The gradients of shift, scale and gain are added up in accumulators of 8 rows: token
  `8 r + s` goes to row `s`.
-/
module

public import proofs.«01_k».proof.Proof.Gen.DbIdeal.Value
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pointwise
public import Idealize.ShloMosaic.Lib.Claim
public import Idealize.ShloMosaic.Lib.Tactic
public import Idealize.ShloMosaic.Lib.StableHlo.ReadAt
public import proofs.«01_k».proof.Proof.NormRow

@[expose] public section

noncomputable section

namespace Cert.DbIdeal.Grad

open Idealize.ShloMosaic Idealize.ShloMosaic.TcCoe Idealize.SL.Sem
open Cert.DbIdeal Cert.DbIdeal.Gen Cert.NormRow

variable (m : (ℓ : Loc nD τ sig) → Buf (Elt Ideal) ℓ)

/-! ## The results, as functions of the arrays that the call reads -/

/-- Row `n` of a projection within the packed weights: piece `n / 704`, from row `o` on. -/
def packedAt (o : Nat) (ho : o + 704 ≤ 2112) (w : S4x2112x1024.Idx → EReal) (n : Fin 2816) (k : Fin 1024) : EReal :=
  w (ix3 ⟨n.val / 704, by omega⟩ ⟨o + n.val % 704, by omega⟩ k)

/-- A token's row of an array. -/
def row (x : S8192x1024.Idx → EReal) (t : Fin 8192) (k : Fin 1024) : EReal := x (ix2 t k)
/-- The one row of an array. -/
def vec (g : S1x1024.Idx → EReal) (k : Fin 1024) : EReal := g (ix2 0 k)

/-- dh: the gradient of the normed and modulated row. -/
def dhAt (a b : S8192x2816.Idx → EReal) (w : S4x2112x1024.Idx → EReal) (t : Fin 8192) (k : Fin 1024) : EReal :=
  (∑ n : Fin 2816, a (ix2 t n) * packedAt 0 (by omega) w n k) + ∑ n : Fin 2816, b (ix2 t n) * packedAt 704 (by omega) w n k

/-- A sum over the tokens in 8 interleaved rows: token `8 r + s` for row `s`. -/
def sum8 (f : Fin 8192 → Fin 1024 → EReal) (j : S8x1024.Idx) : EReal :=
  ∑ r : Fin 1024, f ⟨r.val * 8 + (j 0).val, by have : (j 0).val < 8 := (j 0).isLt; omega⟩ (j 1)

/-- The same sum over one block of 512 tokens. -/
def rows8 (f : Fin 512 → Fin 1024 → EReal) (j : S8x1024.Idx) : EReal :=
  ∑ r : Fin 64, f ⟨r.val * 8 + (j 0).val, by have : (j 0).val < 8 := (j 0).isLt; omega⟩ (j 1)

/-! ## The stored values -/

/-- A token's row of a block. -/
def brow (x : Vec Ideal S512x1024 .f32) (t : Fin 512) (k : Fin 1024) : EReal := x (ix2 t k)

/-- dh over one block of tokens. -/
def dhBlk (a b : Vec Ideal S512x2816 .bf16) (w1 w2 : Vec Ideal S4x704x1024 .bf16) (t : Fin 512) (k : Fin 1024) : EReal :=
  (∑ n : Fin 2816, a (ix2 t n) * w1 (ix3 ⟨n.val / 704, by omega⟩ ⟨n.val % 704, Nat.mod_lt _ (by decide)⟩ k))
    + ∑ n : Fin 2816, b (ix2 t n) * w2 (ix3 ⟨n.val / 704, by omega⟩ ⟨n.val % 704, Nat.mod_lt _ (by decide)⟩ k)

theorem pay15 (b : Vec Ideal S512x2816 .bf16) : k0_pay15 b = b := by
  unfold k0_pay15; simp only [shapeCast_self]

theorem pay1 (a b : Vec Ideal S512x2816 .bf16) (w1 w2 : Vec Ideal S4x704x1024 .bf16) (j : S512x1024.Idx) :
    k0_pay1 (k0_pay14 a w1) b w2 j = dhBlk a b w1 w2 (j 0) (j 1) := by
  unfold k0_pay1 k0_pay14 dhBlk
  pointwise

theorem pay10 (x : Vec Ideal S512x1024 .f32) (j : S512x1.Idx) : k0_pay10 x j = rinv (brow x (j 0)) := by
  unfold k0_pay10 rinv ms brow
  pointwise

theorem pay11 (x : Vec Ideal S512x1024 .f32) (j : S512x1024.Idx) : k0_pay11 x j = normed (brow x (j 0)) (j 1) := by
  unfold k0_pay11 normed brow
  pointwise
  rw [pay10]; rfl

theorem pay12 (g : Vec Ideal S1x1024 .f32) (x : Vec Ideal S512x1024 .f32) (j : S512x1024.Idx) :
    k0_pay12 g x j = gained (vec g) (brow x (j 0)) (j 1) := by
  unfold k0_pay12 gained vec
  pointwise
  rw [pay11]

theorem pay13 (g sc : Vec Ideal S1x1024 .f32) (x : Vec Ideal S512x1024 .f32) (sh : Vec Ideal S1x1024 .f32) (j : S512x1024.Idx) :
    k0_pay13 g sc x sh j = modded (vec g) (vec sc) (vec sh) (brow x (j 0)) (j 1) := by
  unfold k0_pay13 modded vec
  pointwise
  rw [pay12]; rfl

theorem pay2 (sc : Vec Ideal S1x1024 .f32) (a b : Vec Ideal S512x2816 .bf16) (w1 w2 : Vec Ideal S4x704x1024 .bf16) (j : S512x1024.Idx) :
    k0_pay2 sc (k0_pay14 a w1) b w2 j = dhBlk a b w1 w2 (j 0) (j 1) * (1 + vec sc (j 1)) := by
  rw [← pay1]
  unfold k0_pay2 vec
  generalize k0_pay1 (k0_pay14 a w1) b w2 = d
  pointwise

theorem pay6 (g sc : Vec Ideal S1x1024 .f32) (x : Vec Ideal S512x1024 .f32) (a b : Vec Ideal S512x2816 .bf16)
    (w1 w2 : Vec Ideal S4x704x1024 .bf16) (o : Vec Ideal S512x1024 .f32) (j : S512x1024.Idx) :
    k0_pay6 g sc (k0_pay10 x) (k0_pay11 x) (k0_pay14 a w1) b w2 o j
      = o j + back (brow x (j 0)) (dn (vec g) (vec sc) (dhBlk a b w1 w2 (j 0))) (j 1) := by
  have h2 : k0_pay2 sc (k0_pay14 a w1) b w2 = fun j => dhBlk a b w1 w2 (j 0) (j 1) * (1 + vec sc (j 1)) := funext (pay2 sc a b w1 w2)
  unfold k0_pay6 back dn
  rw [h2]
  pointwise
  simp only [pay10, pay11]
  rfl

theorem pay3 (a b : Vec Ideal S512x2816 .bf16) (w1 w2 : Vec Ideal S4x704x1024 .bf16) (j : S8x1024.Idx) :
    k0_pay3 (k0_pay14 a w1) b w2 j = rows8 (dhBlk a b w1 w2) j := by
  unfold k0_pay3 rows8
  rw [funext (pay1 a b w1 w2)]
  pointwise

theorem pay4 (y : FVec Ideal S512x1024 .f32) (a b : Vec Ideal S512x2816 .bf16) (w1 w2 : Vec Ideal S4x704x1024 .bf16) (j : S8x1024.Idx) :
    k0_pay4 y (k0_pay14 a w1) b w2 j = rows8 (fun t k => dhBlk a b w1 w2 t k * y (ix2 t k)) j := by
  unfold k0_pay4 rows8
  rw [funext (pay1 a b w1 w2)]
  pointwise

theorem pay5 (sc : Vec Ideal S1x1024 .f32) (n : FVec Ideal S512x1024 .f32) (a b : Vec Ideal S512x2816 .bf16)
    (w1 w2 : Vec Ideal S4x704x1024 .bf16) (j : S8x1024.Idx) :
    k0_pay5 sc n (k0_pay14 a w1) b w2 j = rows8 (fun t k => dhBlk a b w1 w2 t k * (1 + vec sc k) * n (ix2 t k)) j := by
  unfold k0_pay5 rows8
  rw [funext (pay2 sc a b w1 w2)]
  pointwise

/-! ## The blocks, read off the arrays -/

theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_2 : ∀ t : Fin cfg0.N, win0_2.index t (0 : Fin 2) = t.val ∧ win0_2.index t (1 : Fin 2) = 0 :=
  (by decide +kernel : ∀ t : Fin grid0.N, _)
theorem idx_3 : ∀ t : Fin cfg0.N, win0_3.index t (0 : Fin 2) = t.val ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 3) = 0 ∧ win0_7.index t (1 : Fin 3) = 0 ∧ win0_7.index t (2 : Fin 3) = 0 :=
  (by decide +kernel : ∀ t : Fin grid0.N, _)
theorem idx_8 : ∀ t : Fin cfg0.N, win0_8.index t (0 : Fin 3) = 0 ∧ win0_8.index t (1 : Fin 3) = 1 ∧ win0_8.index t (2 : Fin 3) = 0 :=
  (by decide +kernel : ∀ t : Fin grid0.N, _)
theorem idx_9 : ∀ t : Fin cfg0.N, win0_9.index t (0 : Fin 2) = t.val ∧ win0_9.index t (1 : Fin 2) = 0 :=
  (by decide +kernel : ∀ t : Fin grid0.N, _)
theorem idx_10 : ∀ t : Fin cfg0.N, win0_10.index t (0 : Fin 2) = t.val ∧ win0_10.index t (1 : Fin 2) = 0 :=
  (by decide +kernel : ∀ t : Fin grid0.N, _)

theorem lt16 (t : Fin cfg0.N) : t.val < 16 := lt_of_lt_of_eq t.isLt N_0

/-- Token `s` of the block of point `t`. -/
abbrev tok (t : Fin cfg0.N) (s : Fin 512) : Fin 8192 := ⟨t.val * 512 + s.val, by have := lt16 t; omega⟩

theorem oAt (c : Dev nD) (t : Fin cfg0.N) (s : Fin 512) (k : Fin 1024) : iblk m c 0 t (ix2 s k) = V m c main_arg7 (ix2 (tok t s) k) := by
  blk_ext [iblk, idx_0 t]
theorem xAt (c : Dev nD) (t : Fin cfg0.N) (s : Fin 512) (k : Fin 1024) : iblk m c 1 t (ix2 s k) = V m c main_arg0 (ix2 (tok t s) k) := by
  blk_ext [iblk, idx_1 t]
theorem daAt (c : Dev nD) (t : Fin cfg0.N) (s : Fin 512) (n : Fin 2816) : iblk m c 2 t (ix2 s n) = V m c main_v0 (ix2 (tok t s) n) := by
  blk_ext [iblk, idx_2 t]
theorem dbAt (c : Dev nD) (t : Fin cfg0.N) (s : Fin 512) (n : Fin 2816) : iblk m c 3 t (ix2 s n) = V m c main_v1 (ix2 (tok t s) n) := by
  blk_ext [iblk, idx_3 t]
theorem shVec (c : Dev nD) (t : Fin cfg0.N) : vec (iblk m c 4 t) = vec (V m c main_arg1) := by
  funext k; unfold vec; blk_ext [iblk, idx_4 t]
theorem scVec (c : Dev nD) (t : Fin cfg0.N) : vec (iblk m c 5 t) = vec (V m c main_arg2) := by
  funext k; unfold vec; blk_ext [iblk, idx_5 t]
theorem gVec (c : Dev nD) (t : Fin cfg0.N) : vec (iblk m c 6 t) = vec (V m c main_arg3) := by
  funext k; unfold vec; blk_ext [iblk, idx_6 t]
theorem w1At (c : Dev nD) (t : Fin cfg0.N) (a : Fin 4) (b : Fin 704) (k : Fin 1024) (i : S4x2112x1024.Idx) (h0 : (i 0).val = a.val)
    (h1 : (i 1).val = 0 + b.val) (h2 : (i 2).val = k.val) : iblk m c 7 t (ix3 a b k) = V m c main_v8 i := by
  blk_ext [iblk, idx_7 t, h0, h1, h2]
theorem w2At (c : Dev nD) (t : Fin cfg0.N) (a : Fin 4) (b : Fin 704) (k : Fin 1024) (i : S4x2112x1024.Idx) (h0 : (i 0).val = a.val)
    (h1 : (i 1).val = 704 + b.val) (h2 : (i 2).val = k.val) : iblk m c 8 t (ix3 a b k) = V m c main_v8 i := by
  blk_ext [iblk, idx_8 t, h0, h1, h2]

theorem row_blk (c : Dev nD) (t : Fin cfg0.N) (s : Fin 512) : brow (iblk m c 1 t) s = row (V m c main_arg0) (tok t s) :=
  funext fun k => xAt m c t s k

theorem dh_blk (c : Dev nD) (t : Fin cfg0.N) (s : Fin 512) : dhBlk (iblk m c 2 t) (iblk m c 3 t) (iblk m c 7 t) (iblk m c 8 t) s
    = dhAt (V m c main_v0) (V m c main_v1) (V m c main_v8) (tok t s) := by
  funext k
  unfold dhBlk dhAt packedAt
  refine congrArg₂ (· + ·) (Finset.sum_congr rfl fun n _ => ?_) (Finset.sum_congr rfl fun n _ => ?_)
  · exact congrArg₂ (· * ·) (daAt m c t s n) (w1At m c t _ _ k _ rfl rfl rfl)
  · exact congrArg₂ (· * ·) (dbAt m c t s n) (w2At m c t _ _ k _ rfl rfl rfl)

/-! ## What a point leaves in each block -/

section
variable (o x : S8192x1024.Idx → EReal) (g sc sh : S1x1024.Idx → EReal) (a b : S8192x2816.Idx → EReal) (w : S4x2112x1024.Idx → EReal)
  (t : Fin 8192) (k : Fin 1024)

/-- The gradient of the row. -/
def dxAt : EReal := o (ix2 t k) + back (row x t) (dn (vec g) (vec sc) (dhAt a b w t)) k
/-- The normed and modulated row. -/
def hAt : EReal := modded (vec g) (vec sc) (vec sh) (row x t) k
/-- One token's terms of the gradients of scale and gain; the shift's is dh itself. -/
def scTerm : EReal := dhAt a b w t k * gained (vec g) (row x t) k
def gnTerm : EReal := dhAt a b w t k * (1 + vec sc k) * normed (row x t) k
end

theorem blk9 (c : Dev nD) (t : Fin cfg0.N) (s : Fin 512) (k : Fin 1024) :
    k0_pay6 (iblk m c 6 t) (iblk m c 5 t) (k0_pay10 (iblk m c 1 t)) (k0_pay11 (iblk m c 1 t))
      (k0_pay14 (iblk m c 2 t) (iblk m c 7 t)) (iblk m c 3 t) (iblk m c 8 t) (iblk m c 0 t) (ix2 s k)
    = dxAt (V m c main_arg7) (V m c main_arg0) (V m c main_arg3) (V m c main_arg2) (V m c main_v0) (V m c main_v1) (V m c main_v8) (tok t s) k := by
  refine (pay6 _ _ _ _ _ _ _ _ _).trans (congrArg₂ (· + ·) (oAt m c t s k) (congrArg₂ (fun x e => back x e k) (row_blk m c t s) ?_))
  rw [← gVec m c t, ← scVec m c t, ← dh_blk m c t]
  rfl

theorem blk10 (c : Dev nD) (t : Fin cfg0.N) (s : Fin 512) (k : Fin 1024) :
    k0_pay13 (iblk m c 6 t) (iblk m c 5 t) (iblk m c 1 t) (iblk m c 4 t) (ix2 s k)
    = hAt (V m c main_arg0) (V m c main_arg3) (V m c main_arg2) (V m c main_arg1) (tok t s) k := by
  refine (pay13 _ _ _ _ _).trans ?_
  show modded (vec (iblk m c 6 t)) (vec (iblk m c 5 t)) (vec (iblk m c 4 t)) (brow (iblk m c 1 t) s) k = _
  rw [row_blk, gVec, scVec, shVec]; rfl

theorem blk11 (c : Dev nD) (t : Fin cfg0.N) (j : S8x1024.Idx) :
    k0_pay3 (k0_pay14 (iblk m c 2 t) (iblk m c 7 t)) (iblk m c 3 t) (iblk m c 8 t) j
    = rows8 (fun s => dhAt (V m c main_v0) (V m c main_v1) (V m c main_v8) (tok t s)) j :=
  (pay3 _ _ _ _ _).trans (congrArg (rows8 · j) (funext fun s => dh_blk m c t s))

theorem blk12 (c : Dev nD) (t : Fin cfg0.N) (j : S8x1024.Idx) :
    k0_pay4 (k0_pay12 (iblk m c 6 t) (iblk m c 1 t)) (k0_pay14 (iblk m c 2 t) (iblk m c 7 t)) (iblk m c 3 t) (iblk m c 8 t) j
    = rows8 (fun s => scTerm (V m c main_arg0) (V m c main_arg3) (V m c main_v0) (V m c main_v1) (V m c main_v8) (tok t s)) j :=
  (pay4 _ _ _ _ _ _).trans (congrArg (rows8 · j) (funext fun s => funext fun k => congrArg₂ (· * ·) (congrFun (dh_blk m c t s) k)
    ((pay12 _ _ _).trans (congrArg₂ (fun g x => gained g x k) (gVec m c t) (row_blk m c t s)))))

theorem blk13 (c : Dev nD) (t : Fin cfg0.N) (j : S8x1024.Idx) :
    k0_pay5 (iblk m c 5 t) (k0_pay11 (iblk m c 1 t)) (k0_pay14 (iblk m c 2 t) (iblk m c 7 t)) (iblk m c 3 t) (iblk m c 8 t) j
    = rows8 (fun s => gnTerm (V m c main_arg0) (V m c main_arg2) (V m c main_v0) (V m c main_v1) (V m c main_v8) (tok t s)) j :=
  (pay5 _ _ _ _ _ _ _).trans (congrArg (rows8 · j) (funext fun s => funext fun k => congrArg₂ (· * ·)
    (congrArg₂ (fun d v => d * (1 + v)) (congrFun (dh_blk m c t s) k) (congrFun (scVec m c t) k))
    ((pay11 _ _).trans (congrArg (fun x => normed x k) (row_blk m c t s)))))

theorem pay7 (d : FVec Ideal S512x1024 .f32) (b : FVec Ideal S512x2816 .bf16) (w : Vec Ideal S4x704x1024 .bf16) (acc : Vec Ideal S8x1024 .f32)
    (j : S8x1024.Idx) : k0_pay7 d b w acc j = acc j + k0_pay3 d b w j := by
  unfold k0_pay7; simp only [shapeCast_self]; rfl
theorem pay8 (y d : FVec Ideal S512x1024 .f32) (b : FVec Ideal S512x2816 .bf16) (w : Vec Ideal S4x704x1024 .bf16) (acc : Vec Ideal S8x1024 .f32)
    (j : S8x1024.Idx) : k0_pay8 y d b w acc j = acc j + k0_pay4 y d b w j := by
  unfold k0_pay8; simp only [shapeCast_self]; rfl
theorem pay9 (sc : Vec Ideal S1x1024 .f32) (n d : FVec Ideal S512x1024 .f32) (b : FVec Ideal S512x2816 .bf16) (w : Vec Ideal S4x704x1024 .bf16)
    (acc : Vec Ideal S8x1024 .f32) (j : S8x1024.Idx) : k0_pay9 sc n d b w acc j = acc j + k0_pay5 sc n d b w j := by
  unfold k0_pay9; simp only [shapeCast_self]; rfl

theorem out9 (c : Dev nD) (t : Fin cfg0.N) (s : Fin 512) (k : Fin 1024) : (outsAt0 m c t.val t.isLt).1 (ix2 s k)
    = dxAt (V m c main_arg7) (V m c main_arg0) (V m c main_arg3) (V m c main_arg2) (V m c main_v0) (V m c main_v1) (V m c main_v8) (tok t s) k := by
  have hN := lt16 t
  by_cases ht : t.val % 16 = 0
  · rw [outsAt0_A m c t ht (by omega)]; frame_out
    rw [pay15]; exact blk9 m c t s k
  · rw [outsAt0_B m c t ht (by omega)]; frame_out
    rw [pay15]; exact blk9 m c t s k

theorem out10 (c : Dev nD) (t : Fin cfg0.N) (s : Fin 512) (k : Fin 1024) : (outsAt0 m c t.val t.isLt).2.1 (ix2 s k)
    = hAt (V m c main_arg0) (V m c main_arg3) (V m c main_arg2) (V m c main_arg1) (tok t s) k := by
  have hN := lt16 t
  by_cases ht : t.val % 16 = 0
  · rw [outsAt0_A m c t ht (by omega)]; frame_out
    exact blk10 m c t s k
  · rw [outsAt0_B m c t ht (by omega)]; frame_out
    exact blk10 m c t s k

/-- The sum over the block of point `t`, off the arrays. -/
theorem rows_blk (f : Fin 8192 → Fin 1024 → EReal) (t : Fin cfg0.N) (j : S8x1024.Idx) : rows8 (fun s => f (tok t s)) j
    = ∑ r : Fin 64, (fun q : Fin 1024 => f ⟨q.val * 8 + (j 0).val, by have : (j 0).val < 8 := (j 0).isLt; omega⟩ (j 1))
      ⟨t.val * 64 + r.val, by have := lt16 t; omega⟩ := by
  unfold rows8
  refine Finset.sum_congr rfl fun r _ => congrArg (fun q => f q (j 1)) (Fin.ext ?_)
  show t.val * 512 + (r.val * 8 + (j 0).val) = (t.val * 64 + r.val) * 8 + (j 0).val
  omega

/-- An accumulator that starts from a block's sum and adds the next ones holds the whole sum after the last point. -/
theorem fold8 (A : ∀ n, n < cfg0.N → S8x1024.Idx → EReal) (f : Fin 8192 → Fin 1024 → EReal)
    (h0 : ∀ (t : Fin cfg0.N), t.val % 16 = 0 → ∀ j, A t.val t.isLt j = rows8 (fun s => f (tok t s)) j)
    (h1 : ∀ (t : Fin cfg0.N), ¬ t.val % 16 = 0 → ∀ j, A t.val t.isLt j
      = A (t.val - 1) (by have := t.isLt; omega) j + rows8 (fun s => f (tok t s)) j)
    (t : Fin cfg0.N) (h : t.val % 16 = 16 - 1) : A t.val t.isLt = sum8 f := by
  funext j
  rw [Pipeline.eq_sum_fin_of_reset_step_apply_of_flush A 16 (fun _ => 0)
    (fun t j => rows8 (fun s => f (tok t s)) j) (fun t h j => (h0 t h j).trans (zero_add _).symm) (fun t h j => h1 t h j) t h j, zero_add]
  unfold sum8
  refine (Finset.sum_congr rfl fun s _ => rows_blk f _ j).trans ?_
  refine Fin.sum_mul_add_congr fun s k hl => ?_
  have hs : (16 * (t.val / 16) + s.val) * 64 + k.val = s.val * 64 + k.val := by have := lt16 t; omega
  simp only [hs]

theorem first11 (c : Dev nD) (t : Fin cfg0.N) (ht : t.val % 16 = 0) (j : S8x1024.Idx) : (outsAt0 m c t.val t.isLt).2.2.1 j
    = rows8 (fun s => dhAt (V m c main_v0) (V m c main_v1) (V m c main_v8) (tok t s)) j := by
  have hN := lt16 t
  rw [outsAt0_A m c t ht (by omega)]; frame_out
  rw [pay15]; exact blk11 m c t j
theorem step11 (c : Dev nD) (t : Fin cfg0.N) (ht : ¬ t.val % 16 = 0) (j : S8x1024.Idx) : (outsAt0 m c t.val t.isLt).2.2.1 j
    = (outsAt0 m c (t.val - 1) (by have := t.isLt; omega)).2.2.1 j
      + rows8 (fun s => dhAt (V m c main_v0) (V m c main_v1) (V m c main_v8) (tok t s)) j := by
  have hN := lt16 t
  rw [outsAt0_B m c t ht (by omega)]; frame_out
  rw [pay15]; exact (pay7 _ _ _ _ _).trans (congrArg (_ + ·) (blk11 m c t j))
theorem acc11 (c : Dev nD) (t : Fin cfg0.N) (h : t.val % 16 = 16 - 1) : (outsAt0 m c t.val t.isLt).2.2.1
    = sum8 (dhAt (V m c main_v0) (V m c main_v1) (V m c main_v8)) :=
  fold8 (fun n h => (outsAt0 m c n h).2.2.1) _ (first11 m c) (step11 m c) t h

theorem first12 (c : Dev nD) (t : Fin cfg0.N) (ht : t.val % 16 = 0) (j : S8x1024.Idx) : (outsAt0 m c t.val t.isLt).2.2.2.1 j
    = rows8 (fun s => scTerm (V m c main_arg0) (V m c main_arg3) (V m c main_v0) (V m c main_v1) (V m c main_v8) (tok t s)) j := by
  have hN := lt16 t
  rw [outsAt0_A m c t ht (by omega)]; frame_out
  rw [pay15]; exact blk12 m c t j
theorem step12 (c : Dev nD) (t : Fin cfg0.N) (ht : ¬ t.val % 16 = 0) (j : S8x1024.Idx) : (outsAt0 m c t.val t.isLt).2.2.2.1 j
    = (outsAt0 m c (t.val - 1) (by have := t.isLt; omega)).2.2.2.1 j
      + rows8 (fun s => scTerm (V m c main_arg0) (V m c main_arg3) (V m c main_v0) (V m c main_v1) (V m c main_v8) (tok t s)) j := by
  have hN := lt16 t
  rw [outsAt0_B m c t ht (by omega)]; frame_out
  rw [pay15]; exact (pay8 _ _ _ _ _ _).trans (congrArg (_ + ·) (blk12 m c t j))
theorem acc12 (c : Dev nD) (t : Fin cfg0.N) (h : t.val % 16 = 16 - 1) : (outsAt0 m c t.val t.isLt).2.2.2.1
    = sum8 (scTerm (V m c main_arg0) (V m c main_arg3) (V m c main_v0) (V m c main_v1) (V m c main_v8)) :=
  fold8 (fun n h => (outsAt0 m c n h).2.2.2.1) _ (first12 m c) (step12 m c) t h

theorem first13 (c : Dev nD) (t : Fin cfg0.N) (ht : t.val % 16 = 0) (j : S8x1024.Idx) : (outsAt0 m c t.val t.isLt).2.2.2.2 j
    = rows8 (fun s => gnTerm (V m c main_arg0) (V m c main_arg2) (V m c main_v0) (V m c main_v1) (V m c main_v8) (tok t s)) j := by
  have hN := lt16 t
  rw [outsAt0_A m c t ht (by omega)]; frame_out
  rw [pay15]; exact blk13 m c t j
theorem step13 (c : Dev nD) (t : Fin cfg0.N) (ht : ¬ t.val % 16 = 0) (j : S8x1024.Idx) : (outsAt0 m c t.val t.isLt).2.2.2.2 j
    = (outsAt0 m c (t.val - 1) (by have := t.isLt; omega)).2.2.2.2 j
      + rows8 (fun s => gnTerm (V m c main_arg0) (V m c main_arg2) (V m c main_v0) (V m c main_v1) (V m c main_v8) (tok t s)) j := by
  have hN := lt16 t
  rw [outsAt0_B m c t ht (by omega)]; frame_out
  rw [pay15]; exact (pay9 _ _ _ _ _ _ _).trans (congrArg (_ + ·) (blk13 m c t j))
theorem acc13 (c : Dev nD) (t : Fin cfg0.N) (h : t.val % 16 = 16 - 1) : (outsAt0 m c t.val t.isLt).2.2.2.2
    = sum8 (gnTerm (V m c main_arg0) (V m c main_arg2) (V m c main_v0) (V m c main_v1) (V m c main_v8)) :=
  fold8 (fun n h => (outsAt0 m c n h).2.2.2.2) _ (first13 m c) (step13 m c) t h

/-! ## The arrays after the last point -/

theorem at9 (c : Dev nD) (t : Fin cfg0.N) (y : S512x1024.Idx) (i : S8192x1024.Idx) (h0 : (i 0).val = t.val * 512 + (y 0).val)
    (h1 : (i 1).val = (y 1).val) : (outsAt0 m c t.val t.isLt).1 y = dxAt (V m c main_arg7) (V m c main_arg0) (V m c main_arg3) (V m c main_arg2) (V m c main_v0) (V m c main_v1) (V m c main_v8) (i 0) (i 1) := by
  rw [eq_ix2 y, show i 0 = tok t (y 0) from Fin.ext h0, show i 1 = y 1 from Fin.ext h1]
  exact out9 m c t (y 0) (y 1)

theorem final9 (c : Dev nD) : (dats m 0 c).arrAt 9 cfg0.N = fun i : S8192x1024.Idx =>
    dxAt (V m c main_arg7) (V m c main_arg0) (V m c main_arg3) (V m c main_arg2) (V m c main_v0) (V m c main_v1) (V m c main_v8) (i 0) (i 1) := by
  refine (dats m 0 c).arrAt_eq_of_covers 9 _ (by decide +kernel) fun t hf y => ?_
  blk_simp
  rw [after0_9]
  refine at9 m c t y _ ?_ ?_
  · simp [idx_9 t]
  · simp [idx_9 t]

theorem at10 (c : Dev nD) (t : Fin cfg0.N) (y : S512x1024.Idx) (i : S8192x1024.Idx) (h0 : (i 0).val = t.val * 512 + (y 0).val)
    (h1 : (i 1).val = (y 1).val) : (outsAt0 m c t.val t.isLt).2.1 y = hAt (V m c main_arg0) (V m c main_arg3) (V m c main_arg2) (V m c main_arg1) (i 0) (i 1) := by
  rw [eq_ix2 y, show i 0 = tok t (y 0) from Fin.ext h0, show i 1 = y 1 from Fin.ext h1]
  exact out10 m c t (y 0) (y 1)

theorem final10 (c : Dev nD) : (dats m 0 c).arrAt 10 cfg0.N = fun i : S8192x1024.Idx =>
    hAt (V m c main_arg0) (V m c main_arg3) (V m c main_arg2) (V m c main_arg1) (i 0) (i 1) := by
  refine (dats m 0 c).arrAt_eq_of_covers 10 _ (by decide +kernel) fun t hf y => ?_
  blk_simp
  rw [after0_10]
  refine at10 m c t y _ ?_ ?_
  · simp [idx_10 t]
  · simp [idx_10 t]

theorem final11 (c : Dev nD) : (dats m 0 c).arrAt 11 cfg0.N = sum8 (dhAt (V m c main_v0) (V m c main_v1) (V m c main_v8)) := by
  refine (dats m 0 c).arrAt_eq_of_after_last 11 ⟨15, by decide⟩ (by decide +kernel) _ fun j => ?_
  rw [after0_11]
  exact congrFun (acc11 m c ⟨15, by decide⟩ (by decide)) j
theorem final12 (c : Dev nD) : (dats m 0 c).arrAt 12 cfg0.N = sum8 (scTerm (V m c main_arg0) (V m c main_arg3) (V m c main_v0) (V m c main_v1) (V m c main_v8)) := by
  refine (dats m 0 c).arrAt_eq_of_after_last 12 ⟨15, by decide⟩ (by decide +kernel) _ fun j => ?_
  rw [after0_12]
  exact congrFun (acc12 m c ⟨15, by decide⟩ (by decide)) j
theorem final13 (c : Dev nD) : (dats m 0 c).arrAt 13 cfg0.N = sum8 (gnTerm (V m c main_arg0) (V m c main_arg2) (V m c main_v0) (V m c main_v1) (V m c main_v8)) := by
  refine (dats m 0 c).arrAt_eq_of_after_last 13 ⟨15, by decide⟩ (by decide +kernel) _ fun j => ?_
  rw [after0_13]
  exact congrFun (acc13 m c ⟨15, by decide⟩ (by decide)) j
/-! ## The arrays that the host prepares -/

theorem V0_at (c : Dev nD) (i : S8192x1024.Idx) : V m c main_arg0 i = m (c, Proc.tc.devRef main_arg0) i := by
  unfold V; after_reads_at
theorem V1_at (c : Dev nD) (i : S1x1024.Idx) : V m c main_arg1 i = m (c, Proc.tc.devRef main_arg1) i := by
  unfold V; after_reads_at
theorem V2_at (c : Dev nD) (i : S1x1024.Idx) : V m c main_arg2 i = m (c, Proc.tc.devRef main_arg2) i := by
  unfold V; after_reads_at
theorem V3_at (c : Dev nD) (i : S1x1024.Idx) : V m c main_arg3 i = m (c, Proc.tc.devRef main_arg3) i := by
  unfold V; after_reads_at
theorem V7_at (c : Dev nD) (i : S8192x1024.Idx) : V m c main_arg7 i = m (c, Proc.tc.devRef main_arg7) i := by
  unfold V; after_reads_at
theorem Va_at (c : Dev nD) (i : S8192x2816.Idx) : V m c main_v0 i = m (c, Proc.tc.devRef main_arg8) i := by
  unfold V; after_reads_at
theorem Vb_at (c : Dev nD) (i : S8192x2816.Idx) : V m c main_v1 i = m (c, Proc.tc.devRef main_arg9) i := by
  unfold V; after_reads_at

theorem Vw1_at (c : Dev nD) (i : S4x704x1024.Idx) (n : Fin 2816) (h : n.val = (i 0).val * 704 + (i 1).val) : V m c main_v3 i
    = m (c, Proc.tc.devRef main_arg4) (ix2 (i 2) n) := by
  unfold V; after_reads_at
  congr 2; exact Fin.ext h.symm
theorem Vw2_at (c : Dev nD) (i : S4x704x1024.Idx) (n : Fin 2816) (h : n.val = (i 0).val * 704 + (i 1).val) : V m c main_v5 i
    = m (c, Proc.tc.devRef main_arg5) (ix2 (i 2) n) := by
  unfold V; after_reads_at
  congr 2; exact Fin.ext h.symm
theorem packed1 (c : Dev nD) (n : Fin 2816) (k : Fin 1024) : packedAt 0 (by omega) (V m c main_v8) n k
    = m (c, Proc.tc.devRef main_arg4) (ix2 k n) := by
  unfold packedAt V; after_reads_at
  rw [dif_pos (by omega)]
  exact Vw1_at m c _ n (by show n.val = n.val / 704 * 704 + n.val % 704; omega)
theorem packed2 (c : Dev nD) (n : Fin 2816) (k : Fin 1024) : packedAt 704 (by omega) (V m c main_v8) n k
    = m (c, Proc.tc.devRef main_arg5) (ix2 k n) := by
  unfold packedAt V; after_reads_at
  rw [dif_pos (by omega)]
  exact Vw2_at m c _ n (by show n.val = n.val / 704 * 704 + n.val % 704; omega)

end Cert.DbIdeal.Grad
-- ==== Proof.DgradB.lean ====
/-
  The gradient that a gated feed-forward half-step sends back through its two up projections and its modulated norm: the
  five arrays of the kernel against the derivative of the half-step's norm and projections.
-/
module

public import proofs.«01_k».proof.Defs
public import proofs.«01_k».proof.Proof.DgradBPoint
public import proofs.«01_k».proof.Proof.Gen.RbIdeal.Run
public import proofs.«01_k».proof.Proof.Gen.RbIdeal.Read
public import proofs.«01_k».proof.Proof.Reals

@[expose] public section
noncomputable section
namespace Cert.Proof.DgradB
open Idealize.ShloMosaic Idealize.ShloMosaic.TcCoe Idealize.SL.Sem
open Cert.Reals Cert.NormRow Cert.RbIdeal Cert.RbIdeal.Read Cert.DbIdeal.Grad

/-! ## The reference's arrays -/

section
variable (x o : S8192x1024.Idx → EReal) (g sc sh : S1x1024.Idx → EReal) (w1 w2 : S1024x2816.Idx → EReal) (a b : S8192x2816.Idx → EReal)
  (t : Fin 8192) (k : Fin 1024)

theorem ref_vec (v : S1x1024.Idx → EReal) (i : S1x1024.Idx) (h : (i 1).val = k.val) : v i = vec v k := by
  unfold vec; congr 1; funext a; match a with
    | ⟨0, _⟩ => exact Fin.ext (by have h0 : (i 0).val < 1 := (i 0).isLt; show (i 0).val = 0; omega)
    | ⟨1, _⟩ => exact Fin.ext h

theorem ref_row (i : S8192x1024.Idx) (h0 : (i 0).val = t.val) (h1 : (i 1).val = k.val) : x i = row x t k := by
  unfold row; congr 1; funext a; match a with
    | ⟨0, _⟩ => exact Fin.ext h0
    | ⟨1, _⟩ => exact Fin.ext h1

theorem ref_ms (i : S8192x1.Idx) (h0 : (i 0).val = t.val) : val_main_v9 (F := Ideal) x i = ms (row x t) := by
  rw [val_main_v9_apply, val_main_v7_apply, val_main_v5_apply, val_main_v4_apply, val_main_v8_apply, val_main_v6_apply, val_main_cst_apply,
    val_main_cst_0_apply, val_main_cst_1_apply, Ideal.ofBits_def, Ideal.ofBits_zero_f32, zero_add]
  unfold ms
  refine congrArg (fun s => Ideal.div s len + eps) (Finset.sum_congr rfl fun k _ => ?_)
  rw [val_main_v3_apply, ref_row x t k (idx_main_v4 (idx_main_v5 i) k) h0 rfl]; rfl

theorem ref_rinv (i : S8192x1.Idx) (h0 : (i 0).val = t.val) : val_main_v10 (F := Ideal) x i = rinv (row x t) := by
  rw [val_main_v10_apply, ref_ms x t i h0]; rfl

theorem ref_n : val_main_v15 (F := Ideal) x (ix2 t k) = normed (row x t) k := by
  rw [val_main_v15_apply, val_main_v14_apply, ref_rinv x t _ rfl]; rfl
theorem ref_y : val_main_v16 (F := Ideal) x g (ix2 t k) = gained (vec g) (row x t) k := by
  rw [val_main_v16_apply, ref_n, val_main_v2_apply, ref_vec k g _ rfl]; rfl
theorem ref_one (i : S8192x1024.Idx) (h : (i 1).val = k.val) : val_main_v18 (F := Ideal) sc i = 1 + vec sc k := by
  rw [val_main_v18_apply, val_main_v17_apply, val_main_v1_apply, val_main_cst_3_apply, ref_vec k sc _ h]
  show Ideal.ofBits .f32 0x3F800000#32 + _ = _
  rw [Ideal.ofBits_one_f32]
theorem ref_h : val_main_v20 (F := Ideal) x sh sc g (ix2 t k) = hAt x g sc sh t k := by
  rw [val_main_v20_apply, val_main_v19_apply, ref_y, ref_one sc k _ rfl, val_main_v0_apply, ref_vec k sh _ rfl]; rfl

/-- dh, off the two projections. -/
def dhOf (t : Fin 8192) (k : Fin 1024) : EReal := (∑ n : Fin 2816, a (ix2 t n) * w1 (ix2 k n)) + ∑ n : Fin 2816, b (ix2 t n) * w2 (ix2 k n)

theorem ref_dh : val_main_v27 (F := Ideal) w1 w2 a b (ix2 t k) = dhOf w1 w2 a b t k := by
  rw [val_main_v27_apply, val_main_v25_apply, val_main_v23_apply, val_main_cst_4_apply, val_main_v24_apply, val_main_v26_apply,
    Ideal.ofBits_def, Ideal.ofBits_zero_f32]
  refine (congrArg (· + _) (zero_add _)).trans ((add_comm _ _).trans ?_)
  refine congrArg₂ (· + ·) (Finset.sum_congr rfl fun n _ => ?_) (Finset.sum_congr rfl fun n _ => ?_) <;>
    (congr 2 <;> funext a <;> match a with
      | ⟨0, _⟩ => rfl
      | ⟨1, _⟩ => rfl)

theorem ref_dn : val_main_v31 (F := Ideal) sc g w1 w2 a b (ix2 t k) = dn (vec g) (vec sc) (dhOf w1 w2 a b t) k := by
  rw [val_main_v31_apply, val_main_v29_apply, ref_dh, ref_one sc k _ rfl, val_main_v2_apply, ref_vec k g _ rfl]; rfl

/-- The factor of the row in its own gradient. -/
theorem ref_along (i : S8192.Idx) (h0 : (i 0).val = t.val) : val_main_v41 (F := Ideal) x sc g w1 w2 a b i
    = along (row x t) (dn (vec g) (vec sc) (dhOf w1 w2 a b t)) := by
  rw [val_main_v41_apply, val_main_cst_7_apply, Ideal.ofBits_def, Ideal.ofBits_zero_f32, zero_add, Fin.sum_univ_one]
  rw [val_main_v40_apply, val_main_v38_apply, val_main_v34_apply, val_main_v33_apply, val_main_v39_apply, val_main_cst_6_apply,
    val_main_cst_5_apply, Ideal.ofBits_def, Ideal.ofBits_zero_f32, zero_add, val_main_v13_apply, val_main_v12_apply, val_main_cst_2_apply,
    val_main_v11_apply, ref_rinv x t _ h0, ref_ms x t _ h0]
  unfold along
  refine congrArg (fun s => Ideal.div (s * (negHalf * Ideal.div (rinv (row x t)) (ms (row x t)))) len) (Finset.sum_congr rfl fun k _ => ?_)
  have e : idx_main_v33 (idx_main_v34 (idx_main_v41 i 0)) k = ix2 t k := by
    funext a; match a with
      | ⟨0, _⟩ => exact Fin.ext (by show (i 0).val * 1 + 0 = t.val; omega)
      | ⟨1, _⟩ => rfl
  rw [e, val_main_v32_apply, ref_dn]; rfl

theorem ref_dx (hx : ∀ i, IsReal (x i)) (hg : ∀ i, IsReal (g i)) (hs : ∀ i, IsReal (sc i)) (hd : ∀ t k, IsReal (dhOf w1 w2 a b t k)) :
    val_main_v46 (F := Ideal) x sc g w1 w2 o a b (ix2 t k)
    = o (ix2 t k) + back (row x t) (dn (vec g) (vec sc) (dhOf w1 w2 a b t)) k := by
  rw [back_eq (x := row x t) (fun k => hx _) (isReal_dn (g := vec g) (sc := vec sc) (fun k => hg _) (fun k => hs _) (hd t))]
  rw [val_main_v46_apply, val_main_v44_apply, val_main_v45_apply, val_main_v43_apply, val_main_v37_apply, val_main_v36_apply,
    val_main_v42_apply, ref_dn, val_main_v35_apply, ref_rinv x t _ rfl, ref_along x g sc w1 w2 a b t _ rfl]
  rfl

/-- One of the reference's sums over the tokens in 8 interleaved rows. -/
theorem sum8_of (f : Fin 8192 → Fin 1024 → EReal) (v : S8192x1024.Idx → EReal) (hv : ∀ t k, v (ix2 t k) = f t k) (i : S8x1024.Idx)
    (q : Fin 1024 → S8192x1024.Idx) (h0 : ∀ r, (q r 0).val = ((r.val * 8 + (i 0).val) * 1024 + (i 1).val) / 1024)
    (h1 : ∀ r, (q r 1).val = ((r.val * 8 + (i 0).val) * 1024 + (i 1).val) % 1024) :
    ∑ r : Fin 1024, v (q r) = sum8 f i := by
  have hi : (i 1).val < 1024 := (i 1).isLt
  have hj : (i 0).val < 8 := (i 0).isLt
  refine Finset.sum_congr rfl fun r _ => ?_
  have e : q r = ix2 ⟨r.val * 8 + (i 0).val, by omega⟩ (i 1) := by
    funext a; match a with
      | ⟨0, _⟩ => exact Fin.ext (by have := h0 r; show (q r 0).val = r.val * 8 + (i 0).val; omega)
      | ⟨1, _⟩ => exact Fin.ext (by have := h1 r; show (q r 1).val = (i 1).val; omega)
  rw [e]; exact hv _ _

theorem ref_dsh : val_main_v49 (F := Ideal) w1 w2 a b = sum8 (dhOf w1 w2 a b) := by
  funext i
  rw [val_main_v49_apply, val_main_cst_8_apply, Ideal.ofBits_def, Ideal.ofBits_zero_f32, zero_add]
  simp only [val_main_v48_apply]
  exact sum8_of _ _ (ref_dh w1 w2 a b) i _ (fun _ => rfl) (fun _ => rfl)

theorem ref_dsc : val_main_v51 (F := Ideal) x g w1 w2 a b = sum8 (fun t k => dhOf w1 w2 a b t k * gained (vec g) (row x t) k) := by
  funext i
  rw [val_main_v51_apply, val_main_cst_9_apply, Ideal.ofBits_def, Ideal.ofBits_zero_f32, zero_add]
  simp only [val_main_v50_apply]
  refine sum8_of _ _ (fun t k => ?_) i _ (fun _ => rfl) (fun _ => rfl)
  rw [val_main_v28_apply, ref_y, ref_dh]; exact mul_comm _ _

theorem ref_dgn : val_main_v53 (F := Ideal) x sc w1 w2 a b
    = sum8 (fun t k => dhOf w1 w2 a b t k * (1 + vec sc k) * normed (row x t) k) := by
  funext i
  rw [val_main_v53_apply, val_main_cst_10_apply, Ideal.ofBits_def, Ideal.ofBits_zero_f32, zero_add]
  simp only [val_main_v52_apply]
  refine sum8_of _ _ (fun t k => ?_) i _ (fun _ => rfl) (fun _ => rfl)
  rw [val_main_v30_apply, ref_n, val_main_v29_apply, ref_dh, ref_one sc k _ rfl]; exact mul_comm _ _
end

/-! ## The two sides meet -/

variable (m : (ℓ : Loc Cert.DbIdeal.nD Cert.DbIdeal.τ Cert.DbIdeal.sig) → Buf (Elt Ideal) ℓ) (c : Dev Cert.DbIdeal.nD)

/-- dh, read off the packed weights or off the two projections. -/
theorem dh_eq : dhAt (Cert.DbIdeal.Gen.V m c Cert.DbIdeal.main_v0) (Cert.DbIdeal.Gen.V m c Cert.DbIdeal.main_v1)
      (Cert.DbIdeal.Gen.V m c Cert.DbIdeal.main_v8)
    = dhOf (m ((c.tc : Thread Cert.DbIdeal.nD Cert.DbIdeal.τ).loc Cert.DbIdeal.main_arg4))
      (m ((c.tc : Thread Cert.DbIdeal.nD Cert.DbIdeal.τ).loc Cert.DbIdeal.main_arg5))
      (m ((c.tc : Thread Cert.DbIdeal.nD Cert.DbIdeal.τ).loc Cert.DbIdeal.main_arg8))
      (m ((c.tc : Thread Cert.DbIdeal.nD Cert.DbIdeal.τ).loc Cert.DbIdeal.main_arg9)) := by
  funext t k
  unfold dhAt dhOf
  refine congrArg₂ (· + ·) (Finset.sum_congr rfl fun n _ => ?_) (Finset.sum_congr rfl fun n _ => ?_)
  · exact congrArg₂ (· * ·) (Va_at m c _) (packed1 m c n k)
  · exact congrArg₂ (· * ·) (Vb_at m c _) (packed2 m c n k)

theorem isReal_dhOf {w1 w2 : S1024x2816.Idx → EReal} {a b : S8192x2816.Idx → EReal} (h1 : ∀ i, IsReal (w1 i)) (h2 : ∀ i, IsReal (w2 i))
    (ha : ∀ i, IsReal (a i)) (hb : ∀ i, IsReal (b i)) (t : Fin 8192) (k : Fin 1024) : IsReal (dhOf w1 w2 a b t k) :=
  (IsReal.sum _ fun _ => (ha _).mul (h1 _)).add (.sum _ fun _ => (hb _).mul (h2 _))

/-! ## The claims -/

set_option maxHeartbeats 2000000 in
/-- The kernel's gradients of the row, of the shift, of the scale and of the gain, and its normed and modulated row, are the
    reference's, over the extended reals. -/
theorem algebraic [Cert.Pre_finite_b.Facts] : Cert.algebraic_DbIdeal_RbIdeal_pre_finite_b := by
  intro m ρ m' ρ' hpre hagree
  refine ⟨fun c => (Cert.DbIdeal.Gen.dats m 0 c).arrAt 9 Cert.DbIdeal.cfg0.N, fun c => (Cert.DbIdeal.Gen.dats m 0 c).arrAt 10 Cert.DbIdeal.cfg0.N,
    fun c => (Cert.DbIdeal.Gen.dats m 0 c).arrAt 11 Cert.DbIdeal.cfg0.N, fun c => (Cert.DbIdeal.Gen.dats m 0 c).arrAt 12 Cert.DbIdeal.cfg0.N,
    fun c => (Cert.DbIdeal.Gen.dats m 0 c).arrAt 13 Cert.DbIdeal.cfg0.N, Cert.DbIdeal.Value.run_blocks m ρ, ?_⟩
  refine (θ_run Cert.RbIdeal.defs _ _).mono (fun _ h c => ?_) (Cert.RbIdeal.Value.run (F := Ideal) m' ρ')
  obtain ⟨h46, h47, h49, h51, h53, hk⟩ := h c
  obtain ⟨e0, e1, e2, e3, e4, e5, e6, e7, e8, e9⟩ := hagree c
  obtain ⟨p0, p2, p3, p4, p5, p8, p9⟩ := hpre c
  have p0 := isReal_of_abs_lt _ _ p0
  have p2 := isReal_of_abs_lt _ _ p2
  have p3 := isReal_of_abs_lt _ _ p3
  have p4 := isReal_of_abs_lt _ _ p4
  have p5 := isReal_of_abs_lt _ _ p5
  have p8 := isReal_of_abs_lt _ _ p8
  have p9 := isReal_of_abs_lt _ _ p9
  refine ⟨h46.trans ?_, h47.trans ?_, h49.trans ?_, h51.trans ?_, h53.trans ?_, hk⟩ <;> clear h46 h47 h49 h51 h53 hk
  · rw [val_main_v46_eq, e0, e2, e3, e4, e5, e7, e8, e9]
    show _ = (Cert.DbIdeal.Gen.dats m 0 c).arrAt 9 Cert.DbIdeal.cfg0.N
    rw [final9]
    unfold dxAt
    rw [dh_eq, funext (V0_at m c), funext (V2_at m c), funext (V3_at m c), funext (V7_at m c)]
    funext i
    rw [eq_ix2 i]
    exact ref_dx _ _ _ _ _ _ _ _ _ _ p0 p3 p2 (isReal_dhOf p4 p5 p8 p9)
  · rw [val_main_v47_eq, e0, e1, e2, e3]
    show _ = (Cert.DbIdeal.Gen.dats m 0 c).arrAt 10 Cert.DbIdeal.cfg0.N
    rw [final10, funext (V0_at m c), funext (V1_at m c), funext (V2_at m c), funext (V3_at m c)]
    funext i
    rw [eq_ix2 i]
    exact ref_h _ _ _ _ _ _
  · rw [val_main_v49_eq, e4, e5, e8, e9]
    show _ = (Cert.DbIdeal.Gen.dats m 0 c).arrAt 11 Cert.DbIdeal.cfg0.N
    rw [final11, dh_eq]
    exact ref_dsh _ _ _ _
  · rw [val_main_v51_eq, e0, e3, e4, e5, e8, e9]
    refine Eq.trans ?_ (final12 m c).symm
    unfold scTerm
    rw [dh_eq, funext (V0_at m c), funext (V3_at m c)]
    exact ref_dsc _ _ _ _ _ _
  · rw [val_main_v53_eq, e0, e2, e4, e5, e8, e9]
    refine Eq.trans ?_ (final13 m c).symm
    unfold gnTerm
    rw [dh_eq, funext (V0_at m c), funext (V2_at m c)]
    exact ref_dgn _ _ _ _ _ _

/-- The reference runs to its end. -/
theorem frame_reference : Cert.quiescent_RbIdeal := fun m ρ _ =>
  (θ_run Cert.RbIdeal.defs _ _).mono (fun r h => ⟨fun c => (h c).2.2.2.2.2, sem_eq_zero_of_no_sems (by decide) r.2⟩)
    (Cert.RbIdeal.Value.run (F := Ideal) m ρ)

end Cert.Proof.DgradB
-- ==== Proof.HalfStep.lean ====
/-
  A gated feed-forward half-step and the loss of its rows, as functions of real or infinite numbers: the gated product and
  its two slopes written with a hyperbolic tangent or with the logistic function, and the gradient of a row's loss.
-/
module

public import Idealize.ShloMosaic.PureOps.Ideal
public import proofs.«01_k».proof.Proof.NormRow
public import proofs.«01_k».proof.Proof.Reals

@[expose] public section

noncomputable section

namespace Cert.HalfStep

open Idealize.ShloMosaic Cert.Reals Cert.NormRow

/-- The half-step's factor; also the two halves in the logistic function written with a tangent. -/
abbrev half : EReal := Ideal.ofBits .f32 0x3F000000#32
/-- A row's loss is a mean of squares, halved: the factor of a square, and of its gradient. -/
abbrev perSquare : EReal := Ideal.ofBits .f32 0x3A000000#32
abbrev perLane : EReal := Ideal.ofBits .f32 0x3A800000#32

theorem half_eq : half = ((1 / 2 : ℝ) : EReal) := by
  simp [half, Ideal.ofBits, Ideal.ieee, -EReal.coe_mul]; norm_num
theorem perSquare_eq : perSquare = ((1 / 2048 : ℝ) : EReal) := by
  simp [perSquare, Ideal.ofBits, Ideal.ieee, -EReal.coe_mul]; norm_num
theorem perLane_eq : perLane = ((1 / 1024 : ℝ) : EReal) := by
  simp [perLane, Ideal.ofBits, Ideal.ieee, -EReal.coe_mul]; norm_num

/-! ## The gated product -/

/-- The logistic function, written with a tangent. -/
def sgm (a : EReal) : EReal := half * Ideal.tanh (half * a) + half

theorem tanh_half (r : ℝ) : 1 / 2 * Real.tanh (1 / 2 * r) + 1 / 2 = (1 + Real.exp (-r))⁻¹ := by
  rw [Real.tanh_eq_sinh_div_cosh, Real.sinh_eq, Real.cosh_eq]
  have e : Real.exp (-r) = Real.exp (-(1 / 2 * r)) * Real.exp (-(1 / 2 * r)) := by rw [← Real.exp_add]; congr 1; ring
  have e1 : Real.exp (1 / 2 * r) * Real.exp (-(1 / 2 * r)) = 1 := by rw [← Real.exp_add]; simp
  have p := Real.exp_pos (1 / 2 * r)
  have q := Real.exp_pos (-(1 / 2 * r))
  rw [e]
  generalize Real.exp (1 / 2 * r) = u at *
  generalize Real.exp (-(1 / 2 * r)) = v at *
  have h1 : u + v ≠ 0 := by positivity
  have h2 : 1 + v * v ≠ 0 := by positivity
  field_simp
  nlinarith [e1]

theorem sgm_eq (a : EReal) : sgm a = Ideal.logistic a := by
  unfold sgm
  rw [half_eq]
  induction a using EReal.rec with
  | bot =>
    rw [EReal.coe_mul_bot_of_pos (by norm_num), Ideal.logistic_bot]
    show ((1 / 2 : ℝ) : EReal) * (-1) + _ = 0
    rw [show (-1 : EReal) = ((-1 : ℝ) : EReal) by simp, ← EReal.coe_mul, ← EReal.coe_add]; norm_num
  | top =>
    rw [EReal.coe_mul_top_of_pos (by norm_num), Ideal.logistic_top]
    show ((1 / 2 : ℝ) : EReal) * 1 + _ = 1
    rw [mul_one, ← EReal.coe_add]; norm_num
  | coe r =>
    rw [Ideal.logistic_coe, ← EReal.coe_mul]
    show ((1 / 2 : ℝ) : EReal) * ((Real.tanh (1 / 2 * r) : ℝ) : EReal) + _ = _
    rw [← EReal.coe_mul, ← EReal.coe_add, tanh_half]

/-- The gate, the gated product, and the product's slope in the gate's argument. -/
def gate (a : EReal) : EReal := a * sgm a
def gated (a b : EReal) : EReal := gate a * b
def slopeOf (a b : EReal) : EReal := b * (sgm a * (1 + a * (1 - sgm a)))

/-- The slope as differentiation writes it. -/
theorem slope_eq {b : EReal} (hb : IsReal b) (a : EReal) :
    slopeOf a b = b * Ideal.logistic a + a * b * (Ideal.logistic a * (1 - Ideal.logistic a)) := by
  obtain ⟨b, rfl⟩ := hb
  have h1 : (1 : EReal) - 1 = 0 := by rw [← EReal.coe_one, ← EReal.coe_sub, sub_self, EReal.coe_zero]
  unfold slopeOf
  rw [sgm_eq]
  induction a using EReal.rec with
  | bot => simp
  | top => simp [h1]
  | coe r =>
    rw [Ideal.logistic_coe]
    generalize (1 + Real.exp (-r))⁻¹ = l
    rw [← EReal.coe_one]
    norm_cast
    ring

theorem isReal_gated {a b : EReal} (ha : IsReal a) (hb : IsReal b) : IsReal (gated a b) := by
  unfold gated gate; rw [sgm_eq]; exact (ha.mul (isReal_logistic a)).mul hb

/-! ## The half-step over all rows -/

section
variable {τ : Type} (h x tg : τ → Fin 1024 → EReal) (s : τ → Fin 2816 → EReal) (w w1 w2 w3 : Fin 2816 → Fin 1024 → EReal)
  (g lg : Fin 1024 → EReal) (t : τ)

/-- A projection of a row up to 2816 columns, and one back down. -/
def up (n : Fin 2816) : EReal := ∑ k : Fin 1024, h t k * w n k
def down (k : Fin 1024) : EReal := ∑ n : Fin 2816, s t n * w n k
/-- The gated product of a row's two projections. -/
def mid (n : Fin 2816) : EReal := gated (up h w1 t n) (up h w2 t n)
/-- The half-step's inner value and its result. -/
def inner (k : Fin 1024) : EReal := down (mid h w1 w2) w3 t k
def stepped (k : Fin 1024) : EReal := x t k + half * g k * inner h w1 w2 w3 t k

/-- The deviation of a normed row from its target, and the gradient of the row's loss at the normed row. -/
def dev (y : Fin 1024 → EReal) (tr : Fin 1024 → EReal) (k : Fin 1024) : EReal := gained lg y k - tr k
def pull (y : Fin 1024 → EReal) (tr : Fin 1024 → EReal) (k : Fin 1024) : EReal := dev lg y tr k * perLane
def atNorm (y : Fin 1024 → EReal) (tr : Fin 1024 → EReal) (k : Fin 1024) : EReal := pull lg y tr k * lg k
/-- One term of the gradient of the last gain. -/
def gainTerm (y : Fin 1024 → EReal) (tr : Fin 1024 → EReal) (k : Fin 1024) : EReal := pull lg y tr k * normed y k
/-- One lane's part of a row's loss: eight squares, 128 columns apart. -/
def laneTerm (y : Fin 1024 → EReal) (tr : Fin 1024 → EReal) (l : Fin 128) : EReal :=
  (∑ q : Fin 8, dev lg y tr ⟨q.val * 128 + l.val, by omega⟩ * dev lg y tr ⟨q.val * 128 + l.val, by omega⟩) * perSquare
end

theorem isReal_dev {lg y tr : Fin 1024 → EReal} (hl : ∀ k, IsReal (lg k)) (hy : ∀ k, IsReal (y k)) (ht : ∀ k, IsReal (tr k)) (k : Fin 1024) :
    IsReal (dev lg y tr k) := by
  obtain ⟨a, ha⟩ := (isReal_normed hy k).mul (hl k)
  obtain ⟨b, hb⟩ := ht k
  exact ⟨a - b, by unfold dev gained; rw [ha, hb, EReal.coe_sub]⟩
theorem isReal_atNorm {lg y tr : Fin 1024 → EReal} (hl : ∀ k, IsReal (lg k)) (hy : ∀ k, IsReal (y k)) (ht : ∀ k, IsReal (tr k)) (k : Fin 1024) :
    IsReal (atNorm lg y tr k) :=
  ((isReal_dev hl hy ht k).mul ⟨_, perLane_eq⟩).mul (hl k)

/-- A real factor that is not negative goes into a sum. -/
theorem sum_mul_coe {ι : Type} (s : Finset ι) (f : ι → EReal) {c : ℝ} (hc : 0 ≤ c) :
    (∑ i ∈ s, f i) * (c : EReal) = ∑ i ∈ s, f i * (c : EReal) := by
  induction s using Finset.cons_induction with
  | empty => simp
  | cons a s ha ih =>
    rw [Finset.sum_cons, Finset.sum_cons, ← ih]
    exact EReal.right_distrib_of_nonneg_of_ne_top (by exact_mod_cast hc) (EReal.coe_ne_top _) _ _

/-- The reference halves a square and divides it by the row's length. -/
theorem square_eq (e : EReal) : Ideal.div (half * (e * e)) len = e * e * perSquare := by
  rw [half_eq, len_eq, perSquare_eq, Ideal.div, if_neg (by norm_num), ← EReal.coe_inv, mul_comm _ (e * e), mul_assoc, ← EReal.coe_mul]
  norm_num

/-- … and its gradient takes twice the deviation. -/
theorem twice_eq {e : EReal} (he : IsReal e) : Ideal.div (half * 1) len * (Ideal.ofBits .f32 0x40000000#32 * e) = e * perLane := by
  obtain ⟨r, rfl⟩ := he
  rw [show Ideal.ofBits .f32 0x40000000#32 = ((2 : ℝ) : EReal) by simp [Ideal.ofBits, Ideal.ieee, -EReal.coe_mul]; norm_num,
    mul_one, half_eq, len_eq, perLane_eq, div_coe _ _ (by norm_num)]
  norm_cast
  ring

end Cert.HalfStep
-- ==== Proof.FfnFwdPoint.lean ====
/-
  A gated feed-forward half-step with the loss of the normed result, at one grid point.

  The kernel walks 16 blocks of 512 tokens. A point norms and modulates the tokens' rows, projects them up twice and forms the
  gated product with its two slopes in two column halves, projects down and adds half the gated result to the row. Then it
  norms the new row, compares it with the target, and writes the gradient of the loss at the new row. The loss and the
  gradient of the last gain are added up in accumulators of 8 rows: token `8 r + s` goes to row `s`.
  This module gives the stored values of a point.
-/
module

public import proofs.«01_k».proof.Proof.Gen.DfIdeal.Value
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pointwise
public import Idealize.ShloMosaic.Lib.Claim
public import Idealize.ShloMosaic.Lib.Tactic
public import Idealize.ShloMosaic.Lib.StableHlo.ReadAt
public import proofs.«01_k».proof.Proof.HalfStep

@[expose] public section

noncomputable section

namespace Cert.DfIdeal.Step

open Idealize.ShloMosaic Idealize.ShloMosaic.TcCoe Idealize.SL.Sem
open Cert.DfIdeal Cert.DfIdeal.Gen Cert.NormRow Cert.HalfStep

/-- The one row of an array. -/
def vec (g : S1x1024.Idx → EReal) (k : Fin 1024) : EReal := g (ix2 0 k)
/-- A token's row of a block. -/
def brow (x : S512x1024.Idx → EReal) (t : Fin 512) (k : Fin 1024) : EReal := x (ix2 t k)

/-! ## The projections and the gated product -/

/-- One column half of a projection over one block of tokens. -/
def part (d : S512x1024.Idx → EReal) (w : S2x704x1024.Idx → EReal) (j : S512x1408.Idx) : EReal :=
  ∑ k : Fin 1024, d (ix2 (j 0) k) * w (ix3 ⟨(j 1).val / 704, by have : (j 1).val < 1408 := (j 1).isLt; omega⟩ ⟨(j 1).val % 704, Nat.mod_lt _ (by decide)⟩ k)

/-- A column half's share of the projection down. -/
def share (s : S512x1408.Idx → EReal) (w : S2x704x1024.Idx → EReal) (j : S512x1024.Idx) : EReal :=
  ∑ n : Fin 1408, s (ix2 (j 0) n) * w (ix3 ⟨n.val / 704, by omega⟩ ⟨n.val % 704, Nat.mod_lt _ (by decide)⟩ (j 1))

/-- The tangent of half a block. -/
def th (a : S512x1408.Idx → EReal) : S512x1408.Idx → EReal := fun j => Ideal.tanh (half * a j)

theorem pay3 (x : Vec Ideal S512x1024 .f32) (g sh sc : Vec Ideal S1x1024 .f32) (j : S512x1024.Idx) :
    k0_pay3 x g sh sc j = modded (vec g) (vec sc) (vec sh) (brow x (j 0)) (j 1) := by
  unfold k0_pay3 modded gained normed rinv ms vec brow
  pointwise

theorem pay5 (x : Vec Ideal S512x1024 .f32) (g sh sc : Vec Ideal S1x1024 .f32) (w : Vec Ideal S2x704x1024 .bf16) :
    k0_pay5 x g sh sc w = part (k0_pay3 x g sh sc) w := by
  funext j; unfold k0_pay5 part; generalize k0_pay3 x g sh sc = d; pointwise
theorem pay6 (x : Vec Ideal S512x1024 .f32) (g sh sc : Vec Ideal S1x1024 .f32) (w : Vec Ideal S2x704x1024 .bf16) :
    k0_pay6 x g sh sc w = part (k0_pay3 x g sh sc) w := by
  funext j; unfold k0_pay6 part; generalize k0_pay3 x g sh sc = d; pointwise
theorem pay7 (x : Vec Ideal S512x1024 .f32) (g sh sc : Vec Ideal S1x1024 .f32) (w : Vec Ideal S2x704x1024 .bf16) :
    k0_pay7 x g sh sc w = th (part (k0_pay3 x g sh sc) w) := by
  rw [← pay5]; funext j; unfold k0_pay7 th; generalize k0_pay5 x g sh sc w = d; pointwise
theorem pay15 (d : FVec Ideal S512x1024 .bf16) (w : Vec Ideal S2x704x1024 .bf16) : k0_pay15 d w = part d w := by
  funext j; unfold k0_pay15 part; pointwise
theorem pay16 (d : FVec Ideal S512x1024 .bf16) (w : Vec Ideal S2x704x1024 .bf16) : k0_pay16 d w = part d w := by
  funext j; unfold k0_pay16 part; pointwise
theorem pay17 (d : FVec Ideal S512x1024 .bf16) (w : Vec Ideal S2x704x1024 .bf16) : k0_pay17 d w = th (part d w) := by
  rw [← pay15]; funext j; unfold k0_pay17 th; generalize k0_pay15 d w = e; pointwise

section
variable (a b : FVec Ideal S512x1408 .f32) (j : S512x1408.Idx)

theorem pay9 : k0_pay9 (F := Ideal) (th a) k0_pay8 j = sgm (a j) := by
  unfold k0_pay9 k0_pay8 sgm th; pointwise
theorem pay10 : k0_pay10 a (th a) k0_pay8 j = gate (a j) := by
  unfold k0_pay10 gate; rw [← pay9]; generalize k0_pay9 (F := Ideal) (th a) k0_pay8 = e; pointwise
theorem pay11 : k0_pay11 a (th a) k0_pay8 j = gate (a j) := by
  rw [← pay10]; unfold k0_pay11; generalize k0_pay10 a (th a) k0_pay8 = e; pointwise
theorem pay12 : k0_pay12 a b (th a) k0_pay8 j = slopeOf (a j) (b j) := by
  unfold k0_pay12 slopeOf; rw [← pay9]; generalize k0_pay9 (F := Ideal) (th a) k0_pay8 = e; pointwise
theorem pay13 : k0_pay13 a b (th a) k0_pay8 j = gated (a j) (b j) := by
  unfold k0_pay13 gated; rw [← pay10]; generalize k0_pay10 a (th a) k0_pay8 = e; pointwise
theorem pay18 : k0_pay18 (F := Ideal) (th a) (Scalar.ofBits .f32 0x3F000000#32) j = sgm (a j) := by
  unfold k0_pay18 sgm th; pointwise
theorem pay19 : k0_pay19 a (th a) (Scalar.ofBits .f32 0x3F000000#32) j = gate (a j) := by
  unfold k0_pay19 gate; rw [← pay18]; generalize k0_pay18 (F := Ideal) (th a) (Scalar.ofBits .f32 0x3F000000#32) = e; pointwise
theorem pay20 : k0_pay20 a (th a) (Scalar.ofBits .f32 0x3F000000#32) j = gate (a j) := by
  rw [← pay19]; unfold k0_pay20; generalize k0_pay19 (F := Ideal) a (th a) (Scalar.ofBits .f32 0x3F000000#32) = e; pointwise
theorem pay21 : k0_pay21 a b (th a) (Scalar.ofBits .f32 0x3F000000#32) j = slopeOf (a j) (b j) := by
  unfold k0_pay21 slopeOf; rw [← pay18]; generalize k0_pay18 (F := Ideal) (th a) (Scalar.ofBits .f32 0x3F000000#32) = e; pointwise
theorem pay22 : k0_pay22 a b (th a) (Scalar.ofBits .f32 0x3F000000#32) j = gated (a j) (b j) := by
  unfold k0_pay22 gated; rw [← pay19]; generalize k0_pay19 (F := Ideal) a (th a) (Scalar.ofBits .f32 0x3F000000#32) = e; pointwise
end

/-- The gated product of a column half. -/
def prod (a b : S512x1408.Idx → EReal) : S512x1408.Idx → EReal := fun j => gated (a j) (b j)

theorem pay14 (a b : FVec Ideal S512x1408 .f32) (w : Vec Ideal S2x704x1024 .bf16) :
    k0_pay14 k0_pay4 a b (th a) k0_pay8 w = share (prod a b) w := by
  have h : k0_pay13 a b (th a) k0_pay8 = prod a b := funext (pay13 a b)
  funext j; unfold k0_pay14 share k0_pay4; rw [h]; pointwise

theorem pay23 (v : FVec Ideal S512x1024 .f32) (a b : FVec Ideal S512x1408 .f32) (w : Vec Ideal S2x704x1024 .bf16) (j : S512x1024.Idx) :
    k0_pay23 v a b (th a) (Scalar.ofBits .f32 0x3F000000#32) w j = v j + share (prod a b) w j := by
  have h : k0_pay22 a b (th a) (Scalar.ofBits .f32 0x3F000000#32) = prod a b := funext (pay22 a b)
  unfold k0_pay23 share; rw [h]; pointwise

theorem pay24 (x v : FVec Ideal S512x1024 .f32) (a b : FVec Ideal S512x1408 .f32) (w : Vec Ideal S2x704x1024 .bf16) (g : Vec Ideal S1x1024 .f32)
    (j : S512x1024.Idx) : k0_pay24 x v a b (th a) (Scalar.ofBits .f32 0x3F000000#32) w g j
      = x j + half * vec g (j 1) * (v j + share (prod a b) w j) := by
  rw [← pay23]; unfold k0_pay24 vec
  generalize k0_pay23 (F := Ideal) v a b (th a) (Scalar.ofBits .f32 0x3F000000#32) w = e; pointwise

/-! ## The norm of the new row, and its loss -/

/-- A block, squared. -/
def sq (y : S512x1024.Idx → EReal) : S512x1024.Idx → EReal := fun j => y j * y j

theorem pay25 (x v : FVec Ideal S512x1024 .f32) (a b : FVec Ideal S512x1408 .f32) (t : FVec Ideal S512x1408 .f32) (w : Vec Ideal S2x704x1024 .bf16) (g : Vec Ideal S1x1024 .f32) :
    k0_pay25 x v a b t (Scalar.ofBits .f32 0x3F000000#32) w g = sq (k0_pay24 x v a b t (Scalar.ofBits .f32 0x3F000000#32) w g) := rfl

section
variable (y tg : FVec Ideal S512x1024 .f32) (g : Vec Ideal S1x1024 .f32)

theorem pay26 (j : S512x1.Idx) : k0_pay26 (F := Ideal) (sq y) j = rinv (brow y (j 0)) := by
  unfold k0_pay26 rinv ms sq brow; pointwise
theorem pay27 (j : S512x1024.Idx) : k0_pay27 (F := Ideal) y (sq y) j = normed (brow y (j 0)) (j 1) := by
  unfold k0_pay27 normed brow; pointwise; rw [pay26]; rfl
theorem pay28 (j : S512x1024.Idx) : k0_pay28 (F := Ideal) y tg g (sq y) j = dev (vec g) (brow y (j 0)) (brow tg (j 0)) (j 1) := by
  unfold k0_pay28 dev gained vec; pointwise; rw [pay27]
  exact congrArg (_ - ·) (congrArg tg (eq_ix2 j))
theorem pay29 (j : S512x1024.Idx) : k0_pay29 (F := Ideal) y tg g (sq y) j = pull (vec g) (brow y (j 0)) (brow tg (j 0)) (j 1) := by
  unfold k0_pay29 pull; rw [← pay28]; generalize k0_pay28 (F := Ideal) y tg g (sq y) = e; pointwise

/-- The gradient of the loss at the new row. -/
theorem pay31 (j : S512x1024.Idx) : k0_pay31 (F := Ideal) y tg g (sq y) j
    = back (brow y (j 0)) (atNorm (vec g) (brow y (j 0)) (brow tg (j 0))) (j 1) := by
  have h : k0_pay29 (F := Ideal) y tg g (sq y) = fun j => pull (vec g) (brow y (j 0)) (brow tg (j 0)) (j 1) := funext (pay29 y tg g)
  unfold k0_pay31 back atNorm; rw [h]; pointwise; simp only [pay26, pay27]; rfl

/-- A sum over a block's tokens in 8 interleaved rows. -/
def rows8 {w : Nat} (f : Fin 512 → Fin w → EReal) (j : (⟨2, ![8, w]⟩ : Shape).Idx) : EReal :=
  ∑ r : Fin 64, f ⟨r.val * 8 + (j 0).val, by have : (j 0).val < 8 := (j 0).isLt; omega⟩ (j 1)

theorem pay32 (j : S8x1024.Idx) : k0_pay32 (F := Ideal) y tg g (sq y) j
    = rows8 (fun t => gainTerm (vec g) (brow y t) (brow tg t)) j := by
  have h : k0_pay29 (F := Ideal) y tg g (sq y) = fun j => pull (vec g) (brow y (j 0)) (brow tg (j 0)) (j 1) := funext (pay29 y tg g)
  have h' : k0_pay27 (F := Ideal) y (sq y) = fun j => normed (brow y (j 0)) (j 1) := funext (pay27 y)
  unfold k0_pay32 rows8 gainTerm; rw [h, h']; pointwise

theorem pay30 (j : S8x128.Idx) : k0_pay30 (F := Ideal) y tg g (sq y) j
    = rows8 (fun t => laneTerm (vec g) (brow y t) (brow tg t)) j := by
  have h : k0_pay28 (F := Ideal) y tg g (sq y) = fun j => dev (vec g) (brow y (j 0)) (brow tg (j 0)) (j 1) := funext (pay28 y tg g)
  unfold k0_pay30 rows8 laneTerm; rw [h, perSquare_eq]
  rw [← sum_mul_coe _ _ (by norm_num), ← perSquare_eq]
  simp only [Fin.sum_univ_eight]
  pointwise
end

theorem pay1 (v acc : FVec Ideal S8x128 .f32) (j : S8x128.Idx) : k0_pay1 v acc j = acc j + v j := by
  unfold k0_pay1; simp only [shapeCast_self]; rfl
theorem pay2 (v acc : FVec Ideal S8x1024 .f32) (j : S8x1024.Idx) : k0_pay2 v acc j = acc j + v j := by
  unfold k0_pay2; simp only [shapeCast_self]; rfl

end Cert.DfIdeal.Step
-- ==== Proof.FfnFwdBlocks.lean ====
/-
  A gated feed-forward half-step with the loss of the normed result: what a grid point leaves in each block, read off the
  arrays, and what the seven result arrays hold after the last point.
-/
module

public import proofs.«01_k».proof.Proof.FfnFwdPoint

@[expose] public section

noncomputable section

namespace Cert.DfIdeal.Step

open Idealize.ShloMosaic Idealize.ShloMosaic.TcCoe Idealize.SL.Sem
open Cert.DfIdeal Cert.DfIdeal.Gen Cert.NormRow Cert.HalfStep

variable (m : (ℓ : Loc nD τ sig) → Buf (Elt Ideal) ℓ)

/-! ## The blocks, read off the arrays -/

/-- A token's row of an array. -/
def row (x : S8192x1024.Idx → EReal) (t : Fin 8192) (k : Fin 1024) : EReal := x (ix2 t k)

/-- Row `n` of a projection within the packed weights: piece `n / 704`, from row `o` on. -/
def packedAt (o : Nat) (ho : o + 704 ≤ 2112) (w : S4x2112x1024.Idx → EReal) (n : Fin 2816) (k : Fin 1024) : EReal :=
  w (ix3 ⟨n.val / 704, by omega⟩ ⟨o + n.val % 704, by omega⟩ k)

theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 3) = 0 ∧ win0_5.index t (1 : Fin 3) = 0 ∧ win0_5.index t (2 : Fin 3) = 0 :=
  (by decide +kernel : ∀ t : Fin grid0.N, _)
theorem idx_6 : ∀ t : Fin cfg0.N, win0_6.index t (0 : Fin 3) = 0 ∧ win0_6.index t (1 : Fin 3) = 1 ∧ win0_6.index t (2 : Fin 3) = 0 :=
  (by decide +kernel : ∀ t : Fin grid0.N, _)
theorem idx_7 : ∀ t : Fin cfg0.N, win0_7.index t (0 : Fin 3) = 0 ∧ win0_7.index t (1 : Fin 3) = 2 ∧ win0_7.index t (2 : Fin 3) = 0 :=
  (by decide +kernel : ∀ t : Fin grid0.N, _)
theorem idx_8 : ∀ t : Fin cfg0.N, win0_8.index t (0 : Fin 2) = t.val ∧ win0_8.index t (1 : Fin 2) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)
theorem idx_11 : ∀ t : Fin cfg0.N, win0_11.index t (0 : Fin 2) = t.val ∧ win0_11.index t (1 : Fin 2) = 0 :=
  (by decide +kernel : ∀ t : Fin grid0.N, _)
theorem idx_13 : ∀ t : Fin cfg0.N, win0_13.index t (0 : Fin 2) = t.val ∧ win0_13.index t (1 : Fin 2) = 0 :=
  (by decide +kernel : ∀ t : Fin grid0.N, _)
theorem idx_14 : ∀ t : Fin cfg0.N, win0_14.index t (0 : Fin 2) = t.val ∧ win0_14.index t (1 : Fin 2) = 0 :=
  (by decide +kernel : ∀ t : Fin grid0.N, _)
theorem idx_15 : ∀ t : Fin cfg0.N, win0_15.index t (0 : Fin 2) = t.val ∧ win0_15.index t (1 : Fin 2) = 0 :=
  (by decide +kernel : ∀ t : Fin grid0.N, _)
theorem idx_16 : ∀ t : Fin cfg0.N, win0_16.index t (0 : Fin 2) = t.val ∧ win0_16.index t (1 : Fin 2) = 0 :=
  (by decide +kernel : ∀ t : Fin grid0.N, _)

theorem lt16 (t : Fin cfg0.N) : t.val < 16 := lt_of_lt_of_eq t.isLt N_0

/-- Token `s` of the block of point `t`. -/
abbrev tok (t : Fin cfg0.N) (s : Fin 512) : Fin 8192 := ⟨t.val * 512 + s.val, by have := lt16 t; omega⟩

theorem xRow (c : Dev nD) (t : Fin cfg0.N) (s : Fin 512) : brow (iblk m c 0 t) s = row (V m c main_arg0) (tok t s) := by
  funext k; unfold brow row; blk_ext [iblk, idx_0 t]
theorem tgRow (c : Dev nD) (t : Fin cfg0.N) (s : Fin 512) : brow (iblk m c 8 t) s = row (V m c main_arg8) (tok t s) := by
  funext k; unfold brow row; blk_ext [iblk, idx_8 t]
theorem shVec (c : Dev nD) (t : Fin cfg0.N) : vec (iblk m c 1 t) = vec (V m c main_arg1) := by
  funext k; unfold vec; blk_ext [iblk, idx_1 t]
theorem scVec (c : Dev nD) (t : Fin cfg0.N) : vec (iblk m c 2 t) = vec (V m c main_arg2) := by
  funext k; unfold vec; blk_ext [iblk, idx_2 t]
theorem gtVec (c : Dev nD) (t : Fin cfg0.N) : vec (iblk m c 3 t) = vec (V m c main_arg3) := by
  funext k; unfold vec; blk_ext [iblk, idx_3 t]
theorem gVec (c : Dev nD) (t : Fin cfg0.N) : vec (iblk m c 4 t) = vec (V m c main_arg4) := by
  funext k; unfold vec; blk_ext [iblk, idx_4 t]
theorem lgVec (c : Dev nD) (t : Fin cfg0.N) : vec (iblk m c 9 t) = vec (V m c main_arg9) := by
  funext k; unfold vec; blk_ext [iblk, idx_9 t]
theorem w1At (c : Dev nD) (t : Fin cfg0.N) (j : S4x704x1024.Idx) (i : S4x2112x1024.Idx) (h0 : (i 0).val = (j 0).val)
    (h1 : (i 1).val = 0 + (j 1).val) (h2 : (i 2).val = (j 2).val) : iblk m c 5 t j = V m c main_v6 i := by
  blk_ext [iblk, idx_5 t, h0, h1, h2]
theorem w2At (c : Dev nD) (t : Fin cfg0.N) (j : S4x704x1024.Idx) (i : S4x2112x1024.Idx) (h0 : (i 0).val = (j 0).val)
    (h1 : (i 1).val = 704 + (j 1).val) (h2 : (i 2).val = (j 2).val) : iblk m c 6 t j = V m c main_v6 i := by
  blk_ext [iblk, idx_6 t, h0, h1, h2]
theorem w3At (c : Dev nD) (t : Fin cfg0.N) (j : S4x704x1024.Idx) (i : S4x2112x1024.Idx) (h0 : (i 0).val = (j 0).val)
    (h1 : (i 1).val = 1408 + (j 1).val) (h2 : (i 2).val = (j 2).val) : iblk m c 7 t j = V m c main_v6 i := by
  blk_ext [iblk, idx_7 t, h0, h1, h2]

/-! ## The half-step, off the arrays -/

/-- The normed and modulated rows. -/
def hRow (c : Dev nD) (t : Fin 8192) : Fin 1024 → EReal :=
  modded (vec (V m c main_arg4)) (vec (V m c main_arg2)) (vec (V m c main_arg1)) (row (V m c main_arg0) t)
/-- The three projections. -/
def w1 (c : Dev nD) : Fin 2816 → Fin 1024 → EReal := packedAt 0 (by omega) (V m c main_v6)
def w2 (c : Dev nD) : Fin 2816 → Fin 1024 → EReal := packedAt 704 (by omega) (V m c main_v6)
def w3 (c : Dev nD) : Fin 2816 → Fin 1024 → EReal := packedAt 1408 (by omega) (V m c main_v6)
/-- The new rows. -/
def yRow (c : Dev nD) : Fin 8192 → Fin 1024 → EReal :=
  stepped (hRow m c) (row (V m c main_arg0)) (w1 m c) (w2 m c) (w3 m c) (vec (V m c main_arg3))

/-- Column `n` of the half that starts at piece `o`. -/
abbrev col (o : Nat) (ho : o ≤ 2) (n : Fin 1408) : Fin 2816 := ⟨o * 704 + n.val, by omega⟩

/-- Two pieces of packed weights, read off the arrays: `o` is the first piece and `p` the projection's first row. -/
def Holds (w : S2x704x1024.Idx → EReal) (o p : Nat) (hp : p + 704 ≤ 2112) (a : S4x2112x1024.Idx → EReal) : Prop :=
  ∀ (j : S2x704x1024.Idx) (i : S4x2112x1024.Idx), (i 0).val = o + (j 0).val → (i 1).val = p + (j 1).val → (i 2).val = (j 2).val → w j = a i

theorem Holds.at {w : S2x704x1024.Idx → EReal} {o p : Nat} {hp : p + 704 ≤ 2112} {a : S4x2112x1024.Idx → EReal} (h : Holds w o p hp a)
    (ho : o ≤ 2) (n : Fin 1408) (k : Fin 1024) : w (ix3 ⟨n.val / 704, by omega⟩ ⟨n.val % 704, Nat.mod_lt _ (by decide)⟩ k) = packedAt p hp a (col o ho n) k :=
  h _ _ (by show (o * 704 + n.val) / 704 = o + n.val / 704; omega) (by show p + (o * 704 + n.val) % 704 = p + n.val % 704; omega) rfl

theorem holds1a (c : Dev nD) (t : Fin cfg0.N) : Holds (View.ld (iblk m c 5 t) (Rect.unit ![0, 0, 0] ![2, 704, 1024] inb_S4x704x1024_S2x704x1024_0_0_0)) 0 0 (by omega) (V m c main_v6) := by
  intro j i e0 e1 e2; rw [View.ld_apply]; exact w1At m c t _ i (by simp [e0]) (by simp [e1]) (by simp [e2])
theorem holds1b (c : Dev nD) (t : Fin cfg0.N) : Holds (View.ld (iblk m c 5 t) (Rect.unit ![2, 0, 0] ![2, 704, 1024] inb_S4x704x1024_S2x704x1024_2_0_0)) 2 0 (by omega) (V m c main_v6) := by
  intro j i e0 e1 e2; rw [View.ld_apply]; exact w1At m c t _ i (by simp [e0]) (by simp [e1]) (by simp [e2])
theorem holds2a (c : Dev nD) (t : Fin cfg0.N) : Holds (View.ld (iblk m c 6 t) (Rect.unit ![0, 0, 0] ![2, 704, 1024] inb_S4x704x1024_S2x704x1024_0_0_0)) 0 704 (by omega) (V m c main_v6) := by
  intro j i e0 e1 e2; rw [View.ld_apply]; exact w2At m c t _ i (by simp [e0]) (by simp [e1]) (by simp [e2])
theorem holds2b (c : Dev nD) (t : Fin cfg0.N) : Holds (View.ld (iblk m c 6 t) (Rect.unit ![2, 0, 0] ![2, 704, 1024] inb_S4x704x1024_S2x704x1024_2_0_0)) 2 704 (by omega) (V m c main_v6) := by
  intro j i e0 e1 e2; rw [View.ld_apply]; exact w2At m c t _ i (by simp [e0]) (by simp [e1]) (by simp [e2])
theorem holds3a (c : Dev nD) (t : Fin cfg0.N) : Holds (View.ld (iblk m c 7 t) (Rect.unit ![0, 0, 0] ![2, 704, 1024] inb_S4x704x1024_S2x704x1024_0_0_0)) 0 1408 (by omega) (V m c main_v6) := by
  intro j i e0 e1 e2; rw [View.ld_apply]; exact w3At m c t _ i (by simp [e0]) (by simp [e1]) (by simp [e2])
theorem holds3b (c : Dev nD) (t : Fin cfg0.N) : Holds (View.ld (iblk m c 7 t) (Rect.unit ![2, 0, 0] ![2, 704, 1024] inb_S4x704x1024_S2x704x1024_2_0_0)) 2 1408 (by omega) (V m c main_v6) := by
  intro j i e0 e1 e2; rw [View.ld_apply]; exact w3At m c t _ i (by simp [e0]) (by simp [e1]) (by simp [e2])

/-- The block of normed and modulated rows. -/
abbrev hBlk (c : Dev nD) (t : Fin cfg0.N) : FVec Ideal S512x1024 .bf16 := k0_pay3 (iblk m c 0 t) (iblk m c 4 t) (iblk m c 1 t) (iblk m c 2 t)

theorem h_blk (c : Dev nD) (t : Fin cfg0.N) (s : Fin 512) (k : Fin 1024) : hBlk m c t (ix2 s k) = hRow m c (tok t s) k := by
  refine (pay3 _ _ _ _ _).trans ?_
  show modded (vec (iblk m c 4 t)) (vec (iblk m c 2 t)) (vec (iblk m c 1 t)) (brow (iblk m c 0 t) s) k = _
  rw [xRow, shVec, scVec, gVec]; rfl

/-- A column half of a projection. -/
theorem up_blk (c : Dev nD) (t : Fin cfg0.N) {w : S2x704x1024.Idx → EReal} {o p : Nat} {hp : p + 704 ≤ 2112} {a : S4x2112x1024.Idx → EReal} (ho : o ≤ 2) (h : Holds w o p hp a)
    (s : Fin 512) (n : Fin 1408) : part (hBlk m c t) w (ix2 s n) = up (hRow m c) (packedAt p hp a) (tok t s) (col o ho n) :=
  Finset.sum_congr rfl fun k _ => congrArg₂ (· * ·) (h_blk m c t s k) (h.at ho n k)

/-- A column half's share of the inner value. -/
theorem share_blk (c : Dev nD) (t : Fin cfg0.N) {g u d : S2x704x1024.Idx → EReal} {o : Nat} (ho : o ≤ 2) (hg : Holds g o 0 (by omega) (V m c main_v6))
    (hu : Holds u o 704 (by omega) (V m c main_v6)) (hd : Holds d o 1408 (by omega) (V m c main_v6)) (s : Fin 512) (k : Fin 1024) :
    share (prod (part (hBlk m c t) g) (part (hBlk m c t) u)) d (ix2 s k)
      = ∑ n : Fin 1408, mid (hRow m c) (w1 m c) (w2 m c) (tok t s) (col o ho n) * w3 m c (col o ho n) k :=
  Finset.sum_congr rfl fun n _ => congrArg₂ (· * ·) (congrArg₂ gated (up_blk m c t ho hg s n) (up_blk m c t ho hu s n)) (hd.at ho n k)

/-- The shares of the two halves are the inner value. -/
theorem halves (f : Fin 2816 → EReal) : (∑ n : Fin 1408, f (col 0 (by omega) n)) + ∑ n : Fin 1408, f (col 2 (by omega) n) = ∑ n, f n := by
  refine Eq.trans ?_ (Fin.sum_univ_add (a := 1408) (b := 1408) f).symm
  exact congrArg₂ (· + ·) (Finset.sum_congr rfl fun n _ => congrArg f (Fin.ext (by simp))) (Finset.sum_congr rfl fun n _ => congrArg f (Fin.ext (by simp [add_comm])))

/-- The block of inner values, and the block of new rows. -/
abbrev fBlk (c : Dev nD) (t : Fin cfg0.N) : S512x1024.Idx → EReal :=
  share (prod (part (hBlk m c t) (View.ld (iblk m c 5 t) (Rect.unit ![0, 0, 0] ![2, 704, 1024] inb_S4x704x1024_S2x704x1024_0_0_0)))
    (part (hBlk m c t) (View.ld (iblk m c 6 t) (Rect.unit ![0, 0, 0] ![2, 704, 1024] inb_S4x704x1024_S2x704x1024_0_0_0))))
    (View.ld (iblk m c 7 t) (Rect.unit ![0, 0, 0] ![2, 704, 1024] inb_S4x704x1024_S2x704x1024_0_0_0))
abbrev aBlk (c : Dev nD) (t : Fin cfg0.N) : S512x1408.Idx → EReal :=
  part (hBlk m c t) (View.ld (iblk m c 5 t) (Rect.unit ![2, 0, 0] ![2, 704, 1024] inb_S4x704x1024_S2x704x1024_2_0_0))
abbrev bBlk (c : Dev nD) (t : Fin cfg0.N) : S512x1408.Idx → EReal :=
  part (hBlk m c t) (View.ld (iblk m c 6 t) (Rect.unit ![2, 0, 0] ![2, 704, 1024] inb_S4x704x1024_S2x704x1024_2_0_0))
abbrev yBlk (c : Dev nD) (t : Fin cfg0.N) : FVec Ideal S512x1024 .f32 :=
  k0_pay24 (iblk m c 0 t) (fBlk m c t) (aBlk m c t) (bBlk m c t) (th (aBlk m c t)) (Scalar.ofBits .f32 0x3F000000#32)
    (View.ld (iblk m c 7 t) (Rect.unit ![2, 0, 0] ![2, 704, 1024] inb_S4x704x1024_S2x704x1024_2_0_0)) (iblk m c 3 t)

theorem inner_blk (c : Dev nD) (t : Fin cfg0.N) (s : Fin 512) (k : Fin 1024) :
    fBlk m c t (ix2 s k) + share (prod (aBlk m c t) (bBlk m c t)) (View.ld (iblk m c 7 t) (Rect.unit ![2, 0, 0] ![2, 704, 1024] inb_S4x704x1024_S2x704x1024_2_0_0)) (ix2 s k)
      = inner (hRow m c) (w1 m c) (w2 m c) (w3 m c) (tok t s) k :=
  (congrArg₂ (· + ·) (share_blk m c t (by omega) (holds1a m c t) (holds2a m c t) (holds3a m c t) s k)
    (share_blk m c t (by omega) (holds1b m c t) (holds2b m c t) (holds3b m c t) s k)).trans
    (halves fun n => mid (hRow m c) (w1 m c) (w2 m c) (tok t s) n * w3 m c n k)

theorem y_blk (c : Dev nD) (t : Fin cfg0.N) (s : Fin 512) : brow (yBlk m c t) s = yRow m c (tok t s) := by
  funext k
  refine (pay24 _ _ _ _ _ _ _).trans ?_
  exact congrArg₂ (· + ·) (congrFun (xRow m c t s) k) (congrArg₂ (· * ·) (congrArg (half * ·) (congrFun (gtVec m c t) k)) (inner_blk m c t s k))

/-! ## Sums over tokens in 8 interleaved rows -/

/-- A sum over the tokens in 8 interleaved rows: token `8 r + s` for row `s`. -/
def sum8 {w : Nat} (f : Fin 8192 → Fin w → EReal) (j : (⟨2, ![8, w]⟩ : Shape).Idx) : EReal :=
  ∑ r : Fin 1024, f ⟨r.val * 8 + (j 0).val, by have : (j 0).val < 8 := (j 0).isLt; omega⟩ (j 1)

/-- The sum over the block of point `t`. -/
theorem rows_blk {w : Nat} (f : Fin 8192 → Fin w → EReal) (t : Fin cfg0.N) (j : (⟨2, ![8, w]⟩ : Shape).Idx) : rows8 (fun s => f (tok t s)) j
    = ∑ r : Fin 64, (fun q : Fin 1024 => f ⟨q.val * 8 + (j 0).val, by have : (j 0).val < 8 := (j 0).isLt; omega⟩ (j 1))
      ⟨t.val * 64 + r.val, by have := lt16 t; omega⟩ := by
  unfold rows8
  refine Finset.sum_congr rfl fun r _ => congrArg (fun q => f q (j 1)) (Fin.ext ?_)
  show t.val * 512 + (r.val * 8 + (j 0).val) = (t.val * 64 + r.val) * 8 + (j 0).val
  omega

/-- An accumulator that starts from a block's sum and adds the next ones holds the whole sum after the last point. -/
theorem fold8 {w : Nat} (A : ∀ n, n < cfg0.N → (⟨2, ![8, w]⟩ : Shape).Idx → EReal) (f : Fin 8192 → Fin w → EReal)
    (h0 : ∀ (t : Fin cfg0.N), t.val % 16 = 0 → ∀ j, A t.val t.isLt j = rows8 (fun s => f (tok t s)) j)
    (h1 : ∀ (t : Fin cfg0.N), ¬ t.val % 16 = 0 → ∀ j, A t.val t.isLt j
      = A (t.val - 1) (by have := t.isLt; omega) j + rows8 (fun s => f (tok t s)) j)
    (t : Fin cfg0.N) (h : t.val % 16 = 16 - 1) : A t.val t.isLt = sum8 f := by
  funext j
  rw [Pipeline.eq_sum_fin_of_reset_step_apply_of_flush A 16 (fun _ => 0)
    (fun t j => rows8 (fun s => f (tok t s)) j) (fun t h j => (h0 t h j).trans (zero_add _).symm) (fun t h j => h1 t h j) t h j, zero_add]
  unfold sum8
  refine (Finset.sum_congr rfl fun s _ => rows_blk f _ j).trans ?_
  refine Fin.sum_mul_add_congr fun s k hl => ?_
  have hs : (16 * (t.val / 16) + s.val) * 64 + k.val = s.val * 64 + k.val := by have := lt16 t; omega
  simp only [hs]

/-! ## What a point leaves in each block -/

section
variable (c : Dev nD) (t : Fin 8192)
/-- The results: lanes of the loss, the gradient of the new row, terms of the last gain's gradient, the gate and its slope. -/
def lossTerm (l : Fin 128) : EReal := laneTerm (vec (V m c main_arg9)) (yRow m c t) (row (V m c main_arg8) t) l
def dxAt (k : Fin 1024) : EReal := back (yRow m c t) (atNorm (vec (V m c main_arg9)) (yRow m c t) (row (V m c main_arg8) t)) k
def gnTerm (k : Fin 1024) : EReal := gainTerm (vec (V m c main_arg9)) (yRow m c t) (row (V m c main_arg8) t) k
def fAt (k : Fin 1024) : EReal := inner (hRow m c) (w1 m c) (w2 m c) (w3 m c) t k
def saAt (n : Fin 2816) : EReal := gate (up (hRow m c) (w1 m c) t n)
def gaAt (n : Fin 2816) : EReal := slopeOf (up (hRow m c) (w1 m c) t n) (up (hRow m c) (w2 m c) t n)
def sAt (n : Fin 2816) : EReal := mid (hRow m c) (w1 m c) (w2 m c) t n
end

theorem loss_blk (c : Dev nD) (t : Fin cfg0.N) (j : S8x128.Idx) : k0_pay30 (F := Ideal) (yBlk m c t) (iblk m c 8 t) (iblk m c 9 t) (sq (yBlk m c t)) j
    = rows8 (fun s => lossTerm m c (tok t s)) j := by
  refine (pay30 _ _ _ _).trans (congrArg (rows8 · j) (funext fun s => funext fun l => ?_))
  rw [y_blk, lgVec]; exact congrArg (laneTerm _ _ · l) (tgRow m c t s)
theorem dx_blk (c : Dev nD) (t : Fin cfg0.N) (s : Fin 512) (k : Fin 1024) :
    k0_pay31 (F := Ideal) (yBlk m c t) (iblk m c 8 t) (iblk m c 9 t) (sq (yBlk m c t)) (ix2 s k) = dxAt m c (tok t s) k := by
  refine (pay31 _ _ _ _).trans ?_
  show back (brow (yBlk m c t) s) (atNorm (vec (iblk m c 9 t)) (brow (yBlk m c t) s) (brow (iblk m c 8 t) s)) k = _
  rw [y_blk, lgVec]; exact congrArg (fun r => back _ (atNorm _ _ r) k) (tgRow m c t s)
theorem gn_blk (c : Dev nD) (t : Fin cfg0.N) (j : S8x1024.Idx) : k0_pay32 (F := Ideal) (yBlk m c t) (iblk m c 8 t) (iblk m c 9 t) (sq (yBlk m c t)) j
    = rows8 (fun s => gnTerm m c (tok t s)) j := by
  refine (pay32 _ _ _ _).trans (congrArg (rows8 · j) (funext fun s => funext fun l => ?_))
  rw [y_blk, lgVec]; exact congrArg (gainTerm _ _ · l) (tgRow m c t s)

theorem out11 (c : Dev nD) (t : Fin cfg0.N) (s : Fin 512) (k : Fin 1024) : (outsAt0 m c t.val t.isLt).2.1 (ix2 s k) = dxAt m c (tok t s) k := by
  have hN := lt16 t
  by_cases ht : t.val % 16 = 0
  · rw [outsAt0_A m c t ht (by omega)]; frame_out
    simp only [pay5, pay6, pay7, pay15, pay16, pay17, pay14, pay25]; exact dx_blk m c t s k
  · rw [outsAt0_B m c t ht (by omega)]; frame_out
    simp only [pay5, pay6, pay7, pay15, pay16, pay17, pay14, pay25]; exact dx_blk m c t s k

theorem out13 (c : Dev nD) (t : Fin cfg0.N) (s : Fin 512) (k : Fin 1024) : (outsAt0 m c t.val t.isLt).2.2.2.1 (ix2 s k) = fAt m c (tok t s) k := by
  have hN := lt16 t
  by_cases ht : t.val % 16 = 0
  · rw [outsAt0_A m c t ht (by omega)]; frame_out
    simp only [pay5, pay6, pay7, pay15, pay16, pay17, pay14, pay25]; exact (pay23 _ _ _ _ _).trans (inner_blk m c t s k)
  · rw [outsAt0_B m c t ht (by omega)]; frame_out
    simp only [pay5, pay6, pay7, pay15, pay16, pay17, pay14, pay25]; exact (pay23 _ _ _ _ _).trans (inner_blk m c t s k)

/-- A column half of a projection, by the token and the column that an entry belongs to. -/
theorem up_at (c : Dev nD) (t : Fin cfg0.N) {w : S2x704x1024.Idx → EReal} {o p : Nat} {hp : p + 704 ≤ 2112} {a : S4x2112x1024.Idx → EReal} (ho : o ≤ 2) (h : Holds w o p hp a)
    (x : S512x1408.Idx) (T : Fin 8192) (N : Fin 2816) (h0 : T.val = t.val * 512 + (x 0).val) (h1 : N.val = o * 704 + (x 1).val) :
    part (hBlk m c t) w x = up (hRow m c) (packedAt p hp a) T N :=
  (congrArg (part (hBlk m c t) w) (eq_ix2 x)).trans ((up_blk m c t ho h (x 0) (x 1)).trans
    (congrArg₂ (up (hRow m c) (packedAt p hp a)) (Fin.ext h0.symm) (Fin.ext h1.symm)))

theorem out14 (c : Dev nD) (t : Fin cfg0.N) (y : S512x2816.Idx) : (outsAt0 m c t.val t.isLt).2.2.2.2.1 y = saAt m c (tok t (y 0)) (y 1) := by
  have hN := lt16 t
  by_cases ht : t.val % 16 = 0
  · rw [outsAt0_A m c t ht (by omega)]; frame_out
    simp only [pay5, pay6, pay7, pay15, pay16, pay17, pay14, pay25]
    canon_tiles x e
    · have h0 : (tok t (y 0)).val = t.val * 512 + (x 0).val := congrArg (t.val * 512 + ·) e0
      have h1 : (y 1).val = 2 * 704 + (x 1).val := by omega
      exact (pay20 _ _).trans (congrArg gate (up_at m c t (by omega) (holds1b m c t) x _ _ h0 h1))
    · have h0 : (tok t (y 0)).val = t.val * 512 + (x 0).val := congrArg (t.val * 512 + ·) e0
      have h1 : (y 1).val = 0 * 704 + (x 1).val := by omega
      exact (pay11 _ _).trans (congrArg gate (up_at m c t (by omega) (holds1a m c t) x _ _ h0 h1))
  · rw [outsAt0_B m c t ht (by omega)]; frame_out
    simp only [pay5, pay6, pay7, pay15, pay16, pay17, pay14, pay25]
    canon_tiles x e
    · have h0 : (tok t (y 0)).val = t.val * 512 + (x 0).val := congrArg (t.val * 512 + ·) e0
      have h1 : (y 1).val = 2 * 704 + (x 1).val := by omega
      exact (pay20 _ _).trans (congrArg gate (up_at m c t (by omega) (holds1b m c t) x _ _ h0 h1))
    · have h0 : (tok t (y 0)).val = t.val * 512 + (x 0).val := congrArg (t.val * 512 + ·) e0
      have h1 : (y 1).val = 0 * 704 + (x 1).val := by omega
      exact (pay11 _ _).trans (congrArg gate (up_at m c t (by omega) (holds1a m c t) x _ _ h0 h1))

theorem out15 (c : Dev nD) (t : Fin cfg0.N) (y : S512x2816.Idx) : (outsAt0 m c t.val t.isLt).2.2.2.2.2.1 y = gaAt m c (tok t (y 0)) (y 1) := by
  have hN := lt16 t
  by_cases ht : t.val % 16 = 0
  · rw [outsAt0_A m c t ht (by omega)]; frame_out
    simp only [pay5, pay6, pay7, pay15, pay16, pay17, pay14, pay25]
    canon_tiles x e
    · have h0 : (tok t (y 0)).val = t.val * 512 + (x 0).val := congrArg (t.val * 512 + ·) e0
      have h1 : (y 1).val = 2 * 704 + (x 1).val := by omega
      exact (pay21 _ _ _).trans (congrArg₂ slopeOf (up_at m c t (by omega) (holds1b m c t) x _ _ h0 h1) (up_at m c t (by omega) (holds2b m c t) x _ _ h0 h1))
    · have h0 : (tok t (y 0)).val = t.val * 512 + (x 0).val := congrArg (t.val * 512 + ·) e0
      have h1 : (y 1).val = 0 * 704 + (x 1).val := by omega
      exact (pay12 _ _ _).trans (congrArg₂ slopeOf (up_at m c t (by omega) (holds1a m c t) x _ _ h0 h1) (up_at m c t (by omega) (holds2a m c t) x _ _ h0 h1))
  · rw [outsAt0_B m c t ht (by omega)]; frame_out
    simp only [pay5, pay6, pay7, pay15, pay16, pay17, pay14, pay25]
    canon_tiles x e
    · have h0 : (tok t (y 0)).val = t.val * 512 + (x 0).val := congrArg (t.val * 512 + ·) e0
      have h1 : (y 1).val = 2 * 704 + (x 1).val := by omega
      exact (pay21 _ _ _).trans (congrArg₂ slopeOf (up_at m c t (by omega) (holds1b m c t) x _ _ h0 h1) (up_at m c t (by omega) (holds2b m c t) x _ _ h0 h1))
    · have h0 : (tok t (y 0)).val = t.val * 512 + (x 0).val := congrArg (t.val * 512 + ·) e0
      have h1 : (y 1).val = 0 * 704 + (x 1).val := by omega
      exact (pay12 _ _ _).trans (congrArg₂ slopeOf (up_at m c t (by omega) (holds1a m c t) x _ _ h0 h1) (up_at m c t (by omega) (holds2a m c t) x _ _ h0 h1))

theorem out16 (c : Dev nD) (t : Fin cfg0.N) (y : S512x2816.Idx) : (outsAt0 m c t.val t.isLt).2.2.2.2.2.2 y = sAt m c (tok t (y 0)) (y 1) := by
  have hN := lt16 t
  by_cases ht : t.val % 16 = 0
  · rw [outsAt0_A m c t ht (by omega)]; frame_out
    simp only [pay5, pay6, pay7, pay15, pay16, pay17, pay14, pay25]
    canon_tiles x e
    · have h0 : (tok t (y 0)).val = t.val * 512 + (x 0).val := congrArg (t.val * 512 + ·) e0
      have h1 : (y 1).val = 2 * 704 + (x 1).val := by omega
      exact (pay22 _ _ _).trans (congrArg₂ gated (up_at m c t (by omega) (holds1b m c t) x _ _ h0 h1) (up_at m c t (by omega) (holds2b m c t) x _ _ h0 h1))
    · have h0 : (tok t (y 0)).val = t.val * 512 + (x 0).val := congrArg (t.val * 512 + ·) e0
      have h1 : (y 1).val = 0 * 704 + (x 1).val := by omega
      exact (pay13 _ _ _).trans (congrArg₂ gated (up_at m c t (by omega) (holds1a m c t) x _ _ h0 h1) (up_at m c t (by omega) (holds2a m c t) x _ _ h0 h1))
  · rw [outsAt0_B m c t ht (by omega)]; frame_out
    simp only [pay5, pay6, pay7, pay15, pay16, pay17, pay14, pay25]
    canon_tiles x e
    · have h0 : (tok t (y 0)).val = t.val * 512 + (x 0).val := congrArg (t.val * 512 + ·) e0
      have h1 : (y 1).val = 2 * 704 + (x 1).val := by omega
      exact (pay22 _ _ _).trans (congrArg₂ gated (up_at m c t (by omega) (holds1b m c t) x _ _ h0 h1) (up_at m c t (by omega) (holds2b m c t) x _ _ h0 h1))
    · have h0 : (tok t (y 0)).val = t.val * 512 + (x 0).val := congrArg (t.val * 512 + ·) e0
      have h1 : (y 1).val = 0 * 704 + (x 1).val := by omega
      exact (pay13 _ _ _).trans (congrArg₂ gated (up_at m c t (by omega) (holds1a m c t) x _ _ h0 h1) (up_at m c t (by omega) (holds2a m c t) x _ _ h0 h1))

/-! ## The accumulators -/

theorem first10 (c : Dev nD) (t : Fin cfg0.N) (ht : t.val % 16 = 0) (j : S8x128.Idx) : (outsAt0 m c t.val t.isLt).1 j
    = rows8 (fun s => lossTerm m c (tok t s)) j := by
  have hN := lt16 t
  rw [outsAt0_A m c t ht (by omega)]; frame_out
  simp only [pay5, pay6, pay7, pay15, pay16, pay17, pay14, pay25]; exact loss_blk m c t j
theorem step10 (c : Dev nD) (t : Fin cfg0.N) (ht : ¬ t.val % 16 = 0) (j : S8x128.Idx) : (outsAt0 m c t.val t.isLt).1 j
    = (outsAt0 m c (t.val - 1) (by have := t.isLt; omega)).1 j + rows8 (fun s => lossTerm m c (tok t s)) j := by
  have hN := lt16 t
  rw [outsAt0_B m c t ht (by omega)]; frame_out
  simp only [pay5, pay6, pay7, pay15, pay16, pay17, pay14, pay25]; exact (pay1 _ _ _).trans (congrArg (_ + ·) (loss_blk m c t j))
theorem acc10 (c : Dev nD) (t : Fin cfg0.N) (h : t.val % 16 = 16 - 1) : (outsAt0 m c t.val t.isLt).1 = sum8 (lossTerm m c) :=
  fold8 (fun n h => (outsAt0 m c n h).1) _ (first10 m c) (step10 m c) t h

theorem first12 (c : Dev nD) (t : Fin cfg0.N) (ht : t.val % 16 = 0) (j : S8x1024.Idx) : (outsAt0 m c t.val t.isLt).2.2.1 j
    = rows8 (fun s => gnTerm m c (tok t s)) j := by
  have hN := lt16 t
  rw [outsAt0_A m c t ht (by omega)]; frame_out
  simp only [pay5, pay6, pay7, pay15, pay16, pay17, pay14, pay25]; exact gn_blk m c t j
theorem step12 (c : Dev nD) (t : Fin cfg0.N) (ht : ¬ t.val % 16 = 0) (j : S8x1024.Idx) : (outsAt0 m c t.val t.isLt).2.2.1 j
    = (outsAt0 m c (t.val - 1) (by have := t.isLt; omega)).2.2.1 j + rows8 (fun s => gnTerm m c (tok t s)) j := by
  have hN := lt16 t
  rw [outsAt0_B m c t ht (by omega)]; frame_out
  simp only [pay5, pay6, pay7, pay15, pay16, pay17, pay14, pay25]; exact (pay2 _ _ _).trans (congrArg (_ + ·) (gn_blk m c t j))
theorem acc12 (c : Dev nD) (t : Fin cfg0.N) (h : t.val % 16 = 16 - 1) : (outsAt0 m c t.val t.isLt).2.2.1 = sum8 (gnTerm m c) :=
  fold8 (fun n h => (outsAt0 m c n h).2.2.1) _ (first12 m c) (step12 m c) t h

/-! ## The arrays after the last point -/

theorem final10 (c : Dev nD) : (dats m 0 c).arrAt 10 cfg0.N = sum8 (lossTerm m c) := by
  refine (dats m 0 c).arrAt_eq_of_after_last 10 ⟨15, by decide⟩ (by decide +kernel) _ fun j => ?_
  rw [after0_10]
  exact congrFun (acc10 m c ⟨15, by decide⟩ (by decide)) j
theorem final12 (c : Dev nD) : (dats m 0 c).arrAt 12 cfg0.N = sum8 (gnTerm m c) := by
  refine (dats m 0 c).arrAt_eq_of_after_last 12 ⟨15, by decide⟩ (by decide +kernel) _ fun j => ?_
  rw [after0_12]
  exact congrFun (acc12 m c ⟨15, by decide⟩ (by decide)) j

theorem at11 (c : Dev nD) (t : Fin cfg0.N) (y : S512x1024.Idx) (i : S8192x1024.Idx) (h0 : (i 0).val = t.val * 512 + (y 0).val)
    (h1 : (i 1).val = (y 1).val) : (outsAt0 m c t.val t.isLt).2.1 y = dxAt m c (i 0) (i 1) := by
  rw [show i 0 = tok t (y 0) from Fin.ext h0, show i 1 = y 1 from Fin.ext h1]
  rw [eq_ix2 y]; exact out11 m c t (y 0) (y 1)
theorem final11 (c : Dev nD) : (dats m 0 c).arrAt 11 cfg0.N = fun i : S8192x1024.Idx => dxAt m c (i 0) (i 1) := by
  refine (dats m 0 c).arrAt_eq_of_covers 11 _ (by decide +kernel) fun t hf y => ?_
  blk_simp
  rw [after0_11]
  refine at11 m c t y _ ?_ ?_
  · simp [idx_11 t]
  · simp [idx_11 t]

theorem at13 (c : Dev nD) (t : Fin cfg0.N) (y : S512x1024.Idx) (i : S8192x1024.Idx) (h0 : (i 0).val = t.val * 512 + (y 0).val)
    (h1 : (i 1).val = (y 1).val) : (outsAt0 m c t.val t.isLt).2.2.2.1 y = fAt m c (i 0) (i 1) := by
  rw [show i 0 = tok t (y 0) from Fin.ext h0, show i 1 = y 1 from Fin.ext h1]
  rw [eq_ix2 y]; exact out13 m c t (y 0) (y 1)
theorem final13 (c : Dev nD) : (dats m 0 c).arrAt 13 cfg0.N = fun i : S8192x1024.Idx => fAt m c (i 0) (i 1) := by
  refine (dats m 0 c).arrAt_eq_of_covers 13 _ (by decide +kernel) fun t hf y => ?_
  blk_simp
  rw [after0_13]
  refine at13 m c t y _ ?_ ?_
  · simp [idx_13 t]
  · simp [idx_13 t]

theorem at14 (c : Dev nD) (t : Fin cfg0.N) (y : S512x2816.Idx) (i : S8192x2816.Idx) (h0 : (i 0).val = t.val * 512 + (y 0).val)
    (h1 : (i 1).val = (y 1).val) : (outsAt0 m c t.val t.isLt).2.2.2.2.1 y = saAt m c (i 0) (i 1) := by
  rw [show i 0 = tok t (y 0) from Fin.ext h0, show i 1 = y 1 from Fin.ext h1]
  exact out14 m c t y
theorem final14 (c : Dev nD) : (dats m 0 c).arrAt 14 cfg0.N = fun i : S8192x2816.Idx => saAt m c (i 0) (i 1) := by
  refine (dats m 0 c).arrAt_eq_of_covers 14 _ (by decide +kernel) fun t hf y => ?_
  blk_simp
  rw [after0_14]
  refine at14 m c t y _ ?_ ?_
  · simp [idx_14 t]
  · simp [idx_14 t]

theorem at15 (c : Dev nD) (t : Fin cfg0.N) (y : S512x2816.Idx) (i : S8192x2816.Idx) (h0 : (i 0).val = t.val * 512 + (y 0).val)
    (h1 : (i 1).val = (y 1).val) : (outsAt0 m c t.val t.isLt).2.2.2.2.2.1 y = gaAt m c (i 0) (i 1) := by
  rw [show i 0 = tok t (y 0) from Fin.ext h0, show i 1 = y 1 from Fin.ext h1]
  exact out15 m c t y
theorem final15 (c : Dev nD) : (dats m 0 c).arrAt 15 cfg0.N = fun i : S8192x2816.Idx => gaAt m c (i 0) (i 1) := by
  refine (dats m 0 c).arrAt_eq_of_covers 15 _ (by decide +kernel) fun t hf y => ?_
  blk_simp
  rw [after0_15]
  refine at15 m c t y _ ?_ ?_
  · simp [idx_15 t]
  · simp [idx_15 t]

theorem at16 (c : Dev nD) (t : Fin cfg0.N) (y : S512x2816.Idx) (i : S8192x2816.Idx) (h0 : (i 0).val = t.val * 512 + (y 0).val)
    (h1 : (i 1).val = (y 1).val) : (outsAt0 m c t.val t.isLt).2.2.2.2.2.2 y = sAt m c (i 0) (i 1) := by
  rw [show i 0 = tok t (y 0) from Fin.ext h0, show i 1 = y 1 from Fin.ext h1]
  exact out16 m c t y
theorem final16 (c : Dev nD) : (dats m 0 c).arrAt 16 cfg0.N = fun i : S8192x2816.Idx => sAt m c (i 0) (i 1) := by
  refine (dats m 0 c).arrAt_eq_of_covers 16 _ (by decide +kernel) fun t hf y => ?_
  blk_simp
  rw [after0_16]
  refine at16 m c t y _ ?_ ?_
  · simp [idx_16 t]
  · simp [idx_16 t]

/-! ## The arrays that the host prepares -/

theorem V0_at (c : Dev nD) (i : S8192x1024.Idx) : V m c main_arg0 i = m (c, Proc.tc.devRef main_arg0) i := by
  unfold V; after_reads_at
theorem V1_at (c : Dev nD) (i : S1x1024.Idx) : V m c main_arg1 i = m (c, Proc.tc.devRef main_arg1) i := by
  unfold V; after_reads_at
theorem V2_at (c : Dev nD) (i : S1x1024.Idx) : V m c main_arg2 i = m (c, Proc.tc.devRef main_arg2) i := by
  unfold V; after_reads_at
theorem V3_at (c : Dev nD) (i : S1x1024.Idx) : V m c main_arg3 i = m (c, Proc.tc.devRef main_arg3) i := by
  unfold V; after_reads_at
theorem V4_at (c : Dev nD) (i : S1x1024.Idx) : V m c main_arg4 i = m (c, Proc.tc.devRef main_arg4) i := by
  unfold V; after_reads_at
theorem V8_at (c : Dev nD) (i : S8192x1024.Idx) : V m c main_arg8 i = m (c, Proc.tc.devRef main_arg8) i := by
  unfold V; after_reads_at
theorem V9_at (c : Dev nD) (i : S1x1024.Idx) : V m c main_arg9 i = m (c, Proc.tc.devRef main_arg9) i := by
  unfold V; after_reads_at

theorem Vw1_at (c : Dev nD) (i : S4x704x1024.Idx) (n : Fin 2816) (h : n.val = (i 0).val * 704 + (i 1).val) : V m c main_v1 i
    = m (c, Proc.tc.devRef main_arg5) (ix2 (i 2) n) := by
  unfold V; after_reads_at
  congr 2; exact Fin.ext h.symm
theorem Vw2_at (c : Dev nD) (i : S4x704x1024.Idx) (n : Fin 2816) (h : n.val = (i 0).val * 704 + (i 1).val) : V m c main_v3 i
    = m (c, Proc.tc.devRef main_arg6) (ix2 (i 2) n) := by
  unfold V; after_reads_at
  congr 2; exact Fin.ext h.symm
theorem Vw3_at (c : Dev nD) (i : S4x704x1024.Idx) (n : Fin 2816) (h : n.val = (i 0).val * 704 + (i 1).val) : V m c main_v4 i
    = m (c, Proc.tc.devRef main_arg7) (ix2 n (i 2)) := by
  unfold V; after_reads_at
  congr 2; exact Fin.ext h.symm
theorem packed1 (c : Dev nD) (n : Fin 2816) (k : Fin 1024) : w1 m c n k = m (c, Proc.tc.devRef main_arg5) (ix2 k n) := by
  unfold w1 packedAt V; after_reads_at
  rw [dif_pos (by omega)]
  exact Vw1_at m c _ n (by show n.val = n.val / 704 * 704 + n.val % 704; omega)
theorem packed2 (c : Dev nD) (n : Fin 2816) (k : Fin 1024) : w2 m c n k = m (c, Proc.tc.devRef main_arg6) (ix2 k n) := by
  unfold w2 packedAt V; after_reads_at
  rw [dif_pos (by omega)]
  exact Vw2_at m c _ n (by show n.val = n.val / 704 * 704 + n.val % 704; omega)
theorem packed3 (c : Dev nD) (n : Fin 2816) (k : Fin 1024) : w3 m c n k = m (c, Proc.tc.devRef main_arg7) (ix2 n k) := by
  unfold w3 packedAt V; after_reads_at
  rw [dif_neg (by omega), dif_neg (by omega)]
  exact Vw3_at m c _ n (by show n.val = n.val / 704 * 704 + (1408 + n.val % 704 - 704 - 704); omega)

end Cert.DfIdeal.Step
-- ==== Proof.FfnFirstBlocks.lean ====
/-
  The first gated feed-forward half-step: its kernel at a grid point, its blocks and its five arrays.

  A grid point stores the values that the later half-step's point stores before it goes on to the loss, so the lemmas on those
  values serve here too (`same…` says which value is which). This module reads the blocks off this kernel's own arrays.
-/
module

public import proofs.«01_k».proof.Proof.Gen.DgIdeal.Value
public import proofs.«01_k».proof.Proof.FfnFwdBlocks

@[expose] public section

noncomputable section

namespace Cert.DgIdeal.Step

open Idealize.ShloMosaic Idealize.ShloMosaic.TcCoe Idealize.SL.Sem
open Cert.DgIdeal Cert.DgIdeal.Gen Cert.NormRow Cert.HalfStep
open Cert.DfIdeal.Step (vec brow row part share th prod packedAt col Holds Holds.at halves
  pay3 pay5 pay6 pay7 pay11 pay12 pay13 pay14 pay15 pay16 pay17 pay20 pay21 pay22 pay23 pay24)

variable (m : (ℓ : Loc nD τ sig) → Buf (Elt Ideal) ℓ)

/-! ## The stored values are the later half-step's -/

theorem same3 (v62 : FVec Ideal S512x1408 .f32) (v69 : FVec Ideal S512x1408 .f32) (cst_42 : Ideal .f32) : k0_pay3 (F := Ideal) v62 v69 cst_42 = Cert.DfIdeal.Gen.k0_pay20 (F := Ideal) v62 v69 cst_42 := rfl
theorem same4 (v62 : FVec Ideal S512x1408 .f32) (v66 : FVec Ideal S512x1408 .f32) (v69 : FVec Ideal S512x1408 .f32) (cst_42 : Ideal .f32) : k0_pay4 (F := Ideal) v62 v66 v69 cst_42 = Cert.DfIdeal.Gen.k0_pay21 (F := Ideal) v62 v66 v69 cst_42 := rfl
theorem same5 (v62 : FVec Ideal S512x1408 .f32) (v66 : FVec Ideal S512x1408 .f32) (v69 : FVec Ideal S512x1408 .f32) (cst_42 : Ideal .f32) : k0_pay5 (F := Ideal) v62 v66 v69 cst_42 = Cert.DfIdeal.Gen.k0_pay22 (F := Ideal) v62 v66 v69 cst_42 := rfl
theorem same6 (v58 : FVec Ideal S512x1024 .f32) (v62 : FVec Ideal S512x1408 .f32) (v66 : FVec Ideal S512x1408 .f32) (v69 : FVec Ideal S512x1408 .f32) (cst_42 : Ideal .f32) (v89 : Vec Ideal S2x704x1024 .bf16) : k0_pay6 (F := Ideal) v58 v62 v66 v69 cst_42 v89 = Cert.DfIdeal.Gen.k0_pay23 (F := Ideal) v58 v62 v66 v69 cst_42 v89 := rfl
theorem same7 (v0 : Vec Ideal S512x1024 .f32) (v58 : FVec Ideal S512x1024 .f32) (v62 : FVec Ideal S512x1408 .f32) (v66 : FVec Ideal S512x1408 .f32) (v69 : FVec Ideal S512x1408 .f32) (cst_42 : Ideal .f32) (v89 : Vec Ideal S2x704x1024 .bf16) (v95 : Vec Ideal S1x1024 .f32) : k0_pay7 (F := Ideal) v0 v58 v62 v66 v69 cst_42 v89 v95 = Cert.DfIdeal.Gen.k0_pay24 (F := Ideal) v0 v58 v62 v66 v69 cst_42 v89 v95 := rfl
theorem same8 (v0 : Vec Ideal S512x1024 .f32) (v1 : Vec Ideal S1x1024 .f32) (v2 : Vec Ideal S1x1024 .f32) (v3 : Vec Ideal S1x1024 .f32) : k0_pay8 (F := Ideal) v0 v1 v2 v3 = Cert.DfIdeal.Gen.k0_pay3 (F := Ideal) v0 v1 v2 v3 := rfl
theorem same9 : k0_pay9 (F := Ideal) = Cert.DfIdeal.Gen.k0_pay4 (F := Ideal) := rfl
theorem same10 (v0 : Vec Ideal S512x1024 .f32) (v1 : Vec Ideal S1x1024 .f32) (v2 : Vec Ideal S1x1024 .f32) (v3 : Vec Ideal S1x1024 .f32) (v24 : Vec Ideal S2x704x1024 .bf16) : k0_pay10 (F := Ideal) v0 v1 v2 v3 v24 = Cert.DfIdeal.Gen.k0_pay5 (F := Ideal) v0 v1 v2 v3 v24 := rfl
theorem same11 (v0 : Vec Ideal S512x1024 .f32) (v1 : Vec Ideal S1x1024 .f32) (v2 : Vec Ideal S1x1024 .f32) (v3 : Vec Ideal S1x1024 .f32) (v28 : Vec Ideal S2x704x1024 .bf16) : k0_pay11 (F := Ideal) v0 v1 v2 v3 v28 = Cert.DfIdeal.Gen.k0_pay6 (F := Ideal) v0 v1 v2 v3 v28 := rfl
theorem same12 (v0 : Vec Ideal S512x1024 .f32) (v1 : Vec Ideal S1x1024 .f32) (v2 : Vec Ideal S1x1024 .f32) (v3 : Vec Ideal S1x1024 .f32) (v24 : Vec Ideal S2x704x1024 .bf16) : k0_pay12 (F := Ideal) v0 v1 v2 v3 v24 = Cert.DfIdeal.Gen.k0_pay7 (F := Ideal) v0 v1 v2 v3 v24 := rfl
theorem same13 : k0_pay13 (F := Ideal) = Cert.DfIdeal.Gen.k0_pay8 (F := Ideal) := rfl
theorem same16 (v27 : FVec Ideal S512x1408 .f32) (v34 : FVec Ideal S512x1408 .f32) (v35 : FVec Ideal S512x1408 .f32) : k0_pay16 (F := Ideal) v27 v34 v35 = Cert.DfIdeal.Gen.k0_pay11 (F := Ideal) v27 v34 v35 := rfl
theorem same17 (v27 : FVec Ideal S512x1408 .f32) (v31 : FVec Ideal S512x1408 .f32) (v34 : FVec Ideal S512x1408 .f32) (v35 : FVec Ideal S512x1408 .f32) : k0_pay17 (F := Ideal) v27 v31 v34 v35 = Cert.DfIdeal.Gen.k0_pay12 (F := Ideal) v27 v31 v34 v35 := rfl
theorem same18 (v27 : FVec Ideal S512x1408 .f32) (v31 : FVec Ideal S512x1408 .f32) (v34 : FVec Ideal S512x1408 .f32) (v35 : FVec Ideal S512x1408 .f32) : k0_pay18 (F := Ideal) v27 v31 v34 v35 = Cert.DfIdeal.Gen.k0_pay13 (F := Ideal) v27 v31 v34 v35 := rfl
theorem same19 (v23 : FVec Ideal S512x1024 .f32) (v27 : FVec Ideal S512x1408 .f32) (v31 : FVec Ideal S512x1408 .f32) (v34 : FVec Ideal S512x1408 .f32) (v35 : FVec Ideal S512x1408 .f32) (v54 : Vec Ideal S2x704x1024 .bf16) : k0_pay19 (F := Ideal) v23 v27 v31 v34 v35 v54 = Cert.DfIdeal.Gen.k0_pay14 (F := Ideal) v23 v27 v31 v34 v35 v54 := rfl
theorem same20 (v22 : FVec Ideal S512x1024 .bf16) (v59 : Vec Ideal S2x704x1024 .bf16) : k0_pay20 (F := Ideal) v22 v59 = Cert.DfIdeal.Gen.k0_pay15 (F := Ideal) v22 v59 := rfl
theorem same21 (v22 : FVec Ideal S512x1024 .bf16) (v63 : Vec Ideal S2x704x1024 .bf16) : k0_pay21 (F := Ideal) v22 v63 = Cert.DfIdeal.Gen.k0_pay16 (F := Ideal) v22 v63 := rfl
theorem same22 (v22 : FVec Ideal S512x1024 .bf16) (v59 : Vec Ideal S2x704x1024 .bf16) : k0_pay22 (F := Ideal) v22 v59 = Cert.DfIdeal.Gen.k0_pay17 (F := Ideal) v22 v59 := rfl

/-! ## The blocks, read off the arrays -/

theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 3) = 0 ∧ win0_5.index t (1 : Fin 3) = 0 ∧ win0_5.index t (2 : Fin 3) = 0 :=
  (by decide +kernel : ∀ t : Fin grid0.N, _)
theorem idx_6 : ∀ t : Fin cfg0.N, win0_6.index t (0 : Fin 3) = 0 ∧ win0_6.index t (1 : Fin 3) = 1 ∧ win0_6.index t (2 : Fin 3) = 0 :=
  (by decide +kernel : ∀ t : Fin grid0.N, _)
theorem idx_7 : ∀ t : Fin cfg0.N, win0_7.index t (0 : Fin 3) = 0 ∧ win0_7.index t (1 : Fin 3) = 2 ∧ win0_7.index t (2 : Fin 3) = 0 :=
  (by decide +kernel : ∀ t : Fin grid0.N, _)
theorem idx_8 : ∀ t : Fin cfg0.N, win0_8.index t (0 : Fin 2) = t.val ∧ win0_8.index t (1 : Fin 2) = 0 :=
  (by decide +kernel : ∀ t : Fin grid0.N, _)
theorem idx_9 : ∀ t : Fin cfg0.N, win0_9.index t (0 : Fin 2) = t.val ∧ win0_9.index t (1 : Fin 2) = 0 :=
  (by decide +kernel : ∀ t : Fin grid0.N, _)
theorem idx_10 : ∀ t : Fin cfg0.N, win0_10.index t (0 : Fin 2) = t.val ∧ win0_10.index t (1 : Fin 2) = 0 :=
  (by decide +kernel : ∀ t : Fin grid0.N, _)
theorem idx_11 : ∀ t : Fin cfg0.N, win0_11.index t (0 : Fin 2) = t.val ∧ win0_11.index t (1 : Fin 2) = 0 :=
  (by decide +kernel : ∀ t : Fin grid0.N, _)
theorem idx_12 : ∀ t : Fin cfg0.N, win0_12.index t (0 : Fin 2) = t.val ∧ win0_12.index t (1 : Fin 2) = 0 :=
  (by decide +kernel : ∀ t : Fin grid0.N, _)

theorem lt16 (t : Fin cfg0.N) : t.val < 16 := lt_of_lt_of_eq t.isLt N_0

/-- Token `s` of the block of point `t`. -/
abbrev tok (t : Fin cfg0.N) (s : Fin 512) : Fin 8192 := ⟨t.val * 512 + s.val, by have := lt16 t; omega⟩

theorem xRow (c : Dev nD) (t : Fin cfg0.N) (s : Fin 512) : brow (iblk m c 0 t) s = row (V m c main_arg0) (tok t s) := by
  funext k; unfold brow row; blk_ext [iblk, idx_0 t]
theorem shVec (c : Dev nD) (t : Fin cfg0.N) : vec (iblk m c 1 t) = vec (V m c main_arg1) := by
  funext k; unfold vec; blk_ext [iblk, idx_1 t]
theorem scVec (c : Dev nD) (t : Fin cfg0.N) : vec (iblk m c 2 t) = vec (V m c main_arg2) := by
  funext k; unfold vec; blk_ext [iblk, idx_2 t]
theorem gtVec (c : Dev nD) (t : Fin cfg0.N) : vec (iblk m c 3 t) = vec (V m c main_arg3) := by
  funext k; unfold vec; blk_ext [iblk, idx_3 t]
theorem gVec (c : Dev nD) (t : Fin cfg0.N) : vec (iblk m c 4 t) = vec (V m c main_arg4) := by
  funext k; unfold vec; blk_ext [iblk, idx_4 t]
theorem w1At (c : Dev nD) (t : Fin cfg0.N) (j : S4x704x1024.Idx) (i : S4x2112x1024.Idx) (h0 : (i 0).val = (j 0).val)
    (h1 : (i 1).val = 0 + (j 1).val) (h2 : (i 2).val = (j 2).val) : iblk m c 5 t j = V m c main_v6 i := by
  blk_ext [iblk, idx_5 t, h0, h1, h2]
theorem w2At (c : Dev nD) (t : Fin cfg0.N) (j : S4x704x1024.Idx) (i : S4x2112x1024.Idx) (h0 : (i 0).val = (j 0).val)
    (h1 : (i 1).val = 704 + (j 1).val) (h2 : (i 2).val = (j 2).val) : iblk m c 6 t j = V m c main_v6 i := by
  blk_ext [iblk, idx_6 t, h0, h1, h2]
theorem w3At (c : Dev nD) (t : Fin cfg0.N) (j : S4x704x1024.Idx) (i : S4x2112x1024.Idx) (h0 : (i 0).val = (j 0).val)
    (h1 : (i 1).val = 1408 + (j 1).val) (h2 : (i 2).val = (j 2).val) : iblk m c 7 t j = V m c main_v6 i := by
  blk_ext [iblk, idx_7 t, h0, h1, h2]

/-! ## The half-step, off the arrays -/

/-- The normed and modulated rows. -/
def hRow (c : Dev nD) (t : Fin 8192) : Fin 1024 → EReal :=
  modded (vec (V m c main_arg4)) (vec (V m c main_arg2)) (vec (V m c main_arg1)) (row (V m c main_arg0) t)
/-- The three projections. -/
def w1 (c : Dev nD) : Fin 2816 → Fin 1024 → EReal := packedAt 0 (by omega) (V m c main_v6)
def w2 (c : Dev nD) : Fin 2816 → Fin 1024 → EReal := packedAt 704 (by omega) (V m c main_v6)
def w3 (c : Dev nD) : Fin 2816 → Fin 1024 → EReal := packedAt 1408 (by omega) (V m c main_v6)
/-- The new rows. -/
def yRow (c : Dev nD) : Fin 8192 → Fin 1024 → EReal :=
  stepped (hRow m c) (row (V m c main_arg0)) (w1 m c) (w2 m c) (w3 m c) (vec (V m c main_arg3))

theorem holds1a (c : Dev nD) (t : Fin cfg0.N) : Holds (View.ld (iblk m c 5 t) (Rect.unit ![0, 0, 0] ![2, 704, 1024] inb_S4x704x1024_S2x704x1024_0_0_0)) 0 0 (by omega) (V m c main_v6) := by
  intro j i e0 e1 e2; rw [View.ld_apply]; exact w1At m c t _ i (by simp [e0]) (by simp [e1]) (by simp [e2])
theorem holds1b (c : Dev nD) (t : Fin cfg0.N) : Holds (View.ld (iblk m c 5 t) (Rect.unit ![2, 0, 0] ![2, 704, 1024] inb_S4x704x1024_S2x704x1024_2_0_0)) 2 0 (by omega) (V m c main_v6) := by
  intro j i e0 e1 e2; rw [View.ld_apply]; exact w1At m c t _ i (by simp [e0]) (by simp [e1]) (by simp [e2])
theorem holds2a (c : Dev nD) (t : Fin cfg0.N) : Holds (View.ld (iblk m c 6 t) (Rect.unit ![0, 0, 0] ![2, 704, 1024] inb_S4x704x1024_S2x704x1024_0_0_0)) 0 704 (by omega) (V m c main_v6) := by
  intro j i e0 e1 e2; rw [View.ld_apply]; exact w2At m c t _ i (by simp [e0]) (by simp [e1]) (by simp [e2])
theorem holds2b (c : Dev nD) (t : Fin cfg0.N) : Holds (View.ld (iblk m c 6 t) (Rect.unit ![2, 0, 0] ![2, 704, 1024] inb_S4x704x1024_S2x704x1024_2_0_0)) 2 704 (by omega) (V m c main_v6) := by
  intro j i e0 e1 e2; rw [View.ld_apply]; exact w2At m c t _ i (by simp [e0]) (by simp [e1]) (by simp [e2])
theorem holds3a (c : Dev nD) (t : Fin cfg0.N) : Holds (View.ld (iblk m c 7 t) (Rect.unit ![0, 0, 0] ![2, 704, 1024] inb_S4x704x1024_S2x704x1024_0_0_0)) 0 1408 (by omega) (V m c main_v6) := by
  intro j i e0 e1 e2; rw [View.ld_apply]; exact w3At m c t _ i (by simp [e0]) (by simp [e1]) (by simp [e2])
theorem holds3b (c : Dev nD) (t : Fin cfg0.N) : Holds (View.ld (iblk m c 7 t) (Rect.unit ![2, 0, 0] ![2, 704, 1024] inb_S4x704x1024_S2x704x1024_2_0_0)) 2 1408 (by omega) (V m c main_v6) := by
  intro j i e0 e1 e2; rw [View.ld_apply]; exact w3At m c t _ i (by simp [e0]) (by simp [e1]) (by simp [e2])

/-- The block of normed and modulated rows. -/
abbrev hBlk (c : Dev nD) (t : Fin cfg0.N) : FVec Ideal S512x1024 .bf16 := Cert.DfIdeal.Gen.k0_pay3 (iblk m c 0 t) (iblk m c 4 t) (iblk m c 1 t) (iblk m c 2 t)

theorem h_blk (c : Dev nD) (t : Fin cfg0.N) (s : Fin 512) (k : Fin 1024) : hBlk m c t (ix2 s k) = hRow m c (tok t s) k := by
  refine (pay3 _ _ _ _ _).trans ?_
  show modded (vec (iblk m c 4 t)) (vec (iblk m c 2 t)) (vec (iblk m c 1 t)) (brow (iblk m c 0 t) s) k = _
  rw [xRow, shVec, scVec, gVec]; rfl

/-- A column half of a projection. -/
theorem up_blk (c : Dev nD) (t : Fin cfg0.N) {w : S2x704x1024.Idx → EReal} {o p : Nat} {hp : p + 704 ≤ 2112} {a : S4x2112x1024.Idx → EReal} (ho : o ≤ 2) (h : Holds w o p hp a)
    (s : Fin 512) (n : Fin 1408) : part (hBlk m c t) w (ix2 s n) = up (hRow m c) (packedAt p hp a) (tok t s) (col o ho n) :=
  Finset.sum_congr rfl fun k _ => congrArg₂ (· * ·) (h_blk m c t s k) (h.at ho n k)

/-- A column half's share of the inner value. -/
theorem share_blk (c : Dev nD) (t : Fin cfg0.N) {g u d : S2x704x1024.Idx → EReal} {o : Nat} (ho : o ≤ 2) (hg : Holds g o 0 (by omega) (V m c main_v6))
    (hu : Holds u o 704 (by omega) (V m c main_v6)) (hd : Holds d o 1408 (by omega) (V m c main_v6)) (s : Fin 512) (k : Fin 1024) :
    share (prod (part (hBlk m c t) g) (part (hBlk m c t) u)) d (ix2 s k)
      = ∑ n : Fin 1408, mid (hRow m c) (w1 m c) (w2 m c) (tok t s) (col o ho n) * w3 m c (col o ho n) k :=
  Finset.sum_congr rfl fun n _ => congrArg₂ (· * ·) (congrArg₂ gated (up_blk m c t ho hg s n) (up_blk m c t ho hu s n)) (hd.at ho n k)

/-- The block of inner values, and the block of new rows. -/
abbrev fBlk (c : Dev nD) (t : Fin cfg0.N) : S512x1024.Idx → EReal :=
  share (prod (part (hBlk m c t) (View.ld (iblk m c 5 t) (Rect.unit ![0, 0, 0] ![2, 704, 1024] inb_S4x704x1024_S2x704x1024_0_0_0)))
    (part (hBlk m c t) (View.ld (iblk m c 6 t) (Rect.unit ![0, 0, 0] ![2, 704, 1024] inb_S4x704x1024_S2x704x1024_0_0_0))))
    (View.ld (iblk m c 7 t) (Rect.unit ![0, 0, 0] ![2, 704, 1024] inb_S4x704x1024_S2x704x1024_0_0_0))
abbrev aBlk (c : Dev nD) (t : Fin cfg0.N) : S512x1408.Idx → EReal :=
  part (hBlk m c t) (View.ld (iblk m c 5 t) (Rect.unit ![2, 0, 0] ![2, 704, 1024] inb_S4x704x1024_S2x704x1024_2_0_0))
abbrev bBlk (c : Dev nD) (t : Fin cfg0.N) : S512x1408.Idx → EReal :=
  part (hBlk m c t) (View.ld (iblk m c 6 t) (Rect.unit ![2, 0, 0] ![2, 704, 1024] inb_S4x704x1024_S2x704x1024_2_0_0))

theorem inner_blk (c : Dev nD) (t : Fin cfg0.N) (s : Fin 512) (k : Fin 1024) :
    fBlk m c t (ix2 s k) + share (prod (aBlk m c t) (bBlk m c t)) (View.ld (iblk m c 7 t) (Rect.unit ![2, 0, 0] ![2, 704, 1024] inb_S4x704x1024_S2x704x1024_2_0_0)) (ix2 s k)
      = inner (hRow m c) (w1 m c) (w2 m c) (w3 m c) (tok t s) k :=
  (congrArg₂ (· + ·) (share_blk m c t (by omega) (holds1a m c t) (holds2a m c t) (holds3a m c t) s k)
    (share_blk m c t (by omega) (holds1b m c t) (holds2b m c t) (holds3b m c t) s k)).trans
    (halves fun n => mid (hRow m c) (w1 m c) (w2 m c) (tok t s) n * w3 m c n k)

theorem y_blk (c : Dev nD) (t : Fin cfg0.N) (s : Fin 512) (k : Fin 1024) : Cert.DfIdeal.Gen.k0_pay24 (F := Ideal) (iblk m c 0 t) (fBlk m c t) (aBlk m c t) (bBlk m c t)
    (th (aBlk m c t)) (Scalar.ofBits .f32 0x3F000000#32) (View.ld (iblk m c 7 t) (Rect.unit ![2, 0, 0] ![2, 704, 1024] inb_S4x704x1024_S2x704x1024_2_0_0)) (iblk m c 3 t) (ix2 s k)
    = yRow m c (tok t s) k := by
  refine (pay24 _ _ _ _ _ _ _).trans ?_
  exact congrArg₂ (· + ·) (congrFun (xRow m c t s) k) (congrArg₂ (· * ·) (congrArg (half * ·) (congrFun (gtVec m c t) k)) (inner_blk m c t s k))

/-! ## What a point leaves in each block -/

section
variable (c : Dev nD) (t : Fin 8192)
/-- The results: the inner value, the gate, the gate's slope and the gated product. -/
def fAt (k : Fin 1024) : EReal := inner (hRow m c) (w1 m c) (w2 m c) (w3 m c) t k
def saAt (n : Fin 2816) : EReal := gate (up (hRow m c) (w1 m c) t n)
def gaAt (n : Fin 2816) : EReal := slopeOf (up (hRow m c) (w1 m c) t n) (up (hRow m c) (w2 m c) t n)
def sAt (n : Fin 2816) : EReal := mid (hRow m c) (w1 m c) (w2 m c) t n
end

/-- A column half of a projection, by the token and the column that an entry belongs to. -/
theorem up_at (c : Dev nD) (t : Fin cfg0.N) {w : S2x704x1024.Idx → EReal} {o p : Nat} {hp : p + 704 ≤ 2112} {a : S4x2112x1024.Idx → EReal} (ho : o ≤ 2) (h : Holds w o p hp a)
    (x : S512x1408.Idx) (T : Fin 8192) (N : Fin 2816) (h0 : T.val = t.val * 512 + (x 0).val) (h1 : N.val = o * 704 + (x 1).val) :
    part (hBlk m c t) w x = up (hRow m c) (packedAt p hp a) T N :=
  (congrArg (part (hBlk m c t) w) (eq_ix2 x)).trans ((up_blk m c t ho h (x 0) (x 1)).trans
    (congrArg₂ (up (hRow m c) (packedAt p hp a)) (Fin.ext h0.symm) (Fin.ext h1.symm)))

theorem out8 (c : Dev nD) (t : Fin cfg0.N) (y : S512x1024.Idx) : (dats m 0 c).after 8 t y = yRow m c (tok t (y 0)) (y 1) := by
  rw [after0_8]; unfold_out out0_8; frame_out
  simp only [same3, same4, same5, same6, same7, same8, same9, same10, same11, same12, same13, same16, same17, same18, same19, same20, same21, same22,
    pay5, pay6, pay7, pay15, pay16, pay17, pay14]
  exact (congrArg _ (eq_ix2 y)).trans (y_blk m c t (y 0) (y 1))
theorem out9 (c : Dev nD) (t : Fin cfg0.N) (y : S512x1024.Idx) : (dats m 0 c).after 9 t y = fAt m c (tok t (y 0)) (y 1) := by
  rw [after0_9]; unfold_out out0_9; frame_out
  simp only [same3, same4, same5, same6, same7, same8, same9, same10, same11, same12, same13, same16, same17, same18, same19, same20, same21, same22,
    pay5, pay6, pay7, pay15, pay16, pay17, pay14]
  exact (congrArg _ (eq_ix2 y)).trans ((pay23 _ _ _ _ _).trans (inner_blk m c t (y 0) (y 1)))
theorem out10 (c : Dev nD) (t : Fin cfg0.N) (y : S512x2816.Idx) : (dats m 0 c).after 10 t y = saAt m c (tok t (y 0)) (y 1) := by
  rw [after0_10]; unfold_out out0_10; frame_out
  simp only [same3, same4, same5, same6, same7, same8, same9, same10, same11, same12, same13, same16, same17, same18, same19, same20, same21, same22,
    pay5, pay6, pay7, pay15, pay16, pay17, pay14]
  canon_tiles x e
  · have h0 : (tok t (y 0)).val = t.val * 512 + (x 0).val := congrArg (t.val * 512 + ·) e0
    have h1 : (y 1).val = 2 * 704 + (x 1).val := by omega
    exact (pay20 _ _).trans (congrArg gate (up_at m c t (by omega) (holds1b m c t) x _ _ h0 h1))
  · have h0 : (tok t (y 0)).val = t.val * 512 + (x 0).val := congrArg (t.val * 512 + ·) e0
    have h1 : (y 1).val = 0 * 704 + (x 1).val := by omega
    exact (pay11 _ _).trans (congrArg gate (up_at m c t (by omega) (holds1a m c t) x _ _ h0 h1))
theorem out11 (c : Dev nD) (t : Fin cfg0.N) (y : S512x2816.Idx) : (dats m 0 c).after 11 t y = gaAt m c (tok t (y 0)) (y 1) := by
  rw [after0_11]; unfold_out out0_11; frame_out
  simp only [same3, same4, same5, same6, same7, same8, same9, same10, same11, same12, same13, same16, same17, same18, same19, same20, same21, same22,
    pay5, pay6, pay7, pay15, pay16, pay17, pay14]
  canon_tiles x e
  · have h0 : (tok t (y 0)).val = t.val * 512 + (x 0).val := congrArg (t.val * 512 + ·) e0
    have h1 : (y 1).val = 2 * 704 + (x 1).val := by omega
    exact (pay21 _ _ _).trans (congrArg₂ slopeOf (up_at m c t (by omega) (holds1b m c t) x _ _ h0 h1) (up_at m c t (by omega) (holds2b m c t) x _ _ h0 h1))
  · have h0 : (tok t (y 0)).val = t.val * 512 + (x 0).val := congrArg (t.val * 512 + ·) e0
    have h1 : (y 1).val = 0 * 704 + (x 1).val := by omega
    exact (pay12 _ _ _).trans (congrArg₂ slopeOf (up_at m c t (by omega) (holds1a m c t) x _ _ h0 h1) (up_at m c t (by omega) (holds2a m c t) x _ _ h0 h1))
theorem out12 (c : Dev nD) (t : Fin cfg0.N) (y : S512x2816.Idx) : (dats m 0 c).after 12 t y = sAt m c (tok t (y 0)) (y 1) := by
  rw [after0_12]; unfold_out out0_12; frame_out
  simp only [same3, same4, same5, same6, same7, same8, same9, same10, same11, same12, same13, same16, same17, same18, same19, same20, same21, same22,
    pay5, pay6, pay7, pay15, pay16, pay17, pay14]
  canon_tiles x e
  · have h0 : (tok t (y 0)).val = t.val * 512 + (x 0).val := congrArg (t.val * 512 + ·) e0
    have h1 : (y 1).val = 2 * 704 + (x 1).val := by omega
    exact (pay22 _ _ _).trans (congrArg₂ gated (up_at m c t (by omega) (holds1b m c t) x _ _ h0 h1) (up_at m c t (by omega) (holds2b m c t) x _ _ h0 h1))
  · have h0 : (tok t (y 0)).val = t.val * 512 + (x 0).val := congrArg (t.val * 512 + ·) e0
    have h1 : (y 1).val = 0 * 704 + (x 1).val := by omega
    exact (pay13 _ _ _).trans (congrArg₂ gated (up_at m c t (by omega) (holds1a m c t) x _ _ h0 h1) (up_at m c t (by omega) (holds2a m c t) x _ _ h0 h1))

/-! ## The arrays after the last point -/

theorem final8 (c : Dev nD) : (dats m 0 c).arrAt 8 cfg0.N = fun i : S8192x1024.Idx => yRow m c (i 0) (i 1) := by
  refine (dats m 0 c).arrAt_eq_of_covers 8 _ (by decide +kernel) fun t hf y => ?_
  blk_simp
  exact (out8 m c t y).trans (congrArg₂ (yRow m c) (Fin.ext (by simp [idx_8 t])) (Fin.ext (by simp [idx_8 t])))
theorem final9 (c : Dev nD) : (dats m 0 c).arrAt 9 cfg0.N = fun i : S8192x1024.Idx => fAt m c (i 0) (i 1) := by
  refine (dats m 0 c).arrAt_eq_of_covers 9 _ (by decide +kernel) fun t hf y => ?_
  blk_simp
  exact (out9 m c t y).trans (congrArg₂ (fAt m c) (Fin.ext (by simp [idx_9 t])) (Fin.ext (by simp [idx_9 t])))
theorem final10 (c : Dev nD) : (dats m 0 c).arrAt 10 cfg0.N = fun i : S8192x2816.Idx => saAt m c (i 0) (i 1) := by
  refine (dats m 0 c).arrAt_eq_of_covers 10 _ (by decide +kernel) fun t hf y => ?_
  blk_simp
  exact (out10 m c t y).trans (congrArg₂ (saAt m c) (Fin.ext (by simp [idx_10 t])) (Fin.ext (by simp [idx_10 t])))
theorem final11 (c : Dev nD) : (dats m 0 c).arrAt 11 cfg0.N = fun i : S8192x2816.Idx => gaAt m c (i 0) (i 1) := by
  refine (dats m 0 c).arrAt_eq_of_covers 11 _ (by decide +kernel) fun t hf y => ?_
  blk_simp
  exact (out11 m c t y).trans (congrArg₂ (gaAt m c) (Fin.ext (by simp [idx_11 t])) (Fin.ext (by simp [idx_11 t])))
theorem final12 (c : Dev nD) : (dats m 0 c).arrAt 12 cfg0.N = fun i : S8192x2816.Idx => sAt m c (i 0) (i 1) := by
  refine (dats m 0 c).arrAt_eq_of_covers 12 _ (by decide +kernel) fun t hf y => ?_
  blk_simp
  exact (out12 m c t y).trans (congrArg₂ (sAt m c) (Fin.ext (by simp [idx_12 t])) (Fin.ext (by simp [idx_12 t])))

/-! ## The arrays that the host prepares -/

theorem V0_at (c : Dev nD) (i : S8192x1024.Idx) : V m c main_arg0 i = m (c, Proc.tc.devRef main_arg0) i := by
  unfold V; after_reads_at
theorem V1_at (c : Dev nD) (i : S1x1024.Idx) : V m c main_arg1 i = m (c, Proc.tc.devRef main_arg1) i := by
  unfold V; after_reads_at
theorem V2_at (c : Dev nD) (i : S1x1024.Idx) : V m c main_arg2 i = m (c, Proc.tc.devRef main_arg2) i := by
  unfold V; after_reads_at
theorem V3_at (c : Dev nD) (i : S1x1024.Idx) : V m c main_arg3 i = m (c, Proc.tc.devRef main_arg3) i := by
  unfold V; after_reads_at
theorem V4_at (c : Dev nD) (i : S1x1024.Idx) : V m c main_arg4 i = m (c, Proc.tc.devRef main_arg4) i := by
  unfold V; after_reads_at
theorem Vw1_at (c : Dev nD) (i : S4x704x1024.Idx) (n : Fin 2816) (h : n.val = (i 0).val * 704 + (i 1).val) : V m c main_v1 i
    = m (c, Proc.tc.devRef main_arg5) (ix2 (i 2) n) := by
  unfold V; after_reads_at
  congr 2; exact Fin.ext h.symm
theorem Vw2_at (c : Dev nD) (i : S4x704x1024.Idx) (n : Fin 2816) (h : n.val = (i 0).val * 704 + (i 1).val) : V m c main_v3 i
    = m (c, Proc.tc.devRef main_arg6) (ix2 (i 2) n) := by
  unfold V; after_reads_at
  congr 2; exact Fin.ext h.symm
theorem Vw3_at (c : Dev nD) (i : S4x704x1024.Idx) (n : Fin 2816) (h : n.val = (i 0).val * 704 + (i 1).val) : V m c main_v4 i
    = m (c, Proc.tc.devRef main_arg7) (ix2 n (i 2)) := by
  unfold V; after_reads_at
  congr 2; exact Fin.ext h.symm
theorem packed1 (c : Dev nD) (n : Fin 2816) (k : Fin 1024) : w1 m c n k = m (c, Proc.tc.devRef main_arg5) (ix2 k n) := by
  unfold w1 packedAt V; after_reads_at
  rw [dif_pos (by omega)]
  exact Vw1_at m c _ n (by show n.val = n.val / 704 * 704 + n.val % 704; omega)
theorem packed2 (c : Dev nD) (n : Fin 2816) (k : Fin 1024) : w2 m c n k = m (c, Proc.tc.devRef main_arg6) (ix2 k n) := by
  unfold w2 packedAt V; after_reads_at
  rw [dif_pos (by omega)]
  exact Vw2_at m c _ n (by show n.val = n.val / 704 * 704 + n.val % 704; omega)
theorem packed3 (c : Dev nD) (n : Fin 2816) (k : Fin 1024) : w3 m c n k = m (c, Proc.tc.devRef main_arg7) (ix2 n k) := by
  unfold w3 packedAt V; after_reads_at
  rw [dif_neg (by omega), dif_neg (by omega)]
  exact Vw3_at m c _ n (by show n.val = n.val / 704 * 704 + (1408 + n.val % 704 - 704 - 704); omega)

end Cert.DgIdeal.Step
-- ==== Proof.FfnFwd.lean ====
/-
  A gated feed-forward half-step with the loss of the normed result: the seven arrays of the kernel against the half-step
  and the loss written plainly, and their derivatives.
-/
module

public import proofs.«01_k».proof.Defs
public import proofs.«01_k».proof.Proof.FfnFwdBlocks
public import proofs.«01_k».proof.Proof.Gen.RfIdeal.Run
public import proofs.«01_k».proof.Proof.Gen.RfIdeal.Read

@[expose] public section
noncomputable section
namespace Cert.Proof.FfnFwd
open Idealize.ShloMosaic Idealize.ShloMosaic.TcCoe Idealize.SL.Sem
open Cert.Reals Cert.NormRow Cert.HalfStep Cert.RfIdeal Cert.RfIdeal.Read
open Cert.DfIdeal.Step (row vec sum8)

/-! ## The reference's arrays -/

section
variable (x tg : S8192x1024.Idx → EReal) (sh sc gt g lg : S1x1024.Idx → EReal) (wg wu : S1024x2816.Idx → EReal) (wd : S2816x1024.Idx → EReal)
  (t : Fin 8192) (k : Fin 1024) (n : Fin 2816)

/-- The normed and modulated rows, the three projections and the new rows, off the reference's arguments. -/
def rh (t : Fin 8192) : Fin 1024 → EReal := modded (vec g) (vec sc) (vec sh) (row x t)
def across (w : S1024x2816.Idx → EReal) (n : Fin 2816) (k : Fin 1024) : EReal := w (ix2 k n)
def along2 (w : S2816x1024.Idx → EReal) (n : Fin 2816) (k : Fin 1024) : EReal := w (ix2 n k)
def ry (t : Fin 8192) : Fin 1024 → EReal :=
  stepped (rh x sh sc g) (row x) (across wg) (across wu) (along2 wd) (vec gt) t

theorem ref_vec (v : S1x1024.Idx → EReal) (i : S1x1024.Idx) (h : (i 1).val = k.val) : v i = vec v k := by
  unfold vec; congr 1; funext a; match a with
    | ⟨0, _⟩ => exact Fin.ext (by have h0 : (i 0).val < 1 := (i 0).isLt; show (i 0).val = 0; omega)
    | ⟨1, _⟩ => exact Fin.ext h

theorem ref_row (i : S8192x1024.Idx) (h0 : (i 0).val = t.val) (h1 : (i 1).val = k.val) : x i = row x t k := by
  unfold row; congr 1; funext a; match a with
    | ⟨0, _⟩ => exact Fin.ext h0
    | ⟨1, _⟩ => exact Fin.ext h1

theorem ref_ms (i : S8192x1.Idx) (h0 : (i 0).val = t.val) : val_main_v6 (F := Ideal) x i = ms (row x t) := by
  rw [val_main_v6_apply, val_main_v4_apply, val_main_v2_apply, val_main_v1_apply, val_main_v5_apply, val_main_v3_apply, val_main_cst_apply,
    val_main_cst_0_apply, val_main_cst_1_apply, Ideal.ofBits_def, Ideal.ofBits_zero_f32, zero_add]
  unfold ms
  refine congrArg (fun s => Ideal.div s len + eps) (Finset.sum_congr rfl fun k _ => ?_)
  rw [val_main_v0_apply, ref_row x t k (idx_main_v1 (idx_main_v2 i) k) h0 rfl]; rfl

theorem ref_n : val_main_v9 (F := Ideal) x (ix2 t k) = normed (row x t) k := by
  rw [val_main_v9_apply, val_main_v8_apply, val_main_v7_apply, ref_ms x t _ rfl]; rfl
theorem ref_one (i : S8192x1024.Idx) (h : (i 1).val = k.val) : val_main_v14 (F := Ideal) sc i = 1 + vec sc k := by
  rw [val_main_v14_apply, val_main_v13_apply, val_main_v12_apply, val_main_cst_2_apply, ref_vec k sc _ h]
  show Ideal.ofBits .f32 0x3F800000#32 + _ = _
  rw [Ideal.ofBits_one_f32]
theorem ref_h : val_main_v17 (F := Ideal) x sh sc g (ix2 t k) = rh x sh sc g t k := by
  rw [val_main_v17_apply, val_main_v15_apply, val_main_v11_apply, ref_n, val_main_v10_apply, ref_vec k g _ rfl, ref_one sc k _ rfl,
    val_main_v16_apply, ref_vec k sh _ rfl]; rfl

theorem ref_a : val_main_v18 (F := Ideal) x sh sc g wg (ix2 t n) = up (rh x sh sc g) (across wg) t n := by
  rw [val_main_v18_apply]
  refine Finset.sum_congr rfl fun k _ => congrArg₂ (· * ·) ?_ (congrArg wg ?_)
  · rw [show lidx_main_v18 (ix2 t n) k = ix2 t k from funext fun a => match a with | ⟨0, _⟩ => rfl | ⟨1, _⟩ => rfl]; exact ref_h x sh sc g t k
  · exact funext fun a => match a with | ⟨0, _⟩ => rfl | ⟨1, _⟩ => rfl
theorem ref_b : val_main_v19 (F := Ideal) x sh sc g wu (ix2 t n) = up (rh x sh sc g) (across wu) t n := by
  rw [val_main_v19_apply]
  refine Finset.sum_congr rfl fun k _ => congrArg₂ (· * ·) ?_ (congrArg wu ?_)
  · rw [show lidx_main_v19 (ix2 t n) k = ix2 t k from funext fun a => match a with | ⟨0, _⟩ => rfl | ⟨1, _⟩ => rfl]; exact ref_h x sh sc g t k
  · exact funext fun a => match a with | ⟨0, _⟩ => rfl | ⟨1, _⟩ => rfl

theorem ref_sig : val_main_v20_2 (F := Ideal) x sh sc g wg (ix2 t n) = Ideal.logistic (up (rh x sh sc g) (across wg) t n) := by
  rw [val_main_v20_2_apply, val_main_call0_v4_apply, val_main_call0_cst_0_apply, val_main_call0_v3_apply, val_main_call0_v2_apply,
    val_main_call0_cst_apply, val_main_call0_v1_apply, val_main_call0_v0_apply, ref_a, Ideal.ofBits_def, Ideal.ofBits_one_f32]; rfl
theorem ref_gate : val_main_v20_0 (F := Ideal) x sh sc g wg (ix2 t n) = gate (up (rh x sh sc g) (across wg) t n) := by
  rw [val_main_v20_0_apply, ref_a, ref_sig]; unfold gate; rw [sgm_eq]; rfl
theorem ref_sa : val_main_v102 (F := Ideal) x sh sc g wg (ix2 t n) = gate (up (rh x sh sc g) (across wg) t n) := by
  rw [val_main_v102_apply, val_main_v23_apply, ref_gate, val_main_v22_apply, val_main_cst_3_apply, Ideal.ofBits_def, Ideal.ofBits_one_f32]
  exact mul_one _
theorem ref_prod : val_main_v21 (F := Ideal) x sh sc g wg wu (ix2 t n) = mid (rh x sh sc g) (across wg) (across wu) t n := by
  rw [val_main_v21_apply, ref_gate, ref_b]; rfl
theorem ref_s : val_main_v104 (F := Ideal) x sh sc g wg wu (ix2 t n) = mid (rh x sh sc g) (across wg) (across wu) t n := by
  rw [val_main_v104_apply, ref_prod]; rfl
theorem ref_ga (hb : IsReal (up (rh x sh sc g) (across wu) t n)) : val_main_v103 (F := Ideal) x sh sc g wg wu (ix2 t n)
    = slopeOf (up (rh x sh sc g) (across wg) t n) (up (rh x sh sc g) (across wu) t n) := by
  rw [Cert.HalfStep.slope_eq hb, val_main_v103_apply, val_main_v25_apply, val_main_call1_v1_apply, val_main_call1_v2_apply, val_main_call1_v0_apply,
    val_main_v24_apply, val_main_v20_1_apply, val_main_call0_v7_apply, val_main_call0_v6_apply, val_main_call0_cst_1_apply,
    val_main_v22_apply, val_main_cst_3_apply, ref_a, ref_b, ref_sig, Ideal.ofBits_def, Ideal.ofBits_one_f32,
    show (FloatOps.mulf (F := Ideal) (1 : EReal) (up (rh x sh sc g) (across wu) t n) : EReal) = up (rh x sh sc g) (across wu) t n from one_mul _]
  rfl
theorem ref_f : val_main_v26 (F := Ideal) x sh sc g wg wu wd (ix2 t k) = inner (rh x sh sc g) (across wg) (across wu) (along2 wd) t k := by
  rw [val_main_v26_apply]
  unfold Cert.HalfStep.inner down
  refine Finset.sum_congr rfl fun n _ => congrArg₂ (· * ·) ?_ (congrArg wd ?_)
  · rw [show lidx_main_v26 (ix2 t k) n = ix2 t n from funext fun a => match a with | ⟨0, _⟩ => rfl | ⟨1, _⟩ => rfl]; exact ref_prod x sh sc g wg wu t n
  · exact funext fun a => match a with | ⟨0, _⟩ => rfl | ⟨1, _⟩ => rfl
theorem ref_y : val_main_v31 (F := Ideal) x sh sc gt g wg wu wd (ix2 t k) = ry x sh sc gt g wg wu wd t k := by
  rw [val_main_v31_apply, val_main_v30_apply, ref_f, val_main_v29_apply, val_main_v28_apply, val_main_v27_apply, val_main_cst_4_apply,
    ref_vec k gt _ rfl]; rfl
theorem ref_yi (i : S8192x1024.Idx) (h0 : (i 0).val = t.val) (h1 : (i 1).val = k.val) :
    val_main_v31 (F := Ideal) x sh sc gt g wg wu wd i = ry x sh sc gt g wg wu wd t k := by
  rw [← ref_y]; congr 1; exact funext fun a => match a with | ⟨0, _⟩ => Fin.ext h0 | ⟨1, _⟩ => Fin.ext h1

/-! ### The norm of the new rows and the loss -/

theorem ref_ms1 (i : S8192x1.Idx) (h0 : (i 0).val = t.val) : val_main_v38 (F := Ideal) x sh sc gt g wg wu wd i = ms (ry x sh sc gt g wg wu wd t) := by
  rw [val_main_v38_apply, val_main_v36_apply, val_main_v34_apply, val_main_v33_apply, val_main_v37_apply, val_main_v35_apply, val_main_cst_5_apply,
    val_main_cst_6_apply, val_main_cst_7_apply, Ideal.ofBits_def, Ideal.ofBits_zero_f32, zero_add]
  unfold ms
  refine congrArg (fun s => Ideal.div s len + eps) (Finset.sum_congr rfl fun k _ => ?_)
  rw [val_main_v32_apply, ref_yi x sh sc gt g wg wu wd t k (idx_main_v33 (idx_main_v34 i) k) h0 rfl]; rfl
theorem ref_ms2 (i : S8192x1.Idx) (h0 : (i 0).val = t.val) : val_main_v57 (F := Ideal) x sh sc gt g wg wu wd i = ms (ry x sh sc gt g wg wu wd t) := by
  rw [val_main_v57_apply, val_main_v55_apply, val_main_v53_apply, val_main_v52_apply, val_main_v56_apply, val_main_v54_apply, val_main_cst_10_apply,
    val_main_cst_11_apply, val_main_cst_12_apply, Ideal.ofBits_def, Ideal.ofBits_zero_f32, zero_add]
  unfold ms
  refine congrArg (fun s => Ideal.div s len + eps) (Finset.sum_congr rfl fun k _ => ?_)
  rw [val_main_v51_apply, ref_yi x sh sc gt g wg wu wd t k (idx_main_v52 (idx_main_v53 i) k) h0 rfl]; rfl
theorem ref_rinv2 (i : S8192x1.Idx) (h0 : (i 0).val = t.val) : val_main_v58 (F := Ideal) x sh sc gt g wg wu wd i = rinv (ry x sh sc gt g wg wu wd t) := by
  rw [val_main_v58_apply, ref_ms2 x sh sc gt g wg wu wd t i h0]; rfl

theorem ref_dev : val_main_v44 (F := Ideal) x sh sc gt g wg wu wd tg lg (ix2 t k) = dev (vec lg) (ry x sh sc gt g wg wu wd t) (row tg t) k := by
  rw [val_main_v44_apply, val_main_v43_apply, val_main_v41_apply, ref_y, val_main_v40_apply, val_main_v39_apply,
    ref_ms1 x sh sc gt g wg wu wd t _ rfl, val_main_v42_apply, ref_vec k lg _ rfl]; rfl
theorem ref_sq : val_main_v49 (F := Ideal) x sh sc gt g wg wu wd tg lg (ix2 t k)
    = dev (vec lg) (ry x sh sc gt g wg wu wd t) (row tg t) k * dev (vec lg) (ry x sh sc gt g wg wu wd t) (row tg t) k * perSquare := by
  rw [← square_eq, val_main_v49_apply, val_main_v47_apply, val_main_v46_apply, val_main_cst_8_apply, val_main_v45_apply, ref_dev, val_main_v48_apply,
    val_main_cst_9_apply]; rfl

theorem ref_norm : val_main_v63 (F := Ideal) x sh sc gt g wg wu wd (ix2 t k) = normed (ry x sh sc gt g wg wu wd t) k := by
  rw [val_main_v63_apply, ref_y, val_main_v62_apply, ref_rinv2 x sh sc gt g wg wu wd t _ rfl]; rfl
theorem ref_lg (i : S8192x1024.Idx) (h : (i 1).val = k.val) : val_main_v50 (F := Ideal) lg i = vec lg k := by
  rw [val_main_v50_apply, ref_vec k lg _ h]
theorem ref_dev2 : val_main_v65 (F := Ideal) x sh sc gt g wg wu wd tg lg (ix2 t k) = dev (vec lg) (ry x sh sc gt g wg wu wd t) (row tg t) k := by
  rw [val_main_v65_apply, val_main_v64_apply, ref_norm, ref_lg lg k _ rfl]; rfl
theorem ref_factor (i : S8192x1024.Idx) : val_main_v79 (F := Ideal) i = Ideal.div (half * 1) len := by
  rw [val_main_v79_apply, val_main_v78_apply, val_main_v76_apply, val_main_v75_apply, val_main_cst_19_apply, val_main_v74_apply, val_main_cst_18_apply,
    val_main_v77_apply, val_main_cst_20_apply]
  simp only [Ideal.ofBits_def, Ideal.ofBits_one_f32]; rfl

section
variable (hy : ∀ t k, IsReal (ry x sh sc gt g wg wu wd t k)) (hl : ∀ i, IsReal (lg i)) (ht : ∀ i, IsReal (tg i))
include hy hl ht

theorem ref_pull : val_main_v80 (F := Ideal) x sh sc gt g wg wu wd tg lg (ix2 t k) = pull (vec lg) (ry x sh sc gt g wg wu wd t) (row tg t) k := by
  unfold pull
  rw [← twice_eq (isReal_dev (lg := vec lg) (tr := row tg t) (fun k => hl _) (hy t) (fun k => ht _) k), val_main_v80_apply, ref_factor, val_main_v68_apply, val_main_v67_apply,
    val_main_cst_14_apply, ref_dev2]; rfl
theorem ref_dn : val_main_v82 (F := Ideal) x sh sc gt g wg wu wd tg lg (ix2 t k) = atNorm (vec lg) (ry x sh sc gt g wg wu wd t) (row tg t) k := by
  rw [val_main_v82_apply, ref_pull x tg sh sc gt g lg wg wu wd t k hy hl ht, ref_lg lg k _ rfl]; rfl

/-- The factor of the row in its own gradient. -/
theorem ref_along (i : S8192.Idx) (h0 : (i 0).val = t.val) : val_main_v91 (F := Ideal) x sh sc gt g wg wu wd tg lg i
    = along (ry x sh sc gt g wg wu wd t) (atNorm (vec lg) (ry x sh sc gt g wg wu wd t) (row tg t)) := by
  rw [val_main_v91_apply, val_main_cst_23_apply, Ideal.ofBits_def, Ideal.ofBits_zero_f32, zero_add, Fin.sum_univ_one]
  rw [val_main_v90_apply, val_main_v88_apply, val_main_v85_apply, val_main_v84_apply, val_main_v89_apply, val_main_cst_22_apply,
    val_main_cst_21_apply, Ideal.ofBits_def, Ideal.ofBits_zero_f32, zero_add, val_main_v61_apply, val_main_v60_apply, val_main_cst_13_apply,
    val_main_v59_apply, ref_rinv2 x sh sc gt g wg wu wd t _ h0, ref_ms2 x sh sc gt g wg wu wd t _ h0]
  unfold along
  refine congrArg (fun s => Ideal.div (s * (negHalf * Ideal.div (rinv (ry x sh sc gt g wg wu wd t)) (ms (ry x sh sc gt g wg wu wd t)))) len)
    (Finset.sum_congr rfl fun k _ => ?_)
  have e : idx_main_v84 (idx_main_v85 (idx_main_v91 i 0)) k = ix2 t k := by
    funext a; match a with
      | ⟨0, _⟩ => exact Fin.ext (by show (i 0).val * 1 + 0 = t.val; omega)
      | ⟨1, _⟩ => rfl
  rw [e, val_main_v83_apply, ref_dn x tg sh sc gt g lg wg wu wd t k hy hl ht, ref_y]; rfl

theorem ref_dx : val_main_v96 (F := Ideal) x sh sc gt g wg wu wd tg lg (ix2 t k)
    = back (ry x sh sc gt g wg wu wd t) (atNorm (vec lg) (ry x sh sc gt g wg wu wd t) (row tg t)) k := by
  have h := back_eq (x := ry x sh sc gt g wg wu wd t) (hy t)
    (isReal_atNorm (lg := vec lg) (y := ry x sh sc gt g wg wu wd t) (tr := row tg t) (fun k => hl _) (hy t) (fun k => ht _)) 0 k
  rw [zero_add, zero_add] at h
  rw [h, val_main_v96_apply, val_main_v94_apply, val_main_v95_apply, val_main_v93_apply, val_main_v87_apply, val_main_v86_apply,
    val_main_v92_apply, ref_dn x tg sh sc gt g lg wg wu wd t k hy hl ht, ref_y, ref_rinv2 x sh sc gt g wg wu wd t _ rfl,
    ref_along x tg sh sc gt g lg wg wu wd t hy hl ht _ rfl]
  rfl

theorem ref_gn : val_main_v81 (F := Ideal) x sh sc gt g wg wu wd tg lg (ix2 t k) = gainTerm (vec lg) (ry x sh sc gt g wg wu wd t) (row tg t) k := by
  rw [val_main_v81_apply, ref_norm, ref_pull x tg sh sc gt g lg wg wu wd t k hy hl ht]
  exact mul_comm _ _

/-- The gradient of the last gain, in 8 interleaved rows. -/
theorem ref_dlg : val_main_v101 (F := Ideal) x sh sc gt g wg wu wd tg lg
    = sum8 (fun t => gainTerm (vec lg) (ry x sh sc gt g wg wu wd t) (row tg t)) := by
  funext i
  have hi : (i 1).val < 1024 := (i 1).isLt
  have hj : (i 0).val < 8 := (i 0).isLt
  rw [val_main_v101_apply, val_main_cst_26_apply, Ideal.ofBits_def, Ideal.ofBits_zero_f32, zero_add]
  refine Finset.sum_congr rfl fun r _ => ?_
  have e : idx_main_v100 (idx_main_v101 i r) = ix2 ⟨r.val * 8 + (i 0).val, by omega⟩ (i 1) := by
    funext a; match a with
      | ⟨0, _⟩ => exact Fin.ext (by show ((r.val * 8 + (i 0).val) * 1024 + (i 1).val) / 1024 = r.val * 8 + (i 0).val; omega)
      | ⟨1, _⟩ => exact Fin.ext (by show ((r.val * 8 + (i 0).val) * 1024 + (i 1).val) % 1024 = (i 1).val; omega)
  rw [val_main_v100_apply, e]
  exact ref_gn x tg sh sc gt g lg wg wu wd _ _ hy hl ht
end

theorem ref_lane (l : Fin 128) : ∑ q : Fin 8, val_main_v49 (F := Ideal) x sh sc gt g wg wu wd tg lg (ix2 t ⟨q.val * 128 + l.val, by omega⟩)
    = laneTerm (vec lg) (ry x sh sc gt g wg wu wd t) (row tg t) l := by
  unfold laneTerm
  rw [perSquare_eq, sum_mul_coe _ _ (by norm_num), ← perSquare_eq]
  exact Finset.sum_congr rfl fun q _ => ref_sq x tg sh sc gt g lg wg wu wd _ _

/-- The loss, in 8 interleaved rows of 128 lanes. -/
theorem ref_loss : val_main_v99 (F := Ideal) x sh sc gt g wg wu wd tg lg
    = sum8 (fun t => laneTerm (vec lg) (ry x sh sc gt g wg wu wd t) (row tg t)) := by
  funext i
  have hi : (i 1).val < 128 := (i 1).isLt
  have hj : (i 0).val < 8 := (i 0).isLt
  rw [val_main_v99_apply, val_main_cst_25_apply, Ideal.ofBits_def, Ideal.ofBits_zero_f32, zero_add]
  refine Finset.sum_congr rfl fun r _ => ?_
  rw [val_main_v98_apply, val_main_cst_24_apply, Ideal.ofBits_def, Ideal.ofBits_zero_f32, zero_add]
  refine Eq.trans (Finset.sum_congr rfl fun q _ => ?_) (ref_lane x tg sh sc gt g lg wg wu wd ⟨r.val * 8 + (i 0).val, by omega⟩ (i 1))
  have e : idx_main_v97 (idx_main_v98 (idx_main_v99 i r) q) = ix2 ⟨r.val * 8 + (i 0).val, by omega⟩ ⟨q.val * 128 + (i 1).val, by omega⟩ := by
    funext a; match a with
      | ⟨0, _⟩ => exact Fin.ext (by show (((r.val * 8 + (i 0).val) * 8 + q.val) * 128 + (i 1).val) / 1024 = r.val * 8 + (i 0).val; omega)
      | ⟨1, _⟩ => exact Fin.ext (by show (((r.val * 8 + (i 0).val) * 8 + q.val) * 128 + (i 1).val) % 1024 = q.val * 128 + (i 1).val; omega)
  rw [val_main_v97_apply, e]
end

/-! ## Everything is real -/

section
variable {x tg : S8192x1024.Idx → EReal} {sh sc gt g lg : S1x1024.Idx → EReal} {wg wu : S1024x2816.Idx → EReal} {wd : S2816x1024.Idx → EReal}
  (hx : ∀ i, IsReal (x i)) (hsh : ∀ i, IsReal (sh i)) (hsc : ∀ i, IsReal (sc i)) (hgt : ∀ i, IsReal (gt i)) (hg : ∀ i, IsReal (g i))
  (hwg : ∀ i, IsReal (wg i)) (hwu : ∀ i, IsReal (wu i)) (hwd : ∀ i, IsReal (wd i))
include hx hsh hsc hg

theorem isReal_rh (t : Fin 8192) (k : Fin 1024) : IsReal (rh x sh sc g t k) :=
  ((((isReal_normed (x := row x t) (fun k => hx _) k).mul (hg _)).mul (IsReal.one.add (hsc _))).add (hsh _))
theorem isReal_up {w : S1024x2816.Idx → EReal} (hw : ∀ i, IsReal (w i)) (t : Fin 8192) (n : Fin 2816) : IsReal (up (rh x sh sc g) (across w) t n) :=
  .sum _ fun k => (isReal_rh hx hsh hsc hg t k).mul (hw _)
theorem isReal_inner (hwg : ∀ i, IsReal (wg i)) (hwu : ∀ i, IsReal (wu i)) (hwd : ∀ i, IsReal (wd i)) (t : Fin 8192) (k : Fin 1024) :
    IsReal (inner (rh x sh sc g) (across wg) (across wu) (along2 wd) t k) := by
  unfold Cert.HalfStep.inner down
  exact .sum _ fun n => (isReal_gated (isReal_up hx hsh hsc hg hwg t n) (isReal_up hx hsh hsc hg hwu t n)).mul (hwd _)
include hgt hwg hwu hwd
theorem isReal_ry (t : Fin 8192) (k : Fin 1024) : IsReal (ry x sh sc gt g wg wu wd t k) :=
  (hx _).add (((IsReal.mul ⟨_, half_eq⟩ (hgt _))).mul (isReal_inner hx hsh hsc hg hwg hwu hwd t k))
end

/-! ## The two sides meet -/

section
open Cert.DfIdeal Cert.DfIdeal.Gen Cert.DfIdeal.Step
variable (m : (ℓ : Loc Cert.DfIdeal.nD Cert.DfIdeal.τ Cert.DfIdeal.sig) → Buf (Elt Ideal) ℓ) (c : Dev Cert.DfIdeal.nD)

/-- The kernel's argument `a` on a core. -/
abbrev arg (a : Ref Cert.DfIdeal.sig .tc) : Buf (Elt Ideal) ((c.tc : Thread Cert.DfIdeal.nD Cert.DfIdeal.τ).loc a) :=
  m ((c.tc : Thread Cert.DfIdeal.nD Cert.DfIdeal.τ).loc a)

theorem h_eq : hRow m c = rh (arg m c main_arg0) (arg m c main_arg1) (arg m c main_arg2) (arg m c main_arg4) := by
  funext t
  unfold hRow rh
  rw [funext (V0_at m c), funext (V1_at m c), funext (V2_at m c), funext (V4_at m c)]
theorem w1_eq : w1 m c = across (arg m c main_arg5) := funext fun n => funext fun k => packed1 m c n k
theorem w2_eq : w2 m c = across (arg m c main_arg6) := funext fun n => funext fun k => packed2 m c n k
theorem w3_eq : w3 m c = along2 (arg m c main_arg7) := funext fun n => funext fun k => packed3 m c n k
theorem y_eq : yRow m c = ry (arg m c main_arg0) (arg m c main_arg1) (arg m c main_arg2) (arg m c main_arg3) (arg m c main_arg4) (arg m c main_arg5) (arg m c main_arg6) (arg m c main_arg7) := by
  funext t
  unfold yRow ry
  rw [h_eq, w1_eq, w2_eq, w3_eq, funext (V0_at m c), funext (V3_at m c)]
end

/-! ## The claims -/

set_option maxHeartbeats 2000000 in
/-- The kernel's loss, its gradient at the new row, the gradient of the last gain, the half-step's inner value, the gate, the
    gate's slope and the gated product are the reference's, over the extended reals. -/
theorem algebraic [Cert.Pre_finite_f.Facts] : Cert.algebraic_DfIdeal_RfIdeal_pre_finite_f := by
  intro m ρ m' ρ' hpre hagree
  refine ⟨fun c => (Cert.DfIdeal.Gen.dats m 0 c).arrAt 10 Cert.DfIdeal.cfg0.N, fun c => (Cert.DfIdeal.Gen.dats m 0 c).arrAt 11 Cert.DfIdeal.cfg0.N,
    fun c => (Cert.DfIdeal.Gen.dats m 0 c).arrAt 12 Cert.DfIdeal.cfg0.N, fun c => (Cert.DfIdeal.Gen.dats m 0 c).arrAt 13 Cert.DfIdeal.cfg0.N,
    fun c => (Cert.DfIdeal.Gen.dats m 0 c).arrAt 14 Cert.DfIdeal.cfg0.N, fun c => (Cert.DfIdeal.Gen.dats m 0 c).arrAt 15 Cert.DfIdeal.cfg0.N,
    fun c => (Cert.DfIdeal.Gen.dats m 0 c).arrAt 16 Cert.DfIdeal.cfg0.N, Cert.DfIdeal.Value.run_blocks m ρ, ?_⟩
  refine (θ_run Cert.RfIdeal.defs _ _).mono (fun _ h c => ?_) (Cert.RfIdeal.Value.run (F := Ideal) m' ρ')
  obtain ⟨h99, h96, h101, h26, h102, h103, h104, hk⟩ := h c
  obtain ⟨e0, e1, e2, e3, e4, e5, e6, e7, e8, e9⟩ := hagree c
  obtain ⟨p0, p1, p2, p3, p4, p5, p6, p7, p8, p9⟩ := hpre c
  have p0 := isReal_of_abs_lt _ _ p0
  have p1 := isReal_of_abs_lt _ _ p1
  have p2 := isReal_of_abs_lt _ _ p2
  have p3 := isReal_of_abs_lt _ _ p3
  have p4 := isReal_of_abs_lt _ _ p4
  have p5 := isReal_of_abs_lt _ _ p5
  have p6 := isReal_of_abs_lt _ _ p6
  have p7 := isReal_of_abs_lt _ _ p7
  have p8 := isReal_of_abs_lt _ _ p8
  have p9 := isReal_of_abs_lt _ _ p9
  refine ⟨h99.trans ?_, h96.trans ?_, h101.trans ?_, h26.trans ?_, h102.trans ?_, h103.trans ?_, h104.trans ?_, hk⟩ <;>
    clear h99 h96 h101 h26 h102 h103 h104 hk
  · rw [val_main_v99_eq, e0, e1, e2, e3, e4, e5, e6, e7, e8, e9]
    refine Eq.trans ?_ (Cert.DfIdeal.Step.final10 m c).symm
    unfold Cert.DfIdeal.Step.lossTerm
    rw [y_eq, funext (Cert.DfIdeal.Step.V8_at m c), funext (Cert.DfIdeal.Step.V9_at m c)]
    exact ref_loss _ _ _ _ _ _ _ _ _ _
  · rw [val_main_v96_eq, e0, e1, e2, e3, e4, e5, e6, e7, e8, e9]
    refine Eq.trans ?_ (Cert.DfIdeal.Step.final11 m c).symm
    unfold Cert.DfIdeal.Step.dxAt
    rw [y_eq, funext (Cert.DfIdeal.Step.V8_at m c), funext (Cert.DfIdeal.Step.V9_at m c)]
    funext i
    rw [eq_ix2 i]
    exact ref_dx _ _ _ _ _ _ _ _ _ _ _ _ (isReal_ry p0 p1 p2 p3 p4 p5 p6 p7) p9 p8
  · rw [val_main_v101_eq, e0, e1, e2, e3, e4, e5, e6, e7, e8, e9]
    refine Eq.trans ?_ (Cert.DfIdeal.Step.final12 m c).symm
    unfold Cert.DfIdeal.Step.gnTerm
    rw [y_eq, funext (Cert.DfIdeal.Step.V8_at m c), funext (Cert.DfIdeal.Step.V9_at m c)]
    exact ref_dlg _ _ _ _ _ _ _ _ _ _ (isReal_ry p0 p1 p2 p3 p4 p5 p6 p7) p9 p8
  · rw [val_main_v26_eq, e0, e1, e2, e4, e5, e6, e7]
    refine Eq.trans ?_ (Cert.DfIdeal.Step.final13 m c).symm
    unfold Cert.DfIdeal.Step.fAt
    rw [h_eq, w1_eq, w2_eq, w3_eq]
    funext i
    rw [eq_ix2 i]
    exact ref_f _ _ _ _ _ _ _ _ _
  · rw [val_main_v102_eq, e0, e1, e2, e4, e5]
    refine Eq.trans ?_ (Cert.DfIdeal.Step.final14 m c).symm
    unfold Cert.DfIdeal.Step.saAt
    rw [h_eq, w1_eq]
    funext i
    rw [eq_ix2 i]
    exact ref_sa _ _ _ _ _ _ _
  · rw [val_main_v103_eq, e0, e1, e2, e4, e5, e6]
    refine Eq.trans ?_ (Cert.DfIdeal.Step.final15 m c).symm
    unfold Cert.DfIdeal.Step.gaAt
    rw [h_eq, w1_eq, w2_eq]
    funext i
    rw [eq_ix2 i]
    exact ref_ga _ _ _ _ _ _ _ _ (isReal_up p0 p1 p2 p4 p6 _ _)
  · rw [val_main_v104_eq, e0, e1, e2, e4, e5, e6]
    refine Eq.trans ?_ (Cert.DfIdeal.Step.final16 m c).symm
    unfold Cert.DfIdeal.Step.sAt
    rw [h_eq, w1_eq, w2_eq]
    funext i
    rw [eq_ix2 i]
    exact ref_s _ _ _ _ _ _ _ _

/-- The reference runs to its end. -/
theorem frame_reference : Cert.quiescent_RfIdeal := fun m ρ _ =>
  (θ_run Cert.RfIdeal.defs _ _).mono (fun r h => ⟨fun c => (h c).2.2.2.2.2.2.2, sem_eq_zero_of_no_sems (by decide) r.2⟩)
    (Cert.RfIdeal.Value.run (F := Ideal) m ρ)

end Cert.Proof.FfnFwd
-- ==== Proof.FfnFirst.lean ====
/-
  The first gated feed-forward half-step: the five arrays of the kernel against the half-step written plainly and the gate's
  derivatives. The reference's lines are those of the later half-step's reference up to its loss, so what is known of their
  arrays serves here too.
-/
module

public import proofs.«01_k».proof.Defs
public import proofs.«01_k».proof.Proof.FfnFirstBlocks
public import proofs.«01_k».proof.Proof.FfnFwd
public import proofs.«01_k».proof.Proof.Gen.RgIdeal.Run
public import proofs.«01_k».proof.Proof.Gen.RgIdeal.Read

@[expose] public section
noncomputable section
namespace Cert.Proof.FfnFirst
open Idealize.ShloMosaic Idealize.ShloMosaic.TcCoe Idealize.SL.Sem
open Cert.Reals Cert.NormRow Cert.HalfStep
open Cert.DfIdeal.Step (row vec)
open Cert.Proof.FfnFwd (rh ry across along2 ref_y ref_f ref_sa ref_ga ref_s isReal_up)

/-! ## The reference's arrays are the later half-step's -/

section
open Cert.RgIdeal Cert.RgIdeal.Read
variable (x : S8192x1024.Idx → EReal) (sh sc gt g : S1x1024.Idx → EReal) (wg wu : S1024x2816.Idx → EReal) (wd : S2816x1024.Idx → EReal)

theorem same_y : val_main_v31 (F := Ideal) x sh sc gt g wg wu wd = Cert.RfIdeal.Read.val_main_v31 (F := Ideal) x sh sc gt g wg wu wd := rfl
theorem same_f : val_main_v26 (F := Ideal) x sh sc g wg wu wd = Cert.RfIdeal.Read.val_main_v26 (F := Ideal) x sh sc g wg wu wd := rfl
theorem same_sa : val_main_v32 (F := Ideal) x sh sc g wg = Cert.RfIdeal.Read.val_main_v102 (F := Ideal) x sh sc g wg := rfl
theorem same_ga : val_main_v33 (F := Ideal) x sh sc g wg wu = Cert.RfIdeal.Read.val_main_v103 (F := Ideal) x sh sc g wg wu := rfl
theorem same_s : val_main_v34 (F := Ideal) x sh sc g wg wu = Cert.RfIdeal.Read.val_main_v104 (F := Ideal) x sh sc g wg wu := rfl
end

/-! ## The two sides meet -/

section
open Cert.DgIdeal Cert.DgIdeal.Gen Cert.DgIdeal.Step
variable (m : (ℓ : Loc Cert.DgIdeal.nD Cert.DgIdeal.τ Cert.DgIdeal.sig) → Buf (Elt Ideal) ℓ) (c : Dev Cert.DgIdeal.nD)

/-- The kernel's argument `a` on a core. -/
abbrev arg (a : Ref Cert.DgIdeal.sig .tc) : Buf (Elt Ideal) ((c.tc : Thread Cert.DgIdeal.nD Cert.DgIdeal.τ).loc a) :=
  m ((c.tc : Thread Cert.DgIdeal.nD Cert.DgIdeal.τ).loc a)

theorem h_eq : hRow m c = rh (arg m c main_arg0) (arg m c main_arg1) (arg m c main_arg2) (arg m c main_arg4) := by
  funext t
  unfold hRow rh
  rw [funext (V0_at m c), funext (V1_at m c), funext (V2_at m c), funext (V4_at m c)]
theorem w1_eq : w1 m c = across (arg m c main_arg5) := funext fun n => funext fun k => packed1 m c n k
theorem w2_eq : w2 m c = across (arg m c main_arg6) := funext fun n => funext fun k => packed2 m c n k
theorem w3_eq : w3 m c = along2 (arg m c main_arg7) := funext fun n => funext fun k => packed3 m c n k
theorem y_eq : yRow m c = ry (arg m c main_arg0) (arg m c main_arg1) (arg m c main_arg2) (arg m c main_arg3) (arg m c main_arg4) (arg m c main_arg5) (arg m c main_arg6) (arg m c main_arg7) := by
  funext t
  unfold yRow ry
  rw [h_eq, w1_eq, w2_eq, w3_eq, funext (V0_at m c), funext (V3_at m c)]
end

/-! ## The claims -/

set_option maxHeartbeats 2000000 in
/-- The kernel's new rows, the half-step's inner value, the gate, the gate's slope and the gated product are the reference's,
    over the extended reals. -/
theorem algebraic [Cert.Pre_finite_g.Facts] : Cert.algebraic_DgIdeal_RgIdeal_pre_finite_g := by
  intro m ρ m' ρ' hpre hagree
  refine ⟨fun c => (Cert.DgIdeal.Gen.dats m 0 c).arrAt 8 Cert.DgIdeal.cfg0.N, fun c => (Cert.DgIdeal.Gen.dats m 0 c).arrAt 9 Cert.DgIdeal.cfg0.N,
    fun c => (Cert.DgIdeal.Gen.dats m 0 c).arrAt 10 Cert.DgIdeal.cfg0.N, fun c => (Cert.DgIdeal.Gen.dats m 0 c).arrAt 11 Cert.DgIdeal.cfg0.N,
    fun c => (Cert.DgIdeal.Gen.dats m 0 c).arrAt 12 Cert.DgIdeal.cfg0.N, Cert.DgIdeal.Value.run_blocks m ρ, ?_⟩
  refine (θ_run Cert.RgIdeal.defs _ _).mono (fun _ h c => ?_) (Cert.RgIdeal.Value.run (F := Ideal) m' ρ')
  obtain ⟨hy, hf, ha, hga, hs, hk⟩ := h c
  obtain ⟨e0, e1, e2, e3, e4, e5, e6, e7⟩ := hagree c
  obtain ⟨p0, p1, p2, p4, p6⟩ := hpre c
  have p0 := isReal_of_abs_lt _ _ p0
  have p1 := isReal_of_abs_lt _ _ p1
  have p2 := isReal_of_abs_lt _ _ p2
  have p4 := isReal_of_abs_lt _ _ p4
  have p6 := isReal_of_abs_lt _ _ p6
  refine ⟨hy.trans ?_, hf.trans ?_, ha.trans ?_, hga.trans ?_, hs.trans ?_, hk⟩ <;> clear hy hf ha hga hs hk
  · rw [Cert.RgIdeal.Read.val_main_v31_eq, e0, e1, e2, e3, e4, e5, e6, e7, same_y]
    refine Eq.trans ?_ (Cert.DgIdeal.Step.final8 m c).symm
    rw [y_eq]
    funext i
    rw [eq_ix2 i]
    exact ref_y _ _ _ _ _ _ _ _ _ _
  · rw [Cert.RgIdeal.Read.val_main_v26_eq, e0, e1, e2, e4, e5, e6, e7, same_f]
    refine Eq.trans ?_ (Cert.DgIdeal.Step.final9 m c).symm
    unfold Cert.DgIdeal.Step.fAt
    rw [h_eq, w1_eq, w2_eq, w3_eq]
    funext i
    rw [eq_ix2 i]
    exact ref_f _ _ _ _ _ _ _ _ _
  · rw [Cert.RgIdeal.Read.val_main_v32_eq, e0, e1, e2, e4, e5, same_sa]
    refine Eq.trans ?_ (Cert.DgIdeal.Step.final10 m c).symm
    unfold Cert.DgIdeal.Step.saAt
    rw [h_eq, w1_eq]
    funext i
    rw [eq_ix2 i]
    exact ref_sa _ _ _ _ _ _ _
  · rw [Cert.RgIdeal.Read.val_main_v33_eq, e0, e1, e2, e4, e5, e6, same_ga]
    refine Eq.trans ?_ (Cert.DgIdeal.Step.final11 m c).symm
    unfold Cert.DgIdeal.Step.gaAt
    rw [h_eq, w1_eq, w2_eq]
    funext i
    rw [eq_ix2 i]
    exact ref_ga _ _ _ _ _ _ _ _ (isReal_up p0 p1 p2 p4 p6 _ _)
  · rw [Cert.RgIdeal.Read.val_main_v34_eq, e0, e1, e2, e4, e5, e6, same_s]
    refine Eq.trans ?_ (Cert.DgIdeal.Step.final12 m c).symm
    unfold Cert.DgIdeal.Step.sAt
    rw [h_eq, w1_eq, w2_eq]
    funext i
    rw [eq_ix2 i]
    exact ref_s _ _ _ _ _ _ _ _

/-- The reference runs to its end. -/
theorem frame_reference : Cert.quiescent_RgIdeal := fun m ρ _ =>
  (θ_run Cert.RgIdeal.defs _ _).mono (fun r h => ⟨fun c => (h c).2.2.2.2.2, sem_eq_zero_of_no_sems (by decide) r.2⟩)
    (Cert.RgIdeal.Value.run (F := Ideal) m ρ)

end Cert.Proof.FfnFirst
-- ==== Proof.MixRow.lean ====
/-
  The mixer's projections, token by token: the convolution over the last four tokens, the gate, the heads' norms, the rate and the
  decay's logarithm of the delta rule, and the logarithm's sum from the start of the token's chunk of 64. The sum is also the outcome
  of six steps, each of which adds to every row what the row 1, 2, 4, … before it in its chunk holds.
-/
module

public import proofs.«01_k».proof.Proof.HalfStep

@[expose] public section

noncomputable section

namespace Cert.MixRow

open Idealize.ShloMosaic Cert.NormRow Cert.HalfStep

/-- 128 to the power −1/2, as the float's word. -/
abbrev headScale : EReal := Ideal.ofBits .f32 0x3DB504F3#32

/-- The factor of a head's row. -/
def unitF (f : Fin 128 → EReal) : EReal := Ideal.rsqrt (∑ k : Fin 128, f k * f k + eps)
/-- A key's row, normed. -/
def kHead (f : Fin 128 → EReal) (l : Fin 128) : EReal := f l * unitF f
/-- A query's row, normed and scaled. -/
def qHead (f : Fin 128 → EReal) (l : Fin 128) : EReal := f l * (unitF f * headScale)

/-- log (1 + exp a), through the exponential of −|a|. -/
def softplus (a : EReal) : EReal := max a 0 + Ideal.log (1 + Ideal.exp (0 - max a (-a)))
/-- The logarithm of a token's decay. -/
def decay (al a : EReal) : EReal := (0 - Ideal.exp al) * softplus a

section
variable (P : Fin 8192 → Fin 2688 → EReal) (w : Fin 4 → Fin 1536 → EReal) (al dt : Fin 128 → EReal)

/-- What the convolution's tap `j` reads at token `t`: the projection of token `t + j − 3`, zero before the first token. -/
def before (t : Fin 8192) (j : Fin 4) (n : Fin 1536) : EReal :=
  if h : 3 ≤ t.val + j.val then P ⟨t.val + j.val - 3, by omega⟩ ⟨n.val, by omega⟩ else 0
/-- The convolution and its gate. -/
def conv (t : Fin 8192) (n : Fin 1536) : EReal :=
  w 0 n * before P t 0 n + w 1 n * before P t 1 n + w 2 n * before P t 2 n + w 3 n * before P t 3 n
def qkv (t : Fin 8192) (n : Fin 1536) : EReal := gate (conv P w t n)
/-- The head's row that holds column `o + n` of the gated convolution. -/
def headRow (o : Nat) (ho : o + 512 ≤ 1536) (t : Fin 8192) (n : Fin 512) (l : Fin 128) : EReal :=
  qkv P w t ⟨o + (n.val / 128 * 128 + l.val), by omega⟩
def qAt (t : Fin 8192) (n : Fin 512) : EReal := qHead (headRow P w 0 (by omega) t n) ⟨n.val % 128, Nat.mod_lt _ (by decide)⟩
def kAt (t : Fin 8192) (n : Fin 512) : EReal := kHead (headRow P w 512 (by omega) t n) ⟨n.val % 128, Nat.mod_lt _ (by decide)⟩
def vAt (t : Fin 8192) (n : Fin 512) : EReal := qkv P w t ⟨1024 + n.val, by omega⟩
def xqAt (t : Fin 8192) (n : Fin 1536) : EReal := P t ⟨n.val, by omega⟩
def zAt (t : Fin 8192) (n : Fin 512) : EReal := P t ⟨1536 + n.val, by omega⟩
def pAt (t : Fin 8192) (n : Fin 512) : EReal := P t ⟨2048 + n.val, by omega⟩
/-- The rate and the decay before their functions, in lanes 0 to 7. -/
def baAt (t : Fin 8192) (l : Fin 128) : EReal := P t ⟨2560 + l.val, by omega⟩
/-- The decay's logarithm in lanes 4 to 7. -/
def gAt (t : Fin 8192) (l : Fin 128) : EReal := if 4 ≤ l.val ∧ l.val < 8 then decay (al l) (baAt P t l + dt l) else 0
/-- With the rate in lanes 0 to 3. -/
def bgAt (t : Fin 8192) (l : Fin 128) : EReal := (if l.val < 4 then sgm (baAt P t l) else 0) + gAt P al dt t l
/-- The decay's logarithm, summed from the start of the token's chunk. -/
def gcAt (t : Fin 8192) (l : Fin 128) : EReal := ∑ j ∈ Finset.range (t.val % 64 + 1), gAt P al dt ⟨t.val - j, by omega⟩ l
end

/-! ## Sums from the start of a chunk -/

/-- The sum over the last `n` rows of the chunk up to row `r`. -/
def upto (f : Nat → EReal) (n r : Nat) : EReal := ∑ j ∈ Finset.range (min n (r % 64 + 1)), f (r - j)

theorem upto_one (f : Nat → EReal) (r : Nat) : upto f 1 r = f r := by
  unfold upto
  rw [show min 1 (r % 64 + 1) = 1 by omega, Finset.sum_range_one]; rfl

theorem upto_double (f : Nat → EReal) (n r : Nat) : upto f (n + n) r = upto f n r + if n ≤ r % 64 then upto f n (r - n) else 0 := by
  unfold upto
  split
  · rename_i h
    rw [show min (n + n) (r % 64 + 1) = n + min n (r % 64 - n + 1) by omega, Finset.sum_range_add,
      show min n (r % 64 + 1) = n by omega, show (r - n) % 64 = r % 64 - n by omega]
    exact congrArg _ (Finset.sum_congr rfl fun j _ => congrArg f (by omega))
  · rw [show min (n + n) (r % 64 + 1) = min n (r % 64 + 1) by omega, add_zero]

theorem upto_all (f : Nat → EReal) (r : Nat) : upto f 64 r = ∑ j ∈ Finset.range (r % 64 + 1), f (r - j) := by
  unfold upto
  rw [show min 64 (r % 64 + 1) = r % 64 + 1 by omega]

/-- A window of 64 rows that ends at row `i` of its chunk, zero before the chunk. -/
theorem window (f : Nat → EReal) (i : Nat) (hi : i < 64) :
    ∑ k ∈ Finset.range 64, (if 63 ≤ i + k then f (i + k - 63) else 0) = ∑ j ∈ Finset.range (i + 1), f (i - j) := by
  rw [← Finset.sum_range_reflect]
  rw [← Finset.sum_subset (s₁ := Finset.range (i + 1)) (fun a ha => by simp at ha ⊢; omega)
    (fun a ha hb => if_neg (by simp at ha hb; omega))]
  refine Finset.sum_congr rfl fun j hj => ?_
  have : j < i + 1 := Finset.mem_range.mp hj
  rw [if_pos (by omega)]
  exact congrArg f (by omega)

/-- Adding up a list of terms one by one. -/
theorem foldl_sum {N : Nat} (f : Fin N → EReal) (v : EReal) : (List.finRange N).foldl (fun r n => r + f n) v = v + ∑ n, f n := by
  have h : ∀ (L : List (Fin N)) (v : EReal), L.foldl (fun r n => r + f n) v = v + (L.map f).sum := fun L => by
    induction L with
    | nil => intro v; simp
    | cons a L ih => intro v; rw [List.foldl_cons, ih, List.map_cons, List.sum_cons, add_assoc]
  rw [h, ← Fin.sum_univ_def]
end Cert.MixRow
-- ==== Proof.Adam.lean ====
/-
  The optimiser's step on one entry of a weight, and the arrays that hold it.

  Both programs apply the same arithmetic to every entry: the moments are mixed with the gradient and its square, both are
  divided by what their startup leaves out, and the step is the learning rate times their quotient and the decay. The kernel
  writes it on the blocks of a grid point, the reference on whole arrays with a leading axis of extent one.
-/
module

public import Idealize.ShloMosaic.Lib.Pipeline.Value
public import Idealize.ShloMosaic.Lib.Pipeline.ValueKit.Geometry
public import Idealize.ShloMosaic.Lib.Pipeline.ValueKit.Tiles
public import Idealize.ShloMosaic.Lib.Pipeline.ValueKit.Acc
public import Idealize.ShloMosaic.Lib.Pointwise
public import Idealize.ShloMosaic.Lib.Claim
public import Idealize.ShloMosaic.Lib.Tactic
public import Idealize.ShloMosaic.Lib.StableHlo.ReadAt
public import proofs.«01_k».proof.Proof.Reals
public import Idealize.ShloMosaic.PureOps.Ideal

@[expose] public section

noncomputable section

namespace Cert.Adam

open Idealize.ShloMosaic Idealize.ShloMosaic.StableHlo

/-- A constant of the two programs, by its 32-bit word. -/
abbrev lit (w : BitVec 32) : Ideal .f32 := Scalar.ofBits .f32 w

/-- The new first moment, from the gradient and the old one. -/
def mom1 (g m : EReal) : EReal := lit 0x3F666666#32 * m + lit 0x3DCCCCCD#32 * g
/-- The new second moment. -/
def mom2 (g v : EReal) : EReal := lit 0x3F7FBE77#32 * v + lit 0x3A83126F#32 * (g * g)
/-- The step of the weight. -/
def delta (g w m v : EReal) : EReal :=
  lit 0xBA83126F#32 * (Ideal.div (Ideal.div (mom1 g m) (lit 0x3F26BD02#32)) (Ideal.sqrt (Ideal.div (mom2 g v) (lit 0x3C231ACC#32)) + lit 0x322BCC77#32)
    + lit 0x3C23D70A#32 * w)

section
variable {S : Shape}

/-! ## On the blocks of a grid point -/

def onMom1 (g m : FVec Ideal S .f32) : FVec Ideal S .f32 :=
  addf (mulf (broadcast S (lit 0x3F666666#32)) m) (mulf (broadcast S (lit 0x3DCCCCCD#32)) g)
def onMom2 (g v : FVec Ideal S .f32) : FVec Ideal S .f32 :=
  addf (mulf (broadcast S (lit 0x3F7FBE77#32)) v) (mulf (broadcast S (lit 0x3A83126F#32)) (mulf g g))
def onDelta (g w m v : FVec Ideal S .f32) : FVec Ideal S .f32 :=
  mulf (broadcast S (lit 0xBA83126F#32)) (addf (divf (divf (onMom1 g m) (broadcast S (lit 0x3F26BD02#32)))
    (addf (sqrt (divf (onMom2 g v) (broadcast S (lit 0x3C231ACC#32)))) (broadcast S (lit 0x322BCC77#32)))) (mulf (broadcast S (lit 0x3C23D70A#32)) w))

theorem onMom1_apply (g m : FVec Ideal S .f32) (i : S.Idx) : onMom1 g m i = mom1 (g i) (m i) := rfl
theorem onMom2_apply (g v : FVec Ideal S .f32) (i : S.Idx) : onMom2 g v i = mom2 (g i) (v i) := rfl
theorem onDelta_apply (g w m v : FVec Ideal S .f32) (i : S.Idx) : onDelta g w m v i = delta (g i) (w i) (m i) (v i) := rfl

end

/-! ## Indices -/

theorem eq_ix2_of {a b : Nat} (j : (⟨2, ![a, b]⟩ : Shape).Idx) (x : Fin a) (y : Fin b) (h0 : (j 0).val = x.val) (h1 : (j 1).val = y.val) : j = ix2 x y :=
  funext fun i => match i with
    | ⟨0, _⟩ => Fin.ext h0
    | ⟨1, _⟩ => Fin.ext h1
theorem eq_ix3_of {a b c : Nat} (j : (⟨3, ![a, b, c]⟩ : Shape).Idx) (x : Fin a) (y : Fin b) (z : Fin c)
    (h0 : (j 0).val = x.val) (h1 : (j 1).val = y.val) (h2 : (j 2).val = z.val) : j = ix3 x y z :=
  funext fun i => match i with
    | ⟨0, _⟩ => Fin.ext h0
    | ⟨1, _⟩ => Fin.ext h1
    | ⟨2, _⟩ => Fin.ext h2

/-- The same two arrays, entry by entry. -/
theorem eq_of_at {S : Shape} {x y z : S.Idx → EReal} (h : ∀ i, x i = z i) (h' : ∀ i, y i = z i) : x = y := funext fun i => (h i).trans (h' i).symm

end Cert.Adam

end
-- ==== Proof.MixPoint.lean ====
/-
  What one grid point of the mixer's projections computes, entry by entry.
-/
module

public import proofs.«01_k».proof.Proof.Gen.DmIdeal
public import proofs.«01_k».proof.Proof.Gen.DmIdeal.Frame
public import proofs.«01_k».proof.Proof.Gen.DmIdeal.Value
public import proofs.«01_k».proof.Proof.MixRow
public import proofs.«01_k».proof.Proof.Adam
public import proofs.«01_k».proof.Proof.FfnFwdPoint

@[expose] public section

noncomputable section

namespace Cert.DmIdeal.Step

open Idealize.ShloMosaic Idealize.ShloMosaic.TcCoe Idealize.SL.Sem
open Cert.DmIdeal Cert.DmIdeal.Gen Cert.NormRow Cert.HalfStep Cert.MixRow
open Cert.DfIdeal.Step (vec brow)
open Cert.Adam (eq_ix2_of)

/-! ## The projections -/

theorem same1 (x : Vec Ideal S512x1024 .f32) (g sh sc : Vec Ideal S1x1024 .f32) : k0_pay1 (F := Ideal) x g sh sc = Cert.DfIdeal.Gen.k0_pay3 (F := Ideal) x g sh sc := rfl
theorem pay1 (x : Vec Ideal S512x1024 .f32) (g sh sc : Vec Ideal S1x1024 .f32) (j : S512x1024.Idx) :
    k0_pay1 (F := Ideal) x g sh sc j = modded (vec g) (vec sc) (vec sh) (brow x (j 0)) (j 1) := by
  rw [same1]; exact Cert.DfIdeal.Step.pay3 x g sh sc j

theorem pay3 (x : Vec Ideal S512x1024 .f32) (g sh sc : Vec Ideal S1x1024 .f32) (w : Vec Ideal S1536x1024 .bf16) (j : S512x1536.Idx) :
    k0_pay3 (F := Ideal) x g sh sc w j = ∑ k : Fin 1024, k0_pay1 (F := Ideal) x g sh sc (ix2 (j 0) k) * w (ix2 (j 1) k) := by
  unfold k0_pay3; generalize k0_pay1 (F := Ideal) x g sh sc = d; pointwise
theorem pay4 (x : Vec Ideal S512x1024 .f32) (g sh sc : Vec Ideal S1x1024 .f32) (w : Vec Ideal S1536x1024 .bf16) :
    k0_pay4 (F := Ideal) x g sh sc w = k0_pay3 (F := Ideal) x g sh sc w := by
  funext j; unfold k0_pay4; generalize k0_pay3 (F := Ideal) x g sh sc w = d; pointwise
theorem pay5 (d : FVec Ideal S512x1024 .bf16) (w : Vec Ideal S512x1024 .bf16) (j : S512x512.Idx) :
    k0_pay5 (F := Ideal) d w j = ∑ k : Fin 1024, d (ix2 (j 0) k) * w (ix2 (j 1) k) := by
  unfold k0_pay5; pointwise
theorem pay6 (d : FVec Ideal S512x1024 .bf16) (w : Vec Ideal S512x1024 .bf16) (j : S512x512.Idx) :
    k0_pay6 (F := Ideal) d w j = ∑ k : Fin 1024, d (ix2 (j 0) k) * w (ix2 (j 1) k) := by
  unfold k0_pay6; pointwise
theorem pay7 (d : FVec Ideal S512x1024 .bf16) (w : Vec Ideal S128x1024 .bf16) (j : S512x128.Idx) :
    k0_pay7 (F := Ideal) d w j = ∑ k : Fin 1024, d (ix2 (j 0) k) * w (ix2 (j 1) k) := by
  unfold k0_pay7; pointwise

/-! ## The convolution and the heads -/

theorem pay8 (w0 w1 w2 : Vec Ideal S1x1536 .f32) (b0 b1 b2 : Vec Ideal S512x1536 .f32) (j : S512x1536.Idx) :
    k0_pay8 (F := Ideal) w0 b0 w1 b1 w2 b2 j = w0 (ix2 0 (j 1)) * b0 j + w1 (ix2 0 (j 1)) * b1 j + w2 (ix2 0 (j 1)) * b2 j := by
  unfold k0_pay8; pointwise
theorem pay10 (v : FVec Ideal S512x1536 .f32) (w3 : Vec Ideal S1x1536 .f32) (b3 : Vec Ideal S512x1536 .f32) (j : S512x1536.Idx) :
    k0_pay10 (F := Ideal) v w3 b3 j = gate (v j + w3 (ix2 0 (j 1)) * b3 j) := by
  unfold k0_pay10 gate sgm; pointwise

/-- The two norms of a head. -/
def qn (x : FVec Ideal S512x128 .f32) : FVec Ideal S512x128 .f32 := k0_pay16 (F := Ideal) x (mulf x x)
def kn (x : FVec Ideal S512x128 .f32) : FVec Ideal S512x128 .f32 := k0_pay17 (F := Ideal) x

theorem qn_apply (x : FVec Ideal S512x128 .f32) (j : S512x128.Idx) : qn x j = qHead (fun l => x (ix2 (j 0) l)) (j 1) := by
  unfold qn k0_pay16 qHead unitF; pointwise
theorem kn_apply (x : FVec Ideal S512x128 .f32) (j : S512x128.Idx) : kn x j = kHead (fun l => x (ix2 (j 0) l)) (j 1) := by
  unfold kn k0_pay17 kHead unitF; pointwise

section
variable (a : FVec Ideal S512x1536 .f32) (w : Vec Ideal S1x1536 .f32) (b : Vec Ideal S512x1536 .f32)
theorem q0 : k0_pay11 (F := Ideal) a w b = qn (extractStridedSlice S512x128 ![0, 0] (k0_pay10 (F := Ideal) a w b) slices_S512x1536_o0_0_S512x128) := rfl
theorem q1 : k0_pay16 (F := Ideal) (k0_pay13 (F := Ideal) a w b) (k0_pay15 (F := Ideal) a w b) = qn (extractStridedSlice S512x128 ![0, 128] (k0_pay10 (F := Ideal) a w b) slices_S512x1536_o0_128_S512x128) := rfl
theorem k0 : k0_pay12 (F := Ideal) a w b = kn (extractStridedSlice S512x128 ![0, 512] (k0_pay10 (F := Ideal) a w b) slices_S512x1536_o0_512_S512x128) := rfl
theorem k1 : k0_pay17 (F := Ideal) (k0_pay14 (F := Ideal) a w b) = kn (extractStridedSlice S512x128 ![0, 640] (k0_pay10 (F := Ideal) a w b) slices_S512x1536_o0_640_S512x128) := rfl
end
section
variable (a : FVec Ideal S512x1536 .f32)
theorem q2 : k0_pay18 (F := Ideal) a = qn (extractStridedSlice S512x128 ![0, 256] a slices_S512x1536_o0_256_S512x128) := rfl
theorem k2 : k0_pay19 (F := Ideal) a = kn (extractStridedSlice S512x128 ![0, 768] a slices_S512x1536_o0_768_S512x128) := rfl
theorem q3 : k0_pay20 (F := Ideal) a = qn (extractStridedSlice S512x128 ![0, 384] a slices_S512x1536_o0_384_S512x128) := rfl
theorem k3 : k0_pay21 (F := Ideal) a = kn (extractStridedSlice S512x128 ![0, 896] a slices_S512x1536_o0_896_S512x128) := rfl
theorem pay22 (j : S512x512.Idx) : k0_pay22 (F := Ideal) a j = a (ix2 (j 0) ⟨1024 + (j 1).val, by have : (j 1).val < 512 := (j 1).isLt; omega⟩) := by
  unfold k0_pay22; pointwise
end

/-! ## The rate and the decay -/

abbrev lanes : IVec S512x128 32 := iota .tc S512x128 32 [1] iota_S512x128_d1_w32

theorem select_one {α : Type} (x y : α) : Scalar.select 1#1 x y = x := rfl
theorem select_zero {α : Type} (x y : α) : Scalar.select 0#1 x y = y := rfl

theorem lanes_g : ∀ l : Fin 128, IntOp.andi (IntOp.cmpi .sge (BitVec.ofNat 32 l.val) 4#32) (IntOp.cmpi .slt (BitVec.ofNat 32 l.val) 8#32)
    = if 4 ≤ l.val ∧ l.val < 8 then 1#1 else 0#1 := by decide +kernel
theorem lanes_b : ∀ l : Fin 128, IntOp.cmpi .slt (BitVec.ofNat 32 l.val) 4#32 = if l.val < 4 then 1#1 else 0#1 := by decide +kernel

theorem pay27 (ba : FVec Ideal S512x128 .f32) (al dt : Vec Ideal S1x128 .f32) (j : S512x128.Idx) :
    k0_pay27 (F := Ideal) ba lanes al dt j
      = if 4 ≤ (j 1).val ∧ (j 1).val < 8 then decay (al (ix2 0 (j 1))) (ba j + dt (ix2 0 (j 1))) else 0 := by
  unfold k0_pay27 decay softplus
  pointwise
  rw [lanes_g (j 1)]
  split
  · exact select_one _ _
  · exact select_zero _ _
theorem pay28 (ba : FVec Ideal S512x128 .f32) (al dt : Vec Ideal S1x128 .f32) (j : S512x128.Idx) :
    k0_pay28 (F := Ideal) ba lanes al dt j
      = (if (j 1).val < 4 then sgm (ba j) else 0) + k0_pay27 (F := Ideal) ba lanes al dt j := by
  unfold k0_pay28 sgm
  generalize k0_pay27 (F := Ideal) ba lanes al dt = e
  pointwise
  rw [lanes_b (j 1)]
  refine congrArg (· + e j) ?_
  split
  · exact select_one _ _
  · exact select_zero _ _

/-! ## The sum from the start of the chunk -/

abbrev inChunk : IVec S512x128 32 := k0_pay26 64#32 k0_pay23 k0_pay24 k0_pay25

/-- The row's place in its chunk, as the kernel works it out. -/
def place (r : Fin 512) : BitVec 32 :=
  Scalar.select
    (IntOp.andi
      (IntOp.xori (IntOp.cmpi .slt (IntOp.remsi .vector (BitVec.ofNat 32 r.val) (Scalar.select (Scalar.cmpi .eq 64#32 0#32) 1#32 64#32)) 0#32)
        (Scalar.cmpi .slt (Scalar.select (Scalar.cmpi .eq 64#32 0#32) 1#32 64#32) 0#32))
      (IntOp.cmpi .ne (IntOp.remsi .vector (BitVec.ofNat 32 r.val) (Scalar.select (Scalar.cmpi .eq 64#32 0#32) 1#32 64#32)) 0#32))
    (IntOp.addi (IntOp.remsi .vector (BitVec.ofNat 32 r.val) (Scalar.select (Scalar.cmpi .eq 64#32 0#32) 1#32 64#32)) 64#32)
    (IntOp.remsi .vector (BitVec.ofNat 32 r.val) (Scalar.select (Scalar.cmpi .eq 64#32 0#32) 1#32 64#32))

theorem place_eq : ∀ r : Fin 512, place r = BitVec.ofNat 32 (r.val % 64) := by decide +kernel

theorem inChunk_apply (j : S512x128.Idx) : inChunk j = BitVec.ofNat 32 ((j 0).val % 64) := by
  refine Eq.trans ?_ (place_eq (j 0))
  unfold inChunk k0_pay26 k0_pay25 k0_pay24 k0_pay23 place
  pointwise

theorem reaches : ∀ (e : Fin 6) (a : Fin 64), IntOp.cmpi .sge (BitVec.ofNat 32 a.val) (BitVec.ofNat 32 (2 ^ e.val))
    = if 2 ^ e.val ≤ a.val then 1#1 else 0#1 := by decide +kernel

/-- One step: each row with what lies `s` rows before it in its chunk. -/
def step (s : BitVec 32) (v : FVec Ideal S512x128 .f32) : FVec Ideal S512x128 .f32 :=
  addf v (select (cmpi .sge inChunk (broadcast S512x128 s)) (dynamicRotate 0 s none v rotates_S512x128_d0)
    (broadcast S512x128 (Scalar.ofBits .f32 0x00000000#32)))

theorem pay29 (v : FVec Ideal S512x128 .f32) :
    k0_pay29 (F := Ideal) inChunk v = step 32#32 (step 16#32 (step 8#32 (step 4#32 (step 2#32 (step 1#32 v))))) := rfl

theorem step_apply (e : Fin 6) (s : BitVec 32) (hs : s = BitVec.ofNat 32 (2 ^ e.val)) (v : FVec Ideal S512x128 .f32) (j : S512x128.Idx) :
    step s v j = v j + if 2 ^ e.val ≤ (j 0).val % 64 then v (ix2 ⟨(j 0).val - 2 ^ e.val, Nat.lt_of_le_of_lt (Nat.sub_le _ _) (j 0).isLt⟩ (j 1)) else 0 := by
  have h2 : 2 ^ e.val ≤ 32 := (by decide : ∀ e : Fin 6, 2 ^ e.val ≤ 32) e
  have h1 : 0 < 2 ^ e.val := by positivity
  subst hs
  have hn : (BitVec.ofNat 32 (2 ^ e.val)).toNat = 2 ^ e.val := by rw [BitVec.toNat_ofNat]; exact Nat.mod_eq_of_lt (by omega)
  have hr : (j 0).val < 512 := (j 0).isLt
  unfold step
  pointwise
  rw [inChunk_apply, reaches e ⟨(j 0).val % 64, Nat.mod_lt _ (by decide)⟩]
  refine congrArg (v j + ·) ?_
  dsimp only
  split
  · refine (select_one _ _).trans (congrArg v ?_)
    refine eq_ix2_of _ _ _ ?_ rfl
    show ((j 0).val + 512 - (BitVec.ofNat 32 (2 ^ e.val)).toNat % 512) % 512 = (j 0).val - 2 ^ e.val
    rw [hn]; omega
  · exact select_zero _ _

/-- The rows of a column, none after the block. -/
def col (v : FVec Ideal S512x128 .f32) (l : Fin 128) (r : Nat) : EReal := if h : r < 512 then v (ix2 ⟨r, h⟩ l) else 0

theorem step_upto (e : Fin 6) (s : BitVec 32) (hs : s = BitVec.ofNat 32 (2 ^ e.val)) (v u : FVec Ideal S512x128 .f32)
    (hu : ∀ j, u j = upto (col v (j 1)) (2 ^ e.val) (j 0).val) (j : S512x128.Idx) :
    step s u j = upto (col v (j 1)) (2 ^ (e.val + 1)) (j 0).val := by
  rw [step_apply e s hs, show 2 ^ (e.val + 1) = 2 ^ e.val + 2 ^ e.val by ring, upto_double, hu]
  refine congrArg (_ + ·) ?_
  split
  · exact hu _
  · rfl

theorem sums (v : FVec Ideal S512x128 .f32) (j : S512x128.Idx) :
    k0_pay29 (F := Ideal) inChunk v j = ∑ i ∈ Finset.range ((j 0).val % 64 + 1), col v (j 1) ((j 0).val - i) := by
  rw [pay29, ← upto_all]
  refine step_upto 5 _ rfl v _ (step_upto 4 _ rfl v _ (step_upto 3 _ rfl v _ (step_upto 2 _ rfl v _ (step_upto 1 _ rfl v _
    (step_upto 0 _ rfl v _ fun j => ?_))))) j
  show v j = upto (col v (j 1)) 1 (j 0).val
  rw [upto_one]
  have h : (j 0).val < 512 := (j 0).isLt
  unfold col
  rw [dif_pos h]
  exact congrArg v (eq_ix2 j)

end Cert.DmIdeal.Step
-- ==== Proof.MixBlocks.lean ====
/-
  The mixer's projections, grid point by grid point: what each point writes, in the token's own terms, the rows that the convolution
  takes from the point before it, and the nine arrays after the last point.
-/
module

public import proofs.«01_k».proof.Proof.MixPoint
public import proofs.«01_k».proof.Proof.FfnFwdBlocks

@[expose] public section

noncomputable section

namespace Cert.DmIdeal.Step

open Idealize.ShloMosaic Idealize.ShloMosaic.TcCoe Idealize.SL.Sem
open Cert.DmIdeal Cert.DmIdeal.Gen Cert.NormRow Cert.HalfStep Cert.MixRow
open Cert.DfIdeal.Step (vec brow row)
open Cert.Adam (eq_ix2_of)

variable (m : (ℓ : Loc nD τ sig) → Buf (Elt Ideal) ℓ)

/-! ## The blocks, read off the arrays -/

theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 2) = t.val ∧ win0_8.index t (1 : Fin 2) = 0 :=
  (by decide +kernel : ∀ t : Fin grid0.N, _)
theorem idx_9 : ∀ t : Fin cfg0.N, win0_9.index t (0 : Fin 2) = t.val ∧ win0_9.index t (1 : Fin 2) = 0 :=
  (by decide +kernel : ∀ t : Fin grid0.N, _)
theorem idx_10 : ∀ t : Fin cfg0.N, win0_10.index t (0 : Fin 2) = t.val ∧ win0_10.index t (1 : Fin 2) = 0 :=
  (by decide +kernel : ∀ t : Fin grid0.N, _)
theorem idx_11 : ∀ t : Fin cfg0.N, win0_11.index t (0 : Fin 2) = t.val ∧ win0_11.index t (1 : Fin 2) = 0 :=
  (by decide +kernel : ∀ t : Fin grid0.N, _)
theorem idx_12 : ∀ t : Fin cfg0.N, win0_12.index t (0 : Fin 2) = t.val ∧ win0_12.index t (1 : Fin 2) = 0 :=
  (by decide +kernel : ∀ t : Fin grid0.N, _)
theorem idx_13 : ∀ t : Fin cfg0.N, win0_13.index t (0 : Fin 2) = t.val ∧ win0_13.index t (1 : Fin 2) = 0 :=
  (by decide +kernel : ∀ t : Fin grid0.N, _)
theorem idx_14 : ∀ t : Fin cfg0.N, win0_14.index t (0 : Fin 2) = t.val ∧ win0_14.index t (1 : Fin 2) = 0 :=
  (by decide +kernel : ∀ t : Fin grid0.N, _)
theorem idx_15 : ∀ t : Fin cfg0.N, win0_15.index t (0 : Fin 2) = t.val ∧ win0_15.index t (1 : Fin 2) = 0 :=
  (by decide +kernel : ∀ t : Fin grid0.N, _)
theorem idx_16 : ∀ t : Fin cfg0.N, win0_16.index t (0 : Fin 2) = t.val ∧ win0_16.index t (1 : Fin 2) = 0 :=
  (by decide +kernel : ∀ t : Fin grid0.N, _)

theorem lt16 (t : Fin cfg0.N) : t.val < 16 := lt_of_lt_of_eq t.isLt N_0

/-- Token `s` of the block of point `t`. -/
abbrev tok (t : Fin cfg0.N) (s : Fin 512) : Fin 8192 := ⟨t.val * 512 + s.val, by have := lt16 t; omega⟩

theorem xRow (c : Dev nD) (t : Fin cfg0.N) (s : Fin 512) : brow (iblk m c 0 t) s = row (V m c main_arg0) (tok t s) := by
  funext k; unfold brow row; blk_ext [iblk, idx_0 t]
theorem shVec (c : Dev nD) (t : Fin cfg0.N) : vec (iblk m c 1 t) = vec (V m c main_arg1) := by
  funext k; unfold vec; blk_ext [iblk, idx_1 t]
theorem scVec (c : Dev nD) (t : Fin cfg0.N) : vec (iblk m c 2 t) = vec (V m c main_arg2) := by
  funext k; unfold vec; blk_ext [iblk, idx_2 t]
theorem gVec (c : Dev nD) (t : Fin cfg0.N) : vec (iblk m c 3 t) = vec (V m c main_arg3) := by
  funext k; unfold vec; blk_ext [iblk, idx_3 t]
theorem wBlk (c : Dev nD) (t : Fin cfg0.N) (j : S2688x1024.Idx) : iblk m c 4 t j = V m c main_v6 j := by
  blk_ext [iblk, idx_4 t]
theorem cBlk (c : Dev nD) (t : Fin cfg0.N) (j : S4x1536.Idx) : iblk m c 5 t j = V m c main_arg5 j := by
  blk_ext [iblk, idx_5 t]
theorem alBlk (c : Dev nD) (t : Fin cfg0.N) (j : S1x128.Idx) : iblk m c 6 t j = V m c main_v12 j := by
  blk_ext [iblk, idx_6 t]
theorem dtBlk (c : Dev nD) (t : Fin cfg0.N) (j : S1x128.Idx) : iblk m c 7 t j = V m c main_v18 j := by
  blk_ext [iblk, idx_7 t]

/-! ## The tokens' rows -/

def hRow (c : Dev nD) (t : Fin 8192) : Fin 1024 → EReal :=
  modded (vec (V m c main_arg3)) (vec (V m c main_arg2)) (vec (V m c main_arg1)) (row (V m c main_arg0) t)
/-- The projection, all columns, in the kernel's order. -/
def projs (c : Dev nD) (t : Fin 8192) (n : Fin 2688) : EReal := ∑ k : Fin 1024, hRow m c t k * V m c main_v6 (ix2 n k)
def taps (c : Dev nD) (j : Fin 4) (n : Fin 1536) : EReal := V m c main_arg5 (ix2 j n)
def alLane (c : Dev nD) (l : Fin 128) : EReal := V m c main_v12 (ix2 0 l)
def dtLane (c : Dev nD) (l : Fin 128) : EReal := V m c main_v18 (ix2 0 l)

/-- The block of normed and modulated rows. -/
abbrev hBlk (c : Dev nD) (t : Fin cfg0.N) : FVec Ideal S512x1024 .bf16 := k0_pay1 (F := Ideal) (iblk m c 0 t) (iblk m c 3 t) (iblk m c 1 t) (iblk m c 2 t)

theorem h_blk (c : Dev nD) (t : Fin cfg0.N) (s : Fin 512) (k : Fin 1024) : hBlk m c t (ix2 s k) = hRow m c (tok t s) k := by
  refine (pay1 _ _ _ _ _).trans ?_
  show modded (vec (iblk m c 3 t)) (vec (iblk m c 2 t)) (vec (iblk m c 1 t)) (brow (iblk m c 0 t) s) k = _
  rw [xRow, shVec, scVec, gVec]; rfl

/-- A product with the rows from `o` on of the weight. -/
theorem proj_blk (c : Dev nD) (t : Fin cfg0.N) {N : Nat} (o : Nat) (hb : ∀ a, (![o, 0] : Fin 2 → Nat) a + (![N, 1024] : Fin 2 → Nat) a ≤ S2688x1024.size a)
    (ho : o + N ≤ 2688) (s : Fin 512) (n : Fin N) :
    ∑ k : Fin 1024, hBlk m c t (ix2 s k) * View.ld (iblk m c 4 t) (Rect.unit ![o, 0] ![N, 1024] hb) (ix2 n k)
      = projs m c (tok t s) ⟨o + n.val, by omega⟩ :=
  Finset.sum_congr rfl fun k _ => congrArg₂ (· * ·) (h_blk m c t s k)
    ((View.ld_unit_apply_of _ _ _ _ _ (ix2 ⟨o + n.val, by omega⟩ k) (fun a => match a with
      | ⟨0, _⟩ => rfl
      | ⟨1, _⟩ => (Nat.zero_add _).symm)).trans (wBlk m c t _))

/-- The block of the convolution's input. -/
abbrev xqBlk (c : Dev nD) (t : Fin cfg0.N) : FVec Ideal S512x1536 .f32 :=
  k0_pay3 (F := Ideal) (iblk m c 0 t) (iblk m c 3 t) (iblk m c 1 t) (iblk m c 2 t) (View.ld (iblk m c 4 t) (Rect.unit ![0, 0] ![1536, 1024] inb_S2688x1024_S1536x1024_0_0))

theorem xq_blk (c : Dev nD) (t : Fin cfg0.N) (y : S512x1536.Idx) : xqBlk m c t y = xqAt (projs m c) (tok t (y 0)) (y 1) := by
  refine (pay3 _ _ _ _ _ _).trans ((proj_blk m c t (N := 1536) 0 _ (by omega) (y 0) (y 1)).trans ?_)
  exact congrArg (projs m c _) (Fin.ext (Nat.zero_add _))
theorem z_blk (c : Dev nD) (t : Fin cfg0.N) (y : S512x512.Idx) :
    k0_pay5 (F := Ideal) (hBlk m c t) (View.ld (iblk m c 4 t) (Rect.unit ![1536, 0] ![512, 1024] inb_S2688x1024_S512x1024_1536_0)) y
      = zAt (projs m c) (tok t (y 0)) (y 1) :=
  (pay5 _ _ _).trans (proj_blk m c t (N := 512) 1536 _ (by omega) (y 0) (y 1))
theorem p_blk (c : Dev nD) (t : Fin cfg0.N) (y : S512x512.Idx) :
    k0_pay6 (F := Ideal) (hBlk m c t) (View.ld (iblk m c 4 t) (Rect.unit ![2048, 0] ![512, 1024] inb_S2688x1024_S512x1024_2048_0)) y
      = pAt (projs m c) (tok t (y 0)) (y 1) :=
  (pay6 _ _ _).trans (proj_blk m c t (N := 512) 2048 _ (by omega) (y 0) (y 1))
abbrev baBlk (c : Dev nD) (t : Fin cfg0.N) : FVec Ideal S512x128 .f32 :=
  k0_pay7 (F := Ideal) (hBlk m c t) (View.ld (iblk m c 4 t) (Rect.unit ![2560, 0] ![128, 1024] inb_S2688x1024_S128x1024_2560_0))
theorem ba_blk (c : Dev nD) (t : Fin cfg0.N) (y : S512x128.Idx) : baBlk m c t y = baAt (projs m c) (tok t (y 0)) (y 1) :=
  (pay7 _ _ _).trans (proj_blk m c t (N := 128) 2560 _ (by omega) (y 0) (y 1))

theorem g_blk (c : Dev nD) (t : Fin cfg0.N) (y : S512x128.Idx) :
    k0_pay27 (F := Ideal) (baBlk m c t) lanes (iblk m c 6 t) (iblk m c 7 t) y = gAt (projs m c) (alLane m c) (dtLane m c) (tok t (y 0)) (y 1) := by
  rw [pay27, ba_blk, alBlk, dtBlk]; rfl
theorem bg_blk (c : Dev nD) (t : Fin cfg0.N) (y : S512x128.Idx) :
    k0_pay28 (F := Ideal) (baBlk m c t) lanes (iblk m c 6 t) (iblk m c 7 t) y = bgAt (projs m c) (alLane m c) (dtLane m c) (tok t (y 0)) (y 1) := by
  rw [pay28, g_blk, ba_blk]; rfl
theorem gc_blk (c : Dev nD) (t : Fin cfg0.N) (y : S512x128.Idx) :
    k0_pay29 (F := Ideal) inChunk (k0_pay27 (F := Ideal) (baBlk m c t) lanes (iblk m c 6 t) (iblk m c 7 t)) y
      = gcAt (projs m c) (alLane m c) (dtLane m c) (tok t (y 0)) (y 1) := by
  have hy : (y 0).val < 512 := (y 0).isLt
  rw [sums]
  unfold gcAt
  rw [show (tok t (y 0)).val % 64 = (y 0).val % 64 from (by show (t.val * 512 + (y 0).val) % 64 = _; omega)]
  refine Finset.sum_congr rfl fun i hi => ?_
  have hi : i < (y 0).val % 64 + 1 := Finset.mem_range.mp hi
  unfold col
  rw [dif_pos (by omega), g_blk]
  refine congrArg (fun T => gAt (projs m c) (alLane m c) (dtLane m c) T (y 1)) (Fin.ext ?_)
  show t.val * 512 + ((y 0).val - i) = t.val * 512 + (y 0).val - i
  omega

/-! ## The rows that the convolution reads -/

abbrev R0 : Rect S520x1536 := Rect.unit ![0, 0] ![8, 1536] inb_S520x1536_S8x1536_0_0
abbrev R8 : Rect S520x1536 := Rect.unit ![8, 0] ![512, 1536] inb_S520x1536_S512x1536_8_0

/-- Eight rows above the block's. -/
def ext (L : S512x1536.Idx → EReal) (Z : S8x1536.Idx → EReal) (i : S520x1536.Idx) : EReal :=
  if h : 8 ≤ (i 0).val then L (ix2 ⟨(i 0).val - 8, by have : (i 0).val < 520 := (i 0).isLt; omega⟩ (i 1)) else Z (ix2 ⟨(i 0).val, by omega⟩ (i 1))

theorem at8 (i : S520x1536.Idx) (h : 8 ≤ (i 0).val) : R8.emb (ix2 ⟨(i 0).val - 8, by have : (i 0).val < 520 := (i 0).isLt; omega⟩ (i 1)) = i := by
  refine funext fun a => Fin.ext ?_
  match a with
  | ⟨0, _⟩ => show 8 + 1 * ((i 0).val - 8) = (i 0).val; omega
  | ⟨1, _⟩ => show 0 + 1 * (i 1).val = (i 1).val; omega
theorem at0 (i : S520x1536.Idx) (h : (i 0).val < 8) : R0.emb (ix2 ⟨(i 0).val, h⟩ (i 1)) = i := by
  refine funext fun a => Fin.ext ?_
  match a with
  | ⟨0, _⟩ => show 0 + 1 * (i 0).val = (i 0).val; omega
  | ⟨1, _⟩ => show 0 + 1 * (i 1).val = (i 1).val; omega
theorem not8 (i : S520x1536.Idx) (h : (i 0).val < 8) : i ∉ R8.set := fun hm => by
  have := (Rect.mem_set_unit.mp hm 0).1
  have : 8 ≤ (i 0).val := this
  omega

theorem canon8 (L : S512x1536.Idx → EReal) (T : List (View.Piece (Elt Ideal) S520x1536 .f32)) (i : S520x1536.Idx) (h : 8 ≤ (i 0).val) :
    View.canon (⟨R8, L⟩ :: T) i = L (ix2 ⟨(i 0).val - 8, by have : (i 0).val < 520 := (i 0).isLt; omega⟩ (i 1)) := by
  conv_lhs => rw [← at8 i h]
  exact View.canon_cons_emb _ _ _ _
theorem canon0 (Z : S8x1536.Idx → EReal) (T : List (View.Piece (Elt Ideal) S520x1536 .f32)) (i : S520x1536.Idx) (h : (i 0).val < 8) :
    View.canon (⟨R0, Z⟩ :: T) i = Z (ix2 ⟨(i 0).val, h⟩ (i 1)) := by
  conv_lhs => rw [← at0 i h]
  exact View.canon_cons_emb _ _ _ _
theorem skip8 (L : S512x1536.Idx → EReal) (T : List (View.Piece (Elt Ideal) S520x1536 .f32)) (i : S520x1536.Idx) (h : (i 0).val < 8) :
    View.canon (⟨R8, L⟩ :: T) i = View.canon T i := View.canon_cons_of_not_mem _ _ (not8 i h)
theorem canonA (L : S512x1536.Idx → EReal) (Z : S8x1536.Idx → EReal) (i : S520x1536.Idx) : View.canon ([⟨R8, L⟩, ⟨R0, Z⟩] : List (View.Piece (Elt Ideal) S520x1536 .f32)) i = ext L Z i := by
  unfold ext
  split
  · exact canon8 L _ i ‹_›
  · rename_i h
    exact (skip8 L _ i (by omega)).trans (canon0 Z [] i (by omega))
theorem readB (S : S520x1536.Idx → EReal) (L : S512x1536.Idx → EReal) (i : S520x1536.Idx) :
    View.read (Elt Ideal) (View.whole cc0_scratch0) ((View.whole cc0_scratch0).writes (Elt Ideal) ((Memref.isWhole_whole cc0_scratch0).unread S) [⟨R8, L⟩]) i
      = ext L (fun z => S (ix2 ⟨(z 0).val, by have : (z 0).val < 8 := (z 0).isLt; omega⟩ (z 1))) i := by
  unfold ext
  split
  · rename_i h
    conv_lhs => rw [← at8 i h]
    exact View.read_writes_cons_emb _ _ _ _ _ _
  · rw [View.read_writes_apply_of_forall_not_mem _ _ _ _ (fun p hp => by
      rw [List.mem_singleton.mp hp]; exact not8 i (by omega)), (Memref.isWhole_whole _).read_unread]
    exact congrArg S (eq_ix2 i)

/-- The rows kept from the point before: its last eight, none at the first point. -/
def kept (c : Dev nD) (t : Fin cfg0.N) (z : S8x1536.Idx) : EReal :=
  if h : t.val = 0 then 0 else
    xqAt (projs m c) ⟨(t.val - 1) * 512 + 504 + (z 0).val, by have := lt16 t; have : (z 0).val < 8 := (z 0).isLt; omega⟩ (z 1)

/-- Tap `j` over the block. -/
def tap (c : Dev nD) (t : Fin cfg0.N) (j : Fin 4) (y : S512x1536.Idx) : EReal := before (projs m c) (tok t (y 0)) j (y 1)

theorem tap_eq (c : Dev nD) (t : Fin cfg0.N) (j : Fin 4) (y : S512x1536.Idx) (i : S520x1536.Idx) (h0 : (i 0).val = 5 + j.val + (y 0).val)
    (h1 : (i 1).val = (y 1).val) : ext (xqBlk m c t) (kept m c t) i = tap m c t j y := by
  have hy : (y 0).val < 512 := (y 0).isLt
  have ht := lt16 t
  have e1 : (i 1 : Fin 1536) = y 1 := Fin.ext h1
  unfold ext tap before
  split
  · rw [xq_blk, dif_pos (show 3 ≤ t.val * 512 + (y 0).val + j.val by omega)]
    refine congrArg₂ (projs m c) (Fin.ext ?_) (Fin.ext h1)
    show t.val * 512 + ((i 0).val - 8) = t.val * 512 + (y 0).val + j.val - 3
    omega
  · unfold kept
    split
    · rw [dif_neg (show ¬ 3 ≤ t.val * 512 + (y 0).val + j.val by omega)]
    · rw [dif_pos (show 3 ≤ t.val * 512 + (y 0).val + j.val by omega)]
      refine congrArg₂ (projs m c) (Fin.ext ?_) (Fin.ext h1)
      show (t.val - 1) * 512 + 504 + (i 0).val = t.val * 512 + (y 0).val + j.val - 3
      omega

/-! ## What a point leaves for the next -/

theorem pay2 : k0_pay2 (F := Ideal) = fun _ => (0 : EReal) := by
  funext j; unfold k0_pay2; pointwise
theorem pay9 (x : Vec Ideal S8x1536 .f32) : k0_pay9 (F := Ideal) x = x := by
  funext j; unfold k0_pay9; pointwise

/-- The last eight rows of the block. -/
def lastRows (c : Dev nD) (t : Fin cfg0.N) (z : S8x1536.Idx) : EReal :=
  xqAt (projs m c) (tok t ⟨504 + (z 0).val, by have : (z 0).val < 8 := (z 0).isLt; omega⟩) (z 1)

theorem tail8 (c : Dev nD) (t : Fin cfg0.N) (T : List (View.Piece (Elt Ideal) S520x1536 .f32)) (z : S8x1536.Idx) (i : S520x1536.Idx)
    (h0 : (i 0).val = 512 + (z 0).val) (h1 : (i 1).val = (z 1).val) : View.canon (⟨R8, xqBlk m c t⟩ :: T) i = lastRows m c t z := by
  rw [canon8 _ _ _ (by omega), xq_blk]
  refine congrArg₂ (projs m c) (Fin.ext ?_) (Fin.ext h1)
  show t.val * 512 + ((i 0).val - 8) = t.val * 512 + (504 + (z 0).val)
  omega

theorem scr (c : Dev nD) (t : Fin cfg0.N) (i : S520x1536.Idx) (h : (i 0).val < 8) :
    (outsAt0 m c t.val t.isLt).2.2.2.2.2.2.2.2.2 i = lastRows m c t (ix2 ⟨(i 0).val, h⟩ (i 1)) := by
  by_cases h0 : t.val % 16 = 0
  · rw [outsAt0_A m c t h0]; frame_out
    rw [canon0 _ _ _ h, pay9, View.readCov_eq_canon', pay4]
    exact tail8 m c t _ _ _ (by show 512 + 1 * (i 0).val = 512 + (i 0).val; omega) (by show 0 + 1 * (i 1).val = (i 1).val; omega)
  · rw [outsAt0_B m c t h0]; frame_out
    rw [canon0 _ _ _ h, pay9, View.readCov_eq_canon', pay4]
    exact tail8 m c t _ _ _ (by show 512 + 1 * (i 0).val = 512 + (i 0).val; omega) (by show 0 + 1 * (i 1).val = (i 1).val; omega)

/-- The rows above the block's at a point that has one before it. -/
theorem keptB (c : Dev nD) (t : Fin cfg0.N) (h0 : ¬ t.val % 16 = 0) (z : S8x1536.Idx) (hp : t.val - 1 < cfg0.N) :
    (outsAt0 m c (t.val - 1) hp).2.2.2.2.2.2.2.2.2 (ix2 ⟨(z 0).val, by have : (z 0).val < 8 := (z 0).isLt; omega⟩ (z 1)) = kept m c t z := by
  refine (scr m c ⟨t.val - 1, hp⟩ _ (z 0).isLt).trans ?_
  unfold kept lastRows
  rw [dif_neg (by omega)]
  refine congrArg₂ (projs m c) (Fin.ext ?_) rfl
  show (t.val - 1) * 512 + (504 + (z 0).val) = (t.val - 1) * 512 + 504 + (z 0).val
  omega
theorem keptA (c : Dev nD) (t : Fin cfg0.N) (h0 : t.val % 16 = 0) : k0_pay2 (F := Ideal) = kept m c t := by
  funext z
  have := lt16 t
  rw [pay2]; unfold kept; rw [dif_pos (by omega)]

theorem loadA (c : Dev nD) (t : Fin cfg0.N) (h0 : t.val % 16 = 0) (o : Nat) (j : Fin 4) (ho : o = 5 + j.val)
    (hb : ∀ a, (![o, 0] : Fin 2 → Nat) a + (![512, 1536] : Fin 2 → Nat) a ≤ S520x1536.size a) :
    (View.whole cc0_scratch0).readCov ([⟨R8, xqBlk m c t⟩, ⟨R0, k0_pay2 (F := Ideal)⟩] : List (View.Piece (Elt Ideal) S520x1536 .f32))
      (Rect.unit ![o, 0] ![512, 1536] hb).toLoadRect = tap m c t j := by
  subst ho
  rw [View.readCov_eq_canon', keptA m c t h0]
  funext y
  rw [canonA]
  exact tap_eq m c t j y _ (by show 5 + j.val + 1 * (y 0).val = 5 + j.val + (y 0).val; omega) (by show 0 + 1 * (y 1).val = (y 1).val; omega)
theorem loadB (c : Dev nD) (t : Fin cfg0.N) (h0 : ¬ t.val % 16 = 0) (hp : t.val - 1 < cfg0.N) (o : Nat) (j : Fin 4) (ho : o = 5 + j.val)
    (hb : ∀ a, (![o, 0] : Fin 2 → Nat) a + (![512, 1536] : Fin 2 → Nat) a ≤ S520x1536.size a) :
    View.ld (View.read (Elt Ideal) (View.whole cc0_scratch0) ((View.whole cc0_scratch0).writes (Elt Ideal)
      ((Memref.isWhole_whole cc0_scratch0).unread (outsAt0 m c (t.val - 1) hp).2.2.2.2.2.2.2.2.2) [⟨R8, xqBlk m c t⟩]))
      (Rect.unit ![o, 0] ![512, 1536] hb) = tap m c t j := by
  subst ho
  funext y
  rw [View.ld_apply, readB, show (fun z : S8x1536.Idx => (outsAt0 m c (t.val - 1) hp).2.2.2.2.2.2.2.2.2
    (ix2 ⟨(z 0).val, by have : (z 0).val < 8 := (z 0).isLt; omega⟩ (z 1))) = kept m c t from funext fun z => keptB m c t h0 z hp]
  exact tap_eq m c t j y _ (by show 5 + j.val + 1 * (y 0).val = 5 + j.val + (y 0).val; omega) (by show 0 + 1 * (y 1).val = (y 1).val; omega)
theorem load8 (c : Dev nD) (t : Fin cfg0.N) (T : List (View.Piece (Elt Ideal) S520x1536 .f32)) :
    (View.whole cc0_scratch0).readCov (⟨R8, xqBlk m c t⟩ :: T) R8.toLoadRect = tap m c t 3 := by
  rw [View.readCov_eq_canon']
  funext y
  have hi : ((R8.idx y) 0).val = 8 + (y 0).val := by show 8 + 1 * (y 0).val = _; omega
  rw [canon8 _ _ _ (by omega)]
  refine Eq.trans ?_ (tap_eq m c t 3 y (R8.idx y) (by rw [hi]; rfl) (by show 0 + 1 * (y 1).val = (y 1).val; omega))
  unfold ext
  rw [dif_pos (by omega)]

/-! ## The convolution and the heads over a block -/

/-- The block of the gated convolution. -/
abbrev sumBlk (c : Dev nD) (t : Fin cfg0.N) : FVec Ideal S512x1536 .f32 :=
  k0_pay8 (F := Ideal) (View.ld (iblk m c 5 t) (Rect.unit ![0, 0] ![1, 1536] inb_S4x1536_S1x1536_0_0)) (tap m c t 0)
    (View.ld (iblk m c 5 t) (Rect.unit ![1, 0] ![1, 1536] inb_S4x1536_S1x1536_1_0)) (tap m c t 1)
    (View.ld (iblk m c 5 t) (Rect.unit ![2, 0] ![1, 1536] inb_S4x1536_S1x1536_2_0)) (tap m c t 2)
abbrev lastTap (c : Dev nD) (t : Fin cfg0.N) : Vec Ideal S1x1536 .f32 := View.ld (iblk m c 5 t) (Rect.unit ![3, 0] ![1, 1536] inb_S4x1536_S1x1536_3_0)
abbrev convBlk (c : Dev nD) (t : Fin cfg0.N) : FVec Ideal S512x1536 .f32 := k0_pay10 (F := Ideal) (sumBlk m c t) (lastTap m c t) (tap m c t 3)

theorem tap_row (c : Dev nD) (t : Fin cfg0.N) (j : Fin 4) (hb : ∀ a, (![j.val, 0] : Fin 2 → Nat) a + (![1, 1536] : Fin 2 → Nat) a ≤ S4x1536.size a)
    (n : Fin 1536) : View.ld (iblk m c 5 t) (Rect.unit ![j.val, 0] ![1, 1536] hb) (ix2 0 n) = taps m c j n :=
  (View.ld_unit_apply_of (iblk m c 5 t) ![j.val, 0] ![1, 1536] hb (ix2 0 n) (ix2 j n) (fun a => match a with
      | ⟨0, _⟩ => rfl
      | ⟨1, _⟩ => (Nat.zero_add _).symm)).trans (cBlk m c t _)

theorem four {a0 a1 a2 a3 w0 w1 w2 w3 b0 b1 b2 b3 : EReal} (h0 : a0 = w0) (h1 : a1 = w1) (h2 : a2 = w2) (h3 : a3 = w3) :
    a0 * b0 + a1 * b1 + a2 * b2 + a3 * b3 = w0 * b0 + w1 * b1 + w2 * b2 + w3 * b3 := by rw [h0, h1, h2, h3]

theorem conv_blk (c : Dev nD) (t : Fin cfg0.N) (y : S512x1536.Idx) : convBlk m c t y = qkv (projs m c) (taps m c) (tok t (y 0)) (y 1) := by
  refine (pay10 _ _ _ _).trans (congrArg gate ?_)
  refine (congrArg (· + _) (pay8 _ _ _ _ _ _ y)).trans ?_
  unfold conv
  exact four (tap_row m c t 0 inb_S4x1536_S1x1536_0_0 (y 1)) (tap_row m c t 1 inb_S4x1536_S1x1536_1_0 (y 1))
    (tap_row m c t 2 inb_S4x1536_S1x1536_2_0 (y 1)) (tap_row m c t 3 inb_S4x1536_S1x1536_3_0 (y 1))

theorem slice_at (a : FVec Ideal S512x1536 .f32) (o : Nat) (hs : Shape.Slices S512x1536 ![0, o] S512x128) (ho : o + 128 ≤ 1536) (s : Fin 512) (l : Fin 128) :
    extractStridedSlice S512x128 ![0, o] a hs (ix2 s l) = a (ix2 s ⟨o + l.val, by omega⟩) := by
  refine congrArg a (eq_ix2_of _ _ _ ?_ ?_)
  · exact Nat.zero_add _
  · rfl

theorem q_blk (c : Dev nD) (t : Fin cfg0.N) (o : Nat) (hs : Shape.Slices S512x1536 ![0, o] S512x128) (ho : o + 128 ≤ 512) (h128 : o % 128 = 0)
    (x : S512x128.Idx) (y : S512x512.Idx) (h0 : (y 0).val = (x 0).val) (h1 : (y 1).val = o + (x 1).val) :
    qn (extractStridedSlice S512x128 ![0, o] (convBlk m c t) hs) x = qAt (projs m c) (taps m c) (tok t (y 0)) (y 1) := by
  have hx : (x 1).val < 128 := (x 1).isLt
  rw [qn_apply]
  refine congrArg₂ qHead (funext fun l => ?_) (Fin.ext ?_)
  · refine (slice_at _ o hs (by omega) (x 0) l).trans ((conv_blk m c t _).trans (congrArg₂ (qkv (projs m c) (taps m c)) (Fin.ext ?_) (Fin.ext ?_)))
    · show t.val * 512 + (x 0).val = t.val * 512 + (y 0).val; omega
    · show o + l.val = 0 + ((y 1).val / 128 * 128 + l.val); omega
  · show (x 1).val = (y 1).val % 128; omega
theorem k_blk (c : Dev nD) (t : Fin cfg0.N) (o : Nat) (hs : Shape.Slices S512x1536 ![0, 512 + o] S512x128) (ho : o + 128 ≤ 512) (h128 : o % 128 = 0)
    (x : S512x128.Idx) (y : S512x512.Idx) (h0 : (y 0).val = (x 0).val) (h1 : (y 1).val = o + (x 1).val) :
    kn (extractStridedSlice S512x128 ![0, 512 + o] (convBlk m c t) hs) x = kAt (projs m c) (taps m c) (tok t (y 0)) (y 1) := by
  have hx : (x 1).val < 128 := (x 1).isLt
  rw [kn_apply]
  refine congrArg₂ kHead (funext fun l => ?_) (Fin.ext ?_)
  · refine (slice_at _ (512 + o) hs (by omega) (x 0) l).trans ((conv_blk m c t _).trans (congrArg₂ (qkv (projs m c) (taps m c)) (Fin.ext ?_) (Fin.ext ?_)))
    · show t.val * 512 + (x 0).val = t.val * 512 + (y 0).val; omega
    · show 512 + o + l.val = 512 + ((y 1).val / 128 * 128 + l.val); omega
  · show (x 1).val = (y 1).val % 128; omega

end Cert.DmIdeal.Step
-- ==== Proof.MixArrays.lean ====
/-
  The arrays of the mixer's projections after the last point.
-/
module

public import proofs.«01_k».proof.Proof.MixBlocks

@[expose] public section

noncomputable section

namespace Cert.DmIdeal.Step

open Idealize.ShloMosaic Idealize.ShloMosaic.TcCoe Idealize.SL.Sem
open Cert.DmIdeal Cert.DmIdeal.Gen Cert.NormRow Cert.HalfStep Cert.MixRow

variable (m : (ℓ : Loc nD τ sig) → Buf (Elt Ideal) ℓ)

/-- The rows kept between the points, as the body of the call names them. -/
abbrev rows : View sig (Proc.kind (Proc.tc (τ := τ))) .vmem S520x1536 .f32 := View.whole cc0_scratch0

theorem rowsA (c : Dev nD) (t : Fin cfg0.N) (h0 : t.val % 16 = 0) (o : Nat) (j : Fin 4) (ho : o = 5 + j.val)
    (hb : ∀ a, (![o, 0] : Fin 2 → Nat) a + (![512, 1536] : Fin 2 → Nat) a ≤ S520x1536.size a) :
    rows.readCov ([⟨R8, xqBlk m c t⟩, ⟨R0, k0_pay2 (F := Ideal)⟩] : List (View.Piece (Elt Ideal) S520x1536 .f32))
      (Rect.unit ![o, 0] ![512, 1536] hb).toLoadRect = tap m c t j := loadA m c t h0 o j ho hb
theorem rowsB (c : Dev nD) (t : Fin cfg0.N) (h0 : ¬ t.val % 16 = 0) (hp : t.val - 1 < cfg0.N) (o : Nat) (j : Fin 4) (ho : o = 5 + j.val)
    (hb : ∀ a, (![o, 0] : Fin 2 → Nat) a + (![512, 1536] : Fin 2 → Nat) a ≤ S520x1536.size a) :
    View.ld (View.read (Elt Ideal) rows (rows.writes (Elt Ideal)
      ((Memref.isWhole_whole cc0_scratch0).unread (outsAt0 m c (t.val - 1) hp).2.2.2.2.2.2.2.2.2) ([⟨R8, xqBlk m c t⟩] : List (View.Piece (Elt Ideal) S520x1536 .f32))))
      (Rect.unit ![o, 0] ![512, 1536] hb) = tap m c t j := loadB m c t h0 hp o j ho hb
theorem rows8 (c : Dev nD) (t : Fin cfg0.N) (T : List (View.Piece (Elt Ideal) S520x1536 .f32)) :
    rows.readCov (⟨R8, xqBlk m c t⟩ :: T) R8.toLoadRect = tap m c t 3 := load8 m c t T

theorem v_blk (c : Dev nD) (t : Fin cfg0.N) (y : S512x512.Idx) : k0_pay22 (F := Ideal) (convBlk m c t) y = vAt (projs m c) (taps m c) (tok t (y 0)) (y 1) :=
  (pay22 _ _).trans (conv_blk m c t _)
theorem conv_of (c : Dev nD) (t : Fin cfg0.N) {x0 x1 x2 x3 : Vec Ideal S512x1536 .f32} (h0 : x0 = tap m c t 0) (h1 : x1 = tap m c t 1)
    (h2 : x2 = tap m c t 2) (h3 : x3 = tap m c t 3) :
    k0_pay10 (F := Ideal) (k0_pay8 (F := Ideal) (View.ld (iblk m c 5 t) (Rect.unit ![0, 0] ![1, 1536] inb_S4x1536_S1x1536_0_0)) x0
      (View.ld (iblk m c 5 t) (Rect.unit ![1, 0] ![1, 1536] inb_S4x1536_S1x1536_1_0)) x1
      (View.ld (iblk m c 5 t) (Rect.unit ![2, 0] ![1, 1536] inb_S4x1536_S1x1536_2_0)) x2) (lastTap m c t) x3 = convBlk m c t := by
  rw [h0, h1, h2, h3]
theorem v_of (c : Dev nD) (t : Fin cfg0.N) (y : S512x512.Idx) {a : FVec Ideal S512x1536 .f32} (h : a = convBlk m c t) :
    k0_pay22 (F := Ideal) a y = vAt (projs m c) (taps m c) (tok t (y 0)) (y 1) := by
  rw [h]; exact v_blk m c t y

theorem q_of (c : Dev nD) (t : Fin cfg0.N) {a : FVec Ideal S512x1536 .f32} (h : a = convBlk m c t) (o : Nat) (hs : Shape.Slices S512x1536 ![0, o] S512x128)
    (ho : o + 128 ≤ 512) (h128 : o % 128 = 0) (x : S512x128.Idx) (y : S512x512.Idx) (h0 : (y 0).val = (x 0).val) (h1 : (y 1).val = o + (x 1).val) :
    qn (extractStridedSlice S512x128 ![0, o] a hs) x = qAt (projs m c) (taps m c) (tok t (y 0)) (y 1) := by
  subst h; exact q_blk m c t o hs ho h128 x y h0 h1
theorem k_of (c : Dev nD) (t : Fin cfg0.N) {a : FVec Ideal S512x1536 .f32} (h : a = convBlk m c t) (o : Nat) (hs : Shape.Slices S512x1536 ![0, 512 + o] S512x128)
    (ho : o + 128 ≤ 512) (h128 : o % 128 = 0) (x : S512x128.Idx) (y : S512x512.Idx) (h0 : (y 0).val = (x 0).val) (h1 : (y 1).val = o + (x 1).val) :
    kn (extractStridedSlice S512x128 ![0, 512 + o] a hs) x = kAt (projs m c) (taps m c) (tok t (y 0)) (y 1) := by
  subst h; exact k_blk m c t o hs ho h128 x y h0 h1

theorem out8 (c : Dev nD) (t : Fin cfg0.N) (y : S512x1536.Idx) : (dats m 0 c).after 8 t y = xqAt (projs m c) (tok t (y 0)) (y 1) := by
  by_cases h0 : t.val % 16 = 0
  · rw [after0_8, outsAt0_A m c t h0]; frame_out
    exact xq_blk m c t y
  · rw [after0_8, outsAt0_B m c t h0]; frame_out
    exact xq_blk m c t y
theorem out9 (c : Dev nD) (t : Fin cfg0.N) (y : S512x128.Idx) : (dats m 0 c).after 9 t y = baAt (projs m c) (tok t (y 0)) (y 1) := by
  by_cases h0 : t.val % 16 = 0
  · rw [after0_9, outsAt0_A m c t h0]; frame_out
    exact ba_blk m c t y
  · rw [after0_9, outsAt0_B m c t h0]; frame_out
    exact ba_blk m c t y
theorem out10 (c : Dev nD) (t : Fin cfg0.N) (y : S512x512.Idx) : (dats m 0 c).after 10 t y = qAt (projs m c) (taps m c) (tok t (y 0)) (y 1) := by
  by_cases h0 : t.val % 16 = 0
  · rw [after0_10, outsAt0_A m c t h0]; frame_out
    rw [pay4, q0, q1, q2, q3]
    canon_tiles x e
    · exact q_of m c t
        (conv_of m c t (rowsA m c t h0 5 0 rfl inb_S520x1536_S512x1536_5_0) (rowsA m c t h0 6 1 rfl inb_S520x1536_S512x1536_6_0)
        (rowsA m c t h0 7 2 rfl inb_S520x1536_S512x1536_7_0) (rows8 m c t _)) 384 _ (by decide) (by decide) x y e0 (by omega)
    · exact q_of m c t
        (conv_of m c t (rowsA m c t h0 5 0 rfl inb_S520x1536_S512x1536_5_0) (rowsA m c t h0 6 1 rfl inb_S520x1536_S512x1536_6_0)
        (rowsA m c t h0 7 2 rfl inb_S520x1536_S512x1536_7_0) (rows8 m c t _)) 256 _ (by decide) (by decide) x y e0 (by omega)
    · exact q_of m c t
        (conv_of m c t (rowsA m c t h0 5 0 rfl inb_S520x1536_S512x1536_5_0) (rowsA m c t h0 6 1 rfl inb_S520x1536_S512x1536_6_0)
        (rowsA m c t h0 7 2 rfl inb_S520x1536_S512x1536_7_0) (rows8 m c t _)) 128 _ (by decide) (by decide) x y e0 (by omega)
    · exact q_of m c t
        (conv_of m c t (rowsA m c t h0 5 0 rfl inb_S520x1536_S512x1536_5_0) (rowsA m c t h0 6 1 rfl inb_S520x1536_S512x1536_6_0)
        (rowsA m c t h0 7 2 rfl inb_S520x1536_S512x1536_7_0) (rows8 m c t _)) 0 _ (by decide) (by decide) x y e0 (by omega)
  · have hp : t.val - 1 < cfg0.N := Nat.lt_of_le_of_lt (Nat.sub_le _ _) t.isLt
    rw [after0_10, outsAt0_B m c t h0]; frame_out
    rw [pay4, q0, q1, q2, q3]
    canon_tiles x e
    · exact q_of m c t
        (conv_of m c t (rowsB m c t h0 hp 5 0 rfl inb_S520x1536_S512x1536_5_0) (rowsB m c t h0 hp 6 1 rfl inb_S520x1536_S512x1536_6_0)
        (rowsB m c t h0 hp 7 2 rfl inb_S520x1536_S512x1536_7_0) (rows8 m c t _)) 384 _ (by decide) (by decide) x y e0 (by omega)
    · exact q_of m c t
        (conv_of m c t (rowsB m c t h0 hp 5 0 rfl inb_S520x1536_S512x1536_5_0) (rowsB m c t h0 hp 6 1 rfl inb_S520x1536_S512x1536_6_0)
        (rowsB m c t h0 hp 7 2 rfl inb_S520x1536_S512x1536_7_0) (rows8 m c t _)) 256 _ (by decide) (by decide) x y e0 (by omega)
    · exact q_of m c t
        (conv_of m c t (rowsB m c t h0 hp 5 0 rfl inb_S520x1536_S512x1536_5_0) (rowsB m c t h0 hp 6 1 rfl inb_S520x1536_S512x1536_6_0)
        (rowsB m c t h0 hp 7 2 rfl inb_S520x1536_S512x1536_7_0) (rows8 m c t _)) 128 _ (by decide) (by decide) x y e0 (by omega)
    · exact q_of m c t
        (conv_of m c t (rowsB m c t h0 hp 5 0 rfl inb_S520x1536_S512x1536_5_0) (rowsB m c t h0 hp 6 1 rfl inb_S520x1536_S512x1536_6_0)
        (rowsB m c t h0 hp 7 2 rfl inb_S520x1536_S512x1536_7_0) (rows8 m c t _)) 0 _ (by decide) (by decide) x y e0 (by omega)
theorem out11 (c : Dev nD) (t : Fin cfg0.N) (y : S512x512.Idx) : (dats m 0 c).after 11 t y = kAt (projs m c) (taps m c) (tok t (y 0)) (y 1) := by
  by_cases h0 : t.val % 16 = 0
  · rw [after0_11, outsAt0_A m c t h0]; frame_out
    rw [pay4, k0, k1, k2, k3]
    canon_tiles x e
    · exact k_of m c t
        (conv_of m c t (rowsA m c t h0 5 0 rfl inb_S520x1536_S512x1536_5_0) (rowsA m c t h0 6 1 rfl inb_S520x1536_S512x1536_6_0)
        (rowsA m c t h0 7 2 rfl inb_S520x1536_S512x1536_7_0) (rows8 m c t _)) 384 _ (by decide) (by decide) x y e0 (by omega)
    · exact k_of m c t
        (conv_of m c t (rowsA m c t h0 5 0 rfl inb_S520x1536_S512x1536_5_0) (rowsA m c t h0 6 1 rfl inb_S520x1536_S512x1536_6_0)
        (rowsA m c t h0 7 2 rfl inb_S520x1536_S512x1536_7_0) (rows8 m c t _)) 256 _ (by decide) (by decide) x y e0 (by omega)
    · exact k_of m c t
        (conv_of m c t (rowsA m c t h0 5 0 rfl inb_S520x1536_S512x1536_5_0) (rowsA m c t h0 6 1 rfl inb_S520x1536_S512x1536_6_0)
        (rowsA m c t h0 7 2 rfl inb_S520x1536_S512x1536_7_0) (rows8 m c t _)) 128 _ (by decide) (by decide) x y e0 (by omega)
    · exact k_of m c t
        (conv_of m c t (rowsA m c t h0 5 0 rfl inb_S520x1536_S512x1536_5_0) (rowsA m c t h0 6 1 rfl inb_S520x1536_S512x1536_6_0)
        (rowsA m c t h0 7 2 rfl inb_S520x1536_S512x1536_7_0) (rows8 m c t _)) 0 _ (by decide) (by decide) x y e0 (by omega)
  · have hp : t.val - 1 < cfg0.N := Nat.lt_of_le_of_lt (Nat.sub_le _ _) t.isLt
    rw [after0_11, outsAt0_B m c t h0]; frame_out
    rw [pay4, k0, k1, k2, k3]
    canon_tiles x e
    · exact k_of m c t
        (conv_of m c t (rowsB m c t h0 hp 5 0 rfl inb_S520x1536_S512x1536_5_0) (rowsB m c t h0 hp 6 1 rfl inb_S520x1536_S512x1536_6_0)
        (rowsB m c t h0 hp 7 2 rfl inb_S520x1536_S512x1536_7_0) (rows8 m c t _)) 384 _ (by decide) (by decide) x y e0 (by omega)
    · exact k_of m c t
        (conv_of m c t (rowsB m c t h0 hp 5 0 rfl inb_S520x1536_S512x1536_5_0) (rowsB m c t h0 hp 6 1 rfl inb_S520x1536_S512x1536_6_0)
        (rowsB m c t h0 hp 7 2 rfl inb_S520x1536_S512x1536_7_0) (rows8 m c t _)) 256 _ (by decide) (by decide) x y e0 (by omega)
    · exact k_of m c t
        (conv_of m c t (rowsB m c t h0 hp 5 0 rfl inb_S520x1536_S512x1536_5_0) (rowsB m c t h0 hp 6 1 rfl inb_S520x1536_S512x1536_6_0)
        (rowsB m c t h0 hp 7 2 rfl inb_S520x1536_S512x1536_7_0) (rows8 m c t _)) 128 _ (by decide) (by decide) x y e0 (by omega)
    · exact k_of m c t
        (conv_of m c t (rowsB m c t h0 hp 5 0 rfl inb_S520x1536_S512x1536_5_0) (rowsB m c t h0 hp 6 1 rfl inb_S520x1536_S512x1536_6_0)
        (rowsB m c t h0 hp 7 2 rfl inb_S520x1536_S512x1536_7_0) (rows8 m c t _)) 0 _ (by decide) (by decide) x y e0 (by omega)
theorem out12 (c : Dev nD) (t : Fin cfg0.N) (y : S512x512.Idx) : (dats m 0 c).after 12 t y = vAt (projs m c) (taps m c) (tok t (y 0)) (y 1) := by
  by_cases h0 : t.val % 16 = 0
  · rw [after0_12, outsAt0_A m c t h0]; frame_out
    rw [pay4]
    refine v_of m c t y ?_
    refine conv_of m c t ?_ ?_ ?_ ?_
    · exact rowsA m c t h0 5 0 rfl inb_S520x1536_S512x1536_5_0
    · exact rowsA m c t h0 6 1 rfl inb_S520x1536_S512x1536_6_0
    · exact rowsA m c t h0 7 2 rfl inb_S520x1536_S512x1536_7_0
    · exact rows8 m c t _
  · have hp : t.val - 1 < cfg0.N := Nat.lt_of_le_of_lt (Nat.sub_le _ _) t.isLt
    rw [after0_12, outsAt0_B m c t h0]; frame_out
    rw [pay4]
    refine v_of m c t y ?_
    refine conv_of m c t ?_ ?_ ?_ ?_
    · exact rowsB m c t h0 hp 5 0 rfl inb_S520x1536_S512x1536_5_0
    · exact rowsB m c t h0 hp 6 1 rfl inb_S520x1536_S512x1536_6_0
    · exact rowsB m c t h0 hp 7 2 rfl inb_S520x1536_S512x1536_7_0
    · exact rows8 m c t _
theorem out13 (c : Dev nD) (t : Fin cfg0.N) (y : S512x512.Idx) : (dats m 0 c).after 13 t y = zAt (projs m c) (tok t (y 0)) (y 1) := by
  by_cases h0 : t.val % 16 = 0
  · rw [after0_13, outsAt0_A m c t h0]; frame_out
    exact z_blk m c t y
  · rw [after0_13, outsAt0_B m c t h0]; frame_out
    exact z_blk m c t y
theorem out14 (c : Dev nD) (t : Fin cfg0.N) (y : S512x512.Idx) : (dats m 0 c).after 14 t y = pAt (projs m c) (tok t (y 0)) (y 1) := by
  by_cases h0 : t.val % 16 = 0
  · rw [after0_14, outsAt0_A m c t h0]; frame_out
    exact p_blk m c t y
  · rw [after0_14, outsAt0_B m c t h0]; frame_out
    exact p_blk m c t y
theorem out15 (c : Dev nD) (t : Fin cfg0.N) (y : S512x128.Idx) :
    (dats m 0 c).after 15 t y = bgAt (projs m c) (alLane m c) (dtLane m c) (tok t (y 0)) (y 1) := by
  by_cases h0 : t.val % 16 = 0
  · rw [after0_15, outsAt0_A m c t h0]; frame_out
    exact bg_blk m c t y
  · rw [after0_15, outsAt0_B m c t h0]; frame_out
    exact bg_blk m c t y
theorem out16 (c : Dev nD) (t : Fin cfg0.N) (y : S512x128.Idx) :
    (dats m 0 c).after 16 t y = gcAt (projs m c) (alLane m c) (dtLane m c) (tok t (y 0)) (y 1) := by
  by_cases h0 : t.val % 16 = 0
  · rw [after0_16, outsAt0_A m c t h0]; frame_out
    exact gc_blk m c t y
  · rw [after0_16, outsAt0_B m c t h0]; frame_out
    exact gc_blk m c t y

/-! ## The arrays after the last point -/

theorem final8 (c : Dev nD) : (dats m 0 c).arrAt 8 cfg0.N = fun i : S8192x1536.Idx => xqAt (projs m c) (i 0) (i 1) := by
  refine (dats m 0 c).arrAt_eq_of_covers 8 _ (by decide +kernel) fun t hf y => ?_
  blk_simp
  exact (out8 m c t y).trans (congrArg₂ (xqAt (projs m c)) (Fin.ext (by simp [idx_8 t])) (Fin.ext (by simp [idx_8 t])))
theorem final9 (c : Dev nD) : (dats m 0 c).arrAt 9 cfg0.N = fun i : S8192x128.Idx => baAt (projs m c) (i 0) (i 1) := by
  refine (dats m 0 c).arrAt_eq_of_covers 9 _ (by decide +kernel) fun t hf y => ?_
  blk_simp
  exact (out9 m c t y).trans (congrArg₂ (baAt (projs m c)) (Fin.ext (by simp [idx_9 t])) (Fin.ext (by simp [idx_9 t])))
theorem final10 (c : Dev nD) : (dats m 0 c).arrAt 10 cfg0.N = fun i : S8192x512.Idx => qAt (projs m c) (taps m c) (i 0) (i 1) := by
  refine (dats m 0 c).arrAt_eq_of_covers 10 _ (by decide +kernel) fun t hf y => ?_
  blk_simp
  exact (out10 m c t y).trans (congrArg₂ (qAt (projs m c) (taps m c)) (Fin.ext (by simp [idx_10 t])) (Fin.ext (by simp [idx_10 t])))
theorem final11 (c : Dev nD) : (dats m 0 c).arrAt 11 cfg0.N = fun i : S8192x512.Idx => kAt (projs m c) (taps m c) (i 0) (i 1) := by
  refine (dats m 0 c).arrAt_eq_of_covers 11 _ (by decide +kernel) fun t hf y => ?_
  blk_simp
  exact (out11 m c t y).trans (congrArg₂ (kAt (projs m c) (taps m c)) (Fin.ext (by simp [idx_11 t])) (Fin.ext (by simp [idx_11 t])))
theorem final12 (c : Dev nD) : (dats m 0 c).arrAt 12 cfg0.N = fun i : S8192x512.Idx => vAt (projs m c) (taps m c) (i 0) (i 1) := by
  refine (dats m 0 c).arrAt_eq_of_covers 12 _ (by decide +kernel) fun t hf y => ?_
  blk_simp
  exact (out12 m c t y).trans (congrArg₂ (vAt (projs m c) (taps m c)) (Fin.ext (by simp [idx_12 t])) (Fin.ext (by simp [idx_12 t])))
theorem final13 (c : Dev nD) : (dats m 0 c).arrAt 13 cfg0.N = fun i : S8192x512.Idx => zAt (projs m c) (i 0) (i 1) := by
  refine (dats m 0 c).arrAt_eq_of_covers 13 _ (by decide +kernel) fun t hf y => ?_
  blk_simp
  exact (out13 m c t y).trans (congrArg₂ (zAt (projs m c)) (Fin.ext (by simp [idx_13 t])) (Fin.ext (by simp [idx_13 t])))
theorem final14 (c : Dev nD) : (dats m 0 c).arrAt 14 cfg0.N = fun i : S8192x512.Idx => pAt (projs m c) (i 0) (i 1) := by
  refine (dats m 0 c).arrAt_eq_of_covers 14 _ (by decide +kernel) fun t hf y => ?_
  blk_simp
  exact (out14 m c t y).trans (congrArg₂ (pAt (projs m c)) (Fin.ext (by simp [idx_14 t])) (Fin.ext (by simp [idx_14 t])))
theorem final15 (c : Dev nD) : (dats m 0 c).arrAt 15 cfg0.N = fun i : S8192x128.Idx => bgAt (projs m c) (alLane m c) (dtLane m c) (i 0) (i 1) := by
  refine (dats m 0 c).arrAt_eq_of_covers 15 _ (by decide +kernel) fun t hf y => ?_
  blk_simp
  exact (out15 m c t y).trans (congrArg₂ (bgAt (projs m c) (alLane m c) (dtLane m c)) (Fin.ext (by simp [idx_15 t])) (Fin.ext (by simp [idx_15 t])))
theorem final16 (c : Dev nD) : (dats m 0 c).arrAt 16 cfg0.N = fun i : S8192x128.Idx => gcAt (projs m c) (alLane m c) (dtLane m c) (i 0) (i 1) := by
  refine (dats m 0 c).arrAt_eq_of_covers 16 _ (by decide +kernel) fun t hf y => ?_
  blk_simp
  exact (out16 m c t y).trans (congrArg₂ (gcAt (projs m c) (alLane m c) (dtLane m c)) (Fin.ext (by simp [idx_16 t])) (Fin.ext (by simp [idx_16 t])))

end Cert.DmIdeal.Step
-- ==== Proof.MixRef.lean ====
/-
  The arrays of the mixer's projections as the reference writes them: the columns of one product, the convolution as four shifted
  products, the norms of the heads, and the rate and the decay.
-/
module

public import Idealize.ShloMosaic.Lib.KernelVsHost
public import proofs.«01_k».proof.Proof.MixRow
public import proofs.«01_k».proof.Proof.Adam
public import proofs.«01_k».proof.Proof.FfnFwd
public import proofs.«01_k».proof.Proof.Gen.RmIdeal.Run
public import proofs.«01_k».proof.Proof.Gen.RmIdeal.Read

@[expose] public section

noncomputable section

namespace Cert.Proof.MixProj

open Idealize.ShloMosaic Idealize.ShloMosaic.TcCoe Idealize.SL.Sem
open Cert.NormRow Cert.HalfStep Cert.MixRow Cert.RmIdeal Cert.RmIdeal.Read
open Cert.DfIdeal.Step (row vec)
open Cert.Proof.FfnFwd (rh ref_h)
open Cert.Adam (eq_ix2_of eq_ix3_of)

section
variable (x : S8192x1024.Idx → EReal) (sh sc g : S1x1024.Idx → EReal) (w : S1024x2568.Idx → EReal) (cw : S4x1536.Idx → EReal)
  (al dt : S1x4.Idx → EReal)

/-- The projections' weight by column of the kernel's order: the eight columns of the rate and the decay come last, before columns of zeros. -/
def wAt (n : Fin 2688) (k : Fin 1024) : EReal :=
  if h1 : n.val < 2048 then w (ix2 k ⟨n.val, by omega⟩)
  else if h2 : n.val < 2560 then w (ix2 k ⟨n.val + 8, by omega⟩)
  else if h3 : n.val < 2568 then w (ix2 k ⟨n.val - 512, by omega⟩) else 0
def rP (t : Fin 8192) (n : Fin 2688) : EReal := ∑ k : Fin 1024, rh x sh sc g t k * wAt w n k
/-- Four numbers in lanes 4 to 7. -/
def lane (v : S1x4.Idx → EReal) (l : Fin 128) : EReal := if h : 4 ≤ l.val ∧ l.val < 8 then v (ix2 0 ⟨l.val - 4, by omega⟩) else 0
def rTap (j : Fin 4) (n : Fin 1536) : EReal := cw (ix2 j n)

/-! ## The columns of the product -/

theorem ref_h' (t : Fin 8192) (k : Fin 1024) : val_main_v17 (F := Ideal) x sh sc g (ix2 t k) = rh x sh sc g t k := ref_h x sh sc g t k

theorem wAt_lo (n : Fin 2688) (h : n.val < 2048) (k : Fin 1024) : wAt w n k = w (ix2 k ⟨n.val, by omega⟩) := by unfold wAt; rw [dif_pos h]
theorem wAt_mid (n : Fin 2688) (h : 2048 ≤ n.val) (h' : n.val < 2560) (k : Fin 1024) : wAt w n k = w (ix2 k ⟨n.val + 8, by omega⟩) := by
  unfold wAt; rw [dif_neg (by omega), dif_pos h']
theorem wAt_hi (n : Fin 2688) (h : 2560 ≤ n.val) (h' : n.val < 2568) (k : Fin 1024) : wAt w n k = w (ix2 k ⟨n.val - 512, by omega⟩) := by
  unfold wAt; rw [dif_neg (by omega), dif_neg (by omega), dif_pos h']
theorem wAt_end (n : Fin 2688) (h : 2568 ≤ n.val) (k : Fin 1024) : wAt w n k = 0 := by
  unfold wAt; rw [dif_neg (by omega), dif_neg (by omega), dif_neg (by omega)]

theorem ref_P (i : S8192x2568.Idx) (t : Fin 8192) (n : Fin 2688) (h0 : (i 0).val = t.val) (h : ∀ k, wAt w n k = w (ix2 k (i 1))) :
    val_main_v18 (F := Ideal) x sh sc g w i = rP x sh sc g w t n := by
  rw [val_main_v18_apply]
  unfold rP
  refine Finset.sum_congr rfl fun k _ => congrArg₂ (· * ·) ?_ (Eq.trans (congrArg w ?_) (h k).symm)
  · rw [eq_ix2_of (lidx_main_v18 i k) t k h0 rfl]; exact ref_h' x sh sc g t k
  · exact eq_ix2_of _ _ _ rfl rfl

theorem at_val {a b : Nat} (f : (⟨2, ![a, b]⟩ : Shape).Idx → EReal) (k : Fin a) (u v : Fin b) (h : u.val = v.val) : f (ix2 k u) = f (ix2 k v) :=
  congrArg (fun n => f (ix2 k n)) (Fin.ext h)

theorem ref_xq (i : S8192x1536.Idx) : val_main_v19 (F := Ideal) x sh sc g w i = xqAt (rP x sh sc g w) (i 0) (i 1) := by
  have h1 : (i 1).val < 1536 := (i 1).isLt
  rw [val_main_v19_apply]
  exact ref_P x sh sc g w _ _ _ rfl fun k => (wAt_lo w _ (by show (i 1).val < 2048; omega) k).trans (at_val w k _ _ rfl)
theorem ref_z (i : S8192x512.Idx) : val_main_v20 (F := Ideal) x sh sc g w i = zAt (rP x sh sc g w) (i 0) (i 1) := by
  have h1 : (i 1).val < 512 := (i 1).isLt
  rw [val_main_v20_apply]
  exact ref_P x sh sc g w _ _ _ rfl fun k => (wAt_lo w _ (by show 1536 + (i 1).val < 2048; omega) k).trans (at_val w k _ _ rfl)
theorem ref_p (i : S8192x512.Idx) : val_main_v23 (F := Ideal) x sh sc g w i = pAt (rP x sh sc g w) (i 0) (i 1) := by
  have h1 : (i 1).val < 512 := (i 1).isLt
  rw [val_main_v23_apply]
  exact ref_P x sh sc g w _ _ _ rfl fun k => (wAt_mid w _ (by show 2048 ≤ 2048 + (i 1).val; omega) (by show 2048 + (i 1).val < 2560; omega) k).trans
    (at_val w k _ _ (by show 2048 + (i 1).val + 8 = 2056 + (i 1).val; omega))
theorem ref_b (i : S8192x4.Idx) (l : Fin 128) (hl : l.val = (i 1).val) : val_main_v21 (F := Ideal) x sh sc g w i = baAt (rP x sh sc g w) (i 0) l := by
  have h1 : (i 1).val < 4 := (i 1).isLt
  rw [val_main_v21_apply]
  exact ref_P x sh sc g w _ _ _ rfl fun k => (wAt_hi w _ (by show 2560 ≤ 2560 + l.val; omega) (by show 2560 + l.val < 2568; omega) k).trans
    (at_val w k _ _ (by show 2560 + l.val - 512 = 2048 + (i 1).val; omega))
theorem ref_a (i : S8192x4.Idx) (l : Fin 128) (hl : l.val = 4 + (i 1).val) : val_main_v22 (F := Ideal) x sh sc g w i = baAt (rP x sh sc g w) (i 0) l := by
  have h1 : (i 1).val < 4 := (i 1).isLt
  rw [val_main_v22_apply]
  exact ref_P x sh sc g w _ _ _ rfl fun k => (wAt_hi w _ (by show 2560 ≤ 2560 + l.val; omega) (by show 2560 + l.val < 2568; omega) k).trans
    (at_val w k _ _ (by show 2560 + l.val - 512 = 2052 + (i 1).val; omega))
theorem rP_end (t : Fin 8192) (n : Fin 2688) (h : 2568 ≤ n.val) : rP x sh sc g w t n = 0 := by
  unfold rP
  exact Finset.sum_eq_zero fun k _ => by rw [wAt_end w n h, mul_zero]

/-! ## The convolution -/

theorem ref_pad (i : S8195x1536.Idx) (t : Fin 8192) (j : Fin 4) (n : Fin 1536) (h0 : (i 0).val = j.val + t.val) (h1 : (i 1).val = n.val) :
    val_main_v24 (F := Ideal) x sh sc g w i = before (rP x sh sc g w) t j n := by
  unfold val_main_v24 before
  split
  · rename_i h
    refine (pad_apply_of_inside _ _ _ _ _ _ _ i (ix2 (⟨t.val + j.val - 3, by have := j.isLt; omega⟩ : Fin 8192) n) (fun a => match a with
      | ⟨0, _⟩ => by show (i 0).val = 3 + (t.val + j.val - 3) * (0 + 1); omega
      | ⟨1, _⟩ => by show (i 1).val = 0 + n.val * (0 + 1); omega)).trans ?_
    exact ref_xq x sh sc g w _
  · rename_i h
    refine (pad_apply_of_not_inside _ _ _ _ _ _ _ i 0 (fun hh => ?_)).trans ?_
    · have : 3 ≤ (i 0).val := hh.1
      omega
    · rw [val_main_call0_v0_apply, val_main_c_apply]
      show (((0#32 : BitVec 32).toInt : ℝ) : EReal) = 0
      simp

theorem ref_w0 (i : S8192x1536.Idx) : val_main_v29 (F := Ideal) cw i = rTap cw 0 (i 1) := by
  have h1 : (i 1).val < 1536 := (i 1).isLt
  rw [val_main_v29_apply, val_main_v28_apply, val_main_v26_apply, val_main_v25_apply]
  exact congrArg cw (eq_ix2_of _ _ _ rfl (Nat.mod_eq_of_lt h1))
theorem ref_w1 (i : S8192x1536.Idx) : val_main_v37 (F := Ideal) cw i = rTap cw 1 (i 1) := by
  have h1 : (i 1).val < 1536 := (i 1).isLt
  rw [val_main_v37_apply, val_main_v36_apply, val_main_v34_apply, val_main_v33_apply]
  exact congrArg cw (eq_ix2_of _ _ _ rfl (Nat.mod_eq_of_lt h1))
theorem ref_w2 (i : S8192x1536.Idx) : val_main_v44 (F := Ideal) cw i = rTap cw 2 (i 1) := by
  have h1 : (i 1).val < 1536 := (i 1).isLt
  rw [val_main_v44_apply, val_main_v43_apply, val_main_v41_apply, val_main_v40_apply]
  exact congrArg cw (eq_ix2_of _ _ _ rfl (Nat.mod_eq_of_lt h1))
theorem ref_w3 (i : S8192x1536.Idx) : val_main_v51 (F := Ideal) cw i = rTap cw 3 (i 1) := by
  have h1 : (i 1).val < 1536 := (i 1).isLt
  rw [val_main_v51_apply, val_main_v50_apply, val_main_v48_apply, val_main_v47_apply]
  exact congrArg cw (eq_ix2_of _ _ _ rfl (Nat.mod_eq_of_lt h1))

theorem ref_conv (i : S8192x1536.Idx) : val_main_v53 (F := Ideal) x sh sc g w cw i = conv (rP x sh sc g w) (rTap cw) (i 0) (i 1) := by
  rw [val_main_v53_apply, val_main_v46_apply, val_main_v39_apply, val_main_v32_apply, val_main_v31_apply, val_main_cst_3_apply,
    val_main_v30_apply, val_main_v38_apply, val_main_v45_apply, val_main_v52_apply, ref_w0, ref_w1, ref_w2, ref_w3,
    val_main_v27_apply, val_main_v35_apply, val_main_v42_apply, val_main_v49_apply,
    ref_pad x sh sc g w (idx_main_v27 i) (i 0) 0 (i 1) (Nat.zero_add _).symm rfl, ref_pad x sh sc g w (idx_main_v35 i) (i 0) 1 (i 1) rfl rfl,
    ref_pad x sh sc g w (idx_main_v42 i) (i 0) 2 (i 1) rfl rfl, ref_pad x sh sc g w (idx_main_v49 i) (i 0) 3 (i 1) rfl rfl,
    Ideal.ofBits_def, Ideal.ofBits_zero_f32]
  unfold conv
  exact congrArg (· + _) (congrArg (· + _) (congrArg (· + _) (zero_add _)))

theorem ref_qkv (i : S8192x1536.Idx) : val_main_v54 (F := Ideal) x sh sc g w cw i = qkv (rP x sh sc g w) (rTap cw) (i 0) (i 1) := by
  rw [val_main_v54_apply, val_main_call1_v5_apply, val_main_call1_v4_apply, val_main_call1_cst_0_apply, val_main_call1_v3_apply,
    val_main_call1_v2_apply, val_main_call1_cst_apply, val_main_call1_v1_apply, val_main_call1_v0_apply, ref_conv, Ideal.ofBits_def, Ideal.ofBits_one_f32]
  unfold qkv gate
  rw [sgm_eq]; rfl
theorem ref_v (i : S8192x512.Idx) : val_main_v57 (F := Ideal) x sh sc g w cw i = vAt (rP x sh sc g w) (rTap cw) (i 0) (i 1) := by
  rw [val_main_v57_apply, ref_qkv]; rfl

/-! ## The heads -/

theorem ref_qrow (i : S8192x4x128.Idx) (t : Fin 8192) (n : Fin 512) (l : Fin 128) (h0 : (i 0).val = t.val) (h1 : (i 1).val = n.val / 128)
    (h2 : (i 2).val = l.val) : val_main_v58 (F := Ideal) x sh sc g w cw i = headRow (rP x sh sc g w) (rTap cw) 0 (by omega) t n l := by
  rw [val_main_v58_apply, val_main_v55_apply, ref_qkv]
  refine congrArg₂ (qkv _ _) (Fin.ext ?_) (Fin.ext ?_)
  · show (((i 0).val * 4 + (i 1).val) * 128 + (i 2).val) / 512 = t.val; omega
  · show (((i 0).val * 4 + (i 1).val) * 128 + (i 2).val) % 512 = 0 + (n.val / 128 * 128 + l.val); omega
theorem ref_krow (i : S8192x4x128.Idx) (t : Fin 8192) (n : Fin 512) (l : Fin 128) (h0 : (i 0).val = t.val) (h1 : (i 1).val = n.val / 128)
    (h2 : (i 2).val = l.val) : val_main_v69 (F := Ideal) x sh sc g w cw i = headRow (rP x sh sc g w) (rTap cw) 512 (by omega) t n l := by
  rw [val_main_v69_apply, val_main_v56_apply, ref_qkv]
  refine congrArg₂ (qkv _ _) (Fin.ext ?_) (Fin.ext ?_)
  · show (((i 0).val * 4 + (i 1).val) * 128 + (i 2).val) / 512 = t.val; omega
  · show 512 + (((i 0).val * 4 + (i 1).val) * 128 + (i 2).val) % 512 = 512 + (n.val / 128 * 128 + l.val); omega

theorem ref_qunit (i : S8192x4x1.Idx) (t : Fin 8192) (n : Fin 512) (h0 : (i 0).val = t.val) (h1 : (i 1).val = n.val / 128) :
    val_main_v64 (F := Ideal) x sh sc g w cw i = unitF (headRow (rP x sh sc g w) (rTap cw) 0 (by omega) t n) := by
  rw [val_main_v64_apply, val_main_v63_apply, val_main_v61_apply, val_main_v60_apply, val_main_v62_apply, val_main_cst_4_apply, val_main_cst_5_apply,
    Ideal.ofBits_def, Ideal.ofBits_zero_f32, zero_add]
  unfold unitF
  refine congrArg (fun s => Ideal.rsqrt (s + eps)) (Finset.sum_congr rfl fun k _ => ?_)
  rw [val_main_v59_apply, ref_qrow x sh sc g w cw (idx_main_v60 (idx_main_v61 i) k) t n k h0 h1 rfl]; rfl
theorem ref_kunit (i : S8192x4x1.Idx) (t : Fin 8192) (n : Fin 512) (h0 : (i 0).val = t.val) (h1 : (i 1).val = n.val / 128) :
    val_main_v75 (F := Ideal) x sh sc g w cw i = unitF (headRow (rP x sh sc g w) (rTap cw) 512 (by omega) t n) := by
  rw [val_main_v75_apply, val_main_v74_apply, val_main_v72_apply, val_main_v71_apply, val_main_v73_apply, val_main_cst_7_apply, val_main_cst_8_apply,
    Ideal.ofBits_def, Ideal.ofBits_zero_f32, zero_add]
  unfold unitF
  refine congrArg (fun s => Ideal.rsqrt (s + eps)) (Finset.sum_congr rfl fun k _ => ?_)
  rw [val_main_v70_apply, ref_krow x sh sc g w cw (idx_main_v71 (idx_main_v72 i) k) t n k h0 h1 rfl]; rfl

theorem ref_q (i : S8192x512.Idx) : val_main_v100 (F := Ideal) x sh sc g w cw i = qAt (rP x sh sc g w) (rTap cw) (i 0) (i 1) := by
  have a0 : (i 0).val < 8192 := (i 0).isLt
  have a1 : (i 1).val < 512 := (i 1).isLt
  have e0 : ((i 0).val * 512 + (i 1).val) / 512 = (i 0).val := by omega
  have e1 : ((i 0).val * 512 + (i 1).val) / 128 % 4 = (i 1).val / 128 := by omega
  have e2 : ((i 0).val * 512 + (i 1).val) % 128 = (i 1).val % 128 := by omega
  rw [val_main_v100_apply, val_main_v68_apply, val_main_v66_apply, val_main_v65_apply, val_main_v67_apply, val_main_cst_6_apply,
    ref_qrow x sh sc g w cw (idx_main_v100 i) (i 0) (i 1) ⟨(i 1).val % 128, Nat.mod_lt _ (by decide)⟩ e0 e1 e2,
    ref_qunit x sh sc g w cw (idx_main_v65 (idx_main_v100 i)) (i 0) (i 1) e0 e1]
  exact mul_assoc _ _ _
theorem ref_k (i : S8192x512.Idx) : val_main_v101 (F := Ideal) x sh sc g w cw i = kAt (rP x sh sc g w) (rTap cw) (i 0) (i 1) := by
  have a0 : (i 0).val < 8192 := (i 0).isLt
  have a1 : (i 1).val < 512 := (i 1).isLt
  have e0 : ((i 0).val * 512 + (i 1).val) / 512 = (i 0).val := by omega
  have e1 : ((i 0).val * 512 + (i 1).val) / 128 % 4 = (i 1).val / 128 := by omega
  have e2 : ((i 0).val * 512 + (i 1).val) % 128 = (i 1).val % 128 := by omega
  rw [val_main_v101_apply, val_main_v77_apply, val_main_v76_apply,
    ref_krow x sh sc g w cw (idx_main_v101 i) (i 0) (i 1) ⟨(i 1).val % 128, Nat.mod_lt _ (by decide)⟩ e0 e1 e2,
    ref_kunit x sh sc g w cw (idx_main_v76 (idx_main_v101 i)) (i 0) (i 1) e0 e1]
  rfl

/-! ## The rate and the decay -/

theorem ref_beta (i : S8192x4.Idx) (l : Fin 128) (hl : l.val = (i 1).val) : val_main_v83 (F := Ideal) x sh sc g w i = sgm (baAt (rP x sh sc g w) (i 0) l) := by
  rw [val_main_v83_apply, val_main_v82_apply, val_main_cst_10_apply, val_main_v81_apply, val_main_v80_apply, val_main_cst_9_apply, val_main_v79_apply,
    val_main_v78_apply, ref_b x sh sc g w i l hl, Ideal.ofBits_def, Ideal.ofBits_one_f32, sgm_eq]
  rfl

theorem lane_at (v : S1x4.Idx → EReal) (j : S1x4.Idx) (l : Fin 128) (h0 : (j 0).val = 0) (h : l.val = 4 + (j 1).val) : v j = lane v l := by
  have h1 : (j 1).val < 4 := (j 1).isLt
  unfold lane
  rw [dif_pos (by omega)]
  exact congrArg v (eq_ix2_of _ _ _ h0 (by show (j 1).val = l.val - 4; omega))

theorem ref_al (i : S8192x4.Idx) (l : Fin 128) (hl : l.val = 4 + (i 1).val) : val_main_v93 (F := Ideal) al i = 0 - Ideal.exp (lane al l) := by
  have h1 : (i 1).val < 4 := (i 1).isLt
  rw [val_main_v93_apply, val_main_v92_apply, val_main_v86_apply, val_main_v85_apply, val_main_v84_apply,
    lane_at al _ l rfl (by show l.val = 4 + (i 1).val % 4; omega), zero_sub]
  rfl
theorem ref_adt (i : S8192x4.Idx) (l : Fin 128) (hl : l.val = 4 + (i 1).val) :
    val_main_v90 (F := Ideal) x sh sc g w dt i = baAt (rP x sh sc g w) (i 0) l + lane dt l := by
  have h1 : (i 1).val < 4 := (i 1).isLt
  rw [val_main_v90_apply, ref_a x sh sc g w i l hl, val_main_v89_apply, val_main_v88_apply, val_main_v87_apply,
    lane_at dt _ l rfl (by show l.val = 4 + (i 1).val % 4; omega)]
  rfl
theorem ref_sp (i : S8192x4.Idx) (l : Fin 128) (hl : l.val = 4 + (i 1).val) :
    val_main_v91 (F := Ideal) x sh sc g w dt i = softplus (baAt (rP x sh sc g w) (i 0) l + lane dt l) := by
  rw [val_main_v91_apply, val_main_call2_v4_apply, val_main_call2_v11_apply, val_main_call2_v1_apply, val_main_call2_v0_apply,
    val_main_call2_v10_apply, val_main_call2_v9_apply, val_main_call2_v8_apply, val_main_call2_v7_apply, val_main_call2_v3_apply,
    val_main_call2_v2_apply, val_main_call2_cst_apply, ref_adt x sh sc g w dt i l hl, Ideal.ofBits_def, Ideal.ofBits_zero_f32]
  generalize baAt (rP x sh sc g w) (i 0) l + lane dt l = a
  have e : (FloatOps.subf a (0 : EReal) : Ideal .f32) = a := sub_zero a
  have z : FloatOps.cmpf (F := Ideal) (φ := .f32) .une a a = 0#1 := by
    show Ideal.cmp .une a a = 0#1
    simp [Ideal.cmp]
  rw [e, z]
  unfold softplus
  rw [zero_sub]
  rfl
theorem ref_g (i : S8192x4.Idx) (l : Fin 128) (hl : l.val = 4 + (i 1).val) :
    val_main_v94 (F := Ideal) x sh sc g w al dt i = gAt (rP x sh sc g w) (lane al) (lane dt) (i 0) l := by
  have h1 : (i 1).val < 4 := (i 1).isLt
  rw [val_main_v94_apply, ref_al al i l hl, ref_sp x sh sc g w dt i l hl]
  unfold gAt
  rw [if_pos (by omega)]
  rfl

/-! ## The sum from the start of a chunk -/

/-- The rows of a window of 64. -/
def winRows : Fin 64 ≃ (⟨3, ![1, 64, 1]⟩ : Shape).Idx where
  toFun k := ix3 0 k 0
  invFun q := q 1
  left_inv _ := rfl
  right_inv q := by
    have a0 : (q 0).val < 1 := (q 0).isLt
    have a2 : (q 2).val < 1 := (q 2).isLt
    exact (eq_ix3_of q 0 (q 1) 0 (by show _ = 0; omega) rfl (by show _ = 0; omega)).symm

theorem either_way {p : Prop} (i i' : Decidable p) (a : p → EReal) (b : ¬p → EReal) : @dite EReal p i a b = @dite EReal p i' a b := by
  cases Subsingleton.elim i i'; rfl

theorem window_at (f : S128x64x4.Idx → EReal) (j : S128x64x4.Idx) (v : S_.Idx → EReal) (hv : ∀ i, v i = 0)
    (h : S128x64x4.ReduceWindows (![1, 64, 1] : Fin 3 → Nat) ![1, 1, 1] ![0, 63, 0] ![0, 0, 0] S128x64x4) (hu : 0 < S_.numel) :
    Host.reduceWindowAdd (F := Ideal) (φ := .f32) ![1, 64, 1] ![1, 1, 1] ![0, 63, 0] ![0, 0, 0] f v h hu j
      = ∑ k ∈ Finset.range ((j 1).val + 1), (fun i : Nat => if h : i < 64 then f (ix3 (j 0) ⟨i, h⟩ (j 2)) else 0) ((j 1).val - k) := by
  have b0 : (j 0).val < 128 := (j 0).isLt
  have b1 : (j 1).val < 64 := (j 1).isLt
  have b2 : (j 2).val < 4 := (j 2).isLt
  unfold Host.reduceWindowAdd
  rw [Ideal.hostReduceWindowAdd_def, hv]
  unfold Ideal.hostReduceWindowAdd Host.reduceWindow
  refine (foldl_sum _ _).trans ?_
  refine (zero_add _).trans (Eq.trans ?_ (window (fun i : Nat => if h : i < 64 then f (ix3 (j 0) ⟨i, h⟩ (j 2)) else 0) (j 1).val b1))
  rw [Finset.sum_range]
  refine (Finset.sum_congr rfl fun n _ => either_way _ (FinRange.decidableForall _) _ _).trans ?_
  refine ((Equiv.sum_comp ((⟨3, ![1, 64, 1]⟩ : Shape).rowMajor.symm)
    (fun q : (⟨3, ![1, 64, 1]⟩ : Shape).Idx => if hin : ∀ a : Fin 3, (![0, 63, 0] : Fin 3 → Nat) a ≤ (j a).val * (![1, 1, 1] : Fin 3 → Nat) a + (q a).val ∧
      (j a).val * (![1, 1, 1] : Fin 3 → Nat) a + (q a).val - (![0, 63, 0] : Fin 3 → Nat) a < S128x64x4.size a
      then f (fun a => ⟨(j a).val * (![1, 1, 1] : Fin 3 → Nat) a + (q a).val - (![0, 63, 0] : Fin 3 → Nat) a, (hin a).2⟩) else (0 : EReal))).trans
    (Equiv.sum_comp winRows _).symm).trans ?_
  refine Finset.sum_congr rfl fun k _ => ?_
  have hk : k.val < 64 := k.isLt
  by_cases c : 63 ≤ (j 1).val + k.val
  · rw [if_pos c, dif_pos (show (j 1).val + k.val - 63 < 64 by omega), dif_pos (fun a => match a with
      | ⟨0, _⟩ => ⟨Nat.zero_le _, by show (j 0).val * 1 + 0 - 0 < 128; omega⟩
      | ⟨1, _⟩ => ⟨by show 63 ≤ (j 1).val * 1 + k.val; omega, by show (j 1).val * 1 + k.val - 63 < 64; omega⟩
      | ⟨2, _⟩ => ⟨Nat.zero_le _, by show (j 2).val * 1 + 0 - 0 < 4; omega⟩)]
    exact congrArg f (eq_ix3_of _ _ _ _ (by show (j 0).val * 1 + 0 - 0 = (j 0).val; omega) (by show (j 1).val * 1 + k.val - 63 = (j 1).val + k.val - 63; omega)
      (by show (j 2).val * 1 + 0 - 0 = (j 2).val; omega))
  · rw [if_neg c, dif_neg]
    intro hin
    have : 63 ≤ (j 1).val * 1 + k.val := (hin 1).1
    omega

theorem ref_gc (i : S8192x4.Idx) (l : Fin 128) (hl : l.val = 4 + (i 1).val) :
    val_main_v97 (F := Ideal) x sh sc g w al dt i = gcAt (rP x sh sc g w) (lane al) (lane dt) (i 0) l := by
  have a0 : (i 0).val < 8192 := (i 0).isLt
  have a1 : (i 1).val < 4 := (i 1).isLt
  rw [val_main_v97_apply]
  unfold val_main_v96
  refine (window_at _ _ _ (fun _ => ?_) _ _).trans ?_
  · rw [val_main_call3_call0_v0_apply, val_main_call3_call0_cst_apply, Ideal.ofBits_def, Ideal.ofBits_zero_f32]
  have e : ((idx_main_v97 i) 1).val = (i 0).val % 64 := by show ((i 0).val * 4 + (i 1).val) / 4 % 64 = _; omega
  rw [e]
  unfold gcAt
  refine Finset.sum_congr rfl fun k hk => ?_
  have hk' : k < (i 0).val % 64 + 1 := Finset.mem_range.mp hk
  show (if h : (i 0).val % 64 - k < 64 then _ else _) = _
  rw [dif_pos (show (i 0).val % 64 - k < 64 by omega), val_main_v95_apply, ref_g x sh sc g w al dt _ l ?_]
  · refine congrArg (fun t => gAt _ _ _ t l) (Fin.ext ?_)
    show ((((i 0).val * 4 + (i 1).val) / 256 * 64 + ((i 0).val % 64 - k)) * 4 + ((i 0).val * 4 + (i 1).val) % 4) / 4 = (i 0).val - k
    omega
  · show l.val = 4 + ((((i 0).val * 4 + (i 1).val) / 256 * 64 + ((i 0).val % 64 - k)) * 4 + ((i 0).val * 4 + (i 1).val) % 4) % 4
    omega

/-! ## The lanes -/

theorem in_lanes (a b : S8192x4.Idx → EReal) (z : S8192x120.Idx → EReal) (h : Shape.Concatenates [S8192x4, S8192x4, S8192x120] S8192x128 1)
    (f : Fin 8192 → Fin 128 → EReal) (ha : ∀ (i : S8192x4.Idx) (l : Fin 128), l.val = (i 1).val → a i = f (i 0) l)
    (hb : ∀ (i : S8192x4.Idx) (l : Fin 128), l.val = 4 + (i 1).val → b i = f (i 0) l) (hz : ∀ i, z i = 0) (h0 : ∀ t (l : Fin 128), 8 ≤ l.val → f t l = 0) :
    concatenate S8192x128 1 [⟨S8192x4, a⟩, ⟨S8192x4, b⟩, ⟨S8192x120, z⟩] h = fun i => f (i 0) (i 1) := by
  funext i
  have h1 : (i 1).val < 128 := (i 1).isLt
  by_cases c : (i 1).val < 4
  · refine (concatenate_apply_piece 1 [⟨S8192x4, a⟩, ⟨S8192x4, b⟩, ⟨S8192x120, z⟩] h i 0 (Nat.succ_pos _) S8192x4 a rfl rfl 0 rfl (ix2 (i 0) ⟨(i 1).val, c⟩) (fun b hb => match b with
      | ⟨0, _⟩ => rfl
      | ⟨1, _⟩ => absurd rfl hb) (Nat.zero_add _)).trans (ha _ _ rfl)
  · by_cases c' : (i 1).val < 8
    · refine (concatenate_apply_piece 1 [⟨S8192x4, a⟩, ⟨S8192x4, b⟩, ⟨S8192x120, z⟩] h i 1 (by show 1 < 3; omega) S8192x4 b rfl rfl 4 rfl (ix2 (i 0) ⟨(i 1).val - 4, by omega⟩) (fun b hb => match b with
        | ⟨0, _⟩ => rfl
        | ⟨1, _⟩ => absurd rfl hb) (by show 4 + ((i 1).val - 4) = (i 1).val; omega)).trans (hb _ _ (by show (i 1).val = 4 + ((i 1).val - 4); omega))
    · refine ((concatenate_apply_piece 1 [⟨S8192x4, a⟩, ⟨S8192x4, b⟩, ⟨S8192x120, z⟩] h i 2 (by show 2 < 3; omega) S8192x120 z rfl rfl 8 rfl (ix2 (i 0) ⟨(i 1).val - 8, by omega⟩) (fun b hb => match b with
        | ⟨0, _⟩ => rfl
        | ⟨1, _⟩ => absurd rfl hb) (by show 8 + ((i 1).val - 8) = (i 1).val; omega)).trans (hz _)).trans (h0 _ _ (by show 8 ≤ (i 1).val; omega)).symm

theorem ba_end (t : Fin 8192) (l : Fin 128) (h : 8 ≤ l.val) : baAt (rP x sh sc g w) t l = 0 :=
  rP_end x sh sc g w t _ (by show 2568 ≤ 2560 + l.val; omega)
theorem g_out (P : Fin 8192 → Fin 2688 → EReal) (u v : Fin 128 → EReal) (t : Fin 8192) (l : Fin 128) (h : ¬(4 ≤ l.val ∧ l.val < 8)) : gAt P u v t l = 0 := if_neg h
theorem gc_out (P : Fin 8192 → Fin 2688 → EReal) (u v : Fin 128 → EReal) (t : Fin 8192) (l : Fin 128) (h : ¬(4 ≤ l.val ∧ l.val < 8)) : gcAt P u v t l = 0 :=
  Finset.sum_eq_zero fun _ _ => g_out P u v _ l h

theorem ref_ba : val_main_v99 (F := Ideal) x sh sc g w = fun i : S8192x128.Idx => baAt (rP x sh sc g w) (i 0) (i 1) := by
  unfold val_main_v99
  refine in_lanes _ _ _ _ _ (ref_b x sh sc g w) (ref_a x sh sc g w) (fun _ => ?_) (ba_end x sh sc g w)
  rw [val_main_v98_apply, val_main_cst_11_apply, Ideal.ofBits_def, Ideal.ofBits_zero_f32]
theorem ref_bg : val_main_v103 (F := Ideal) x sh sc g w al dt = fun i : S8192x128.Idx => bgAt (rP x sh sc g w) (lane al) (lane dt) (i 0) (i 1) := by
  unfold val_main_v103
  refine in_lanes _ _ _ _ (bgAt (rP x sh sc g w) (lane al) (lane dt)) (fun i l hl => ?_) (fun i l hl => ?_) (fun _ => ?_) (fun t l h => ?_)
  · have h1 : (i 1).val < 4 := (i 1).isLt
    unfold bgAt
    rw [ref_beta x sh sc g w i l hl, if_pos (by omega), g_out (rP x sh sc g w) (lane al) (lane dt) (i 0) l (by omega), add_zero]
  · unfold bgAt
    rw [ref_g x sh sc g w al dt i l hl, if_neg (by omega), zero_add]
  · rw [val_main_v102_apply, val_main_cst_12_apply, Ideal.ofBits_def, Ideal.ofBits_zero_f32]
  · unfold bgAt
    rw [if_neg (by omega), g_out (rP x sh sc g w) (lane al) (lane dt) t l (by omega), add_zero]
theorem ref_gcum : val_main_v106 (F := Ideal) x sh sc g w al dt = fun i : S8192x128.Idx => gcAt (rP x sh sc g w) (lane al) (lane dt) (i 0) (i 1) := by
  unfold val_main_v106
  refine in_lanes _ _ _ _ (gcAt (rP x sh sc g w) (lane al) (lane dt)) (fun i l hl => ?_) (fun i l hl => ref_gc x sh sc g w al dt i l hl) (fun _ => ?_) (fun t l h => ?_)
  · have h1 : (i 1).val < 4 := (i 1).isLt
    rw [gc_out (rP x sh sc g w) (lane al) (lane dt) (i 0) l (by omega), val_main_v104_apply, val_main_cst_13_apply, Ideal.ofBits_def, Ideal.ofBits_zero_f32]
  · rw [val_main_v105_apply, val_main_cst_14_apply, Ideal.ofBits_def, Ideal.ofBits_zero_f32]
  · exact gc_out _ _ _ t l (by omega)
end
end Cert.Proof.MixProj
-- ==== Proof.MixHost.lean ====
/-
  What the mixer's projections are given: the weight's columns in the call's order, with 120 columns of zeros at the end, and the
  two rows of 128 lanes with four numbers each in lanes 4 to 7.
-/
module

public import proofs.«01_k».proof.Proof.MixArrays
public import proofs.«01_k».proof.Proof.MixRef

@[expose] public section

noncomputable section

namespace Cert.DmIdeal.Step

open Idealize.ShloMosaic Idealize.ShloMosaic.TcCoe Idealize.SL.Sem
open Cert.DmIdeal Cert.DmIdeal.Gen Cert.NormRow Cert.HalfStep Cert.MixRow
open Cert.Adam (eq_ix2_of)
open Cert.Proof.MixProj (wAt wAt_lo wAt_mid wAt_hi wAt_end lane)

variable (m : (ℓ : Loc nD τ sig) → Buf (Elt Ideal) ℓ)

theorem V0_at (c : Dev nD) (i : S8192x1024.Idx) : V m c main_arg0 i = m (c, Proc.tc.devRef main_arg0) i := by
  unfold V; after_reads_at
theorem V1_at (c : Dev nD) (i : S1x1024.Idx) : V m c main_arg1 i = m (c, Proc.tc.devRef main_arg1) i := by
  unfold V; after_reads_at
theorem V2_at (c : Dev nD) (i : S1x1024.Idx) : V m c main_arg2 i = m (c, Proc.tc.devRef main_arg2) i := by
  unfold V; after_reads_at
theorem V3_at (c : Dev nD) (i : S1x1024.Idx) : V m c main_arg3 i = m (c, Proc.tc.devRef main_arg3) i := by
  unfold V; after_reads_at
theorem V5_at (c : Dev nD) (i : S4x1536.Idx) : V m c main_arg5 i = m (c, Proc.tc.devRef main_arg5) i := by
  unfold V; after_reads_at

/-! ## The weight -/

abbrev wArr (c : Dev nD) : S1024x2568.Idx → EReal := m (c, Proc.tc.devRef main_arg4)

theorem V6_at (c : Dev nD) (n : Fin 2688) (k : Fin 1024) : V m c main_v6 (ix2 n k) = wAt (wArr m c) n k := by
  unfold V; after_reads_at
  by_cases h1 : n.val < 2048
  · rw [dif_pos h1, wAt_lo _ n h1]
    after_reads_at
  · rw [dif_neg h1]
    by_cases h2 : n.val - 2048 < 512
    · rw [dif_pos h2, wAt_mid _ n (by omega) (by omega)]
      after_reads_at
      exact congrArg (wArr m c) (eq_ix2_of _ _ _ rfl (by show 2056 + (n.val - 2048) = n.val + 8; omega))
    · rw [dif_neg h2]
      by_cases h3 : n.val - 2048 - 512 < 8
      · rw [dif_pos h3, wAt_hi _ n (by omega) (by omega)]
        after_reads_at
        exact congrArg (wArr m c) (eq_ix2_of _ _ _ rfl (by show 2048 + (n.val - 2048 - 512) = n.val - 512; omega))
      · rw [dif_neg h3, wAt_end _ n (by omega)]
        after_reads_at

/-! ## The rows of lanes -/

/-- Where each of the four numbers lands among the 128 lanes. -/
theorem lands (idx : IVec S2 32) (h : ∀ k, idx k = (![0#32, 4#32] : Fin 2 → BitVec 32) (k 0)) (j : S4.Idx) :
    scatter_S1x128_S2_S4_0_0_01_0.resultIdx? j idx = some (ix2 0 ⟨4 + (j 0).val, by have : (j 0).val < 4 := (j 0).isLt; omega⟩) := by
  have hj : (j 0).val < 4 := (j 0).isLt
  have s0 : scatter_S1x128_S2_S4_0_0_01_0.start j idx 0 = 0 := by
    unfold ScatterDims.start
    rw [dif_pos (by decide), h]; rfl
  have s1 : scatter_S1x128_S2_S4_0_0_01_0.start j idx 1 = 4 := by
    unfold ScatterDims.start
    rw [dif_pos (by decide), h]; rfl
  have w0 : scatter_S1x128_S2_S4_0_0_01_0.window j 0 = 0 := by
    unfold ScatterDims.window
    rw [dif_neg (by decide)]
  have w1 : scatter_S1x128_S2_S4_0_0_01_0.window j 1 = (j 0).val := by
    unfold ScatterDims.window
    rw [dif_pos (by decide)]; rfl
  unfold ScatterDims.resultIdx?
  rw [dif_pos (fun a => match a with
    | ⟨0, _⟩ => by
        show 0 ≤ scatter_S1x128_S2_S4_0_0_01_0.start j idx 0 + scatter_S1x128_S2_S4_0_0_01_0.window j 0 ∧ scatter_S1x128_S2_S4_0_0_01_0.start j idx 0 + scatter_S1x128_S2_S4_0_0_01_0.window j 0 < (1 : Nat)
        rw [s0, w0]; decide
    | ⟨1, _⟩ => by
        show 0 ≤ scatter_S1x128_S2_S4_0_0_01_0.start j idx 1 + scatter_S1x128_S2_S4_0_0_01_0.window j 1 ∧ scatter_S1x128_S2_S4_0_0_01_0.start j idx 1 + scatter_S1x128_S2_S4_0_0_01_0.window j 1 < (128 : Nat)
        rw [s1, w1]; omega)]
  refine congrArg some (eq_ix2_of _ _ _ ?_ ?_)
  · show (scatter_S1x128_S2_S4_0_0_01_0.start j idx 0 + scatter_S1x128_S2_S4_0_0_01_0.window j 0).toNat = 0
    rw [s0, w0]; rfl
  · show (scatter_S1x128_S2_S4_0_0_01_0.start j idx 1 + scatter_S1x128_S2_S4_0_0_01_0.window j 1).toNat = 4 + (j 0).val
    rw [s1, w1]; omega

/-- The four numbers written over zeros. -/
theorem placed (x : S1x128.Idx → EReal) (hx : ∀ i, x i = 0) (idx : IVec S2 32) (h : ∀ k, idx k = (![0#32, 4#32] : Fin 2 → BitVec 32) (k 0))
    (v : S1x4.Idx → EReal) (l : Fin 128) :
    Host.scatter scatter_S1x128_S2_S4_0_0_01_0 (fun _ b => b) x idx (fun i : S4.Idx => v (ix2 0 (i 0))) (ix2 0 l) = lane v l := by
  have hn : ∀ n : Fin S4.numel, ((S4.rowMajor.symm n) 0).val = n.val := by decide
  unfold Host.scatter
  simp only [lands idx h]
  have hl : List.finRange S4.numel = [⟨0, by decide⟩, ⟨1, by decide⟩, ⟨2, by decide⟩, ⟨3, by decide⟩] := by decide
  rw [hl]
  simp only [List.foldl_cons, List.foldl_nil, hn]
  have at4 : ∀ n : Fin S4.numel, (ix2 0 l : S1x128.Idx) = ix2 0 ⟨4 + n.val, by have : n.val < 4 := n.isLt; omega⟩ ↔ l.val = 4 + n.val :=
    fun n => ⟨fun e => congrArg Fin.val (congrFun e 1), fun e => congrArg (ix2 0) (Fin.ext e)⟩
  have val : ∀ n : Fin S4.numel, l.val = 4 + n.val → v (ix2 0 (S4.rowMajor.symm n 0)) = lane v l := fun n e => by
    have hn4 : n.val < 4 := n.isLt
    unfold lane
    rw [dif_pos (by omega)]
    exact congrArg v (congrArg (ix2 0) (Fin.ext ((hn n).trans (by show n.val = l.val - 4; omega))))
  split
  · rename_i e; exact val ⟨3, by decide⟩ ((at4 ⟨3, by decide⟩).1 e)
  rename_i e3
  split
  · rename_i e; exact val ⟨2, by decide⟩ ((at4 ⟨2, by decide⟩).1 e)
  rename_i e2
  split
  · rename_i e; exact val ⟨1, by decide⟩ ((at4 ⟨1, by decide⟩).1 e)
  rename_i e1
  split
  · rename_i e; exact val ⟨0, by decide⟩ ((at4 ⟨0, by decide⟩).1 e)
  rename_i e0
  have n3 : ¬ l.val = 4 + 3 := fun e => e3 ((at4 ⟨3, by decide⟩).2 e)
  have n2 : ¬ l.val = 4 + 2 := fun e => e2 ((at4 ⟨2, by decide⟩).2 e)
  have n1 : ¬ l.val = 4 + 1 := fun e => e1 ((at4 ⟨1, by decide⟩).2 e)
  have n0 : ¬ l.val = 4 + 0 := fun e => e0 ((at4 ⟨0, by decide⟩).2 e)
  unfold lane
  rw [hx, dif_neg (by omega)]

theorem zeros (i : S1x128.Idx) : broadcastInDim S1x128 ![] bcast_S_S1x128 (constant (F := Ideal) S_ FTy.f32 0#32) i = 0 :=
  Ideal.ofBits_zero_f32

theorem fst2 (x y : BitVec 32) (a : Fin 2) (h : a.val = 0) : (![x, y] : Fin 2 → BitVec 32) a = x := by rw [show a = 0 from Fin.ext h]; rfl
theorem snd2 (x y : BitVec 32) (a : Fin 2) (h : a.val = 1) : (![x, y] : Fin 2 → BitVec 32) a = y := by rw [show a = 1 from Fin.ext h]; rfl

/-- Two numbers side by side. -/
theorem pair (a b : IVec S1 32) (x y : BitVec 32) (ha : ∀ i, a i = x) (hb : ∀ i, b i = y) (h : Shape.Concatenates [S1, S1] S2 0) (k : S2.Idx) :
    concatenate S2 0 [⟨S1, a⟩, ⟨S1, b⟩] h k = (![x, y] : Fin 2 → BitVec 32) (k 0) := by
  have hk : (k 0).val < 2 := (k 0).isLt
  have only : ∀ c : Fin S1.rank, c = 0 := fun c => match c with | ⟨0, _⟩ => rfl
  by_cases h0 : (k 0).val = 0
  · refine (concatenate_apply_piece 0 [⟨S1, a⟩, ⟨S1, b⟩] h k 0 (by show 0 < 2; omega) S1 a rfl rfl 0 rfl (ix1 0)
      (fun c hc => absurd (by rw [only c]; rfl) hc) h0.symm).trans ((ha _).trans ?_)
    exact (fst2 x y (k 0) h0).symm
  · refine (concatenate_apply_piece 0 [⟨S1, a⟩, ⟨S1, b⟩] h k 1 (by show 1 < 2; omega) S1 b rfl rfl 1 rfl (ix1 0)
      (fun c hc => absurd (by rw [only c]; rfl) hc) (by show 1 + 0 = (k 0).val; omega)).trans ((hb _).trans ?_)
    exact (snd2 x y (k 0) (by show (k 0).val = 1; omega)).symm

theorem alLane_eq (c : Dev nD) : alLane m c = lane (m (c, Proc.tc.devRef main_arg6)) := by
  funext l
  unfold alLane V; after_reads_at
  refine placed _ zeros _ (pair _ _ _ _ (fun i => ?_) (fun i => ?_) concatenates_S1_S1_S2_d0) _ l
  · after_reads_at
  · after_reads_at
theorem dtLane_eq (c : Dev nD) : dtLane m c = lane (m (c, Proc.tc.devRef main_arg7)) := by
  funext l
  unfold dtLane V; after_reads_at
  refine placed _ zeros _ (pair _ _ _ _ (fun i => ?_) (fun i => ?_) concatenates_S1_S1_S2_d0) _ l
  · after_reads_at
  · after_reads_at
end Cert.DmIdeal.Step
-- ==== Proof.MixProj.lean ====
/-
  The mixer's projections: the nine arrays of the kernel against the same arrays written plainly.
-/
module

public import proofs.«01_k».proof.Defs
public import proofs.«01_k».proof.Proof.Gen.DmIdeal.Value
public import proofs.«01_k».proof.Proof.MixHost

@[expose] public section

noncomputable section

namespace Cert.Proof.MixProj

open Idealize.ShloMosaic Idealize.ShloMosaic.TcCoe Idealize.SL.Sem
open Cert.NormRow Cert.HalfStep Cert.MixRow Cert.RmIdeal Cert.RmIdeal.Read
open Cert.Proof.FfnFwd (rh)

/-! ## What the kernel is given, in the reference's terms -/

section
open Cert.DmIdeal Cert.DmIdeal.Step
variable (m : (ℓ : Loc Cert.DmIdeal.nD Cert.DmIdeal.τ Cert.DmIdeal.sig) → Buf (Elt Ideal) ℓ) (c : Dev Cert.DmIdeal.nD)

abbrev arg (a : Ref Cert.DmIdeal.sig .tc) : Buf (Elt Ideal) ((c.tc : Thread Cert.DmIdeal.nD Cert.DmIdeal.τ).loc a) :=
  m ((c.tc : Thread Cert.DmIdeal.nD Cert.DmIdeal.τ).loc a)

theorem projs_eq : projs m c = rP (arg m c main_arg0) (arg m c main_arg1) (arg m c main_arg2) (arg m c main_arg3) (arg m c main_arg4) := by
  funext t n
  unfold projs rP
  refine Finset.sum_congr rfl fun k _ => congrArg₂ (· * ·) ?_ (V6_at m c n k)
  unfold hRow rh
  rw [funext (V0_at m c), funext (V1_at m c), funext (V2_at m c), funext (V3_at m c)]
theorem taps_eq : taps m c = rTap (arg m c main_arg5) := funext fun j => funext fun n => V5_at m c (ix2 j n)
end

/-! ## The claims -/

set_option maxHeartbeats 2000000 in
/-- The kernel's nine arrays are the reference's, over the extended reals. -/
theorem algebraic : Cert.algebraic_DmIdeal_RmIdeal := by
  intro m ρ m' ρ' _ hagree
  refine ⟨fun c => (Cert.DmIdeal.Gen.dats m 0 c).arrAt 8 Cert.DmIdeal.cfg0.N, fun c => (Cert.DmIdeal.Gen.dats m 0 c).arrAt 9 Cert.DmIdeal.cfg0.N,
    fun c => (Cert.DmIdeal.Gen.dats m 0 c).arrAt 10 Cert.DmIdeal.cfg0.N, fun c => (Cert.DmIdeal.Gen.dats m 0 c).arrAt 11 Cert.DmIdeal.cfg0.N,
    fun c => (Cert.DmIdeal.Gen.dats m 0 c).arrAt 12 Cert.DmIdeal.cfg0.N, fun c => (Cert.DmIdeal.Gen.dats m 0 c).arrAt 13 Cert.DmIdeal.cfg0.N,
    fun c => (Cert.DmIdeal.Gen.dats m 0 c).arrAt 14 Cert.DmIdeal.cfg0.N, fun c => (Cert.DmIdeal.Gen.dats m 0 c).arrAt 15 Cert.DmIdeal.cfg0.N,
    fun c => (Cert.DmIdeal.Gen.dats m 0 c).arrAt 16 Cert.DmIdeal.cfg0.N, Cert.DmIdeal.Value.run_blocks m ρ, ?_⟩
  refine (θ_run Cert.RmIdeal.defs _ _).mono (fun _ h c => ?_) (Cert.RmIdeal.Value.run (F := Ideal) m' ρ')
  obtain ⟨h19, h99, h100, h101, h57, h20, h23, h103, h106, hk⟩ := h c
  obtain ⟨e0, e1, e2, e3, e4, e5, e6, e7⟩ := hagree c
  refine ⟨h19.trans ?_, h99.trans ?_, h100.trans ?_, h101.trans ?_, h57.trans ?_, h20.trans ?_, h23.trans ?_, h103.trans ?_, h106.trans ?_, hk⟩ <;>
    clear h19 h99 h100 h101 h57 h20 h23 h103 h106 hk
  · rw [val_main_v19_eq, e0, e1, e2, e3, e4]
    refine Eq.trans ?_ (Cert.DmIdeal.Step.final8 m c).symm
    rw [projs_eq]
    exact funext fun i => ref_xq _ _ _ _ _ i
  · rw [val_main_v99_eq, e0, e1, e2, e3, e4]
    refine Eq.trans ?_ (Cert.DmIdeal.Step.final9 m c).symm
    rw [projs_eq]
    exact ref_ba _ _ _ _ _
  · rw [val_main_v100_eq, e0, e1, e2, e3, e4, e5]
    refine Eq.trans ?_ (Cert.DmIdeal.Step.final10 m c).symm
    rw [projs_eq, taps_eq]
    exact funext fun i => ref_q _ _ _ _ _ _ i
  · rw [val_main_v101_eq, e0, e1, e2, e3, e4, e5]
    refine Eq.trans ?_ (Cert.DmIdeal.Step.final11 m c).symm
    rw [projs_eq, taps_eq]
    exact funext fun i => ref_k _ _ _ _ _ _ i
  · rw [val_main_v57_eq, e0, e1, e2, e3, e4, e5]
    refine Eq.trans ?_ (Cert.DmIdeal.Step.final12 m c).symm
    rw [projs_eq, taps_eq]
    exact funext fun i => ref_v _ _ _ _ _ _ i
  · rw [val_main_v20_eq, e0, e1, e2, e3, e4]
    refine Eq.trans ?_ (Cert.DmIdeal.Step.final13 m c).symm
    rw [projs_eq]
    exact funext fun i => ref_z _ _ _ _ _ i
  · rw [val_main_v23_eq, e0, e1, e2, e3, e4]
    refine Eq.trans ?_ (Cert.DmIdeal.Step.final14 m c).symm
    rw [projs_eq]
    exact funext fun i => ref_p _ _ _ _ _ i
  · rw [val_main_v103_eq, e0, e1, e2, e3, e4, e6, e7]
    refine Eq.trans ?_ (Cert.DmIdeal.Step.final15 m c).symm
    rw [projs_eq, Cert.DmIdeal.Step.alLane_eq, Cert.DmIdeal.Step.dtLane_eq]
    exact ref_bg _ _ _ _ _ _ _
  · rw [val_main_v106_eq, e0, e1, e2, e3, e4, e6, e7]
    refine Eq.trans ?_ (Cert.DmIdeal.Step.final16 m c).symm
    rw [projs_eq, Cert.DmIdeal.Step.alLane_eq, Cert.DmIdeal.Step.dtLane_eq]
    exact ref_gcum _ _ _ _ _ _ _

/-- The reference runs to its end. -/
theorem frame_reference : Cert.quiescent_RmIdeal := fun m ρ _ =>
  (θ_run Cert.RmIdeal.defs _ _).mono (fun r h => ⟨fun c => (h c).2.2.2.2.2.2.2.2.2, sem_eq_zero_of_no_sems (by decide) r.2⟩)
    (Cert.RmIdeal.Value.run (F := Ideal) m ρ)

end Cert.Proof.MixProj
-- ==== Proof.AdamAcross.lean ====
/-
  The optimiser on a projection that the kernel takes transposed (the second half-step's gate and up projections): the kernel's
  four arrays against the reference's lines, both in the kernel's layout.
-/
module

public import proofs.«01_k».proof.Defs
public import proofs.«01_k».proof.Proof.Adam
public import proofs.«01_k».proof.Proof.Gen.OgIdeal.Value
public import proofs.«01_k».proof.Proof.Gen.QgIdeal.Run
public import proofs.«01_k».proof.Proof.Gen.QgIdeal.Read

@[expose] public section

noncomputable section

namespace Cert.OgIdeal.Step

open Idealize.ShloMosaic Idealize.ShloMosaic.TcCoe Idealize.SL.Sem
open Cert.OgIdeal Cert.OgIdeal.Gen Cert.Adam

variable (m : (ℓ : Loc nD τ sig) → Buf (Elt Ideal) ℓ)

/-! ## The stored values -/

theorem pay2 (p q b : FVec Ideal S176x1024 .f32) : k0_pay2 p q b = onMom1 (addf p q) b := by
  unfold k0_pay2; simp only [shapeCast_self]; rfl
theorem pay3 (p q b : FVec Ideal S176x1024 .f32) : k0_pay3 p q b = onMom2 (addf p q) b := by
  unfold k0_pay3; simp only [shapeCast_self]; rfl
theorem pay4 (p q w a b : FVec Ideal S176x1024 .f32) : k0_pay4 p q w a b = onDelta (addf p q) w a b := by
  unfold k0_pay4; simp only [shapeCast_self, pay2, pay3]; rfl

/-! ## The blocks -/

theorem idx_w : ∀ t : Fin cfg0.N, (win0_0.index t (0 : Fin 2) = t.val ∧ win0_0.index t (1 : Fin 2) = 0) ∧ (win0_1.index t (0 : Fin 2) = t.val ∧ win0_1.index t (1 : Fin 2) = 0)
    ∧ (win0_2.index t (0 : Fin 2) = t.val ∧ win0_2.index t (1 : Fin 2) = 0) ∧ (win0_3.index t (0 : Fin 2) = t.val ∧ win0_3.index t (1 : Fin 2) = 0)
    ∧ (win0_4.index t (0 : Fin 2) = t.val ∧ win0_4.index t (1 : Fin 2) = 0) ∧ (win0_5.index t (0 : Fin 2) = t.val ∧ win0_5.index t (1 : Fin 2) = 0)
    ∧ (win0_6.index t (0 : Fin 2) = t.val ∧ win0_6.index t (1 : Fin 2) = 0) ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- Entry `y` of the block of point `t`, in the array. -/
abbrev at_ (t : Fin cfg0.N) (y : S176x1024.Idx) : S704x1024.Idx :=
  ix2 ⟨t.val * 176 + (y 0).val, by have : t.val < 4 := lt_of_lt_of_eq t.isLt N_0; have : (y 0).val < 176 := (y 0).isLt; omega⟩ (y 1)

theorem at_eq (t : Fin cfg0.N) (y : S176x1024.Idx) (e : S176x1024.Idx → S704x1024.Idx) (h0 : (e y 0).val = t.val * 176 + (y 0).val)
    (h1 : (e y 1).val = (y 1).val) : at_ t y = e y :=
  funext fun a => match a with
    | ⟨0, _⟩ => Fin.ext h0.symm
    | ⟨1, _⟩ => Fin.ext h1.symm

theorem blk0 (c : Dev nD) (t : Fin cfg0.N) (y : S176x1024.Idx) : iblk m c 0 t y = V m c main_arg0 (at_ t y) := by blk_ext [iblk, idx_w t] <;> rfl
theorem blk1 (c : Dev nD) (t : Fin cfg0.N) (y : S176x1024.Idx) : iblk m c 1 t y = V m c main_arg1 (at_ t y) := by blk_ext [iblk, idx_w t] <;> rfl
theorem blk2 (c : Dev nD) (t : Fin cfg0.N) (y : S176x1024.Idx) : iblk m c 2 t y = V m c main_v1 (at_ t y) := by blk_ext [iblk, idx_w t] <;> rfl
theorem blk3 (c : Dev nD) (t : Fin cfg0.N) (y : S176x1024.Idx) : iblk m c 3 t y = V m c main_v3 (at_ t y) := by blk_ext [iblk, idx_w t] <;> rfl
theorem blk4 (c : Dev nD) (t : Fin cfg0.N) (y : S176x1024.Idx) : iblk m c 4 t y = V m c main_v5 (at_ t y) := by blk_ext [iblk, idx_w t] <;> rfl

/-! ## The four arrays -/

/-- The gradient: the sum of its two parts. -/
abbrev gAt (c : Dev nD) (i : S704x1024.Idx) : EReal := HAdd.hAdd (α := EReal) (V m c main_arg0 i) (V m c main_arg1 i)

theorem gBlk (c : Dev nD) (t : Fin cfg0.N) (y : S176x1024.Idx) :
    addf (F := Ideal) (φ := .f32) (iblk m c 0 t) (iblk m c 1 t) y = gAt m c (at_ t y) := congrArg₂ (· + ·) (blk0 m c t y) (blk1 m c t y)

theorem final5 (c : Dev nD) : (dats m 0 c).arrAt 5 cfg0.N = gAt m c := by
  refine (dats m 0 c).arrAt_eq_of_covers 5 _ (by decide +kernel) fun t hf y => ?_
  blk_simp
  refine Eq.trans ?_ (congrArg (gAt m c) (at_eq t y (win0_5.blk t).view.emb (by simp [idx_w t]) (by simp [idx_w t])))
  rw [after0_5]; unfold out0_5; frame_out
  exact gBlk m c t y

theorem final6 (c : Dev nD) : (dats m 0 c).arrAt 6 cfg0.N
    = fun i : S704x1024.Idx => delta (gAt m c i) (V m c main_v1 i) (V m c main_v3 i) (V m c main_v5 i) := by
  refine (dats m 0 c).arrAt_eq_of_covers 6 _ (by decide +kernel) fun t hf y => ?_
  blk_simp
  refine Eq.trans ?_ (congrArg (fun i : S704x1024.Idx => delta (gAt m c i) (V m c main_v1 i) (V m c main_v3 i) (V m c main_v5 i))
    (at_eq t y (win0_6.blk t).view.emb (by simp [idx_w t]) (by simp [idx_w t])))
  rw [after0_6]; unfold out0_6; frame_out
  rw [pay4, onDelta_apply, gBlk, blk2, blk3, blk4]

theorem final7 (c : Dev nD) : (dats m 0 c).arrAt 7 cfg0.N = fun i : S704x1024.Idx => mom1 (gAt m c i) (V m c main_v3 i) := by
  refine (dats m 0 c).arrAt_eq_of_covers 7 _ (by decide +kernel) fun t hf y => ?_
  blk_simp
  refine Eq.trans ?_ (congrArg (fun i : S704x1024.Idx => mom1 (gAt m c i) (V m c main_v3 i))
    (at_eq t y (win0_7.blk t).view.emb (by simp [idx_w t]) (by simp [idx_w t])))
  rw [after0_7]; unfold out0_7; frame_out
  rw [pay2, onMom1_apply, gBlk, blk3]

theorem final8 (c : Dev nD) : (dats m 0 c).arrAt 8 cfg0.N = fun i : S704x1024.Idx => mom2 (gAt m c i) (V m c main_v5 i) := by
  refine (dats m 0 c).arrAt_eq_of_covers 8 _ (by decide +kernel) fun t hf y => ?_
  blk_simp
  refine Eq.trans ?_ (congrArg (fun i : S704x1024.Idx => mom2 (gAt m c i) (V m c main_v5 i))
    (at_eq t y (win0_8.blk t).view.emb (by simp [idx_w t]) (by simp [idx_w t])))
  rw [after0_8]; unfold out0_8; frame_out
  rw [pay3, onMom2_apply, gBlk, blk4]

/-! ## The arrays that the host prepares -/

theorem V0 (c : Dev nD) : V m c main_arg0 = m (c, Proc.tc.devRef main_arg0) := by unfold V; after_reads_at
theorem V1 (c : Dev nD) : V m c main_arg1 = m (c, Proc.tc.devRef main_arg1) := by unfold V; after_reads_at
theorem V2 (c : Dev nD) (i : S704x1024.Idx) : V m c main_v1 i = m (c, Proc.tc.devRef main_arg2) (ix3 0 (i 1) (i 0)) := by unfold V; after_reads_at
theorem V3 (c : Dev nD) (i : S704x1024.Idx) : V m c main_v3 i = m (c, Proc.tc.devRef main_arg3) (ix3 0 (i 1) (i 0)) := by unfold V; after_reads_at
theorem V4 (c : Dev nD) (i : S704x1024.Idx) : V m c main_v5 i = m (c, Proc.tc.devRef main_arg4) (ix3 0 (i 1) (i 0)) := by unfold V; after_reads_at

end Cert.OgIdeal.Step

namespace Cert.Proof.AdamAcross

open Idealize.ShloMosaic Idealize.ShloMosaic.TcCoe Idealize.SL.Sem
open Cert.QgIdeal Cert.QgIdeal.Read Cert.Adam

section
variable (p q : S704x1024.Idx → EReal) (w a b : S1x1024x704.Idx → EReal)

/-- The entry of a weight, with its leading axis, that entry `i` of its transpose is. -/
abbrev lead (i : S704x1024.Idx) : S1x1024x704.Idx := ix3 0 (i 1) (i 0)

theorem back (i : S704x1024.Idx) : idx_main_v27 (idx_main_v28 i) = lead i := by
  have h0 : (i 0).val < 704 := (i 0).isLt
  have h1 : (i 1).val < 1024 := (i 1).isLt
  refine eq_ix3_of _ _ _ _ rfl ?_ ?_
  · show ((i 1).val * 704 + (i 0).val) / 704 % 1024 = (i 1).val; omega
  · show ((i 1).val * 704 + (i 0).val) % 704 = (i 0).val; omega

theorem ref_g (i : S704x1024.Idx) : val_main_v2 (F := Ideal) p q (lead i) = p i + q i := by
  rw [val_main_v2_apply, val_main_v1_apply, show idx_main_v1 (idx_main_v2 (lead i)) = i from
    (eq_ix2_of (idx_main_v1 (idx_main_v2 (lead i))) (i 0) (i 1) rfl rfl).trans (eq_ix2_of i _ _ rfl rfl).symm]; rfl

theorem ref0 (i : S704x1024.Idx) : val_main_v28 (F := Ideal) p q i = p i + q i := by
  rw [val_main_v28_apply, val_main_v27_apply, back, ref_g]
theorem ref1 (i : S704x1024.Idx) : val_main_v30 (F := Ideal) p q w a b i = delta (p i + q i) (w (lead i)) (a (lead i)) (b (lead i)) := by
  rw [val_main_v30_apply, val_main_v29_apply, show idx_main_v29 (idx_main_v30 i) = lead i from back i, ← ref_g]; rfl
theorem ref2 (i : S704x1024.Idx) : val_main_v32 (F := Ideal) p q a i = mom1 (p i + q i) (a (lead i)) := by
  rw [val_main_v32_apply, val_main_v31_apply, show idx_main_v31 (idx_main_v32 i) = lead i from back i, ← ref_g]; rfl
theorem ref3 (i : S704x1024.Idx) : val_main_v34 (F := Ideal) p q b i = mom2 (p i + q i) (b (lead i)) := by
  rw [val_main_v34_apply, val_main_v33_apply, show idx_main_v33 (idx_main_v34 i) = lead i from back i, ← ref_g]; rfl
end

/-- The gradient, the step and the two moments are the reference's, over the extended reals. -/
theorem algebraic : Cert.algebraic_OgIdeal_QgIdeal := by
  intro m ρ m' ρ' _ hagree
  refine ⟨fun c => (Cert.OgIdeal.Gen.dats m 0 c).arrAt 5 Cert.OgIdeal.cfg0.N, fun c => (Cert.OgIdeal.Gen.dats m 0 c).arrAt 6 Cert.OgIdeal.cfg0.N,
    fun c => (Cert.OgIdeal.Gen.dats m 0 c).arrAt 7 Cert.OgIdeal.cfg0.N, fun c => (Cert.OgIdeal.Gen.dats m 0 c).arrAt 8 Cert.OgIdeal.cfg0.N,
    Cert.OgIdeal.Value.run_blocks m ρ, ?_⟩
  refine (θ_run Cert.QgIdeal.defs _ _).mono (fun _ h c => ?_) (Cert.QgIdeal.Value.run (F := Ideal) m' ρ')
  obtain ⟨h0, h1, h2, h3, hk⟩ := h c
  obtain ⟨e0, e1, e2, e3, e4⟩ := hagree c
  refine ⟨h0.trans ?_, h1.trans ?_, h2.trans ?_, h3.trans ?_, hk⟩ <;> clear h0 h1 h2 h3 hk
  · rw [val_main_v28_eq, e0, e1]
    refine Eq.trans (eq_of_at (ref0 _ _) fun i => ?_) (Cert.OgIdeal.Step.final5 m c).symm
    rw [Cert.OgIdeal.Step.gAt, Cert.OgIdeal.Step.V0, Cert.OgIdeal.Step.V1]
  · rw [val_main_v30_eq, e0, e1, e2, e3, e4]
    refine Eq.trans (eq_of_at (ref1 _ _ _ _ _) fun i => ?_) (Cert.OgIdeal.Step.final6 m c).symm
    rw [Cert.OgIdeal.Step.gAt, Cert.OgIdeal.Step.V0, Cert.OgIdeal.Step.V1, Cert.OgIdeal.Step.V2, Cert.OgIdeal.Step.V3, Cert.OgIdeal.Step.V4]
  · rw [val_main_v32_eq, e0, e1, e3]
    refine Eq.trans (eq_of_at (ref2 _ _ _) fun i => ?_) (Cert.OgIdeal.Step.final7 m c).symm
    rw [Cert.OgIdeal.Step.gAt, Cert.OgIdeal.Step.V0, Cert.OgIdeal.Step.V1, Cert.OgIdeal.Step.V3]
  · rw [val_main_v34_eq, e0, e1, e4]
    refine Eq.trans (eq_of_at (ref3 _ _ _) fun i => ?_) (Cert.OgIdeal.Step.final8 m c).symm
    rw [Cert.OgIdeal.Step.gAt, Cert.OgIdeal.Step.V0, Cert.OgIdeal.Step.V1, Cert.OgIdeal.Step.V4]

/-- The reference runs to its end. -/
theorem frame_reference : Cert.quiescent_QgIdeal := fun m ρ _ =>
  (θ_run Cert.QgIdeal.defs _ _).mono (fun r h => ⟨fun c => (h c).2.2.2.2, sem_eq_zero_of_no_sems (by decide) r.2⟩)
    (Cert.QgIdeal.Value.run (F := Ideal) m ρ)

end Cert.Proof.AdamAcross
end
-- ==== Proof.AdamIn.lean ====
/-
  The optimiser on the input projection, which the kernel takes transposed: its 642 rows of a gradient that carries 672, and
  the four arrays against the reference's lines, both in the kernel's layout.
-/
module

public import proofs.«01_k».proof.Defs
public import proofs.«01_k».proof.Proof.Adam
public import proofs.«01_k».proof.Proof.Gen.OiIdeal.Value
public import proofs.«01_k».proof.Proof.Gen.QiIdeal.Run
public import proofs.«01_k».proof.Proof.Gen.QiIdeal.Read

@[expose] public section

noncomputable section

namespace Cert.OiIdeal.Step

open Idealize.ShloMosaic Idealize.ShloMosaic.TcCoe Idealize.SL.Sem
open Cert.OiIdeal Cert.OiIdeal.Gen Cert.Adam

variable (m : (ℓ : Loc nD τ sig) → Buf (Elt Ideal) ℓ)

/-! ## The stored values -/

theorem pay1 (p q : FVec Ideal S642x256 .f32) : k0_pay1 p q = addf p q := by
  unfold k0_pay1; simp only [shapeCast_self]
theorem pay2 (p q b : FVec Ideal S642x256 .f32) : k0_pay2 p q b = onMom1 (addf p q) b := by
  unfold k0_pay2; simp only [shapeCast_self, pay1]; rfl
theorem pay3 (p q b : FVec Ideal S642x256 .f32) : k0_pay3 p q b = onMom2 (addf p q) b := by
  unfold k0_pay3; simp only [shapeCast_self, pay1]; rfl
theorem pay4 (p q w a b : FVec Ideal S642x256 .f32) : k0_pay4 p q w a b = onDelta (addf p q) w a b := by
  unfold k0_pay4; simp only [shapeCast_self, pay2, pay3]; rfl

/-! ## The blocks -/

theorem idx_w : ∀ t : Fin cfg0.N, (win0_0.index t (0 : Fin 2) = 0 ∧ win0_0.index t (1 : Fin 2) = t.val) ∧ (win0_1.index t (0 : Fin 2) = 0 ∧ win0_1.index t (1 : Fin 2) = t.val)
    ∧ (win0_2.index t (0 : Fin 2) = 0 ∧ win0_2.index t (1 : Fin 2) = t.val) ∧ (win0_3.index t (0 : Fin 2) = 0 ∧ win0_3.index t (1 : Fin 2) = t.val)
    ∧ (win0_4.index t (0 : Fin 2) = 0 ∧ win0_4.index t (1 : Fin 2) = t.val) ∧ (win0_5.index t (0 : Fin 2) = 0 ∧ win0_5.index t (1 : Fin 2) = t.val)
    ∧ (win0_6.index t (0 : Fin 2) = 0 ∧ win0_6.index t (1 : Fin 2) = t.val) ∧ (win0_7.index t (0 : Fin 2) = 0 ∧ win0_7.index t (1 : Fin 2) = t.val)
    ∧ (win0_8.index t (0 : Fin 2) = 0 ∧ win0_8.index t (1 : Fin 2) = t.val) :=
  (by decide +kernel : ∀ t : Fin grid0.N, _)

/-- Entry `y` of the block of point `t`, in the array. -/
abbrev at_ (t : Fin cfg0.N) (y : S642x256.Idx) : S642x1024.Idx :=
  ix2 (y 0) ⟨t.val * 256 + (y 1).val, by have : t.val < 4 := lt_of_lt_of_eq t.isLt N_0; have : (y 1).val < 256 := (y 1).isLt; omega⟩

theorem at_eq (t : Fin cfg0.N) (y : S642x256.Idx) (e : S642x256.Idx → S642x1024.Idx) (h0 : (e y 0).val = (y 0).val)
    (h1 : (e y 1).val = t.val * 256 + (y 1).val) : at_ t y = e y :=
  funext fun a => match a with
    | ⟨0, _⟩ => Fin.ext h0.symm
    | ⟨1, _⟩ => Fin.ext h1.symm

theorem blk0 (c : Dev nD) (t : Fin cfg0.N) (y : S642x256.Idx) : iblk m c 0 t y = V m c main_v0 (at_ t y) := by blk_ext [iblk, idx_w t] <;> rfl
theorem blk1 (c : Dev nD) (t : Fin cfg0.N) (y : S642x256.Idx) : iblk m c 1 t y = V m c main_v1 (at_ t y) := by blk_ext [iblk, idx_w t] <;> rfl
theorem blk2 (c : Dev nD) (t : Fin cfg0.N) (y : S642x256.Idx) : iblk m c 2 t y = V m c main_v3 (at_ t y) := by blk_ext [iblk, idx_w t] <;> rfl
theorem blk3 (c : Dev nD) (t : Fin cfg0.N) (y : S642x256.Idx) : iblk m c 3 t y = V m c main_v5 (at_ t y) := by blk_ext [iblk, idx_w t] <;> rfl
theorem blk4 (c : Dev nD) (t : Fin cfg0.N) (y : S642x256.Idx) : iblk m c 4 t y = V m c main_v7 (at_ t y) := by blk_ext [iblk, idx_w t] <;> rfl

/-! ## The four arrays -/

/-- The gradient: the sum of its two parts. -/
abbrev gAt (c : Dev nD) (i : S642x1024.Idx) : EReal := HAdd.hAdd (α := EReal) (V m c main_v0 i) (V m c main_v1 i)

theorem gBlk (c : Dev nD) (t : Fin cfg0.N) (y : S642x256.Idx) :
    addf (F := Ideal) (φ := .f32) (iblk m c 0 t) (iblk m c 1 t) y = gAt m c (at_ t y) := congrArg₂ (· + ·) (blk0 m c t y) (blk1 m c t y)

theorem final5 (c : Dev nD) : (dats m 0 c).arrAt 5 cfg0.N = gAt m c := by
  refine (dats m 0 c).arrAt_eq_of_covers 5 _ (by decide +kernel) fun t hf y => ?_
  blk_simp
  refine Eq.trans ?_ (congrArg (gAt m c) (at_eq t y (win0_5.blk t).view.emb (by simp [idx_w t]) (by simp [idx_w t])))
  rw [after0_5]; unfold out0_5; frame_out
  rw [pay1]; exact gBlk m c t y

theorem final6 (c : Dev nD) : (dats m 0 c).arrAt 6 cfg0.N
    = fun i : S642x1024.Idx => delta (gAt m c i) (V m c main_v3 i) (V m c main_v5 i) (V m c main_v7 i) := by
  refine (dats m 0 c).arrAt_eq_of_covers 6 _ (by decide +kernel) fun t hf y => ?_
  blk_simp
  refine Eq.trans ?_ (congrArg (fun i : S642x1024.Idx => delta (gAt m c i) (V m c main_v3 i) (V m c main_v5 i) (V m c main_v7 i))
    (at_eq t y (win0_6.blk t).view.emb (by simp [idx_w t]) (by simp [idx_w t])))
  rw [after0_6]; unfold out0_6; frame_out
  rw [pay4, onDelta_apply, gBlk, blk2, blk3, blk4]

theorem final7 (c : Dev nD) : (dats m 0 c).arrAt 7 cfg0.N = fun i : S642x1024.Idx => mom1 (gAt m c i) (V m c main_v5 i) := by
  refine (dats m 0 c).arrAt_eq_of_covers 7 _ (by decide +kernel) fun t hf y => ?_
  blk_simp
  refine Eq.trans ?_ (congrArg (fun i : S642x1024.Idx => mom1 (gAt m c i) (V m c main_v5 i))
    (at_eq t y (win0_7.blk t).view.emb (by simp [idx_w t]) (by simp [idx_w t])))
  rw [after0_7]; unfold out0_7; frame_out
  rw [pay2, onMom1_apply, gBlk, blk3]

theorem final8 (c : Dev nD) : (dats m 0 c).arrAt 8 cfg0.N = fun i : S642x1024.Idx => mom2 (gAt m c i) (V m c main_v7 i) := by
  refine (dats m 0 c).arrAt_eq_of_covers 8 _ (by decide +kernel) fun t hf y => ?_
  blk_simp
  refine Eq.trans ?_ (congrArg (fun i : S642x1024.Idx => mom2 (gAt m c i) (V m c main_v7 i))
    (at_eq t y (win0_8.blk t).view.emb (by simp [idx_w t]) (by simp [idx_w t])))
  rw [after0_8]; unfold out0_8; frame_out
  rw [pay3, onMom2_apply, gBlk, blk4]

/-! ## The arrays that the host prepares -/

theorem V0 (c : Dev nD) (i : S642x1024.Idx) : V m c main_v0 i = m (c, Proc.tc.devRef main_arg0) (ix2 ⟨(i 0).val, by have : (i 0).val < 642 := (i 0).isLt; omega⟩ (i 1)) := by
  unfold V; after_reads_at
theorem V1 (c : Dev nD) (i : S642x1024.Idx) : V m c main_v1 i = m (c, Proc.tc.devRef main_arg1) (ix2 ⟨(i 0).val, by have : (i 0).val < 642 := (i 0).isLt; omega⟩ (i 1)) := by
  unfold V; after_reads_at
theorem V2 (c : Dev nD) (i : S642x1024.Idx) : V m c main_v3 i = m (c, Proc.tc.devRef main_arg2) (ix3 0 (i 1) (i 0)) := by unfold V; after_reads_at
theorem V3 (c : Dev nD) (i : S642x1024.Idx) : V m c main_v5 i = m (c, Proc.tc.devRef main_arg3) (ix3 0 (i 1) (i 0)) := by unfold V; after_reads_at
theorem V4 (c : Dev nD) (i : S642x1024.Idx) : V m c main_v7 i = m (c, Proc.tc.devRef main_arg4) (ix3 0 (i 1) (i 0)) := by unfold V; after_reads_at

end Cert.OiIdeal.Step

namespace Cert.Proof.AdamIn

open Idealize.ShloMosaic Idealize.ShloMosaic.TcCoe Idealize.SL.Sem
open Cert.QiIdeal Cert.QiIdeal.Read Cert.Adam

section
variable (p q : S672x1024.Idx → EReal) (w a b : S1x1024x642.Idx → EReal)

/-- The entry of a weight, with its leading axis, that entry `i` of its transpose is. -/
abbrev lead (i : S642x1024.Idx) : S1x1024x642.Idx := ix3 0 (i 1) (i 0)

theorem back (i : S642x1024.Idx) : idx_main_v28 (idx_main_v29 i) = lead i := by
  have h0 : (i 0).val < 642 := (i 0).isLt
  have h1 : (i 1).val < 1024 := (i 1).isLt
  refine eq_ix3_of _ _ _ _ rfl ?_ ?_
  · show ((i 1).val * 642 + (i 0).val) / 642 % 1024 = (i 1).val; omega
  · show ((i 1).val * 642 + (i 0).val) % 642 = (i 0).val; omega

/-- The entry of a gradient's part, with its unused rows, that entry `i` is. -/
abbrev used (i : S642x1024.Idx) : S672x1024.Idx := ix2 ⟨(i 0).val, by have : (i 0).val < 642 := (i 0).isLt; omega⟩ (i 1)

theorem ref_g (i : S642x1024.Idx) : val_main_v3 (F := Ideal) p q (lead i) = p (used i) + q (used i) := by
  rw [val_main_v3_apply, val_main_v2_apply, val_main_v1_apply, show idx_main_v1 (idx_main_v2 (idx_main_v3 (lead i))) = used i from
    eq_ix2_of _ _ _ rfl rfl]; rfl

theorem ref0 (i : S642x1024.Idx) : val_main_v29 (F := Ideal) p q i = p (used i) + q (used i) := by
  rw [val_main_v29_apply, val_main_v28_apply, back, ref_g]
theorem ref1 (i : S642x1024.Idx) : val_main_v31 (F := Ideal) p q w a b i = delta (p (used i) + q (used i)) (w (lead i)) (a (lead i)) (b (lead i)) := by
  rw [val_main_v31_apply, val_main_v30_apply, show idx_main_v30 (idx_main_v31 i) = lead i from back i, ← ref_g]; rfl
theorem ref2 (i : S642x1024.Idx) : val_main_v33 (F := Ideal) p q a i = mom1 (p (used i) + q (used i)) (a (lead i)) := by
  rw [val_main_v33_apply, val_main_v32_apply, show idx_main_v32 (idx_main_v33 i) = lead i from back i, ← ref_g]; rfl
theorem ref3 (i : S642x1024.Idx) : val_main_v35 (F := Ideal) p q b i = mom2 (p (used i) + q (used i)) (b (lead i)) := by
  rw [val_main_v35_apply, val_main_v34_apply, show idx_main_v34 (idx_main_v35 i) = lead i from back i, ← ref_g]; rfl
end

/-- The gradient, the step and the two moments are the reference's, over the extended reals. -/
theorem algebraic : Cert.algebraic_OiIdeal_QiIdeal := by
  intro m ρ m' ρ' _ hagree
  refine ⟨fun c => (Cert.OiIdeal.Gen.dats m 0 c).arrAt 5 Cert.OiIdeal.cfg0.N, fun c => (Cert.OiIdeal.Gen.dats m 0 c).arrAt 6 Cert.OiIdeal.cfg0.N,
    fun c => (Cert.OiIdeal.Gen.dats m 0 c).arrAt 7 Cert.OiIdeal.cfg0.N, fun c => (Cert.OiIdeal.Gen.dats m 0 c).arrAt 8 Cert.OiIdeal.cfg0.N,
    Cert.OiIdeal.Value.run_blocks m ρ, ?_⟩
  refine (θ_run Cert.QiIdeal.defs _ _).mono (fun _ h c => ?_) (Cert.QiIdeal.Value.run (F := Ideal) m' ρ')
  obtain ⟨h0, h1, h2, h3, hk⟩ := h c
  obtain ⟨e0, e1, e2, e3, e4⟩ := hagree c
  refine ⟨h0.trans ?_, h1.trans ?_, h2.trans ?_, h3.trans ?_, hk⟩ <;> clear h0 h1 h2 h3 hk
  · rw [val_main_v29_eq, e0, e1]
    refine Eq.trans (eq_of_at (ref0 _ _) fun i => ?_) (Cert.OiIdeal.Step.final5 m c).symm
    rw [Cert.OiIdeal.Step.gAt, Cert.OiIdeal.Step.V0, Cert.OiIdeal.Step.V1]
  · rw [val_main_v31_eq, e0, e1, e2, e3, e4]
    refine Eq.trans (eq_of_at (ref1 _ _ _ _ _) fun i => ?_) (Cert.OiIdeal.Step.final6 m c).symm
    rw [Cert.OiIdeal.Step.gAt, Cert.OiIdeal.Step.V0, Cert.OiIdeal.Step.V1, Cert.OiIdeal.Step.V2, Cert.OiIdeal.Step.V3, Cert.OiIdeal.Step.V4]
  · rw [val_main_v33_eq, e0, e1, e3]
    refine Eq.trans (eq_of_at (ref2 _ _ _) fun i => ?_) (Cert.OiIdeal.Step.final7 m c).symm
    rw [Cert.OiIdeal.Step.gAt, Cert.OiIdeal.Step.V0, Cert.OiIdeal.Step.V1, Cert.OiIdeal.Step.V3]
  · rw [val_main_v35_eq, e0, e1, e4]
    refine Eq.trans (eq_of_at (ref3 _ _ _) fun i => ?_) (Cert.OiIdeal.Step.final8 m c).symm
    rw [Cert.OiIdeal.Step.gAt, Cert.OiIdeal.Step.V0, Cert.OiIdeal.Step.V1, Cert.OiIdeal.Step.V4]

/-- The reference runs to its end. -/
theorem frame_reference : Cert.quiescent_QiIdeal := fun m ρ _ =>
  (θ_run Cert.QiIdeal.defs _ _).mono (fun r h => ⟨fun c => (h c).2.2.2.2, sem_eq_zero_of_no_sems (by decide) r.2⟩)
    (Cert.QiIdeal.Value.run (F := Ideal) m ρ)

end Cert.Proof.AdamIn
end
-- ==== Proof.AdamDown.lean ====
/-
  The optimiser on the down projection: the kernel's four arrays against the reference's lines.
-/
module

public import proofs.«01_k».proof.Defs
public import proofs.«01_k».proof.Proof.Adam
public import proofs.«01_k».proof.Proof.Gen.OdIdeal.Value
public import proofs.«01_k».proof.Proof.Gen.QdIdeal.Run
public import proofs.«01_k».proof.Proof.Gen.QdIdeal.Read

@[expose] public section

noncomputable section

namespace Cert.OdIdeal.Step

open Idealize.ShloMosaic Idealize.ShloMosaic.TcCoe Idealize.SL.Sem
open Cert.OdIdeal Cert.OdIdeal.Gen Cert.Adam

variable (m : (ℓ : Loc nD τ sig) → Buf (Elt Ideal) ℓ)

/-! ## The stored values -/

theorem pay2 (p q b : FVec Ideal S176x1024 .f32) : k0_pay2 p q b = onMom1 (addf p q) b := by
  unfold k0_pay2; simp only [shapeCast_self]; rfl
theorem pay3 (p q b : FVec Ideal S176x1024 .f32) : k0_pay3 p q b = onMom2 (addf p q) b := by
  unfold k0_pay3; simp only [shapeCast_self]; rfl
theorem pay4 (p q w a b : FVec Ideal S176x1024 .f32) : k0_pay4 p q w a b = onDelta (addf p q) w a b := by
  unfold k0_pay4; simp only [shapeCast_self, pay2, pay3]; rfl

/-! ## The blocks -/

theorem idx_w : ∀ t : Fin cfg0.N, (win0_0.index t (0 : Fin 2) = t.val ∧ win0_0.index t (1 : Fin 2) = 0) ∧ (win0_1.index t (0 : Fin 2) = t.val ∧ win0_1.index t (1 : Fin 2) = 0)
    ∧ (win0_2.index t (0 : Fin 2) = t.val ∧ win0_2.index t (1 : Fin 2) = 0) ∧ (win0_3.index t (0 : Fin 2) = t.val ∧ win0_3.index t (1 : Fin 2) = 0)
    ∧ (win0_4.index t (0 : Fin 2) = t.val ∧ win0_4.index t (1 : Fin 2) = 0) ∧ (win0_5.index t (0 : Fin 2) = t.val ∧ win0_5.index t (1 : Fin 2) = 0)
    ∧ (win0_6.index t (0 : Fin 2) = t.val ∧ win0_6.index t (1 : Fin 2) = 0) ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- Entry `y` of the block of point `t`, in the array. -/
abbrev at_ (t : Fin cfg0.N) (y : S176x1024.Idx) : S704x1024.Idx :=
  ix2 ⟨t.val * 176 + (y 0).val, by have : t.val < 4 := lt_of_lt_of_eq t.isLt N_0; have : (y 0).val < 176 := (y 0).isLt; omega⟩ (y 1)

theorem at_eq (t : Fin cfg0.N) (y : S176x1024.Idx) (e : S176x1024.Idx → S704x1024.Idx) (h0 : (e y 0).val = t.val * 176 + (y 0).val)
    (h1 : (e y 1).val = (y 1).val) : at_ t y = e y :=
  funext fun a => match a with
    | ⟨0, _⟩ => Fin.ext h0.symm
    | ⟨1, _⟩ => Fin.ext h1.symm

theorem blk0 (c : Dev nD) (t : Fin cfg0.N) (y : S176x1024.Idx) : iblk m c 0 t y = V m c main_arg0 (at_ t y) := by blk_ext [iblk, idx_w t] <;> rfl
theorem blk1 (c : Dev nD) (t : Fin cfg0.N) (y : S176x1024.Idx) : iblk m c 1 t y = V m c main_arg1 (at_ t y) := by blk_ext [iblk, idx_w t] <;> rfl
theorem blk2 (c : Dev nD) (t : Fin cfg0.N) (y : S176x1024.Idx) : iblk m c 2 t y = V m c main_v0 (at_ t y) := by blk_ext [iblk, idx_w t] <;> rfl
theorem blk3 (c : Dev nD) (t : Fin cfg0.N) (y : S176x1024.Idx) : iblk m c 3 t y = V m c main_v1 (at_ t y) := by blk_ext [iblk, idx_w t] <;> rfl
theorem blk4 (c : Dev nD) (t : Fin cfg0.N) (y : S176x1024.Idx) : iblk m c 4 t y = V m c main_v2 (at_ t y) := by blk_ext [iblk, idx_w t] <;> rfl

/-! ## The four arrays -/

/-- The gradient: the sum of its two parts. -/
abbrev gAt (c : Dev nD) (i : S704x1024.Idx) : EReal := HAdd.hAdd (α := EReal) (V m c main_arg0 i) (V m c main_arg1 i)

theorem gBlk (c : Dev nD) (t : Fin cfg0.N) (y : S176x1024.Idx) :
    addf (F := Ideal) (φ := .f32) (iblk m c 0 t) (iblk m c 1 t) y = gAt m c (at_ t y) := congrArg₂ (· + ·) (blk0 m c t y) (blk1 m c t y)

theorem final5 (c : Dev nD) : (dats m 0 c).arrAt 5 cfg0.N = gAt m c := by
  refine (dats m 0 c).arrAt_eq_of_covers 5 _ (by decide +kernel) fun t hf y => ?_
  blk_simp
  refine Eq.trans ?_ (congrArg (gAt m c) (at_eq t y (win0_5.blk t).view.emb (by simp [idx_w t]) (by simp [idx_w t])))
  rw [after0_5]; unfold out0_5; frame_out
  exact gBlk m c t y

theorem final6 (c : Dev nD) : (dats m 0 c).arrAt 6 cfg0.N
    = fun i : S704x1024.Idx => delta (gAt m c i) (V m c main_v0 i) (V m c main_v1 i) (V m c main_v2 i) := by
  refine (dats m 0 c).arrAt_eq_of_covers 6 _ (by decide +kernel) fun t hf y => ?_
  blk_simp
  refine Eq.trans ?_ (congrArg (fun i : S704x1024.Idx => delta (gAt m c i) (V m c main_v0 i) (V m c main_v1 i) (V m c main_v2 i))
    (at_eq t y (win0_6.blk t).view.emb (by simp [idx_w t]) (by simp [idx_w t])))
  rw [after0_6]; unfold out0_6; frame_out
  rw [pay4, onDelta_apply, gBlk, blk2, blk3, blk4]

theorem final7 (c : Dev nD) : (dats m 0 c).arrAt 7 cfg0.N = fun i : S704x1024.Idx => mom1 (gAt m c i) (V m c main_v1 i) := by
  refine (dats m 0 c).arrAt_eq_of_covers 7 _ (by decide +kernel) fun t hf y => ?_
  blk_simp
  refine Eq.trans ?_ (congrArg (fun i : S704x1024.Idx => mom1 (gAt m c i) (V m c main_v1 i))
    (at_eq t y (win0_7.blk t).view.emb (by simp [idx_w t]) (by simp [idx_w t])))
  rw [after0_7]; unfold out0_7; frame_out
  rw [pay2, onMom1_apply, gBlk, blk3]

theorem final8 (c : Dev nD) : (dats m 0 c).arrAt 8 cfg0.N = fun i : S704x1024.Idx => mom2 (gAt m c i) (V m c main_v2 i) := by
  refine (dats m 0 c).arrAt_eq_of_covers 8 _ (by decide +kernel) fun t hf y => ?_
  blk_simp
  refine Eq.trans ?_ (congrArg (fun i : S704x1024.Idx => mom2 (gAt m c i) (V m c main_v2 i))
    (at_eq t y (win0_8.blk t).view.emb (by simp [idx_w t]) (by simp [idx_w t])))
  rw [after0_8]; unfold out0_8; frame_out
  rw [pay3, onMom2_apply, gBlk, blk4]

/-! ## The arrays that the host prepares -/

theorem V0 (c : Dev nD) : V m c main_arg0 = m (c, Proc.tc.devRef main_arg0) := by unfold V; after_reads_at
theorem V1 (c : Dev nD) : V m c main_arg1 = m (c, Proc.tc.devRef main_arg1) := by unfold V; after_reads_at
theorem V2 (c : Dev nD) (i : S704x1024.Idx) : V m c main_v0 i = m (c, Proc.tc.devRef main_arg2) (ix3 0 (i 0) (i 1)) := by unfold V; after_reads_at
theorem V3 (c : Dev nD) (i : S704x1024.Idx) : V m c main_v1 i = m (c, Proc.tc.devRef main_arg3) (ix3 0 (i 0) (i 1)) := by unfold V; after_reads_at
theorem V4 (c : Dev nD) (i : S704x1024.Idx) : V m c main_v2 i = m (c, Proc.tc.devRef main_arg4) (ix3 0 (i 0) (i 1)) := by unfold V; after_reads_at

end Cert.OdIdeal.Step

namespace Cert.Proof.AdamDown

open Idealize.ShloMosaic Idealize.ShloMosaic.TcCoe Idealize.SL.Sem
open Cert.QdIdeal Cert.QdIdeal.Read Cert.Adam

section
variable (p q : S704x1024.Idx → EReal) (w a b : S1x704x1024.Idx → EReal)

/-- The entry of a weight with a leading axis that entry `i` is. -/
abbrev lead (i : S704x1024.Idx) : S1x704x1024.Idx := ix3 0 (i 0) (i 1)

theorem back (i : S704x1024.Idx) : idx_main_v26 i = lead i := by
  have h0 : (i 0).val < 704 := (i 0).isLt
  have h1 : (i 1).val < 1024 := (i 1).isLt
  refine eq_ix3_of _ _ _ _ rfl ?_ ?_
  · show ((i 0).val * 1024 + (i 1).val) / 1024 % 704 = (i 0).val; omega
  · show ((i 0).val * 1024 + (i 1).val) % 1024 = (i 1).val; omega

theorem ref_g (i : S704x1024.Idx) : val_main_v1 (F := Ideal) p q (lead i) = p i + q i := by
  rw [val_main_v1_apply, show idx_main_v1 (lead i) = i from (eq_ix2_of (idx_main_v1 (lead i)) (i 0) (i 1) rfl rfl).trans (eq_ix2_of i _ _ rfl rfl).symm]; rfl

theorem ref0 (i : S704x1024.Idx) : val_main_v26 (F := Ideal) p q i = p i + q i := by
  rw [val_main_v26_apply, back, ref_g]
theorem ref1 (i : S704x1024.Idx) : val_main_v27 (F := Ideal) p q w a b i = delta (p i + q i) (w (lead i)) (a (lead i)) (b (lead i)) := by
  rw [val_main_v27_apply, show idx_main_v27 i = lead i from back i, ← ref_g]; rfl
theorem ref2 (i : S704x1024.Idx) : val_main_v28 (F := Ideal) p q a i = mom1 (p i + q i) (a (lead i)) := by
  rw [val_main_v28_apply, show idx_main_v28 i = lead i from back i, ← ref_g]; rfl
theorem ref3 (i : S704x1024.Idx) : val_main_v29 (F := Ideal) p q b i = mom2 (p i + q i) (b (lead i)) := by
  rw [val_main_v29_apply, show idx_main_v29 i = lead i from back i, ← ref_g]; rfl
end

/-- The gradient, the step and the two moments are the reference's, over the extended reals. -/
theorem algebraic : Cert.algebraic_OdIdeal_QdIdeal := by
  intro m ρ m' ρ' _ hagree
  refine ⟨fun c => (Cert.OdIdeal.Gen.dats m 0 c).arrAt 5 Cert.OdIdeal.cfg0.N, fun c => (Cert.OdIdeal.Gen.dats m 0 c).arrAt 6 Cert.OdIdeal.cfg0.N,
    fun c => (Cert.OdIdeal.Gen.dats m 0 c).arrAt 7 Cert.OdIdeal.cfg0.N, fun c => (Cert.OdIdeal.Gen.dats m 0 c).arrAt 8 Cert.OdIdeal.cfg0.N,
    Cert.OdIdeal.Value.run_blocks m ρ, ?_⟩
  refine (θ_run Cert.QdIdeal.defs _ _).mono (fun _ h c => ?_) (Cert.QdIdeal.Value.run (F := Ideal) m' ρ')
  obtain ⟨h0, h1, h2, h3, hk⟩ := h c
  obtain ⟨e0, e1, e2, e3, e4⟩ := hagree c
  refine ⟨h0.trans ?_, h1.trans ?_, h2.trans ?_, h3.trans ?_, hk⟩ <;> clear h0 h1 h2 h3 hk
  · rw [val_main_v26_eq, e0, e1]
    refine Eq.trans (eq_of_at (ref0 _ _) fun i => ?_) (Cert.OdIdeal.Step.final5 m c).symm
    rw [Cert.OdIdeal.Step.gAt, Cert.OdIdeal.Step.V0, Cert.OdIdeal.Step.V1]
  · rw [val_main_v27_eq, e0, e1, e2, e3, e4]
    refine Eq.trans (eq_of_at (ref1 _ _ _ _ _) fun i => ?_) (Cert.OdIdeal.Step.final6 m c).symm
    rw [Cert.OdIdeal.Step.gAt, Cert.OdIdeal.Step.V0, Cert.OdIdeal.Step.V1, Cert.OdIdeal.Step.V2, Cert.OdIdeal.Step.V3, Cert.OdIdeal.Step.V4]
  · rw [val_main_v28_eq, e0, e1, e3]
    refine Eq.trans (eq_of_at (ref2 _ _ _) fun i => ?_) (Cert.OdIdeal.Step.final7 m c).symm
    rw [Cert.OdIdeal.Step.gAt, Cert.OdIdeal.Step.V0, Cert.OdIdeal.Step.V1, Cert.OdIdeal.Step.V3]
  · rw [val_main_v29_eq, e0, e1, e4]
    refine Eq.trans (eq_of_at (ref3 _ _ _) fun i => ?_) (Cert.OdIdeal.Step.final8 m c).symm
    rw [Cert.OdIdeal.Step.gAt, Cert.OdIdeal.Step.V0, Cert.OdIdeal.Step.V1, Cert.OdIdeal.Step.V4]

/-- The reference runs to its end. -/
theorem frame_reference : Cert.quiescent_QdIdeal := fun m ρ _ =>
  (θ_run Cert.QdIdeal.defs _ _).mono (fun r h => ⟨fun c => (h c).2.2.2.2, sem_eq_zero_of_no_sems (by decide) r.2⟩)
    (Cert.QdIdeal.Value.run (F := Ideal) m ρ)

end Cert.Proof.AdamDown
end
-- ==== Proof.AdamOut.lean ====
/-
  The optimiser on the output projection: the kernel's four arrays against the reference's lines.
-/
module

public import proofs.«01_k».proof.Defs
public import proofs.«01_k».proof.Proof.Adam
public import proofs.«01_k».proof.Proof.Gen.OoIdeal.Value
public import proofs.«01_k».proof.Proof.Gen.QoIdeal.Run
public import proofs.«01_k».proof.Proof.Gen.QoIdeal.Read

@[expose] public section

noncomputable section

namespace Cert.OoIdeal.Step

open Idealize.ShloMosaic Idealize.ShloMosaic.TcCoe Idealize.SL.Sem
open Cert.OoIdeal Cert.OoIdeal.Gen Cert.Adam

variable (m : (ℓ : Loc nD τ sig) → Buf (Elt Ideal) ℓ)

/-! ## The stored values -/

theorem pay2 (p q b : FVec Ideal S256x1024 .f32) : k0_pay2 p q b = onMom1 (addf p q) b := by
  unfold k0_pay2; simp only [shapeCast_self]; rfl
theorem pay3 (p q b : FVec Ideal S256x1024 .f32) : k0_pay3 p q b = onMom2 (addf p q) b := by
  unfold k0_pay3; simp only [shapeCast_self]; rfl
theorem pay4 (p q w a b : FVec Ideal S256x1024 .f32) : k0_pay4 p q w a b = onDelta (addf p q) w a b := by
  unfold k0_pay4; simp only [shapeCast_self, pay2, pay3]; rfl

/-! ## The blocks -/

theorem idx_w : ∀ t : Fin cfg0.N, (win0_0.index t (0 : Fin 2) = 0 ∧ win0_0.index t (1 : Fin 2) = 0) ∧ (win0_1.index t (0 : Fin 2) = 0 ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ (win0_5.index t (0 : Fin 2) = 0 ∧ win0_5.index t (1 : Fin 2) = 0)
    ∧ (win0_6.index t (0 : Fin 2) = 0 ∧ win0_6.index t (1 : Fin 2) = 0) ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- Entry `y` of the block of the one point, in the array. -/
abbrev at_ (_ : Fin cfg0.N) (y : S256x1024.Idx) : S256x1024.Idx := ix2 (y 0) (y 1)

theorem at_eq (t : Fin cfg0.N) (y : S256x1024.Idx) (e : S256x1024.Idx → S256x1024.Idx) (h0 : (e y 0).val = (y 0).val)
    (h1 : (e y 1).val = (y 1).val) : at_ t y = e y :=
  funext fun a => match a with
    | ⟨0, _⟩ => Fin.ext h0.symm
    | ⟨1, _⟩ => Fin.ext h1.symm

theorem blk0 (c : Dev nD) (t : Fin cfg0.N) (y : S256x1024.Idx) : iblk m c 0 t y = V m c main_arg0 (at_ t y) := by blk_ext [iblk, idx_w t] <;> rfl
theorem blk1 (c : Dev nD) (t : Fin cfg0.N) (y : S256x1024.Idx) : iblk m c 1 t y = V m c main_arg1 (at_ t y) := by blk_ext [iblk, idx_w t] <;> rfl
theorem blk2 (c : Dev nD) (t : Fin cfg0.N) (y : S256x1024.Idx) : iblk m c 2 t y = V m c main_v0 (at_ t y) := by blk_ext [iblk, idx_w t] <;> rfl
theorem blk3 (c : Dev nD) (t : Fin cfg0.N) (y : S256x1024.Idx) : iblk m c 3 t y = V m c main_v1 (at_ t y) := by blk_ext [iblk, idx_w t] <;> rfl
theorem blk4 (c : Dev nD) (t : Fin cfg0.N) (y : S256x1024.Idx) : iblk m c 4 t y = V m c main_v2 (at_ t y) := by blk_ext [iblk, idx_w t] <;> rfl

/-! ## The four arrays -/

/-- The gradient: the sum of its two parts. -/
abbrev gAt (c : Dev nD) (i : S256x1024.Idx) : EReal := HAdd.hAdd (α := EReal) (V m c main_arg0 i) (V m c main_arg1 i)

theorem gBlk (c : Dev nD) (t : Fin cfg0.N) (y : S256x1024.Idx) :
    addf (F := Ideal) (φ := .f32) (iblk m c 0 t) (iblk m c 1 t) y = gAt m c (at_ t y) := congrArg₂ (· + ·) (blk0 m c t y) (blk1 m c t y)

theorem final5 (c : Dev nD) : (dats m 0 c).arrAt 5 cfg0.N = gAt m c := by
  refine (dats m 0 c).arrAt_eq_of_covers 5 _ (by decide +kernel) fun t hf y => ?_
  blk_simp
  refine Eq.trans ?_ (congrArg (gAt m c) (at_eq t y (win0_5.blk t).view.emb (by simp [idx_w t]) (by simp [idx_w t])))
  rw [after0_5]; unfold out0_5; frame_out
  exact gBlk m c t y

theorem final6 (c : Dev nD) : (dats m 0 c).arrAt 6 cfg0.N
    = fun i : S256x1024.Idx => delta (gAt m c i) (V m c main_v0 i) (V m c main_v1 i) (V m c main_v2 i) := by
  refine (dats m 0 c).arrAt_eq_of_covers 6 _ (by decide +kernel) fun t hf y => ?_
  blk_simp
  refine Eq.trans ?_ (congrArg (fun i : S256x1024.Idx => delta (gAt m c i) (V m c main_v0 i) (V m c main_v1 i) (V m c main_v2 i))
    (at_eq t y (win0_6.blk t).view.emb (by simp [idx_w t]) (by simp [idx_w t])))
  rw [after0_6]; unfold out0_6; frame_out
  rw [pay4, onDelta_apply, gBlk, blk2, blk3, blk4]

theorem final7 (c : Dev nD) : (dats m 0 c).arrAt 7 cfg0.N = fun i : S256x1024.Idx => mom1 (gAt m c i) (V m c main_v1 i) := by
  refine (dats m 0 c).arrAt_eq_of_covers 7 _ (by decide +kernel) fun t hf y => ?_
  blk_simp
  refine Eq.trans ?_ (congrArg (fun i : S256x1024.Idx => mom1 (gAt m c i) (V m c main_v1 i))
    (at_eq t y (win0_7.blk t).view.emb (by simp [idx_w t]) (by simp [idx_w t])))
  rw [after0_7]; unfold out0_7; frame_out
  rw [pay2, onMom1_apply, gBlk, blk3]

theorem final8 (c : Dev nD) : (dats m 0 c).arrAt 8 cfg0.N = fun i : S256x1024.Idx => mom2 (gAt m c i) (V m c main_v2 i) := by
  refine (dats m 0 c).arrAt_eq_of_covers 8 _ (by decide +kernel) fun t hf y => ?_
  blk_simp
  refine Eq.trans ?_ (congrArg (fun i : S256x1024.Idx => mom2 (gAt m c i) (V m c main_v2 i))
    (at_eq t y (win0_8.blk t).view.emb (by simp [idx_w t]) (by simp [idx_w t])))
  rw [after0_8]; unfold out0_8; frame_out
  rw [pay3, onMom2_apply, gBlk, blk4]

/-! ## The arrays that the host prepares -/

theorem V0 (c : Dev nD) : V m c main_arg0 = m (c, Proc.tc.devRef main_arg0) := by unfold V; after_reads_at
theorem V1 (c : Dev nD) : V m c main_arg1 = m (c, Proc.tc.devRef main_arg1) := by unfold V; after_reads_at
theorem V2 (c : Dev nD) (i : S256x1024.Idx) : V m c main_v0 i = m (c, Proc.tc.devRef main_arg2) (ix3 0 (i 0) (i 1)) := by unfold V; after_reads_at
theorem V3 (c : Dev nD) (i : S256x1024.Idx) : V m c main_v1 i = m (c, Proc.tc.devRef main_arg3) (ix3 0 (i 0) (i 1)) := by unfold V; after_reads_at
theorem V4 (c : Dev nD) (i : S256x1024.Idx) : V m c main_v2 i = m (c, Proc.tc.devRef main_arg4) (ix3 0 (i 0) (i 1)) := by unfold V; after_reads_at

end Cert.OoIdeal.Step

namespace Cert.Proof.AdamOut

open Idealize.ShloMosaic Idealize.ShloMosaic.TcCoe Idealize.SL.Sem
open Cert.QoIdeal Cert.QoIdeal.Read Cert.Adam

section
variable (p q : S256x1024.Idx → EReal) (w a b : S1x256x1024.Idx → EReal)

/-- The entry of a weight with a leading axis that entry `i` is. -/
abbrev lead (i : S256x1024.Idx) : S1x256x1024.Idx := ix3 0 (i 0) (i 1)

theorem back (i : S256x1024.Idx) : idx_main_v26 i = lead i := by
  have h0 : (i 0).val < 256 := (i 0).isLt
  have h1 : (i 1).val < 1024 := (i 1).isLt
  refine eq_ix3_of _ _ _ _ rfl ?_ ?_
  · show ((i 0).val * 1024 + (i 1).val) / 1024 % 256 = (i 0).val; omega
  · show ((i 0).val * 1024 + (i 1).val) % 1024 = (i 1).val; omega

theorem ref_g (i : S256x1024.Idx) : val_main_v1 (F := Ideal) p q (lead i) = p i + q i := by
  rw [val_main_v1_apply, show idx_main_v1 (lead i) = i from (eq_ix2_of (idx_main_v1 (lead i)) (i 0) (i 1) rfl rfl).trans (eq_ix2_of i _ _ rfl rfl).symm]; rfl

theorem ref0 (i : S256x1024.Idx) : val_main_v26 (F := Ideal) p q i = p i + q i := by
  rw [val_main_v26_apply, back, ref_g]
theorem ref1 (i : S256x1024.Idx) : val_main_v27 (F := Ideal) p q w a b i = delta (p i + q i) (w (lead i)) (a (lead i)) (b (lead i)) := by
  rw [val_main_v27_apply, show idx_main_v27 i = lead i from back i, ← ref_g]; rfl
theorem ref2 (i : S256x1024.Idx) : val_main_v28 (F := Ideal) p q a i = mom1 (p i + q i) (a (lead i)) := by
  rw [val_main_v28_apply, show idx_main_v28 i = lead i from back i, ← ref_g]; rfl
theorem ref3 (i : S256x1024.Idx) : val_main_v29 (F := Ideal) p q b i = mom2 (p i + q i) (b (lead i)) := by
  rw [val_main_v29_apply, show idx_main_v29 i = lead i from back i, ← ref_g]; rfl
end

/-- The gradient, the step and the two moments are the reference's, over the extended reals. -/
theorem algebraic : Cert.algebraic_OoIdeal_QoIdeal := by
  intro m ρ m' ρ' _ hagree
  refine ⟨fun c => (Cert.OoIdeal.Gen.dats m 0 c).arrAt 5 Cert.OoIdeal.cfg0.N, fun c => (Cert.OoIdeal.Gen.dats m 0 c).arrAt 6 Cert.OoIdeal.cfg0.N,
    fun c => (Cert.OoIdeal.Gen.dats m 0 c).arrAt 7 Cert.OoIdeal.cfg0.N, fun c => (Cert.OoIdeal.Gen.dats m 0 c).arrAt 8 Cert.OoIdeal.cfg0.N,
    Cert.OoIdeal.Value.run_blocks m ρ, ?_⟩
  refine (θ_run Cert.QoIdeal.defs _ _).mono (fun _ h c => ?_) (Cert.QoIdeal.Value.run (F := Ideal) m' ρ')
  obtain ⟨h0, h1, h2, h3, hk⟩ := h c
  obtain ⟨e0, e1, e2, e3, e4⟩ := hagree c
  refine ⟨h0.trans ?_, h1.trans ?_, h2.trans ?_, h3.trans ?_, hk⟩ <;> clear h0 h1 h2 h3 hk
  · rw [val_main_v26_eq, e0, e1]
    refine Eq.trans (eq_of_at (ref0 _ _) fun i => ?_) (Cert.OoIdeal.Step.final5 m c).symm
    rw [Cert.OoIdeal.Step.gAt, Cert.OoIdeal.Step.V0, Cert.OoIdeal.Step.V1]
  · rw [val_main_v27_eq, e0, e1, e2, e3, e4]
    refine Eq.trans (eq_of_at (ref1 _ _ _ _ _) fun i => ?_) (Cert.OoIdeal.Step.final6 m c).symm
    rw [Cert.OoIdeal.Step.gAt, Cert.OoIdeal.Step.V0, Cert.OoIdeal.Step.V1, Cert.OoIdeal.Step.V2, Cert.OoIdeal.Step.V3, Cert.OoIdeal.Step.V4]
  · rw [val_main_v28_eq, e0, e1, e3]
    refine Eq.trans (eq_of_at (ref2 _ _ _) fun i => ?_) (Cert.OoIdeal.Step.final7 m c).symm
    rw [Cert.OoIdeal.Step.gAt, Cert.OoIdeal.Step.V0, Cert.OoIdeal.Step.V1, Cert.OoIdeal.Step.V3]
  · rw [val_main_v29_eq, e0, e1, e4]
    refine Eq.trans (eq_of_at (ref3 _ _ _) fun i => ?_) (Cert.OoIdeal.Step.final8 m c).symm
    rw [Cert.OoIdeal.Step.gAt, Cert.OoIdeal.Step.V0, Cert.OoIdeal.Step.V1, Cert.OoIdeal.Step.V4]

/-- The reference runs to its end. -/
theorem frame_reference : Cert.quiescent_QoIdeal := fun m ρ _ =>
  (θ_run Cert.QoIdeal.defs _ _).mono (fun r h => ⟨fun c => (h c).2.2.2.2, sem_eq_zero_of_no_sems (by decide) r.2⟩)
    (Cert.QoIdeal.Value.run (F := Ideal) m ρ)

end Cert.Proof.AdamOut
end
-- ==== Proof.AdamConv.lean ====
/-
  The optimiser on the convolution's weights: the kernel's four arrays against the reference's lines.
-/
module

public import proofs.«01_k».proof.Defs
public import proofs.«01_k».proof.Proof.Adam
public import proofs.«01_k».proof.Proof.Gen.OcIdeal.Value
public import proofs.«01_k».proof.Proof.Gen.QcIdeal.Run
public import proofs.«01_k».proof.Proof.Gen.QcIdeal.Read

@[expose] public section

noncomputable section

namespace Cert.OcIdeal.Step

open Idealize.ShloMosaic Idealize.ShloMosaic.TcCoe Idealize.SL.Sem
open Cert.OcIdeal.Gen Cert.Adam

variable (m : (ℓ : Loc nD τ sig) → Buf (Elt Ideal) ℓ)

/-! ## The stored values -/

theorem pay1 (p b : FVec Ideal S4x384 .f32) : k0_pay1 p b = onMom1 p b := by
  unfold k0_pay1; simp only [shapeCast_self]; rfl
theorem pay2 (p b : FVec Ideal S4x384 .f32) : k0_pay2 p b = onMom2 p b := by
  unfold k0_pay2; simp only [shapeCast_self]; rfl
theorem pay3 (p w a b : FVec Ideal S4x384 .f32) : k0_pay3 p w a b = onDelta p w a b := by
  unfold k0_pay3; simp only [shapeCast_self, pay1, pay2]; rfl

/-! ## The blocks -/

theorem idx_w : ∀ t : Fin cfg0.N, (win0_0.index t (0 : Fin 2) = 0 ∧ win0_0.index t (1 : Fin 2) = 0) ∧ (win0_1.index t (0 : Fin 2) = 0 ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ (win0_5.index t (0 : Fin 2) = 0 ∧ win0_5.index t (1 : Fin 2) = 0)
    ∧ (win0_6.index t (0 : Fin 2) = 0 ∧ win0_6.index t (1 : Fin 2) = 0) ∧ (win0_7.index t (0 : Fin 2) = 0 ∧ win0_7.index t (1 : Fin 2) = 0) :=
  (by decide +kernel : ∀ t : Fin grid0.N, _)

/-- Entry `y` of the block of the one point, in the array. -/
abbrev at_ (_ : Fin cfg0.N) (y : S4x384.Idx) : S4x384.Idx := ix2 (y 0) (y 1)

theorem at_eq (t : Fin cfg0.N) (y : S4x384.Idx) (e : S4x384.Idx → S4x384.Idx) (h0 : (e y 0).val = (y 0).val)
    (h1 : (e y 1).val = (y 1).val) : at_ t y = e y :=
  funext fun a => match a with
    | ⟨0, _⟩ => Fin.ext h0.symm
    | ⟨1, _⟩ => Fin.ext h1.symm

theorem blk0 (c : Dev nD) (t : Fin cfg0.N) (y : S4x384.Idx) : iblk m c 0 t y = V m c main_arg0 (at_ t y) := by blk_ext [iblk, idx_w t] <;> rfl
theorem blk1 (c : Dev nD) (t : Fin cfg0.N) (y : S4x384.Idx) : iblk m c 1 t y = V m c main_v0 (at_ t y) := by blk_ext [iblk, idx_w t] <;> rfl
theorem blk2 (c : Dev nD) (t : Fin cfg0.N) (y : S4x384.Idx) : iblk m c 2 t y = V m c main_v1 (at_ t y) := by blk_ext [iblk, idx_w t] <;> rfl
theorem blk3 (c : Dev nD) (t : Fin cfg0.N) (y : S4x384.Idx) : iblk m c 3 t y = V m c main_v2 (at_ t y) := by blk_ext [iblk, idx_w t] <;> rfl

/-! ## The four arrays -/

/-- The gradient, already summed. -/
abbrev gAt (c : Dev nD) (i : S4x384.Idx) : EReal := V m c main_arg0 i

theorem gBlk (c : Dev nD) (t : Fin cfg0.N) (y : S4x384.Idx) :
    iblk m c 0 t y = gAt m c (at_ t y) := blk0 m c t y

theorem final4 (c : Dev nD) : (dats m 0 c).arrAt 4 cfg0.N = gAt m c := by
  refine (dats m 0 c).arrAt_eq_of_covers 4 _ (by decide +kernel) fun t hf y => ?_
  blk_simp
  refine Eq.trans ?_ (congrArg (gAt m c) (at_eq t y (win0_4.blk t).view.emb (by simp [idx_w t]) (by simp [idx_w t])))
  rw [after0_4]; unfold out0_4; frame_out
  exact gBlk m c t y

theorem final5 (c : Dev nD) : (dats m 0 c).arrAt 5 cfg0.N
    = fun i : S4x384.Idx => delta (gAt m c i) (V m c main_v0 i) (V m c main_v1 i) (V m c main_v2 i) := by
  refine (dats m 0 c).arrAt_eq_of_covers 5 _ (by decide +kernel) fun t hf y => ?_
  blk_simp
  refine Eq.trans ?_ (congrArg (fun i : S4x384.Idx => delta (gAt m c i) (V m c main_v0 i) (V m c main_v1 i) (V m c main_v2 i))
    (at_eq t y (win0_5.blk t).view.emb (by simp [idx_w t]) (by simp [idx_w t])))
  rw [after0_5]; unfold out0_5; frame_out
  rw [pay3, onDelta_apply, gBlk, blk1, blk2, blk3]

theorem final6 (c : Dev nD) : (dats m 0 c).arrAt 6 cfg0.N = fun i : S4x384.Idx => mom1 (gAt m c i) (V m c main_v1 i) := by
  refine (dats m 0 c).arrAt_eq_of_covers 6 _ (by decide +kernel) fun t hf y => ?_
  blk_simp
  refine Eq.trans ?_ (congrArg (fun i : S4x384.Idx => mom1 (gAt m c i) (V m c main_v1 i))
    (at_eq t y (win0_6.blk t).view.emb (by simp [idx_w t]) (by simp [idx_w t])))
  rw [after0_6]; unfold out0_6; frame_out
  rw [pay1, onMom1_apply, gBlk, blk2]

theorem final7 (c : Dev nD) : (dats m 0 c).arrAt 7 cfg0.N = fun i : S4x384.Idx => mom2 (gAt m c i) (V m c main_v2 i) := by
  refine (dats m 0 c).arrAt_eq_of_covers 7 _ (by decide +kernel) fun t hf y => ?_
  blk_simp
  refine Eq.trans ?_ (congrArg (fun i : S4x384.Idx => mom2 (gAt m c i) (V m c main_v2 i))
    (at_eq t y (win0_7.blk t).view.emb (by simp [idx_w t]) (by simp [idx_w t])))
  rw [after0_7]; unfold out0_7; frame_out
  rw [pay2, onMom2_apply, gBlk, blk3]

/-! ## The arrays that the host prepares -/

theorem V0 (c : Dev nD) : V m c main_arg0 = m (c, Proc.tc.devRef main_arg0) := by unfold V; after_reads_at
theorem V1 (c : Dev nD) (i : S4x384.Idx) : V m c main_v0 i = m (c, Proc.tc.devRef main_arg1) (ix3 0 (i 0) (i 1)) := by unfold V; after_reads_at
theorem V2 (c : Dev nD) (i : S4x384.Idx) : V m c main_v1 i = m (c, Proc.tc.devRef main_arg2) (ix3 0 (i 0) (i 1)) := by unfold V; after_reads_at
theorem V3 (c : Dev nD) (i : S4x384.Idx) : V m c main_v2 i = m (c, Proc.tc.devRef main_arg3) (ix3 0 (i 0) (i 1)) := by unfold V; after_reads_at

end Cert.OcIdeal.Step

namespace Cert.Proof.AdamConv

open Idealize.ShloMosaic Idealize.ShloMosaic.TcCoe Idealize.SL.Sem
open Cert.QcIdeal Cert.QcIdeal.Read Cert.Adam

section
variable (p : S4x384.Idx → EReal) (w a b : S1x4x384.Idx → EReal)

/-- The entry of a weight with a leading axis that entry `i` is. -/
abbrev lead (i : S4x384.Idx) : S1x4x384.Idx := ix3 0 (i 0) (i 1)

theorem back (i : S4x384.Idx) : idx_main_v25 i = lead i := by
  have h0 : (i 0).val < 4 := (i 0).isLt
  have h1 : (i 1).val < 384 := (i 1).isLt
  refine eq_ix3_of _ _ _ _ rfl ?_ ?_
  · show ((i 0).val * 384 + (i 1).val) / 384 % 4 = (i 0).val; omega
  · show ((i 0).val * 384 + (i 1).val) % 384 = (i 1).val; omega

theorem ref_g (i : S4x384.Idx) : val_main_v0 (F := Ideal) p (lead i) = p i := by
  rw [val_main_v0_apply, show idx_main_v0 (lead i) = i from (eq_ix2_of (idx_main_v0 (lead i)) (i 0) (i 1) rfl rfl).trans (eq_ix2_of i _ _ rfl rfl).symm]

theorem ref0 (i : S4x384.Idx) : val_main_v25 (F := Ideal) p i = p i := by
  rw [val_main_v25_apply, back, ref_g]
theorem ref1 (i : S4x384.Idx) : val_main_v26 (F := Ideal) p w a b i = delta (p i) (w (lead i)) (a (lead i)) (b (lead i)) := by
  rw [val_main_v26_apply, show idx_main_v26 i = lead i from back i, ← ref_g p i]; rfl
theorem ref2 (i : S4x384.Idx) : val_main_v27 (F := Ideal) p a i = mom1 (p i) (a (lead i)) := by
  rw [val_main_v27_apply, show idx_main_v27 i = lead i from back i, ← ref_g p i]; rfl
theorem ref3 (i : S4x384.Idx) : val_main_v28 (F := Ideal) p b i = mom2 (p i) (b (lead i)) := by
  rw [val_main_v28_apply, show idx_main_v28 i = lead i from back i, ← ref_g p i]; rfl
end

/-- The gradient, the step and the two moments are the reference's, over the extended reals. -/
theorem algebraic : Cert.algebraic_OcIdeal_QcIdeal := by
  intro m ρ m' ρ' _ hagree
  refine ⟨fun c => (Cert.OcIdeal.Gen.dats m 0 c).arrAt 4 Cert.OcIdeal.cfg0.N, fun c => (Cert.OcIdeal.Gen.dats m 0 c).arrAt 5 Cert.OcIdeal.cfg0.N,
    fun c => (Cert.OcIdeal.Gen.dats m 0 c).arrAt 6 Cert.OcIdeal.cfg0.N, fun c => (Cert.OcIdeal.Gen.dats m 0 c).arrAt 7 Cert.OcIdeal.cfg0.N,
    Cert.OcIdeal.Value.run_blocks m ρ, ?_⟩
  refine (θ_run Cert.QcIdeal.defs _ _).mono (fun _ h c => ?_) (Cert.QcIdeal.Value.run (F := Ideal) m' ρ')
  obtain ⟨h0, h1, h2, h3, hk⟩ := h c
  obtain ⟨e0, e1, e2, e3⟩ := hagree c
  refine ⟨h0.trans ?_, h1.trans ?_, h2.trans ?_, h3.trans ?_, hk⟩ <;> clear h0 h1 h2 h3 hk
  · rw [val_main_v25_eq, e0]
    refine Eq.trans (eq_of_at (ref0 _) fun i => ?_) (Cert.OcIdeal.Step.final4 m c).symm
    rw [Cert.OcIdeal.Step.gAt, Cert.OcIdeal.Step.V0]
  · rw [val_main_v26_eq, e0, e1, e2, e3]
    refine Eq.trans (eq_of_at (ref1 _ _ _ _) fun i => ?_) (Cert.OcIdeal.Step.final5 m c).symm
    rw [Cert.OcIdeal.Step.gAt, Cert.OcIdeal.Step.V0, Cert.OcIdeal.Step.V1, Cert.OcIdeal.Step.V2, Cert.OcIdeal.Step.V3]
  · rw [val_main_v27_eq, e0, e2]
    refine Eq.trans (eq_of_at (ref2 _ _) fun i => ?_) (Cert.OcIdeal.Step.final6 m c).symm
    rw [Cert.OcIdeal.Step.gAt, Cert.OcIdeal.Step.V0, Cert.OcIdeal.Step.V2]
  · rw [val_main_v28_eq, e0, e3]
    refine Eq.trans (eq_of_at (ref3 _ _) fun i => ?_) (Cert.OcIdeal.Step.final7 m c).symm
    rw [Cert.OcIdeal.Step.gAt, Cert.OcIdeal.Step.V0, Cert.OcIdeal.Step.V3]

/-- The reference runs to its end. -/
theorem frame_reference : Cert.quiescent_QcIdeal := fun m ρ _ =>
  (θ_run Cert.QcIdeal.defs _ _).mono (fun r h => ⟨fun c => (h c).2.2.2.2, sem_eq_zero_of_no_sems (by decide) r.2⟩)
    (Cert.QcIdeal.Value.run (F := Ideal) m ρ)

end Cert.Proof.AdamConv
end
-- ==== Proof.AdamStacked.lean ====
/-
  The optimiser on the first network's down projection: the kernel's four arrays against the reference's lines. The
  gradient comes in two halves of its rows, this device's and its partner's, and the device's place on the axis tells
  which half is the upper one.
-/
module

public import proofs.«01_k».proof.Defs
public import proofs.«01_k».proof.Proof.Adam
public import proofs.«01_k».proof.Proof.Gen.OkIdeal.Value
public import proofs.«01_k».proof.Proof.Gen.QkIdeal.Run
public import proofs.«01_k».proof.Proof.Gen.QkIdeal.Read

@[expose] public section

set_option maxRecDepth 16384

noncomputable section

namespace Cert.OkIdeal.Step

open Idealize.ShloMosaic Idealize.ShloMosaic.TcCoe Idealize.SL.Sem
open Cert.OkIdeal Cert.OkIdeal.Gen Cert.Adam

variable (m : (ℓ : Loc nD τ sig) → Buf (Elt Ideal) ℓ)

/-! ## The stored values -/

/-- The word that chooses the block: set where the point is the device's own. -/
theorem own : ∀ (c : Dev nD) (t : Fin grid0.N),
    Scalar.cmpi .eq (Scalar.remsi (Scalar.divsi (Dev.word c) 1#32) 2#32) (BitVec.ofNat 32 (grid0.coords t 0).val)
      = if t.val = c.val then 1#1 else 0#1 := by decide +kernel

theorem pay2 (c : Dev nD) (t : Fin cfg0.N) (p q : FVec Ideal S352x1024 .f32) :
    k0_pay2 (grid0.coords t) c p q = if t.val = c.val then p else q := by
  unfold k0_pay2
  simp only [shapeCast_self]
  rw [show Scalar.cmpi .eq (Scalar.remsi (Scalar.divsi (Dev.word c) 1#32) 2#32) (BitVec.ofNat 32 (grid0.coords t 0).val)
      = if t.val = c.val then 1#1 else 0#1 from own c t]
  split <;> rfl
theorem pay3 (i : grid0.Coords) (c : Dev nD) (p q b : FVec Ideal S352x1024 .f32) : k0_pay3 i c p q b = onMom1 (k0_pay2 i c p q) b := by
  unfold k0_pay3; simp only [shapeCast_self]; rfl
theorem pay4 (i : grid0.Coords) (c : Dev nD) (p q b : FVec Ideal S352x1024 .f32) : k0_pay4 i c p q b = onMom2 (k0_pay2 i c p q) b := by
  unfold k0_pay4; simp only [shapeCast_self]; rfl
theorem pay1 (i : grid0.Coords) (c : Dev nD) (p q w a b : FVec Ideal S352x1024 .f32) :
    k0_pay1 (k0_pay5 i c p q w a b) (Scalar.ofBits .f32 0xBA83126F#32) = onDelta (k0_pay2 i c p q) w a b := by
  unfold k0_pay1 k0_pay5; simp only [shapeCast_self, pay3, pay4]; rfl

theorem out5 (c : Dev nD) (t : Fin cfg0.N) : (outsAt0 m c t).1 = k0_pay2 (grid0.coords t) c (iblk m c 0 t) (iblk m c 1 t) := by
  unfold outsAt0 out0_A_5 kernelRun0_A
  frame_out
theorem out6 (c : Dev nD) (t : Fin cfg0.N) : (outsAt0 m c t).2.1 = onDelta (k0_pay2 (grid0.coords t) c (iblk m c 0 t) (iblk m c 1 t))
    (iblk m c 2 t) (iblk m c 3 t) (iblk m c 4 t) := by
  rw [← pay1]; unfold outsAt0 out0_A_6 kernelRun0_A
  frame_out
theorem out7 (c : Dev nD) (t : Fin cfg0.N) : (outsAt0 m c t).2.2.1 = onMom1 (k0_pay2 (grid0.coords t) c (iblk m c 0 t) (iblk m c 1 t))
    (iblk m c 3 t) := by
  rw [← pay3]; unfold outsAt0 out0_A_7 kernelRun0_A
  frame_out
theorem out8 (c : Dev nD) (t : Fin cfg0.N) : (outsAt0 m c t).2.2.2 = onMom2 (k0_pay2 (grid0.coords t) c (iblk m c 0 t) (iblk m c 1 t))
    (iblk m c 4 t) := by
  rw [← pay4]; unfold outsAt0 out0_A_8 kernelRun0_A
  frame_out

/-! ## The blocks -/

theorem idx_w : ∀ t : Fin cfg0.N, (win0_0.index t (0 : Fin 2) = 0 ∧ win0_0.index t (1 : Fin 2) = 0) ∧ (win0_1.index t (0 : Fin 2) = 0 ∧ win0_1.index t (1 : Fin 2) = 0)
    ∧ (win0_2.index t (0 : Fin 2) = t.val ∧ win0_2.index t (1 : Fin 2) = 0) ∧ (win0_3.index t (0 : Fin 2) = t.val ∧ win0_3.index t (1 : Fin 2) = 0)
    ∧ (win0_4.index t (0 : Fin 2) = t.val ∧ win0_4.index t (1 : Fin 2) = 0) ∧ (win0_5.index t (0 : Fin 2) = t.val ∧ win0_5.index t (1 : Fin 2) = 0)
    ∧ (win0_6.index t (0 : Fin 2) = t.val ∧ win0_6.index t (1 : Fin 2) = 0) ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- Entry `y` of the block of point `t`, in the array. -/
abbrev at_ (t : Fin cfg0.N) (y : S352x1024.Idx) : S704x1024.Idx :=
  ix2 ⟨t.val * 352 + (y 0).val, by have : t.val < 2 := lt_of_lt_of_eq t.isLt N_0; have : (y 0).val < 352 := (y 0).isLt; omega⟩ (y 1)

/-- The entry's place in its half of the rows. -/
abbrev half (i : S704x1024.Idx) : S352x1024.Idx := ix2 ⟨(i 0).val % 352, Nat.mod_lt _ (by decide)⟩ (i 1)

theorem half_at (t : Fin cfg0.N) (y : S352x1024.Idx) : half (at_ t y) = y :=
  funext fun a => match a with
    | ⟨0, _⟩ => Fin.ext (by show (t.val * 352 + (y 0).val) % 352 = (y 0).val; have : (y 0).val < 352 := (y 0).isLt; omega)
    | ⟨1, _⟩ => rfl

theorem at_eq (t : Fin cfg0.N) (y : S352x1024.Idx) (e : S352x1024.Idx → S704x1024.Idx) (h0 : (e y 0).val = t.val * 352 + (y 0).val)
    (h1 : (e y 1).val = (y 1).val) : at_ t y = e y :=
  funext fun a => match a with
    | ⟨0, _⟩ => Fin.ext h0.symm
    | ⟨1, _⟩ => Fin.ext h1.symm

theorem blk0 (c : Dev nD) (t : Fin cfg0.N) (y : S352x1024.Idx) : iblk m c 0 t y = V m c main_arg0 y := by blk_ext [iblk, idx_w t] <;> rfl
theorem blk1 (c : Dev nD) (t : Fin cfg0.N) (y : S352x1024.Idx) : iblk m c 1 t y = V m c main_arg1 y := by blk_ext [iblk, idx_w t] <;> rfl
theorem blk2 (c : Dev nD) (t : Fin cfg0.N) (y : S352x1024.Idx) : iblk m c 2 t y = V m c main_v1 (at_ t y) := by blk_ext [iblk, idx_w t] <;> rfl
theorem blk3 (c : Dev nD) (t : Fin cfg0.N) (y : S352x1024.Idx) : iblk m c 3 t y = V m c main_v2 (at_ t y) := by blk_ext [iblk, idx_w t] <;> rfl
theorem blk4 (c : Dev nD) (t : Fin cfg0.N) (y : S352x1024.Idx) : iblk m c 4 t y = V m c main_v3 (at_ t y) := by blk_ext [iblk, idx_w t] <;> rfl

/-! ## The four arrays -/

/-- The gradient: the device's own half of the rows is the first argument, the other half the second. -/
abbrev gAt (c : Dev nD) (i : S704x1024.Idx) : EReal := if (i 0).val / 352 = c.val then V m c main_arg0 (half i) else V m c main_arg1 (half i)

theorem gBlk (c : Dev nD) (t : Fin cfg0.N) (y : S352x1024.Idx) :
    k0_pay2 (grid0.coords t) c (iblk m c 0 t) (iblk m c 1 t) y = gAt m c (at_ t y) := by
  rw [pay2, gAt, half_at]
  have h : (at_ t y 0).val / 352 = t.val := by show (t.val * 352 + (y 0).val) / 352 = t.val; have : (y 0).val < 352 := (y 0).isLt; omega
  rw [h]
  split
  · exact blk0 m c t y
  · exact blk1 m c t y

theorem final5 (c : Dev nD) : (dats m 0 c).arrAt 5 cfg0.N = gAt m c := by
  refine (dats m 0 c).arrAt_eq_of_covers 5 _ (by decide +kernel) fun t hf y => ?_
  blk_simp
  refine Eq.trans ?_ (congrArg (gAt m c)
    (at_eq t y (win0_5.blk t).view.emb (by simp [idx_w t]) (by simp [idx_w t])))
  rw [after0_5, out5]
  exact gBlk m c t y

theorem final6 (c : Dev nD) : (dats m 0 c).arrAt 6 cfg0.N = fun i : S704x1024.Idx => delta (gAt m c i) (V m c main_v1 i) (V m c main_v2 i) (V m c main_v3 i) := by
  refine (dats m 0 c).arrAt_eq_of_covers 6 _ (by decide +kernel) fun t hf y => ?_
  blk_simp
  refine Eq.trans ?_ (congrArg (fun i : S704x1024.Idx => delta (gAt m c i) (V m c main_v1 i) (V m c main_v2 i) (V m c main_v3 i))
    (at_eq t y (win0_6.blk t).view.emb (by simp [idx_w t]) (by simp [idx_w t])))
  rw [after0_6, out6]
  rw [onDelta_apply, gBlk, blk2, blk3, blk4]

theorem final7 (c : Dev nD) : (dats m 0 c).arrAt 7 cfg0.N = fun i : S704x1024.Idx => mom1 (gAt m c i) (V m c main_v2 i) := by
  refine (dats m 0 c).arrAt_eq_of_covers 7 _ (by decide +kernel) fun t hf y => ?_
  blk_simp
  refine Eq.trans ?_ (congrArg (fun i : S704x1024.Idx => mom1 (gAt m c i) (V m c main_v2 i))
    (at_eq t y (win0_7.blk t).view.emb (by simp [idx_w t]) (by simp [idx_w t])))
  rw [after0_7, out7]
  rw [onMom1_apply, gBlk, blk3]

theorem final8 (c : Dev nD) : (dats m 0 c).arrAt 8 cfg0.N = fun i : S704x1024.Idx => mom2 (gAt m c i) (V m c main_v3 i) := by
  refine (dats m 0 c).arrAt_eq_of_covers 8 _ (by decide +kernel) fun t hf y => ?_
  blk_simp
  refine Eq.trans ?_ (congrArg (fun i : S704x1024.Idx => mom2 (gAt m c i) (V m c main_v3 i))
    (at_eq t y (win0_8.blk t).view.emb (by simp [idx_w t]) (by simp [idx_w t])))
  rw [after0_8, out8]
  rw [onMom2_apply, gBlk, blk4]

/-! ## The arrays that the host prepares -/

theorem V0 (c : Dev nD) : V m c main_arg0 = m (c, Proc.tc.devRef main_arg0) := by unfold V; after_reads_at
theorem V1 (c : Dev nD) : V m c main_arg1 = m (c, Proc.tc.devRef main_arg1) := by unfold V; after_reads_at
theorem V2 (c : Dev nD) (i : S704x1024.Idx) : V m c main_v1 i = m (c, Proc.tc.devRef main_arg2) (ix3 0 (i 0) (i 1)) := by unfold V; after_reads_at
theorem V3 (c : Dev nD) (i : S704x1024.Idx) : V m c main_v2 i = m (c, Proc.tc.devRef main_arg3) (ix3 0 (i 0) (i 1)) := by unfold V; after_reads_at
theorem V4 (c : Dev nD) (i : S704x1024.Idx) : V m c main_v3 i = m (c, Proc.tc.devRef main_arg4) (ix3 0 (i 0) (i 1)) := by unfold V; after_reads_at

end Cert.OkIdeal.Step

namespace Cert.Proof.AdamStacked

open Idealize.ShloMosaic Idealize.ShloMosaic.TcCoe Idealize.SL.Sem
open Cert.QkIdeal Cert.QkIdeal.Read Cert.Adam

section
variable (c : Dev nD) (p q : S352x1024.Idx → EReal) (w a b : S1x704x1024.Idx → EReal)

/-- The entry of a weight with a leading axis that entry `i` is. -/
abbrev lead (i : S704x1024.Idx) : S1x704x1024.Idx := ix3 0 (i 0) (i 1)

theorem back (i : S704x1024.Idx) : idx_main_v34 i = lead i := by
  have h0 : (i 0).val < 704 := (i 0).isLt
  have h1 : (i 1).val < 1024 := (i 1).isLt
  refine eq_ix3_of _ _ _ _ rfl ?_ ?_
  · show ((i 0).val * 1024 + (i 1).val) / 1024 % 704 = (i 0).val; omega
  · show ((i 0).val * 1024 + (i 1).val) % 1024 = (i 1).val; omega

/-- The entry's place in its half of the rows. -/
abbrev half (i : S704x1024.Idx) : S352x1024.Idx := ix2 ⟨(i 0).val % 352, Nat.mod_lt _ (by decide)⟩ (i 1)

/-- The two halves one above the other, entry by entry. -/
theorem stacked (u v : S352x1024.Idx → EReal) (h : Shape.Concatenates [S352x1024, S352x1024] S704x1024 0) (i : S704x1024.Idx) :
    concatenate S704x1024 0 [⟨S352x1024, u⟩, ⟨S352x1024, v⟩] h i = if (i 0).val / 352 = 0 then u (half i) else v (half i) := by
  have h0 : (i 0).val < 704 := (i 0).isLt
  rw [concatenate_pair_apply]
  split
  · next hl =>
      have hl : (i 0).val < 352 := hl
      rw [if_pos (by omega)]
      exact congrArg u (eq_ix2_of _ _ _ (by show (i 0).val = (i 0).val % 352; omega) rfl)
  · next hl =>
      have hl : ¬(i 0).val < 352 := hl
      rw [if_neg (by omega)]
      exact congrArg v (eq_ix2_of _ _ _ (by show (i 0).val - 352 = (i 0).val % 352; omega) rfl)

/-- A choice between two arrays by one word, entry by entry. -/
theorem chosen (h : S_.BroadcastsInDim S704x1024 ![]) (k : IVec S_ 1) (u v : S704x1024.Idx → EReal) (i : S704x1024.Idx) (b : Prop) [Decidable b]
    (hk : k (fun a => a.elim0) = if b then 1#1 else 0#1) :
    select (broadcastInDim S704x1024 ![] h k) u v i = if b then u i else v i := by
  have e : broadcastInDim S704x1024 ![] h k i = if b then 1#1 else 0#1 :=
    (broadcastInDim_apply _ h k i (fun a => a.elim0) (fun a => a.elim0)).trans hk
  show Scalar.select (broadcastInDim S704x1024 ![] h k i) (u i) (v i) = _
  rw [e]
  split <;> rfl

theorem first : ∀ c : Dev nD, IntOp.cmpi .eq (IntOp.remui .host (IntOp.divui .host (Dev.word c) 1#32) 2#32) 0#32 = if c.val = 0 then 1#1 else 0#1 := by
  decide +kernel

/-- The reference's gradient. -/
abbrev gRef (i : S704x1024.Idx) : EReal := if (i 0).val / 352 = c.val then p (half i) else q (half i)

theorem ref_sel (i : S704x1024.Idx) : val_main_v8 (F := Ideal) c p q i = gRef c p q i := by
  have h0 : (i 0).val < 704 := (i 0).isLt
  have hc : c.val < 2 := c.isLt
  have h : val_main_v8 (F := Ideal) c p q i = if c.val = 0 then val_main_v6 (F := Ideal) p q i else val_main_v7 (F := Ideal) p q i := chosen _ _ _ _ i _ (first c)
  rw [h, val_main_v6, val_main_v7, stacked, stacked, gRef]
  have hh : (i 0).val / 352 < 2 := by omega
  obtain hc | hc : c.val = 0 ∨ c.val = 1 := by omega
  · rw [hc, if_pos rfl]
  · rw [hc, if_neg (by decide)]
    obtain e | e : (i 0).val / 352 = 0 ∨ (i 0).val / 352 = 1 := by omega
    · rw [e]; rfl
    · rw [e]; rfl

theorem ref_g (i : S704x1024.Idx) : val_main_v9 (F := Ideal) c p q (lead i) = gRef c p q i := by
  rw [val_main_v9_apply, show idx_main_v9 (lead i) = i from (eq_ix2_of (idx_main_v9 (lead i)) (i 0) (i 1) rfl rfl).trans (eq_ix2_of i _ _ rfl rfl).symm, ref_sel]

theorem ref0 (i : S704x1024.Idx) : val_main_v34 (F := Ideal) c p q i = gRef c p q i := by
  rw [val_main_v34_apply, back, ref_g]
theorem ref1 (i : S704x1024.Idx) : val_main_v35 (F := Ideal) c p q w a b i = delta (gRef c p q i) (w (lead i)) (a (lead i)) (b (lead i)) := by
  rw [val_main_v35_apply, show idx_main_v35 i = lead i from back i, ← ref_g]; rfl
theorem ref2 (i : S704x1024.Idx) : val_main_v36 (F := Ideal) c p q a i = mom1 (gRef c p q i) (a (lead i)) := by
  rw [val_main_v36_apply, show idx_main_v36 i = lead i from back i, ← ref_g]; rfl
theorem ref3 (i : S704x1024.Idx) : val_main_v37 (F := Ideal) c p q b i = mom2 (gRef c p q i) (b (lead i)) := by
  rw [val_main_v37_apply, show idx_main_v37 i = lead i from back i, ← ref_g]; rfl
end

/-- The gradient, the step and the two moments are the reference's, over the extended reals. -/
theorem algebraic : Cert.algebraic_OkIdeal_QkIdeal := by
  intro m ρ m' ρ' _ hagree
  refine ⟨fun c => (Cert.OkIdeal.Gen.dats m 0 c).arrAt 5 Cert.OkIdeal.cfg0.N, fun c => (Cert.OkIdeal.Gen.dats m 0 c).arrAt 6 Cert.OkIdeal.cfg0.N,
    fun c => (Cert.OkIdeal.Gen.dats m 0 c).arrAt 7 Cert.OkIdeal.cfg0.N, fun c => (Cert.OkIdeal.Gen.dats m 0 c).arrAt 8 Cert.OkIdeal.cfg0.N,
    Cert.OkIdeal.Value.run_blocks m ρ, ?_⟩
  refine (θ_run Cert.QkIdeal.defs _ _).mono (fun _ h c => ?_) (Cert.QkIdeal.Value.run (F := Ideal) m' ρ')
  obtain ⟨h0, h1, h2, h3, hk⟩ := h c
  obtain ⟨e0, e1, e2, e3, e4⟩ := hagree c
  refine ⟨h0.trans ?_, h1.trans ?_, h2.trans ?_, h3.trans ?_, hk⟩ <;> clear h0 h1 h2 h3 hk
  · rw [val_main_v34_eq, e0, e1]
    refine Eq.trans (eq_of_at (ref0 _ _ _) fun i => ?_) (Cert.OkIdeal.Step.final5 m c).symm
    rw [Cert.OkIdeal.Step.gAt, Cert.OkIdeal.Step.V0, Cert.OkIdeal.Step.V1]
  · rw [val_main_v35_eq, e0, e1, e2, e3, e4]
    refine Eq.trans (eq_of_at (ref1 _ _ _ _ _ _) fun i => ?_) (Cert.OkIdeal.Step.final6 m c).symm
    rw [Cert.OkIdeal.Step.gAt, Cert.OkIdeal.Step.V0, Cert.OkIdeal.Step.V1, Cert.OkIdeal.Step.V2, Cert.OkIdeal.Step.V3, Cert.OkIdeal.Step.V4]
  · rw [val_main_v36_eq, e0, e1, e3]
    refine Eq.trans (eq_of_at (ref2 _ _ _ _) fun i => ?_) (Cert.OkIdeal.Step.final7 m c).symm
    rw [Cert.OkIdeal.Step.gAt, Cert.OkIdeal.Step.V0, Cert.OkIdeal.Step.V1, Cert.OkIdeal.Step.V3]
  · rw [val_main_v37_eq, e0, e1, e4]
    refine Eq.trans (eq_of_at (ref3 _ _ _ _) fun i => ?_) (Cert.OkIdeal.Step.final8 m c).symm
    rw [Cert.OkIdeal.Step.gAt, Cert.OkIdeal.Step.V0, Cert.OkIdeal.Step.V1, Cert.OkIdeal.Step.V4]

/-- The reference runs to its end. -/
theorem frame_reference : Cert.quiescent_QkIdeal := fun m ρ _ =>
  (θ_run Cert.QkIdeal.defs _ _).mono (fun r h => ⟨fun c => (h c).2.2.2.2, sem_eq_zero_of_no_sems (by decide) r.2⟩)
    (Cert.QkIdeal.Value.run (F := Ideal) m ρ)

end Cert.Proof.AdamStacked
end
-- ==== Proof.AdamHalves.lean ====
/-
  The optimiser on the first network's gate and up projections: the kernel's four arrays against the reference's lines. The
  weight is kept transposed, and the gradient comes in two halves of its rows, this device's and its partner's, and the device's place on the axis tells
  which half is the upper one.
-/
module

public import proofs.«01_k».proof.Defs
public import proofs.«01_k».proof.Proof.AdamStacked
public import proofs.«01_k».proof.Proof.Gen.OhIdeal.Value
public import proofs.«01_k».proof.Proof.Gen.QhIdeal.Run
public import proofs.«01_k».proof.Proof.Gen.QhIdeal.Read

@[expose] public section

set_option maxRecDepth 16384

noncomputable section

namespace Cert.OhIdeal.Step

open Idealize.ShloMosaic Idealize.ShloMosaic.TcCoe Idealize.SL.Sem
open Cert.OhIdeal Cert.OhIdeal.Gen Cert.Adam

variable (m : (ℓ : Loc nD τ sig) → Buf (Elt Ideal) ℓ)

/-! ## The stored values -/

theorem pay2 (c : Dev nD) (t : Fin cfg0.N) (p q : FVec Ideal S352x1024 .f32) :
    k0_pay2 (grid0.coords t) c p q = if t.val = c.val then p else q := Cert.OkIdeal.Step.pay2 c t p q
theorem pay3 (i : grid0.Coords) (c : Dev nD) (p q b : FVec Ideal S352x1024 .f32) : k0_pay3 i c p q b = onMom1 (k0_pay2 i c p q) b :=
  Cert.OkIdeal.Step.pay3 i c p q b
theorem pay4 (i : grid0.Coords) (c : Dev nD) (p q b : FVec Ideal S352x1024 .f32) : k0_pay4 i c p q b = onMom2 (k0_pay2 i c p q) b :=
  Cert.OkIdeal.Step.pay4 i c p q b
theorem pay1 (i : grid0.Coords) (c : Dev nD) (p q w a b : FVec Ideal S352x1024 .f32) :
    k0_pay1 (k0_pay5 i c p q w a b) (Scalar.ofBits .f32 0xBA83126F#32) = onDelta (k0_pay2 i c p q) w a b := Cert.OkIdeal.Step.pay1 i c p q w a b

theorem out5 (c : Dev nD) (t : Fin cfg0.N) : (outsAt0 m c t).1 = k0_pay2 (grid0.coords t) c (iblk m c 0 t) (iblk m c 1 t) := by
  unfold outsAt0 out0_A_5 kernelRun0_A
  frame_out
theorem out6 (c : Dev nD) (t : Fin cfg0.N) : (outsAt0 m c t).2.1 = onDelta (k0_pay2 (grid0.coords t) c (iblk m c 0 t) (iblk m c 1 t))
    (iblk m c 2 t) (iblk m c 3 t) (iblk m c 4 t) := by
  rw [← pay1]; unfold outsAt0 out0_A_6 kernelRun0_A
  frame_out
theorem out7 (c : Dev nD) (t : Fin cfg0.N) : (outsAt0 m c t).2.2.1 = onMom1 (k0_pay2 (grid0.coords t) c (iblk m c 0 t) (iblk m c 1 t))
    (iblk m c 3 t) := by
  rw [← pay3]; unfold outsAt0 out0_A_7 kernelRun0_A
  frame_out
theorem out8 (c : Dev nD) (t : Fin cfg0.N) : (outsAt0 m c t).2.2.2 = onMom2 (k0_pay2 (grid0.coords t) c (iblk m c 0 t) (iblk m c 1 t))
    (iblk m c 4 t) := by
  rw [← pay4]; unfold outsAt0 out0_A_8 kernelRun0_A
  frame_out

/-! ## The blocks -/

theorem idx_w : ∀ t : Fin cfg0.N, (win0_0.index t (0 : Fin 2) = 0 ∧ win0_0.index t (1 : Fin 2) = 0) ∧ (win0_1.index t (0 : Fin 2) = 0 ∧ win0_1.index t (1 : Fin 2) = 0)
    ∧ (win0_2.index t (0 : Fin 2) = t.val ∧ win0_2.index t (1 : Fin 2) = 0) ∧ (win0_3.index t (0 : Fin 2) = t.val ∧ win0_3.index t (1 : Fin 2) = 0)
    ∧ (win0_4.index t (0 : Fin 2) = t.val ∧ win0_4.index t (1 : Fin 2) = 0) ∧ (win0_5.index t (0 : Fin 2) = t.val ∧ win0_5.index t (1 : Fin 2) = 0)
    ∧ (win0_6.index t (0 : Fin 2) = t.val ∧ win0_6.index t (1 : Fin 2) = 0) ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- Entry `y` of the block of point `t`, in the array. -/
abbrev at_ (t : Fin cfg0.N) (y : S352x1024.Idx) : S704x1024.Idx :=
  ix2 ⟨t.val * 352 + (y 0).val, by have : t.val < 2 := lt_of_lt_of_eq t.isLt N_0; have : (y 0).val < 352 := (y 0).isLt; omega⟩ (y 1)

/-- The entry's place in its half of the rows. -/
abbrev half (i : S704x1024.Idx) : S352x1024.Idx := ix2 ⟨(i 0).val % 352, Nat.mod_lt _ (by decide)⟩ (i 1)

theorem half_at (t : Fin cfg0.N) (y : S352x1024.Idx) : half (at_ t y) = y :=
  funext fun a => match a with
    | ⟨0, _⟩ => Fin.ext (by show (t.val * 352 + (y 0).val) % 352 = (y 0).val; have : (y 0).val < 352 := (y 0).isLt; omega)
    | ⟨1, _⟩ => rfl

theorem at_eq (t : Fin cfg0.N) (y : S352x1024.Idx) (e : S352x1024.Idx → S704x1024.Idx) (h0 : (e y 0).val = t.val * 352 + (y 0).val)
    (h1 : (e y 1).val = (y 1).val) : at_ t y = e y :=
  funext fun a => match a with
    | ⟨0, _⟩ => Fin.ext h0.symm
    | ⟨1, _⟩ => Fin.ext h1.symm

theorem blk0 (c : Dev nD) (t : Fin cfg0.N) (y : S352x1024.Idx) : iblk m c 0 t y = V m c main_arg0 y := by blk_ext [iblk, idx_w t] <;> rfl
theorem blk1 (c : Dev nD) (t : Fin cfg0.N) (y : S352x1024.Idx) : iblk m c 1 t y = V m c main_arg1 y := by blk_ext [iblk, idx_w t] <;> rfl
theorem blk2 (c : Dev nD) (t : Fin cfg0.N) (y : S352x1024.Idx) : iblk m c 2 t y = V m c main_v2 (at_ t y) := by blk_ext [iblk, idx_w t] <;> rfl
theorem blk3 (c : Dev nD) (t : Fin cfg0.N) (y : S352x1024.Idx) : iblk m c 3 t y = V m c main_v4 (at_ t y) := by blk_ext [iblk, idx_w t] <;> rfl
theorem blk4 (c : Dev nD) (t : Fin cfg0.N) (y : S352x1024.Idx) : iblk m c 4 t y = V m c main_v6 (at_ t y) := by blk_ext [iblk, idx_w t] <;> rfl

/-! ## The four arrays -/

/-- The gradient: the device's own half of the rows is the first argument, the other half the second. -/
abbrev gAt (c : Dev nD) (i : S704x1024.Idx) : EReal := if (i 0).val / 352 = c.val then V m c main_arg0 (half i) else V m c main_arg1 (half i)

theorem gBlk (c : Dev nD) (t : Fin cfg0.N) (y : S352x1024.Idx) :
    k0_pay2 (grid0.coords t) c (iblk m c 0 t) (iblk m c 1 t) y = gAt m c (at_ t y) := by
  rw [pay2, gAt, half_at]
  have h : (at_ t y 0).val / 352 = t.val := by show (t.val * 352 + (y 0).val) / 352 = t.val; have : (y 0).val < 352 := (y 0).isLt; omega
  rw [h]
  split
  · exact blk0 m c t y
  · exact blk1 m c t y

theorem final5 (c : Dev nD) : (dats m 0 c).arrAt 5 cfg0.N = gAt m c := by
  refine (dats m 0 c).arrAt_eq_of_covers 5 _ (by decide +kernel) fun t hf y => ?_
  blk_simp
  refine Eq.trans ?_ (congrArg (gAt m c)
    (at_eq t y (win0_5.blk t).view.emb (by simp [idx_w t]) (by simp [idx_w t])))
  rw [after0_5, out5]
  exact gBlk m c t y

theorem final6 (c : Dev nD) : (dats m 0 c).arrAt 6 cfg0.N = fun i : S704x1024.Idx => delta (gAt m c i) (V m c main_v2 i) (V m c main_v4 i) (V m c main_v6 i) := by
  refine (dats m 0 c).arrAt_eq_of_covers 6 _ (by decide +kernel) fun t hf y => ?_
  blk_simp
  refine Eq.trans ?_ (congrArg (fun i : S704x1024.Idx => delta (gAt m c i) (V m c main_v2 i) (V m c main_v4 i) (V m c main_v6 i))
    (at_eq t y (win0_6.blk t).view.emb (by simp [idx_w t]) (by simp [idx_w t])))
  rw [after0_6, out6]
  rw [onDelta_apply, gBlk, blk2, blk3, blk4]

theorem final7 (c : Dev nD) : (dats m 0 c).arrAt 7 cfg0.N = fun i : S704x1024.Idx => mom1 (gAt m c i) (V m c main_v4 i) := by
  refine (dats m 0 c).arrAt_eq_of_covers 7 _ (by decide +kernel) fun t hf y => ?_
  blk_simp
  refine Eq.trans ?_ (congrArg (fun i : S704x1024.Idx => mom1 (gAt m c i) (V m c main_v4 i))
    (at_eq t y (win0_7.blk t).view.emb (by simp [idx_w t]) (by simp [idx_w t])))
  rw [after0_7, out7]
  rw [onMom1_apply, gBlk, blk3]

theorem final8 (c : Dev nD) : (dats m 0 c).arrAt 8 cfg0.N = fun i : S704x1024.Idx => mom2 (gAt m c i) (V m c main_v6 i) := by
  refine (dats m 0 c).arrAt_eq_of_covers 8 _ (by decide +kernel) fun t hf y => ?_
  blk_simp
  refine Eq.trans ?_ (congrArg (fun i : S704x1024.Idx => mom2 (gAt m c i) (V m c main_v6 i))
    (at_eq t y (win0_8.blk t).view.emb (by simp [idx_w t]) (by simp [idx_w t])))
  rw [after0_8, out8]
  rw [onMom2_apply, gBlk, blk4]

/-! ## The arrays that the host prepares -/

theorem V0 (c : Dev nD) : V m c main_arg0 = m (c, Proc.tc.devRef main_arg0) := by unfold V; after_reads_at
theorem V1 (c : Dev nD) : V m c main_arg1 = m (c, Proc.tc.devRef main_arg1) := by unfold V; after_reads_at
theorem V2 (c : Dev nD) (i : S704x1024.Idx) : V m c main_v2 i = m (c, Proc.tc.devRef main_arg2) (ix3 0 (i 1) (i 0)) := by unfold V; after_reads_at
theorem V3 (c : Dev nD) (i : S704x1024.Idx) : V m c main_v4 i = m (c, Proc.tc.devRef main_arg3) (ix3 0 (i 1) (i 0)) := by unfold V; after_reads_at
theorem V4 (c : Dev nD) (i : S704x1024.Idx) : V m c main_v6 i = m (c, Proc.tc.devRef main_arg4) (ix3 0 (i 1) (i 0)) := by unfold V; after_reads_at

end Cert.OhIdeal.Step

namespace Cert.Proof.AdamHalves

open Idealize.ShloMosaic Idealize.ShloMosaic.TcCoe Idealize.SL.Sem
open Cert.QhIdeal Cert.QhIdeal.Read Cert.Adam

section
variable (c : Dev nD) (p q : S352x1024.Idx → EReal) (w a b : S1x1024x704.Idx → EReal)

/-- The entry of a weight, with its leading axis, that entry `i` of its transpose is. -/
abbrev lead (i : S704x1024.Idx) : S1x1024x704.Idx := ix3 0 (i 1) (i 0)

theorem back (i : S704x1024.Idx) : idx_main_v35 (idx_main_v36 i) = lead i := by
  have h0 : (i 0).val < 704 := (i 0).isLt
  have h1 : (i 1).val < 1024 := (i 1).isLt
  refine eq_ix3_of _ _ _ _ rfl ?_ ?_
  · show ((i 1).val * 704 + (i 0).val) / 704 % 1024 = (i 1).val; omega
  · show ((i 1).val * 704 + (i 0).val) % 704 = (i 0).val; omega

/-- The entry's place in its half of the rows. -/
abbrev half (i : S704x1024.Idx) : S352x1024.Idx := ix2 ⟨(i 0).val % 352, Nat.mod_lt _ (by decide)⟩ (i 1)

/-- The reference's gradient. -/
abbrev gRef (i : S704x1024.Idx) : EReal := if (i 0).val / 352 = c.val then p (half i) else q (half i)

theorem ref_sel (i : S704x1024.Idx) : val_main_v8 (F := Ideal) c p q i = gRef c p q i := Cert.Proof.AdamStacked.ref_sel c p q i

theorem ref_g (i : S704x1024.Idx) : val_main_v10 (F := Ideal) c p q (lead i) = gRef c p q i := by
  rw [val_main_v10_apply, val_main_v9_apply, show idx_main_v9 (idx_main_v10 (lead i)) = i from
    (eq_ix2_of (idx_main_v9 (idx_main_v10 (lead i))) (i 0) (i 1) rfl rfl).trans (eq_ix2_of i _ _ rfl rfl).symm, ref_sel]

theorem ref0 (i : S704x1024.Idx) : val_main_v36 (F := Ideal) c p q i = gRef c p q i := by
  rw [val_main_v36_apply, val_main_v35_apply, back, ref_g]
theorem ref1 (i : S704x1024.Idx) : val_main_v38 (F := Ideal) c p q w a b i = delta (gRef c p q i) (w (lead i)) (a (lead i)) (b (lead i)) := by
  rw [val_main_v38_apply, val_main_v37_apply, show idx_main_v37 (idx_main_v38 i) = lead i from back i, ← ref_g]; rfl
theorem ref2 (i : S704x1024.Idx) : val_main_v40 (F := Ideal) c p q a i = mom1 (gRef c p q i) (a (lead i)) := by
  rw [val_main_v40_apply, val_main_v39_apply, show idx_main_v39 (idx_main_v40 i) = lead i from back i, ← ref_g]; rfl
theorem ref3 (i : S704x1024.Idx) : val_main_v42 (F := Ideal) c p q b i = mom2 (gRef c p q i) (b (lead i)) := by
  rw [val_main_v42_apply, val_main_v41_apply, show idx_main_v41 (idx_main_v42 i) = lead i from back i, ← ref_g]; rfl
end

/-- The gradient, the step and the two moments are the reference's, over the extended reals. -/
theorem algebraic : Cert.algebraic_OhIdeal_QhIdeal := by
  intro m ρ m' ρ' _ hagree
  refine ⟨fun c => (Cert.OhIdeal.Gen.dats m 0 c).arrAt 5 Cert.OhIdeal.cfg0.N, fun c => (Cert.OhIdeal.Gen.dats m 0 c).arrAt 6 Cert.OhIdeal.cfg0.N,
    fun c => (Cert.OhIdeal.Gen.dats m 0 c).arrAt 7 Cert.OhIdeal.cfg0.N, fun c => (Cert.OhIdeal.Gen.dats m 0 c).arrAt 8 Cert.OhIdeal.cfg0.N,
    Cert.OhIdeal.Value.run_blocks m ρ, ?_⟩
  refine (θ_run Cert.QhIdeal.defs _ _).mono (fun _ h c => ?_) (Cert.QhIdeal.Value.run (F := Ideal) m' ρ')
  obtain ⟨h0, h1, h2, h3, hk⟩ := h c
  obtain ⟨e0, e1, e2, e3, e4⟩ := hagree c
  refine ⟨h0.trans ?_, h1.trans ?_, h2.trans ?_, h3.trans ?_, hk⟩ <;> clear h0 h1 h2 h3 hk
  · rw [val_main_v36_eq, e0, e1]
    refine Eq.trans (eq_of_at (ref0 _ _ _) fun i => ?_) (Cert.OhIdeal.Step.final5 m c).symm
    rw [Cert.OhIdeal.Step.gAt, Cert.OhIdeal.Step.V0, Cert.OhIdeal.Step.V1]
  · rw [val_main_v38_eq, e0, e1, e2, e3, e4]
    refine Eq.trans (eq_of_at (ref1 _ _ _ _ _ _) fun i => ?_) (Cert.OhIdeal.Step.final6 m c).symm
    rw [Cert.OhIdeal.Step.gAt, Cert.OhIdeal.Step.V0, Cert.OhIdeal.Step.V1, Cert.OhIdeal.Step.V2, Cert.OhIdeal.Step.V3, Cert.OhIdeal.Step.V4]
  · rw [val_main_v40_eq, e0, e1, e3]
    refine Eq.trans (eq_of_at (ref2 _ _ _ _) fun i => ?_) (Cert.OhIdeal.Step.final7 m c).symm
    rw [Cert.OhIdeal.Step.gAt, Cert.OhIdeal.Step.V0, Cert.OhIdeal.Step.V1, Cert.OhIdeal.Step.V3]
  · rw [val_main_v42_eq, e0, e1, e4]
    refine Eq.trans (eq_of_at (ref3 _ _ _ _) fun i => ?_) (Cert.OhIdeal.Step.final8 m c).symm
    rw [Cert.OhIdeal.Step.gAt, Cert.OhIdeal.Step.V0, Cert.OhIdeal.Step.V1, Cert.OhIdeal.Step.V4]

/-- The reference runs to its end. -/
theorem frame_reference : Cert.quiescent_QhIdeal := fun m ρ _ =>
  (θ_run Cert.QhIdeal.defs _ _).mono (fun r h => ⟨fun c => (h c).2.2.2.2, sem_eq_zero_of_no_sems (by decide) r.2⟩)
    (Cert.QhIdeal.Value.run (F := Ideal) m ρ)

end Cert.Proof.AdamHalves
end
-- ==== Proof.AdamAda.lean ====
/-
  The optimiser on the weight of the modulations: the kernel's four arrays against the reference's lines. The gradient is
  a product over the eight devices' conditioning rows, each passed through a gate: the kernel gates the rows of a block
  and multiplies them by the gradients of the modulations, the reference differentiates the forward line.
-/
module

public import proofs.«01_k».proof.Defs
public import proofs.«01_k».proof.Proof.Adam
public import proofs.«01_k».proof.Proof.HalfStep
public import proofs.«01_k».proof.Proof.Gen.OaIdeal.Value
public import proofs.«01_k».proof.Proof.Gen.QaIdeal.Run
public import proofs.«01_k».proof.Proof.Gen.QaIdeal.Read

@[expose] public section

noncomputable section

namespace Cert.OaIdeal.Step

open Idealize.ShloMosaic Idealize.ShloMosaic.TcCoe Idealize.SL.Sem
open Cert.OaIdeal Cert.OaIdeal.Gen Cert.Adam Cert.HalfStep

variable (m : (ℓ : Loc nD τ sig) → Buf (Elt Ideal) ℓ)

/-! ## The stored values -/

theorem pay2 (g b : FVec Ideal S128x2304 .f32) : k0_pay2 g b = onMom1 g b := by
  unfold k0_pay2; simp only [shapeCast_self]; rfl
theorem pay3 (g b : FVec Ideal S128x2304 .f32) : k0_pay3 g b = onMom2 g b := by
  unfold k0_pay3; simp only [shapeCast_self]; rfl
theorem pay4 (g w a b : FVec Ideal S128x2304 .f32) : k0_pay4 g w a b = onDelta g w a b := by
  unfold k0_pay4; simp only [shapeCast_self, pay2, pay3]; rfl

theorem mm_apply (x : FVec Ideal S8x128 .f32) (y : FVec Ideal S8x2304 .f32) (j : S128x2304.Idx) :
    matmul dot_S8x128_S8x2304_S128x2304_0_0_1_1_n_n (some .fp32) x y (constant S128x2304 .f32 0x00000000#32) j
      = ∑ k : Fin 8, x (ix2 k (j 0)) * y (ix2 k (j 1)) := by
  pointwise

/-- Eight rows, one above the other. -/
theorem stacked (x : Fin 8 → FVec Ideal S1x128 .f32) (h : Shape.Concatenates [S1x128, S1x128, S1x128, S1x128, S1x128, S1x128, S1x128, S1x128] S8x128 0)
    (k : Fin 8) (y : Fin 128) :
    concatenate S8x128 0 [⟨S1x128, x 0⟩, ⟨S1x128, x 1⟩, ⟨S1x128, x 2⟩, ⟨S1x128, x 3⟩, ⟨S1x128, x 4⟩, ⟨S1x128, x 5⟩, ⟨S1x128, x 6⟩, ⟨S1x128, x 7⟩] h (ix2 k y)
      = x k (ix2 0 y) :=
  concatenate_ofFn_unit_apply (t := S8x128) (s₁ := S1x128) 0 x h rfl rfl (ix2 k y) k rfl (ix2 0 y) (fun b hb => match b with
    | ⟨0, _⟩ => absurd rfl hb
    | ⟨1, _⟩ => rfl)

theorem flat (v : FVec Ideal S1x1x128 .f32) (h : S1x1x128.ShapeCasts S1x128) (y : Fin 128) : shapeCast S1x128 v h (ix2 0 y) = v (ix3 0 0 y) :=
  shapeCast_apply v h (ix2 0 y) (ix3 0 0 y) (by
    rewrite [Shape.rowMajor_val_three, Shape.rowMajor_val_two]
    show (0 * 1 + 0) * 128 + y.val = 0 * 128 + y.val; omega)

theorem pay1 (x : Fin 8 → FVec Ideal S1x1x128 .f32) (d : FVec Ideal S8x2304 .f32) (j : S128x2304.Idx) :
    k0_pay1 (F := Ideal) (x 0) (x 1) (x 2) (x 3) (x 4) (x 5) (x 6) (x 7) d j = ∑ k : Fin 8, gate (x k (ix3 0 0 (j 0))) * d (ix2 k (j 1)) := by
  unfold k0_pay1
  refine (mm_apply _ _ j).trans (Finset.sum_congr rfl fun k _ => congrArg (· * d (ix2 k (j 1))) ?_)
  exact congrArg gate ((stacked (fun k => shapeCast S1x128 (x k) shapeCasts_S1x1x128_S1x128) _ k (j 0)).trans (flat _ _ _))

/-- The block's row of one device: the first of its messages. -/
abbrev rowOf (x : FVec Ideal S8x16x128 .f32) (k : Fin 8) : FVec Ideal S1x1x128 .f32 := fun i => x (ix3 k 0 (i 2))

/-- The block of the gradient. -/
theorem pay5 (x : FVec Ideal S8x16x128 .f32) (d : FVec Ideal S8x2304 .f32) (w a b : FVec Ideal S128x2304 .f32) (j : S128x2304.Idx) :
    k0_pay5 (F := Ideal) x d w a b j = ∑ k : Fin 8, gate (x (ix3 k 0 (j 0))) * d (ix2 k (j 1)) := by
  refine Eq.trans ?_ (pay1 (rowOf x) d j)
  unfold k0_pay5
  have e : ∀ (i : S1x1x128.Idx), (i 0).val = 0 ∧ (i 1).val = 0 := fun i =>
    ⟨Nat.lt_one_iff.mp (i 0).isLt, Nat.lt_one_iff.mp (i 1).isLt⟩
  have d8 : View.ld (Val := Elt Ideal) (e' := .f32) d r0_8 = d := by
    funext y; exact congrArg d ((eq_ix2_of _ (y 0) (y 1) (by simp) (by simp)).trans (eq_ix2_of y _ _ rfl rfl).symm)
  congr 1
  all_goals first
    | exact d8
    | (funext i; exact congrArg x (eq_ix3_of _ _ _ _ (by simp [e i]) (by simp [e i]) (by simp)))

/-! ## The blocks -/

theorem idx_w : ∀ t : Fin cfg0.N, (win0_0.index t (0 : Fin 3) = 0 ∧ win0_0.index t (1 : Fin 3) = 0 ∧ win0_0.index t (2 : Fin 3) = t.val) ∧ (win0_1.index t (0 : Fin 2) = 0 ∧ win0_1.index t (1 : Fin 2) = 0)
    ∧ (win0_2.index t (0 : Fin 2) = t.val ∧ win0_2.index t (1 : Fin 2) = 0) ∧ (win0_3.index t (0 : Fin 2) = t.val ∧ win0_3.index t (1 : Fin 2) = 0)
    ∧ (win0_4.index t (0 : Fin 2) = t.val ∧ win0_4.index t (1 : Fin 2) = 0) ∧ (win0_5.index t (0 : Fin 2) = t.val ∧ win0_5.index t (1 : Fin 2) = 0)
    ∧ (win0_6.index t (0 : Fin 2) = t.val ∧ win0_6.index t (1 : Fin 2) = 0) ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- Entry `y` of the block of point `t`, in the array. -/
abbrev at_ (t : Fin cfg0.N) (y : S128x2304.Idx) : S1024x2304.Idx :=
  ix2 ⟨t.val * 128 + (y 0).val, by have : t.val < 8 := lt_of_lt_of_eq t.isLt N_0; have : (y 0).val < 128 := (y 0).isLt; omega⟩ (y 1)

theorem at_eq (t : Fin cfg0.N) (y : S128x2304.Idx) (e : S128x2304.Idx → S1024x2304.Idx) (h0 : (e y 0).val = t.val * 128 + (y 0).val)
    (h1 : (e y 1).val = (y 1).val) : at_ t y = e y :=
  funext fun a => match a with
    | ⟨0, _⟩ => Fin.ext h0.symm
    | ⟨1, _⟩ => Fin.ext h1.symm

theorem blk0 (c : Dev nD) (t : Fin cfg0.N) (k : Fin 8) (y : S128x2304.Idx) : iblk m c 0 t (ix3 k 0 (y 0)) = V m c main_arg0 (ix3 k 0 (at_ t y 0)) := by
  blk_ext [iblk, idx_w t] <;> rfl
theorem blk1 (c : Dev nD) (t : Fin cfg0.N) (k : Fin 8) (y : S128x2304.Idx) : iblk m c 1 t (ix2 k (y 1)) = V m c main_arg1 (ix2 k (at_ t y 1)) := by
  blk_ext [iblk, idx_w t] <;> rfl
theorem blk2 (c : Dev nD) (t : Fin cfg0.N) (y : S128x2304.Idx) : iblk m c 2 t y = V m c main_v0 (at_ t y) := by blk_ext [iblk, idx_w t] <;> rfl
theorem blk3 (c : Dev nD) (t : Fin cfg0.N) (y : S128x2304.Idx) : iblk m c 3 t y = V m c main_v1 (at_ t y) := by blk_ext [iblk, idx_w t] <;> rfl
theorem blk4 (c : Dev nD) (t : Fin cfg0.N) (y : S128x2304.Idx) : iblk m c 4 t y = V m c main_v2 (at_ t y) := by blk_ext [iblk, idx_w t] <;> rfl

/-! ## The four arrays -/

/-- The gradient: the gated rows against the gradients of the modulations. -/
abbrev gOf (x : S8x16x1024.Idx → EReal) (d : S8x2304.Idx → EReal) (i : S1024x2304.Idx) : EReal := ∑ k : Fin 8, gate (x (ix3 k 0 (i 0))) * d (ix2 k (i 1))
abbrev gAt (c : Dev nD) : S1024x2304.Idx → EReal := gOf (V m c main_arg0) (V m c main_arg1)

theorem gBlk (c : Dev nD) (t : Fin cfg0.N) (y : S128x2304.Idx) :
    k0_pay5 (F := Ideal) (iblk m c 0 t) (iblk m c 1 t) (iblk m c 2 t) (iblk m c 3 t) (iblk m c 4 t) y = gAt m c (at_ t y) :=
  (pay5 _ _ _ _ _ y).trans (Finset.sum_congr rfl fun k _ => congrArg₂ (fun u v => gate u * v) (blk0 m c t k y) (blk1 m c t k y))

theorem final5 (c : Dev nD) : (dats m 0 c).arrAt 5 cfg0.N = gAt m c := by
  refine (dats m 0 c).arrAt_eq_of_covers 5 _ (by decide +kernel) fun t hf y => ?_
  blk_simp
  refine Eq.trans ?_ (congrArg (gAt m c) (at_eq t y (win0_5.blk t).view.emb (by simp [idx_w t]) (by simp [idx_w t])))
  rw [after0_5]; unfold out0_5; frame_out
  exact gBlk m c t y

theorem final6 (c : Dev nD) : (dats m 0 c).arrAt 6 cfg0.N
    = fun i : S1024x2304.Idx => delta (gAt m c i) (V m c main_v0 i) (V m c main_v1 i) (V m c main_v2 i) := by
  refine (dats m 0 c).arrAt_eq_of_covers 6 _ (by decide +kernel) fun t hf y => ?_
  blk_simp
  refine Eq.trans ?_ (congrArg (fun i : S1024x2304.Idx => delta (gAt m c i) (V m c main_v0 i) (V m c main_v1 i) (V m c main_v2 i))
    (at_eq t y (win0_6.blk t).view.emb (by simp [idx_w t]) (by simp [idx_w t])))
  rw [after0_6]; unfold out0_6; frame_out
  rw [pay4, onDelta_apply, gBlk, blk2, blk3, blk4]

theorem final7 (c : Dev nD) : (dats m 0 c).arrAt 7 cfg0.N = fun i : S1024x2304.Idx => mom1 (gAt m c i) (V m c main_v1 i) := by
  refine (dats m 0 c).arrAt_eq_of_covers 7 _ (by decide +kernel) fun t hf y => ?_
  blk_simp
  refine Eq.trans ?_ (congrArg (fun i : S1024x2304.Idx => mom1 (gAt m c i) (V m c main_v1 i))
    (at_eq t y (win0_7.blk t).view.emb (by simp [idx_w t]) (by simp [idx_w t])))
  rw [after0_7]; unfold out0_7; frame_out
  rw [pay2, onMom1_apply, gBlk, blk3]

theorem final8 (c : Dev nD) : (dats m 0 c).arrAt 8 cfg0.N = fun i : S1024x2304.Idx => mom2 (gAt m c i) (V m c main_v2 i) := by
  refine (dats m 0 c).arrAt_eq_of_covers 8 _ (by decide +kernel) fun t hf y => ?_
  blk_simp
  refine Eq.trans ?_ (congrArg (fun i : S1024x2304.Idx => mom2 (gAt m c i) (V m c main_v2 i))
    (at_eq t y (win0_8.blk t).view.emb (by simp [idx_w t]) (by simp [idx_w t])))
  rw [after0_8]; unfold out0_8; frame_out
  rw [pay3, onMom2_apply, gBlk, blk4]

/-! ## The arrays that the host prepares -/

theorem V0 (c : Dev nD) : V m c main_arg0 = m (c, Proc.tc.devRef main_arg0) := by unfold V; after_reads_at
theorem V1 (c : Dev nD) : V m c main_arg1 = m (c, Proc.tc.devRef main_arg1) := by unfold V; after_reads_at
theorem V2 (c : Dev nD) (i : S1024x2304.Idx) : V m c main_v0 i = m (c, Proc.tc.devRef main_arg2) (ix3 0 (i 0) (i 1)) := by unfold V; after_reads_at
theorem V3 (c : Dev nD) (i : S1024x2304.Idx) : V m c main_v1 i = m (c, Proc.tc.devRef main_arg3) (ix3 0 (i 0) (i 1)) := by unfold V; after_reads_at
theorem V4 (c : Dev nD) (i : S1024x2304.Idx) : V m c main_v2 i = m (c, Proc.tc.devRef main_arg4) (ix3 0 (i 0) (i 1)) := by unfold V; after_reads_at

end Cert.OaIdeal.Step

namespace Cert.Proof.AdamAda

open Idealize.ShloMosaic Idealize.ShloMosaic.TcCoe Idealize.SL.Sem
open Cert.QaIdeal Cert.QaIdeal.Read Cert.Adam Cert.HalfStep
open Cert.OaIdeal.Step (gOf)

section
variable (x : S8x16x1024.Idx → EReal) (d : S8x2304.Idx → EReal) (w a b : S1x1024x2304.Idx → EReal)

/-- The entry of a weight with a leading axis that entry `i` is. -/
abbrev lead (i : S1024x2304.Idx) : S1x1024x2304.Idx := ix3 0 (i 0) (i 1)

theorem back (i : S1024x2304.Idx) : idx_main_v32 i = lead i := by
  have h0 : (i 0).val < 1024 := (i 0).isLt
  have h1 : (i 1).val < 2304 := (i 1).isLt
  refine eq_ix3_of _ _ _ _ rfl ?_ ?_
  · show ((i 0).val * 2304 + (i 1).val) / 2304 % 1024 = (i 0).val; omega
  · show ((i 0).val * 2304 + (i 1).val) % 2304 = (i 1).val; omega

/-- The conditioning row of one device. -/
theorem ref_row (i : S8x1024.Idx) : val_main_v1 (F := Ideal) x i = x (ix3 (i 0) 0 (i 1)) := by
  have h0 : (i 0).val < 8 := (i 0).isLt
  have h1 : (i 1).val < 1024 := (i 1).isLt
  rw [val_main_v1_apply, val_main_v0_apply]
  refine congrArg x (eq_ix3_of _ _ _ _ ?_ rfl ?_)
  · show ((i 0).val * 1024 + (i 1).val) / 1024 = (i 0).val; omega
  · show ((i 0).val * 1024 + (i 1).val) % 1024 = (i 1).val; omega

/-- The gated row. -/
theorem ref_gate (i : S8x1024.Idx) : val_main_v3 (F := Ideal) x i = gate (x (ix3 (i 0) 0 (i 1))) := by
  unfold gate
  rw [sgm_eq, val_main_v3_apply, val_main_call0_v5_apply, val_main_call0_v4_apply, val_main_call0_v3_apply, val_main_call0_v2_apply,
    val_main_call0_v1_apply, val_main_call0_v0_apply, val_main_call0_cst_apply, val_main_call0_cst_0_apply, ref_row]
  unfold Ideal.logistic
  pointwise

theorem ref_g (i : S1024x2304.Idx) : val_main_v7 (F := Ideal) x d (lead i) = gOf x d i := by
  rw [val_main_v7_apply, val_main_v6_apply, val_main_v5_apply]
  refine Finset.sum_congr rfl fun k _ => ?_
  rw [ref_gate, mul_comm]
  refine congrArg₂ (fun u v => gate u * v) (congrArg x ?_) (congrArg d ?_)
  · exact eq_ix3_of _ _ _ _ rfl rfl rfl
  · exact eq_ix2_of _ _ _ rfl rfl

theorem ref0 (i : S1024x2304.Idx) : val_main_v32 (F := Ideal) x d i = gOf x d i := by
  rw [val_main_v32_apply, back, ref_g]
theorem ref1 (i : S1024x2304.Idx) : val_main_v33 (F := Ideal) x d w a b i = delta (gOf x d i) (w (lead i)) (a (lead i)) (b (lead i)) := by
  rw [val_main_v33_apply, show idx_main_v33 i = lead i from back i, ← ref_g]; rfl
theorem ref2 (i : S1024x2304.Idx) : val_main_v34 (F := Ideal) x d a i = mom1 (gOf x d i) (a (lead i)) := by
  rw [val_main_v34_apply, show idx_main_v34 i = lead i from back i, ← ref_g]; rfl
theorem ref3 (i : S1024x2304.Idx) : val_main_v35 (F := Ideal) x d b i = mom2 (gOf x d i) (b (lead i)) := by
  rw [val_main_v35_apply, show idx_main_v35 i = lead i from back i, ← ref_g]; rfl
end

/-- The gradient, the step and the two moments are the reference's, over the extended reals. -/
theorem algebraic : Cert.algebraic_OaIdeal_QaIdeal := by
  intro m ρ m' ρ' _ hagree
  refine ⟨fun c => (Cert.OaIdeal.Gen.dats m 0 c).arrAt 5 Cert.OaIdeal.cfg0.N, fun c => (Cert.OaIdeal.Gen.dats m 0 c).arrAt 6 Cert.OaIdeal.cfg0.N,
    fun c => (Cert.OaIdeal.Gen.dats m 0 c).arrAt 7 Cert.OaIdeal.cfg0.N, fun c => (Cert.OaIdeal.Gen.dats m 0 c).arrAt 8 Cert.OaIdeal.cfg0.N,
    Cert.OaIdeal.Value.run_blocks m ρ, ?_⟩
  refine (θ_run Cert.QaIdeal.defs _ _).mono (fun _ h c => ?_) (Cert.QaIdeal.Value.run (F := Ideal) m' ρ')
  obtain ⟨h0, h1, h2, h3, hk⟩ := h c
  obtain ⟨e0, e1, e2, e3, e4⟩ := hagree c
  refine ⟨h0.trans ?_, h1.trans ?_, h2.trans ?_, h3.trans ?_, hk⟩ <;> clear h0 h1 h2 h3 hk
  · rw [val_main_v32_eq, e0, e1]
    refine Eq.trans (eq_of_at (ref0 _ _) fun i => ?_) (Cert.OaIdeal.Step.final5 m c).symm
    rw [Cert.OaIdeal.Step.gAt, Cert.OaIdeal.Step.V0, Cert.OaIdeal.Step.V1]
  · rw [val_main_v33_eq, e0, e1, e2, e3, e4]
    refine Eq.trans (eq_of_at (ref1 _ _ _ _ _) fun i => ?_) (Cert.OaIdeal.Step.final6 m c).symm
    rw [Cert.OaIdeal.Step.gAt, Cert.OaIdeal.Step.V0, Cert.OaIdeal.Step.V1, Cert.OaIdeal.Step.V2, Cert.OaIdeal.Step.V3, Cert.OaIdeal.Step.V4]
  · rw [val_main_v34_eq, e0, e1, e3]
    refine Eq.trans (eq_of_at (ref2 _ _ _) fun i => ?_) (Cert.OaIdeal.Step.final7 m c).symm
    rw [Cert.OaIdeal.Step.gAt, Cert.OaIdeal.Step.V0, Cert.OaIdeal.Step.V1, Cert.OaIdeal.Step.V3]
  · rw [val_main_v35_eq, e0, e1, e4]
    refine Eq.trans (eq_of_at (ref3 _ _ _) fun i => ?_) (Cert.OaIdeal.Step.final8 m c).symm
    rw [Cert.OaIdeal.Step.gAt, Cert.OaIdeal.Step.V0, Cert.OaIdeal.Step.V1, Cert.OaIdeal.Step.V4]

/-- The reference runs to its end. -/
theorem frame_reference : Cert.quiescent_QaIdeal := fun m ρ _ =>
  (θ_run Cert.QaIdeal.defs _ _).mono (fun r h => ⟨fun c => (h c).2.2.2.2, sem_eq_zero_of_no_sems (by decide) r.2⟩)
    (Cert.QaIdeal.Value.run (F := Ideal) m ρ)

end Cert.Proof.AdamAda
end
-- ==== Proof.AdamSmall.lean ====
/-
  The optimiser on the small weights, whose gradients travel as rows of one array: the kernel's four arrays against the
  reference's lines. The gradient is the sum of the eight devices' parts.
-/
module

public import proofs.«01_k».proof.Defs
public import proofs.«01_k».proof.Proof.Adam
public import proofs.«01_k».proof.Proof.Gen.OsIdeal.Value
public import proofs.«01_k».proof.Proof.Gen.QsIdeal.Run
public import proofs.«01_k».proof.Proof.Gen.QsIdeal.Read

@[expose] public section

noncomputable section

namespace Cert.OsIdeal.Step

open Idealize.ShloMosaic Idealize.ShloMosaic.TcCoe Idealize.SL.Sem
open Cert.OsIdeal Cert.OsIdeal.Gen Cert.Adam

/-! ## The stored values -/

/-- The rows of one device's part. -/
theorem part (v : FVec Ideal S1x24x1024 .f32) (h : S1x24x1024.ShapeCasts S24x1024) (i : S24x1024.Idx) :
    shapeCast S24x1024 v h i = v (ix3 0 (i 0) (i 1)) :=
  shapeCast_apply v h i (ix3 0 (i 0) (i 1)) (by
    rewrite [Shape.rowMajor_val_three, Shape.rowMajor_val_two]
    show (0 * 24 + (i 0).val) * 1024 + (i 1).val = (i 0).val * 1024 + (i 1).val; omega)

/-- The gradient: the sum of the eight parts. -/
abbrev gAt (p : S8x24x1024.Idx → EReal) (i : S24x1024.Idx) : EReal := ∑ k : Fin 8, p (ix3 k (i 0) (i 1))

theorem pay6 (p : FVec Ideal S8x24x1024 .f32) (w a b : FVec Ideal S24x1024 .f32) (i : S24x1024.Idx) :
    k0_pay6 (F := Ideal) p w a b i = gAt p i := by
  unfold k0_pay6 k0_pay4 gAt
  rw [Fin.sum_univ_eight]
  simp only [addf_apply, part]
  show _ + _ + _ + _ + _ + _ + _ + _ = _ + _ + _ + _ + _ + _ + _ + _
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  all_goals exact congrArg p (eq_ix3_of _ _ _ _ rfl (by simp) (by simp))

variable (g w a b : FVec Ideal S24x1024 .f32)

/-- Reading the whole block. -/
theorem whole : View.ld (Val := Elt Ideal) (e' := .f32) a r0_8 = a := by
  funext y; exact congrArg a ((eq_ix2_of _ (y 0) (y 1) (by simp) (by simp)).trans (eq_ix2_of y _ _ rfl rfl).symm)

theorem pay2 : k0_pay2 g b = onMom2 g b := rfl
theorem pay1 : k0_pay1 g (k0_pay5 a) (Scalar.ofBits .f32 0x3DCCCCCD#32) = onMom1 g a := rfl
theorem pay3 : k0_pay3 g w b (k0_pay5 a) (Scalar.ofBits .f32 0x3DCCCCCD#32) = onDelta g w a b := rfl

/-! ## The four arrays -/

variable (p : FVec Ideal S8x24x1024 .f32) (i : S24x1024.Idx)

theorem fin5 : Value.G5 (F := Ideal) p w a b i = delta (gAt p i) (w i) (a i) (b i) := by
  rw [← pay6 p w a b, ← onDelta_apply, ← pay3, Value.G5, k0_pay7, whole]
theorem fin6 : Value.G6 (F := Ideal) p w a b i = mom1 (gAt p i) (a i) := by
  rw [← pay6 p w a b, ← onMom1_apply, ← pay1, Value.G6, k0_pay7, whole]
theorem fin7 : Value.G7 (F := Ideal) p w a b i = mom2 (gAt p i) (b i) := by
  rw [← pay6 p w a b, ← onMom2_apply, ← pay2]

end Cert.OsIdeal.Step

namespace Cert.Proof.AdamSmall

open Idealize.ShloMosaic Idealize.ShloMosaic.TcCoe Idealize.SL.Sem
open Cert.QsIdeal Cert.QsIdeal.Read Cert.Adam

section
variable (p : S8x24x1024.Idx → EReal) (w a b : S24x1024.Idx → EReal)

/-- The reference's gradient. -/
abbrev gRef (i : S24x1024.Idx) : EReal := ∑ k : Fin 8, p (ix3 k (i 0) (i 1))

theorem ref0 (i : S24x1024.Idx) : val_main_v0 (F := Ideal) p i = gRef p i := by
  rw [val_main_v0_apply]
  refine (congrArg (· + _) Ideal.ofBits_zero_f32).trans ((zero_add _).trans (Finset.sum_congr rfl fun k _ => congrArg p (eq_ix3_of _ _ _ _ rfl rfl rfl)))
theorem ref1 (i : S24x1024.Idx) : val_main_v24 (F := Ideal) p w a b i = delta (gRef p i) (w i) (a i) (b i) := by
  rw [← ref0]; rfl
theorem ref2 (i : S24x1024.Idx) : val_main_v5 (F := Ideal) p a i = mom1 (gRef p i) (a i) := by
  rw [← ref0]; rfl
theorem ref3 (i : S24x1024.Idx) : val_main_v11 (F := Ideal) p b i = mom2 (gRef p i) (b i) := by
  rw [← ref0]; rfl
end

/-- The gradient, the step and the two moments are the reference's, over the extended reals. -/
theorem algebraic : Cert.algebraic_OsIdeal_QsIdeal := by
  intro m ρ m' ρ' _ hagree
  refine ⟨_, _, _, _, Cert.OsIdeal.Value.run m ρ, ?_⟩
  refine (θ_run Cert.QsIdeal.defs _ _).mono (fun _ h c => ?_) (Cert.QsIdeal.Value.run (F := Ideal) m' ρ')
  obtain ⟨h0, h1, h2, h3, hk⟩ := h c
  obtain ⟨e0, e1, e2, e3⟩ := hagree c
  refine ⟨h0.trans ?_, h1.trans ?_, h2.trans ?_, h3.trans ?_, hk⟩ <;> clear h0 h1 h2 h3 hk
  · rw [val_main_v0_eq, e0]
    exact eq_of_at (ref0 _) fun i => Cert.OsIdeal.Step.pay6 _ _ _ _ i
  · rw [val_main_v24_eq, e0, e1, e2, e3]
    exact eq_of_at (ref1 _ _ _ _) fun i => Cert.OsIdeal.Step.fin5 _ _ _ _ i
  · rw [val_main_v5_eq, e0, e2]
    exact eq_of_at (ref2 _ _) fun i => Cert.OsIdeal.Step.fin6 _ _ _ _ i
  · rw [val_main_v11_eq, e0, e3]
    exact eq_of_at (ref3 _ _) fun i => Cert.OsIdeal.Step.fin7 _ _ _ _ i

/-- The reference runs to its end. -/
theorem frame_reference : Cert.quiescent_QsIdeal := fun m ρ _ =>
  (θ_run Cert.QsIdeal.defs _ _).mono (fun r h => ⟨fun c => (h c).2.2.2.2, sem_eq_zero_of_no_sems (by decide) r.2⟩)
    (Cert.QsIdeal.Value.run (F := Ideal) m ρ)

end Cert.Proof.AdamSmall
end
-- ==== Proof.AdamPool.lean ====
/-
  The optimiser on the pool's weight: the kernel's four arrays against the reference's lines. The gradient is the sum of
  the eight devices' parts.
-/
module

public import proofs.«01_k».proof.Defs
public import proofs.«01_k».proof.Proof.Adam
public import proofs.«01_k».proof.Proof.Gen.OpIdeal.Value
public import proofs.«01_k».proof.Proof.Gen.QpIdeal.Run
public import proofs.«01_k».proof.Proof.Gen.QpIdeal.Read

@[expose] public section

noncomputable section

set_option maxRecDepth 16384

namespace Cert.OpIdeal.Step

open Idealize.ShloMosaic Idealize.ShloMosaic.TcCoe Idealize.SL.Sem
open Cert.OpIdeal Cert.OpIdeal.Gen Cert.Adam

/-! ## The stored values -/

/-- The rows of one device's part. -/
theorem part (v : FVec Ideal S1x512x128 .f32) (h : S1x512x128.ShapeCasts S512x128) (i : S512x128.Idx) :
    shapeCast S512x128 v h i = v (ix3 0 (i 0) (i 1)) :=
  shapeCast_apply v h i (ix3 0 (i 0) (i 1)) (by
    rewrite [Shape.rowMajor_val_three, Shape.rowMajor_val_two]
    show (0 * 512 + (i 0).val) * 128 + (i 1).val = (i 0).val * 128 + (i 1).val; omega)

/-- The gradient: the sum of the eight parts. -/
abbrev gAt (p : S8x512x128.Idx → EReal) (i : S512x128.Idx) : EReal := ∑ k : Fin 8, p (ix3 k (i 0) (i 1))

theorem pay8 (p : FVec Ideal S8x512x128 .f32) (w a b : FVec Ideal S512x128 .f32) (i : S512x128.Idx) :
    k0_pay8 (F := Ideal) p w a b i = gAt p i := by
  unfold k0_pay8 k0_pay4 gAt
  rw [Fin.sum_univ_eight]
  simp only [addf_apply, part]
  show _ + _ + _ + _ + _ + _ + _ + _ = _ + _ + _ + _ + _ + _ + _ + _
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  all_goals exact congrArg p (eq_ix3_of _ _ _ _ rfl (by simp) (by simp))

variable (g w a b : FVec Ideal S512x128 .f32)

theorem pay2 : k0_pay2 g (k0_pay7 b) = onMom2 g b := by unfold k0_pay7; simp only [shapeCast_self]; rfl
theorem pay1 : k0_pay1 g (k0_pay6 a) (Scalar.ofBits .f32 0x3F666666#32) = onMom1 g a := by unfold k0_pay6; simp only [shapeCast_self]; rfl
theorem pay3 : k0_pay3 g (k0_pay5 w) (k0_pay6 a) (k0_pay7 b) (Scalar.ofBits .f32 0x3F666666#32) = onDelta g w a b := by
  unfold k0_pay5 k0_pay6 k0_pay7; simp only [shapeCast_self]; rfl

variable (m : (ℓ : Loc nD τ sig) → Buf (Elt Ideal) ℓ)

/-! ## The blocks -/

theorem idx_w : ∀ t : Fin cfg0.N, (win0_0.index t (0 : Fin 3) = 0 ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- Entry `y` of the block of the one point, in the array. -/
abbrev at_ (_ : Fin cfg0.N) (y : S512x128.Idx) : S512x128.Idx := ix2 (y 0) (y 1)

theorem at_eq (t : Fin cfg0.N) (y : S512x128.Idx) (e : S512x128.Idx → S512x128.Idx) (h0 : (e y 0).val = (y 0).val)
    (h1 : (e y 1).val = (y 1).val) : at_ t y = e y :=
  funext fun a => match a with
    | ⟨0, _⟩ => Fin.ext h0.symm
    | ⟨1, _⟩ => Fin.ext h1.symm

theorem blk0 (c : Dev nD) (t : Fin cfg0.N) (y : S8x512x128.Idx) : iblk m c 0 t y = V m c main_arg0 y := by blk_ext [iblk, idx_w t] <;> rfl
theorem blk1 (c : Dev nD) (t : Fin cfg0.N) (y : S512x128.Idx) : iblk m c 1 t y = V m c main_v0 (at_ t y) := by blk_ext [iblk, idx_w t] <;> rfl
theorem blk2 (c : Dev nD) (t : Fin cfg0.N) (y : S512x128.Idx) : iblk m c 2 t y = V m c main_v1 (at_ t y) := by blk_ext [iblk, idx_w t] <;> rfl
theorem blk3 (c : Dev nD) (t : Fin cfg0.N) (y : S512x128.Idx) : iblk m c 3 t y = V m c main_v2 (at_ t y) := by blk_ext [iblk, idx_w t] <;> rfl

/-! ## The four arrays -/

theorem gBlk (c : Dev nD) (t : Fin cfg0.N) (w a b : FVec Ideal S512x128 .f32) (y : S512x128.Idx) :
    k0_pay8 (F := Ideal) (iblk m c 0 t) w a b y = gAt (V m c main_arg0) (at_ t y) := by
  rw [pay8]; exact Finset.sum_congr rfl fun k _ => blk0 m c t _

theorem final4 (c : Dev nD) : (dats m 0 c).arrAt 4 cfg0.N = gAt (V m c main_arg0) := by
  refine (dats m 0 c).arrAt_eq_of_covers 4 _ (by decide +kernel) fun t hf y => ?_
  blk_simp
  refine Eq.trans ?_ (congrArg (gAt (V m c main_arg0))
    (at_eq t y (win0_4.blk t).view.emb (by simp [idx_w t]) (by simp [idx_w t])))
  rw [after0_4]; unfold out0_4; frame_out
  exact gBlk m c t _ _ _ y

theorem final5 (c : Dev nD) : (dats m 0 c).arrAt 5 cfg0.N = fun i : S512x128.Idx => delta (gAt (V m c main_arg0) i) (V m c main_v0 i) (V m c main_v1 i) (V m c main_v2 i) := by
  refine (dats m 0 c).arrAt_eq_of_covers 5 _ (by decide +kernel) fun t hf y => ?_
  blk_simp
  refine Eq.trans ?_ (congrArg (fun i : S512x128.Idx => delta (gAt (V m c main_arg0) i) (V m c main_v0 i) (V m c main_v1 i) (V m c main_v2 i))
    (at_eq t y (win0_5.blk t).view.emb (by simp [idx_w t]) (by simp [idx_w t])))
  rw [after0_5]; unfold out0_5 k0_pay9 k0_pay10; frame_out
  rw [pay3, onDelta_apply, gBlk, blk1, blk2, blk3]

theorem final6 (c : Dev nD) : (dats m 0 c).arrAt 6 cfg0.N = fun i : S512x128.Idx => mom1 (gAt (V m c main_arg0) i) (V m c main_v1 i) := by
  refine (dats m 0 c).arrAt_eq_of_covers 6 _ (by decide +kernel) fun t hf y => ?_
  blk_simp
  refine Eq.trans ?_ (congrArg (fun i : S512x128.Idx => mom1 (gAt (V m c main_arg0) i) (V m c main_v1 i))
    (at_eq t y (win0_6.blk t).view.emb (by simp [idx_w t]) (by simp [idx_w t])))
  rw [after0_6]; unfold out0_6 k0_pay9; frame_out
  rw [pay1, onMom1_apply, gBlk, blk2]

theorem final7 (c : Dev nD) : (dats m 0 c).arrAt 7 cfg0.N = fun i : S512x128.Idx => mom2 (gAt (V m c main_arg0) i) (V m c main_v2 i) := by
  refine (dats m 0 c).arrAt_eq_of_covers 7 _ (by decide +kernel) fun t hf y => ?_
  blk_simp
  refine Eq.trans ?_ (congrArg (fun i : S512x128.Idx => mom2 (gAt (V m c main_arg0) i) (V m c main_v2 i))
    (at_eq t y (win0_7.blk t).view.emb (by simp [idx_w t]) (by simp [idx_w t])))
  rw [after0_7]; unfold out0_7 k0_pay10; frame_out
  rw [pay2, onMom2_apply, gBlk, blk3]

/-! ## The arrays that the host prepares -/

theorem V0 (c : Dev nD) : V m c main_arg0 = m (c, Proc.tc.devRef main_arg0) := by unfold V; after_reads_at
/-- The entry of the weight that entry `i` of its rows is. -/
abbrev lead (i : S512x128.Idx) : S1x4x128x128.Idx := ix4 0 ⟨(i 0).val / 128, by have h : (i 0).val < 512 := (i 0).isLt; omega⟩ ⟨(i 0).val % 128, Nat.mod_lt _ (by decide)⟩ (i 1)

theorem V1 (c : Dev nD) (i : S512x128.Idx) : V m c main_v0 i = m (c, Proc.tc.devRef main_arg1) (lead i) := by unfold V; after_reads_at
theorem V2 (c : Dev nD) (i : S512x128.Idx) : V m c main_v1 i = m (c, Proc.tc.devRef main_arg2) (lead i) := by unfold V; after_reads_at
theorem V3 (c : Dev nD) (i : S512x128.Idx) : V m c main_v2 i = m (c, Proc.tc.devRef main_arg3) (lead i) := by unfold V; after_reads_at

end Cert.OpIdeal.Step

namespace Cert.Proof.AdamPool

open Idealize.ShloMosaic Idealize.ShloMosaic.TcCoe Idealize.SL.Sem
open Cert.QpIdeal Cert.QpIdeal.Read Cert.Adam

section
variable (p : S8x512x128.Idx → EReal) (w a b : S1x4x128x128.Idx → EReal)

/-- The reference's gradient. -/
abbrev gRef (i : S512x128.Idx) : EReal := ∑ k : Fin 8, p (ix3 k (i 0) (i 1))

theorem ref_sum (i : S512x128.Idx) : val_main_v0 (F := Ideal) p i = gRef p i := by
  rw [val_main_v0_apply]
  refine (congrArg (· + _) Ideal.ofBits_zero_f32).trans ((zero_add _).trans (Finset.sum_congr rfl fun k _ => congrArg p (eq_ix3_of _ _ _ _ rfl rfl rfl)))

/-- The entry of the weight that entry `i` of its rows is. -/
abbrev lead (i : S512x128.Idx) : S1x4x128x128.Idx := ix4 0 ⟨(i 0).val / 128, by have h : (i 0).val < 512 := (i 0).isLt; omega⟩ ⟨(i 0).val % 128, Nat.mod_lt _ (by decide)⟩ (i 1)

theorem back (i : S512x128.Idx) : idx_main_v26 i = lead i := by
  have h0 : (i 0).val < 512 := (i 0).isLt
  have h1 : (i 1).val < 128 := (i 1).isLt
  funext a
  match a with
  | ⟨0, _⟩ => rfl
  | ⟨1, _⟩ => exact Fin.ext (by show ((i 0).val * 128 + (i 1).val) / 16384 % 4 = (i 0).val / 128; omega)
  | ⟨2, _⟩ => exact Fin.ext (by show ((i 0).val * 128 + (i 1).val) / 128 % 128 = (i 0).val % 128; omega)
  | ⟨3, _⟩ => exact Fin.ext (by show ((i 0).val * 128 + (i 1).val) % 128 = (i 1).val; omega)

theorem ref_g (i : S512x128.Idx) : val_main_v1 (F := Ideal) p (idx_main_v26 i) = gRef p i := by
  rw [val_main_v1_apply, ← ref_sum]
  refine congrArg (val_main_v0 (F := Ideal) p) ((eq_ix2_of _ (i 0) (i 1) ?_ ?_).trans (eq_ix2_of i _ _ rfl rfl).symm)
  all_goals
    have h0 : (i 0).val < 512 := (i 0).isLt
    have h1 : (i 1).val < 128 := (i 1).isLt
  · show (((0 * 4 + ((i 0).val * 128 + (i 1).val) / 16384 % 4) * 128 + ((i 0).val * 128 + (i 1).val) / 128 % 128) * 128 + ((i 0).val * 128 + (i 1).val) % 128) / 128 = (i 0).val
    omega
  · show (((0 * 4 + ((i 0).val * 128 + (i 1).val) / 16384 % 4) * 128 + ((i 0).val * 128 + (i 1).val) / 128 % 128) * 128 + ((i 0).val * 128 + (i 1).val) % 128) % 128 = (i 1).val
    omega

theorem ref0 (i : S512x128.Idx) : val_main_v26 (F := Ideal) p i = gRef p i := by
  rw [val_main_v26_apply, ref_g]
theorem ref1 (i : S512x128.Idx) : val_main_v27 (F := Ideal) p w a b i = delta (gRef p i) (w (lead i)) (a (lead i)) (b (lead i)) := by
  rw [val_main_v27_apply, show idx_main_v27 i = idx_main_v26 i from rfl, ← ref_g, ← back]; rfl
theorem ref2 (i : S512x128.Idx) : val_main_v28 (F := Ideal) p a i = mom1 (gRef p i) (a (lead i)) := by
  rw [val_main_v28_apply, show idx_main_v28 i = idx_main_v26 i from rfl, ← ref_g, ← back]; rfl
theorem ref3 (i : S512x128.Idx) : val_main_v29 (F := Ideal) p b i = mom2 (gRef p i) (b (lead i)) := by
  rw [val_main_v29_apply, show idx_main_v29 i = idx_main_v26 i from rfl, ← ref_g, ← back]; rfl
end

/-- The gradient, the step and the two moments are the reference's, over the extended reals. -/
theorem algebraic : Cert.algebraic_OpIdeal_QpIdeal := by
  intro m ρ m' ρ' _ hagree
  refine ⟨fun c => (Cert.OpIdeal.Gen.dats m 0 c).arrAt 4 Cert.OpIdeal.cfg0.N, fun c => (Cert.OpIdeal.Gen.dats m 0 c).arrAt 5 Cert.OpIdeal.cfg0.N,
    fun c => (Cert.OpIdeal.Gen.dats m 0 c).arrAt 6 Cert.OpIdeal.cfg0.N, fun c => (Cert.OpIdeal.Gen.dats m 0 c).arrAt 7 Cert.OpIdeal.cfg0.N,
    Cert.OpIdeal.Value.run_blocks m ρ, ?_⟩
  refine (θ_run Cert.QpIdeal.defs _ _).mono (fun _ h c => ?_) (Cert.QpIdeal.Value.run (F := Ideal) m' ρ')
  obtain ⟨h0, h1, h2, h3, hk⟩ := h c
  obtain ⟨e0, e1, e2, e3⟩ := hagree c
  refine ⟨h0.trans ?_, h1.trans ?_, h2.trans ?_, h3.trans ?_, hk⟩ <;> clear h0 h1 h2 h3 hk
  · rw [val_main_v26_eq, e0]
    refine Eq.trans (eq_of_at (ref0 _) fun i => ?_) (Cert.OpIdeal.Step.final4 m c).symm
    rw [Cert.OpIdeal.Step.V0]
  · rw [val_main_v27_eq, e0, e1, e2, e3]
    refine Eq.trans (eq_of_at (ref1 _ _ _ _) fun i => ?_) (Cert.OpIdeal.Step.final5 m c).symm
    rw [Cert.OpIdeal.Step.V0, Cert.OpIdeal.Step.V1, Cert.OpIdeal.Step.V2, Cert.OpIdeal.Step.V3]
  · rw [val_main_v28_eq, e0, e2]
    refine Eq.trans (eq_of_at (ref2 _ _) fun i => ?_) (Cert.OpIdeal.Step.final6 m c).symm
    rw [Cert.OpIdeal.Step.V0, Cert.OpIdeal.Step.V2]
  · rw [val_main_v29_eq, e0, e3]
    refine Eq.trans (eq_of_at (ref3 _ _) fun i => ?_) (Cert.OpIdeal.Step.final7 m c).symm
    rw [Cert.OpIdeal.Step.V0, Cert.OpIdeal.Step.V3]

/-- The reference runs to its end. -/
theorem frame_reference : Cert.quiescent_QpIdeal := fun m ρ _ =>
  (θ_run Cert.QpIdeal.defs _ _).mono (fun r h => ⟨fun c => (h c).2.2.2.2, sem_eq_zero_of_no_sems (by decide) r.2⟩)
    (Cert.QpIdeal.Value.run (F := Ideal) m ρ)

end Cert.Proof.AdamPool
end
-- ==== Proof.Slots.lean ====
/-
  The sum of the four chips' parts of a weight's gradient: the kernel's array against the sum over the leading axis.
-/
module

public import proofs.«01_k».proof.Defs
public import proofs.«01_k».proof.Proof.Adam
public import proofs.«01_k».proof.Proof.Gen.SlIdeal.Value
public import proofs.«01_k».proof.Proof.Gen.TlIdeal.Run
public import proofs.«01_k».proof.Proof.Gen.TlIdeal.Read

@[expose] public section

noncomputable section

namespace Cert.SlIdeal.Step

open Idealize.ShloMosaic Idealize.ShloMosaic.TcCoe Idealize.SL.Sem
open Cert.SlIdeal Cert.SlIdeal.Gen Cert.Adam

variable (m : (ℓ : Loc nD τ sig) → Buf (Elt Ideal) ℓ)

/-- The rows of one chip's part. -/
theorem part (v : FVec Ideal S1x352x1024 .bf16) (h : S1x352x1024.ShapeCasts S352x1024) (i : S352x1024.Idx) :
    shapeCast S352x1024 v h i = v (ix3 0 (i 0) (i 1)) :=
  shapeCast_apply v h i (ix3 0 (i 0) (i 1)) (by
    rewrite [Shape.rowMajor_val_three, Shape.rowMajor_val_two]
    show (0 * 352 + (i 0).val) * 1024 + (i 1).val = (i 0).val * 1024 + (i 1).val; omega)

theorem pay1 (a b p q : FVec Ideal S1x352x1024 .bf16) (i : S352x1024.Idx) :
    (k0_pay1 (F := Ideal) a b p q i : EReal) = (a (ix3 0 (i 0) (i 1)) + b (ix3 0 (i 0) (i 1)) + p (ix3 0 (i 0) (i 1)) + q (ix3 0 (i 0) (i 1)) : EReal) := by
  rw [← part a shapeCasts_S1x352x1024_S352x1024, ← part b shapeCasts_S1x352x1024_S352x1024, ← part p shapeCasts_S1x352x1024_S352x1024,
    ← part q shapeCasts_S1x352x1024_S352x1024]
  rfl

theorem idx_w : ∀ t : Fin cfg0.N, (win0_0.index t (0 : Fin 3) = 0 ∧ win0_0.index t (1 : Fin 3) = t.val ∧ win0_0.index t (2 : Fin 3) = 0)
    ∧ (win0_1.index t (0 : Fin 2) = t.val ∧ win0_1.index t (1 : Fin 2) = 0) :=
  (by decide +kernel : ∀ t : Fin grid0.N, _)

/-- Entry `y` of the block of point `t`, in the array. -/
abbrev at_ (t : Fin cfg0.N) (y : S352x1024.Idx) : S704x1024.Idx :=
  ix2 ⟨t.val * 352 + (y 0).val, by have : t.val < 2 := lt_of_lt_of_eq t.isLt N_0; have : (y 0).val < 352 := (y 0).isLt; omega⟩ (y 1)

theorem at_eq (t : Fin cfg0.N) (y : S352x1024.Idx) (e : S352x1024.Idx → S704x1024.Idx) (h0 : (e y 0).val = t.val * 352 + (y 0).val)
    (h1 : (e y 1).val = (y 1).val) : at_ t y = e y :=
  funext fun a => match a with
    | ⟨0, _⟩ => Fin.ext h0.symm
    | ⟨1, _⟩ => Fin.ext h1.symm

theorem blk0 (c : Dev nD) (t : Fin cfg0.N) (k : Fin 4) (y : S352x1024.Idx) :
    iblk m c 0 t (ix3 k (y 0) (y 1)) = V m c main_arg0 (ix3 k (at_ t y 0) (y 1)) := by blk_ext [iblk, idx_w t] <;> rfl

/-- One chip's part of a block of four. -/
theorem read_one (X : FVec Ideal S4x352x1024 .bf16) (k : Fin 4) (h : ∀ a, (![k.val, 0, 0] : Fin 3 → Nat) a + S1x352x1024.size a ≤ S4x352x1024.size a) (u : Fin 352) (v : Fin 1024) :
    View.ld (Val := Elt Ideal) (e' := .bf16) X (Rect.unit (s := S4x352x1024) ![k.val, 0, 0] S1x352x1024.size h) (ix3 (0 : Fin 1) u v) = X (ix3 k u v) :=
  View.ld_unit_apply_of (Val := Elt Ideal) (e := .bf16) X ![k.val, 0, 0] S1x352x1024.size h (ix3 (0 : Fin 1) u v) (ix3 k u v) (fun a => match a with
    | ⟨0, _⟩ => rfl
    | ⟨1, _⟩ => (Nat.zero_add _).symm
    | ⟨2, _⟩ => (Nat.zero_add _).symm)

/-- The sum of the four parts. -/
abbrev total (p : S4x704x1024.Idx → EReal) (i : S704x1024.Idx) : EReal := ∑ k : Fin 4, p (ix3 k (i 0) (i 1))

theorem final1 (c : Dev nD) : (dats m 0 c).arrAt 1 cfg0.N = total (V m c main_arg0) := by
  refine (dats m 0 c).arrAt_eq_of_covers 1 _ (by decide +kernel) fun t hf y => ?_
  blk_simp
  refine Eq.trans ?_ (congrArg (total (V m c main_arg0)) (at_eq t y (win0_1.blk t).view.emb (by simp [idx_w t]) (by simp [idx_w t])))
  rw [after0_1]; unfold out0_1; frame_out
  refine (pay1 _ _ _ _ y).trans ?_
  unfold total
  rw [Fin.sum_univ_four]
  exact congrArg₂ (· + ·) (congrArg₂ (· + ·) (congrArg₂ (· + ·) ((read_one _ 0 _ _ _).trans (blk0 m c t 0 y)) ((read_one _ 1 _ _ _).trans (blk0 m c t 1 y))) ((read_one _ 2 _ _ _).trans (blk0 m c t 2 y))) ((read_one _ 3 _ _ _).trans (blk0 m c t 3 y))

theorem V0 (c : Dev nD) : V m c main_arg0 = m (c, Proc.tc.devRef main_arg0) := by unfold V; after_reads_at

end Cert.SlIdeal.Step

namespace Cert.Proof.Slots

open Idealize.ShloMosaic Idealize.ShloMosaic.TcCoe Idealize.SL.Sem
open Cert.TlIdeal Cert.TlIdeal.Read Cert.Adam

theorem ref_sum (p : S4x704x1024.Idx → EReal) (i : S704x1024.Idx) : val_main_v1 (F := Ideal) p i = ∑ k : Fin 4, p (ix3 k (i 0) (i 1)) := by
  rw [val_main_v1_apply]
  refine (congrArg (· + _) Ideal.ofBits_zero_f32).trans ((zero_add _).trans (Finset.sum_congr rfl fun k _ => ?_))
  exact congrArg p (eq_ix3_of _ _ _ _ rfl rfl rfl)

/-- The sum is the reference's, over the extended reals. -/
theorem algebraic : Cert.algebraic_SlIdeal_TlIdeal := by
  intro m ρ m' ρ' _ hagree
  refine ⟨fun c => (Cert.SlIdeal.Gen.dats m 0 c).arrAt 1 Cert.SlIdeal.cfg0.N, Cert.SlIdeal.Value.run_blocks m ρ, ?_⟩
  refine (θ_run Cert.TlIdeal.defs _ _).mono (fun _ h c => ?_) (Cert.TlIdeal.Value.run (F := Ideal) m' ρ')
  obtain ⟨h0, hk⟩ := h c
  have e0 := hagree c
  refine ⟨h0.trans ?_, hk⟩
  rw [val_main_v1_eq, e0]
  refine Eq.trans (eq_of_at (ref_sum _) fun i => ?_) (Cert.SlIdeal.Step.final1 m c).symm
  rw [Cert.SlIdeal.Step.V0]

/-- The reference runs to its end. -/
theorem frame_reference : Cert.quiescent_TlIdeal := fun m ρ _ =>
  (θ_run Cert.TlIdeal.defs _ _).mono (fun r h => ⟨fun c => (h c).2, sem_eq_zero_of_no_sems (by decide) r.2⟩)
    (Cert.TlIdeal.Value.run (F := Ideal) m ρ)

end Cert.Proof.Slots
end
-- ==== Proof.Kept.lean ====
/-
  The sum of a pair's halves of a weight's gradient: the kernel's array against the reference's lines. The device's place
  on the axis tells which half of its own rows it keeps.
-/
module

public import proofs.«01_k».proof.Defs
public import proofs.«01_k».proof.Proof.Adam
public import proofs.«01_k».proof.Proof.Gen.SkIdeal.Value
public import proofs.«01_k».proof.Proof.Gen.TkIdeal.Run
public import proofs.«01_k».proof.Proof.Gen.TkIdeal.Read

@[expose] public section

set_option maxRecDepth 16384

noncomputable section

namespace Cert.SkIdeal.Step

open Idealize.ShloMosaic Idealize.ShloMosaic.TcCoe Idealize.SL.Sem
open Cert.SkIdeal Cert.SkIdeal.Gen Cert.Adam

variable (m : (ℓ : Loc nD τ sig) → Buf (Elt Ideal) ℓ)

/-- The rows of one slot. -/
theorem part (v : FVec Ideal S1x352x1024 .bf16) (h : S1x352x1024.ShapeCasts S352x1024) (i : S352x1024.Idx) :
    shapeCast S352x1024 v h i = v (ix3 0 (i 0) (i 1)) :=
  shapeCast_apply v h i (ix3 0 (i 0) (i 1)) (by
    rewrite [Shape.rowMajor_val_three, Shape.rowMajor_val_two]
    show (0 * 352 + (i 0).val) * 1024 + (i 1).val = (i 0).val * 1024 + (i 1).val; omega)

/-- The rows laid out as one slot again. -/
theorem slot (v : FVec Ideal S352x1024 .bf16) (h : S352x1024.ShapeCasts S1x352x1024) (i : S352x1024.Idx) :
    shapeCast S1x352x1024 v h (ix3 0 (i 0) (i 1)) = v i :=
  shapeCast_apply v h (ix3 0 (i 0) (i 1)) i (by
    rewrite [Shape.rowMajor_val_three, Shape.rowMajor_val_two]
    show (i 0).val * 1024 + (i 1).val = (0 * 352 + (i 0).val) * 1024 + (i 1).val; omega)

theorem pay1 (a b : FVec Ideal S1x352x1024 .bf16) (i : S352x1024.Idx) :
    (k0_pay1 (F := Ideal) a b (ix3 0 (i 0) (i 1)) : EReal) = (a (ix3 0 (i 0) (i 1)) + b (ix3 0 (i 0) (i 1)) : EReal) := by
  rw [← part a shapeCasts_S1x352x1024_S352x1024, ← part b shapeCasts_S1x352x1024_S352x1024]
  exact slot (truncf .bf16 (addf (extf .f32 (shapeCast S352x1024 a shapeCasts_S1x352x1024_S352x1024) bitsLt_bf16_f32)
    (extf .f32 (shapeCast S352x1024 b shapeCasts_S1x352x1024_S352x1024) bitsLt_bf16_f32)) bitsLt_bf16_f32) shapeCasts_S352x1024_S1x352x1024 i

theorem idx_w : ∀ t : Fin cfg0.N, (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0) :=
  (by decide +kernel : ∀ t : Fin grid0.N, _)

/-- The slot that point `t` writes. -/
abbrev slot_ (t : Fin cfg0.N) : Fin 4 := ⟨t.val, lt_of_lt_of_eq t.isLt N_0⟩

/-- Row `u` of the half that device `c` keeps. -/
abbrev row_ (c : Dev nD) (u : Fin 352) : Fin 704 :=
  ⟨c.val * 352 + u.val, by have : c.val < 2 := c.isLt; have : u.val < 352 := u.isLt; omega⟩

theorem off_w : ∀ c : Dev nD, k0_off1 c (0 : Fin 3) = 0 ∧ k0_off1 c (1 : Fin 3) = c.val * 352 ∧ k0_off1 c (2 : Fin 3) = 0 := by decide +kernel

theorem blk0 (c : Dev nD) (t : Fin cfg0.N) (u : Fin 704) (v : Fin 1024) :
    iblk m c 0 t (ix3 (0 : Fin 1) u v) = V m c main_arg0 (ix3 (slot_ t) u v) := by blk_ext [iblk, idx_w t] <;> rfl
theorem blk1 (c : Dev nD) (t : Fin cfg0.N) (u : Fin 352) (v : Fin 1024) :
    iblk m c 1 t (ix3 (0 : Fin 1) u v) = V m c main_arg1 (ix3 (slot_ t) u v) := by blk_ext [iblk, idx_w t] <;> rfl

/-- The kept half of a block, at an entry. -/
theorem kept (X : FVec Ideal S1x704x1024 .bf16) (c : Dev nD) (h : ∀ a, k0_off1 c a + S1x352x1024.size a ≤ S1x704x1024.size a) (u : Fin 352) (v : Fin 1024) :
    View.ld (Val := Elt Ideal) (e' := .bf16) X (Rect.unit (s := S1x704x1024) (k0_off1 c) S1x352x1024.size h) (ix3 (0 : Fin 1) u v) = X (ix3 (0 : Fin 1) (row_ c u) v) :=
  View.ld_unit_apply_of (Val := Elt Ideal) (e := .bf16) X (k0_off1 c) S1x352x1024.size h (ix3 (0 : Fin 1) u v) (ix3 (0 : Fin 1) (row_ c u) v) (fun a => match a with
    | ⟨0, _⟩ => (congrArg (· + 0) (off_w c).1).symm
    | ⟨1, _⟩ => (congrArg (· + u.val) (off_w c).2.1).symm
    | ⟨2, _⟩ => ((congrArg (· + v.val) (off_w c).2.2).trans (Nat.zero_add _)).symm)

/-- The device's kept rows, added to its partner's. -/
abbrev total (c : Dev nD) (p : S4x704x1024.Idx → EReal) (q : S4x352x1024.Idx → EReal) (i : S4x352x1024.Idx) : EReal :=
  p (ix3 (i 0) (row_ c (i 1)) (i 2)) + q i

theorem out2 (c : Dev nD) (t : Fin cfg0.N) : outsAt0 m c t
    = k0_pay1 (View.ld (Val := Elt Ideal) (e' := .bf16) (iblk m c 0 t) (Rect.unit (s := S1x704x1024) (k0_off1 c) S1x352x1024.size (k0_off1_inb c))) (iblk m c 1 t) := by
  unfold outsAt0 out0_A_2 kernelRun0_A
  frame_out
  rfl

theorem entry (c : Dev nD) (t : Fin cfg0.N) (u : Fin 352) (v : Fin 1024) :
    outsAt0 m c t (ix3 (0 : Fin 1) u v) = total c (V m c main_arg0) (V m c main_arg1) (ix3 (slot_ t) u v) := by
  rw [out2]
  exact (pay1 _ _ (ix2 u v)).trans (congrArg₂ (· + ·) ((kept _ c _ u v).trans (blk0 m c t _ v)) (blk1 m c t u v))

theorem final2 (c : Dev nD) : (dats m 0 c).arrAt 2 cfg0.N = total c (V m c main_arg0) (V m c main_arg1) := by
  refine (dats m 0 c).arrAt_eq_of_covers 2 _ (by decide +kernel) fun t hf y => ?_
  blk_simp
  have hy : y = ix3 (0 : Fin 1) (y 1) (y 2) := eq_ix3_of y _ _ _ (by have : (y 0).val < 1 := (y 0).isLt; show (y 0).val = 0; omega) rfl rfl
  have he : ix3 (slot_ t) (y 1) (y 2) = (win0_2.blk t).view.emb y := by
    have h0 : (y 0).val < 1 := (y 0).isLt
    refine (eq_ix3_of (a := 4) (b := 352) (c := 1024) _ _ _ _ ?_ ?_ ?_).symm <;> simp [idx_w t]
  refine Eq.trans ?_ (congrArg (total c (V m c main_arg0) (V m c main_arg1)) he)
  rw [after0_2]
  exact (congrArg (outsAt0 m c t) hy).trans (entry m c t (y 1) (y 2))

theorem V0 (c : Dev nD) : V m c main_arg0 = m (c, Proc.tc.devRef main_arg0) := by unfold V; after_reads_at
theorem V1 (c : Dev nD) : V m c main_arg1 = m (c, Proc.tc.devRef main_arg1) := by unfold V; after_reads_at

end Cert.SkIdeal.Step

namespace Cert.Proof.Kept

open Idealize.ShloMosaic Idealize.ShloMosaic.TcCoe Idealize.SL.Sem
open Cert.TkIdeal Cert.TkIdeal.Read Cert.Adam

/-- A choice between two arrays by one word, entry by entry. -/
theorem chosen (h : S_.BroadcastsInDim S4x352x1024 ![]) (k : IVec S_ 1) (u v : S4x352x1024.Idx → EReal) (i : S4x352x1024.Idx) (b : Prop) [Decidable b]
    (hk : k (fun a => a.elim0) = if b then 1#1 else 0#1) :
    select (broadcastInDim S4x352x1024 ![] h k) u v i = if b then u i else v i := by
  have e : broadcastInDim S4x352x1024 ![] h k i = if b then 1#1 else 0#1 :=
    (broadcastInDim_apply _ h k i (fun a => a.elim0) (fun a => a.elim0)).trans hk
  show Scalar.select (broadcastInDim S4x352x1024 ![] h k i) (u i) (v i) = _
  rw [e]
  split <;> rfl

theorem first : ∀ c : Dev nD, IntOp.cmpi .eq (IntOp.remui .host (IntOp.divui .host (Dev.word c) 1#32) 2#32) 0#32 = if c.val = 0 then 1#1 else 0#1 := by
  decide +kernel

section
variable (c : Dev nD) (p : S4x704x1024.Idx → EReal) (q : S4x352x1024.Idx → EReal)

theorem ref_half (i : S4x352x1024.Idx) : val_main_v8 (F := Ideal) c p i = p (ix3 (i 0) (Cert.SkIdeal.Step.row_ c (i 1)) (i 2)) := by
  have hc : c.val < 2 := c.isLt
  have h : val_main_v8 (F := Ideal) c p i = if c.val = 0 then val_main_v6 (F := Ideal) p i else val_main_v7 (F := Ideal) p i := chosen _ _ _ _ i _ (first c)
  rw [h]
  obtain h0 | h0 : c.val = 0 ∨ c.val = 1 := by omega
  · rw [if_pos h0, val_main_v6_apply]
    exact congrArg p (eq_ix3_of _ _ _ _ rfl (by show (i 1).val = c.val * 352 + (i 1).val; omega) rfl)
  · rw [if_neg (by omega), val_main_v7_apply]
    exact congrArg p (eq_ix3_of _ _ _ _ rfl (by show 352 + (i 1).val = c.val * 352 + (i 1).val; omega) rfl)

theorem ref_sum (i : S4x352x1024.Idx) : val_main_v12 (F := Ideal) c p q i = Cert.SkIdeal.Step.total c p q i := by
  rw [val_main_v12_apply, val_main_v11_apply, val_main_v9_apply, val_main_v10_apply, ref_half]
  rfl
end

/-- The sum is the reference's, over the extended reals. -/
theorem algebraic : Cert.algebraic_SkIdeal_TkIdeal := by
  intro m ρ m' ρ' _ hagree
  refine ⟨fun c => (Cert.SkIdeal.Gen.dats m 0 c).arrAt 2 Cert.SkIdeal.cfg0.N, Cert.SkIdeal.Value.run_blocks m ρ, ?_⟩
  refine (θ_run Cert.TkIdeal.defs _ _).mono (fun _ h c => ?_) (Cert.TkIdeal.Value.run (F := Ideal) m' ρ')
  obtain ⟨h0, hk⟩ := h c
  obtain ⟨e0, e1⟩ := hagree c
  refine ⟨h0.trans ?_, hk⟩
  rw [val_main_v12_eq, e0, e1]
  refine Eq.trans (eq_of_at (ref_sum _ _ _) fun i => ?_) (Cert.SkIdeal.Step.final2 m c).symm
  rw [Cert.SkIdeal.Step.V0, Cert.SkIdeal.Step.V1]

/-- The reference runs to its end. -/
theorem frame_reference : Cert.quiescent_TkIdeal := fun m ρ _ =>
  (θ_run Cert.TkIdeal.defs _ _).mono (fun r h => ⟨fun c => (h c).2, sem_eq_zero_of_no_sems (by decide) r.2⟩)
    (Cert.TkIdeal.Value.run (F := Ideal) m ρ)

end Cert.Proof.Kept
end
-- ==== Proof.lean ====
module

public import proofs.«01_k».proof.Proof.Gen.Pre_finite_f
public import proofs.«01_k».proof.Proof.Gen.Pre_finite_g
public import proofs.«01_k».proof.Proof.Gen.Dm
public import proofs.«01_k».proof.Proof.Gen.Dm.Frame
public import proofs.«01_k».proof.Proof.Gen.DmIdeal
public import proofs.«01_k».proof.Proof.Gen.DmIdeal.Frame
public import proofs.«01_k».proof.Proof.Gen.DmIdeal.Value
public import proofs.«01_k».proof.Proof.Gen.RmIdeal
public import proofs.«01_k».proof.Proof.Gen.RmIdeal.Run
public import proofs.«01_k».proof.Proof.Gen.RmIdeal.Read
public import proofs.«01_k».proof.Proof.Gen.Dg
public import proofs.«01_k».proof.Proof.Gen.DgIdeal
public import proofs.«01_k».proof.Proof.Gen.RgIdeal
public import proofs.«01_k».proof.Proof.Gen.Dg.Frame
public import proofs.«01_k».proof.Proof.Gen.DgIdeal.Frame
public import proofs.«01_k».proof.Proof.Gen.DgIdeal.Value
public import proofs.«01_k».proof.Proof.Gen.RgIdeal.Run
public import proofs.«01_k».proof.Proof.Gen.RgIdeal.Read
public import proofs.«01_k».proof.Defs
public import proofs.«01_k».proof.Proof.Gen.Dw
public import proofs.«01_k».proof.Proof.Gen.Dw.Frame
public import proofs.«01_k».proof.Proof.Gen.DwIdeal
public import proofs.«01_k».proof.Proof.Gen.DwIdeal.Frame
public import proofs.«01_k».proof.Proof.Gen.DwIdeal.Value
public import proofs.«01_k».proof.Proof.Gen.RwIdeal
public import proofs.«01_k».proof.Proof.Gen.RwIdeal.Run
public import proofs.«01_k».proof.Proof.Gen.RwIdeal.Read
public import proofs.«01_k».proof.Proof.Gen.Da
public import proofs.«01_k».proof.Proof.Gen.Da.Frame
public import proofs.«01_k».proof.Proof.Gen.DaIdeal
public import proofs.«01_k».proof.Proof.Gen.DaIdeal.Frame
public import proofs.«01_k».proof.Proof.Gen.DaIdeal.Value
public import proofs.«01_k».proof.Proof.Gen.Db
public import proofs.«01_k».proof.Proof.Gen.Db.Frame
public import proofs.«01_k».proof.Proof.Gen.DbIdeal
public import proofs.«01_k».proof.Proof.Gen.DbIdeal.Frame
public import proofs.«01_k».proof.Proof.Gen.DbIdeal.Value
public import proofs.«01_k».proof.Proof.Gen.RaIdeal
public import proofs.«01_k».proof.Proof.Gen.RaIdeal.Run
public import proofs.«01_k».proof.Proof.Gen.RaIdeal.Read
public import proofs.«01_k».proof.Proof.Gen.RbIdeal
public import proofs.«01_k».proof.Proof.Gen.RbIdeal.Run
public import proofs.«01_k».proof.Proof.Gen.RbIdeal.Read
public import proofs.«01_k».proof.Proof.Gen.Df
public import proofs.«01_k».proof.Proof.Gen.Df.Frame
public import proofs.«01_k».proof.Proof.Gen.DfIdeal
public import proofs.«01_k».proof.Proof.Gen.DfIdeal.Frame
public import proofs.«01_k».proof.Proof.Gen.DfIdeal.Value
public import proofs.«01_k».proof.Proof.Gen.RfIdeal
public import proofs.«01_k».proof.Proof.Gen.RfIdeal.Run
public import proofs.«01_k».proof.Proof.Gen.RfIdeal.Read
public import proofs.«01_k».proof.Proof.Gen.Pre_finite_a
public import proofs.«01_k».proof.Proof.Gen.Pre_finite_b
public import proofs.«01_k».proof.Proof.Gen.Og
public import proofs.«01_k».proof.Proof.Gen.Og.Frame
public import proofs.«01_k».proof.Proof.Gen.OgIdeal
public import proofs.«01_k».proof.Proof.Gen.OgIdeal.Frame
public import proofs.«01_k».proof.Proof.Gen.OgIdeal.Value
public import proofs.«01_k».proof.Proof.Gen.QgIdeal
public import proofs.«01_k».proof.Proof.Gen.QgIdeal.Run
public import proofs.«01_k».proof.Proof.Gen.QgIdeal.Read
public import proofs.«01_k».proof.Proof.Gen.Oi
public import proofs.«01_k».proof.Proof.Gen.Oi.Frame
public import proofs.«01_k».proof.Proof.Gen.OiIdeal
public import proofs.«01_k».proof.Proof.Gen.OiIdeal.Frame
public import proofs.«01_k».proof.Proof.Gen.OiIdeal.Value
public import proofs.«01_k».proof.Proof.Gen.QiIdeal
public import proofs.«01_k».proof.Proof.Gen.QiIdeal.Run
public import proofs.«01_k».proof.Proof.Gen.QiIdeal.Read
public import proofs.«01_k».proof.Proof.Gen.Od
public import proofs.«01_k».proof.Proof.Gen.Od.Frame
public import proofs.«01_k».proof.Proof.Gen.OdIdeal
public import proofs.«01_k».proof.Proof.Gen.OdIdeal.Frame
public import proofs.«01_k».proof.Proof.Gen.OdIdeal.Value
public import proofs.«01_k».proof.Proof.Gen.QdIdeal
public import proofs.«01_k».proof.Proof.Gen.QdIdeal.Run
public import proofs.«01_k».proof.Proof.Gen.QdIdeal.Read
public import proofs.«01_k».proof.Proof.Gen.Oo
public import proofs.«01_k».proof.Proof.Gen.Oo.Frame
public import proofs.«01_k».proof.Proof.Gen.OoIdeal
public import proofs.«01_k».proof.Proof.Gen.OoIdeal.Frame
public import proofs.«01_k».proof.Proof.Gen.OoIdeal.Value
public import proofs.«01_k».proof.Proof.Gen.QoIdeal
public import proofs.«01_k».proof.Proof.Gen.QoIdeal.Run
public import proofs.«01_k».proof.Proof.Gen.QoIdeal.Read
public import proofs.«01_k».proof.Proof.Gen.Oc
public import proofs.«01_k».proof.Proof.Gen.Oc.Frame
public import proofs.«01_k».proof.Proof.Gen.OcIdeal
public import proofs.«01_k».proof.Proof.Gen.OcIdeal.Frame
public import proofs.«01_k».proof.Proof.Gen.OcIdeal.Value
public import proofs.«01_k».proof.Proof.Gen.QcIdeal
public import proofs.«01_k».proof.Proof.Gen.QcIdeal.Run
public import proofs.«01_k».proof.Proof.Gen.QcIdeal.Read
public import proofs.«01_k».proof.Proof.Gen.Oh
public import proofs.«01_k».proof.Proof.Gen.Oh.Frame
public import proofs.«01_k».proof.Proof.Gen.OhIdeal
public import proofs.«01_k».proof.Proof.Gen.OhIdeal.Frame
public import proofs.«01_k».proof.Proof.Gen.OhIdeal.Value
public import proofs.«01_k».proof.Proof.Gen.QhIdeal
public import proofs.«01_k».proof.Proof.Gen.QhIdeal.Run
public import proofs.«01_k».proof.Proof.Gen.QhIdeal.Read
public import proofs.«01_k».proof.Proof.Gen.Oa
public import proofs.«01_k».proof.Proof.Gen.Oa.Frame
public import proofs.«01_k».proof.Proof.Gen.OaIdeal
public import proofs.«01_k».proof.Proof.Gen.OaIdeal.Frame
public import proofs.«01_k».proof.Proof.Gen.OaIdeal.Value
public import proofs.«01_k».proof.Proof.Gen.QaIdeal
public import proofs.«01_k».proof.Proof.Gen.QaIdeal.Run
public import proofs.«01_k».proof.Proof.Gen.QaIdeal.Read
public import proofs.«01_k».proof.Proof.Gen.Ok
public import proofs.«01_k».proof.Proof.Gen.Ok.Frame
public import proofs.«01_k».proof.Proof.Gen.OkIdeal
public import proofs.«01_k».proof.Proof.Gen.OkIdeal.Frame
public import proofs.«01_k».proof.Proof.Gen.OkIdeal.Value
public import proofs.«01_k».proof.Proof.Gen.QkIdeal
public import proofs.«01_k».proof.Proof.Gen.QkIdeal.Run
public import proofs.«01_k».proof.Proof.Gen.QkIdeal.Read
public import proofs.«01_k».proof.Proof.Gen.Os
public import proofs.«01_k».proof.Proof.Gen.Os.Frame
public import proofs.«01_k».proof.Proof.Gen.OsIdeal
public import proofs.«01_k».proof.Proof.Gen.OsIdeal.Frame
public import proofs.«01_k».proof.Proof.Gen.OsIdeal.Value
public import proofs.«01_k».proof.Proof.Gen.QsIdeal
public import proofs.«01_k».proof.Proof.Gen.QsIdeal.Run
public import proofs.«01_k».proof.Proof.Gen.QsIdeal.Read
public import proofs.«01_k».proof.Proof.Gen.Op
public import proofs.«01_k».proof.Proof.Gen.Op.Frame
public import proofs.«01_k».proof.Proof.Gen.OpIdeal
public import proofs.«01_k».proof.Proof.Gen.OpIdeal.Frame
public import proofs.«01_k».proof.Proof.Gen.OpIdeal.Value
public import proofs.«01_k».proof.Proof.Gen.QpIdeal
public import proofs.«01_k».proof.Proof.Gen.QpIdeal.Run
public import proofs.«01_k».proof.Proof.Gen.QpIdeal.Read
public import proofs.«01_k».proof.Proof.Gen.Sl
public import proofs.«01_k».proof.Proof.Gen.Sl.Frame
public import proofs.«01_k».proof.Proof.Gen.SlIdeal
public import proofs.«01_k».proof.Proof.Gen.SlIdeal.Frame
public import proofs.«01_k».proof.Proof.Gen.SlIdeal.Value
public import proofs.«01_k».proof.Proof.Gen.Sk
public import proofs.«01_k».proof.Proof.Gen.Sk.Frame
public import proofs.«01_k».proof.Proof.Gen.SkIdeal
public import proofs.«01_k».proof.Proof.Gen.SkIdeal.Frame
public import proofs.«01_k».proof.Proof.Gen.SkIdeal.Value
public import proofs.«01_k».proof.Proof.Gen.TlIdeal
public import proofs.«01_k».proof.Proof.Gen.TlIdeal.Run
public import proofs.«01_k».proof.Proof.Gen.TlIdeal.Read
public import proofs.«01_k».proof.Proof.Gen.TkIdeal
public import proofs.«01_k».proof.Proof.Gen.TkIdeal.Run
public import proofs.«01_k».proof.Proof.Gen.TkIdeal.Read
public import proofs.«01_k».proof.Proof.Wgrad
public import proofs.«01_k».proof.Proof.DgradA
public import proofs.«01_k».proof.Proof.DgradB
public import proofs.«01_k».proof.Proof.FfnFirst
public import proofs.«01_k».proof.Proof.FfnFwd
public import proofs.«01_k».proof.Proof.MixProj
public import Idealize.ShloMosaic.Adequacy
public import Idealize.ShloMosaic.Init
public import proofs.«01_k».proof.Proof.AdamAcross
public import proofs.«01_k».proof.Proof.AdamIn
public import proofs.«01_k».proof.Proof.AdamDown
public import proofs.«01_k».proof.Proof.AdamOut
public import proofs.«01_k».proof.Proof.AdamConv
public import proofs.«01_k».proof.Proof.AdamHalves
public import proofs.«01_k».proof.Proof.AdamStacked
public import proofs.«01_k».proof.Proof.AdamAda
public import proofs.«01_k».proof.Proof.AdamSmall
public import proofs.«01_k».proof.Proof.AdamPool
public import proofs.«01_k».proof.Proof.Slots
public import proofs.«01_k».proof.Proof.Kept

@[expose] public section

noncomputable section

namespace Cert.Proof

open Idealize.ShloMosaic Idealize.SL.Sem

theorem claim : Cert.Claim := ⟨Cert.Dw.Gen.facts, Cert.DwIdeal.Gen.facts, Cert.RwIdeal.Gen.facts, Cert.Da.Gen.facts, Cert.DaIdeal.Gen.facts,
  Cert.RaIdeal.Gen.facts, Cert.Db.Gen.facts, Cert.DbIdeal.Gen.facts, Cert.RbIdeal.Gen.facts, Cert.Df.Gen.facts, Cert.DfIdeal.Gen.facts,
  Cert.RfIdeal.Gen.facts, Cert.Dg.Gen.facts, Cert.DgIdeal.Gen.facts, Cert.RgIdeal.Gen.facts,
  Cert.Dm.Gen.facts, Cert.DmIdeal.Gen.facts, Cert.RmIdeal.Gen.facts,
  Cert.Og.Gen.facts, Cert.OgIdeal.Gen.facts, Cert.QgIdeal.Gen.facts,
  Cert.Oi.Gen.facts, Cert.OiIdeal.Gen.facts, Cert.QiIdeal.Gen.facts,
  Cert.Od.Gen.facts, Cert.OdIdeal.Gen.facts, Cert.QdIdeal.Gen.facts,
  Cert.Oo.Gen.facts, Cert.OoIdeal.Gen.facts, Cert.QoIdeal.Gen.facts,
  Cert.Oc.Gen.facts, Cert.OcIdeal.Gen.facts, Cert.QcIdeal.Gen.facts,
  Cert.Oh.Gen.facts, Cert.OhIdeal.Gen.facts, Cert.QhIdeal.Gen.facts,
  Cert.Ok.Gen.facts, Cert.OkIdeal.Gen.facts, Cert.QkIdeal.Gen.facts,
  Cert.Oa.Gen.facts, Cert.OaIdeal.Gen.facts, Cert.QaIdeal.Gen.facts,
  Cert.Os.Gen.facts, Cert.OsIdeal.Gen.facts, Cert.QsIdeal.Gen.facts,
  Cert.Op.Gen.facts, Cert.OpIdeal.Gen.facts, Cert.QpIdeal.Gen.facts,
  Cert.Sl.Gen.facts, Cert.SlIdeal.Gen.facts, Cert.TlIdeal.Gen.facts,
  Cert.Sk.Gen.facts, Cert.SkIdeal.Gen.facts, Cert.TkIdeal.Gen.facts,
  Cert.Pre_finite_a.Gen.facts,
  Cert.Pre_finite_b.Gen.facts, Cert.Pre_finite_f.Gen.facts, Cert.Pre_finite_g.Gen.facts,
  fun m ρ _ => Cert.Dw.Gen.frame m ρ, fun m ρ _ => Cert.DwIdeal.Gen.frame m ρ, Wgrad.frame_reference,
  fun m ρ _ => Cert.Da.Gen.frame m ρ, fun m ρ _ => Cert.DaIdeal.Gen.frame m ρ, fun m ρ _ => Cert.DaIdeal.Gen.frame m ρ,
  DgradA.frame_reference, fun m ρ _ => DgradA.frame_reference m ρ trivial,
  fun m ρ _ => Cert.Db.Gen.frame m ρ, fun m ρ _ => Cert.DbIdeal.Gen.frame m ρ, fun m ρ _ => Cert.DbIdeal.Gen.frame m ρ,
  DgradB.frame_reference, fun m ρ _ => DgradB.frame_reference m ρ trivial,
  fun m ρ _ => Cert.Df.Gen.frame m ρ, fun m ρ _ => Cert.DfIdeal.Gen.frame m ρ, fun m ρ _ => Cert.DfIdeal.Gen.frame m ρ,
  FfnFwd.frame_reference, fun m ρ _ => FfnFwd.frame_reference m ρ trivial,
  fun m ρ _ => Cert.Dg.Gen.frame m ρ, fun m ρ _ => Cert.DgIdeal.Gen.frame m ρ, fun m ρ _ => Cert.DgIdeal.Gen.frame m ρ,
  FfnFirst.frame_reference, fun m ρ _ => FfnFirst.frame_reference m ρ trivial,
  fun m ρ _ => Cert.Dm.Gen.frame m ρ, fun m ρ _ => Cert.DmIdeal.Gen.frame m ρ, MixProj.frame_reference,
  fun m ρ _ => Cert.Og.Gen.frame m ρ, fun m ρ _ => Cert.OgIdeal.Gen.frame m ρ, AdamAcross.frame_reference,
  fun m ρ _ => Cert.Oi.Gen.frame m ρ, fun m ρ _ => Cert.OiIdeal.Gen.frame m ρ, AdamIn.frame_reference,
  fun m ρ _ => Cert.Od.Gen.frame m ρ, fun m ρ _ => Cert.OdIdeal.Gen.frame m ρ, AdamDown.frame_reference,
  fun m ρ _ => Cert.Oo.Gen.frame m ρ, fun m ρ _ => Cert.OoIdeal.Gen.frame m ρ, AdamOut.frame_reference,
  fun m ρ _ => Cert.Oc.Gen.frame m ρ, fun m ρ _ => Cert.OcIdeal.Gen.frame m ρ, AdamConv.frame_reference,
  fun m ρ _ => Cert.Oh.Gen.frame m ρ, fun m ρ _ => Cert.OhIdeal.Gen.frame m ρ, AdamHalves.frame_reference,
  fun m ρ _ => Cert.Ok.Gen.frame m ρ, fun m ρ _ => Cert.OkIdeal.Gen.frame m ρ, AdamStacked.frame_reference,
  fun m ρ _ => Cert.Oa.Gen.frame m ρ, fun m ρ _ => Cert.OaIdeal.Gen.frame m ρ, AdamAda.frame_reference,
  fun m ρ _ => Cert.Os.Gen.frame m ρ, fun m ρ _ => Cert.OsIdeal.Gen.frame m ρ, AdamSmall.frame_reference,
  fun m ρ _ => Cert.Op.Gen.frame m ρ, fun m ρ _ => Cert.OpIdeal.Gen.frame m ρ, AdamPool.frame_reference,
  fun m ρ _ => Cert.Sl.Gen.frame m ρ, fun m ρ _ => Cert.SlIdeal.Gen.frame m ρ, Slots.frame_reference,
  fun m ρ _ => Cert.Sk.Gen.frame m ρ, fun m ρ _ => Cert.SkIdeal.Gen.frame m ρ, Kept.frame_reference,
  trivial, Wgrad.algebraic, trivial, DgradA.algebraic, trivial, DgradB.algebraic, trivial, FfnFwd.algebraic, trivial, FfnFirst.algebraic, trivial, MixProj.algebraic,
  trivial, AdamAcross.algebraic, trivial, AdamIn.algebraic, trivial, AdamDown.algebraic, trivial, AdamOut.algebraic, trivial, AdamConv.algebraic,
  trivial, AdamHalves.algebraic, trivial, AdamStacked.algebraic, trivial, AdamAda.algebraic, trivial, AdamSmall.algebraic, trivial, AdamPool.algebraic,
  trivial, Slots.algebraic, trivial, Kept.algebraic⟩

end Cert.Proof

end
